-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![1024, 16384]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![16384, 1024]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x1024 : Shape := ⟨2, ![512, 1024]⟩
abbrev S1024x1024 : Shape := ⟨2, ![1024, 1024]⟩
abbrev S32x1024 : Shape := ⟨2, ![32, 1024]⟩
abbrev S4 : Shape := ⟨1, ![4]⟩
abbrev S15x4 : Shape := ⟨2, ![15, 4]⟩
abbrev S_ : Shape := ⟨0, ![]⟩
abbrev S512x512 : Shape := ⟨2, ![512, 512]⟩
abbrev S1 : Shape := ⟨1, ![1]⟩
abbrev S512x256 : Shape := ⟨2, ![512, 256]⟩
abbrev S1x1 : Shape := ⟨2, ![1, 1]⟩
abbrev S32x256 : Shape := ⟨2, ![32, 256]⟩

abbrev nBuf : Space → Nat
  | .hbm => 3
  | .vmem => 10
  | .smem => 0
  | _ => 0

abbrev bufTy : (tb : Table) → Fin (tcTables nBuf tb) → BufTy
  | .hbm, ⟨0, _⟩ => ⟨S1024x512, .bf16⟩
  | .hbm, ⟨1, _⟩ => ⟨S512x1024, .bf16⟩
  | .hbm, ⟨2, _⟩ => ⟨S1024x1024, .bf16⟩
  | .local _ .vmem, ⟨0, _⟩ => ⟨S1024x512, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S32x1024, .f32⟩
  | .local _ .vmem, ⟨8, _⟩ => ⟨S32x1024, .bf16⟩
  | .local _ .vmem, ⟨9, _⟩ => ⟨S512x1024, .bf16⟩
  | _, _ => ⟨S1024x512, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 259 → Bool
  | ⟨i, _⟩ => dmaSemScopedAt i

abbrev sig : RefSig :=
  (ofTc nBuf bufTy 1 259 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_493 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_44 : BitVec 32 := 8#32
  let v100 : BitVec 32 := Scalar.muli v19 c8_i32_44
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v101 : BitVec 32 := Scalar.addi v100 v29
  let c1_i32_45 : BitVec 32 := 1#32
  let v102 : BitVec 32 := Scalar.addi v101 c1_i32_45
  let c2_i32_52 : BitVec 32 := 2#32
  let c2_i32_46 : BitVec 32 := 2#32
  let c0_i32_47 : BitVec 32 := 0#32
  let v103 : BitVec 1 := Scalar.cmpi .eq c2_i32_46 c0_i32_47
  let c1_i32_48 : BitVec 32 := 1#32
  let v104 : BitVec 32 := Scalar.select v103 c1_i32_48 c2_i32_46
  let v105 : BitVec 32 := Scalar.remsi v29 v104
  let c0_i32_50 : BitVec 32 := 0#32
  let v107 : BitVec 1 := Scalar.cmpi .slt v105 c0_i32_50
  let c0_i32_51 : BitVec 32 := 0#32
  let v108 : BitVec 1 := Scalar.cmpi .slt v104 c0_i32_51
  let v109 : BitVec 1 := Scalar.xori v107 v108
  let c0_i32_49 : BitVec 32 := 0#32
  let v106 : BitVec 1 := Scalar.cmpi .ne v105 c0_i32_49
  let v110 : BitVec 1 := Scalar.andi v109 v106
  let v111 : BitVec 32 := Scalar.addi v105 v104
  let v112 : BitVec 32 := Scalar.select v110 v111 v105
  let v113 : BitVec 32 := Scalar.muli c2_i32_52 v112
  let v114 : BitVec 32 := Scalar.subi v102 v113
  let c1_i32_492 : BitVec 32 := 1#32
  let v956 : BitVec 32 := Scalar.muli v114 c1_i32_492
  let v957 : BitVec 32 := Scalar.addi c0_i32_493 v956
  v957.toNat
def k0_dev2 (d0 : Dev nD) : Nat :=
  let c0_i32_496 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c1_i32_53 : BitVec 32 := 1#32
  let v116 : BitVec 32 := Scalar.addi v96 c1_i32_53
  let c16_i32 : BitVec 32 := 16#32
  let c0_i32_54 : BitVec 32 := 0#32
  let v117 : BitVec 1 := Scalar.cmpi .eq c16_i32 c0_i32_54
  let c1_i32_55 : BitVec 32 := 1#32
  let v118 : BitVec 32 := Scalar.select v117 c1_i32_55 c16_i32
  let v119 : BitVec 32 := Scalar.remsi v116 v118
  let c0_i32_57 : BitVec 32 := 0#32
  let v121 : BitVec 1 := Scalar.cmpi .slt v119 c0_i32_57
  let c0_i32_58 : BitVec 32 := 0#32
  let v122 : BitVec 1 := Scalar.cmpi .slt v118 c0_i32_58
  let v123 : BitVec 1 := Scalar.xori v121 v122
  let c0_i32_56 : BitVec 32 := 0#32
  let v120 : BitVec 1 := Scalar.cmpi .ne v119 c0_i32_56
  let v124 : BitVec 1 := Scalar.andi v123 v120
  let v125 : BitVec 32 := Scalar.addi v119 v118
  let v126 : BitVec 32 := Scalar.select v124 v125 v119
  let c0_i32_60 : BitVec 32 := 0#32
  let v128 : BitVec 1 := Scalar.cmpi .sgt v126 c0_i32_60
  let v129 : BitVec 32 := Scalar.extui v128
  let c0_i32_61 : BitVec 32 := 0#32
  let v130 : BitVec 1 := Scalar.cmpi .slt v126 c0_i32_61
  let v131 : BitVec 32 := Scalar.extui v130
  let v132 : BitVec 32 := Scalar.subi v129 v131
  let c4_i32_59 : BitVec 32 := 4#32
  let c0_i32_62 : BitVec 32 := 0#32
  let v133 : BitVec 1 := Scalar.cmpi .sgt c4_i32_59 c0_i32_62
  let v134 : BitVec 32 := Scalar.extui v133
  let c0_i32_63 : BitVec 32 := 0#32
  let v135 : BitVec 1 := Scalar.cmpi .slt c4_i32_59 c0_i32_63
  let v136 : BitVec 32 := Scalar.extui v135
  let v137 : BitVec 32 := Scalar.subi v134 v136
  let v138 : BitVec 1 := Scalar.cmpi .ne v132 v137
  let v139 : BitVec 32 := Scalar.remsi v126 c4_i32_59
  let c0_i32_64 : BitVec 32 := 0#32
  let v140 : BitVec 1 := Scalar.cmpi .ne v139 c0_i32_64
  let v141 : BitVec 1 := Scalar.andi v138 v140
  let v127 : BitVec 32 := Scalar.divsi v126 c4_i32_59
  let c1_i32_65 : BitVec 32 := 1#32
  let v142 : BitVec 32 := Scalar.subi v127 c1_i32_65
  let v143 : BitVec 32 := Scalar.select v141 v142 v127
  let c8_i32_81 : BitVec 32 := 8#32
  let v170 : BitVec 32 := Scalar.muli v143 c8_i32_81
  let c2_i32_78 : BitVec 32 := 2#32
  let c4_i32_66 : BitVec 32 := 4#32
  let c0_i32_67 : BitVec 32 := 0#32
  let v144 : BitVec 1 := Scalar.cmpi .eq c4_i32_66 c0_i32_67
  let c1_i32_68 : BitVec 32 := 1#32
  let v145 : BitVec 32 := Scalar.select v144 c1_i32_68 c4_i32_66
  let v146 : BitVec 32 := Scalar.remsi v126 v145
  let c0_i32_70 : BitVec 32 := 0#32
  let v148 : BitVec 1 := Scalar.cmpi .slt v146 c0_i32_70
  let c0_i32_71 : BitVec 32 := 0#32
  let v149 : BitVec 1 := Scalar.cmpi .slt v145 c0_i32_71
  let v150 : BitVec 1 := Scalar.xori v148 v149
  let c0_i32_69 : BitVec 32 := 0#32
  let v147 : BitVec 1 := Scalar.cmpi .ne v146 c0_i32_69
  let v151 : BitVec 1 := Scalar.andi v150 v147
  let v152 : BitVec 32 := Scalar.addi v146 v145
  let v153 : BitVec 32 := Scalar.select v151 v152 v146
  let v164 : BitVec 32 := Scalar.muli c2_i32_78 v153
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v165 : BitVec 32 := Scalar.addi v164 v94
  let c2_i32_72 : BitVec 32 := 2#32
  let c0_i32_73 : BitVec 32 := 0#32
  let v154 : BitVec 1 := Scalar.cmpi .eq c2_i32_72 c0_i32_73
  let c1_i32_74 : BitVec 32 := 1#32
  let v155 : BitVec 32 := Scalar.select v154 c1_i32_74 c2_i32_72
  let v156 : BitVec 32 := Scalar.remsi v153 v155
  let c0_i32_76 : BitVec 32 := 0#32
  let v158 : BitVec 1 := Scalar.cmpi .slt v156 c0_i32_76
  let c0_i32_77 : BitVec 32 := 0#32
  let v159 : BitVec 1 := Scalar.cmpi .slt v155 c0_i32_77
  let v160 : BitVec 1 := Scalar.xori v158 v159
  let c0_i32_75 : BitVec 32 := 0#32
  let v157 : BitVec 1 := Scalar.cmpi .ne v156 c0_i32_75
  let v161 : BitVec 1 := Scalar.andi v160 v157
  let v162 : BitVec 32 := Scalar.addi v156 v155
  let v163 : BitVec 32 := Scalar.select v161 v162 v156
  let c1_i32_80 : BitVec 32 := 1#32
  let c2_i32_79 : BitVec 32 := 2#32
  let v166 : BitVec 32 := Scalar.muli c2_i32_79 v94
  let v167 : BitVec 32 := Scalar.subi c1_i32_80 v166
  let v168 : BitVec 32 := Scalar.muli v163 v167
  let v169 : BitVec 32 := Scalar.addi v165 v168
  let v171 : BitVec 32 := Scalar.addi v170 v169
  let c1_i32_495 : BitVec 32 := 1#32
  let v958 : BitVec 32 := Scalar.muli v171 c1_i32_495
  let v959 : BitVec 32 := Scalar.addi c0_i32_496 v958
  v959.toNat
def k0_dev3 (d0 : Dev nD) : Nat :=
  let c0_i32_499 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c2_i32_82 : BitVec 32 := 2#32
  let v172 : BitVec 32 := Scalar.addi v96 c2_i32_82
  let c16_i32_83 : BitVec 32 := 16#32
  let c0_i32_84 : BitVec 32 := 0#32
  let v173 : BitVec 1 := Scalar.cmpi .eq c16_i32_83 c0_i32_84
  let c1_i32_85 : BitVec 32 := 1#32
  let v174 : BitVec 32 := Scalar.select v173 c1_i32_85 c16_i32_83
  let v175 : BitVec 32 := Scalar.remsi v172 v174
  let c0_i32_87 : BitVec 32 := 0#32
  let v177 : BitVec 1 := Scalar.cmpi .slt v175 c0_i32_87
  let c0_i32_88 : BitVec 32 := 0#32
  let v178 : BitVec 1 := Scalar.cmpi .slt v174 c0_i32_88
  let v179 : BitVec 1 := Scalar.xori v177 v178
  let c0_i32_86 : BitVec 32 := 0#32
  let v176 : BitVec 1 := Scalar.cmpi .ne v175 c0_i32_86
  let v180 : BitVec 1 := Scalar.andi v179 v176
  let v181 : BitVec 32 := Scalar.addi v175 v174
  let v182 : BitVec 32 := Scalar.select v180 v181 v175
  let c0_i32_90 : BitVec 32 := 0#32
  let v184 : BitVec 1 := Scalar.cmpi .sgt v182 c0_i32_90
  let v185 : BitVec 32 := Scalar.extui v184
  let c0_i32_91 : BitVec 32 := 0#32
  let v186 : BitVec 1 := Scalar.cmpi .slt v182 c0_i32_91
  let v187 : BitVec 32 := Scalar.extui v186
  let v188 : BitVec 32 := Scalar.subi v185 v187
  let c4_i32_89 : BitVec 32 := 4#32
  let c0_i32_92 : BitVec 32 := 0#32
  let v189 : BitVec 1 := Scalar.cmpi .sgt c4_i32_89 c0_i32_92
  let v190 : BitVec 32 := Scalar.extui v189
  let c0_i32_93 : BitVec 32 := 0#32
  let v191 : BitVec 1 := Scalar.cmpi .slt c4_i32_89 c0_i32_93
  let v192 : BitVec 32 := Scalar.extui v191
  let v193 : BitVec 32 := Scalar.subi v190 v192
  let v194 : BitVec 1 := Scalar.cmpi .ne v188 v193
  let v195 : BitVec 32 := Scalar.remsi v182 c4_i32_89
  let c0_i32_94 : BitVec 32 := 0#32
  let v196 : BitVec 1 := Scalar.cmpi .ne v195 c0_i32_94
  let v197 : BitVec 1 := Scalar.andi v194 v196
  let v183 : BitVec 32 := Scalar.divsi v182 c4_i32_89
  let c1_i32_95 : BitVec 32 := 1#32
  let v198 : BitVec 32 := Scalar.subi v183 c1_i32_95
  let v199 : BitVec 32 := Scalar.select v197 v198 v183
  let c8_i32_111 : BitVec 32 := 8#32
  let v226 : BitVec 32 := Scalar.muli v199 c8_i32_111
  let c2_i32_108 : BitVec 32 := 2#32
  let c4_i32_96 : BitVec 32 := 4#32
  let c0_i32_97 : BitVec 32 := 0#32
  let v200 : BitVec 1 := Scalar.cmpi .eq c4_i32_96 c0_i32_97
  let c1_i32_98 : BitVec 32 := 1#32
  let v201 : BitVec 32 := Scalar.select v200 c1_i32_98 c4_i32_96
  let v202 : BitVec 32 := Scalar.remsi v182 v201
  let c0_i32_100 : BitVec 32 := 0#32
  let v204 : BitVec 1 := Scalar.cmpi .slt v202 c0_i32_100
  let c0_i32_101 : BitVec 32 := 0#32
  let v205 : BitVec 1 := Scalar.cmpi .slt v201 c0_i32_101
  let v206 : BitVec 1 := Scalar.xori v204 v205
  let c0_i32_99 : BitVec 32 := 0#32
  let v203 : BitVec 1 := Scalar.cmpi .ne v202 c0_i32_99
  let v207 : BitVec 1 := Scalar.andi v206 v203
  let v208 : BitVec 32 := Scalar.addi v202 v201
  let v209 : BitVec 32 := Scalar.select v207 v208 v202
  let v220 : BitVec 32 := Scalar.muli c2_i32_108 v209
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v221 : BitVec 32 := Scalar.addi v220 v94
  let c2_i32_102 : BitVec 32 := 2#32
  let c0_i32_103 : BitVec 32 := 0#32
  let v210 : BitVec 1 := Scalar.cmpi .eq c2_i32_102 c0_i32_103
  let c1_i32_104 : BitVec 32 := 1#32
  let v211 : BitVec 32 := Scalar.select v210 c1_i32_104 c2_i32_102
  let v212 : BitVec 32 := Scalar.remsi v209 v211
  let c0_i32_106 : BitVec 32 := 0#32
  let v214 : BitVec 1 := Scalar.cmpi .slt v212 c0_i32_106
  let c0_i32_107 : BitVec 32 := 0#32
  let v215 : BitVec 1 := Scalar.cmpi .slt v211 c0_i32_107
  let v216 : BitVec 1 := Scalar.xori v214 v215
  let c0_i32_105 : BitVec 32 := 0#32
  let v213 : BitVec 1 := Scalar.cmpi .ne v212 c0_i32_105
  let v217 : BitVec 1 := Scalar.andi v216 v213
  let v218 : BitVec 32 := Scalar.addi v212 v211
  let v219 : BitVec 32 := Scalar.select v217 v218 v212
  let c1_i32_110 : BitVec 32 := 1#32
  let c2_i32_109 : BitVec 32 := 2#32
  let v222 : BitVec 32 := Scalar.muli c2_i32_109 v94
  let v223 : BitVec 32 := Scalar.subi c1_i32_110 v222
  let v224 : BitVec 32 := Scalar.muli v219 v223
  let v225 : BitVec 32 := Scalar.addi v221 v224
  let v227 : BitVec 32 := Scalar.addi v226 v225
  let c1_i32_498 : BitVec 32 := 1#32
  let v960 : BitVec 32 := Scalar.muli v227 c1_i32_498
  let v961 : BitVec 32 := Scalar.addi c0_i32_499 v960
  v961.toNat
def k0_dev4 (d0 : Dev nD) : Nat :=
  let c0_i32_502 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c3_i32 : BitVec 32 := 3#32
  let v228 : BitVec 32 := Scalar.addi v96 c3_i32
  let c16_i32_112 : BitVec 32 := 16#32
  let c0_i32_113 : BitVec 32 := 0#32
  let v229 : BitVec 1 := Scalar.cmpi .eq c16_i32_112 c0_i32_113
  let c1_i32_114 : BitVec 32 := 1#32
  let v230 : BitVec 32 := Scalar.select v229 c1_i32_114 c16_i32_112
  let v231 : BitVec 32 := Scalar.remsi v228 v230
  let c0_i32_116 : BitVec 32 := 0#32
  let v233 : BitVec 1 := Scalar.cmpi .slt v231 c0_i32_116
  let c0_i32_117 : BitVec 32 := 0#32
  let v234 : BitVec 1 := Scalar.cmpi .slt v230 c0_i32_117
  let v235 : BitVec 1 := Scalar.xori v233 v234
  let c0_i32_115 : BitVec 32 := 0#32
  let v232 : BitVec 1 := Scalar.cmpi .ne v231 c0_i32_115
  let v236 : BitVec 1 := Scalar.andi v235 v232
  let v237 : BitVec 32 := Scalar.addi v231 v230
  let v238 : BitVec 32 := Scalar.select v236 v237 v231
  let c0_i32_119 : BitVec 32 := 0#32
  let v240 : BitVec 1 := Scalar.cmpi .sgt v238 c0_i32_119
  let v241 : BitVec 32 := Scalar.extui v240
  let c0_i32_120 : BitVec 32 := 0#32
  let v242 : BitVec 1 := Scalar.cmpi .slt v238 c0_i32_120
  let v243 : BitVec 32 := Scalar.extui v242
  let v244 : BitVec 32 := Scalar.subi v241 v243
  let c4_i32_118 : BitVec 32 := 4#32
  let c0_i32_121 : BitVec 32 := 0#32
  let v245 : BitVec 1 := Scalar.cmpi .sgt c4_i32_118 c0_i32_121
  let v246 : BitVec 32 := Scalar.extui v245
  let c0_i32_122 : BitVec 32 := 0#32
  let v247 : BitVec 1 := Scalar.cmpi .slt c4_i32_118 c0_i32_122
  let v248 : BitVec 32 := Scalar.extui v247
  let v249 : BitVec 32 := Scalar.subi v246 v248
  let v250 : BitVec 1 := Scalar.cmpi .ne v244 v249
  let v251 : BitVec 32 := Scalar.remsi v238 c4_i32_118
  let c0_i32_123 : BitVec 32 := 0#32
  let v252 : BitVec 1 := Scalar.cmpi .ne v251 c0_i32_123
  let v253 : BitVec 1 := Scalar.andi v250 v252
  let v239 : BitVec 32 := Scalar.divsi v238 c4_i32_118
  let c1_i32_124 : BitVec 32 := 1#32
  let v254 : BitVec 32 := Scalar.subi v239 c1_i32_124
  let v255 : BitVec 32 := Scalar.select v253 v254 v239
  let c8_i32_140 : BitVec 32 := 8#32
  let v282 : BitVec 32 := Scalar.muli v255 c8_i32_140
  let c2_i32_137 : BitVec 32 := 2#32
  let c4_i32_125 : BitVec 32 := 4#32
  let c0_i32_126 : BitVec 32 := 0#32
  let v256 : BitVec 1 := Scalar.cmpi .eq c4_i32_125 c0_i32_126
  let c1_i32_127 : BitVec 32 := 1#32
  let v257 : BitVec 32 := Scalar.select v256 c1_i32_127 c4_i32_125
  let v258 : BitVec 32 := Scalar.remsi v238 v257
  let c0_i32_129 : BitVec 32 := 0#32
  let v260 : BitVec 1 := Scalar.cmpi .slt v258 c0_i32_129
  let c0_i32_130 : BitVec 32 := 0#32
  let v261 : BitVec 1 := Scalar.cmpi .slt v257 c0_i32_130
  let v262 : BitVec 1 := Scalar.xori v260 v261
  let c0_i32_128 : BitVec 32 := 0#32
  let v259 : BitVec 1 := Scalar.cmpi .ne v258 c0_i32_128
  let v263 : BitVec 1 := Scalar.andi v262 v259
  let v264 : BitVec 32 := Scalar.addi v258 v257
  let v265 : BitVec 32 := Scalar.select v263 v264 v258
  let v276 : BitVec 32 := Scalar.muli c2_i32_137 v265
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v277 : BitVec 32 := Scalar.addi v276 v94
  let c2_i32_131 : BitVec 32 := 2#32
  let c0_i32_132 : BitVec 32 := 0#32
  let v266 : BitVec 1 := Scalar.cmpi .eq c2_i32_131 c0_i32_132
  let c1_i32_133 : BitVec 32 := 1#32
  let v267 : BitVec 32 := Scalar.select v266 c1_i32_133 c2_i32_131
  let v268 : BitVec 32 := Scalar.remsi v265 v267
  let c0_i32_135 : BitVec 32 := 0#32
  let v270 : BitVec 1 := Scalar.cmpi .slt v268 c0_i32_135
  let c0_i32_136 : BitVec 32 := 0#32
  let v271 : BitVec 1 := Scalar.cmpi .slt v267 c0_i32_136
  let v272 : BitVec 1 := Scalar.xori v270 v271
  let c0_i32_134 : BitVec 32 := 0#32
  let v269 : BitVec 1 := Scalar.cmpi .ne v268 c0_i32_134
  let v273 : BitVec 1 := Scalar.andi v272 v269
  let v274 : BitVec 32 := Scalar.addi v268 v267
  let v275 : BitVec 32 := Scalar.select v273 v274 v268
  let c1_i32_139 : BitVec 32 := 1#32
  let c2_i32_138 : BitVec 32 := 2#32
  let v278 : BitVec 32 := Scalar.muli c2_i32_138 v94
  let v279 : BitVec 32 := Scalar.subi c1_i32_139 v278
  let v280 : BitVec 32 := Scalar.muli v275 v279
  let v281 : BitVec 32 := Scalar.addi v277 v280
  let v283 : BitVec 32 := Scalar.addi v282 v281
  let c1_i32_501 : BitVec 32 := 1#32
  let v962 : BitVec 32 := Scalar.muli v283 c1_i32_501
  let v963 : BitVec 32 := Scalar.addi c0_i32_502 v962
  v963.toNat
def k0_dev5 (d0 : Dev nD) : Nat :=
  let c0_i32_505 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c4_i32_141 : BitVec 32 := 4#32
  let v284 : BitVec 32 := Scalar.addi v96 c4_i32_141
  let c16_i32_142 : BitVec 32 := 16#32
  let c0_i32_143 : BitVec 32 := 0#32
  let v285 : BitVec 1 := Scalar.cmpi .eq c16_i32_142 c0_i32_143
  let c1_i32_144 : BitVec 32 := 1#32
  let v286 : BitVec 32 := Scalar.select v285 c1_i32_144 c16_i32_142
  let v287 : BitVec 32 := Scalar.remsi v284 v286
  let c0_i32_146 : BitVec 32 := 0#32
  let v289 : BitVec 1 := Scalar.cmpi .slt v287 c0_i32_146
  let c0_i32_147 : BitVec 32 := 0#32
  let v290 : BitVec 1 := Scalar.cmpi .slt v286 c0_i32_147
  let v291 : BitVec 1 := Scalar.xori v289 v290
  let c0_i32_145 : BitVec 32 := 0#32
  let v288 : BitVec 1 := Scalar.cmpi .ne v287 c0_i32_145
  let v292 : BitVec 1 := Scalar.andi v291 v288
  let v293 : BitVec 32 := Scalar.addi v287 v286
  let v294 : BitVec 32 := Scalar.select v292 v293 v287
  let c0_i32_149 : BitVec 32 := 0#32
  let v296 : BitVec 1 := Scalar.cmpi .sgt v294 c0_i32_149
  let v297 : BitVec 32 := Scalar.extui v296
  let c0_i32_150 : BitVec 32 := 0#32
  let v298 : BitVec 1 := Scalar.cmpi .slt v294 c0_i32_150
  let v299 : BitVec 32 := Scalar.extui v298
  let v300 : BitVec 32 := Scalar.subi v297 v299
  let c4_i32_148 : BitVec 32 := 4#32
  let c0_i32_151 : BitVec 32 := 0#32
  let v301 : BitVec 1 := Scalar.cmpi .sgt c4_i32_148 c0_i32_151
  let v302 : BitVec 32 := Scalar.extui v301
  let c0_i32_152 : BitVec 32 := 0#32
  let v303 : BitVec 1 := Scalar.cmpi .slt c4_i32_148 c0_i32_152
  let v304 : BitVec 32 := Scalar.extui v303
  let v305 : BitVec 32 := Scalar.subi v302 v304
  let v306 : BitVec 1 := Scalar.cmpi .ne v300 v305
  let v307 : BitVec 32 := Scalar.remsi v294 c4_i32_148
  let c0_i32_153 : BitVec 32 := 0#32
  let v308 : BitVec 1 := Scalar.cmpi .ne v307 c0_i32_153
  let v309 : BitVec 1 := Scalar.andi v306 v308
  let v295 : BitVec 32 := Scalar.divsi v294 c4_i32_148
  let c1_i32_154 : BitVec 32 := 1#32
  let v310 : BitVec 32 := Scalar.subi v295 c1_i32_154
  let v311 : BitVec 32 := Scalar.select v309 v310 v295
  let c8_i32_170 : BitVec 32 := 8#32
  let v338 : BitVec 32 := Scalar.muli v311 c8_i32_170
  let c2_i32_167 : BitVec 32 := 2#32
  let c4_i32_155 : BitVec 32 := 4#32
  let c0_i32_156 : BitVec 32 := 0#32
  let v312 : BitVec 1 := Scalar.cmpi .eq c4_i32_155 c0_i32_156
  let c1_i32_157 : BitVec 32 := 1#32
  let v313 : BitVec 32 := Scalar.select v312 c1_i32_157 c4_i32_155
  let v314 : BitVec 32 := Scalar.remsi v294 v313
  let c0_i32_159 : BitVec 32 := 0#32
  let v316 : BitVec 1 := Scalar.cmpi .slt v314 c0_i32_159
  let c0_i32_160 : BitVec 32 := 0#32
  let v317 : BitVec 1 := Scalar.cmpi .slt v313 c0_i32_160
  let v318 : BitVec 1 := Scalar.xori v316 v317
  let c0_i32_158 : BitVec 32 := 0#32
  let v315 : BitVec 1 := Scalar.cmpi .ne v314 c0_i32_158
  let v319 : BitVec 1 := Scalar.andi v318 v315
  let v320 : BitVec 32 := Scalar.addi v314 v313
  let v321 : BitVec 32 := Scalar.select v319 v320 v314
  let v332 : BitVec 32 := Scalar.muli c2_i32_167 v321
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v333 : BitVec 32 := Scalar.addi v332 v94
  let c2_i32_161 : BitVec 32 := 2#32
  let c0_i32_162 : BitVec 32 := 0#32
  let v322 : BitVec 1 := Scalar.cmpi .eq c2_i32_161 c0_i32_162
  let c1_i32_163 : BitVec 32 := 1#32
  let v323 : BitVec 32 := Scalar.select v322 c1_i32_163 c2_i32_161
  let v324 : BitVec 32 := Scalar.remsi v321 v323
  let c0_i32_165 : BitVec 32 := 0#32
  let v326 : BitVec 1 := Scalar.cmpi .slt v324 c0_i32_165
  let c0_i32_166 : BitVec 32 := 0#32
  let v327 : BitVec 1 := Scalar.cmpi .slt v323 c0_i32_166
  let v328 : BitVec 1 := Scalar.xori v326 v327
  let c0_i32_164 : BitVec 32 := 0#32
  let v325 : BitVec 1 := Scalar.cmpi .ne v324 c0_i32_164
  let v329 : BitVec 1 := Scalar.andi v328 v325
  let v330 : BitVec 32 := Scalar.addi v324 v323
  let v331 : BitVec 32 := Scalar.select v329 v330 v324
  let c1_i32_169 : BitVec 32 := 1#32
  let c2_i32_168 : BitVec 32 := 2#32
  let v334 : BitVec 32 := Scalar.muli c2_i32_168 v94
  let v335 : BitVec 32 := Scalar.subi c1_i32_169 v334
  let v336 : BitVec 32 := Scalar.muli v331 v335
  let v337 : BitVec 32 := Scalar.addi v333 v336
  let v339 : BitVec 32 := Scalar.addi v338 v337
  let c1_i32_504 : BitVec 32 := 1#32
  let v964 : BitVec 32 := Scalar.muli v339 c1_i32_504
  let v965 : BitVec 32 := Scalar.addi c0_i32_505 v964
  v965.toNat
def k0_dev6 (d0 : Dev nD) : Nat :=
  let c0_i32_508 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c5_i32 : BitVec 32 := 5#32
  let v340 : BitVec 32 := Scalar.addi v96 c5_i32
  let c16_i32_171 : BitVec 32 := 16#32
  let c0_i32_172 : BitVec 32 := 0#32
  let v341 : BitVec 1 := Scalar.cmpi .eq c16_i32_171 c0_i32_172
  let c1_i32_173 : BitVec 32 := 1#32
  let v342 : BitVec 32 := Scalar.select v341 c1_i32_173 c16_i32_171
  let v343 : BitVec 32 := Scalar.remsi v340 v342
  let c0_i32_175 : BitVec 32 := 0#32
  let v345 : BitVec 1 := Scalar.cmpi .slt v343 c0_i32_175
  let c0_i32_176 : BitVec 32 := 0#32
  let v346 : BitVec 1 := Scalar.cmpi .slt v342 c0_i32_176
  let v347 : BitVec 1 := Scalar.xori v345 v346
  let c0_i32_174 : BitVec 32 := 0#32
  let v344 : BitVec 1 := Scalar.cmpi .ne v343 c0_i32_174
  let v348 : BitVec 1 := Scalar.andi v347 v344
  let v349 : BitVec 32 := Scalar.addi v343 v342
  let v350 : BitVec 32 := Scalar.select v348 v349 v343
  let c0_i32_178 : BitVec 32 := 0#32
  let v352 : BitVec 1 := Scalar.cmpi .sgt v350 c0_i32_178
  let v353 : BitVec 32 := Scalar.extui v352
  let c0_i32_179 : BitVec 32 := 0#32
  let v354 : BitVec 1 := Scalar.cmpi .slt v350 c0_i32_179
  let v355 : BitVec 32 := Scalar.extui v354
  let v356 : BitVec 32 := Scalar.subi v353 v355
  let c4_i32_177 : BitVec 32 := 4#32
  let c0_i32_180 : BitVec 32 := 0#32
  let v357 : BitVec 1 := Scalar.cmpi .sgt c4_i32_177 c0_i32_180
  let v358 : BitVec 32 := Scalar.extui v357
  let c0_i32_181 : BitVec 32 := 0#32
  let v359 : BitVec 1 := Scalar.cmpi .slt c4_i32_177 c0_i32_181
  let v360 : BitVec 32 := Scalar.extui v359
  let v361 : BitVec 32 := Scalar.subi v358 v360
  let v362 : BitVec 1 := Scalar.cmpi .ne v356 v361
  let v363 : BitVec 32 := Scalar.remsi v350 c4_i32_177
  let c0_i32_182 : BitVec 32 := 0#32
  let v364 : BitVec 1 := Scalar.cmpi .ne v363 c0_i32_182
  let v365 : BitVec 1 := Scalar.andi v362 v364
  let v351 : BitVec 32 := Scalar.divsi v350 c4_i32_177
  let c1_i32_183 : BitVec 32 := 1#32
  let v366 : BitVec 32 := Scalar.subi v351 c1_i32_183
  let v367 : BitVec 32 := Scalar.select v365 v366 v351
  let c8_i32_199 : BitVec 32 := 8#32
  let v394 : BitVec 32 := Scalar.muli v367 c8_i32_199
  let c2_i32_196 : BitVec 32 := 2#32
  let c4_i32_184 : BitVec 32 := 4#32
  let c0_i32_185 : BitVec 32 := 0#32
  let v368 : BitVec 1 := Scalar.cmpi .eq c4_i32_184 c0_i32_185
  let c1_i32_186 : BitVec 32 := 1#32
  let v369 : BitVec 32 := Scalar.select v368 c1_i32_186 c4_i32_184
  let v370 : BitVec 32 := Scalar.remsi v350 v369
  let c0_i32_188 : BitVec 32 := 0#32
  let v372 : BitVec 1 := Scalar.cmpi .slt v370 c0_i32_188
  let c0_i32_189 : BitVec 32 := 0#32
  let v373 : BitVec 1 := Scalar.cmpi .slt v369 c0_i32_189
  let v374 : BitVec 1 := Scalar.xori v372 v373
  let c0_i32_187 : BitVec 32 := 0#32
  let v371 : BitVec 1 := Scalar.cmpi .ne v370 c0_i32_187
  let v375 : BitVec 1 := Scalar.andi v374 v371
  let v376 : BitVec 32 := Scalar.addi v370 v369
  let v377 : BitVec 32 := Scalar.select v375 v376 v370
  let v388 : BitVec 32 := Scalar.muli c2_i32_196 v377
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v389 : BitVec 32 := Scalar.addi v388 v94
  let c2_i32_190 : BitVec 32 := 2#32
  let c0_i32_191 : BitVec 32 := 0#32
  let v378 : BitVec 1 := Scalar.cmpi .eq c2_i32_190 c0_i32_191
  let c1_i32_192 : BitVec 32 := 1#32
  let v379 : BitVec 32 := Scalar.select v378 c1_i32_192 c2_i32_190
  let v380 : BitVec 32 := Scalar.remsi v377 v379
  let c0_i32_194 : BitVec 32 := 0#32
  let v382 : BitVec 1 := Scalar.cmpi .slt v380 c0_i32_194
  let c0_i32_195 : BitVec 32 := 0#32
  let v383 : BitVec 1 := Scalar.cmpi .slt v379 c0_i32_195
  let v384 : BitVec 1 := Scalar.xori v382 v383
  let c0_i32_193 : BitVec 32 := 0#32
  let v381 : BitVec 1 := Scalar.cmpi .ne v380 c0_i32_193
  let v385 : BitVec 1 := Scalar.andi v384 v381
  let v386 : BitVec 32 := Scalar.addi v380 v379
  let v387 : BitVec 32 := Scalar.select v385 v386 v380
  let c1_i32_198 : BitVec 32 := 1#32
  let c2_i32_197 : BitVec 32 := 2#32
  let v390 : BitVec 32 := Scalar.muli c2_i32_197 v94
  let v391 : BitVec 32 := Scalar.subi c1_i32_198 v390
  let v392 : BitVec 32 := Scalar.muli v387 v391
  let v393 : BitVec 32 := Scalar.addi v389 v392
  let v395 : BitVec 32 := Scalar.addi v394 v393
  let c1_i32_507 : BitVec 32 := 1#32
  let v966 : BitVec 32 := Scalar.muli v395 c1_i32_507
  let v967 : BitVec 32 := Scalar.addi c0_i32_508 v966
  v967.toNat
def k0_dev7 (d0 : Dev nD) : Nat :=
  let c0_i32_511 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c6_i32 : BitVec 32 := 6#32
  let v396 : BitVec 32 := Scalar.addi v96 c6_i32
  let c16_i32_200 : BitVec 32 := 16#32
  let c0_i32_201 : BitVec 32 := 0#32
  let v397 : BitVec 1 := Scalar.cmpi .eq c16_i32_200 c0_i32_201
  let c1_i32_202 : BitVec 32 := 1#32
  let v398 : BitVec 32 := Scalar.select v397 c1_i32_202 c16_i32_200
  let v399 : BitVec 32 := Scalar.remsi v396 v398
  let c0_i32_204 : BitVec 32 := 0#32
  let v401 : BitVec 1 := Scalar.cmpi .slt v399 c0_i32_204
  let c0_i32_205 : BitVec 32 := 0#32
  let v402 : BitVec 1 := Scalar.cmpi .slt v398 c0_i32_205
  let v403 : BitVec 1 := Scalar.xori v401 v402
  let c0_i32_203 : BitVec 32 := 0#32
  let v400 : BitVec 1 := Scalar.cmpi .ne v399 c0_i32_203
  let v404 : BitVec 1 := Scalar.andi v403 v400
  let v405 : BitVec 32 := Scalar.addi v399 v398
  let v406 : BitVec 32 := Scalar.select v404 v405 v399
  let c0_i32_207 : BitVec 32 := 0#32
  let v408 : BitVec 1 := Scalar.cmpi .sgt v406 c0_i32_207
  let v409 : BitVec 32 := Scalar.extui v408
  let c0_i32_208 : BitVec 32 := 0#32
  let v410 : BitVec 1 := Scalar.cmpi .slt v406 c0_i32_208
  let v411 : BitVec 32 := Scalar.extui v410
  let v412 : BitVec 32 := Scalar.subi v409 v411
  let c4_i32_206 : BitVec 32 := 4#32
  let c0_i32_209 : BitVec 32 := 0#32
  let v413 : BitVec 1 := Scalar.cmpi .sgt c4_i32_206 c0_i32_209
  let v414 : BitVec 32 := Scalar.extui v413
  let c0_i32_210 : BitVec 32 := 0#32
  let v415 : BitVec 1 := Scalar.cmpi .slt c4_i32_206 c0_i32_210
  let v416 : BitVec 32 := Scalar.extui v415
  let v417 : BitVec 32 := Scalar.subi v414 v416
  let v418 : BitVec 1 := Scalar.cmpi .ne v412 v417
  let v419 : BitVec 32 := Scalar.remsi v406 c4_i32_206
  let c0_i32_211 : BitVec 32 := 0#32
  let v420 : BitVec 1 := Scalar.cmpi .ne v419 c0_i32_211
  let v421 : BitVec 1 := Scalar.andi v418 v420
  let v407 : BitVec 32 := Scalar.divsi v406 c4_i32_206
  let c1_i32_212 : BitVec 32 := 1#32
  let v422 : BitVec 32 := Scalar.subi v407 c1_i32_212
  let v423 : BitVec 32 := Scalar.select v421 v422 v407
  let c8_i32_228 : BitVec 32 := 8#32
  let v450 : BitVec 32 := Scalar.muli v423 c8_i32_228
  let c2_i32_225 : BitVec 32 := 2#32
  let c4_i32_213 : BitVec 32 := 4#32
  let c0_i32_214 : BitVec 32 := 0#32
  let v424 : BitVec 1 := Scalar.cmpi .eq c4_i32_213 c0_i32_214
  let c1_i32_215 : BitVec 32 := 1#32
  let v425 : BitVec 32 := Scalar.select v424 c1_i32_215 c4_i32_213
  let v426 : BitVec 32 := Scalar.remsi v406 v425
  let c0_i32_217 : BitVec 32 := 0#32
  let v428 : BitVec 1 := Scalar.cmpi .slt v426 c0_i32_217
  let c0_i32_218 : BitVec 32 := 0#32
  let v429 : BitVec 1 := Scalar.cmpi .slt v425 c0_i32_218
  let v430 : BitVec 1 := Scalar.xori v428 v429
  let c0_i32_216 : BitVec 32 := 0#32
  let v427 : BitVec 1 := Scalar.cmpi .ne v426 c0_i32_216
  let v431 : BitVec 1 := Scalar.andi v430 v427
  let v432 : BitVec 32 := Scalar.addi v426 v425
  let v433 : BitVec 32 := Scalar.select v431 v432 v426
  let v444 : BitVec 32 := Scalar.muli c2_i32_225 v433
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v445 : BitVec 32 := Scalar.addi v444 v94
  let c2_i32_219 : BitVec 32 := 2#32
  let c0_i32_220 : BitVec 32 := 0#32
  let v434 : BitVec 1 := Scalar.cmpi .eq c2_i32_219 c0_i32_220
  let c1_i32_221 : BitVec 32 := 1#32
  let v435 : BitVec 32 := Scalar.select v434 c1_i32_221 c2_i32_219
  let v436 : BitVec 32 := Scalar.remsi v433 v435
  let c0_i32_223 : BitVec 32 := 0#32
  let v438 : BitVec 1 := Scalar.cmpi .slt v436 c0_i32_223
  let c0_i32_224 : BitVec 32 := 0#32
  let v439 : BitVec 1 := Scalar.cmpi .slt v435 c0_i32_224
  let v440 : BitVec 1 := Scalar.xori v438 v439
  let c0_i32_222 : BitVec 32 := 0#32
  let v437 : BitVec 1 := Scalar.cmpi .ne v436 c0_i32_222
  let v441 : BitVec 1 := Scalar.andi v440 v437
  let v442 : BitVec 32 := Scalar.addi v436 v435
  let v443 : BitVec 32 := Scalar.select v441 v442 v436
  let c1_i32_227 : BitVec 32 := 1#32
  let c2_i32_226 : BitVec 32 := 2#32
  let v446 : BitVec 32 := Scalar.muli c2_i32_226 v94
  let v447 : BitVec 32 := Scalar.subi c1_i32_227 v446
  let v448 : BitVec 32 := Scalar.muli v443 v447
  let v449 : BitVec 32 := Scalar.addi v445 v448
  let v451 : BitVec 32 := Scalar.addi v450 v449
  let c1_i32_510 : BitVec 32 := 1#32
  let v968 : BitVec 32 := Scalar.muli v451 c1_i32_510
  let v969 : BitVec 32 := Scalar.addi c0_i32_511 v968
  v969.toNat
def k0_dev8 (d0 : Dev nD) : Nat :=
  let c0_i32_514 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c7_i32 : BitVec 32 := 7#32
  let v452 : BitVec 32 := Scalar.addi v96 c7_i32
  let c16_i32_229 : BitVec 32 := 16#32
  let c0_i32_230 : BitVec 32 := 0#32
  let v453 : BitVec 1 := Scalar.cmpi .eq c16_i32_229 c0_i32_230
  let c1_i32_231 : BitVec 32 := 1#32
  let v454 : BitVec 32 := Scalar.select v453 c1_i32_231 c16_i32_229
  let v455 : BitVec 32 := Scalar.remsi v452 v454
  let c0_i32_233 : BitVec 32 := 0#32
  let v457 : BitVec 1 := Scalar.cmpi .slt v455 c0_i32_233
  let c0_i32_234 : BitVec 32 := 0#32
  let v458 : BitVec 1 := Scalar.cmpi .slt v454 c0_i32_234
  let v459 : BitVec 1 := Scalar.xori v457 v458
  let c0_i32_232 : BitVec 32 := 0#32
  let v456 : BitVec 1 := Scalar.cmpi .ne v455 c0_i32_232
  let v460 : BitVec 1 := Scalar.andi v459 v456
  let v461 : BitVec 32 := Scalar.addi v455 v454
  let v462 : BitVec 32 := Scalar.select v460 v461 v455
  let c0_i32_236 : BitVec 32 := 0#32
  let v464 : BitVec 1 := Scalar.cmpi .sgt v462 c0_i32_236
  let v465 : BitVec 32 := Scalar.extui v464
  let c0_i32_237 : BitVec 32 := 0#32
  let v466 : BitVec 1 := Scalar.cmpi .slt v462 c0_i32_237
  let v467 : BitVec 32 := Scalar.extui v466
  let v468 : BitVec 32 := Scalar.subi v465 v467
  let c4_i32_235 : BitVec 32 := 4#32
  let c0_i32_238 : BitVec 32 := 0#32
  let v469 : BitVec 1 := Scalar.cmpi .sgt c4_i32_235 c0_i32_238
  let v470 : BitVec 32 := Scalar.extui v469
  let c0_i32_239 : BitVec 32 := 0#32
  let v471 : BitVec 1 := Scalar.cmpi .slt c4_i32_235 c0_i32_239
  let v472 : BitVec 32 := Scalar.extui v471
  let v473 : BitVec 32 := Scalar.subi v470 v472
  let v474 : BitVec 1 := Scalar.cmpi .ne v468 v473
  let v475 : BitVec 32 := Scalar.remsi v462 c4_i32_235
  let c0_i32_240 : BitVec 32 := 0#32
  let v476 : BitVec 1 := Scalar.cmpi .ne v475 c0_i32_240
  let v477 : BitVec 1 := Scalar.andi v474 v476
  let v463 : BitVec 32 := Scalar.divsi v462 c4_i32_235
  let c1_i32_241 : BitVec 32 := 1#32
  let v478 : BitVec 32 := Scalar.subi v463 c1_i32_241
  let v479 : BitVec 32 := Scalar.select v477 v478 v463
  let c8_i32_257 : BitVec 32 := 8#32
  let v506 : BitVec 32 := Scalar.muli v479 c8_i32_257
  let c2_i32_254 : BitVec 32 := 2#32
  let c4_i32_242 : BitVec 32 := 4#32
  let c0_i32_243 : BitVec 32 := 0#32
  let v480 : BitVec 1 := Scalar.cmpi .eq c4_i32_242 c0_i32_243
  let c1_i32_244 : BitVec 32 := 1#32
  let v481 : BitVec 32 := Scalar.select v480 c1_i32_244 c4_i32_242
  let v482 : BitVec 32 := Scalar.remsi v462 v481
  let c0_i32_246 : BitVec 32 := 0#32
  let v484 : BitVec 1 := Scalar.cmpi .slt v482 c0_i32_246
  let c0_i32_247 : BitVec 32 := 0#32
  let v485 : BitVec 1 := Scalar.cmpi .slt v481 c0_i32_247
  let v486 : BitVec 1 := Scalar.xori v484 v485
  let c0_i32_245 : BitVec 32 := 0#32
  let v483 : BitVec 1 := Scalar.cmpi .ne v482 c0_i32_245
  let v487 : BitVec 1 := Scalar.andi v486 v483
  let v488 : BitVec 32 := Scalar.addi v482 v481
  let v489 : BitVec 32 := Scalar.select v487 v488 v482
  let v500 : BitVec 32 := Scalar.muli c2_i32_254 v489
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v501 : BitVec 32 := Scalar.addi v500 v94
  let c2_i32_248 : BitVec 32 := 2#32
  let c0_i32_249 : BitVec 32 := 0#32
  let v490 : BitVec 1 := Scalar.cmpi .eq c2_i32_248 c0_i32_249
  let c1_i32_250 : BitVec 32 := 1#32
  let v491 : BitVec 32 := Scalar.select v490 c1_i32_250 c2_i32_248
  let v492 : BitVec 32 := Scalar.remsi v489 v491
  let c0_i32_252 : BitVec 32 := 0#32
  let v494 : BitVec 1 := Scalar.cmpi .slt v492 c0_i32_252
  let c0_i32_253 : BitVec 32 := 0#32
  let v495 : BitVec 1 := Scalar.cmpi .slt v491 c0_i32_253
  let v496 : BitVec 1 := Scalar.xori v494 v495
  let c0_i32_251 : BitVec 32 := 0#32
  let v493 : BitVec 1 := Scalar.cmpi .ne v492 c0_i32_251
  let v497 : BitVec 1 := Scalar.andi v496 v493
  let v498 : BitVec 32 := Scalar.addi v492 v491
  let v499 : BitVec 32 := Scalar.select v497 v498 v492
  let c1_i32_256 : BitVec 32 := 1#32
  let c2_i32_255 : BitVec 32 := 2#32
  let v502 : BitVec 32 := Scalar.muli c2_i32_255 v94
  let v503 : BitVec 32 := Scalar.subi c1_i32_256 v502
  let v504 : BitVec 32 := Scalar.muli v499 v503
  let v505 : BitVec 32 := Scalar.addi v501 v504
  let v507 : BitVec 32 := Scalar.addi v506 v505
  let c1_i32_513 : BitVec 32 := 1#32
  let v970 : BitVec 32 := Scalar.muli v507 c1_i32_513
  let v971 : BitVec 32 := Scalar.addi c0_i32_514 v970
  v971.toNat
def k0_dev9 (d0 : Dev nD) : Nat :=
  let c0_i32_517 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c8_i32_258 : BitVec 32 := 8#32
  let v508 : BitVec 32 := Scalar.addi v96 c8_i32_258
  let c16_i32_259 : BitVec 32 := 16#32
  let c0_i32_260 : BitVec 32 := 0#32
  let v509 : BitVec 1 := Scalar.cmpi .eq c16_i32_259 c0_i32_260
  let c1_i32_261 : BitVec 32 := 1#32
  let v510 : BitVec 32 := Scalar.select v509 c1_i32_261 c16_i32_259
  let v511 : BitVec 32 := Scalar.remsi v508 v510
  let c0_i32_263 : BitVec 32 := 0#32
  let v513 : BitVec 1 := Scalar.cmpi .slt v511 c0_i32_263
  let c0_i32_264 : BitVec 32 := 0#32
  let v514 : BitVec 1 := Scalar.cmpi .slt v510 c0_i32_264
  let v515 : BitVec 1 := Scalar.xori v513 v514
  let c0_i32_262 : BitVec 32 := 0#32
  let v512 : BitVec 1 := Scalar.cmpi .ne v511 c0_i32_262
  let v516 : BitVec 1 := Scalar.andi v515 v512
  let v517 : BitVec 32 := Scalar.addi v511 v510
  let v518 : BitVec 32 := Scalar.select v516 v517 v511
  let c0_i32_266 : BitVec 32 := 0#32
  let v520 : BitVec 1 := Scalar.cmpi .sgt v518 c0_i32_266
  let v521 : BitVec 32 := Scalar.extui v520
  let c0_i32_267 : BitVec 32 := 0#32
  let v522 : BitVec 1 := Scalar.cmpi .slt v518 c0_i32_267
  let v523 : BitVec 32 := Scalar.extui v522
  let v524 : BitVec 32 := Scalar.subi v521 v523
  let c4_i32_265 : BitVec 32 := 4#32
  let c0_i32_268 : BitVec 32 := 0#32
  let v525 : BitVec 1 := Scalar.cmpi .sgt c4_i32_265 c0_i32_268
  let v526 : BitVec 32 := Scalar.extui v525
  let c0_i32_269 : BitVec 32 := 0#32
  let v527 : BitVec 1 := Scalar.cmpi .slt c4_i32_265 c0_i32_269
  let v528 : BitVec 32 := Scalar.extui v527
  let v529 : BitVec 32 := Scalar.subi v526 v528
  let v530 : BitVec 1 := Scalar.cmpi .ne v524 v529
  let v531 : BitVec 32 := Scalar.remsi v518 c4_i32_265
  let c0_i32_270 : BitVec 32 := 0#32
  let v532 : BitVec 1 := Scalar.cmpi .ne v531 c0_i32_270
  let v533 : BitVec 1 := Scalar.andi v530 v532
  let v519 : BitVec 32 := Scalar.divsi v518 c4_i32_265
  let c1_i32_271 : BitVec 32 := 1#32
  let v534 : BitVec 32 := Scalar.subi v519 c1_i32_271
  let v535 : BitVec 32 := Scalar.select v533 v534 v519
  let c8_i32_287 : BitVec 32 := 8#32
  let v562 : BitVec 32 := Scalar.muli v535 c8_i32_287
  let c2_i32_284 : BitVec 32 := 2#32
  let c4_i32_272 : BitVec 32 := 4#32
  let c0_i32_273 : BitVec 32 := 0#32
  let v536 : BitVec 1 := Scalar.cmpi .eq c4_i32_272 c0_i32_273
  let c1_i32_274 : BitVec 32 := 1#32
  let v537 : BitVec 32 := Scalar.select v536 c1_i32_274 c4_i32_272
  let v538 : BitVec 32 := Scalar.remsi v518 v537
  let c0_i32_276 : BitVec 32 := 0#32
  let v540 : BitVec 1 := Scalar.cmpi .slt v538 c0_i32_276
  let c0_i32_277 : BitVec 32 := 0#32
  let v541 : BitVec 1 := Scalar.cmpi .slt v537 c0_i32_277
  let v542 : BitVec 1 := Scalar.xori v540 v541
  let c0_i32_275 : BitVec 32 := 0#32
  let v539 : BitVec 1 := Scalar.cmpi .ne v538 c0_i32_275
  let v543 : BitVec 1 := Scalar.andi v542 v539
  let v544 : BitVec 32 := Scalar.addi v538 v537
  let v545 : BitVec 32 := Scalar.select v543 v544 v538
  let v556 : BitVec 32 := Scalar.muli c2_i32_284 v545
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v557 : BitVec 32 := Scalar.addi v556 v94
  let c2_i32_278 : BitVec 32 := 2#32
  let c0_i32_279 : BitVec 32 := 0#32
  let v546 : BitVec 1 := Scalar.cmpi .eq c2_i32_278 c0_i32_279
  let c1_i32_280 : BitVec 32 := 1#32
  let v547 : BitVec 32 := Scalar.select v546 c1_i32_280 c2_i32_278
  let v548 : BitVec 32 := Scalar.remsi v545 v547
  let c0_i32_282 : BitVec 32 := 0#32
  let v550 : BitVec 1 := Scalar.cmpi .slt v548 c0_i32_282
  let c0_i32_283 : BitVec 32 := 0#32
  let v551 : BitVec 1 := Scalar.cmpi .slt v547 c0_i32_283
  let v552 : BitVec 1 := Scalar.xori v550 v551
  let c0_i32_281 : BitVec 32 := 0#32
  let v549 : BitVec 1 := Scalar.cmpi .ne v548 c0_i32_281
  let v553 : BitVec 1 := Scalar.andi v552 v549
  let v554 : BitVec 32 := Scalar.addi v548 v547
  let v555 : BitVec 32 := Scalar.select v553 v554 v548
  let c1_i32_286 : BitVec 32 := 1#32
  let c2_i32_285 : BitVec 32 := 2#32
  let v558 : BitVec 32 := Scalar.muli c2_i32_285 v94
  let v559 : BitVec 32 := Scalar.subi c1_i32_286 v558
  let v560 : BitVec 32 := Scalar.muli v555 v559
  let v561 : BitVec 32 := Scalar.addi v557 v560
  let v563 : BitVec 32 := Scalar.addi v562 v561
  let c1_i32_516 : BitVec 32 := 1#32
  let v972 : BitVec 32 := Scalar.muli v563 c1_i32_516
  let v973 : BitVec 32 := Scalar.addi c0_i32_517 v972
  v973.toNat
def k0_dev10 (d0 : Dev nD) : Nat :=
  let c0_i32_520 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c9_i32 : BitVec 32 := 9#32
  let v564 : BitVec 32 := Scalar.addi v96 c9_i32
  let c16_i32_288 : BitVec 32 := 16#32
  let c0_i32_289 : BitVec 32 := 0#32
  let v565 : BitVec 1 := Scalar.cmpi .eq c16_i32_288 c0_i32_289
  let c1_i32_290 : BitVec 32 := 1#32
  let v566 : BitVec 32 := Scalar.select v565 c1_i32_290 c16_i32_288
  let v567 : BitVec 32 := Scalar.remsi v564 v566
  let c0_i32_292 : BitVec 32 := 0#32
  let v569 : BitVec 1 := Scalar.cmpi .slt v567 c0_i32_292
  let c0_i32_293 : BitVec 32 := 0#32
  let v570 : BitVec 1 := Scalar.cmpi .slt v566 c0_i32_293
  let v571 : BitVec 1 := Scalar.xori v569 v570
  let c0_i32_291 : BitVec 32 := 0#32
  let v568 : BitVec 1 := Scalar.cmpi .ne v567 c0_i32_291
  let v572 : BitVec 1 := Scalar.andi v571 v568
  let v573 : BitVec 32 := Scalar.addi v567 v566
  let v574 : BitVec 32 := Scalar.select v572 v573 v567
  let c0_i32_295 : BitVec 32 := 0#32
  let v576 : BitVec 1 := Scalar.cmpi .sgt v574 c0_i32_295
  let v577 : BitVec 32 := Scalar.extui v576
  let c0_i32_296 : BitVec 32 := 0#32
  let v578 : BitVec 1 := Scalar.cmpi .slt v574 c0_i32_296
  let v579 : BitVec 32 := Scalar.extui v578
  let v580 : BitVec 32 := Scalar.subi v577 v579
  let c4_i32_294 : BitVec 32 := 4#32
  let c0_i32_297 : BitVec 32 := 0#32
  let v581 : BitVec 1 := Scalar.cmpi .sgt c4_i32_294 c0_i32_297
  let v582 : BitVec 32 := Scalar.extui v581
  let c0_i32_298 : BitVec 32 := 0#32
  let v583 : BitVec 1 := Scalar.cmpi .slt c4_i32_294 c0_i32_298
  let v584 : BitVec 32 := Scalar.extui v583
  let v585 : BitVec 32 := Scalar.subi v582 v584
  let v586 : BitVec 1 := Scalar.cmpi .ne v580 v585
  let v587 : BitVec 32 := Scalar.remsi v574 c4_i32_294
  let c0_i32_299 : BitVec 32 := 0#32
  let v588 : BitVec 1 := Scalar.cmpi .ne v587 c0_i32_299
  let v589 : BitVec 1 := Scalar.andi v586 v588
  let v575 : BitVec 32 := Scalar.divsi v574 c4_i32_294
  let c1_i32_300 : BitVec 32 := 1#32
  let v590 : BitVec 32 := Scalar.subi v575 c1_i32_300
  let v591 : BitVec 32 := Scalar.select v589 v590 v575
  let c8_i32_316 : BitVec 32 := 8#32
  let v618 : BitVec 32 := Scalar.muli v591 c8_i32_316
  let c2_i32_313 : BitVec 32 := 2#32
  let c4_i32_301 : BitVec 32 := 4#32
  let c0_i32_302 : BitVec 32 := 0#32
  let v592 : BitVec 1 := Scalar.cmpi .eq c4_i32_301 c0_i32_302
  let c1_i32_303 : BitVec 32 := 1#32
  let v593 : BitVec 32 := Scalar.select v592 c1_i32_303 c4_i32_301
  let v594 : BitVec 32 := Scalar.remsi v574 v593
  let c0_i32_305 : BitVec 32 := 0#32
  let v596 : BitVec 1 := Scalar.cmpi .slt v594 c0_i32_305
  let c0_i32_306 : BitVec 32 := 0#32
  let v597 : BitVec 1 := Scalar.cmpi .slt v593 c0_i32_306
  let v598 : BitVec 1 := Scalar.xori v596 v597
  let c0_i32_304 : BitVec 32 := 0#32
  let v595 : BitVec 1 := Scalar.cmpi .ne v594 c0_i32_304
  let v599 : BitVec 1 := Scalar.andi v598 v595
  let v600 : BitVec 32 := Scalar.addi v594 v593
  let v601 : BitVec 32 := Scalar.select v599 v600 v594
  let v612 : BitVec 32 := Scalar.muli c2_i32_313 v601
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v613 : BitVec 32 := Scalar.addi v612 v94
  let c2_i32_307 : BitVec 32 := 2#32
  let c0_i32_308 : BitVec 32 := 0#32
  let v602 : BitVec 1 := Scalar.cmpi .eq c2_i32_307 c0_i32_308
  let c1_i32_309 : BitVec 32 := 1#32
  let v603 : BitVec 32 := Scalar.select v602 c1_i32_309 c2_i32_307
  let v604 : BitVec 32 := Scalar.remsi v601 v603
  let c0_i32_311 : BitVec 32 := 0#32
  let v606 : BitVec 1 := Scalar.cmpi .slt v604 c0_i32_311
  let c0_i32_312 : BitVec 32 := 0#32
  let v607 : BitVec 1 := Scalar.cmpi .slt v603 c0_i32_312
  let v608 : BitVec 1 := Scalar.xori v606 v607
  let c0_i32_310 : BitVec 32 := 0#32
  let v605 : BitVec 1 := Scalar.cmpi .ne v604 c0_i32_310
  let v609 : BitVec 1 := Scalar.andi v608 v605
  let v610 : BitVec 32 := Scalar.addi v604 v603
  let v611 : BitVec 32 := Scalar.select v609 v610 v604
  let c1_i32_315 : BitVec 32 := 1#32
  let c2_i32_314 : BitVec 32 := 2#32
  let v614 : BitVec 32 := Scalar.muli c2_i32_314 v94
  let v615 : BitVec 32 := Scalar.subi c1_i32_315 v614
  let v616 : BitVec 32 := Scalar.muli v611 v615
  let v617 : BitVec 32 := Scalar.addi v613 v616
  let v619 : BitVec 32 := Scalar.addi v618 v617
  let c1_i32_519 : BitVec 32 := 1#32
  let v974 : BitVec 32 := Scalar.muli v619 c1_i32_519
  let v975 : BitVec 32 := Scalar.addi c0_i32_520 v974
  v975.toNat
def k0_dev11 (d0 : Dev nD) : Nat :=
  let c0_i32_523 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c10_i32 : BitVec 32 := 10#32
  let v620 : BitVec 32 := Scalar.addi v96 c10_i32
  let c16_i32_317 : BitVec 32 := 16#32
  let c0_i32_318 : BitVec 32 := 0#32
  let v621 : BitVec 1 := Scalar.cmpi .eq c16_i32_317 c0_i32_318
  let c1_i32_319 : BitVec 32 := 1#32
  let v622 : BitVec 32 := Scalar.select v621 c1_i32_319 c16_i32_317
  let v623 : BitVec 32 := Scalar.remsi v620 v622
  let c0_i32_321 : BitVec 32 := 0#32
  let v625 : BitVec 1 := Scalar.cmpi .slt v623 c0_i32_321
  let c0_i32_322 : BitVec 32 := 0#32
  let v626 : BitVec 1 := Scalar.cmpi .slt v622 c0_i32_322
  let v627 : BitVec 1 := Scalar.xori v625 v626
  let c0_i32_320 : BitVec 32 := 0#32
  let v624 : BitVec 1 := Scalar.cmpi .ne v623 c0_i32_320
  let v628 : BitVec 1 := Scalar.andi v627 v624
  let v629 : BitVec 32 := Scalar.addi v623 v622
  let v630 : BitVec 32 := Scalar.select v628 v629 v623
  let c0_i32_324 : BitVec 32 := 0#32
  let v632 : BitVec 1 := Scalar.cmpi .sgt v630 c0_i32_324
  let v633 : BitVec 32 := Scalar.extui v632
  let c0_i32_325 : BitVec 32 := 0#32
  let v634 : BitVec 1 := Scalar.cmpi .slt v630 c0_i32_325
  let v635 : BitVec 32 := Scalar.extui v634
  let v636 : BitVec 32 := Scalar.subi v633 v635
  let c4_i32_323 : BitVec 32 := 4#32
  let c0_i32_326 : BitVec 32 := 0#32
  let v637 : BitVec 1 := Scalar.cmpi .sgt c4_i32_323 c0_i32_326
  let v638 : BitVec 32 := Scalar.extui v637
  let c0_i32_327 : BitVec 32 := 0#32
  let v639 : BitVec 1 := Scalar.cmpi .slt c4_i32_323 c0_i32_327
  let v640 : BitVec 32 := Scalar.extui v639
  let v641 : BitVec 32 := Scalar.subi v638 v640
  let v642 : BitVec 1 := Scalar.cmpi .ne v636 v641
  let v643 : BitVec 32 := Scalar.remsi v630 c4_i32_323
  let c0_i32_328 : BitVec 32 := 0#32
  let v644 : BitVec 1 := Scalar.cmpi .ne v643 c0_i32_328
  let v645 : BitVec 1 := Scalar.andi v642 v644
  let v631 : BitVec 32 := Scalar.divsi v630 c4_i32_323
  let c1_i32_329 : BitVec 32 := 1#32
  let v646 : BitVec 32 := Scalar.subi v631 c1_i32_329
  let v647 : BitVec 32 := Scalar.select v645 v646 v631
  let c8_i32_345 : BitVec 32 := 8#32
  let v674 : BitVec 32 := Scalar.muli v647 c8_i32_345
  let c2_i32_342 : BitVec 32 := 2#32
  let c4_i32_330 : BitVec 32 := 4#32
  let c0_i32_331 : BitVec 32 := 0#32
  let v648 : BitVec 1 := Scalar.cmpi .eq c4_i32_330 c0_i32_331
  let c1_i32_332 : BitVec 32 := 1#32
  let v649 : BitVec 32 := Scalar.select v648 c1_i32_332 c4_i32_330
  let v650 : BitVec 32 := Scalar.remsi v630 v649
  let c0_i32_334 : BitVec 32 := 0#32
  let v652 : BitVec 1 := Scalar.cmpi .slt v650 c0_i32_334
  let c0_i32_335 : BitVec 32 := 0#32
  let v653 : BitVec 1 := Scalar.cmpi .slt v649 c0_i32_335
  let v654 : BitVec 1 := Scalar.xori v652 v653
  let c0_i32_333 : BitVec 32 := 0#32
  let v651 : BitVec 1 := Scalar.cmpi .ne v650 c0_i32_333
  let v655 : BitVec 1 := Scalar.andi v654 v651
  let v656 : BitVec 32 := Scalar.addi v650 v649
  let v657 : BitVec 32 := Scalar.select v655 v656 v650
  let v668 : BitVec 32 := Scalar.muli c2_i32_342 v657
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v669 : BitVec 32 := Scalar.addi v668 v94
  let c2_i32_336 : BitVec 32 := 2#32
  let c0_i32_337 : BitVec 32 := 0#32
  let v658 : BitVec 1 := Scalar.cmpi .eq c2_i32_336 c0_i32_337
  let c1_i32_338 : BitVec 32 := 1#32
  let v659 : BitVec 32 := Scalar.select v658 c1_i32_338 c2_i32_336
  let v660 : BitVec 32 := Scalar.remsi v657 v659
  let c0_i32_340 : BitVec 32 := 0#32
  let v662 : BitVec 1 := Scalar.cmpi .slt v660 c0_i32_340
  let c0_i32_341 : BitVec 32 := 0#32
  let v663 : BitVec 1 := Scalar.cmpi .slt v659 c0_i32_341
  let v664 : BitVec 1 := Scalar.xori v662 v663
  let c0_i32_339 : BitVec 32 := 0#32
  let v661 : BitVec 1 := Scalar.cmpi .ne v660 c0_i32_339
  let v665 : BitVec 1 := Scalar.andi v664 v661
  let v666 : BitVec 32 := Scalar.addi v660 v659
  let v667 : BitVec 32 := Scalar.select v665 v666 v660
  let c1_i32_344 : BitVec 32 := 1#32
  let c2_i32_343 : BitVec 32 := 2#32
  let v670 : BitVec 32 := Scalar.muli c2_i32_343 v94
  let v671 : BitVec 32 := Scalar.subi c1_i32_344 v670
  let v672 : BitVec 32 := Scalar.muli v667 v671
  let v673 : BitVec 32 := Scalar.addi v669 v672
  let v675 : BitVec 32 := Scalar.addi v674 v673
  let c1_i32_522 : BitVec 32 := 1#32
  let v976 : BitVec 32 := Scalar.muli v675 c1_i32_522
  let v977 : BitVec 32 := Scalar.addi c0_i32_523 v976
  v977.toNat
def k0_dev12 (d0 : Dev nD) : Nat :=
  let c0_i32_526 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c11_i32 : BitVec 32 := 11#32
  let v676 : BitVec 32 := Scalar.addi v96 c11_i32
  let c16_i32_346 : BitVec 32 := 16#32
  let c0_i32_347 : BitVec 32 := 0#32
  let v677 : BitVec 1 := Scalar.cmpi .eq c16_i32_346 c0_i32_347
  let c1_i32_348 : BitVec 32 := 1#32
  let v678 : BitVec 32 := Scalar.select v677 c1_i32_348 c16_i32_346
  let v679 : BitVec 32 := Scalar.remsi v676 v678
  let c0_i32_350 : BitVec 32 := 0#32
  let v681 : BitVec 1 := Scalar.cmpi .slt v679 c0_i32_350
  let c0_i32_351 : BitVec 32 := 0#32
  let v682 : BitVec 1 := Scalar.cmpi .slt v678 c0_i32_351
  let v683 : BitVec 1 := Scalar.xori v681 v682
  let c0_i32_349 : BitVec 32 := 0#32
  let v680 : BitVec 1 := Scalar.cmpi .ne v679 c0_i32_349
  let v684 : BitVec 1 := Scalar.andi v683 v680
  let v685 : BitVec 32 := Scalar.addi v679 v678
  let v686 : BitVec 32 := Scalar.select v684 v685 v679
  let c0_i32_353 : BitVec 32 := 0#32
  let v688 : BitVec 1 := Scalar.cmpi .sgt v686 c0_i32_353
  let v689 : BitVec 32 := Scalar.extui v688
  let c0_i32_354 : BitVec 32 := 0#32
  let v690 : BitVec 1 := Scalar.cmpi .slt v686 c0_i32_354
  let v691 : BitVec 32 := Scalar.extui v690
  let v692 : BitVec 32 := Scalar.subi v689 v691
  let c4_i32_352 : BitVec 32 := 4#32
  let c0_i32_355 : BitVec 32 := 0#32
  let v693 : BitVec 1 := Scalar.cmpi .sgt c4_i32_352 c0_i32_355
  let v694 : BitVec 32 := Scalar.extui v693
  let c0_i32_356 : BitVec 32 := 0#32
  let v695 : BitVec 1 := Scalar.cmpi .slt c4_i32_352 c0_i32_356
  let v696 : BitVec 32 := Scalar.extui v695
  let v697 : BitVec 32 := Scalar.subi v694 v696
  let v698 : BitVec 1 := Scalar.cmpi .ne v692 v697
  let v699 : BitVec 32 := Scalar.remsi v686 c4_i32_352
  let c0_i32_357 : BitVec 32 := 0#32
  let v700 : BitVec 1 := Scalar.cmpi .ne v699 c0_i32_357
  let v701 : BitVec 1 := Scalar.andi v698 v700
  let v687 : BitVec 32 := Scalar.divsi v686 c4_i32_352
  let c1_i32_358 : BitVec 32 := 1#32
  let v702 : BitVec 32 := Scalar.subi v687 c1_i32_358
  let v703 : BitVec 32 := Scalar.select v701 v702 v687
  let c8_i32_374 : BitVec 32 := 8#32
  let v730 : BitVec 32 := Scalar.muli v703 c8_i32_374
  let c2_i32_371 : BitVec 32 := 2#32
  let c4_i32_359 : BitVec 32 := 4#32
  let c0_i32_360 : BitVec 32 := 0#32
  let v704 : BitVec 1 := Scalar.cmpi .eq c4_i32_359 c0_i32_360
  let c1_i32_361 : BitVec 32 := 1#32
  let v705 : BitVec 32 := Scalar.select v704 c1_i32_361 c4_i32_359
  let v706 : BitVec 32 := Scalar.remsi v686 v705
  let c0_i32_363 : BitVec 32 := 0#32
  let v708 : BitVec 1 := Scalar.cmpi .slt v706 c0_i32_363
  let c0_i32_364 : BitVec 32 := 0#32
  let v709 : BitVec 1 := Scalar.cmpi .slt v705 c0_i32_364
  let v710 : BitVec 1 := Scalar.xori v708 v709
  let c0_i32_362 : BitVec 32 := 0#32
  let v707 : BitVec 1 := Scalar.cmpi .ne v706 c0_i32_362
  let v711 : BitVec 1 := Scalar.andi v710 v707
  let v712 : BitVec 32 := Scalar.addi v706 v705
  let v713 : BitVec 32 := Scalar.select v711 v712 v706
  let v724 : BitVec 32 := Scalar.muli c2_i32_371 v713
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v725 : BitVec 32 := Scalar.addi v724 v94
  let c2_i32_365 : BitVec 32 := 2#32
  let c0_i32_366 : BitVec 32 := 0#32
  let v714 : BitVec 1 := Scalar.cmpi .eq c2_i32_365 c0_i32_366
  let c1_i32_367 : BitVec 32 := 1#32
  let v715 : BitVec 32 := Scalar.select v714 c1_i32_367 c2_i32_365
  let v716 : BitVec 32 := Scalar.remsi v713 v715
  let c0_i32_369 : BitVec 32 := 0#32
  let v718 : BitVec 1 := Scalar.cmpi .slt v716 c0_i32_369
  let c0_i32_370 : BitVec 32 := 0#32
  let v719 : BitVec 1 := Scalar.cmpi .slt v715 c0_i32_370
  let v720 : BitVec 1 := Scalar.xori v718 v719
  let c0_i32_368 : BitVec 32 := 0#32
  let v717 : BitVec 1 := Scalar.cmpi .ne v716 c0_i32_368
  let v721 : BitVec 1 := Scalar.andi v720 v717
  let v722 : BitVec 32 := Scalar.addi v716 v715
  let v723 : BitVec 32 := Scalar.select v721 v722 v716
  let c1_i32_373 : BitVec 32 := 1#32
  let c2_i32_372 : BitVec 32 := 2#32
  let v726 : BitVec 32 := Scalar.muli c2_i32_372 v94
  let v727 : BitVec 32 := Scalar.subi c1_i32_373 v726
  let v728 : BitVec 32 := Scalar.muli v723 v727
  let v729 : BitVec 32 := Scalar.addi v725 v728
  let v731 : BitVec 32 := Scalar.addi v730 v729
  let c1_i32_525 : BitVec 32 := 1#32
  let v978 : BitVec 32 := Scalar.muli v731 c1_i32_525
  let v979 : BitVec 32 := Scalar.addi c0_i32_526 v978
  v979.toNat
def k0_dev13 (d0 : Dev nD) : Nat :=
  let c0_i32_529 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c12_i32 : BitVec 32 := 12#32
  let v732 : BitVec 32 := Scalar.addi v96 c12_i32
  let c16_i32_375 : BitVec 32 := 16#32
  let c0_i32_376 : BitVec 32 := 0#32
  let v733 : BitVec 1 := Scalar.cmpi .eq c16_i32_375 c0_i32_376
  let c1_i32_377 : BitVec 32 := 1#32
  let v734 : BitVec 32 := Scalar.select v733 c1_i32_377 c16_i32_375
  let v735 : BitVec 32 := Scalar.remsi v732 v734
  let c0_i32_379 : BitVec 32 := 0#32
  let v737 : BitVec 1 := Scalar.cmpi .slt v735 c0_i32_379
  let c0_i32_380 : BitVec 32 := 0#32
  let v738 : BitVec 1 := Scalar.cmpi .slt v734 c0_i32_380
  let v739 : BitVec 1 := Scalar.xori v737 v738
  let c0_i32_378 : BitVec 32 := 0#32
  let v736 : BitVec 1 := Scalar.cmpi .ne v735 c0_i32_378
  let v740 : BitVec 1 := Scalar.andi v739 v736
  let v741 : BitVec 32 := Scalar.addi v735 v734
  let v742 : BitVec 32 := Scalar.select v740 v741 v735
  let c0_i32_382 : BitVec 32 := 0#32
  let v744 : BitVec 1 := Scalar.cmpi .sgt v742 c0_i32_382
  let v745 : BitVec 32 := Scalar.extui v744
  let c0_i32_383 : BitVec 32 := 0#32
  let v746 : BitVec 1 := Scalar.cmpi .slt v742 c0_i32_383
  let v747 : BitVec 32 := Scalar.extui v746
  let v748 : BitVec 32 := Scalar.subi v745 v747
  let c4_i32_381 : BitVec 32 := 4#32
  let c0_i32_384 : BitVec 32 := 0#32
  let v749 : BitVec 1 := Scalar.cmpi .sgt c4_i32_381 c0_i32_384
  let v750 : BitVec 32 := Scalar.extui v749
  let c0_i32_385 : BitVec 32 := 0#32
  let v751 : BitVec 1 := Scalar.cmpi .slt c4_i32_381 c0_i32_385
  let v752 : BitVec 32 := Scalar.extui v751
  let v753 : BitVec 32 := Scalar.subi v750 v752
  let v754 : BitVec 1 := Scalar.cmpi .ne v748 v753
  let v755 : BitVec 32 := Scalar.remsi v742 c4_i32_381
  let c0_i32_386 : BitVec 32 := 0#32
  let v756 : BitVec 1 := Scalar.cmpi .ne v755 c0_i32_386
  let v757 : BitVec 1 := Scalar.andi v754 v756
  let v743 : BitVec 32 := Scalar.divsi v742 c4_i32_381
  let c1_i32_387 : BitVec 32 := 1#32
  let v758 : BitVec 32 := Scalar.subi v743 c1_i32_387
  let v759 : BitVec 32 := Scalar.select v757 v758 v743
  let c8_i32_403 : BitVec 32 := 8#32
  let v786 : BitVec 32 := Scalar.muli v759 c8_i32_403
  let c2_i32_400 : BitVec 32 := 2#32
  let c4_i32_388 : BitVec 32 := 4#32
  let c0_i32_389 : BitVec 32 := 0#32
  let v760 : BitVec 1 := Scalar.cmpi .eq c4_i32_388 c0_i32_389
  let c1_i32_390 : BitVec 32 := 1#32
  let v761 : BitVec 32 := Scalar.select v760 c1_i32_390 c4_i32_388
  let v762 : BitVec 32 := Scalar.remsi v742 v761
  let c0_i32_392 : BitVec 32 := 0#32
  let v764 : BitVec 1 := Scalar.cmpi .slt v762 c0_i32_392
  let c0_i32_393 : BitVec 32 := 0#32
  let v765 : BitVec 1 := Scalar.cmpi .slt v761 c0_i32_393
  let v766 : BitVec 1 := Scalar.xori v764 v765
  let c0_i32_391 : BitVec 32 := 0#32
  let v763 : BitVec 1 := Scalar.cmpi .ne v762 c0_i32_391
  let v767 : BitVec 1 := Scalar.andi v766 v763
  let v768 : BitVec 32 := Scalar.addi v762 v761
  let v769 : BitVec 32 := Scalar.select v767 v768 v762
  let v780 : BitVec 32 := Scalar.muli c2_i32_400 v769
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v781 : BitVec 32 := Scalar.addi v780 v94
  let c2_i32_394 : BitVec 32 := 2#32
  let c0_i32_395 : BitVec 32 := 0#32
  let v770 : BitVec 1 := Scalar.cmpi .eq c2_i32_394 c0_i32_395
  let c1_i32_396 : BitVec 32 := 1#32
  let v771 : BitVec 32 := Scalar.select v770 c1_i32_396 c2_i32_394
  let v772 : BitVec 32 := Scalar.remsi v769 v771
  let c0_i32_398 : BitVec 32 := 0#32
  let v774 : BitVec 1 := Scalar.cmpi .slt v772 c0_i32_398
  let c0_i32_399 : BitVec 32 := 0#32
  let v775 : BitVec 1 := Scalar.cmpi .slt v771 c0_i32_399
  let v776 : BitVec 1 := Scalar.xori v774 v775
  let c0_i32_397 : BitVec 32 := 0#32
  let v773 : BitVec 1 := Scalar.cmpi .ne v772 c0_i32_397
  let v777 : BitVec 1 := Scalar.andi v776 v773
  let v778 : BitVec 32 := Scalar.addi v772 v771
  let v779 : BitVec 32 := Scalar.select v777 v778 v772
  let c1_i32_402 : BitVec 32 := 1#32
  let c2_i32_401 : BitVec 32 := 2#32
  let v782 : BitVec 32 := Scalar.muli c2_i32_401 v94
  let v783 : BitVec 32 := Scalar.subi c1_i32_402 v782
  let v784 : BitVec 32 := Scalar.muli v779 v783
  let v785 : BitVec 32 := Scalar.addi v781 v784
  let v787 : BitVec 32 := Scalar.addi v786 v785
  let c1_i32_528 : BitVec 32 := 1#32
  let v980 : BitVec 32 := Scalar.muli v787 c1_i32_528
  let v981 : BitVec 32 := Scalar.addi c0_i32_529 v980
  v981.toNat
def k0_dev14 (d0 : Dev nD) : Nat :=
  let c0_i32_532 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c13_i32 : BitVec 32 := 13#32
  let v788 : BitVec 32 := Scalar.addi v96 c13_i32
  let c16_i32_404 : BitVec 32 := 16#32
  let c0_i32_405 : BitVec 32 := 0#32
  let v789 : BitVec 1 := Scalar.cmpi .eq c16_i32_404 c0_i32_405
  let c1_i32_406 : BitVec 32 := 1#32
  let v790 : BitVec 32 := Scalar.select v789 c1_i32_406 c16_i32_404
  let v791 : BitVec 32 := Scalar.remsi v788 v790
  let c0_i32_408 : BitVec 32 := 0#32
  let v793 : BitVec 1 := Scalar.cmpi .slt v791 c0_i32_408
  let c0_i32_409 : BitVec 32 := 0#32
  let v794 : BitVec 1 := Scalar.cmpi .slt v790 c0_i32_409
  let v795 : BitVec 1 := Scalar.xori v793 v794
  let c0_i32_407 : BitVec 32 := 0#32
  let v792 : BitVec 1 := Scalar.cmpi .ne v791 c0_i32_407
  let v796 : BitVec 1 := Scalar.andi v795 v792
  let v797 : BitVec 32 := Scalar.addi v791 v790
  let v798 : BitVec 32 := Scalar.select v796 v797 v791
  let c0_i32_411 : BitVec 32 := 0#32
  let v800 : BitVec 1 := Scalar.cmpi .sgt v798 c0_i32_411
  let v801 : BitVec 32 := Scalar.extui v800
  let c0_i32_412 : BitVec 32 := 0#32
  let v802 : BitVec 1 := Scalar.cmpi .slt v798 c0_i32_412
  let v803 : BitVec 32 := Scalar.extui v802
  let v804 : BitVec 32 := Scalar.subi v801 v803
  let c4_i32_410 : BitVec 32 := 4#32
  let c0_i32_413 : BitVec 32 := 0#32
  let v805 : BitVec 1 := Scalar.cmpi .sgt c4_i32_410 c0_i32_413
  let v806 : BitVec 32 := Scalar.extui v805
  let c0_i32_414 : BitVec 32 := 0#32
  let v807 : BitVec 1 := Scalar.cmpi .slt c4_i32_410 c0_i32_414
  let v808 : BitVec 32 := Scalar.extui v807
  let v809 : BitVec 32 := Scalar.subi v806 v808
  let v810 : BitVec 1 := Scalar.cmpi .ne v804 v809
  let v811 : BitVec 32 := Scalar.remsi v798 c4_i32_410
  let c0_i32_415 : BitVec 32 := 0#32
  let v812 : BitVec 1 := Scalar.cmpi .ne v811 c0_i32_415
  let v813 : BitVec 1 := Scalar.andi v810 v812
  let v799 : BitVec 32 := Scalar.divsi v798 c4_i32_410
  let c1_i32_416 : BitVec 32 := 1#32
  let v814 : BitVec 32 := Scalar.subi v799 c1_i32_416
  let v815 : BitVec 32 := Scalar.select v813 v814 v799
  let c8_i32_432 : BitVec 32 := 8#32
  let v842 : BitVec 32 := Scalar.muli v815 c8_i32_432
  let c2_i32_429 : BitVec 32 := 2#32
  let c4_i32_417 : BitVec 32 := 4#32
  let c0_i32_418 : BitVec 32 := 0#32
  let v816 : BitVec 1 := Scalar.cmpi .eq c4_i32_417 c0_i32_418
  let c1_i32_419 : BitVec 32 := 1#32
  let v817 : BitVec 32 := Scalar.select v816 c1_i32_419 c4_i32_417
  let v818 : BitVec 32 := Scalar.remsi v798 v817
  let c0_i32_421 : BitVec 32 := 0#32
  let v820 : BitVec 1 := Scalar.cmpi .slt v818 c0_i32_421
  let c0_i32_422 : BitVec 32 := 0#32
  let v821 : BitVec 1 := Scalar.cmpi .slt v817 c0_i32_422
  let v822 : BitVec 1 := Scalar.xori v820 v821
  let c0_i32_420 : BitVec 32 := 0#32
  let v819 : BitVec 1 := Scalar.cmpi .ne v818 c0_i32_420
  let v823 : BitVec 1 := Scalar.andi v822 v819
  let v824 : BitVec 32 := Scalar.addi v818 v817
  let v825 : BitVec 32 := Scalar.select v823 v824 v818
  let v836 : BitVec 32 := Scalar.muli c2_i32_429 v825
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v837 : BitVec 32 := Scalar.addi v836 v94
  let c2_i32_423 : BitVec 32 := 2#32
  let c0_i32_424 : BitVec 32 := 0#32
  let v826 : BitVec 1 := Scalar.cmpi .eq c2_i32_423 c0_i32_424
  let c1_i32_425 : BitVec 32 := 1#32
  let v827 : BitVec 32 := Scalar.select v826 c1_i32_425 c2_i32_423
  let v828 : BitVec 32 := Scalar.remsi v825 v827
  let c0_i32_427 : BitVec 32 := 0#32
  let v830 : BitVec 1 := Scalar.cmpi .slt v828 c0_i32_427
  let c0_i32_428 : BitVec 32 := 0#32
  let v831 : BitVec 1 := Scalar.cmpi .slt v827 c0_i32_428
  let v832 : BitVec 1 := Scalar.xori v830 v831
  let c0_i32_426 : BitVec 32 := 0#32
  let v829 : BitVec 1 := Scalar.cmpi .ne v828 c0_i32_426
  let v833 : BitVec 1 := Scalar.andi v832 v829
  let v834 : BitVec 32 := Scalar.addi v828 v827
  let v835 : BitVec 32 := Scalar.select v833 v834 v828
  let c1_i32_431 : BitVec 32 := 1#32
  let c2_i32_430 : BitVec 32 := 2#32
  let v838 : BitVec 32 := Scalar.muli c2_i32_430 v94
  let v839 : BitVec 32 := Scalar.subi c1_i32_431 v838
  let v840 : BitVec 32 := Scalar.muli v835 v839
  let v841 : BitVec 32 := Scalar.addi v837 v840
  let v843 : BitVec 32 := Scalar.addi v842 v841
  let c1_i32_531 : BitVec 32 := 1#32
  let v982 : BitVec 32 := Scalar.muli v843 c1_i32_531
  let v983 : BitVec 32 := Scalar.addi c0_i32_532 v982
  v983.toNat
def k0_dev15 (d0 : Dev nD) : Nat :=
  let c0_i32_535 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c14_i32 : BitVec 32 := 14#32
  let v844 : BitVec 32 := Scalar.addi v96 c14_i32
  let c16_i32_433 : BitVec 32 := 16#32
  let c0_i32_434 : BitVec 32 := 0#32
  let v845 : BitVec 1 := Scalar.cmpi .eq c16_i32_433 c0_i32_434
  let c1_i32_435 : BitVec 32 := 1#32
  let v846 : BitVec 32 := Scalar.select v845 c1_i32_435 c16_i32_433
  let v847 : BitVec 32 := Scalar.remsi v844 v846
  let c0_i32_437 : BitVec 32 := 0#32
  let v849 : BitVec 1 := Scalar.cmpi .slt v847 c0_i32_437
  let c0_i32_438 : BitVec 32 := 0#32
  let v850 : BitVec 1 := Scalar.cmpi .slt v846 c0_i32_438
  let v851 : BitVec 1 := Scalar.xori v849 v850
  let c0_i32_436 : BitVec 32 := 0#32
  let v848 : BitVec 1 := Scalar.cmpi .ne v847 c0_i32_436
  let v852 : BitVec 1 := Scalar.andi v851 v848
  let v853 : BitVec 32 := Scalar.addi v847 v846
  let v854 : BitVec 32 := Scalar.select v852 v853 v847
  let c0_i32_440 : BitVec 32 := 0#32
  let v856 : BitVec 1 := Scalar.cmpi .sgt v854 c0_i32_440
  let v857 : BitVec 32 := Scalar.extui v856
  let c0_i32_441 : BitVec 32 := 0#32
  let v858 : BitVec 1 := Scalar.cmpi .slt v854 c0_i32_441
  let v859 : BitVec 32 := Scalar.extui v858
  let v860 : BitVec 32 := Scalar.subi v857 v859
  let c4_i32_439 : BitVec 32 := 4#32
  let c0_i32_442 : BitVec 32 := 0#32
  let v861 : BitVec 1 := Scalar.cmpi .sgt c4_i32_439 c0_i32_442
  let v862 : BitVec 32 := Scalar.extui v861
  let c0_i32_443 : BitVec 32 := 0#32
  let v863 : BitVec 1 := Scalar.cmpi .slt c4_i32_439 c0_i32_443
  let v864 : BitVec 32 := Scalar.extui v863
  let v865 : BitVec 32 := Scalar.subi v862 v864
  let v866 : BitVec 1 := Scalar.cmpi .ne v860 v865
  let v867 : BitVec 32 := Scalar.remsi v854 c4_i32_439
  let c0_i32_444 : BitVec 32 := 0#32
  let v868 : BitVec 1 := Scalar.cmpi .ne v867 c0_i32_444
  let v869 : BitVec 1 := Scalar.andi v866 v868
  let v855 : BitVec 32 := Scalar.divsi v854 c4_i32_439
  let c1_i32_445 : BitVec 32 := 1#32
  let v870 : BitVec 32 := Scalar.subi v855 c1_i32_445
  let v871 : BitVec 32 := Scalar.select v869 v870 v855
  let c8_i32_461 : BitVec 32 := 8#32
  let v898 : BitVec 32 := Scalar.muli v871 c8_i32_461
  let c2_i32_458 : BitVec 32 := 2#32
  let c4_i32_446 : BitVec 32 := 4#32
  let c0_i32_447 : BitVec 32 := 0#32
  let v872 : BitVec 1 := Scalar.cmpi .eq c4_i32_446 c0_i32_447
  let c1_i32_448 : BitVec 32 := 1#32
  let v873 : BitVec 32 := Scalar.select v872 c1_i32_448 c4_i32_446
  let v874 : BitVec 32 := Scalar.remsi v854 v873
  let c0_i32_450 : BitVec 32 := 0#32
  let v876 : BitVec 1 := Scalar.cmpi .slt v874 c0_i32_450
  let c0_i32_451 : BitVec 32 := 0#32
  let v877 : BitVec 1 := Scalar.cmpi .slt v873 c0_i32_451
  let v878 : BitVec 1 := Scalar.xori v876 v877
  let c0_i32_449 : BitVec 32 := 0#32
  let v875 : BitVec 1 := Scalar.cmpi .ne v874 c0_i32_449
  let v879 : BitVec 1 := Scalar.andi v878 v875
  let v880 : BitVec 32 := Scalar.addi v874 v873
  let v881 : BitVec 32 := Scalar.select v879 v880 v874
  let v892 : BitVec 32 := Scalar.muli c2_i32_458 v881
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v893 : BitVec 32 := Scalar.addi v892 v94
  let c2_i32_452 : BitVec 32 := 2#32
  let c0_i32_453 : BitVec 32 := 0#32
  let v882 : BitVec 1 := Scalar.cmpi .eq c2_i32_452 c0_i32_453
  let c1_i32_454 : BitVec 32 := 1#32
  let v883 : BitVec 32 := Scalar.select v882 c1_i32_454 c2_i32_452
  let v884 : BitVec 32 := Scalar.remsi v881 v883
  let c0_i32_456 : BitVec 32 := 0#32
  let v886 : BitVec 1 := Scalar.cmpi .slt v884 c0_i32_456
  let c0_i32_457 : BitVec 32 := 0#32
  let v887 : BitVec 1 := Scalar.cmpi .slt v883 c0_i32_457
  let v888 : BitVec 1 := Scalar.xori v886 v887
  let c0_i32_455 : BitVec 32 := 0#32
  let v885 : BitVec 1 := Scalar.cmpi .ne v884 c0_i32_455
  let v889 : BitVec 1 := Scalar.andi v888 v885
  let v890 : BitVec 32 := Scalar.addi v884 v883
  let v891 : BitVec 32 := Scalar.select v889 v890 v884
  let c1_i32_460 : BitVec 32 := 1#32
  let c2_i32_459 : BitVec 32 := 2#32
  let v894 : BitVec 32 := Scalar.muli c2_i32_459 v94
  let v895 : BitVec 32 := Scalar.subi c1_i32_460 v894
  let v896 : BitVec 32 := Scalar.muli v891 v895
  let v897 : BitVec 32 := Scalar.addi v893 v896
  let v899 : BitVec 32 := Scalar.addi v898 v897
  let c1_i32_534 : BitVec 32 := 1#32
  let v984 : BitVec 32 := Scalar.muli v899 c1_i32_534
  let v985 : BitVec 32 := Scalar.addi c0_i32_535 v984
  v985.toNat
def k0_dev16 (d0 : Dev nD) : Nat :=
  let c0_i32_538 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c15_i32 : BitVec 32 := 15#32
  let v900 : BitVec 32 := Scalar.addi v96 c15_i32
  let c16_i32_462 : BitVec 32 := 16#32
  let c0_i32_463 : BitVec 32 := 0#32
  let v901 : BitVec 1 := Scalar.cmpi .eq c16_i32_462 c0_i32_463
  let c1_i32_464 : BitVec 32 := 1#32
  let v902 : BitVec 32 := Scalar.select v901 c1_i32_464 c16_i32_462
  let v903 : BitVec 32 := Scalar.remsi v900 v902
  let c0_i32_466 : BitVec 32 := 0#32
  let v905 : BitVec 1 := Scalar.cmpi .slt v903 c0_i32_466
  let c0_i32_467 : BitVec 32 := 0#32
  let v906 : BitVec 1 := Scalar.cmpi .slt v902 c0_i32_467
  let v907 : BitVec 1 := Scalar.xori v905 v906
  let c0_i32_465 : BitVec 32 := 0#32
  let v904 : BitVec 1 := Scalar.cmpi .ne v903 c0_i32_465
  let v908 : BitVec 1 := Scalar.andi v907 v904
  let v909 : BitVec 32 := Scalar.addi v903 v902
  let v910 : BitVec 32 := Scalar.select v908 v909 v903
  let c0_i32_469 : BitVec 32 := 0#32
  let v912 : BitVec 1 := Scalar.cmpi .sgt v910 c0_i32_469
  let v913 : BitVec 32 := Scalar.extui v912
  let c0_i32_470 : BitVec 32 := 0#32
  let v914 : BitVec 1 := Scalar.cmpi .slt v910 c0_i32_470
  let v915 : BitVec 32 := Scalar.extui v914
  let v916 : BitVec 32 := Scalar.subi v913 v915
  let c4_i32_468 : BitVec 32 := 4#32
  let c0_i32_471 : BitVec 32 := 0#32
  let v917 : BitVec 1 := Scalar.cmpi .sgt c4_i32_468 c0_i32_471
  let v918 : BitVec 32 := Scalar.extui v917
  let c0_i32_472 : BitVec 32 := 0#32
  let v919 : BitVec 1 := Scalar.cmpi .slt c4_i32_468 c0_i32_472
  let v920 : BitVec 32 := Scalar.extui v919
  let v921 : BitVec 32 := Scalar.subi v918 v920
  let v922 : BitVec 1 := Scalar.cmpi .ne v916 v921
  let v923 : BitVec 32 := Scalar.remsi v910 c4_i32_468
  let c0_i32_473 : BitVec 32 := 0#32
  let v924 : BitVec 1 := Scalar.cmpi .ne v923 c0_i32_473
  let v925 : BitVec 1 := Scalar.andi v922 v924
  let v911 : BitVec 32 := Scalar.divsi v910 c4_i32_468
  let c1_i32_474 : BitVec 32 := 1#32
  let v926 : BitVec 32 := Scalar.subi v911 c1_i32_474
  let v927 : BitVec 32 := Scalar.select v925 v926 v911
  let c8_i32_490 : BitVec 32 := 8#32
  let v954 : BitVec 32 := Scalar.muli v927 c8_i32_490
  let c2_i32_487 : BitVec 32 := 2#32
  let c4_i32_475 : BitVec 32 := 4#32
  let c0_i32_476 : BitVec 32 := 0#32
  let v928 : BitVec 1 := Scalar.cmpi .eq c4_i32_475 c0_i32_476
  let c1_i32_477 : BitVec 32 := 1#32
  let v929 : BitVec 32 := Scalar.select v928 c1_i32_477 c4_i32_475
  let v930 : BitVec 32 := Scalar.remsi v910 v929
  let c0_i32_479 : BitVec 32 := 0#32
  let v932 : BitVec 1 := Scalar.cmpi .slt v930 c0_i32_479
  let c0_i32_480 : BitVec 32 := 0#32
  let v933 : BitVec 1 := Scalar.cmpi .slt v929 c0_i32_480
  let v934 : BitVec 1 := Scalar.xori v932 v933
  let c0_i32_478 : BitVec 32 := 0#32
  let v931 : BitVec 1 := Scalar.cmpi .ne v930 c0_i32_478
  let v935 : BitVec 1 := Scalar.andi v934 v931
  let v936 : BitVec 32 := Scalar.addi v930 v929
  let v937 : BitVec 32 := Scalar.select v935 v936 v930
  let v948 : BitVec 32 := Scalar.muli c2_i32_487 v937
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v949 : BitVec 32 := Scalar.addi v948 v94
  let c2_i32_481 : BitVec 32 := 2#32
  let c0_i32_482 : BitVec 32 := 0#32
  let v938 : BitVec 1 := Scalar.cmpi .eq c2_i32_481 c0_i32_482
  let c1_i32_483 : BitVec 32 := 1#32
  let v939 : BitVec 32 := Scalar.select v938 c1_i32_483 c2_i32_481
  let v940 : BitVec 32 := Scalar.remsi v937 v939
  let c0_i32_485 : BitVec 32 := 0#32
  let v942 : BitVec 1 := Scalar.cmpi .slt v940 c0_i32_485
  let c0_i32_486 : BitVec 32 := 0#32
  let v943 : BitVec 1 := Scalar.cmpi .slt v939 c0_i32_486
  let v944 : BitVec 1 := Scalar.xori v942 v943
  let c0_i32_484 : BitVec 32 := 0#32
  let v941 : BitVec 1 := Scalar.cmpi .ne v940 c0_i32_484
  let v945 : BitVec 1 := Scalar.andi v944 v941
  let v946 : BitVec 32 := Scalar.addi v940 v939
  let v947 : BitVec 32 := Scalar.select v945 v946 v940
  let c1_i32_489 : BitVec 32 := 1#32
  let c2_i32_488 : BitVec 32 := 2#32
  let v950 : BitVec 32 := Scalar.muli c2_i32_488 v94
  let v951 : BitVec 32 := Scalar.subi c1_i32_489 v950
  let v952 : BitVec 32 := Scalar.muli v947 v951
  let v953 : BitVec 32 := Scalar.addi v949 v952
  let v955 : BitVec 32 := Scalar.addi v954 v953
  let c1_i32_537 : BitVec 32 := 1#32
  let v986 : BitVec 32 := Scalar.muli v955 c1_i32_537
  let v987 : BitVec 32 := Scalar.addi c0_i32_538 v986
  v987.toNat
def k0_off1 (d0 : Dev nD) : Fin 2 → Nat :=
  let c1_i32_42 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v98 : BitVec 32 := Scalar.subi c1_i32_42 v94
  let c512_i32_43 : BitVec 32 := 512#32
  let v99 : BitVec 32 := Scalar.muli v98 c512_i32_43
  let v990 : Index := Scalar.indexCast v99
  let c0_540 : Index := 0#32
  ![v990.toNat, 0]
def k0_off2 (d0 : Dev nD) : Fin 2 → Nat :=
  let c1_i32_42 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v98 : BitVec 32 := Scalar.subi c1_i32_42 v94
  let c512_i32_43 : BitVec 32 := 512#32
  let v99 : BitVec 32 := Scalar.muli v98 c512_i32_43
  let v995 : Index := Scalar.indexCast v99
  let c0_541 : Index := 0#32
  ![v995.toNat, 0]
def k0_off3 (d0 : Dev nD) : Fin 2 → Nat :=
  let c1_i32_42 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v98 : BitVec 32 := Scalar.subi c1_i32_42 v94
  let c512_i32_43 : BitVec 32 := 512#32
  let v99 : BitVec 32 := Scalar.muli v98 c512_i32_43
  let c0_i32_549 : BitVec 32 := 0#32
  ![v99.toNat, 0]
def k0_dev17 (d0 : Dev nD) : Nat :=
  let c0_i32_546 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_44 : BitVec 32 := 8#32
  let v100 : BitVec 32 := Scalar.muli v19 c8_i32_44
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v101 : BitVec 32 := Scalar.addi v100 v29
  let c1_i32_45 : BitVec 32 := 1#32
  let v102 : BitVec 32 := Scalar.addi v101 c1_i32_45
  let c2_i32_52 : BitVec 32 := 2#32
  let c2_i32_46 : BitVec 32 := 2#32
  let c0_i32_47 : BitVec 32 := 0#32
  let v103 : BitVec 1 := Scalar.cmpi .eq c2_i32_46 c0_i32_47
  let c1_i32_48 : BitVec 32 := 1#32
  let v104 : BitVec 32 := Scalar.select v103 c1_i32_48 c2_i32_46
  let v105 : BitVec 32 := Scalar.remsi v29 v104
  let c0_i32_50 : BitVec 32 := 0#32
  let v107 : BitVec 1 := Scalar.cmpi .slt v105 c0_i32_50
  let c0_i32_51 : BitVec 32 := 0#32
  let v108 : BitVec 1 := Scalar.cmpi .slt v104 c0_i32_51
  let v109 : BitVec 1 := Scalar.xori v107 v108
  let c0_i32_49 : BitVec 32 := 0#32
  let v106 : BitVec 1 := Scalar.cmpi .ne v105 c0_i32_49
  let v110 : BitVec 1 := Scalar.andi v109 v106
  let v111 : BitVec 32 := Scalar.addi v105 v104
  let v112 : BitVec 32 := Scalar.select v110 v111 v105
  let v113 : BitVec 32 := Scalar.muli c2_i32_52 v112
  let v114 : BitVec 32 := Scalar.subi v102 v113
  let c1_i32_545 : BitVec 32 := 1#32
  let v999 : BitVec 32 := Scalar.muli v114 c1_i32_545
  let v1000 : BitVec 32 := Scalar.addi c0_i32_546 v999
  v1000.toNat
def k0_off4 (d0 : Dev nD) : Fin 2 → Nat :=
  let c1_i32_42 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v98 : BitVec 32 := Scalar.subi c1_i32_42 v94
  let c512_i32_43 : BitVec 32 := 512#32
  let v99 : BitVec 32 := Scalar.muli v98 c512_i32_43
  let c256_i32_555 : BitVec 32 := 256#32
  ![v99.toNat, 256]
def k0_dev18 (d0 : Dev nD) : Nat :=
  let c0_i32_553 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_44 : BitVec 32 := 8#32
  let v100 : BitVec 32 := Scalar.muli v19 c8_i32_44
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v101 : BitVec 32 := Scalar.addi v100 v29
  let c1_i32_45 : BitVec 32 := 1#32
  let v102 : BitVec 32 := Scalar.addi v101 c1_i32_45
  let c2_i32_52 : BitVec 32 := 2#32
  let c2_i32_46 : BitVec 32 := 2#32
  let c0_i32_47 : BitVec 32 := 0#32
  let v103 : BitVec 1 := Scalar.cmpi .eq c2_i32_46 c0_i32_47
  let c1_i32_48 : BitVec 32 := 1#32
  let v104 : BitVec 32 := Scalar.select v103 c1_i32_48 c2_i32_46
  let v105 : BitVec 32 := Scalar.remsi v29 v104
  let c0_i32_50 : BitVec 32 := 0#32
  let v107 : BitVec 1 := Scalar.cmpi .slt v105 c0_i32_50
  let c0_i32_51 : BitVec 32 := 0#32
  let v108 : BitVec 1 := Scalar.cmpi .slt v104 c0_i32_51
  let v109 : BitVec 1 := Scalar.xori v107 v108
  let c0_i32_49 : BitVec 32 := 0#32
  let v106 : BitVec 1 := Scalar.cmpi .ne v105 c0_i32_49
  let v110 : BitVec 1 := Scalar.andi v109 v106
  let v111 : BitVec 32 := Scalar.addi v105 v104
  let v112 : BitVec 32 := Scalar.select v110 v111 v105
  let v113 : BitVec 32 := Scalar.muli c2_i32_52 v112
  let v114 : BitVec 32 := Scalar.subi v102 v113
  let c1_i32_552 : BitVec 32 := 1#32
  let v1007 : BitVec 32 := Scalar.muli v114 c1_i32_552
  let v1008 : BitVec 32 := Scalar.addi c0_i32_553 v1007
  v1008.toNat
def k0_off5 (d0 : Dev nD) : Fin 2 → Nat :=
  let c1_i32_42 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v98 : BitVec 32 := Scalar.subi c1_i32_42 v94
  let c512_i32_43 : BitVec 32 := 512#32
  let v99 : BitVec 32 := Scalar.muli v98 c512_i32_43
  let c512_i32_562 : BitVec 32 := 512#32
  ![v99.toNat, 512]
def k0_dev19 (d0 : Dev nD) : Nat :=
  let c0_i32_559 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_44 : BitVec 32 := 8#32
  let v100 : BitVec 32 := Scalar.muli v19 c8_i32_44
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v101 : BitVec 32 := Scalar.addi v100 v29
  let c1_i32_45 : BitVec 32 := 1#32
  let v102 : BitVec 32 := Scalar.addi v101 c1_i32_45
  let c2_i32_52 : BitVec 32 := 2#32
  let c2_i32_46 : BitVec 32 := 2#32
  let c0_i32_47 : BitVec 32 := 0#32
  let v103 : BitVec 1 := Scalar.cmpi .eq c2_i32_46 c0_i32_47
  let c1_i32_48 : BitVec 32 := 1#32
  let v104 : BitVec 32 := Scalar.select v103 c1_i32_48 c2_i32_46
  let v105 : BitVec 32 := Scalar.remsi v29 v104
  let c0_i32_50 : BitVec 32 := 0#32
  let v107 : BitVec 1 := Scalar.cmpi .slt v105 c0_i32_50
  let c0_i32_51 : BitVec 32 := 0#32
  let v108 : BitVec 1 := Scalar.cmpi .slt v104 c0_i32_51
  let v109 : BitVec 1 := Scalar.xori v107 v108
  let c0_i32_49 : BitVec 32 := 0#32
  let v106 : BitVec 1 := Scalar.cmpi .ne v105 c0_i32_49
  let v110 : BitVec 1 := Scalar.andi v109 v106
  let v111 : BitVec 32 := Scalar.addi v105 v104
  let v112 : BitVec 32 := Scalar.select v110 v111 v105
  let v113 : BitVec 32 := Scalar.muli c2_i32_52 v112
  let v114 : BitVec 32 := Scalar.subi v102 v113
  let c1_i32_558 : BitVec 32 := 1#32
  let v1015 : BitVec 32 := Scalar.muli v114 c1_i32_558
  let v1016 : BitVec 32 := Scalar.addi c0_i32_559 v1015
  v1016.toNat
def k0_off6 (d0 : Dev nD) : Fin 2 → Nat :=
  let c1_i32_42 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v98 : BitVec 32 := Scalar.subi c1_i32_42 v94
  let c512_i32_43 : BitVec 32 := 512#32
  let v99 : BitVec 32 := Scalar.muli v98 c512_i32_43
  let c768_i32_568 : BitVec 32 := 768#32
  ![v99.toNat, 768]
def k0_dev20 (d0 : Dev nD) : Nat :=
  let c0_i32_566 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_44 : BitVec 32 := 8#32
  let v100 : BitVec 32 := Scalar.muli v19 c8_i32_44
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v101 : BitVec 32 := Scalar.addi v100 v29
  let c1_i32_45 : BitVec 32 := 1#32
  let v102 : BitVec 32 := Scalar.addi v101 c1_i32_45
  let c2_i32_52 : BitVec 32 := 2#32
  let c2_i32_46 : BitVec 32 := 2#32
  let c0_i32_47 : BitVec 32 := 0#32
  let v103 : BitVec 1 := Scalar.cmpi .eq c2_i32_46 c0_i32_47
  let c1_i32_48 : BitVec 32 := 1#32
  let v104 : BitVec 32 := Scalar.select v103 c1_i32_48 c2_i32_46
  let v105 : BitVec 32 := Scalar.remsi v29 v104
  let c0_i32_50 : BitVec 32 := 0#32
  let v107 : BitVec 1 := Scalar.cmpi .slt v105 c0_i32_50
  let c0_i32_51 : BitVec 32 := 0#32
  let v108 : BitVec 1 := Scalar.cmpi .slt v104 c0_i32_51
  let v109 : BitVec 1 := Scalar.xori v107 v108
  let c0_i32_49 : BitVec 32 := 0#32
  let v106 : BitVec 1 := Scalar.cmpi .ne v105 c0_i32_49
  let v110 : BitVec 1 := Scalar.andi v109 v106
  let v111 : BitVec 32 := Scalar.addi v105 v104
  let v112 : BitVec 32 := Scalar.select v110 v111 v105
  let v113 : BitVec 32 := Scalar.muli c2_i32_52 v112
  let v114 : BitVec 32 := Scalar.subi v102 v113
  let c1_i32_565 : BitVec 32 := 1#32
  let v1023 : BitVec 32 := Scalar.muli v114 c1_i32_565
  let v1024 : BitVec 32 := Scalar.addi c0_i32_566 v1023
  v1024.toNat
def k0_off7 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let c512_i32 : BitVec 32 := 512#32
  let v97 : BitVec 32 := Scalar.muli v94 c512_i32
  let v1031 : Index := Scalar.indexCast v97
  let c0_569 : Index := 0#32
  ![v1031.toNat, 0]
def k0_off8 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let c512_i32 : BitVec 32 := 512#32
  let v97 : BitVec 32 := Scalar.muli v94 c512_i32
  let v1036 : Index := Scalar.indexCast v97
  let c0_571 : Index := 0#32
  ![v1036.toNat, 0]
def k0_off9 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let c512_i32 : BitVec 32 := 512#32
  let v97 : BitVec 32 := Scalar.muli v94 c512_i32
  let v1046 : Index := Scalar.indexCast v97
  let c0_579 : Index := 0#32
  ![v1046.toNat, 0]
def k0_off10 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c32_i32_592 : BitVec 32 := 32#32
  let v1068 : BitVec 32 := Scalar.muli v96 c32_i32_592
  let c0_i32_622 : BitVec 32 := 0#32
  ![v1068.toNat, 0]
def k0_off11 (d0 : Dev nD) (c1_i32_584 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let v1056 : BitVec 32 := Scalar.addi v96 c1_i32_584
  let c16_i32_585 : BitVec 32 := 16#32
  let c0_i32_586 : BitVec 32 := 0#32
  let v1057 : BitVec 1 := Scalar.cmpi .eq c16_i32_585 c0_i32_586
  let c1_i32_587 : BitVec 32 := 1#32
  let v1058 : BitVec 32 := Scalar.select v1057 c1_i32_587 c16_i32_585
  let v1059 : BitVec 32 := Scalar.remsi v1056 v1058
  let c0_i32_589 : BitVec 32 := 0#32
  let v1061 : BitVec 1 := Scalar.cmpi .slt v1059 c0_i32_589
  let c0_i32_590 : BitVec 32 := 0#32
  let v1062 : BitVec 1 := Scalar.cmpi .slt v1058 c0_i32_590
  let v1063 : BitVec 1 := Scalar.xori v1061 v1062
  let c0_i32_588 : BitVec 32 := 0#32
  let v1060 : BitVec 1 := Scalar.cmpi .ne v1059 c0_i32_588
  let v1064 : BitVec 1 := Scalar.andi v1063 v1060
  let v1065 : BitVec 32 := Scalar.addi v1059 v1058
  let v1066 : BitVec 32 := Scalar.select v1064 v1065 v1059
  let c32_i32_591 : BitVec 32 := 32#32
  let v1067 : BitVec 32 := Scalar.muli v1066 c32_i32_591
  let c0_i32_623 : BitVec 32 := 0#32
  ![v1067.toNat, 0]
def k0_dev21 (d0 : Dev nD) : Nat :=
  let c0_i32_621 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c1_i32_584 : BitVec 32 := 1#32
  let v1056 : BitVec 32 := Scalar.addi v96 c1_i32_584
  let c16_i32_585 : BitVec 32 := 16#32
  let c0_i32_586 : BitVec 32 := 0#32
  let v1057 : BitVec 1 := Scalar.cmpi .eq c16_i32_585 c0_i32_586
  let c1_i32_587 : BitVec 32 := 1#32
  let v1058 : BitVec 32 := Scalar.select v1057 c1_i32_587 c16_i32_585
  let v1059 : BitVec 32 := Scalar.remsi v1056 v1058
  let c0_i32_589 : BitVec 32 := 0#32
  let v1061 : BitVec 1 := Scalar.cmpi .slt v1059 c0_i32_589
  let c0_i32_590 : BitVec 32 := 0#32
  let v1062 : BitVec 1 := Scalar.cmpi .slt v1058 c0_i32_590
  let v1063 : BitVec 1 := Scalar.xori v1061 v1062
  let c0_i32_588 : BitVec 32 := 0#32
  let v1060 : BitVec 1 := Scalar.cmpi .ne v1059 c0_i32_588
  let v1064 : BitVec 1 := Scalar.andi v1063 v1060
  let v1065 : BitVec 32 := Scalar.addi v1059 v1058
  let v1066 : BitVec 32 := Scalar.select v1064 v1065 v1059
  let c0_i32_594 : BitVec 32 := 0#32
  let v1070 : BitVec 1 := Scalar.cmpi .sgt v1066 c0_i32_594
  let v1071 : BitVec 32 := Scalar.extui v1070
  let c0_i32_595 : BitVec 32 := 0#32
  let v1072 : BitVec 1 := Scalar.cmpi .slt v1066 c0_i32_595
  let v1073 : BitVec 32 := Scalar.extui v1072
  let v1074 : BitVec 32 := Scalar.subi v1071 v1073
  let c4_i32_593 : BitVec 32 := 4#32
  let c0_i32_596 : BitVec 32 := 0#32
  let v1075 : BitVec 1 := Scalar.cmpi .sgt c4_i32_593 c0_i32_596
  let v1076 : BitVec 32 := Scalar.extui v1075
  let c0_i32_597 : BitVec 32 := 0#32
  let v1077 : BitVec 1 := Scalar.cmpi .slt c4_i32_593 c0_i32_597
  let v1078 : BitVec 32 := Scalar.extui v1077
  let v1079 : BitVec 32 := Scalar.subi v1076 v1078
  let v1080 : BitVec 1 := Scalar.cmpi .ne v1074 v1079
  let v1081 : BitVec 32 := Scalar.remsi v1066 c4_i32_593
  let c0_i32_598 : BitVec 32 := 0#32
  let v1082 : BitVec 1 := Scalar.cmpi .ne v1081 c0_i32_598
  let v1083 : BitVec 1 := Scalar.andi v1080 v1082
  let v1069 : BitVec 32 := Scalar.divsi v1066 c4_i32_593
  let c1_i32_599 : BitVec 32 := 1#32
  let v1084 : BitVec 32 := Scalar.subi v1069 c1_i32_599
  let v1085 : BitVec 32 := Scalar.select v1083 v1084 v1069
  let c8_i32_615 : BitVec 32 := 8#32
  let v1112 : BitVec 32 := Scalar.muli v1085 c8_i32_615
  let c2_i32_612 : BitVec 32 := 2#32
  let c4_i32_600 : BitVec 32 := 4#32
  let c0_i32_601 : BitVec 32 := 0#32
  let v1086 : BitVec 1 := Scalar.cmpi .eq c4_i32_600 c0_i32_601
  let c1_i32_602 : BitVec 32 := 1#32
  let v1087 : BitVec 32 := Scalar.select v1086 c1_i32_602 c4_i32_600
  let v1088 : BitVec 32 := Scalar.remsi v1066 v1087
  let c0_i32_604 : BitVec 32 := 0#32
  let v1090 : BitVec 1 := Scalar.cmpi .slt v1088 c0_i32_604
  let c0_i32_605 : BitVec 32 := 0#32
  let v1091 : BitVec 1 := Scalar.cmpi .slt v1087 c0_i32_605
  let v1092 : BitVec 1 := Scalar.xori v1090 v1091
  let c0_i32_603 : BitVec 32 := 0#32
  let v1089 : BitVec 1 := Scalar.cmpi .ne v1088 c0_i32_603
  let v1093 : BitVec 1 := Scalar.andi v1092 v1089
  let v1094 : BitVec 32 := Scalar.addi v1088 v1087
  let v1095 : BitVec 32 := Scalar.select v1093 v1094 v1088
  let v1106 : BitVec 32 := Scalar.muli c2_i32_612 v1095
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v1107 : BitVec 32 := Scalar.addi v1106 v94
  let c2_i32_606 : BitVec 32 := 2#32
  let c0_i32_607 : BitVec 32 := 0#32
  let v1096 : BitVec 1 := Scalar.cmpi .eq c2_i32_606 c0_i32_607
  let c1_i32_608 : BitVec 32 := 1#32
  let v1097 : BitVec 32 := Scalar.select v1096 c1_i32_608 c2_i32_606
  let v1098 : BitVec 32 := Scalar.remsi v1095 v1097
  let c0_i32_610 : BitVec 32 := 0#32
  let v1100 : BitVec 1 := Scalar.cmpi .slt v1098 c0_i32_610
  let c0_i32_611 : BitVec 32 := 0#32
  let v1101 : BitVec 1 := Scalar.cmpi .slt v1097 c0_i32_611
  let v1102 : BitVec 1 := Scalar.xori v1100 v1101
  let c0_i32_609 : BitVec 32 := 0#32
  let v1099 : BitVec 1 := Scalar.cmpi .ne v1098 c0_i32_609
  let v1103 : BitVec 1 := Scalar.andi v1102 v1099
  let v1104 : BitVec 32 := Scalar.addi v1098 v1097
  let v1105 : BitVec 32 := Scalar.select v1103 v1104 v1098
  let c1_i32_614 : BitVec 32 := 1#32
  let c2_i32_613 : BitVec 32 := 2#32
  let v1108 : BitVec 32 := Scalar.muli c2_i32_613 v94
  let v1109 : BitVec 32 := Scalar.subi c1_i32_614 v1108
  let v1110 : BitVec 32 := Scalar.muli v1105 v1109
  let v1111 : BitVec 32 := Scalar.addi v1107 v1110
  let v1113 : BitVec 32 := Scalar.addi v1112 v1111
  let c1_i32_620 : BitVec 32 := 1#32
  let v1114 : BitVec 32 := Scalar.muli v1113 c1_i32_620
  let v1115 : BitVec 32 := Scalar.addi c0_i32_621 v1114
  v1115.toNat
def k0_dev22 (d0 : Dev nD) : Nat :=
  let c0_i32_661 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c2_i32_624 : BitVec 32 := 2#32
  let v1122 : BitVec 32 := Scalar.addi v96 c2_i32_624
  let c16_i32_625 : BitVec 32 := 16#32
  let c0_i32_626 : BitVec 32 := 0#32
  let v1123 : BitVec 1 := Scalar.cmpi .eq c16_i32_625 c0_i32_626
  let c1_i32_627 : BitVec 32 := 1#32
  let v1124 : BitVec 32 := Scalar.select v1123 c1_i32_627 c16_i32_625
  let v1125 : BitVec 32 := Scalar.remsi v1122 v1124
  let c0_i32_629 : BitVec 32 := 0#32
  let v1127 : BitVec 1 := Scalar.cmpi .slt v1125 c0_i32_629
  let c0_i32_630 : BitVec 32 := 0#32
  let v1128 : BitVec 1 := Scalar.cmpi .slt v1124 c0_i32_630
  let v1129 : BitVec 1 := Scalar.xori v1127 v1128
  let c0_i32_628 : BitVec 32 := 0#32
  let v1126 : BitVec 1 := Scalar.cmpi .ne v1125 c0_i32_628
  let v1130 : BitVec 1 := Scalar.andi v1129 v1126
  let v1131 : BitVec 32 := Scalar.addi v1125 v1124
  let v1132 : BitVec 32 := Scalar.select v1130 v1131 v1125
  let c0_i32_634 : BitVec 32 := 0#32
  let v1136 : BitVec 1 := Scalar.cmpi .sgt v1132 c0_i32_634
  let v1137 : BitVec 32 := Scalar.extui v1136
  let c0_i32_635 : BitVec 32 := 0#32
  let v1138 : BitVec 1 := Scalar.cmpi .slt v1132 c0_i32_635
  let v1139 : BitVec 32 := Scalar.extui v1138
  let v1140 : BitVec 32 := Scalar.subi v1137 v1139
  let c4_i32_633 : BitVec 32 := 4#32
  let c0_i32_636 : BitVec 32 := 0#32
  let v1141 : BitVec 1 := Scalar.cmpi .sgt c4_i32_633 c0_i32_636
  let v1142 : BitVec 32 := Scalar.extui v1141
  let c0_i32_637 : BitVec 32 := 0#32
  let v1143 : BitVec 1 := Scalar.cmpi .slt c4_i32_633 c0_i32_637
  let v1144 : BitVec 32 := Scalar.extui v1143
  let v1145 : BitVec 32 := Scalar.subi v1142 v1144
  let v1146 : BitVec 1 := Scalar.cmpi .ne v1140 v1145
  let v1147 : BitVec 32 := Scalar.remsi v1132 c4_i32_633
  let c0_i32_638 : BitVec 32 := 0#32
  let v1148 : BitVec 1 := Scalar.cmpi .ne v1147 c0_i32_638
  let v1149 : BitVec 1 := Scalar.andi v1146 v1148
  let v1135 : BitVec 32 := Scalar.divsi v1132 c4_i32_633
  let c1_i32_639 : BitVec 32 := 1#32
  let v1150 : BitVec 32 := Scalar.subi v1135 c1_i32_639
  let v1151 : BitVec 32 := Scalar.select v1149 v1150 v1135
  let c8_i32_655 : BitVec 32 := 8#32
  let v1178 : BitVec 32 := Scalar.muli v1151 c8_i32_655
  let c2_i32_652 : BitVec 32 := 2#32
  let c4_i32_640 : BitVec 32 := 4#32
  let c0_i32_641 : BitVec 32 := 0#32
  let v1152 : BitVec 1 := Scalar.cmpi .eq c4_i32_640 c0_i32_641
  let c1_i32_642 : BitVec 32 := 1#32
  let v1153 : BitVec 32 := Scalar.select v1152 c1_i32_642 c4_i32_640
  let v1154 : BitVec 32 := Scalar.remsi v1132 v1153
  let c0_i32_644 : BitVec 32 := 0#32
  let v1156 : BitVec 1 := Scalar.cmpi .slt v1154 c0_i32_644
  let c0_i32_645 : BitVec 32 := 0#32
  let v1157 : BitVec 1 := Scalar.cmpi .slt v1153 c0_i32_645
  let v1158 : BitVec 1 := Scalar.xori v1156 v1157
  let c0_i32_643 : BitVec 32 := 0#32
  let v1155 : BitVec 1 := Scalar.cmpi .ne v1154 c0_i32_643
  let v1159 : BitVec 1 := Scalar.andi v1158 v1155
  let v1160 : BitVec 32 := Scalar.addi v1154 v1153
  let v1161 : BitVec 32 := Scalar.select v1159 v1160 v1154
  let v1172 : BitVec 32 := Scalar.muli c2_i32_652 v1161
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v1173 : BitVec 32 := Scalar.addi v1172 v94
  let c2_i32_646 : BitVec 32 := 2#32
  let c0_i32_647 : BitVec 32 := 0#32
  let v1162 : BitVec 1 := Scalar.cmpi .eq c2_i32_646 c0_i32_647
  let c1_i32_648 : BitVec 32 := 1#32
  let v1163 : BitVec 32 := Scalar.select v1162 c1_i32_648 c2_i32_646
  let v1164 : BitVec 32 := Scalar.remsi v1161 v1163
  let c0_i32_650 : BitVec 32 := 0#32
  let v1166 : BitVec 1 := Scalar.cmpi .slt v1164 c0_i32_650
  let c0_i32_651 : BitVec 32 := 0#32
  let v1167 : BitVec 1 := Scalar.cmpi .slt v1163 c0_i32_651
  let v1168 : BitVec 1 := Scalar.xori v1166 v1167
  let c0_i32_649 : BitVec 32 := 0#32
  let v1165 : BitVec 1 := Scalar.cmpi .ne v1164 c0_i32_649
  let v1169 : BitVec 1 := Scalar.andi v1168 v1165
  let v1170 : BitVec 32 := Scalar.addi v1164 v1163
  let v1171 : BitVec 32 := Scalar.select v1169 v1170 v1164
  let c1_i32_654 : BitVec 32 := 1#32
  let c2_i32_653 : BitVec 32 := 2#32
  let v1174 : BitVec 32 := Scalar.muli c2_i32_653 v94
  let v1175 : BitVec 32 := Scalar.subi c1_i32_654 v1174
  let v1176 : BitVec 32 := Scalar.muli v1171 v1175
  let v1177 : BitVec 32 := Scalar.addi v1173 v1176
  let v1179 : BitVec 32 := Scalar.addi v1178 v1177
  let c1_i32_660 : BitVec 32 := 1#32
  let v1180 : BitVec 32 := Scalar.muli v1179 c1_i32_660
  let v1181 : BitVec 32 := Scalar.addi c0_i32_661 v1180
  v1181.toNat
def k0_dev23 (d0 : Dev nD) : Nat :=
  let c0_i32_701 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c3_i32_664 : BitVec 32 := 3#32
  let v1188 : BitVec 32 := Scalar.addi v96 c3_i32_664
  let c16_i32_665 : BitVec 32 := 16#32
  let c0_i32_666 : BitVec 32 := 0#32
  let v1189 : BitVec 1 := Scalar.cmpi .eq c16_i32_665 c0_i32_666
  let c1_i32_667 : BitVec 32 := 1#32
  let v1190 : BitVec 32 := Scalar.select v1189 c1_i32_667 c16_i32_665
  let v1191 : BitVec 32 := Scalar.remsi v1188 v1190
  let c0_i32_669 : BitVec 32 := 0#32
  let v1193 : BitVec 1 := Scalar.cmpi .slt v1191 c0_i32_669
  let c0_i32_670 : BitVec 32 := 0#32
  let v1194 : BitVec 1 := Scalar.cmpi .slt v1190 c0_i32_670
  let v1195 : BitVec 1 := Scalar.xori v1193 v1194
  let c0_i32_668 : BitVec 32 := 0#32
  let v1192 : BitVec 1 := Scalar.cmpi .ne v1191 c0_i32_668
  let v1196 : BitVec 1 := Scalar.andi v1195 v1192
  let v1197 : BitVec 32 := Scalar.addi v1191 v1190
  let v1198 : BitVec 32 := Scalar.select v1196 v1197 v1191
  let c0_i32_674 : BitVec 32 := 0#32
  let v1202 : BitVec 1 := Scalar.cmpi .sgt v1198 c0_i32_674
  let v1203 : BitVec 32 := Scalar.extui v1202
  let c0_i32_675 : BitVec 32 := 0#32
  let v1204 : BitVec 1 := Scalar.cmpi .slt v1198 c0_i32_675
  let v1205 : BitVec 32 := Scalar.extui v1204
  let v1206 : BitVec 32 := Scalar.subi v1203 v1205
  let c4_i32_673 : BitVec 32 := 4#32
  let c0_i32_676 : BitVec 32 := 0#32
  let v1207 : BitVec 1 := Scalar.cmpi .sgt c4_i32_673 c0_i32_676
  let v1208 : BitVec 32 := Scalar.extui v1207
  let c0_i32_677 : BitVec 32 := 0#32
  let v1209 : BitVec 1 := Scalar.cmpi .slt c4_i32_673 c0_i32_677
  let v1210 : BitVec 32 := Scalar.extui v1209
  let v1211 : BitVec 32 := Scalar.subi v1208 v1210
  let v1212 : BitVec 1 := Scalar.cmpi .ne v1206 v1211
  let v1213 : BitVec 32 := Scalar.remsi v1198 c4_i32_673
  let c0_i32_678 : BitVec 32 := 0#32
  let v1214 : BitVec 1 := Scalar.cmpi .ne v1213 c0_i32_678
  let v1215 : BitVec 1 := Scalar.andi v1212 v1214
  let v1201 : BitVec 32 := Scalar.divsi v1198 c4_i32_673
  let c1_i32_679 : BitVec 32 := 1#32
  let v1216 : BitVec 32 := Scalar.subi v1201 c1_i32_679
  let v1217 : BitVec 32 := Scalar.select v1215 v1216 v1201
  let c8_i32_695 : BitVec 32 := 8#32
  let v1244 : BitVec 32 := Scalar.muli v1217 c8_i32_695
  let c2_i32_692 : BitVec 32 := 2#32
  let c4_i32_680 : BitVec 32 := 4#32
  let c0_i32_681 : BitVec 32 := 0#32
  let v1218 : BitVec 1 := Scalar.cmpi .eq c4_i32_680 c0_i32_681
  let c1_i32_682 : BitVec 32 := 1#32
  let v1219 : BitVec 32 := Scalar.select v1218 c1_i32_682 c4_i32_680
  let v1220 : BitVec 32 := Scalar.remsi v1198 v1219
  let c0_i32_684 : BitVec 32 := 0#32
  let v1222 : BitVec 1 := Scalar.cmpi .slt v1220 c0_i32_684
  let c0_i32_685 : BitVec 32 := 0#32
  let v1223 : BitVec 1 := Scalar.cmpi .slt v1219 c0_i32_685
  let v1224 : BitVec 1 := Scalar.xori v1222 v1223
  let c0_i32_683 : BitVec 32 := 0#32
  let v1221 : BitVec 1 := Scalar.cmpi .ne v1220 c0_i32_683
  let v1225 : BitVec 1 := Scalar.andi v1224 v1221
  let v1226 : BitVec 32 := Scalar.addi v1220 v1219
  let v1227 : BitVec 32 := Scalar.select v1225 v1226 v1220
  let v1238 : BitVec 32 := Scalar.muli c2_i32_692 v1227
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v1239 : BitVec 32 := Scalar.addi v1238 v94
  let c2_i32_686 : BitVec 32 := 2#32
  let c0_i32_687 : BitVec 32 := 0#32
  let v1228 : BitVec 1 := Scalar.cmpi .eq c2_i32_686 c0_i32_687
  let c1_i32_688 : BitVec 32 := 1#32
  let v1229 : BitVec 32 := Scalar.select v1228 c1_i32_688 c2_i32_686
  let v1230 : BitVec 32 := Scalar.remsi v1227 v1229
  let c0_i32_690 : BitVec 32 := 0#32
  let v1232 : BitVec 1 := Scalar.cmpi .slt v1230 c0_i32_690
  let c0_i32_691 : BitVec 32 := 0#32
  let v1233 : BitVec 1 := Scalar.cmpi .slt v1229 c0_i32_691
  let v1234 : BitVec 1 := Scalar.xori v1232 v1233
  let c0_i32_689 : BitVec 32 := 0#32
  let v1231 : BitVec 1 := Scalar.cmpi .ne v1230 c0_i32_689
  let v1235 : BitVec 1 := Scalar.andi v1234 v1231
  let v1236 : BitVec 32 := Scalar.addi v1230 v1229
  let v1237 : BitVec 32 := Scalar.select v1235 v1236 v1230
  let c1_i32_694 : BitVec 32 := 1#32
  let c2_i32_693 : BitVec 32 := 2#32
  let v1240 : BitVec 32 := Scalar.muli c2_i32_693 v94
  let v1241 : BitVec 32 := Scalar.subi c1_i32_694 v1240
  let v1242 : BitVec 32 := Scalar.muli v1237 v1241
  let v1243 : BitVec 32 := Scalar.addi v1239 v1242
  let v1245 : BitVec 32 := Scalar.addi v1244 v1243
  let c1_i32_700 : BitVec 32 := 1#32
  let v1246 : BitVec 32 := Scalar.muli v1245 c1_i32_700
  let v1247 : BitVec 32 := Scalar.addi c0_i32_701 v1246
  v1247.toNat
def k0_dev24 (d0 : Dev nD) : Nat :=
  let c0_i32_741 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c4_i32_704 : BitVec 32 := 4#32
  let v1254 : BitVec 32 := Scalar.addi v96 c4_i32_704
  let c16_i32_705 : BitVec 32 := 16#32
  let c0_i32_706 : BitVec 32 := 0#32
  let v1255 : BitVec 1 := Scalar.cmpi .eq c16_i32_705 c0_i32_706
  let c1_i32_707 : BitVec 32 := 1#32
  let v1256 : BitVec 32 := Scalar.select v1255 c1_i32_707 c16_i32_705
  let v1257 : BitVec 32 := Scalar.remsi v1254 v1256
  let c0_i32_709 : BitVec 32 := 0#32
  let v1259 : BitVec 1 := Scalar.cmpi .slt v1257 c0_i32_709
  let c0_i32_710 : BitVec 32 := 0#32
  let v1260 : BitVec 1 := Scalar.cmpi .slt v1256 c0_i32_710
  let v1261 : BitVec 1 := Scalar.xori v1259 v1260
  let c0_i32_708 : BitVec 32 := 0#32
  let v1258 : BitVec 1 := Scalar.cmpi .ne v1257 c0_i32_708
  let v1262 : BitVec 1 := Scalar.andi v1261 v1258
  let v1263 : BitVec 32 := Scalar.addi v1257 v1256
  let v1264 : BitVec 32 := Scalar.select v1262 v1263 v1257
  let c0_i32_714 : BitVec 32 := 0#32
  let v1268 : BitVec 1 := Scalar.cmpi .sgt v1264 c0_i32_714
  let v1269 : BitVec 32 := Scalar.extui v1268
  let c0_i32_715 : BitVec 32 := 0#32
  let v1270 : BitVec 1 := Scalar.cmpi .slt v1264 c0_i32_715
  let v1271 : BitVec 32 := Scalar.extui v1270
  let v1272 : BitVec 32 := Scalar.subi v1269 v1271
  let c4_i32_713 : BitVec 32 := 4#32
  let c0_i32_716 : BitVec 32 := 0#32
  let v1273 : BitVec 1 := Scalar.cmpi .sgt c4_i32_713 c0_i32_716
  let v1274 : BitVec 32 := Scalar.extui v1273
  let c0_i32_717 : BitVec 32 := 0#32
  let v1275 : BitVec 1 := Scalar.cmpi .slt c4_i32_713 c0_i32_717
  let v1276 : BitVec 32 := Scalar.extui v1275
  let v1277 : BitVec 32 := Scalar.subi v1274 v1276
  let v1278 : BitVec 1 := Scalar.cmpi .ne v1272 v1277
  let v1279 : BitVec 32 := Scalar.remsi v1264 c4_i32_713
  let c0_i32_718 : BitVec 32 := 0#32
  let v1280 : BitVec 1 := Scalar.cmpi .ne v1279 c0_i32_718
  let v1281 : BitVec 1 := Scalar.andi v1278 v1280
  let v1267 : BitVec 32 := Scalar.divsi v1264 c4_i32_713
  let c1_i32_719 : BitVec 32 := 1#32
  let v1282 : BitVec 32 := Scalar.subi v1267 c1_i32_719
  let v1283 : BitVec 32 := Scalar.select v1281 v1282 v1267
  let c8_i32_735 : BitVec 32 := 8#32
  let v1310 : BitVec 32 := Scalar.muli v1283 c8_i32_735
  let c2_i32_732 : BitVec 32 := 2#32
  let c4_i32_720 : BitVec 32 := 4#32
  let c0_i32_721 : BitVec 32 := 0#32
  let v1284 : BitVec 1 := Scalar.cmpi .eq c4_i32_720 c0_i32_721
  let c1_i32_722 : BitVec 32 := 1#32
  let v1285 : BitVec 32 := Scalar.select v1284 c1_i32_722 c4_i32_720
  let v1286 : BitVec 32 := Scalar.remsi v1264 v1285
  let c0_i32_724 : BitVec 32 := 0#32
  let v1288 : BitVec 1 := Scalar.cmpi .slt v1286 c0_i32_724
  let c0_i32_725 : BitVec 32 := 0#32
  let v1289 : BitVec 1 := Scalar.cmpi .slt v1285 c0_i32_725
  let v1290 : BitVec 1 := Scalar.xori v1288 v1289
  let c0_i32_723 : BitVec 32 := 0#32
  let v1287 : BitVec 1 := Scalar.cmpi .ne v1286 c0_i32_723
  let v1291 : BitVec 1 := Scalar.andi v1290 v1287
  let v1292 : BitVec 32 := Scalar.addi v1286 v1285
  let v1293 : BitVec 32 := Scalar.select v1291 v1292 v1286
  let v1304 : BitVec 32 := Scalar.muli c2_i32_732 v1293
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v1305 : BitVec 32 := Scalar.addi v1304 v94
  let c2_i32_726 : BitVec 32 := 2#32
  let c0_i32_727 : BitVec 32 := 0#32
  let v1294 : BitVec 1 := Scalar.cmpi .eq c2_i32_726 c0_i32_727
  let c1_i32_728 : BitVec 32 := 1#32
  let v1295 : BitVec 32 := Scalar.select v1294 c1_i32_728 c2_i32_726
  let v1296 : BitVec 32 := Scalar.remsi v1293 v1295
  let c0_i32_730 : BitVec 32 := 0#32
  let v1298 : BitVec 1 := Scalar.cmpi .slt v1296 c0_i32_730
  let c0_i32_731 : BitVec 32 := 0#32
  let v1299 : BitVec 1 := Scalar.cmpi .slt v1295 c0_i32_731
  let v1300 : BitVec 1 := Scalar.xori v1298 v1299
  let c0_i32_729 : BitVec 32 := 0#32
  let v1297 : BitVec 1 := Scalar.cmpi .ne v1296 c0_i32_729
  let v1301 : BitVec 1 := Scalar.andi v1300 v1297
  let v1302 : BitVec 32 := Scalar.addi v1296 v1295
  let v1303 : BitVec 32 := Scalar.select v1301 v1302 v1296
  let c1_i32_734 : BitVec 32 := 1#32
  let c2_i32_733 : BitVec 32 := 2#32
  let v1306 : BitVec 32 := Scalar.muli c2_i32_733 v94
  let v1307 : BitVec 32 := Scalar.subi c1_i32_734 v1306
  let v1308 : BitVec 32 := Scalar.muli v1303 v1307
  let v1309 : BitVec 32 := Scalar.addi v1305 v1308
  let v1311 : BitVec 32 := Scalar.addi v1310 v1309
  let c1_i32_740 : BitVec 32 := 1#32
  let v1312 : BitVec 32 := Scalar.muli v1311 c1_i32_740
  let v1313 : BitVec 32 := Scalar.addi c0_i32_741 v1312
  v1313.toNat
def k0_dev25 (d0 : Dev nD) : Nat :=
  let c0_i32_781 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c5_i32_744 : BitVec 32 := 5#32
  let v1320 : BitVec 32 := Scalar.addi v96 c5_i32_744
  let c16_i32_745 : BitVec 32 := 16#32
  let c0_i32_746 : BitVec 32 := 0#32
  let v1321 : BitVec 1 := Scalar.cmpi .eq c16_i32_745 c0_i32_746
  let c1_i32_747 : BitVec 32 := 1#32
  let v1322 : BitVec 32 := Scalar.select v1321 c1_i32_747 c16_i32_745
  let v1323 : BitVec 32 := Scalar.remsi v1320 v1322
  let c0_i32_749 : BitVec 32 := 0#32
  let v1325 : BitVec 1 := Scalar.cmpi .slt v1323 c0_i32_749
  let c0_i32_750 : BitVec 32 := 0#32
  let v1326 : BitVec 1 := Scalar.cmpi .slt v1322 c0_i32_750
  let v1327 : BitVec 1 := Scalar.xori v1325 v1326
  let c0_i32_748 : BitVec 32 := 0#32
  let v1324 : BitVec 1 := Scalar.cmpi .ne v1323 c0_i32_748
  let v1328 : BitVec 1 := Scalar.andi v1327 v1324
  let v1329 : BitVec 32 := Scalar.addi v1323 v1322
  let v1330 : BitVec 32 := Scalar.select v1328 v1329 v1323
  let c0_i32_754 : BitVec 32 := 0#32
  let v1334 : BitVec 1 := Scalar.cmpi .sgt v1330 c0_i32_754
  let v1335 : BitVec 32 := Scalar.extui v1334
  let c0_i32_755 : BitVec 32 := 0#32
  let v1336 : BitVec 1 := Scalar.cmpi .slt v1330 c0_i32_755
  let v1337 : BitVec 32 := Scalar.extui v1336
  let v1338 : BitVec 32 := Scalar.subi v1335 v1337
  let c4_i32_753 : BitVec 32 := 4#32
  let c0_i32_756 : BitVec 32 := 0#32
  let v1339 : BitVec 1 := Scalar.cmpi .sgt c4_i32_753 c0_i32_756
  let v1340 : BitVec 32 := Scalar.extui v1339
  let c0_i32_757 : BitVec 32 := 0#32
  let v1341 : BitVec 1 := Scalar.cmpi .slt c4_i32_753 c0_i32_757
  let v1342 : BitVec 32 := Scalar.extui v1341
  let v1343 : BitVec 32 := Scalar.subi v1340 v1342
  let v1344 : BitVec 1 := Scalar.cmpi .ne v1338 v1343
  let v1345 : BitVec 32 := Scalar.remsi v1330 c4_i32_753
  let c0_i32_758 : BitVec 32 := 0#32
  let v1346 : BitVec 1 := Scalar.cmpi .ne v1345 c0_i32_758
  let v1347 : BitVec 1 := Scalar.andi v1344 v1346
  let v1333 : BitVec 32 := Scalar.divsi v1330 c4_i32_753
  let c1_i32_759 : BitVec 32 := 1#32
  let v1348 : BitVec 32 := Scalar.subi v1333 c1_i32_759
  let v1349 : BitVec 32 := Scalar.select v1347 v1348 v1333
  let c8_i32_775 : BitVec 32 := 8#32
  let v1376 : BitVec 32 := Scalar.muli v1349 c8_i32_775
  let c2_i32_772 : BitVec 32 := 2#32
  let c4_i32_760 : BitVec 32 := 4#32
  let c0_i32_761 : BitVec 32 := 0#32
  let v1350 : BitVec 1 := Scalar.cmpi .eq c4_i32_760 c0_i32_761
  let c1_i32_762 : BitVec 32 := 1#32
  let v1351 : BitVec 32 := Scalar.select v1350 c1_i32_762 c4_i32_760
  let v1352 : BitVec 32 := Scalar.remsi v1330 v1351
  let c0_i32_764 : BitVec 32 := 0#32
  let v1354 : BitVec 1 := Scalar.cmpi .slt v1352 c0_i32_764
  let c0_i32_765 : BitVec 32 := 0#32
  let v1355 : BitVec 1 := Scalar.cmpi .slt v1351 c0_i32_765
  let v1356 : BitVec 1 := Scalar.xori v1354 v1355
  let c0_i32_763 : BitVec 32 := 0#32
  let v1353 : BitVec 1 := Scalar.cmpi .ne v1352 c0_i32_763
  let v1357 : BitVec 1 := Scalar.andi v1356 v1353
  let v1358 : BitVec 32 := Scalar.addi v1352 v1351
  let v1359 : BitVec 32 := Scalar.select v1357 v1358 v1352
  let v1370 : BitVec 32 := Scalar.muli c2_i32_772 v1359
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v1371 : BitVec 32 := Scalar.addi v1370 v94
  let c2_i32_766 : BitVec 32 := 2#32
  let c0_i32_767 : BitVec 32 := 0#32
  let v1360 : BitVec 1 := Scalar.cmpi .eq c2_i32_766 c0_i32_767
  let c1_i32_768 : BitVec 32 := 1#32
  let v1361 : BitVec 32 := Scalar.select v1360 c1_i32_768 c2_i32_766
  let v1362 : BitVec 32 := Scalar.remsi v1359 v1361
  let c0_i32_770 : BitVec 32 := 0#32
  let v1364 : BitVec 1 := Scalar.cmpi .slt v1362 c0_i32_770
  let c0_i32_771 : BitVec 32 := 0#32
  let v1365 : BitVec 1 := Scalar.cmpi .slt v1361 c0_i32_771
  let v1366 : BitVec 1 := Scalar.xori v1364 v1365
  let c0_i32_769 : BitVec 32 := 0#32
  let v1363 : BitVec 1 := Scalar.cmpi .ne v1362 c0_i32_769
  let v1367 : BitVec 1 := Scalar.andi v1366 v1363
  let v1368 : BitVec 32 := Scalar.addi v1362 v1361
  let v1369 : BitVec 32 := Scalar.select v1367 v1368 v1362
  let c1_i32_774 : BitVec 32 := 1#32
  let c2_i32_773 : BitVec 32 := 2#32
  let v1372 : BitVec 32 := Scalar.muli c2_i32_773 v94
  let v1373 : BitVec 32 := Scalar.subi c1_i32_774 v1372
  let v1374 : BitVec 32 := Scalar.muli v1369 v1373
  let v1375 : BitVec 32 := Scalar.addi v1371 v1374
  let v1377 : BitVec 32 := Scalar.addi v1376 v1375
  let c1_i32_780 : BitVec 32 := 1#32
  let v1378 : BitVec 32 := Scalar.muli v1377 c1_i32_780
  let v1379 : BitVec 32 := Scalar.addi c0_i32_781 v1378
  v1379.toNat
def k0_dev26 (d0 : Dev nD) : Nat :=
  let c0_i32_821 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c6_i32_784 : BitVec 32 := 6#32
  let v1386 : BitVec 32 := Scalar.addi v96 c6_i32_784
  let c16_i32_785 : BitVec 32 := 16#32
  let c0_i32_786 : BitVec 32 := 0#32
  let v1387 : BitVec 1 := Scalar.cmpi .eq c16_i32_785 c0_i32_786
  let c1_i32_787 : BitVec 32 := 1#32
  let v1388 : BitVec 32 := Scalar.select v1387 c1_i32_787 c16_i32_785
  let v1389 : BitVec 32 := Scalar.remsi v1386 v1388
  let c0_i32_789 : BitVec 32 := 0#32
  let v1391 : BitVec 1 := Scalar.cmpi .slt v1389 c0_i32_789
  let c0_i32_790 : BitVec 32 := 0#32
  let v1392 : BitVec 1 := Scalar.cmpi .slt v1388 c0_i32_790
  let v1393 : BitVec 1 := Scalar.xori v1391 v1392
  let c0_i32_788 : BitVec 32 := 0#32
  let v1390 : BitVec 1 := Scalar.cmpi .ne v1389 c0_i32_788
  let v1394 : BitVec 1 := Scalar.andi v1393 v1390
  let v1395 : BitVec 32 := Scalar.addi v1389 v1388
  let v1396 : BitVec 32 := Scalar.select v1394 v1395 v1389
  let c0_i32_794 : BitVec 32 := 0#32
  let v1400 : BitVec 1 := Scalar.cmpi .sgt v1396 c0_i32_794
  let v1401 : BitVec 32 := Scalar.extui v1400
  let c0_i32_795 : BitVec 32 := 0#32
  let v1402 : BitVec 1 := Scalar.cmpi .slt v1396 c0_i32_795
  let v1403 : BitVec 32 := Scalar.extui v1402
  let v1404 : BitVec 32 := Scalar.subi v1401 v1403
  let c4_i32_793 : BitVec 32 := 4#32
  let c0_i32_796 : BitVec 32 := 0#32
  let v1405 : BitVec 1 := Scalar.cmpi .sgt c4_i32_793 c0_i32_796
  let v1406 : BitVec 32 := Scalar.extui v1405
  let c0_i32_797 : BitVec 32 := 0#32
  let v1407 : BitVec 1 := Scalar.cmpi .slt c4_i32_793 c0_i32_797
  let v1408 : BitVec 32 := Scalar.extui v1407
  let v1409 : BitVec 32 := Scalar.subi v1406 v1408
  let v1410 : BitVec 1 := Scalar.cmpi .ne v1404 v1409
  let v1411 : BitVec 32 := Scalar.remsi v1396 c4_i32_793
  let c0_i32_798 : BitVec 32 := 0#32
  let v1412 : BitVec 1 := Scalar.cmpi .ne v1411 c0_i32_798
  let v1413 : BitVec 1 := Scalar.andi v1410 v1412
  let v1399 : BitVec 32 := Scalar.divsi v1396 c4_i32_793
  let c1_i32_799 : BitVec 32 := 1#32
  let v1414 : BitVec 32 := Scalar.subi v1399 c1_i32_799
  let v1415 : BitVec 32 := Scalar.select v1413 v1414 v1399
  let c8_i32_815 : BitVec 32 := 8#32
  let v1442 : BitVec 32 := Scalar.muli v1415 c8_i32_815
  let c2_i32_812 : BitVec 32 := 2#32
  let c4_i32_800 : BitVec 32 := 4#32
  let c0_i32_801 : BitVec 32 := 0#32
  let v1416 : BitVec 1 := Scalar.cmpi .eq c4_i32_800 c0_i32_801
  let c1_i32_802 : BitVec 32 := 1#32
  let v1417 : BitVec 32 := Scalar.select v1416 c1_i32_802 c4_i32_800
  let v1418 : BitVec 32 := Scalar.remsi v1396 v1417
  let c0_i32_804 : BitVec 32 := 0#32
  let v1420 : BitVec 1 := Scalar.cmpi .slt v1418 c0_i32_804
  let c0_i32_805 : BitVec 32 := 0#32
  let v1421 : BitVec 1 := Scalar.cmpi .slt v1417 c0_i32_805
  let v1422 : BitVec 1 := Scalar.xori v1420 v1421
  let c0_i32_803 : BitVec 32 := 0#32
  let v1419 : BitVec 1 := Scalar.cmpi .ne v1418 c0_i32_803
  let v1423 : BitVec 1 := Scalar.andi v1422 v1419
  let v1424 : BitVec 32 := Scalar.addi v1418 v1417
  let v1425 : BitVec 32 := Scalar.select v1423 v1424 v1418
  let v1436 : BitVec 32 := Scalar.muli c2_i32_812 v1425
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v1437 : BitVec 32 := Scalar.addi v1436 v94
  let c2_i32_806 : BitVec 32 := 2#32
  let c0_i32_807 : BitVec 32 := 0#32
  let v1426 : BitVec 1 := Scalar.cmpi .eq c2_i32_806 c0_i32_807
  let c1_i32_808 : BitVec 32 := 1#32
  let v1427 : BitVec 32 := Scalar.select v1426 c1_i32_808 c2_i32_806
  let v1428 : BitVec 32 := Scalar.remsi v1425 v1427
  let c0_i32_810 : BitVec 32 := 0#32
  let v1430 : BitVec 1 := Scalar.cmpi .slt v1428 c0_i32_810
  let c0_i32_811 : BitVec 32 := 0#32
  let v1431 : BitVec 1 := Scalar.cmpi .slt v1427 c0_i32_811
  let v1432 : BitVec 1 := Scalar.xori v1430 v1431
  let c0_i32_809 : BitVec 32 := 0#32
  let v1429 : BitVec 1 := Scalar.cmpi .ne v1428 c0_i32_809
  let v1433 : BitVec 1 := Scalar.andi v1432 v1429
  let v1434 : BitVec 32 := Scalar.addi v1428 v1427
  let v1435 : BitVec 32 := Scalar.select v1433 v1434 v1428
  let c1_i32_814 : BitVec 32 := 1#32
  let c2_i32_813 : BitVec 32 := 2#32
  let v1438 : BitVec 32 := Scalar.muli c2_i32_813 v94
  let v1439 : BitVec 32 := Scalar.subi c1_i32_814 v1438
  let v1440 : BitVec 32 := Scalar.muli v1435 v1439
  let v1441 : BitVec 32 := Scalar.addi v1437 v1440
  let v1443 : BitVec 32 := Scalar.addi v1442 v1441
  let c1_i32_820 : BitVec 32 := 1#32
  let v1444 : BitVec 32 := Scalar.muli v1443 c1_i32_820
  let v1445 : BitVec 32 := Scalar.addi c0_i32_821 v1444
  v1445.toNat
def k0_dev27 (d0 : Dev nD) : Nat :=
  let c0_i32_861 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c7_i32_824 : BitVec 32 := 7#32
  let v1452 : BitVec 32 := Scalar.addi v96 c7_i32_824
  let c16_i32_825 : BitVec 32 := 16#32
  let c0_i32_826 : BitVec 32 := 0#32
  let v1453 : BitVec 1 := Scalar.cmpi .eq c16_i32_825 c0_i32_826
  let c1_i32_827 : BitVec 32 := 1#32
  let v1454 : BitVec 32 := Scalar.select v1453 c1_i32_827 c16_i32_825
  let v1455 : BitVec 32 := Scalar.remsi v1452 v1454
  let c0_i32_829 : BitVec 32 := 0#32
  let v1457 : BitVec 1 := Scalar.cmpi .slt v1455 c0_i32_829
  let c0_i32_830 : BitVec 32 := 0#32
  let v1458 : BitVec 1 := Scalar.cmpi .slt v1454 c0_i32_830
  let v1459 : BitVec 1 := Scalar.xori v1457 v1458
  let c0_i32_828 : BitVec 32 := 0#32
  let v1456 : BitVec 1 := Scalar.cmpi .ne v1455 c0_i32_828
  let v1460 : BitVec 1 := Scalar.andi v1459 v1456
  let v1461 : BitVec 32 := Scalar.addi v1455 v1454
  let v1462 : BitVec 32 := Scalar.select v1460 v1461 v1455
  let c0_i32_834 : BitVec 32 := 0#32
  let v1466 : BitVec 1 := Scalar.cmpi .sgt v1462 c0_i32_834
  let v1467 : BitVec 32 := Scalar.extui v1466
  let c0_i32_835 : BitVec 32 := 0#32
  let v1468 : BitVec 1 := Scalar.cmpi .slt v1462 c0_i32_835
  let v1469 : BitVec 32 := Scalar.extui v1468
  let v1470 : BitVec 32 := Scalar.subi v1467 v1469
  let c4_i32_833 : BitVec 32 := 4#32
  let c0_i32_836 : BitVec 32 := 0#32
  let v1471 : BitVec 1 := Scalar.cmpi .sgt c4_i32_833 c0_i32_836
  let v1472 : BitVec 32 := Scalar.extui v1471
  let c0_i32_837 : BitVec 32 := 0#32
  let v1473 : BitVec 1 := Scalar.cmpi .slt c4_i32_833 c0_i32_837
  let v1474 : BitVec 32 := Scalar.extui v1473
  let v1475 : BitVec 32 := Scalar.subi v1472 v1474
  let v1476 : BitVec 1 := Scalar.cmpi .ne v1470 v1475
  let v1477 : BitVec 32 := Scalar.remsi v1462 c4_i32_833
  let c0_i32_838 : BitVec 32 := 0#32
  let v1478 : BitVec 1 := Scalar.cmpi .ne v1477 c0_i32_838
  let v1479 : BitVec 1 := Scalar.andi v1476 v1478
  let v1465 : BitVec 32 := Scalar.divsi v1462 c4_i32_833
  let c1_i32_839 : BitVec 32 := 1#32
  let v1480 : BitVec 32 := Scalar.subi v1465 c1_i32_839
  let v1481 : BitVec 32 := Scalar.select v1479 v1480 v1465
  let c8_i32_855 : BitVec 32 := 8#32
  let v1508 : BitVec 32 := Scalar.muli v1481 c8_i32_855
  let c2_i32_852 : BitVec 32 := 2#32
  let c4_i32_840 : BitVec 32 := 4#32
  let c0_i32_841 : BitVec 32 := 0#32
  let v1482 : BitVec 1 := Scalar.cmpi .eq c4_i32_840 c0_i32_841
  let c1_i32_842 : BitVec 32 := 1#32
  let v1483 : BitVec 32 := Scalar.select v1482 c1_i32_842 c4_i32_840
  let v1484 : BitVec 32 := Scalar.remsi v1462 v1483
  let c0_i32_844 : BitVec 32 := 0#32
  let v1486 : BitVec 1 := Scalar.cmpi .slt v1484 c0_i32_844
  let c0_i32_845 : BitVec 32 := 0#32
  let v1487 : BitVec 1 := Scalar.cmpi .slt v1483 c0_i32_845
  let v1488 : BitVec 1 := Scalar.xori v1486 v1487
  let c0_i32_843 : BitVec 32 := 0#32
  let v1485 : BitVec 1 := Scalar.cmpi .ne v1484 c0_i32_843
  let v1489 : BitVec 1 := Scalar.andi v1488 v1485
  let v1490 : BitVec 32 := Scalar.addi v1484 v1483
  let v1491 : BitVec 32 := Scalar.select v1489 v1490 v1484
  let v1502 : BitVec 32 := Scalar.muli c2_i32_852 v1491
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v1503 : BitVec 32 := Scalar.addi v1502 v94
  let c2_i32_846 : BitVec 32 := 2#32
  let c0_i32_847 : BitVec 32 := 0#32
  let v1492 : BitVec 1 := Scalar.cmpi .eq c2_i32_846 c0_i32_847
  let c1_i32_848 : BitVec 32 := 1#32
  let v1493 : BitVec 32 := Scalar.select v1492 c1_i32_848 c2_i32_846
  let v1494 : BitVec 32 := Scalar.remsi v1491 v1493
  let c0_i32_850 : BitVec 32 := 0#32
  let v1496 : BitVec 1 := Scalar.cmpi .slt v1494 c0_i32_850
  let c0_i32_851 : BitVec 32 := 0#32
  let v1497 : BitVec 1 := Scalar.cmpi .slt v1493 c0_i32_851
  let v1498 : BitVec 1 := Scalar.xori v1496 v1497
  let c0_i32_849 : BitVec 32 := 0#32
  let v1495 : BitVec 1 := Scalar.cmpi .ne v1494 c0_i32_849
  let v1499 : BitVec 1 := Scalar.andi v1498 v1495
  let v1500 : BitVec 32 := Scalar.addi v1494 v1493
  let v1501 : BitVec 32 := Scalar.select v1499 v1500 v1494
  let c1_i32_854 : BitVec 32 := 1#32
  let c2_i32_853 : BitVec 32 := 2#32
  let v1504 : BitVec 32 := Scalar.muli c2_i32_853 v94
  let v1505 : BitVec 32 := Scalar.subi c1_i32_854 v1504
  let v1506 : BitVec 32 := Scalar.muli v1501 v1505
  let v1507 : BitVec 32 := Scalar.addi v1503 v1506
  let v1509 : BitVec 32 := Scalar.addi v1508 v1507
  let c1_i32_860 : BitVec 32 := 1#32
  let v1510 : BitVec 32 := Scalar.muli v1509 c1_i32_860
  let v1511 : BitVec 32 := Scalar.addi c0_i32_861 v1510
  v1511.toNat
def k0_dev28 (d0 : Dev nD) : Nat :=
  let c0_i32_901 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c8_i32_864 : BitVec 32 := 8#32
  let v1518 : BitVec 32 := Scalar.addi v96 c8_i32_864
  let c16_i32_865 : BitVec 32 := 16#32
  let c0_i32_866 : BitVec 32 := 0#32
  let v1519 : BitVec 1 := Scalar.cmpi .eq c16_i32_865 c0_i32_866
  let c1_i32_867 : BitVec 32 := 1#32
  let v1520 : BitVec 32 := Scalar.select v1519 c1_i32_867 c16_i32_865
  let v1521 : BitVec 32 := Scalar.remsi v1518 v1520
  let c0_i32_869 : BitVec 32 := 0#32
  let v1523 : BitVec 1 := Scalar.cmpi .slt v1521 c0_i32_869
  let c0_i32_870 : BitVec 32 := 0#32
  let v1524 : BitVec 1 := Scalar.cmpi .slt v1520 c0_i32_870
  let v1525 : BitVec 1 := Scalar.xori v1523 v1524
  let c0_i32_868 : BitVec 32 := 0#32
  let v1522 : BitVec 1 := Scalar.cmpi .ne v1521 c0_i32_868
  let v1526 : BitVec 1 := Scalar.andi v1525 v1522
  let v1527 : BitVec 32 := Scalar.addi v1521 v1520
  let v1528 : BitVec 32 := Scalar.select v1526 v1527 v1521
  let c0_i32_874 : BitVec 32 := 0#32
  let v1532 : BitVec 1 := Scalar.cmpi .sgt v1528 c0_i32_874
  let v1533 : BitVec 32 := Scalar.extui v1532
  let c0_i32_875 : BitVec 32 := 0#32
  let v1534 : BitVec 1 := Scalar.cmpi .slt v1528 c0_i32_875
  let v1535 : BitVec 32 := Scalar.extui v1534
  let v1536 : BitVec 32 := Scalar.subi v1533 v1535
  let c4_i32_873 : BitVec 32 := 4#32
  let c0_i32_876 : BitVec 32 := 0#32
  let v1537 : BitVec 1 := Scalar.cmpi .sgt c4_i32_873 c0_i32_876
  let v1538 : BitVec 32 := Scalar.extui v1537
  let c0_i32_877 : BitVec 32 := 0#32
  let v1539 : BitVec 1 := Scalar.cmpi .slt c4_i32_873 c0_i32_877
  let v1540 : BitVec 32 := Scalar.extui v1539
  let v1541 : BitVec 32 := Scalar.subi v1538 v1540
  let v1542 : BitVec 1 := Scalar.cmpi .ne v1536 v1541
  let v1543 : BitVec 32 := Scalar.remsi v1528 c4_i32_873
  let c0_i32_878 : BitVec 32 := 0#32
  let v1544 : BitVec 1 := Scalar.cmpi .ne v1543 c0_i32_878
  let v1545 : BitVec 1 := Scalar.andi v1542 v1544
  let v1531 : BitVec 32 := Scalar.divsi v1528 c4_i32_873
  let c1_i32_879 : BitVec 32 := 1#32
  let v1546 : BitVec 32 := Scalar.subi v1531 c1_i32_879
  let v1547 : BitVec 32 := Scalar.select v1545 v1546 v1531
  let c8_i32_895 : BitVec 32 := 8#32
  let v1574 : BitVec 32 := Scalar.muli v1547 c8_i32_895
  let c2_i32_892 : BitVec 32 := 2#32
  let c4_i32_880 : BitVec 32 := 4#32
  let c0_i32_881 : BitVec 32 := 0#32
  let v1548 : BitVec 1 := Scalar.cmpi .eq c4_i32_880 c0_i32_881
  let c1_i32_882 : BitVec 32 := 1#32
  let v1549 : BitVec 32 := Scalar.select v1548 c1_i32_882 c4_i32_880
  let v1550 : BitVec 32 := Scalar.remsi v1528 v1549
  let c0_i32_884 : BitVec 32 := 0#32
  let v1552 : BitVec 1 := Scalar.cmpi .slt v1550 c0_i32_884
  let c0_i32_885 : BitVec 32 := 0#32
  let v1553 : BitVec 1 := Scalar.cmpi .slt v1549 c0_i32_885
  let v1554 : BitVec 1 := Scalar.xori v1552 v1553
  let c0_i32_883 : BitVec 32 := 0#32
  let v1551 : BitVec 1 := Scalar.cmpi .ne v1550 c0_i32_883
  let v1555 : BitVec 1 := Scalar.andi v1554 v1551
  let v1556 : BitVec 32 := Scalar.addi v1550 v1549
  let v1557 : BitVec 32 := Scalar.select v1555 v1556 v1550
  let v1568 : BitVec 32 := Scalar.muli c2_i32_892 v1557
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v1569 : BitVec 32 := Scalar.addi v1568 v94
  let c2_i32_886 : BitVec 32 := 2#32
  let c0_i32_887 : BitVec 32 := 0#32
  let v1558 : BitVec 1 := Scalar.cmpi .eq c2_i32_886 c0_i32_887
  let c1_i32_888 : BitVec 32 := 1#32
  let v1559 : BitVec 32 := Scalar.select v1558 c1_i32_888 c2_i32_886
  let v1560 : BitVec 32 := Scalar.remsi v1557 v1559
  let c0_i32_890 : BitVec 32 := 0#32
  let v1562 : BitVec 1 := Scalar.cmpi .slt v1560 c0_i32_890
  let c0_i32_891 : BitVec 32 := 0#32
  let v1563 : BitVec 1 := Scalar.cmpi .slt v1559 c0_i32_891
  let v1564 : BitVec 1 := Scalar.xori v1562 v1563
  let c0_i32_889 : BitVec 32 := 0#32
  let v1561 : BitVec 1 := Scalar.cmpi .ne v1560 c0_i32_889
  let v1565 : BitVec 1 := Scalar.andi v1564 v1561
  let v1566 : BitVec 32 := Scalar.addi v1560 v1559
  let v1567 : BitVec 32 := Scalar.select v1565 v1566 v1560
  let c1_i32_894 : BitVec 32 := 1#32
  let c2_i32_893 : BitVec 32 := 2#32
  let v1570 : BitVec 32 := Scalar.muli c2_i32_893 v94
  let v1571 : BitVec 32 := Scalar.subi c1_i32_894 v1570
  let v1572 : BitVec 32 := Scalar.muli v1567 v1571
  let v1573 : BitVec 32 := Scalar.addi v1569 v1572
  let v1575 : BitVec 32 := Scalar.addi v1574 v1573
  let c1_i32_900 : BitVec 32 := 1#32
  let v1576 : BitVec 32 := Scalar.muli v1575 c1_i32_900
  let v1577 : BitVec 32 := Scalar.addi c0_i32_901 v1576
  v1577.toNat
def k0_dev29 (d0 : Dev nD) : Nat :=
  let c0_i32_941 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c9_i32_904 : BitVec 32 := 9#32
  let v1584 : BitVec 32 := Scalar.addi v96 c9_i32_904
  let c16_i32_905 : BitVec 32 := 16#32
  let c0_i32_906 : BitVec 32 := 0#32
  let v1585 : BitVec 1 := Scalar.cmpi .eq c16_i32_905 c0_i32_906
  let c1_i32_907 : BitVec 32 := 1#32
  let v1586 : BitVec 32 := Scalar.select v1585 c1_i32_907 c16_i32_905
  let v1587 : BitVec 32 := Scalar.remsi v1584 v1586
  let c0_i32_909 : BitVec 32 := 0#32
  let v1589 : BitVec 1 := Scalar.cmpi .slt v1587 c0_i32_909
  let c0_i32_910 : BitVec 32 := 0#32
  let v1590 : BitVec 1 := Scalar.cmpi .slt v1586 c0_i32_910
  let v1591 : BitVec 1 := Scalar.xori v1589 v1590
  let c0_i32_908 : BitVec 32 := 0#32
  let v1588 : BitVec 1 := Scalar.cmpi .ne v1587 c0_i32_908
  let v1592 : BitVec 1 := Scalar.andi v1591 v1588
  let v1593 : BitVec 32 := Scalar.addi v1587 v1586
  let v1594 : BitVec 32 := Scalar.select v1592 v1593 v1587
  let c0_i32_914 : BitVec 32 := 0#32
  let v1598 : BitVec 1 := Scalar.cmpi .sgt v1594 c0_i32_914
  let v1599 : BitVec 32 := Scalar.extui v1598
  let c0_i32_915 : BitVec 32 := 0#32
  let v1600 : BitVec 1 := Scalar.cmpi .slt v1594 c0_i32_915
  let v1601 : BitVec 32 := Scalar.extui v1600
  let v1602 : BitVec 32 := Scalar.subi v1599 v1601
  let c4_i32_913 : BitVec 32 := 4#32
  let c0_i32_916 : BitVec 32 := 0#32
  let v1603 : BitVec 1 := Scalar.cmpi .sgt c4_i32_913 c0_i32_916
  let v1604 : BitVec 32 := Scalar.extui v1603
  let c0_i32_917 : BitVec 32 := 0#32
  let v1605 : BitVec 1 := Scalar.cmpi .slt c4_i32_913 c0_i32_917
  let v1606 : BitVec 32 := Scalar.extui v1605
  let v1607 : BitVec 32 := Scalar.subi v1604 v1606
  let v1608 : BitVec 1 := Scalar.cmpi .ne v1602 v1607
  let v1609 : BitVec 32 := Scalar.remsi v1594 c4_i32_913
  let c0_i32_918 : BitVec 32 := 0#32
  let v1610 : BitVec 1 := Scalar.cmpi .ne v1609 c0_i32_918
  let v1611 : BitVec 1 := Scalar.andi v1608 v1610
  let v1597 : BitVec 32 := Scalar.divsi v1594 c4_i32_913
  let c1_i32_919 : BitVec 32 := 1#32
  let v1612 : BitVec 32 := Scalar.subi v1597 c1_i32_919
  let v1613 : BitVec 32 := Scalar.select v1611 v1612 v1597
  let c8_i32_935 : BitVec 32 := 8#32
  let v1640 : BitVec 32 := Scalar.muli v1613 c8_i32_935
  let c2_i32_932 : BitVec 32 := 2#32
  let c4_i32_920 : BitVec 32 := 4#32
  let c0_i32_921 : BitVec 32 := 0#32
  let v1614 : BitVec 1 := Scalar.cmpi .eq c4_i32_920 c0_i32_921
  let c1_i32_922 : BitVec 32 := 1#32
  let v1615 : BitVec 32 := Scalar.select v1614 c1_i32_922 c4_i32_920
  let v1616 : BitVec 32 := Scalar.remsi v1594 v1615
  let c0_i32_924 : BitVec 32 := 0#32
  let v1618 : BitVec 1 := Scalar.cmpi .slt v1616 c0_i32_924
  let c0_i32_925 : BitVec 32 := 0#32
  let v1619 : BitVec 1 := Scalar.cmpi .slt v1615 c0_i32_925
  let v1620 : BitVec 1 := Scalar.xori v1618 v1619
  let c0_i32_923 : BitVec 32 := 0#32
  let v1617 : BitVec 1 := Scalar.cmpi .ne v1616 c0_i32_923
  let v1621 : BitVec 1 := Scalar.andi v1620 v1617
  let v1622 : BitVec 32 := Scalar.addi v1616 v1615
  let v1623 : BitVec 32 := Scalar.select v1621 v1622 v1616
  let v1634 : BitVec 32 := Scalar.muli c2_i32_932 v1623
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v1635 : BitVec 32 := Scalar.addi v1634 v94
  let c2_i32_926 : BitVec 32 := 2#32
  let c0_i32_927 : BitVec 32 := 0#32
  let v1624 : BitVec 1 := Scalar.cmpi .eq c2_i32_926 c0_i32_927
  let c1_i32_928 : BitVec 32 := 1#32
  let v1625 : BitVec 32 := Scalar.select v1624 c1_i32_928 c2_i32_926
  let v1626 : BitVec 32 := Scalar.remsi v1623 v1625
  let c0_i32_930 : BitVec 32 := 0#32
  let v1628 : BitVec 1 := Scalar.cmpi .slt v1626 c0_i32_930
  let c0_i32_931 : BitVec 32 := 0#32
  let v1629 : BitVec 1 := Scalar.cmpi .slt v1625 c0_i32_931
  let v1630 : BitVec 1 := Scalar.xori v1628 v1629
  let c0_i32_929 : BitVec 32 := 0#32
  let v1627 : BitVec 1 := Scalar.cmpi .ne v1626 c0_i32_929
  let v1631 : BitVec 1 := Scalar.andi v1630 v1627
  let v1632 : BitVec 32 := Scalar.addi v1626 v1625
  let v1633 : BitVec 32 := Scalar.select v1631 v1632 v1626
  let c1_i32_934 : BitVec 32 := 1#32
  let c2_i32_933 : BitVec 32 := 2#32
  let v1636 : BitVec 32 := Scalar.muli c2_i32_933 v94
  let v1637 : BitVec 32 := Scalar.subi c1_i32_934 v1636
  let v1638 : BitVec 32 := Scalar.muli v1633 v1637
  let v1639 : BitVec 32 := Scalar.addi v1635 v1638
  let v1641 : BitVec 32 := Scalar.addi v1640 v1639
  let c1_i32_940 : BitVec 32 := 1#32
  let v1642 : BitVec 32 := Scalar.muli v1641 c1_i32_940
  let v1643 : BitVec 32 := Scalar.addi c0_i32_941 v1642
  v1643.toNat
def k0_dev30 (d0 : Dev nD) : Nat :=
  let c0_i32_981 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c10_i32_944 : BitVec 32 := 10#32
  let v1650 : BitVec 32 := Scalar.addi v96 c10_i32_944
  let c16_i32_945 : BitVec 32 := 16#32
  let c0_i32_946 : BitVec 32 := 0#32
  let v1651 : BitVec 1 := Scalar.cmpi .eq c16_i32_945 c0_i32_946
  let c1_i32_947 : BitVec 32 := 1#32
  let v1652 : BitVec 32 := Scalar.select v1651 c1_i32_947 c16_i32_945
  let v1653 : BitVec 32 := Scalar.remsi v1650 v1652
  let c0_i32_949 : BitVec 32 := 0#32
  let v1655 : BitVec 1 := Scalar.cmpi .slt v1653 c0_i32_949
  let c0_i32_950 : BitVec 32 := 0#32
  let v1656 : BitVec 1 := Scalar.cmpi .slt v1652 c0_i32_950
  let v1657 : BitVec 1 := Scalar.xori v1655 v1656
  let c0_i32_948 : BitVec 32 := 0#32
  let v1654 : BitVec 1 := Scalar.cmpi .ne v1653 c0_i32_948
  let v1658 : BitVec 1 := Scalar.andi v1657 v1654
  let v1659 : BitVec 32 := Scalar.addi v1653 v1652
  let v1660 : BitVec 32 := Scalar.select v1658 v1659 v1653
  let c0_i32_954 : BitVec 32 := 0#32
  let v1664 : BitVec 1 := Scalar.cmpi .sgt v1660 c0_i32_954
  let v1665 : BitVec 32 := Scalar.extui v1664
  let c0_i32_955 : BitVec 32 := 0#32
  let v1666 : BitVec 1 := Scalar.cmpi .slt v1660 c0_i32_955
  let v1667 : BitVec 32 := Scalar.extui v1666
  let v1668 : BitVec 32 := Scalar.subi v1665 v1667
  let c4_i32_953 : BitVec 32 := 4#32
  let c0_i32_956 : BitVec 32 := 0#32
  let v1669 : BitVec 1 := Scalar.cmpi .sgt c4_i32_953 c0_i32_956
  let v1670 : BitVec 32 := Scalar.extui v1669
  let c0_i32_957 : BitVec 32 := 0#32
  let v1671 : BitVec 1 := Scalar.cmpi .slt c4_i32_953 c0_i32_957
  let v1672 : BitVec 32 := Scalar.extui v1671
  let v1673 : BitVec 32 := Scalar.subi v1670 v1672
  let v1674 : BitVec 1 := Scalar.cmpi .ne v1668 v1673
  let v1675 : BitVec 32 := Scalar.remsi v1660 c4_i32_953
  let c0_i32_958 : BitVec 32 := 0#32
  let v1676 : BitVec 1 := Scalar.cmpi .ne v1675 c0_i32_958
  let v1677 : BitVec 1 := Scalar.andi v1674 v1676
  let v1663 : BitVec 32 := Scalar.divsi v1660 c4_i32_953
  let c1_i32_959 : BitVec 32 := 1#32
  let v1678 : BitVec 32 := Scalar.subi v1663 c1_i32_959
  let v1679 : BitVec 32 := Scalar.select v1677 v1678 v1663
  let c8_i32_975 : BitVec 32 := 8#32
  let v1706 : BitVec 32 := Scalar.muli v1679 c8_i32_975
  let c2_i32_972 : BitVec 32 := 2#32
  let c4_i32_960 : BitVec 32 := 4#32
  let c0_i32_961 : BitVec 32 := 0#32
  let v1680 : BitVec 1 := Scalar.cmpi .eq c4_i32_960 c0_i32_961
  let c1_i32_962 : BitVec 32 := 1#32
  let v1681 : BitVec 32 := Scalar.select v1680 c1_i32_962 c4_i32_960
  let v1682 : BitVec 32 := Scalar.remsi v1660 v1681
  let c0_i32_964 : BitVec 32 := 0#32
  let v1684 : BitVec 1 := Scalar.cmpi .slt v1682 c0_i32_964
  let c0_i32_965 : BitVec 32 := 0#32
  let v1685 : BitVec 1 := Scalar.cmpi .slt v1681 c0_i32_965
  let v1686 : BitVec 1 := Scalar.xori v1684 v1685
  let c0_i32_963 : BitVec 32 := 0#32
  let v1683 : BitVec 1 := Scalar.cmpi .ne v1682 c0_i32_963
  let v1687 : BitVec 1 := Scalar.andi v1686 v1683
  let v1688 : BitVec 32 := Scalar.addi v1682 v1681
  let v1689 : BitVec 32 := Scalar.select v1687 v1688 v1682
  let v1700 : BitVec 32 := Scalar.muli c2_i32_972 v1689
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v1701 : BitVec 32 := Scalar.addi v1700 v94
  let c2_i32_966 : BitVec 32 := 2#32
  let c0_i32_967 : BitVec 32 := 0#32
  let v1690 : BitVec 1 := Scalar.cmpi .eq c2_i32_966 c0_i32_967
  let c1_i32_968 : BitVec 32 := 1#32
  let v1691 : BitVec 32 := Scalar.select v1690 c1_i32_968 c2_i32_966
  let v1692 : BitVec 32 := Scalar.remsi v1689 v1691
  let c0_i32_970 : BitVec 32 := 0#32
  let v1694 : BitVec 1 := Scalar.cmpi .slt v1692 c0_i32_970
  let c0_i32_971 : BitVec 32 := 0#32
  let v1695 : BitVec 1 := Scalar.cmpi .slt v1691 c0_i32_971
  let v1696 : BitVec 1 := Scalar.xori v1694 v1695
  let c0_i32_969 : BitVec 32 := 0#32
  let v1693 : BitVec 1 := Scalar.cmpi .ne v1692 c0_i32_969
  let v1697 : BitVec 1 := Scalar.andi v1696 v1693
  let v1698 : BitVec 32 := Scalar.addi v1692 v1691
  let v1699 : BitVec 32 := Scalar.select v1697 v1698 v1692
  let c1_i32_974 : BitVec 32 := 1#32
  let c2_i32_973 : BitVec 32 := 2#32
  let v1702 : BitVec 32 := Scalar.muli c2_i32_973 v94
  let v1703 : BitVec 32 := Scalar.subi c1_i32_974 v1702
  let v1704 : BitVec 32 := Scalar.muli v1699 v1703
  let v1705 : BitVec 32 := Scalar.addi v1701 v1704
  let v1707 : BitVec 32 := Scalar.addi v1706 v1705
  let c1_i32_980 : BitVec 32 := 1#32
  let v1708 : BitVec 32 := Scalar.muli v1707 c1_i32_980
  let v1709 : BitVec 32 := Scalar.addi c0_i32_981 v1708
  v1709.toNat
def k0_dev31 (d0 : Dev nD) : Nat :=
  let c0_i32_1021 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c11_i32_984 : BitVec 32 := 11#32
  let v1716 : BitVec 32 := Scalar.addi v96 c11_i32_984
  let c16_i32_985 : BitVec 32 := 16#32
  let c0_i32_986 : BitVec 32 := 0#32
  let v1717 : BitVec 1 := Scalar.cmpi .eq c16_i32_985 c0_i32_986
  let c1_i32_987 : BitVec 32 := 1#32
  let v1718 : BitVec 32 := Scalar.select v1717 c1_i32_987 c16_i32_985
  let v1719 : BitVec 32 := Scalar.remsi v1716 v1718
  let c0_i32_989 : BitVec 32 := 0#32
  let v1721 : BitVec 1 := Scalar.cmpi .slt v1719 c0_i32_989
  let c0_i32_990 : BitVec 32 := 0#32
  let v1722 : BitVec 1 := Scalar.cmpi .slt v1718 c0_i32_990
  let v1723 : BitVec 1 := Scalar.xori v1721 v1722
  let c0_i32_988 : BitVec 32 := 0#32
  let v1720 : BitVec 1 := Scalar.cmpi .ne v1719 c0_i32_988
  let v1724 : BitVec 1 := Scalar.andi v1723 v1720
  let v1725 : BitVec 32 := Scalar.addi v1719 v1718
  let v1726 : BitVec 32 := Scalar.select v1724 v1725 v1719
  let c0_i32_994 : BitVec 32 := 0#32
  let v1730 : BitVec 1 := Scalar.cmpi .sgt v1726 c0_i32_994
  let v1731 : BitVec 32 := Scalar.extui v1730
  let c0_i32_995 : BitVec 32 := 0#32
  let v1732 : BitVec 1 := Scalar.cmpi .slt v1726 c0_i32_995
  let v1733 : BitVec 32 := Scalar.extui v1732
  let v1734 : BitVec 32 := Scalar.subi v1731 v1733
  let c4_i32_993 : BitVec 32 := 4#32
  let c0_i32_996 : BitVec 32 := 0#32
  let v1735 : BitVec 1 := Scalar.cmpi .sgt c4_i32_993 c0_i32_996
  let v1736 : BitVec 32 := Scalar.extui v1735
  let c0_i32_997 : BitVec 32 := 0#32
  let v1737 : BitVec 1 := Scalar.cmpi .slt c4_i32_993 c0_i32_997
  let v1738 : BitVec 32 := Scalar.extui v1737
  let v1739 : BitVec 32 := Scalar.subi v1736 v1738
  let v1740 : BitVec 1 := Scalar.cmpi .ne v1734 v1739
  let v1741 : BitVec 32 := Scalar.remsi v1726 c4_i32_993
  let c0_i32_998 : BitVec 32 := 0#32
  let v1742 : BitVec 1 := Scalar.cmpi .ne v1741 c0_i32_998
  let v1743 : BitVec 1 := Scalar.andi v1740 v1742
  let v1729 : BitVec 32 := Scalar.divsi v1726 c4_i32_993
  let c1_i32_999 : BitVec 32 := 1#32
  let v1744 : BitVec 32 := Scalar.subi v1729 c1_i32_999
  let v1745 : BitVec 32 := Scalar.select v1743 v1744 v1729
  let c8_i32_1015 : BitVec 32 := 8#32
  let v1772 : BitVec 32 := Scalar.muli v1745 c8_i32_1015
  let c2_i32_1012 : BitVec 32 := 2#32
  let c4_i32_1000 : BitVec 32 := 4#32
  let c0_i32_1001 : BitVec 32 := 0#32
  let v1746 : BitVec 1 := Scalar.cmpi .eq c4_i32_1000 c0_i32_1001
  let c1_i32_1002 : BitVec 32 := 1#32
  let v1747 : BitVec 32 := Scalar.select v1746 c1_i32_1002 c4_i32_1000
  let v1748 : BitVec 32 := Scalar.remsi v1726 v1747
  let c0_i32_1004 : BitVec 32 := 0#32
  let v1750 : BitVec 1 := Scalar.cmpi .slt v1748 c0_i32_1004
  let c0_i32_1005 : BitVec 32 := 0#32
  let v1751 : BitVec 1 := Scalar.cmpi .slt v1747 c0_i32_1005
  let v1752 : BitVec 1 := Scalar.xori v1750 v1751
  let c0_i32_1003 : BitVec 32 := 0#32
  let v1749 : BitVec 1 := Scalar.cmpi .ne v1748 c0_i32_1003
  let v1753 : BitVec 1 := Scalar.andi v1752 v1749
  let v1754 : BitVec 32 := Scalar.addi v1748 v1747
  let v1755 : BitVec 32 := Scalar.select v1753 v1754 v1748
  let v1766 : BitVec 32 := Scalar.muli c2_i32_1012 v1755
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v1767 : BitVec 32 := Scalar.addi v1766 v94
  let c2_i32_1006 : BitVec 32 := 2#32
  let c0_i32_1007 : BitVec 32 := 0#32
  let v1756 : BitVec 1 := Scalar.cmpi .eq c2_i32_1006 c0_i32_1007
  let c1_i32_1008 : BitVec 32 := 1#32
  let v1757 : BitVec 32 := Scalar.select v1756 c1_i32_1008 c2_i32_1006
  let v1758 : BitVec 32 := Scalar.remsi v1755 v1757
  let c0_i32_1010 : BitVec 32 := 0#32
  let v1760 : BitVec 1 := Scalar.cmpi .slt v1758 c0_i32_1010
  let c0_i32_1011 : BitVec 32 := 0#32
  let v1761 : BitVec 1 := Scalar.cmpi .slt v1757 c0_i32_1011
  let v1762 : BitVec 1 := Scalar.xori v1760 v1761
  let c0_i32_1009 : BitVec 32 := 0#32
  let v1759 : BitVec 1 := Scalar.cmpi .ne v1758 c0_i32_1009
  let v1763 : BitVec 1 := Scalar.andi v1762 v1759
  let v1764 : BitVec 32 := Scalar.addi v1758 v1757
  let v1765 : BitVec 32 := Scalar.select v1763 v1764 v1758
  let c1_i32_1014 : BitVec 32 := 1#32
  let c2_i32_1013 : BitVec 32 := 2#32
  let v1768 : BitVec 32 := Scalar.muli c2_i32_1013 v94
  let v1769 : BitVec 32 := Scalar.subi c1_i32_1014 v1768
  let v1770 : BitVec 32 := Scalar.muli v1765 v1769
  let v1771 : BitVec 32 := Scalar.addi v1767 v1770
  let v1773 : BitVec 32 := Scalar.addi v1772 v1771
  let c1_i32_1020 : BitVec 32 := 1#32
  let v1774 : BitVec 32 := Scalar.muli v1773 c1_i32_1020
  let v1775 : BitVec 32 := Scalar.addi c0_i32_1021 v1774
  v1775.toNat
def k0_dev32 (d0 : Dev nD) : Nat :=
  let c0_i32_1061 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c12_i32_1024 : BitVec 32 := 12#32
  let v1782 : BitVec 32 := Scalar.addi v96 c12_i32_1024
  let c16_i32_1025 : BitVec 32 := 16#32
  let c0_i32_1026 : BitVec 32 := 0#32
  let v1783 : BitVec 1 := Scalar.cmpi .eq c16_i32_1025 c0_i32_1026
  let c1_i32_1027 : BitVec 32 := 1#32
  let v1784 : BitVec 32 := Scalar.select v1783 c1_i32_1027 c16_i32_1025
  let v1785 : BitVec 32 := Scalar.remsi v1782 v1784
  let c0_i32_1029 : BitVec 32 := 0#32
  let v1787 : BitVec 1 := Scalar.cmpi .slt v1785 c0_i32_1029
  let c0_i32_1030 : BitVec 32 := 0#32
  let v1788 : BitVec 1 := Scalar.cmpi .slt v1784 c0_i32_1030
  let v1789 : BitVec 1 := Scalar.xori v1787 v1788
  let c0_i32_1028 : BitVec 32 := 0#32
  let v1786 : BitVec 1 := Scalar.cmpi .ne v1785 c0_i32_1028
  let v1790 : BitVec 1 := Scalar.andi v1789 v1786
  let v1791 : BitVec 32 := Scalar.addi v1785 v1784
  let v1792 : BitVec 32 := Scalar.select v1790 v1791 v1785
  let c0_i32_1034 : BitVec 32 := 0#32
  let v1796 : BitVec 1 := Scalar.cmpi .sgt v1792 c0_i32_1034
  let v1797 : BitVec 32 := Scalar.extui v1796
  let c0_i32_1035 : BitVec 32 := 0#32
  let v1798 : BitVec 1 := Scalar.cmpi .slt v1792 c0_i32_1035
  let v1799 : BitVec 32 := Scalar.extui v1798
  let v1800 : BitVec 32 := Scalar.subi v1797 v1799
  let c4_i32_1033 : BitVec 32 := 4#32
  let c0_i32_1036 : BitVec 32 := 0#32
  let v1801 : BitVec 1 := Scalar.cmpi .sgt c4_i32_1033 c0_i32_1036
  let v1802 : BitVec 32 := Scalar.extui v1801
  let c0_i32_1037 : BitVec 32 := 0#32
  let v1803 : BitVec 1 := Scalar.cmpi .slt c4_i32_1033 c0_i32_1037
  let v1804 : BitVec 32 := Scalar.extui v1803
  let v1805 : BitVec 32 := Scalar.subi v1802 v1804
  let v1806 : BitVec 1 := Scalar.cmpi .ne v1800 v1805
  let v1807 : BitVec 32 := Scalar.remsi v1792 c4_i32_1033
  let c0_i32_1038 : BitVec 32 := 0#32
  let v1808 : BitVec 1 := Scalar.cmpi .ne v1807 c0_i32_1038
  let v1809 : BitVec 1 := Scalar.andi v1806 v1808
  let v1795 : BitVec 32 := Scalar.divsi v1792 c4_i32_1033
  let c1_i32_1039 : BitVec 32 := 1#32
  let v1810 : BitVec 32 := Scalar.subi v1795 c1_i32_1039
  let v1811 : BitVec 32 := Scalar.select v1809 v1810 v1795
  let c8_i32_1055 : BitVec 32 := 8#32
  let v1838 : BitVec 32 := Scalar.muli v1811 c8_i32_1055
  let c2_i32_1052 : BitVec 32 := 2#32
  let c4_i32_1040 : BitVec 32 := 4#32
  let c0_i32_1041 : BitVec 32 := 0#32
  let v1812 : BitVec 1 := Scalar.cmpi .eq c4_i32_1040 c0_i32_1041
  let c1_i32_1042 : BitVec 32 := 1#32
  let v1813 : BitVec 32 := Scalar.select v1812 c1_i32_1042 c4_i32_1040
  let v1814 : BitVec 32 := Scalar.remsi v1792 v1813
  let c0_i32_1044 : BitVec 32 := 0#32
  let v1816 : BitVec 1 := Scalar.cmpi .slt v1814 c0_i32_1044
  let c0_i32_1045 : BitVec 32 := 0#32
  let v1817 : BitVec 1 := Scalar.cmpi .slt v1813 c0_i32_1045
  let v1818 : BitVec 1 := Scalar.xori v1816 v1817
  let c0_i32_1043 : BitVec 32 := 0#32
  let v1815 : BitVec 1 := Scalar.cmpi .ne v1814 c0_i32_1043
  let v1819 : BitVec 1 := Scalar.andi v1818 v1815
  let v1820 : BitVec 32 := Scalar.addi v1814 v1813
  let v1821 : BitVec 32 := Scalar.select v1819 v1820 v1814
  let v1832 : BitVec 32 := Scalar.muli c2_i32_1052 v1821
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v1833 : BitVec 32 := Scalar.addi v1832 v94
  let c2_i32_1046 : BitVec 32 := 2#32
  let c0_i32_1047 : BitVec 32 := 0#32
  let v1822 : BitVec 1 := Scalar.cmpi .eq c2_i32_1046 c0_i32_1047
  let c1_i32_1048 : BitVec 32 := 1#32
  let v1823 : BitVec 32 := Scalar.select v1822 c1_i32_1048 c2_i32_1046
  let v1824 : BitVec 32 := Scalar.remsi v1821 v1823
  let c0_i32_1050 : BitVec 32 := 0#32
  let v1826 : BitVec 1 := Scalar.cmpi .slt v1824 c0_i32_1050
  let c0_i32_1051 : BitVec 32 := 0#32
  let v1827 : BitVec 1 := Scalar.cmpi .slt v1823 c0_i32_1051
  let v1828 : BitVec 1 := Scalar.xori v1826 v1827
  let c0_i32_1049 : BitVec 32 := 0#32
  let v1825 : BitVec 1 := Scalar.cmpi .ne v1824 c0_i32_1049
  let v1829 : BitVec 1 := Scalar.andi v1828 v1825
  let v1830 : BitVec 32 := Scalar.addi v1824 v1823
  let v1831 : BitVec 32 := Scalar.select v1829 v1830 v1824
  let c1_i32_1054 : BitVec 32 := 1#32
  let c2_i32_1053 : BitVec 32 := 2#32
  let v1834 : BitVec 32 := Scalar.muli c2_i32_1053 v94
  let v1835 : BitVec 32 := Scalar.subi c1_i32_1054 v1834
  let v1836 : BitVec 32 := Scalar.muli v1831 v1835
  let v1837 : BitVec 32 := Scalar.addi v1833 v1836
  let v1839 : BitVec 32 := Scalar.addi v1838 v1837
  let c1_i32_1060 : BitVec 32 := 1#32
  let v1840 : BitVec 32 := Scalar.muli v1839 c1_i32_1060
  let v1841 : BitVec 32 := Scalar.addi c0_i32_1061 v1840
  v1841.toNat
def k0_dev33 (d0 : Dev nD) : Nat :=
  let c0_i32_1101 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c13_i32_1064 : BitVec 32 := 13#32
  let v1848 : BitVec 32 := Scalar.addi v96 c13_i32_1064
  let c16_i32_1065 : BitVec 32 := 16#32
  let c0_i32_1066 : BitVec 32 := 0#32
  let v1849 : BitVec 1 := Scalar.cmpi .eq c16_i32_1065 c0_i32_1066
  let c1_i32_1067 : BitVec 32 := 1#32
  let v1850 : BitVec 32 := Scalar.select v1849 c1_i32_1067 c16_i32_1065
  let v1851 : BitVec 32 := Scalar.remsi v1848 v1850
  let c0_i32_1069 : BitVec 32 := 0#32
  let v1853 : BitVec 1 := Scalar.cmpi .slt v1851 c0_i32_1069
  let c0_i32_1070 : BitVec 32 := 0#32
  let v1854 : BitVec 1 := Scalar.cmpi .slt v1850 c0_i32_1070
  let v1855 : BitVec 1 := Scalar.xori v1853 v1854
  let c0_i32_1068 : BitVec 32 := 0#32
  let v1852 : BitVec 1 := Scalar.cmpi .ne v1851 c0_i32_1068
  let v1856 : BitVec 1 := Scalar.andi v1855 v1852
  let v1857 : BitVec 32 := Scalar.addi v1851 v1850
  let v1858 : BitVec 32 := Scalar.select v1856 v1857 v1851
  let c0_i32_1074 : BitVec 32 := 0#32
  let v1862 : BitVec 1 := Scalar.cmpi .sgt v1858 c0_i32_1074
  let v1863 : BitVec 32 := Scalar.extui v1862
  let c0_i32_1075 : BitVec 32 := 0#32
  let v1864 : BitVec 1 := Scalar.cmpi .slt v1858 c0_i32_1075
  let v1865 : BitVec 32 := Scalar.extui v1864
  let v1866 : BitVec 32 := Scalar.subi v1863 v1865
  let c4_i32_1073 : BitVec 32 := 4#32
  let c0_i32_1076 : BitVec 32 := 0#32
  let v1867 : BitVec 1 := Scalar.cmpi .sgt c4_i32_1073 c0_i32_1076
  let v1868 : BitVec 32 := Scalar.extui v1867
  let c0_i32_1077 : BitVec 32 := 0#32
  let v1869 : BitVec 1 := Scalar.cmpi .slt c4_i32_1073 c0_i32_1077
  let v1870 : BitVec 32 := Scalar.extui v1869
  let v1871 : BitVec 32 := Scalar.subi v1868 v1870
  let v1872 : BitVec 1 := Scalar.cmpi .ne v1866 v1871
  let v1873 : BitVec 32 := Scalar.remsi v1858 c4_i32_1073
  let c0_i32_1078 : BitVec 32 := 0#32
  let v1874 : BitVec 1 := Scalar.cmpi .ne v1873 c0_i32_1078
  let v1875 : BitVec 1 := Scalar.andi v1872 v1874
  let v1861 : BitVec 32 := Scalar.divsi v1858 c4_i32_1073
  let c1_i32_1079 : BitVec 32 := 1#32
  let v1876 : BitVec 32 := Scalar.subi v1861 c1_i32_1079
  let v1877 : BitVec 32 := Scalar.select v1875 v1876 v1861
  let c8_i32_1095 : BitVec 32 := 8#32
  let v1904 : BitVec 32 := Scalar.muli v1877 c8_i32_1095
  let c2_i32_1092 : BitVec 32 := 2#32
  let c4_i32_1080 : BitVec 32 := 4#32
  let c0_i32_1081 : BitVec 32 := 0#32
  let v1878 : BitVec 1 := Scalar.cmpi .eq c4_i32_1080 c0_i32_1081
  let c1_i32_1082 : BitVec 32 := 1#32
  let v1879 : BitVec 32 := Scalar.select v1878 c1_i32_1082 c4_i32_1080
  let v1880 : BitVec 32 := Scalar.remsi v1858 v1879
  let c0_i32_1084 : BitVec 32 := 0#32
  let v1882 : BitVec 1 := Scalar.cmpi .slt v1880 c0_i32_1084
  let c0_i32_1085 : BitVec 32 := 0#32
  let v1883 : BitVec 1 := Scalar.cmpi .slt v1879 c0_i32_1085
  let v1884 : BitVec 1 := Scalar.xori v1882 v1883
  let c0_i32_1083 : BitVec 32 := 0#32
  let v1881 : BitVec 1 := Scalar.cmpi .ne v1880 c0_i32_1083
  let v1885 : BitVec 1 := Scalar.andi v1884 v1881
  let v1886 : BitVec 32 := Scalar.addi v1880 v1879
  let v1887 : BitVec 32 := Scalar.select v1885 v1886 v1880
  let v1898 : BitVec 32 := Scalar.muli c2_i32_1092 v1887
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v1899 : BitVec 32 := Scalar.addi v1898 v94
  let c2_i32_1086 : BitVec 32 := 2#32
  let c0_i32_1087 : BitVec 32 := 0#32
  let v1888 : BitVec 1 := Scalar.cmpi .eq c2_i32_1086 c0_i32_1087
  let c1_i32_1088 : BitVec 32 := 1#32
  let v1889 : BitVec 32 := Scalar.select v1888 c1_i32_1088 c2_i32_1086
  let v1890 : BitVec 32 := Scalar.remsi v1887 v1889
  let c0_i32_1090 : BitVec 32 := 0#32
  let v1892 : BitVec 1 := Scalar.cmpi .slt v1890 c0_i32_1090
  let c0_i32_1091 : BitVec 32 := 0#32
  let v1893 : BitVec 1 := Scalar.cmpi .slt v1889 c0_i32_1091
  let v1894 : BitVec 1 := Scalar.xori v1892 v1893
  let c0_i32_1089 : BitVec 32 := 0#32
  let v1891 : BitVec 1 := Scalar.cmpi .ne v1890 c0_i32_1089
  let v1895 : BitVec 1 := Scalar.andi v1894 v1891
  let v1896 : BitVec 32 := Scalar.addi v1890 v1889
  let v1897 : BitVec 32 := Scalar.select v1895 v1896 v1890
  let c1_i32_1094 : BitVec 32 := 1#32
  let c2_i32_1093 : BitVec 32 := 2#32
  let v1900 : BitVec 32 := Scalar.muli c2_i32_1093 v94
  let v1901 : BitVec 32 := Scalar.subi c1_i32_1094 v1900
  let v1902 : BitVec 32 := Scalar.muli v1897 v1901
  let v1903 : BitVec 32 := Scalar.addi v1899 v1902
  let v1905 : BitVec 32 := Scalar.addi v1904 v1903
  let c1_i32_1100 : BitVec 32 := 1#32
  let v1906 : BitVec 32 := Scalar.muli v1905 c1_i32_1100
  let v1907 : BitVec 32 := Scalar.addi c0_i32_1101 v1906
  v1907.toNat
def k0_dev34 (d0 : Dev nD) : Nat :=
  let c0_i32_1141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c14_i32_1104 : BitVec 32 := 14#32
  let v1914 : BitVec 32 := Scalar.addi v96 c14_i32_1104
  let c16_i32_1105 : BitVec 32 := 16#32
  let c0_i32_1106 : BitVec 32 := 0#32
  let v1915 : BitVec 1 := Scalar.cmpi .eq c16_i32_1105 c0_i32_1106
  let c1_i32_1107 : BitVec 32 := 1#32
  let v1916 : BitVec 32 := Scalar.select v1915 c1_i32_1107 c16_i32_1105
  let v1917 : BitVec 32 := Scalar.remsi v1914 v1916
  let c0_i32_1109 : BitVec 32 := 0#32
  let v1919 : BitVec 1 := Scalar.cmpi .slt v1917 c0_i32_1109
  let c0_i32_1110 : BitVec 32 := 0#32
  let v1920 : BitVec 1 := Scalar.cmpi .slt v1916 c0_i32_1110
  let v1921 : BitVec 1 := Scalar.xori v1919 v1920
  let c0_i32_1108 : BitVec 32 := 0#32
  let v1918 : BitVec 1 := Scalar.cmpi .ne v1917 c0_i32_1108
  let v1922 : BitVec 1 := Scalar.andi v1921 v1918
  let v1923 : BitVec 32 := Scalar.addi v1917 v1916
  let v1924 : BitVec 32 := Scalar.select v1922 v1923 v1917
  let c0_i32_1114 : BitVec 32 := 0#32
  let v1928 : BitVec 1 := Scalar.cmpi .sgt v1924 c0_i32_1114
  let v1929 : BitVec 32 := Scalar.extui v1928
  let c0_i32_1115 : BitVec 32 := 0#32
  let v1930 : BitVec 1 := Scalar.cmpi .slt v1924 c0_i32_1115
  let v1931 : BitVec 32 := Scalar.extui v1930
  let v1932 : BitVec 32 := Scalar.subi v1929 v1931
  let c4_i32_1113 : BitVec 32 := 4#32
  let c0_i32_1116 : BitVec 32 := 0#32
  let v1933 : BitVec 1 := Scalar.cmpi .sgt c4_i32_1113 c0_i32_1116
  let v1934 : BitVec 32 := Scalar.extui v1933
  let c0_i32_1117 : BitVec 32 := 0#32
  let v1935 : BitVec 1 := Scalar.cmpi .slt c4_i32_1113 c0_i32_1117
  let v1936 : BitVec 32 := Scalar.extui v1935
  let v1937 : BitVec 32 := Scalar.subi v1934 v1936
  let v1938 : BitVec 1 := Scalar.cmpi .ne v1932 v1937
  let v1939 : BitVec 32 := Scalar.remsi v1924 c4_i32_1113
  let c0_i32_1118 : BitVec 32 := 0#32
  let v1940 : BitVec 1 := Scalar.cmpi .ne v1939 c0_i32_1118
  let v1941 : BitVec 1 := Scalar.andi v1938 v1940
  let v1927 : BitVec 32 := Scalar.divsi v1924 c4_i32_1113
  let c1_i32_1119 : BitVec 32 := 1#32
  let v1942 : BitVec 32 := Scalar.subi v1927 c1_i32_1119
  let v1943 : BitVec 32 := Scalar.select v1941 v1942 v1927
  let c8_i32_1135 : BitVec 32 := 8#32
  let v1970 : BitVec 32 := Scalar.muli v1943 c8_i32_1135
  let c2_i32_1132 : BitVec 32 := 2#32
  let c4_i32_1120 : BitVec 32 := 4#32
  let c0_i32_1121 : BitVec 32 := 0#32
  let v1944 : BitVec 1 := Scalar.cmpi .eq c4_i32_1120 c0_i32_1121
  let c1_i32_1122 : BitVec 32 := 1#32
  let v1945 : BitVec 32 := Scalar.select v1944 c1_i32_1122 c4_i32_1120
  let v1946 : BitVec 32 := Scalar.remsi v1924 v1945
  let c0_i32_1124 : BitVec 32 := 0#32
  let v1948 : BitVec 1 := Scalar.cmpi .slt v1946 c0_i32_1124
  let c0_i32_1125 : BitVec 32 := 0#32
  let v1949 : BitVec 1 := Scalar.cmpi .slt v1945 c0_i32_1125
  let v1950 : BitVec 1 := Scalar.xori v1948 v1949
  let c0_i32_1123 : BitVec 32 := 0#32
  let v1947 : BitVec 1 := Scalar.cmpi .ne v1946 c0_i32_1123
  let v1951 : BitVec 1 := Scalar.andi v1950 v1947
  let v1952 : BitVec 32 := Scalar.addi v1946 v1945
  let v1953 : BitVec 32 := Scalar.select v1951 v1952 v1946
  let v1964 : BitVec 32 := Scalar.muli c2_i32_1132 v1953
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v1965 : BitVec 32 := Scalar.addi v1964 v94
  let c2_i32_1126 : BitVec 32 := 2#32
  let c0_i32_1127 : BitVec 32 := 0#32
  let v1954 : BitVec 1 := Scalar.cmpi .eq c2_i32_1126 c0_i32_1127
  let c1_i32_1128 : BitVec 32 := 1#32
  let v1955 : BitVec 32 := Scalar.select v1954 c1_i32_1128 c2_i32_1126
  let v1956 : BitVec 32 := Scalar.remsi v1953 v1955
  let c0_i32_1130 : BitVec 32 := 0#32
  let v1958 : BitVec 1 := Scalar.cmpi .slt v1956 c0_i32_1130
  let c0_i32_1131 : BitVec 32 := 0#32
  let v1959 : BitVec 1 := Scalar.cmpi .slt v1955 c0_i32_1131
  let v1960 : BitVec 1 := Scalar.xori v1958 v1959
  let c0_i32_1129 : BitVec 32 := 0#32
  let v1957 : BitVec 1 := Scalar.cmpi .ne v1956 c0_i32_1129
  let v1961 : BitVec 1 := Scalar.andi v1960 v1957
  let v1962 : BitVec 32 := Scalar.addi v1956 v1955
  let v1963 : BitVec 32 := Scalar.select v1961 v1962 v1956
  let c1_i32_1134 : BitVec 32 := 1#32
  let c2_i32_1133 : BitVec 32 := 2#32
  let v1966 : BitVec 32 := Scalar.muli c2_i32_1133 v94
  let v1967 : BitVec 32 := Scalar.subi c1_i32_1134 v1966
  let v1968 : BitVec 32 := Scalar.muli v1963 v1967
  let v1969 : BitVec 32 := Scalar.addi v1965 v1968
  let v1971 : BitVec 32 := Scalar.addi v1970 v1969
  let c1_i32_1140 : BitVec 32 := 1#32
  let v1972 : BitVec 32 := Scalar.muli v1971 c1_i32_1140
  let v1973 : BitVec 32 := Scalar.addi c0_i32_1141 v1972
  v1973.toNat
def k0_dev35 (d0 : Dev nD) : Nat :=
  let c0_i32_1181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c15_i32_1144 : BitVec 32 := 15#32
  let v1980 : BitVec 32 := Scalar.addi v96 c15_i32_1144
  let c16_i32_1145 : BitVec 32 := 16#32
  let c0_i32_1146 : BitVec 32 := 0#32
  let v1981 : BitVec 1 := Scalar.cmpi .eq c16_i32_1145 c0_i32_1146
  let c1_i32_1147 : BitVec 32 := 1#32
  let v1982 : BitVec 32 := Scalar.select v1981 c1_i32_1147 c16_i32_1145
  let v1983 : BitVec 32 := Scalar.remsi v1980 v1982
  let c0_i32_1149 : BitVec 32 := 0#32
  let v1985 : BitVec 1 := Scalar.cmpi .slt v1983 c0_i32_1149
  let c0_i32_1150 : BitVec 32 := 0#32
  let v1986 : BitVec 1 := Scalar.cmpi .slt v1982 c0_i32_1150
  let v1987 : BitVec 1 := Scalar.xori v1985 v1986
  let c0_i32_1148 : BitVec 32 := 0#32
  let v1984 : BitVec 1 := Scalar.cmpi .ne v1983 c0_i32_1148
  let v1988 : BitVec 1 := Scalar.andi v1987 v1984
  let v1989 : BitVec 32 := Scalar.addi v1983 v1982
  let v1990 : BitVec 32 := Scalar.select v1988 v1989 v1983
  let c0_i32_1154 : BitVec 32 := 0#32
  let v1994 : BitVec 1 := Scalar.cmpi .sgt v1990 c0_i32_1154
  let v1995 : BitVec 32 := Scalar.extui v1994
  let c0_i32_1155 : BitVec 32 := 0#32
  let v1996 : BitVec 1 := Scalar.cmpi .slt v1990 c0_i32_1155
  let v1997 : BitVec 32 := Scalar.extui v1996
  let v1998 : BitVec 32 := Scalar.subi v1995 v1997
  let c4_i32_1153 : BitVec 32 := 4#32
  let c0_i32_1156 : BitVec 32 := 0#32
  let v1999 : BitVec 1 := Scalar.cmpi .sgt c4_i32_1153 c0_i32_1156
  let v2000 : BitVec 32 := Scalar.extui v1999
  let c0_i32_1157 : BitVec 32 := 0#32
  let v2001 : BitVec 1 := Scalar.cmpi .slt c4_i32_1153 c0_i32_1157
  let v2002 : BitVec 32 := Scalar.extui v2001
  let v2003 : BitVec 32 := Scalar.subi v2000 v2002
  let v2004 : BitVec 1 := Scalar.cmpi .ne v1998 v2003
  let v2005 : BitVec 32 := Scalar.remsi v1990 c4_i32_1153
  let c0_i32_1158 : BitVec 32 := 0#32
  let v2006 : BitVec 1 := Scalar.cmpi .ne v2005 c0_i32_1158
  let v2007 : BitVec 1 := Scalar.andi v2004 v2006
  let v1993 : BitVec 32 := Scalar.divsi v1990 c4_i32_1153
  let c1_i32_1159 : BitVec 32 := 1#32
  let v2008 : BitVec 32 := Scalar.subi v1993 c1_i32_1159
  let v2009 : BitVec 32 := Scalar.select v2007 v2008 v1993
  let c8_i32_1175 : BitVec 32 := 8#32
  let v2036 : BitVec 32 := Scalar.muli v2009 c8_i32_1175
  let c2_i32_1172 : BitVec 32 := 2#32
  let c4_i32_1160 : BitVec 32 := 4#32
  let c0_i32_1161 : BitVec 32 := 0#32
  let v2010 : BitVec 1 := Scalar.cmpi .eq c4_i32_1160 c0_i32_1161
  let c1_i32_1162 : BitVec 32 := 1#32
  let v2011 : BitVec 32 := Scalar.select v2010 c1_i32_1162 c4_i32_1160
  let v2012 : BitVec 32 := Scalar.remsi v1990 v2011
  let c0_i32_1164 : BitVec 32 := 0#32
  let v2014 : BitVec 1 := Scalar.cmpi .slt v2012 c0_i32_1164
  let c0_i32_1165 : BitVec 32 := 0#32
  let v2015 : BitVec 1 := Scalar.cmpi .slt v2011 c0_i32_1165
  let v2016 : BitVec 1 := Scalar.xori v2014 v2015
  let c0_i32_1163 : BitVec 32 := 0#32
  let v2013 : BitVec 1 := Scalar.cmpi .ne v2012 c0_i32_1163
  let v2017 : BitVec 1 := Scalar.andi v2016 v2013
  let v2018 : BitVec 32 := Scalar.addi v2012 v2011
  let v2019 : BitVec 32 := Scalar.select v2017 v2018 v2012
  let v2030 : BitVec 32 := Scalar.muli c2_i32_1172 v2019
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v2031 : BitVec 32 := Scalar.addi v2030 v94
  let c2_i32_1166 : BitVec 32 := 2#32
  let c0_i32_1167 : BitVec 32 := 0#32
  let v2020 : BitVec 1 := Scalar.cmpi .eq c2_i32_1166 c0_i32_1167
  let c1_i32_1168 : BitVec 32 := 1#32
  let v2021 : BitVec 32 := Scalar.select v2020 c1_i32_1168 c2_i32_1166
  let v2022 : BitVec 32 := Scalar.remsi v2019 v2021
  let c0_i32_1170 : BitVec 32 := 0#32
  let v2024 : BitVec 1 := Scalar.cmpi .slt v2022 c0_i32_1170
  let c0_i32_1171 : BitVec 32 := 0#32
  let v2025 : BitVec 1 := Scalar.cmpi .slt v2021 c0_i32_1171
  let v2026 : BitVec 1 := Scalar.xori v2024 v2025
  let c0_i32_1169 : BitVec 32 := 0#32
  let v2023 : BitVec 1 := Scalar.cmpi .ne v2022 c0_i32_1169
  let v2027 : BitVec 1 := Scalar.andi v2026 v2023
  let v2028 : BitVec 32 := Scalar.addi v2022 v2021
  let v2029 : BitVec 32 := Scalar.select v2027 v2028 v2022
  let c1_i32_1174 : BitVec 32 := 1#32
  let c2_i32_1173 : BitVec 32 := 2#32
  let v2032 : BitVec 32 := Scalar.muli c2_i32_1173 v94
  let v2033 : BitVec 32 := Scalar.subi c1_i32_1174 v2032
  let v2034 : BitVec 32 := Scalar.muli v2029 v2033
  let v2035 : BitVec 32 := Scalar.addi v2031 v2034
  let v2037 : BitVec 32 := Scalar.addi v2036 v2035
  let c1_i32_1180 : BitVec 32 := 1#32
  let v2038 : BitVec 32 := Scalar.muli v2037 c1_i32_1180
  let v2039 : BitVec 32 := Scalar.addi c0_i32_1181 v2038
  v2039.toNat
def k0_off12 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let c512_i32 : BitVec 32 := 512#32
  let v97 : BitVec 32 := Scalar.muli v94 c512_i32
  let v2052 : Index := Scalar.indexCast v97
  let c256 : Index := 256#32
  ![v2052.toNat, 256]
def k0_off13 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c32_i32_1203 : BitVec 32 := 32#32
  let v2074 : BitVec 32 := Scalar.muli v96 c32_i32_1203
  let c256_i32_1233 : BitVec 32 := 256#32
  ![v2074.toNat, 256]
def k0_off14 (d0 : Dev nD) (c1_i32_1195 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let v2062 : BitVec 32 := Scalar.addi v96 c1_i32_1195
  let c16_i32_1196 : BitVec 32 := 16#32
  let c0_i32_1197 : BitVec 32 := 0#32
  let v2063 : BitVec 1 := Scalar.cmpi .eq c16_i32_1196 c0_i32_1197
  let c1_i32_1198 : BitVec 32 := 1#32
  let v2064 : BitVec 32 := Scalar.select v2063 c1_i32_1198 c16_i32_1196
  let v2065 : BitVec 32 := Scalar.remsi v2062 v2064
  let c0_i32_1200 : BitVec 32 := 0#32
  let v2067 : BitVec 1 := Scalar.cmpi .slt v2065 c0_i32_1200
  let c0_i32_1201 : BitVec 32 := 0#32
  let v2068 : BitVec 1 := Scalar.cmpi .slt v2064 c0_i32_1201
  let v2069 : BitVec 1 := Scalar.xori v2067 v2068
  let c0_i32_1199 : BitVec 32 := 0#32
  let v2066 : BitVec 1 := Scalar.cmpi .ne v2065 c0_i32_1199
  let v2070 : BitVec 1 := Scalar.andi v2069 v2066
  let v2071 : BitVec 32 := Scalar.addi v2065 v2064
  let v2072 : BitVec 32 := Scalar.select v2070 v2071 v2065
  let c32_i32_1202 : BitVec 32 := 32#32
  let v2073 : BitVec 32 := Scalar.muli v2072 c32_i32_1202
  let c256_i32_1234 : BitVec 32 := 256#32
  ![v2073.toNat, 256]
def k0_dev36 (d0 : Dev nD) : Nat :=
  let c0_i32_1232 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c1_i32_1195 : BitVec 32 := 1#32
  let v2062 : BitVec 32 := Scalar.addi v96 c1_i32_1195
  let c16_i32_1196 : BitVec 32 := 16#32
  let c0_i32_1197 : BitVec 32 := 0#32
  let v2063 : BitVec 1 := Scalar.cmpi .eq c16_i32_1196 c0_i32_1197
  let c1_i32_1198 : BitVec 32 := 1#32
  let v2064 : BitVec 32 := Scalar.select v2063 c1_i32_1198 c16_i32_1196
  let v2065 : BitVec 32 := Scalar.remsi v2062 v2064
  let c0_i32_1200 : BitVec 32 := 0#32
  let v2067 : BitVec 1 := Scalar.cmpi .slt v2065 c0_i32_1200
  let c0_i32_1201 : BitVec 32 := 0#32
  let v2068 : BitVec 1 := Scalar.cmpi .slt v2064 c0_i32_1201
  let v2069 : BitVec 1 := Scalar.xori v2067 v2068
  let c0_i32_1199 : BitVec 32 := 0#32
  let v2066 : BitVec 1 := Scalar.cmpi .ne v2065 c0_i32_1199
  let v2070 : BitVec 1 := Scalar.andi v2069 v2066
  let v2071 : BitVec 32 := Scalar.addi v2065 v2064
  let v2072 : BitVec 32 := Scalar.select v2070 v2071 v2065
  let c0_i32_1205 : BitVec 32 := 0#32
  let v2076 : BitVec 1 := Scalar.cmpi .sgt v2072 c0_i32_1205
  let v2077 : BitVec 32 := Scalar.extui v2076
  let c0_i32_1206 : BitVec 32 := 0#32
  let v2078 : BitVec 1 := Scalar.cmpi .slt v2072 c0_i32_1206
  let v2079 : BitVec 32 := Scalar.extui v2078
  let v2080 : BitVec 32 := Scalar.subi v2077 v2079
  let c4_i32_1204 : BitVec 32 := 4#32
  let c0_i32_1207 : BitVec 32 := 0#32
  let v2081 : BitVec 1 := Scalar.cmpi .sgt c4_i32_1204 c0_i32_1207
  let v2082 : BitVec 32 := Scalar.extui v2081
  let c0_i32_1208 : BitVec 32 := 0#32
  let v2083 : BitVec 1 := Scalar.cmpi .slt c4_i32_1204 c0_i32_1208
  let v2084 : BitVec 32 := Scalar.extui v2083
  let v2085 : BitVec 32 := Scalar.subi v2082 v2084
  let v2086 : BitVec 1 := Scalar.cmpi .ne v2080 v2085
  let v2087 : BitVec 32 := Scalar.remsi v2072 c4_i32_1204
  let c0_i32_1209 : BitVec 32 := 0#32
  let v2088 : BitVec 1 := Scalar.cmpi .ne v2087 c0_i32_1209
  let v2089 : BitVec 1 := Scalar.andi v2086 v2088
  let v2075 : BitVec 32 := Scalar.divsi v2072 c4_i32_1204
  let c1_i32_1210 : BitVec 32 := 1#32
  let v2090 : BitVec 32 := Scalar.subi v2075 c1_i32_1210
  let v2091 : BitVec 32 := Scalar.select v2089 v2090 v2075
  let c8_i32_1226 : BitVec 32 := 8#32
  let v2118 : BitVec 32 := Scalar.muli v2091 c8_i32_1226
  let c2_i32_1223 : BitVec 32 := 2#32
  let c4_i32_1211 : BitVec 32 := 4#32
  let c0_i32_1212 : BitVec 32 := 0#32
  let v2092 : BitVec 1 := Scalar.cmpi .eq c4_i32_1211 c0_i32_1212
  let c1_i32_1213 : BitVec 32 := 1#32
  let v2093 : BitVec 32 := Scalar.select v2092 c1_i32_1213 c4_i32_1211
  let v2094 : BitVec 32 := Scalar.remsi v2072 v2093
  let c0_i32_1215 : BitVec 32 := 0#32
  let v2096 : BitVec 1 := Scalar.cmpi .slt v2094 c0_i32_1215
  let c0_i32_1216 : BitVec 32 := 0#32
  let v2097 : BitVec 1 := Scalar.cmpi .slt v2093 c0_i32_1216
  let v2098 : BitVec 1 := Scalar.xori v2096 v2097
  let c0_i32_1214 : BitVec 32 := 0#32
  let v2095 : BitVec 1 := Scalar.cmpi .ne v2094 c0_i32_1214
  let v2099 : BitVec 1 := Scalar.andi v2098 v2095
  let v2100 : BitVec 32 := Scalar.addi v2094 v2093
  let v2101 : BitVec 32 := Scalar.select v2099 v2100 v2094
  let v2112 : BitVec 32 := Scalar.muli c2_i32_1223 v2101
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v2113 : BitVec 32 := Scalar.addi v2112 v94
  let c2_i32_1217 : BitVec 32 := 2#32
  let c0_i32_1218 : BitVec 32 := 0#32
  let v2102 : BitVec 1 := Scalar.cmpi .eq c2_i32_1217 c0_i32_1218
  let c1_i32_1219 : BitVec 32 := 1#32
  let v2103 : BitVec 32 := Scalar.select v2102 c1_i32_1219 c2_i32_1217
  let v2104 : BitVec 32 := Scalar.remsi v2101 v2103
  let c0_i32_1221 : BitVec 32 := 0#32
  let v2106 : BitVec 1 := Scalar.cmpi .slt v2104 c0_i32_1221
  let c0_i32_1222 : BitVec 32 := 0#32
  let v2107 : BitVec 1 := Scalar.cmpi .slt v2103 c0_i32_1222
  let v2108 : BitVec 1 := Scalar.xori v2106 v2107
  let c0_i32_1220 : BitVec 32 := 0#32
  let v2105 : BitVec 1 := Scalar.cmpi .ne v2104 c0_i32_1220
  let v2109 : BitVec 1 := Scalar.andi v2108 v2105
  let v2110 : BitVec 32 := Scalar.addi v2104 v2103
  let v2111 : BitVec 32 := Scalar.select v2109 v2110 v2104
  let c1_i32_1225 : BitVec 32 := 1#32
  let c2_i32_1224 : BitVec 32 := 2#32
  let v2114 : BitVec 32 := Scalar.muli c2_i32_1224 v94
  let v2115 : BitVec 32 := Scalar.subi c1_i32_1225 v2114
  let v2116 : BitVec 32 := Scalar.muli v2111 v2115
  let v2117 : BitVec 32 := Scalar.addi v2113 v2116
  let v2119 : BitVec 32 := Scalar.addi v2118 v2117
  let c1_i32_1231 : BitVec 32 := 1#32
  let v2120 : BitVec 32 := Scalar.muli v2119 c1_i32_1231
  let v2121 : BitVec 32 := Scalar.addi c0_i32_1232 v2120
  v2121.toNat
def k0_dev37 (d0 : Dev nD) : Nat :=
  let c0_i32_1272 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c2_i32_1235 : BitVec 32 := 2#32
  let v2128 : BitVec 32 := Scalar.addi v96 c2_i32_1235
  let c16_i32_1236 : BitVec 32 := 16#32
  let c0_i32_1237 : BitVec 32 := 0#32
  let v2129 : BitVec 1 := Scalar.cmpi .eq c16_i32_1236 c0_i32_1237
  let c1_i32_1238 : BitVec 32 := 1#32
  let v2130 : BitVec 32 := Scalar.select v2129 c1_i32_1238 c16_i32_1236
  let v2131 : BitVec 32 := Scalar.remsi v2128 v2130
  let c0_i32_1240 : BitVec 32 := 0#32
  let v2133 : BitVec 1 := Scalar.cmpi .slt v2131 c0_i32_1240
  let c0_i32_1241 : BitVec 32 := 0#32
  let v2134 : BitVec 1 := Scalar.cmpi .slt v2130 c0_i32_1241
  let v2135 : BitVec 1 := Scalar.xori v2133 v2134
  let c0_i32_1239 : BitVec 32 := 0#32
  let v2132 : BitVec 1 := Scalar.cmpi .ne v2131 c0_i32_1239
  let v2136 : BitVec 1 := Scalar.andi v2135 v2132
  let v2137 : BitVec 32 := Scalar.addi v2131 v2130
  let v2138 : BitVec 32 := Scalar.select v2136 v2137 v2131
  let c0_i32_1245 : BitVec 32 := 0#32
  let v2142 : BitVec 1 := Scalar.cmpi .sgt v2138 c0_i32_1245
  let v2143 : BitVec 32 := Scalar.extui v2142
  let c0_i32_1246 : BitVec 32 := 0#32
  let v2144 : BitVec 1 := Scalar.cmpi .slt v2138 c0_i32_1246
  let v2145 : BitVec 32 := Scalar.extui v2144
  let v2146 : BitVec 32 := Scalar.subi v2143 v2145
  let c4_i32_1244 : BitVec 32 := 4#32
  let c0_i32_1247 : BitVec 32 := 0#32
  let v2147 : BitVec 1 := Scalar.cmpi .sgt c4_i32_1244 c0_i32_1247
  let v2148 : BitVec 32 := Scalar.extui v2147
  let c0_i32_1248 : BitVec 32 := 0#32
  let v2149 : BitVec 1 := Scalar.cmpi .slt c4_i32_1244 c0_i32_1248
  let v2150 : BitVec 32 := Scalar.extui v2149
  let v2151 : BitVec 32 := Scalar.subi v2148 v2150
  let v2152 : BitVec 1 := Scalar.cmpi .ne v2146 v2151
  let v2153 : BitVec 32 := Scalar.remsi v2138 c4_i32_1244
  let c0_i32_1249 : BitVec 32 := 0#32
  let v2154 : BitVec 1 := Scalar.cmpi .ne v2153 c0_i32_1249
  let v2155 : BitVec 1 := Scalar.andi v2152 v2154
  let v2141 : BitVec 32 := Scalar.divsi v2138 c4_i32_1244
  let c1_i32_1250 : BitVec 32 := 1#32
  let v2156 : BitVec 32 := Scalar.subi v2141 c1_i32_1250
  let v2157 : BitVec 32 := Scalar.select v2155 v2156 v2141
  let c8_i32_1266 : BitVec 32 := 8#32
  let v2184 : BitVec 32 := Scalar.muli v2157 c8_i32_1266
  let c2_i32_1263 : BitVec 32 := 2#32
  let c4_i32_1251 : BitVec 32 := 4#32
  let c0_i32_1252 : BitVec 32 := 0#32
  let v2158 : BitVec 1 := Scalar.cmpi .eq c4_i32_1251 c0_i32_1252
  let c1_i32_1253 : BitVec 32 := 1#32
  let v2159 : BitVec 32 := Scalar.select v2158 c1_i32_1253 c4_i32_1251
  let v2160 : BitVec 32 := Scalar.remsi v2138 v2159
  let c0_i32_1255 : BitVec 32 := 0#32
  let v2162 : BitVec 1 := Scalar.cmpi .slt v2160 c0_i32_1255
  let c0_i32_1256 : BitVec 32 := 0#32
  let v2163 : BitVec 1 := Scalar.cmpi .slt v2159 c0_i32_1256
  let v2164 : BitVec 1 := Scalar.xori v2162 v2163
  let c0_i32_1254 : BitVec 32 := 0#32
  let v2161 : BitVec 1 := Scalar.cmpi .ne v2160 c0_i32_1254
  let v2165 : BitVec 1 := Scalar.andi v2164 v2161
  let v2166 : BitVec 32 := Scalar.addi v2160 v2159
  let v2167 : BitVec 32 := Scalar.select v2165 v2166 v2160
  let v2178 : BitVec 32 := Scalar.muli c2_i32_1263 v2167
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v2179 : BitVec 32 := Scalar.addi v2178 v94
  let c2_i32_1257 : BitVec 32 := 2#32
  let c0_i32_1258 : BitVec 32 := 0#32
  let v2168 : BitVec 1 := Scalar.cmpi .eq c2_i32_1257 c0_i32_1258
  let c1_i32_1259 : BitVec 32 := 1#32
  let v2169 : BitVec 32 := Scalar.select v2168 c1_i32_1259 c2_i32_1257
  let v2170 : BitVec 32 := Scalar.remsi v2167 v2169
  let c0_i32_1261 : BitVec 32 := 0#32
  let v2172 : BitVec 1 := Scalar.cmpi .slt v2170 c0_i32_1261
  let c0_i32_1262 : BitVec 32 := 0#32
  let v2173 : BitVec 1 := Scalar.cmpi .slt v2169 c0_i32_1262
  let v2174 : BitVec 1 := Scalar.xori v2172 v2173
  let c0_i32_1260 : BitVec 32 := 0#32
  let v2171 : BitVec 1 := Scalar.cmpi .ne v2170 c0_i32_1260
  let v2175 : BitVec 1 := Scalar.andi v2174 v2171
  let v2176 : BitVec 32 := Scalar.addi v2170 v2169
  let v2177 : BitVec 32 := Scalar.select v2175 v2176 v2170
  let c1_i32_1265 : BitVec 32 := 1#32
  let c2_i32_1264 : BitVec 32 := 2#32
  let v2180 : BitVec 32 := Scalar.muli c2_i32_1264 v94
  let v2181 : BitVec 32 := Scalar.subi c1_i32_1265 v2180
  let v2182 : BitVec 32 := Scalar.muli v2177 v2181
  let v2183 : BitVec 32 := Scalar.addi v2179 v2182
  let v2185 : BitVec 32 := Scalar.addi v2184 v2183
  let c1_i32_1271 : BitVec 32 := 1#32
  let v2186 : BitVec 32 := Scalar.muli v2185 c1_i32_1271
  let v2187 : BitVec 32 := Scalar.addi c0_i32_1272 v2186
  v2187.toNat
def k0_dev38 (d0 : Dev nD) : Nat :=
  let c0_i32_1312 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c3_i32_1275 : BitVec 32 := 3#32
  let v2194 : BitVec 32 := Scalar.addi v96 c3_i32_1275
  let c16_i32_1276 : BitVec 32 := 16#32
  let c0_i32_1277 : BitVec 32 := 0#32
  let v2195 : BitVec 1 := Scalar.cmpi .eq c16_i32_1276 c0_i32_1277
  let c1_i32_1278 : BitVec 32 := 1#32
  let v2196 : BitVec 32 := Scalar.select v2195 c1_i32_1278 c16_i32_1276
  let v2197 : BitVec 32 := Scalar.remsi v2194 v2196
  let c0_i32_1280 : BitVec 32 := 0#32
  let v2199 : BitVec 1 := Scalar.cmpi .slt v2197 c0_i32_1280
  let c0_i32_1281 : BitVec 32 := 0#32
  let v2200 : BitVec 1 := Scalar.cmpi .slt v2196 c0_i32_1281
  let v2201 : BitVec 1 := Scalar.xori v2199 v2200
  let c0_i32_1279 : BitVec 32 := 0#32
  let v2198 : BitVec 1 := Scalar.cmpi .ne v2197 c0_i32_1279
  let v2202 : BitVec 1 := Scalar.andi v2201 v2198
  let v2203 : BitVec 32 := Scalar.addi v2197 v2196
  let v2204 : BitVec 32 := Scalar.select v2202 v2203 v2197
  let c0_i32_1285 : BitVec 32 := 0#32
  let v2208 : BitVec 1 := Scalar.cmpi .sgt v2204 c0_i32_1285
  let v2209 : BitVec 32 := Scalar.extui v2208
  let c0_i32_1286 : BitVec 32 := 0#32
  let v2210 : BitVec 1 := Scalar.cmpi .slt v2204 c0_i32_1286
  let v2211 : BitVec 32 := Scalar.extui v2210
  let v2212 : BitVec 32 := Scalar.subi v2209 v2211
  let c4_i32_1284 : BitVec 32 := 4#32
  let c0_i32_1287 : BitVec 32 := 0#32
  let v2213 : BitVec 1 := Scalar.cmpi .sgt c4_i32_1284 c0_i32_1287
  let v2214 : BitVec 32 := Scalar.extui v2213
  let c0_i32_1288 : BitVec 32 := 0#32
  let v2215 : BitVec 1 := Scalar.cmpi .slt c4_i32_1284 c0_i32_1288
  let v2216 : BitVec 32 := Scalar.extui v2215
  let v2217 : BitVec 32 := Scalar.subi v2214 v2216
  let v2218 : BitVec 1 := Scalar.cmpi .ne v2212 v2217
  let v2219 : BitVec 32 := Scalar.remsi v2204 c4_i32_1284
  let c0_i32_1289 : BitVec 32 := 0#32
  let v2220 : BitVec 1 := Scalar.cmpi .ne v2219 c0_i32_1289
  let v2221 : BitVec 1 := Scalar.andi v2218 v2220
  let v2207 : BitVec 32 := Scalar.divsi v2204 c4_i32_1284
  let c1_i32_1290 : BitVec 32 := 1#32
  let v2222 : BitVec 32 := Scalar.subi v2207 c1_i32_1290
  let v2223 : BitVec 32 := Scalar.select v2221 v2222 v2207
  let c8_i32_1306 : BitVec 32 := 8#32
  let v2250 : BitVec 32 := Scalar.muli v2223 c8_i32_1306
  let c2_i32_1303 : BitVec 32 := 2#32
  let c4_i32_1291 : BitVec 32 := 4#32
  let c0_i32_1292 : BitVec 32 := 0#32
  let v2224 : BitVec 1 := Scalar.cmpi .eq c4_i32_1291 c0_i32_1292
  let c1_i32_1293 : BitVec 32 := 1#32
  let v2225 : BitVec 32 := Scalar.select v2224 c1_i32_1293 c4_i32_1291
  let v2226 : BitVec 32 := Scalar.remsi v2204 v2225
  let c0_i32_1295 : BitVec 32 := 0#32
  let v2228 : BitVec 1 := Scalar.cmpi .slt v2226 c0_i32_1295
  let c0_i32_1296 : BitVec 32 := 0#32
  let v2229 : BitVec 1 := Scalar.cmpi .slt v2225 c0_i32_1296
  let v2230 : BitVec 1 := Scalar.xori v2228 v2229
  let c0_i32_1294 : BitVec 32 := 0#32
  let v2227 : BitVec 1 := Scalar.cmpi .ne v2226 c0_i32_1294
  let v2231 : BitVec 1 := Scalar.andi v2230 v2227
  let v2232 : BitVec 32 := Scalar.addi v2226 v2225
  let v2233 : BitVec 32 := Scalar.select v2231 v2232 v2226
  let v2244 : BitVec 32 := Scalar.muli c2_i32_1303 v2233
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v2245 : BitVec 32 := Scalar.addi v2244 v94
  let c2_i32_1297 : BitVec 32 := 2#32
  let c0_i32_1298 : BitVec 32 := 0#32
  let v2234 : BitVec 1 := Scalar.cmpi .eq c2_i32_1297 c0_i32_1298
  let c1_i32_1299 : BitVec 32 := 1#32
  let v2235 : BitVec 32 := Scalar.select v2234 c1_i32_1299 c2_i32_1297
  let v2236 : BitVec 32 := Scalar.remsi v2233 v2235
  let c0_i32_1301 : BitVec 32 := 0#32
  let v2238 : BitVec 1 := Scalar.cmpi .slt v2236 c0_i32_1301
  let c0_i32_1302 : BitVec 32 := 0#32
  let v2239 : BitVec 1 := Scalar.cmpi .slt v2235 c0_i32_1302
  let v2240 : BitVec 1 := Scalar.xori v2238 v2239
  let c0_i32_1300 : BitVec 32 := 0#32
  let v2237 : BitVec 1 := Scalar.cmpi .ne v2236 c0_i32_1300
  let v2241 : BitVec 1 := Scalar.andi v2240 v2237
  let v2242 : BitVec 32 := Scalar.addi v2236 v2235
  let v2243 : BitVec 32 := Scalar.select v2241 v2242 v2236
  let c1_i32_1305 : BitVec 32 := 1#32
  let c2_i32_1304 : BitVec 32 := 2#32
  let v2246 : BitVec 32 := Scalar.muli c2_i32_1304 v94
  let v2247 : BitVec 32 := Scalar.subi c1_i32_1305 v2246
  let v2248 : BitVec 32 := Scalar.muli v2243 v2247
  let v2249 : BitVec 32 := Scalar.addi v2245 v2248
  let v2251 : BitVec 32 := Scalar.addi v2250 v2249
  let c1_i32_1311 : BitVec 32 := 1#32
  let v2252 : BitVec 32 := Scalar.muli v2251 c1_i32_1311
  let v2253 : BitVec 32 := Scalar.addi c0_i32_1312 v2252
  v2253.toNat
def k0_dev39 (d0 : Dev nD) : Nat :=
  let c0_i32_1352 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c4_i32_1315 : BitVec 32 := 4#32
  let v2260 : BitVec 32 := Scalar.addi v96 c4_i32_1315
  let c16_i32_1316 : BitVec 32 := 16#32
  let c0_i32_1317 : BitVec 32 := 0#32
  let v2261 : BitVec 1 := Scalar.cmpi .eq c16_i32_1316 c0_i32_1317
  let c1_i32_1318 : BitVec 32 := 1#32
  let v2262 : BitVec 32 := Scalar.select v2261 c1_i32_1318 c16_i32_1316
  let v2263 : BitVec 32 := Scalar.remsi v2260 v2262
  let c0_i32_1320 : BitVec 32 := 0#32
  let v2265 : BitVec 1 := Scalar.cmpi .slt v2263 c0_i32_1320
  let c0_i32_1321 : BitVec 32 := 0#32
  let v2266 : BitVec 1 := Scalar.cmpi .slt v2262 c0_i32_1321
  let v2267 : BitVec 1 := Scalar.xori v2265 v2266
  let c0_i32_1319 : BitVec 32 := 0#32
  let v2264 : BitVec 1 := Scalar.cmpi .ne v2263 c0_i32_1319
  let v2268 : BitVec 1 := Scalar.andi v2267 v2264
  let v2269 : BitVec 32 := Scalar.addi v2263 v2262
  let v2270 : BitVec 32 := Scalar.select v2268 v2269 v2263
  let c0_i32_1325 : BitVec 32 := 0#32
  let v2274 : BitVec 1 := Scalar.cmpi .sgt v2270 c0_i32_1325
  let v2275 : BitVec 32 := Scalar.extui v2274
  let c0_i32_1326 : BitVec 32 := 0#32
  let v2276 : BitVec 1 := Scalar.cmpi .slt v2270 c0_i32_1326
  let v2277 : BitVec 32 := Scalar.extui v2276
  let v2278 : BitVec 32 := Scalar.subi v2275 v2277
  let c4_i32_1324 : BitVec 32 := 4#32
  let c0_i32_1327 : BitVec 32 := 0#32
  let v2279 : BitVec 1 := Scalar.cmpi .sgt c4_i32_1324 c0_i32_1327
  let v2280 : BitVec 32 := Scalar.extui v2279
  let c0_i32_1328 : BitVec 32 := 0#32
  let v2281 : BitVec 1 := Scalar.cmpi .slt c4_i32_1324 c0_i32_1328
  let v2282 : BitVec 32 := Scalar.extui v2281
  let v2283 : BitVec 32 := Scalar.subi v2280 v2282
  let v2284 : BitVec 1 := Scalar.cmpi .ne v2278 v2283
  let v2285 : BitVec 32 := Scalar.remsi v2270 c4_i32_1324
  let c0_i32_1329 : BitVec 32 := 0#32
  let v2286 : BitVec 1 := Scalar.cmpi .ne v2285 c0_i32_1329
  let v2287 : BitVec 1 := Scalar.andi v2284 v2286
  let v2273 : BitVec 32 := Scalar.divsi v2270 c4_i32_1324
  let c1_i32_1330 : BitVec 32 := 1#32
  let v2288 : BitVec 32 := Scalar.subi v2273 c1_i32_1330
  let v2289 : BitVec 32 := Scalar.select v2287 v2288 v2273
  let c8_i32_1346 : BitVec 32 := 8#32
  let v2316 : BitVec 32 := Scalar.muli v2289 c8_i32_1346
  let c2_i32_1343 : BitVec 32 := 2#32
  let c4_i32_1331 : BitVec 32 := 4#32
  let c0_i32_1332 : BitVec 32 := 0#32
  let v2290 : BitVec 1 := Scalar.cmpi .eq c4_i32_1331 c0_i32_1332
  let c1_i32_1333 : BitVec 32 := 1#32
  let v2291 : BitVec 32 := Scalar.select v2290 c1_i32_1333 c4_i32_1331
  let v2292 : BitVec 32 := Scalar.remsi v2270 v2291
  let c0_i32_1335 : BitVec 32 := 0#32
  let v2294 : BitVec 1 := Scalar.cmpi .slt v2292 c0_i32_1335
  let c0_i32_1336 : BitVec 32 := 0#32
  let v2295 : BitVec 1 := Scalar.cmpi .slt v2291 c0_i32_1336
  let v2296 : BitVec 1 := Scalar.xori v2294 v2295
  let c0_i32_1334 : BitVec 32 := 0#32
  let v2293 : BitVec 1 := Scalar.cmpi .ne v2292 c0_i32_1334
  let v2297 : BitVec 1 := Scalar.andi v2296 v2293
  let v2298 : BitVec 32 := Scalar.addi v2292 v2291
  let v2299 : BitVec 32 := Scalar.select v2297 v2298 v2292
  let v2310 : BitVec 32 := Scalar.muli c2_i32_1343 v2299
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v2311 : BitVec 32 := Scalar.addi v2310 v94
  let c2_i32_1337 : BitVec 32 := 2#32
  let c0_i32_1338 : BitVec 32 := 0#32
  let v2300 : BitVec 1 := Scalar.cmpi .eq c2_i32_1337 c0_i32_1338
  let c1_i32_1339 : BitVec 32 := 1#32
  let v2301 : BitVec 32 := Scalar.select v2300 c1_i32_1339 c2_i32_1337
  let v2302 : BitVec 32 := Scalar.remsi v2299 v2301
  let c0_i32_1341 : BitVec 32 := 0#32
  let v2304 : BitVec 1 := Scalar.cmpi .slt v2302 c0_i32_1341
  let c0_i32_1342 : BitVec 32 := 0#32
  let v2305 : BitVec 1 := Scalar.cmpi .slt v2301 c0_i32_1342
  let v2306 : BitVec 1 := Scalar.xori v2304 v2305
  let c0_i32_1340 : BitVec 32 := 0#32
  let v2303 : BitVec 1 := Scalar.cmpi .ne v2302 c0_i32_1340
  let v2307 : BitVec 1 := Scalar.andi v2306 v2303
  let v2308 : BitVec 32 := Scalar.addi v2302 v2301
  let v2309 : BitVec 32 := Scalar.select v2307 v2308 v2302
  let c1_i32_1345 : BitVec 32 := 1#32
  let c2_i32_1344 : BitVec 32 := 2#32
  let v2312 : BitVec 32 := Scalar.muli c2_i32_1344 v94
  let v2313 : BitVec 32 := Scalar.subi c1_i32_1345 v2312
  let v2314 : BitVec 32 := Scalar.muli v2309 v2313
  let v2315 : BitVec 32 := Scalar.addi v2311 v2314
  let v2317 : BitVec 32 := Scalar.addi v2316 v2315
  let c1_i32_1351 : BitVec 32 := 1#32
  let v2318 : BitVec 32 := Scalar.muli v2317 c1_i32_1351
  let v2319 : BitVec 32 := Scalar.addi c0_i32_1352 v2318
  v2319.toNat
def k0_dev40 (d0 : Dev nD) : Nat :=
  let c0_i32_1392 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c5_i32_1355 : BitVec 32 := 5#32
  let v2326 : BitVec 32 := Scalar.addi v96 c5_i32_1355
  let c16_i32_1356 : BitVec 32 := 16#32
  let c0_i32_1357 : BitVec 32 := 0#32
  let v2327 : BitVec 1 := Scalar.cmpi .eq c16_i32_1356 c0_i32_1357
  let c1_i32_1358 : BitVec 32 := 1#32
  let v2328 : BitVec 32 := Scalar.select v2327 c1_i32_1358 c16_i32_1356
  let v2329 : BitVec 32 := Scalar.remsi v2326 v2328
  let c0_i32_1360 : BitVec 32 := 0#32
  let v2331 : BitVec 1 := Scalar.cmpi .slt v2329 c0_i32_1360
  let c0_i32_1361 : BitVec 32 := 0#32
  let v2332 : BitVec 1 := Scalar.cmpi .slt v2328 c0_i32_1361
  let v2333 : BitVec 1 := Scalar.xori v2331 v2332
  let c0_i32_1359 : BitVec 32 := 0#32
  let v2330 : BitVec 1 := Scalar.cmpi .ne v2329 c0_i32_1359
  let v2334 : BitVec 1 := Scalar.andi v2333 v2330
  let v2335 : BitVec 32 := Scalar.addi v2329 v2328
  let v2336 : BitVec 32 := Scalar.select v2334 v2335 v2329
  let c0_i32_1365 : BitVec 32 := 0#32
  let v2340 : BitVec 1 := Scalar.cmpi .sgt v2336 c0_i32_1365
  let v2341 : BitVec 32 := Scalar.extui v2340
  let c0_i32_1366 : BitVec 32 := 0#32
  let v2342 : BitVec 1 := Scalar.cmpi .slt v2336 c0_i32_1366
  let v2343 : BitVec 32 := Scalar.extui v2342
  let v2344 : BitVec 32 := Scalar.subi v2341 v2343
  let c4_i32_1364 : BitVec 32 := 4#32
  let c0_i32_1367 : BitVec 32 := 0#32
  let v2345 : BitVec 1 := Scalar.cmpi .sgt c4_i32_1364 c0_i32_1367
  let v2346 : BitVec 32 := Scalar.extui v2345
  let c0_i32_1368 : BitVec 32 := 0#32
  let v2347 : BitVec 1 := Scalar.cmpi .slt c4_i32_1364 c0_i32_1368
  let v2348 : BitVec 32 := Scalar.extui v2347
  let v2349 : BitVec 32 := Scalar.subi v2346 v2348
  let v2350 : BitVec 1 := Scalar.cmpi .ne v2344 v2349
  let v2351 : BitVec 32 := Scalar.remsi v2336 c4_i32_1364
  let c0_i32_1369 : BitVec 32 := 0#32
  let v2352 : BitVec 1 := Scalar.cmpi .ne v2351 c0_i32_1369
  let v2353 : BitVec 1 := Scalar.andi v2350 v2352
  let v2339 : BitVec 32 := Scalar.divsi v2336 c4_i32_1364
  let c1_i32_1370 : BitVec 32 := 1#32
  let v2354 : BitVec 32 := Scalar.subi v2339 c1_i32_1370
  let v2355 : BitVec 32 := Scalar.select v2353 v2354 v2339
  let c8_i32_1386 : BitVec 32 := 8#32
  let v2382 : BitVec 32 := Scalar.muli v2355 c8_i32_1386
  let c2_i32_1383 : BitVec 32 := 2#32
  let c4_i32_1371 : BitVec 32 := 4#32
  let c0_i32_1372 : BitVec 32 := 0#32
  let v2356 : BitVec 1 := Scalar.cmpi .eq c4_i32_1371 c0_i32_1372
  let c1_i32_1373 : BitVec 32 := 1#32
  let v2357 : BitVec 32 := Scalar.select v2356 c1_i32_1373 c4_i32_1371
  let v2358 : BitVec 32 := Scalar.remsi v2336 v2357
  let c0_i32_1375 : BitVec 32 := 0#32
  let v2360 : BitVec 1 := Scalar.cmpi .slt v2358 c0_i32_1375
  let c0_i32_1376 : BitVec 32 := 0#32
  let v2361 : BitVec 1 := Scalar.cmpi .slt v2357 c0_i32_1376
  let v2362 : BitVec 1 := Scalar.xori v2360 v2361
  let c0_i32_1374 : BitVec 32 := 0#32
  let v2359 : BitVec 1 := Scalar.cmpi .ne v2358 c0_i32_1374
  let v2363 : BitVec 1 := Scalar.andi v2362 v2359
  let v2364 : BitVec 32 := Scalar.addi v2358 v2357
  let v2365 : BitVec 32 := Scalar.select v2363 v2364 v2358
  let v2376 : BitVec 32 := Scalar.muli c2_i32_1383 v2365
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v2377 : BitVec 32 := Scalar.addi v2376 v94
  let c2_i32_1377 : BitVec 32 := 2#32
  let c0_i32_1378 : BitVec 32 := 0#32
  let v2366 : BitVec 1 := Scalar.cmpi .eq c2_i32_1377 c0_i32_1378
  let c1_i32_1379 : BitVec 32 := 1#32
  let v2367 : BitVec 32 := Scalar.select v2366 c1_i32_1379 c2_i32_1377
  let v2368 : BitVec 32 := Scalar.remsi v2365 v2367
  let c0_i32_1381 : BitVec 32 := 0#32
  let v2370 : BitVec 1 := Scalar.cmpi .slt v2368 c0_i32_1381
  let c0_i32_1382 : BitVec 32 := 0#32
  let v2371 : BitVec 1 := Scalar.cmpi .slt v2367 c0_i32_1382
  let v2372 : BitVec 1 := Scalar.xori v2370 v2371
  let c0_i32_1380 : BitVec 32 := 0#32
  let v2369 : BitVec 1 := Scalar.cmpi .ne v2368 c0_i32_1380
  let v2373 : BitVec 1 := Scalar.andi v2372 v2369
  let v2374 : BitVec 32 := Scalar.addi v2368 v2367
  let v2375 : BitVec 32 := Scalar.select v2373 v2374 v2368
  let c1_i32_1385 : BitVec 32 := 1#32
  let c2_i32_1384 : BitVec 32 := 2#32
  let v2378 : BitVec 32 := Scalar.muli c2_i32_1384 v94
  let v2379 : BitVec 32 := Scalar.subi c1_i32_1385 v2378
  let v2380 : BitVec 32 := Scalar.muli v2375 v2379
  let v2381 : BitVec 32 := Scalar.addi v2377 v2380
  let v2383 : BitVec 32 := Scalar.addi v2382 v2381
  let c1_i32_1391 : BitVec 32 := 1#32
  let v2384 : BitVec 32 := Scalar.muli v2383 c1_i32_1391
  let v2385 : BitVec 32 := Scalar.addi c0_i32_1392 v2384
  v2385.toNat
def k0_dev41 (d0 : Dev nD) : Nat :=
  let c0_i32_1432 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c6_i32_1395 : BitVec 32 := 6#32
  let v2392 : BitVec 32 := Scalar.addi v96 c6_i32_1395
  let c16_i32_1396 : BitVec 32 := 16#32
  let c0_i32_1397 : BitVec 32 := 0#32
  let v2393 : BitVec 1 := Scalar.cmpi .eq c16_i32_1396 c0_i32_1397
  let c1_i32_1398 : BitVec 32 := 1#32
  let v2394 : BitVec 32 := Scalar.select v2393 c1_i32_1398 c16_i32_1396
  let v2395 : BitVec 32 := Scalar.remsi v2392 v2394
  let c0_i32_1400 : BitVec 32 := 0#32
  let v2397 : BitVec 1 := Scalar.cmpi .slt v2395 c0_i32_1400
  let c0_i32_1401 : BitVec 32 := 0#32
  let v2398 : BitVec 1 := Scalar.cmpi .slt v2394 c0_i32_1401
  let v2399 : BitVec 1 := Scalar.xori v2397 v2398
  let c0_i32_1399 : BitVec 32 := 0#32
  let v2396 : BitVec 1 := Scalar.cmpi .ne v2395 c0_i32_1399
  let v2400 : BitVec 1 := Scalar.andi v2399 v2396
  let v2401 : BitVec 32 := Scalar.addi v2395 v2394
  let v2402 : BitVec 32 := Scalar.select v2400 v2401 v2395
  let c0_i32_1405 : BitVec 32 := 0#32
  let v2406 : BitVec 1 := Scalar.cmpi .sgt v2402 c0_i32_1405
  let v2407 : BitVec 32 := Scalar.extui v2406
  let c0_i32_1406 : BitVec 32 := 0#32
  let v2408 : BitVec 1 := Scalar.cmpi .slt v2402 c0_i32_1406
  let v2409 : BitVec 32 := Scalar.extui v2408
  let v2410 : BitVec 32 := Scalar.subi v2407 v2409
  let c4_i32_1404 : BitVec 32 := 4#32
  let c0_i32_1407 : BitVec 32 := 0#32
  let v2411 : BitVec 1 := Scalar.cmpi .sgt c4_i32_1404 c0_i32_1407
  let v2412 : BitVec 32 := Scalar.extui v2411
  let c0_i32_1408 : BitVec 32 := 0#32
  let v2413 : BitVec 1 := Scalar.cmpi .slt c4_i32_1404 c0_i32_1408
  let v2414 : BitVec 32 := Scalar.extui v2413
  let v2415 : BitVec 32 := Scalar.subi v2412 v2414
  let v2416 : BitVec 1 := Scalar.cmpi .ne v2410 v2415
  let v2417 : BitVec 32 := Scalar.remsi v2402 c4_i32_1404
  let c0_i32_1409 : BitVec 32 := 0#32
  let v2418 : BitVec 1 := Scalar.cmpi .ne v2417 c0_i32_1409
  let v2419 : BitVec 1 := Scalar.andi v2416 v2418
  let v2405 : BitVec 32 := Scalar.divsi v2402 c4_i32_1404
  let c1_i32_1410 : BitVec 32 := 1#32
  let v2420 : BitVec 32 := Scalar.subi v2405 c1_i32_1410
  let v2421 : BitVec 32 := Scalar.select v2419 v2420 v2405
  let c8_i32_1426 : BitVec 32 := 8#32
  let v2448 : BitVec 32 := Scalar.muli v2421 c8_i32_1426
  let c2_i32_1423 : BitVec 32 := 2#32
  let c4_i32_1411 : BitVec 32 := 4#32
  let c0_i32_1412 : BitVec 32 := 0#32
  let v2422 : BitVec 1 := Scalar.cmpi .eq c4_i32_1411 c0_i32_1412
  let c1_i32_1413 : BitVec 32 := 1#32
  let v2423 : BitVec 32 := Scalar.select v2422 c1_i32_1413 c4_i32_1411
  let v2424 : BitVec 32 := Scalar.remsi v2402 v2423
  let c0_i32_1415 : BitVec 32 := 0#32
  let v2426 : BitVec 1 := Scalar.cmpi .slt v2424 c0_i32_1415
  let c0_i32_1416 : BitVec 32 := 0#32
  let v2427 : BitVec 1 := Scalar.cmpi .slt v2423 c0_i32_1416
  let v2428 : BitVec 1 := Scalar.xori v2426 v2427
  let c0_i32_1414 : BitVec 32 := 0#32
  let v2425 : BitVec 1 := Scalar.cmpi .ne v2424 c0_i32_1414
  let v2429 : BitVec 1 := Scalar.andi v2428 v2425
  let v2430 : BitVec 32 := Scalar.addi v2424 v2423
  let v2431 : BitVec 32 := Scalar.select v2429 v2430 v2424
  let v2442 : BitVec 32 := Scalar.muli c2_i32_1423 v2431
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v2443 : BitVec 32 := Scalar.addi v2442 v94
  let c2_i32_1417 : BitVec 32 := 2#32
  let c0_i32_1418 : BitVec 32 := 0#32
  let v2432 : BitVec 1 := Scalar.cmpi .eq c2_i32_1417 c0_i32_1418
  let c1_i32_1419 : BitVec 32 := 1#32
  let v2433 : BitVec 32 := Scalar.select v2432 c1_i32_1419 c2_i32_1417
  let v2434 : BitVec 32 := Scalar.remsi v2431 v2433
  let c0_i32_1421 : BitVec 32 := 0#32
  let v2436 : BitVec 1 := Scalar.cmpi .slt v2434 c0_i32_1421
  let c0_i32_1422 : BitVec 32 := 0#32
  let v2437 : BitVec 1 := Scalar.cmpi .slt v2433 c0_i32_1422
  let v2438 : BitVec 1 := Scalar.xori v2436 v2437
  let c0_i32_1420 : BitVec 32 := 0#32
  let v2435 : BitVec 1 := Scalar.cmpi .ne v2434 c0_i32_1420
  let v2439 : BitVec 1 := Scalar.andi v2438 v2435
  let v2440 : BitVec 32 := Scalar.addi v2434 v2433
  let v2441 : BitVec 32 := Scalar.select v2439 v2440 v2434
  let c1_i32_1425 : BitVec 32 := 1#32
  let c2_i32_1424 : BitVec 32 := 2#32
  let v2444 : BitVec 32 := Scalar.muli c2_i32_1424 v94
  let v2445 : BitVec 32 := Scalar.subi c1_i32_1425 v2444
  let v2446 : BitVec 32 := Scalar.muli v2441 v2445
  let v2447 : BitVec 32 := Scalar.addi v2443 v2446
  let v2449 : BitVec 32 := Scalar.addi v2448 v2447
  let c1_i32_1431 : BitVec 32 := 1#32
  let v2450 : BitVec 32 := Scalar.muli v2449 c1_i32_1431
  let v2451 : BitVec 32 := Scalar.addi c0_i32_1432 v2450
  v2451.toNat
def k0_dev42 (d0 : Dev nD) : Nat :=
  let c0_i32_1472 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c7_i32_1435 : BitVec 32 := 7#32
  let v2458 : BitVec 32 := Scalar.addi v96 c7_i32_1435
  let c16_i32_1436 : BitVec 32 := 16#32
  let c0_i32_1437 : BitVec 32 := 0#32
  let v2459 : BitVec 1 := Scalar.cmpi .eq c16_i32_1436 c0_i32_1437
  let c1_i32_1438 : BitVec 32 := 1#32
  let v2460 : BitVec 32 := Scalar.select v2459 c1_i32_1438 c16_i32_1436
  let v2461 : BitVec 32 := Scalar.remsi v2458 v2460
  let c0_i32_1440 : BitVec 32 := 0#32
  let v2463 : BitVec 1 := Scalar.cmpi .slt v2461 c0_i32_1440
  let c0_i32_1441 : BitVec 32 := 0#32
  let v2464 : BitVec 1 := Scalar.cmpi .slt v2460 c0_i32_1441
  let v2465 : BitVec 1 := Scalar.xori v2463 v2464
  let c0_i32_1439 : BitVec 32 := 0#32
  let v2462 : BitVec 1 := Scalar.cmpi .ne v2461 c0_i32_1439
  let v2466 : BitVec 1 := Scalar.andi v2465 v2462
  let v2467 : BitVec 32 := Scalar.addi v2461 v2460
  let v2468 : BitVec 32 := Scalar.select v2466 v2467 v2461
  let c0_i32_1445 : BitVec 32 := 0#32
  let v2472 : BitVec 1 := Scalar.cmpi .sgt v2468 c0_i32_1445
  let v2473 : BitVec 32 := Scalar.extui v2472
  let c0_i32_1446 : BitVec 32 := 0#32
  let v2474 : BitVec 1 := Scalar.cmpi .slt v2468 c0_i32_1446
  let v2475 : BitVec 32 := Scalar.extui v2474
  let v2476 : BitVec 32 := Scalar.subi v2473 v2475
  let c4_i32_1444 : BitVec 32 := 4#32
  let c0_i32_1447 : BitVec 32 := 0#32
  let v2477 : BitVec 1 := Scalar.cmpi .sgt c4_i32_1444 c0_i32_1447
  let v2478 : BitVec 32 := Scalar.extui v2477
  let c0_i32_1448 : BitVec 32 := 0#32
  let v2479 : BitVec 1 := Scalar.cmpi .slt c4_i32_1444 c0_i32_1448
  let v2480 : BitVec 32 := Scalar.extui v2479
  let v2481 : BitVec 32 := Scalar.subi v2478 v2480
  let v2482 : BitVec 1 := Scalar.cmpi .ne v2476 v2481
  let v2483 : BitVec 32 := Scalar.remsi v2468 c4_i32_1444
  let c0_i32_1449 : BitVec 32 := 0#32
  let v2484 : BitVec 1 := Scalar.cmpi .ne v2483 c0_i32_1449
  let v2485 : BitVec 1 := Scalar.andi v2482 v2484
  let v2471 : BitVec 32 := Scalar.divsi v2468 c4_i32_1444
  let c1_i32_1450 : BitVec 32 := 1#32
  let v2486 : BitVec 32 := Scalar.subi v2471 c1_i32_1450
  let v2487 : BitVec 32 := Scalar.select v2485 v2486 v2471
  let c8_i32_1466 : BitVec 32 := 8#32
  let v2514 : BitVec 32 := Scalar.muli v2487 c8_i32_1466
  let c2_i32_1463 : BitVec 32 := 2#32
  let c4_i32_1451 : BitVec 32 := 4#32
  let c0_i32_1452 : BitVec 32 := 0#32
  let v2488 : BitVec 1 := Scalar.cmpi .eq c4_i32_1451 c0_i32_1452
  let c1_i32_1453 : BitVec 32 := 1#32
  let v2489 : BitVec 32 := Scalar.select v2488 c1_i32_1453 c4_i32_1451
  let v2490 : BitVec 32 := Scalar.remsi v2468 v2489
  let c0_i32_1455 : BitVec 32 := 0#32
  let v2492 : BitVec 1 := Scalar.cmpi .slt v2490 c0_i32_1455
  let c0_i32_1456 : BitVec 32 := 0#32
  let v2493 : BitVec 1 := Scalar.cmpi .slt v2489 c0_i32_1456
  let v2494 : BitVec 1 := Scalar.xori v2492 v2493
  let c0_i32_1454 : BitVec 32 := 0#32
  let v2491 : BitVec 1 := Scalar.cmpi .ne v2490 c0_i32_1454
  let v2495 : BitVec 1 := Scalar.andi v2494 v2491
  let v2496 : BitVec 32 := Scalar.addi v2490 v2489
  let v2497 : BitVec 32 := Scalar.select v2495 v2496 v2490
  let v2508 : BitVec 32 := Scalar.muli c2_i32_1463 v2497
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v2509 : BitVec 32 := Scalar.addi v2508 v94
  let c2_i32_1457 : BitVec 32 := 2#32
  let c0_i32_1458 : BitVec 32 := 0#32
  let v2498 : BitVec 1 := Scalar.cmpi .eq c2_i32_1457 c0_i32_1458
  let c1_i32_1459 : BitVec 32 := 1#32
  let v2499 : BitVec 32 := Scalar.select v2498 c1_i32_1459 c2_i32_1457
  let v2500 : BitVec 32 := Scalar.remsi v2497 v2499
  let c0_i32_1461 : BitVec 32 := 0#32
  let v2502 : BitVec 1 := Scalar.cmpi .slt v2500 c0_i32_1461
  let c0_i32_1462 : BitVec 32 := 0#32
  let v2503 : BitVec 1 := Scalar.cmpi .slt v2499 c0_i32_1462
  let v2504 : BitVec 1 := Scalar.xori v2502 v2503
  let c0_i32_1460 : BitVec 32 := 0#32
  let v2501 : BitVec 1 := Scalar.cmpi .ne v2500 c0_i32_1460
  let v2505 : BitVec 1 := Scalar.andi v2504 v2501
  let v2506 : BitVec 32 := Scalar.addi v2500 v2499
  let v2507 : BitVec 32 := Scalar.select v2505 v2506 v2500
  let c1_i32_1465 : BitVec 32 := 1#32
  let c2_i32_1464 : BitVec 32 := 2#32
  let v2510 : BitVec 32 := Scalar.muli c2_i32_1464 v94
  let v2511 : BitVec 32 := Scalar.subi c1_i32_1465 v2510
  let v2512 : BitVec 32 := Scalar.muli v2507 v2511
  let v2513 : BitVec 32 := Scalar.addi v2509 v2512
  let v2515 : BitVec 32 := Scalar.addi v2514 v2513
  let c1_i32_1471 : BitVec 32 := 1#32
  let v2516 : BitVec 32 := Scalar.muli v2515 c1_i32_1471
  let v2517 : BitVec 32 := Scalar.addi c0_i32_1472 v2516
  v2517.toNat
def k0_dev43 (d0 : Dev nD) : Nat :=
  let c0_i32_1512 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c8_i32_1475 : BitVec 32 := 8#32
  let v2524 : BitVec 32 := Scalar.addi v96 c8_i32_1475
  let c16_i32_1476 : BitVec 32 := 16#32
  let c0_i32_1477 : BitVec 32 := 0#32
  let v2525 : BitVec 1 := Scalar.cmpi .eq c16_i32_1476 c0_i32_1477
  let c1_i32_1478 : BitVec 32 := 1#32
  let v2526 : BitVec 32 := Scalar.select v2525 c1_i32_1478 c16_i32_1476
  let v2527 : BitVec 32 := Scalar.remsi v2524 v2526
  let c0_i32_1480 : BitVec 32 := 0#32
  let v2529 : BitVec 1 := Scalar.cmpi .slt v2527 c0_i32_1480
  let c0_i32_1481 : BitVec 32 := 0#32
  let v2530 : BitVec 1 := Scalar.cmpi .slt v2526 c0_i32_1481
  let v2531 : BitVec 1 := Scalar.xori v2529 v2530
  let c0_i32_1479 : BitVec 32 := 0#32
  let v2528 : BitVec 1 := Scalar.cmpi .ne v2527 c0_i32_1479
  let v2532 : BitVec 1 := Scalar.andi v2531 v2528
  let v2533 : BitVec 32 := Scalar.addi v2527 v2526
  let v2534 : BitVec 32 := Scalar.select v2532 v2533 v2527
  let c0_i32_1485 : BitVec 32 := 0#32
  let v2538 : BitVec 1 := Scalar.cmpi .sgt v2534 c0_i32_1485
  let v2539 : BitVec 32 := Scalar.extui v2538
  let c0_i32_1486 : BitVec 32 := 0#32
  let v2540 : BitVec 1 := Scalar.cmpi .slt v2534 c0_i32_1486
  let v2541 : BitVec 32 := Scalar.extui v2540
  let v2542 : BitVec 32 := Scalar.subi v2539 v2541
  let c4_i32_1484 : BitVec 32 := 4#32
  let c0_i32_1487 : BitVec 32 := 0#32
  let v2543 : BitVec 1 := Scalar.cmpi .sgt c4_i32_1484 c0_i32_1487
  let v2544 : BitVec 32 := Scalar.extui v2543
  let c0_i32_1488 : BitVec 32 := 0#32
  let v2545 : BitVec 1 := Scalar.cmpi .slt c4_i32_1484 c0_i32_1488
  let v2546 : BitVec 32 := Scalar.extui v2545
  let v2547 : BitVec 32 := Scalar.subi v2544 v2546
  let v2548 : BitVec 1 := Scalar.cmpi .ne v2542 v2547
  let v2549 : BitVec 32 := Scalar.remsi v2534 c4_i32_1484
  let c0_i32_1489 : BitVec 32 := 0#32
  let v2550 : BitVec 1 := Scalar.cmpi .ne v2549 c0_i32_1489
  let v2551 : BitVec 1 := Scalar.andi v2548 v2550
  let v2537 : BitVec 32 := Scalar.divsi v2534 c4_i32_1484
  let c1_i32_1490 : BitVec 32 := 1#32
  let v2552 : BitVec 32 := Scalar.subi v2537 c1_i32_1490
  let v2553 : BitVec 32 := Scalar.select v2551 v2552 v2537
  let c8_i32_1506 : BitVec 32 := 8#32
  let v2580 : BitVec 32 := Scalar.muli v2553 c8_i32_1506
  let c2_i32_1503 : BitVec 32 := 2#32
  let c4_i32_1491 : BitVec 32 := 4#32
  let c0_i32_1492 : BitVec 32 := 0#32
  let v2554 : BitVec 1 := Scalar.cmpi .eq c4_i32_1491 c0_i32_1492
  let c1_i32_1493 : BitVec 32 := 1#32
  let v2555 : BitVec 32 := Scalar.select v2554 c1_i32_1493 c4_i32_1491
  let v2556 : BitVec 32 := Scalar.remsi v2534 v2555
  let c0_i32_1495 : BitVec 32 := 0#32
  let v2558 : BitVec 1 := Scalar.cmpi .slt v2556 c0_i32_1495
  let c0_i32_1496 : BitVec 32 := 0#32
  let v2559 : BitVec 1 := Scalar.cmpi .slt v2555 c0_i32_1496
  let v2560 : BitVec 1 := Scalar.xori v2558 v2559
  let c0_i32_1494 : BitVec 32 := 0#32
  let v2557 : BitVec 1 := Scalar.cmpi .ne v2556 c0_i32_1494
  let v2561 : BitVec 1 := Scalar.andi v2560 v2557
  let v2562 : BitVec 32 := Scalar.addi v2556 v2555
  let v2563 : BitVec 32 := Scalar.select v2561 v2562 v2556
  let v2574 : BitVec 32 := Scalar.muli c2_i32_1503 v2563
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v2575 : BitVec 32 := Scalar.addi v2574 v94
  let c2_i32_1497 : BitVec 32 := 2#32
  let c0_i32_1498 : BitVec 32 := 0#32
  let v2564 : BitVec 1 := Scalar.cmpi .eq c2_i32_1497 c0_i32_1498
  let c1_i32_1499 : BitVec 32 := 1#32
  let v2565 : BitVec 32 := Scalar.select v2564 c1_i32_1499 c2_i32_1497
  let v2566 : BitVec 32 := Scalar.remsi v2563 v2565
  let c0_i32_1501 : BitVec 32 := 0#32
  let v2568 : BitVec 1 := Scalar.cmpi .slt v2566 c0_i32_1501
  let c0_i32_1502 : BitVec 32 := 0#32
  let v2569 : BitVec 1 := Scalar.cmpi .slt v2565 c0_i32_1502
  let v2570 : BitVec 1 := Scalar.xori v2568 v2569
  let c0_i32_1500 : BitVec 32 := 0#32
  let v2567 : BitVec 1 := Scalar.cmpi .ne v2566 c0_i32_1500
  let v2571 : BitVec 1 := Scalar.andi v2570 v2567
  let v2572 : BitVec 32 := Scalar.addi v2566 v2565
  let v2573 : BitVec 32 := Scalar.select v2571 v2572 v2566
  let c1_i32_1505 : BitVec 32 := 1#32
  let c2_i32_1504 : BitVec 32 := 2#32
  let v2576 : BitVec 32 := Scalar.muli c2_i32_1504 v94
  let v2577 : BitVec 32 := Scalar.subi c1_i32_1505 v2576
  let v2578 : BitVec 32 := Scalar.muli v2573 v2577
  let v2579 : BitVec 32 := Scalar.addi v2575 v2578
  let v2581 : BitVec 32 := Scalar.addi v2580 v2579
  let c1_i32_1511 : BitVec 32 := 1#32
  let v2582 : BitVec 32 := Scalar.muli v2581 c1_i32_1511
  let v2583 : BitVec 32 := Scalar.addi c0_i32_1512 v2582
  v2583.toNat
def k0_dev44 (d0 : Dev nD) : Nat :=
  let c0_i32_1552 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c9_i32_1515 : BitVec 32 := 9#32
  let v2590 : BitVec 32 := Scalar.addi v96 c9_i32_1515
  let c16_i32_1516 : BitVec 32 := 16#32
  let c0_i32_1517 : BitVec 32 := 0#32
  let v2591 : BitVec 1 := Scalar.cmpi .eq c16_i32_1516 c0_i32_1517
  let c1_i32_1518 : BitVec 32 := 1#32
  let v2592 : BitVec 32 := Scalar.select v2591 c1_i32_1518 c16_i32_1516
  let v2593 : BitVec 32 := Scalar.remsi v2590 v2592
  let c0_i32_1520 : BitVec 32 := 0#32
  let v2595 : BitVec 1 := Scalar.cmpi .slt v2593 c0_i32_1520
  let c0_i32_1521 : BitVec 32 := 0#32
  let v2596 : BitVec 1 := Scalar.cmpi .slt v2592 c0_i32_1521
  let v2597 : BitVec 1 := Scalar.xori v2595 v2596
  let c0_i32_1519 : BitVec 32 := 0#32
  let v2594 : BitVec 1 := Scalar.cmpi .ne v2593 c0_i32_1519
  let v2598 : BitVec 1 := Scalar.andi v2597 v2594
  let v2599 : BitVec 32 := Scalar.addi v2593 v2592
  let v2600 : BitVec 32 := Scalar.select v2598 v2599 v2593
  let c0_i32_1525 : BitVec 32 := 0#32
  let v2604 : BitVec 1 := Scalar.cmpi .sgt v2600 c0_i32_1525
  let v2605 : BitVec 32 := Scalar.extui v2604
  let c0_i32_1526 : BitVec 32 := 0#32
  let v2606 : BitVec 1 := Scalar.cmpi .slt v2600 c0_i32_1526
  let v2607 : BitVec 32 := Scalar.extui v2606
  let v2608 : BitVec 32 := Scalar.subi v2605 v2607
  let c4_i32_1524 : BitVec 32 := 4#32
  let c0_i32_1527 : BitVec 32 := 0#32
  let v2609 : BitVec 1 := Scalar.cmpi .sgt c4_i32_1524 c0_i32_1527
  let v2610 : BitVec 32 := Scalar.extui v2609
  let c0_i32_1528 : BitVec 32 := 0#32
  let v2611 : BitVec 1 := Scalar.cmpi .slt c4_i32_1524 c0_i32_1528
  let v2612 : BitVec 32 := Scalar.extui v2611
  let v2613 : BitVec 32 := Scalar.subi v2610 v2612
  let v2614 : BitVec 1 := Scalar.cmpi .ne v2608 v2613
  let v2615 : BitVec 32 := Scalar.remsi v2600 c4_i32_1524
  let c0_i32_1529 : BitVec 32 := 0#32
  let v2616 : BitVec 1 := Scalar.cmpi .ne v2615 c0_i32_1529
  let v2617 : BitVec 1 := Scalar.andi v2614 v2616
  let v2603 : BitVec 32 := Scalar.divsi v2600 c4_i32_1524
  let c1_i32_1530 : BitVec 32 := 1#32
  let v2618 : BitVec 32 := Scalar.subi v2603 c1_i32_1530
  let v2619 : BitVec 32 := Scalar.select v2617 v2618 v2603
  let c8_i32_1546 : BitVec 32 := 8#32
  let v2646 : BitVec 32 := Scalar.muli v2619 c8_i32_1546
  let c2_i32_1543 : BitVec 32 := 2#32
  let c4_i32_1531 : BitVec 32 := 4#32
  let c0_i32_1532 : BitVec 32 := 0#32
  let v2620 : BitVec 1 := Scalar.cmpi .eq c4_i32_1531 c0_i32_1532
  let c1_i32_1533 : BitVec 32 := 1#32
  let v2621 : BitVec 32 := Scalar.select v2620 c1_i32_1533 c4_i32_1531
  let v2622 : BitVec 32 := Scalar.remsi v2600 v2621
  let c0_i32_1535 : BitVec 32 := 0#32
  let v2624 : BitVec 1 := Scalar.cmpi .slt v2622 c0_i32_1535
  let c0_i32_1536 : BitVec 32 := 0#32
  let v2625 : BitVec 1 := Scalar.cmpi .slt v2621 c0_i32_1536
  let v2626 : BitVec 1 := Scalar.xori v2624 v2625
  let c0_i32_1534 : BitVec 32 := 0#32
  let v2623 : BitVec 1 := Scalar.cmpi .ne v2622 c0_i32_1534
  let v2627 : BitVec 1 := Scalar.andi v2626 v2623
  let v2628 : BitVec 32 := Scalar.addi v2622 v2621
  let v2629 : BitVec 32 := Scalar.select v2627 v2628 v2622
  let v2640 : BitVec 32 := Scalar.muli c2_i32_1543 v2629
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v2641 : BitVec 32 := Scalar.addi v2640 v94
  let c2_i32_1537 : BitVec 32 := 2#32
  let c0_i32_1538 : BitVec 32 := 0#32
  let v2630 : BitVec 1 := Scalar.cmpi .eq c2_i32_1537 c0_i32_1538
  let c1_i32_1539 : BitVec 32 := 1#32
  let v2631 : BitVec 32 := Scalar.select v2630 c1_i32_1539 c2_i32_1537
  let v2632 : BitVec 32 := Scalar.remsi v2629 v2631
  let c0_i32_1541 : BitVec 32 := 0#32
  let v2634 : BitVec 1 := Scalar.cmpi .slt v2632 c0_i32_1541
  let c0_i32_1542 : BitVec 32 := 0#32
  let v2635 : BitVec 1 := Scalar.cmpi .slt v2631 c0_i32_1542
  let v2636 : BitVec 1 := Scalar.xori v2634 v2635
  let c0_i32_1540 : BitVec 32 := 0#32
  let v2633 : BitVec 1 := Scalar.cmpi .ne v2632 c0_i32_1540
  let v2637 : BitVec 1 := Scalar.andi v2636 v2633
  let v2638 : BitVec 32 := Scalar.addi v2632 v2631
  let v2639 : BitVec 32 := Scalar.select v2637 v2638 v2632
  let c1_i32_1545 : BitVec 32 := 1#32
  let c2_i32_1544 : BitVec 32 := 2#32
  let v2642 : BitVec 32 := Scalar.muli c2_i32_1544 v94
  let v2643 : BitVec 32 := Scalar.subi c1_i32_1545 v2642
  let v2644 : BitVec 32 := Scalar.muli v2639 v2643
  let v2645 : BitVec 32 := Scalar.addi v2641 v2644
  let v2647 : BitVec 32 := Scalar.addi v2646 v2645
  let c1_i32_1551 : BitVec 32 := 1#32
  let v2648 : BitVec 32 := Scalar.muli v2647 c1_i32_1551
  let v2649 : BitVec 32 := Scalar.addi c0_i32_1552 v2648
  v2649.toNat
def k0_dev45 (d0 : Dev nD) : Nat :=
  let c0_i32_1592 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c10_i32_1555 : BitVec 32 := 10#32
  let v2656 : BitVec 32 := Scalar.addi v96 c10_i32_1555
  let c16_i32_1556 : BitVec 32 := 16#32
  let c0_i32_1557 : BitVec 32 := 0#32
  let v2657 : BitVec 1 := Scalar.cmpi .eq c16_i32_1556 c0_i32_1557
  let c1_i32_1558 : BitVec 32 := 1#32
  let v2658 : BitVec 32 := Scalar.select v2657 c1_i32_1558 c16_i32_1556
  let v2659 : BitVec 32 := Scalar.remsi v2656 v2658
  let c0_i32_1560 : BitVec 32 := 0#32
  let v2661 : BitVec 1 := Scalar.cmpi .slt v2659 c0_i32_1560
  let c0_i32_1561 : BitVec 32 := 0#32
  let v2662 : BitVec 1 := Scalar.cmpi .slt v2658 c0_i32_1561
  let v2663 : BitVec 1 := Scalar.xori v2661 v2662
  let c0_i32_1559 : BitVec 32 := 0#32
  let v2660 : BitVec 1 := Scalar.cmpi .ne v2659 c0_i32_1559
  let v2664 : BitVec 1 := Scalar.andi v2663 v2660
  let v2665 : BitVec 32 := Scalar.addi v2659 v2658
  let v2666 : BitVec 32 := Scalar.select v2664 v2665 v2659
  let c0_i32_1565 : BitVec 32 := 0#32
  let v2670 : BitVec 1 := Scalar.cmpi .sgt v2666 c0_i32_1565
  let v2671 : BitVec 32 := Scalar.extui v2670
  let c0_i32_1566 : BitVec 32 := 0#32
  let v2672 : BitVec 1 := Scalar.cmpi .slt v2666 c0_i32_1566
  let v2673 : BitVec 32 := Scalar.extui v2672
  let v2674 : BitVec 32 := Scalar.subi v2671 v2673
  let c4_i32_1564 : BitVec 32 := 4#32
  let c0_i32_1567 : BitVec 32 := 0#32
  let v2675 : BitVec 1 := Scalar.cmpi .sgt c4_i32_1564 c0_i32_1567
  let v2676 : BitVec 32 := Scalar.extui v2675
  let c0_i32_1568 : BitVec 32 := 0#32
  let v2677 : BitVec 1 := Scalar.cmpi .slt c4_i32_1564 c0_i32_1568
  let v2678 : BitVec 32 := Scalar.extui v2677
  let v2679 : BitVec 32 := Scalar.subi v2676 v2678
  let v2680 : BitVec 1 := Scalar.cmpi .ne v2674 v2679
  let v2681 : BitVec 32 := Scalar.remsi v2666 c4_i32_1564
  let c0_i32_1569 : BitVec 32 := 0#32
  let v2682 : BitVec 1 := Scalar.cmpi .ne v2681 c0_i32_1569
  let v2683 : BitVec 1 := Scalar.andi v2680 v2682
  let v2669 : BitVec 32 := Scalar.divsi v2666 c4_i32_1564
  let c1_i32_1570 : BitVec 32 := 1#32
  let v2684 : BitVec 32 := Scalar.subi v2669 c1_i32_1570
  let v2685 : BitVec 32 := Scalar.select v2683 v2684 v2669
  let c8_i32_1586 : BitVec 32 := 8#32
  let v2712 : BitVec 32 := Scalar.muli v2685 c8_i32_1586
  let c2_i32_1583 : BitVec 32 := 2#32
  let c4_i32_1571 : BitVec 32 := 4#32
  let c0_i32_1572 : BitVec 32 := 0#32
  let v2686 : BitVec 1 := Scalar.cmpi .eq c4_i32_1571 c0_i32_1572
  let c1_i32_1573 : BitVec 32 := 1#32
  let v2687 : BitVec 32 := Scalar.select v2686 c1_i32_1573 c4_i32_1571
  let v2688 : BitVec 32 := Scalar.remsi v2666 v2687
  let c0_i32_1575 : BitVec 32 := 0#32
  let v2690 : BitVec 1 := Scalar.cmpi .slt v2688 c0_i32_1575
  let c0_i32_1576 : BitVec 32 := 0#32
  let v2691 : BitVec 1 := Scalar.cmpi .slt v2687 c0_i32_1576
  let v2692 : BitVec 1 := Scalar.xori v2690 v2691
  let c0_i32_1574 : BitVec 32 := 0#32
  let v2689 : BitVec 1 := Scalar.cmpi .ne v2688 c0_i32_1574
  let v2693 : BitVec 1 := Scalar.andi v2692 v2689
  let v2694 : BitVec 32 := Scalar.addi v2688 v2687
  let v2695 : BitVec 32 := Scalar.select v2693 v2694 v2688
  let v2706 : BitVec 32 := Scalar.muli c2_i32_1583 v2695
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v2707 : BitVec 32 := Scalar.addi v2706 v94
  let c2_i32_1577 : BitVec 32 := 2#32
  let c0_i32_1578 : BitVec 32 := 0#32
  let v2696 : BitVec 1 := Scalar.cmpi .eq c2_i32_1577 c0_i32_1578
  let c1_i32_1579 : BitVec 32 := 1#32
  let v2697 : BitVec 32 := Scalar.select v2696 c1_i32_1579 c2_i32_1577
  let v2698 : BitVec 32 := Scalar.remsi v2695 v2697
  let c0_i32_1581 : BitVec 32 := 0#32
  let v2700 : BitVec 1 := Scalar.cmpi .slt v2698 c0_i32_1581
  let c0_i32_1582 : BitVec 32 := 0#32
  let v2701 : BitVec 1 := Scalar.cmpi .slt v2697 c0_i32_1582
  let v2702 : BitVec 1 := Scalar.xori v2700 v2701
  let c0_i32_1580 : BitVec 32 := 0#32
  let v2699 : BitVec 1 := Scalar.cmpi .ne v2698 c0_i32_1580
  let v2703 : BitVec 1 := Scalar.andi v2702 v2699
  let v2704 : BitVec 32 := Scalar.addi v2698 v2697
  let v2705 : BitVec 32 := Scalar.select v2703 v2704 v2698
  let c1_i32_1585 : BitVec 32 := 1#32
  let c2_i32_1584 : BitVec 32 := 2#32
  let v2708 : BitVec 32 := Scalar.muli c2_i32_1584 v94
  let v2709 : BitVec 32 := Scalar.subi c1_i32_1585 v2708
  let v2710 : BitVec 32 := Scalar.muli v2705 v2709
  let v2711 : BitVec 32 := Scalar.addi v2707 v2710
  let v2713 : BitVec 32 := Scalar.addi v2712 v2711
  let c1_i32_1591 : BitVec 32 := 1#32
  let v2714 : BitVec 32 := Scalar.muli v2713 c1_i32_1591
  let v2715 : BitVec 32 := Scalar.addi c0_i32_1592 v2714
  v2715.toNat
def k0_dev46 (d0 : Dev nD) : Nat :=
  let c0_i32_1632 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c11_i32_1595 : BitVec 32 := 11#32
  let v2722 : BitVec 32 := Scalar.addi v96 c11_i32_1595
  let c16_i32_1596 : BitVec 32 := 16#32
  let c0_i32_1597 : BitVec 32 := 0#32
  let v2723 : BitVec 1 := Scalar.cmpi .eq c16_i32_1596 c0_i32_1597
  let c1_i32_1598 : BitVec 32 := 1#32
  let v2724 : BitVec 32 := Scalar.select v2723 c1_i32_1598 c16_i32_1596
  let v2725 : BitVec 32 := Scalar.remsi v2722 v2724
  let c0_i32_1600 : BitVec 32 := 0#32
  let v2727 : BitVec 1 := Scalar.cmpi .slt v2725 c0_i32_1600
  let c0_i32_1601 : BitVec 32 := 0#32
  let v2728 : BitVec 1 := Scalar.cmpi .slt v2724 c0_i32_1601
  let v2729 : BitVec 1 := Scalar.xori v2727 v2728
  let c0_i32_1599 : BitVec 32 := 0#32
  let v2726 : BitVec 1 := Scalar.cmpi .ne v2725 c0_i32_1599
  let v2730 : BitVec 1 := Scalar.andi v2729 v2726
  let v2731 : BitVec 32 := Scalar.addi v2725 v2724
  let v2732 : BitVec 32 := Scalar.select v2730 v2731 v2725
  let c0_i32_1605 : BitVec 32 := 0#32
  let v2736 : BitVec 1 := Scalar.cmpi .sgt v2732 c0_i32_1605
  let v2737 : BitVec 32 := Scalar.extui v2736
  let c0_i32_1606 : BitVec 32 := 0#32
  let v2738 : BitVec 1 := Scalar.cmpi .slt v2732 c0_i32_1606
  let v2739 : BitVec 32 := Scalar.extui v2738
  let v2740 : BitVec 32 := Scalar.subi v2737 v2739
  let c4_i32_1604 : BitVec 32 := 4#32
  let c0_i32_1607 : BitVec 32 := 0#32
  let v2741 : BitVec 1 := Scalar.cmpi .sgt c4_i32_1604 c0_i32_1607
  let v2742 : BitVec 32 := Scalar.extui v2741
  let c0_i32_1608 : BitVec 32 := 0#32
  let v2743 : BitVec 1 := Scalar.cmpi .slt c4_i32_1604 c0_i32_1608
  let v2744 : BitVec 32 := Scalar.extui v2743
  let v2745 : BitVec 32 := Scalar.subi v2742 v2744
  let v2746 : BitVec 1 := Scalar.cmpi .ne v2740 v2745
  let v2747 : BitVec 32 := Scalar.remsi v2732 c4_i32_1604
  let c0_i32_1609 : BitVec 32 := 0#32
  let v2748 : BitVec 1 := Scalar.cmpi .ne v2747 c0_i32_1609
  let v2749 : BitVec 1 := Scalar.andi v2746 v2748
  let v2735 : BitVec 32 := Scalar.divsi v2732 c4_i32_1604
  let c1_i32_1610 : BitVec 32 := 1#32
  let v2750 : BitVec 32 := Scalar.subi v2735 c1_i32_1610
  let v2751 : BitVec 32 := Scalar.select v2749 v2750 v2735
  let c8_i32_1626 : BitVec 32 := 8#32
  let v2778 : BitVec 32 := Scalar.muli v2751 c8_i32_1626
  let c2_i32_1623 : BitVec 32 := 2#32
  let c4_i32_1611 : BitVec 32 := 4#32
  let c0_i32_1612 : BitVec 32 := 0#32
  let v2752 : BitVec 1 := Scalar.cmpi .eq c4_i32_1611 c0_i32_1612
  let c1_i32_1613 : BitVec 32 := 1#32
  let v2753 : BitVec 32 := Scalar.select v2752 c1_i32_1613 c4_i32_1611
  let v2754 : BitVec 32 := Scalar.remsi v2732 v2753
  let c0_i32_1615 : BitVec 32 := 0#32
  let v2756 : BitVec 1 := Scalar.cmpi .slt v2754 c0_i32_1615
  let c0_i32_1616 : BitVec 32 := 0#32
  let v2757 : BitVec 1 := Scalar.cmpi .slt v2753 c0_i32_1616
  let v2758 : BitVec 1 := Scalar.xori v2756 v2757
  let c0_i32_1614 : BitVec 32 := 0#32
  let v2755 : BitVec 1 := Scalar.cmpi .ne v2754 c0_i32_1614
  let v2759 : BitVec 1 := Scalar.andi v2758 v2755
  let v2760 : BitVec 32 := Scalar.addi v2754 v2753
  let v2761 : BitVec 32 := Scalar.select v2759 v2760 v2754
  let v2772 : BitVec 32 := Scalar.muli c2_i32_1623 v2761
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v2773 : BitVec 32 := Scalar.addi v2772 v94
  let c2_i32_1617 : BitVec 32 := 2#32
  let c0_i32_1618 : BitVec 32 := 0#32
  let v2762 : BitVec 1 := Scalar.cmpi .eq c2_i32_1617 c0_i32_1618
  let c1_i32_1619 : BitVec 32 := 1#32
  let v2763 : BitVec 32 := Scalar.select v2762 c1_i32_1619 c2_i32_1617
  let v2764 : BitVec 32 := Scalar.remsi v2761 v2763
  let c0_i32_1621 : BitVec 32 := 0#32
  let v2766 : BitVec 1 := Scalar.cmpi .slt v2764 c0_i32_1621
  let c0_i32_1622 : BitVec 32 := 0#32
  let v2767 : BitVec 1 := Scalar.cmpi .slt v2763 c0_i32_1622
  let v2768 : BitVec 1 := Scalar.xori v2766 v2767
  let c0_i32_1620 : BitVec 32 := 0#32
  let v2765 : BitVec 1 := Scalar.cmpi .ne v2764 c0_i32_1620
  let v2769 : BitVec 1 := Scalar.andi v2768 v2765
  let v2770 : BitVec 32 := Scalar.addi v2764 v2763
  let v2771 : BitVec 32 := Scalar.select v2769 v2770 v2764
  let c1_i32_1625 : BitVec 32 := 1#32
  let c2_i32_1624 : BitVec 32 := 2#32
  let v2774 : BitVec 32 := Scalar.muli c2_i32_1624 v94
  let v2775 : BitVec 32 := Scalar.subi c1_i32_1625 v2774
  let v2776 : BitVec 32 := Scalar.muli v2771 v2775
  let v2777 : BitVec 32 := Scalar.addi v2773 v2776
  let v2779 : BitVec 32 := Scalar.addi v2778 v2777
  let c1_i32_1631 : BitVec 32 := 1#32
  let v2780 : BitVec 32 := Scalar.muli v2779 c1_i32_1631
  let v2781 : BitVec 32 := Scalar.addi c0_i32_1632 v2780
  v2781.toNat
def k0_dev47 (d0 : Dev nD) : Nat :=
  let c0_i32_1672 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c12_i32_1635 : BitVec 32 := 12#32
  let v2788 : BitVec 32 := Scalar.addi v96 c12_i32_1635
  let c16_i32_1636 : BitVec 32 := 16#32
  let c0_i32_1637 : BitVec 32 := 0#32
  let v2789 : BitVec 1 := Scalar.cmpi .eq c16_i32_1636 c0_i32_1637
  let c1_i32_1638 : BitVec 32 := 1#32
  let v2790 : BitVec 32 := Scalar.select v2789 c1_i32_1638 c16_i32_1636
  let v2791 : BitVec 32 := Scalar.remsi v2788 v2790
  let c0_i32_1640 : BitVec 32 := 0#32
  let v2793 : BitVec 1 := Scalar.cmpi .slt v2791 c0_i32_1640
  let c0_i32_1641 : BitVec 32 := 0#32
  let v2794 : BitVec 1 := Scalar.cmpi .slt v2790 c0_i32_1641
  let v2795 : BitVec 1 := Scalar.xori v2793 v2794
  let c0_i32_1639 : BitVec 32 := 0#32
  let v2792 : BitVec 1 := Scalar.cmpi .ne v2791 c0_i32_1639
  let v2796 : BitVec 1 := Scalar.andi v2795 v2792
  let v2797 : BitVec 32 := Scalar.addi v2791 v2790
  let v2798 : BitVec 32 := Scalar.select v2796 v2797 v2791
  let c0_i32_1645 : BitVec 32 := 0#32
  let v2802 : BitVec 1 := Scalar.cmpi .sgt v2798 c0_i32_1645
  let v2803 : BitVec 32 := Scalar.extui v2802
  let c0_i32_1646 : BitVec 32 := 0#32
  let v2804 : BitVec 1 := Scalar.cmpi .slt v2798 c0_i32_1646
  let v2805 : BitVec 32 := Scalar.extui v2804
  let v2806 : BitVec 32 := Scalar.subi v2803 v2805
  let c4_i32_1644 : BitVec 32 := 4#32
  let c0_i32_1647 : BitVec 32 := 0#32
  let v2807 : BitVec 1 := Scalar.cmpi .sgt c4_i32_1644 c0_i32_1647
  let v2808 : BitVec 32 := Scalar.extui v2807
  let c0_i32_1648 : BitVec 32 := 0#32
  let v2809 : BitVec 1 := Scalar.cmpi .slt c4_i32_1644 c0_i32_1648
  let v2810 : BitVec 32 := Scalar.extui v2809
  let v2811 : BitVec 32 := Scalar.subi v2808 v2810
  let v2812 : BitVec 1 := Scalar.cmpi .ne v2806 v2811
  let v2813 : BitVec 32 := Scalar.remsi v2798 c4_i32_1644
  let c0_i32_1649 : BitVec 32 := 0#32
  let v2814 : BitVec 1 := Scalar.cmpi .ne v2813 c0_i32_1649
  let v2815 : BitVec 1 := Scalar.andi v2812 v2814
  let v2801 : BitVec 32 := Scalar.divsi v2798 c4_i32_1644
  let c1_i32_1650 : BitVec 32 := 1#32
  let v2816 : BitVec 32 := Scalar.subi v2801 c1_i32_1650
  let v2817 : BitVec 32 := Scalar.select v2815 v2816 v2801
  let c8_i32_1666 : BitVec 32 := 8#32
  let v2844 : BitVec 32 := Scalar.muli v2817 c8_i32_1666
  let c2_i32_1663 : BitVec 32 := 2#32
  let c4_i32_1651 : BitVec 32 := 4#32
  let c0_i32_1652 : BitVec 32 := 0#32
  let v2818 : BitVec 1 := Scalar.cmpi .eq c4_i32_1651 c0_i32_1652
  let c1_i32_1653 : BitVec 32 := 1#32
  let v2819 : BitVec 32 := Scalar.select v2818 c1_i32_1653 c4_i32_1651
  let v2820 : BitVec 32 := Scalar.remsi v2798 v2819
  let c0_i32_1655 : BitVec 32 := 0#32
  let v2822 : BitVec 1 := Scalar.cmpi .slt v2820 c0_i32_1655
  let c0_i32_1656 : BitVec 32 := 0#32
  let v2823 : BitVec 1 := Scalar.cmpi .slt v2819 c0_i32_1656
  let v2824 : BitVec 1 := Scalar.xori v2822 v2823
  let c0_i32_1654 : BitVec 32 := 0#32
  let v2821 : BitVec 1 := Scalar.cmpi .ne v2820 c0_i32_1654
  let v2825 : BitVec 1 := Scalar.andi v2824 v2821
  let v2826 : BitVec 32 := Scalar.addi v2820 v2819
  let v2827 : BitVec 32 := Scalar.select v2825 v2826 v2820
  let v2838 : BitVec 32 := Scalar.muli c2_i32_1663 v2827
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v2839 : BitVec 32 := Scalar.addi v2838 v94
  let c2_i32_1657 : BitVec 32 := 2#32
  let c0_i32_1658 : BitVec 32 := 0#32
  let v2828 : BitVec 1 := Scalar.cmpi .eq c2_i32_1657 c0_i32_1658
  let c1_i32_1659 : BitVec 32 := 1#32
  let v2829 : BitVec 32 := Scalar.select v2828 c1_i32_1659 c2_i32_1657
  let v2830 : BitVec 32 := Scalar.remsi v2827 v2829
  let c0_i32_1661 : BitVec 32 := 0#32
  let v2832 : BitVec 1 := Scalar.cmpi .slt v2830 c0_i32_1661
  let c0_i32_1662 : BitVec 32 := 0#32
  let v2833 : BitVec 1 := Scalar.cmpi .slt v2829 c0_i32_1662
  let v2834 : BitVec 1 := Scalar.xori v2832 v2833
  let c0_i32_1660 : BitVec 32 := 0#32
  let v2831 : BitVec 1 := Scalar.cmpi .ne v2830 c0_i32_1660
  let v2835 : BitVec 1 := Scalar.andi v2834 v2831
  let v2836 : BitVec 32 := Scalar.addi v2830 v2829
  let v2837 : BitVec 32 := Scalar.select v2835 v2836 v2830
  let c1_i32_1665 : BitVec 32 := 1#32
  let c2_i32_1664 : BitVec 32 := 2#32
  let v2840 : BitVec 32 := Scalar.muli c2_i32_1664 v94
  let v2841 : BitVec 32 := Scalar.subi c1_i32_1665 v2840
  let v2842 : BitVec 32 := Scalar.muli v2837 v2841
  let v2843 : BitVec 32 := Scalar.addi v2839 v2842
  let v2845 : BitVec 32 := Scalar.addi v2844 v2843
  let c1_i32_1671 : BitVec 32 := 1#32
  let v2846 : BitVec 32 := Scalar.muli v2845 c1_i32_1671
  let v2847 : BitVec 32 := Scalar.addi c0_i32_1672 v2846
  v2847.toNat
def k0_dev48 (d0 : Dev nD) : Nat :=
  let c0_i32_1712 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c13_i32_1675 : BitVec 32 := 13#32
  let v2854 : BitVec 32 := Scalar.addi v96 c13_i32_1675
  let c16_i32_1676 : BitVec 32 := 16#32
  let c0_i32_1677 : BitVec 32 := 0#32
  let v2855 : BitVec 1 := Scalar.cmpi .eq c16_i32_1676 c0_i32_1677
  let c1_i32_1678 : BitVec 32 := 1#32
  let v2856 : BitVec 32 := Scalar.select v2855 c1_i32_1678 c16_i32_1676
  let v2857 : BitVec 32 := Scalar.remsi v2854 v2856
  let c0_i32_1680 : BitVec 32 := 0#32
  let v2859 : BitVec 1 := Scalar.cmpi .slt v2857 c0_i32_1680
  let c0_i32_1681 : BitVec 32 := 0#32
  let v2860 : BitVec 1 := Scalar.cmpi .slt v2856 c0_i32_1681
  let v2861 : BitVec 1 := Scalar.xori v2859 v2860
  let c0_i32_1679 : BitVec 32 := 0#32
  let v2858 : BitVec 1 := Scalar.cmpi .ne v2857 c0_i32_1679
  let v2862 : BitVec 1 := Scalar.andi v2861 v2858
  let v2863 : BitVec 32 := Scalar.addi v2857 v2856
  let v2864 : BitVec 32 := Scalar.select v2862 v2863 v2857
  let c0_i32_1685 : BitVec 32 := 0#32
  let v2868 : BitVec 1 := Scalar.cmpi .sgt v2864 c0_i32_1685
  let v2869 : BitVec 32 := Scalar.extui v2868
  let c0_i32_1686 : BitVec 32 := 0#32
  let v2870 : BitVec 1 := Scalar.cmpi .slt v2864 c0_i32_1686
  let v2871 : BitVec 32 := Scalar.extui v2870
  let v2872 : BitVec 32 := Scalar.subi v2869 v2871
  let c4_i32_1684 : BitVec 32 := 4#32
  let c0_i32_1687 : BitVec 32 := 0#32
  let v2873 : BitVec 1 := Scalar.cmpi .sgt c4_i32_1684 c0_i32_1687
  let v2874 : BitVec 32 := Scalar.extui v2873
  let c0_i32_1688 : BitVec 32 := 0#32
  let v2875 : BitVec 1 := Scalar.cmpi .slt c4_i32_1684 c0_i32_1688
  let v2876 : BitVec 32 := Scalar.extui v2875
  let v2877 : BitVec 32 := Scalar.subi v2874 v2876
  let v2878 : BitVec 1 := Scalar.cmpi .ne v2872 v2877
  let v2879 : BitVec 32 := Scalar.remsi v2864 c4_i32_1684
  let c0_i32_1689 : BitVec 32 := 0#32
  let v2880 : BitVec 1 := Scalar.cmpi .ne v2879 c0_i32_1689
  let v2881 : BitVec 1 := Scalar.andi v2878 v2880
  let v2867 : BitVec 32 := Scalar.divsi v2864 c4_i32_1684
  let c1_i32_1690 : BitVec 32 := 1#32
  let v2882 : BitVec 32 := Scalar.subi v2867 c1_i32_1690
  let v2883 : BitVec 32 := Scalar.select v2881 v2882 v2867
  let c8_i32_1706 : BitVec 32 := 8#32
  let v2910 : BitVec 32 := Scalar.muli v2883 c8_i32_1706
  let c2_i32_1703 : BitVec 32 := 2#32
  let c4_i32_1691 : BitVec 32 := 4#32
  let c0_i32_1692 : BitVec 32 := 0#32
  let v2884 : BitVec 1 := Scalar.cmpi .eq c4_i32_1691 c0_i32_1692
  let c1_i32_1693 : BitVec 32 := 1#32
  let v2885 : BitVec 32 := Scalar.select v2884 c1_i32_1693 c4_i32_1691
  let v2886 : BitVec 32 := Scalar.remsi v2864 v2885
  let c0_i32_1695 : BitVec 32 := 0#32
  let v2888 : BitVec 1 := Scalar.cmpi .slt v2886 c0_i32_1695
  let c0_i32_1696 : BitVec 32 := 0#32
  let v2889 : BitVec 1 := Scalar.cmpi .slt v2885 c0_i32_1696
  let v2890 : BitVec 1 := Scalar.xori v2888 v2889
  let c0_i32_1694 : BitVec 32 := 0#32
  let v2887 : BitVec 1 := Scalar.cmpi .ne v2886 c0_i32_1694
  let v2891 : BitVec 1 := Scalar.andi v2890 v2887
  let v2892 : BitVec 32 := Scalar.addi v2886 v2885
  let v2893 : BitVec 32 := Scalar.select v2891 v2892 v2886
  let v2904 : BitVec 32 := Scalar.muli c2_i32_1703 v2893
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v2905 : BitVec 32 := Scalar.addi v2904 v94
  let c2_i32_1697 : BitVec 32 := 2#32
  let c0_i32_1698 : BitVec 32 := 0#32
  let v2894 : BitVec 1 := Scalar.cmpi .eq c2_i32_1697 c0_i32_1698
  let c1_i32_1699 : BitVec 32 := 1#32
  let v2895 : BitVec 32 := Scalar.select v2894 c1_i32_1699 c2_i32_1697
  let v2896 : BitVec 32 := Scalar.remsi v2893 v2895
  let c0_i32_1701 : BitVec 32 := 0#32
  let v2898 : BitVec 1 := Scalar.cmpi .slt v2896 c0_i32_1701
  let c0_i32_1702 : BitVec 32 := 0#32
  let v2899 : BitVec 1 := Scalar.cmpi .slt v2895 c0_i32_1702
  let v2900 : BitVec 1 := Scalar.xori v2898 v2899
  let c0_i32_1700 : BitVec 32 := 0#32
  let v2897 : BitVec 1 := Scalar.cmpi .ne v2896 c0_i32_1700
  let v2901 : BitVec 1 := Scalar.andi v2900 v2897
  let v2902 : BitVec 32 := Scalar.addi v2896 v2895
  let v2903 : BitVec 32 := Scalar.select v2901 v2902 v2896
  let c1_i32_1705 : BitVec 32 := 1#32
  let c2_i32_1704 : BitVec 32 := 2#32
  let v2906 : BitVec 32 := Scalar.muli c2_i32_1704 v94
  let v2907 : BitVec 32 := Scalar.subi c1_i32_1705 v2906
  let v2908 : BitVec 32 := Scalar.muli v2903 v2907
  let v2909 : BitVec 32 := Scalar.addi v2905 v2908
  let v2911 : BitVec 32 := Scalar.addi v2910 v2909
  let c1_i32_1711 : BitVec 32 := 1#32
  let v2912 : BitVec 32 := Scalar.muli v2911 c1_i32_1711
  let v2913 : BitVec 32 := Scalar.addi c0_i32_1712 v2912
  v2913.toNat
def k0_dev49 (d0 : Dev nD) : Nat :=
  let c0_i32_1752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c14_i32_1715 : BitVec 32 := 14#32
  let v2920 : BitVec 32 := Scalar.addi v96 c14_i32_1715
  let c16_i32_1716 : BitVec 32 := 16#32
  let c0_i32_1717 : BitVec 32 := 0#32
  let v2921 : BitVec 1 := Scalar.cmpi .eq c16_i32_1716 c0_i32_1717
  let c1_i32_1718 : BitVec 32 := 1#32
  let v2922 : BitVec 32 := Scalar.select v2921 c1_i32_1718 c16_i32_1716
  let v2923 : BitVec 32 := Scalar.remsi v2920 v2922
  let c0_i32_1720 : BitVec 32 := 0#32
  let v2925 : BitVec 1 := Scalar.cmpi .slt v2923 c0_i32_1720
  let c0_i32_1721 : BitVec 32 := 0#32
  let v2926 : BitVec 1 := Scalar.cmpi .slt v2922 c0_i32_1721
  let v2927 : BitVec 1 := Scalar.xori v2925 v2926
  let c0_i32_1719 : BitVec 32 := 0#32
  let v2924 : BitVec 1 := Scalar.cmpi .ne v2923 c0_i32_1719
  let v2928 : BitVec 1 := Scalar.andi v2927 v2924
  let v2929 : BitVec 32 := Scalar.addi v2923 v2922
  let v2930 : BitVec 32 := Scalar.select v2928 v2929 v2923
  let c0_i32_1725 : BitVec 32 := 0#32
  let v2934 : BitVec 1 := Scalar.cmpi .sgt v2930 c0_i32_1725
  let v2935 : BitVec 32 := Scalar.extui v2934
  let c0_i32_1726 : BitVec 32 := 0#32
  let v2936 : BitVec 1 := Scalar.cmpi .slt v2930 c0_i32_1726
  let v2937 : BitVec 32 := Scalar.extui v2936
  let v2938 : BitVec 32 := Scalar.subi v2935 v2937
  let c4_i32_1724 : BitVec 32 := 4#32
  let c0_i32_1727 : BitVec 32 := 0#32
  let v2939 : BitVec 1 := Scalar.cmpi .sgt c4_i32_1724 c0_i32_1727
  let v2940 : BitVec 32 := Scalar.extui v2939
  let c0_i32_1728 : BitVec 32 := 0#32
  let v2941 : BitVec 1 := Scalar.cmpi .slt c4_i32_1724 c0_i32_1728
  let v2942 : BitVec 32 := Scalar.extui v2941
  let v2943 : BitVec 32 := Scalar.subi v2940 v2942
  let v2944 : BitVec 1 := Scalar.cmpi .ne v2938 v2943
  let v2945 : BitVec 32 := Scalar.remsi v2930 c4_i32_1724
  let c0_i32_1729 : BitVec 32 := 0#32
  let v2946 : BitVec 1 := Scalar.cmpi .ne v2945 c0_i32_1729
  let v2947 : BitVec 1 := Scalar.andi v2944 v2946
  let v2933 : BitVec 32 := Scalar.divsi v2930 c4_i32_1724
  let c1_i32_1730 : BitVec 32 := 1#32
  let v2948 : BitVec 32 := Scalar.subi v2933 c1_i32_1730
  let v2949 : BitVec 32 := Scalar.select v2947 v2948 v2933
  let c8_i32_1746 : BitVec 32 := 8#32
  let v2976 : BitVec 32 := Scalar.muli v2949 c8_i32_1746
  let c2_i32_1743 : BitVec 32 := 2#32
  let c4_i32_1731 : BitVec 32 := 4#32
  let c0_i32_1732 : BitVec 32 := 0#32
  let v2950 : BitVec 1 := Scalar.cmpi .eq c4_i32_1731 c0_i32_1732
  let c1_i32_1733 : BitVec 32 := 1#32
  let v2951 : BitVec 32 := Scalar.select v2950 c1_i32_1733 c4_i32_1731
  let v2952 : BitVec 32 := Scalar.remsi v2930 v2951
  let c0_i32_1735 : BitVec 32 := 0#32
  let v2954 : BitVec 1 := Scalar.cmpi .slt v2952 c0_i32_1735
  let c0_i32_1736 : BitVec 32 := 0#32
  let v2955 : BitVec 1 := Scalar.cmpi .slt v2951 c0_i32_1736
  let v2956 : BitVec 1 := Scalar.xori v2954 v2955
  let c0_i32_1734 : BitVec 32 := 0#32
  let v2953 : BitVec 1 := Scalar.cmpi .ne v2952 c0_i32_1734
  let v2957 : BitVec 1 := Scalar.andi v2956 v2953
  let v2958 : BitVec 32 := Scalar.addi v2952 v2951
  let v2959 : BitVec 32 := Scalar.select v2957 v2958 v2952
  let v2970 : BitVec 32 := Scalar.muli c2_i32_1743 v2959
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v2971 : BitVec 32 := Scalar.addi v2970 v94
  let c2_i32_1737 : BitVec 32 := 2#32
  let c0_i32_1738 : BitVec 32 := 0#32
  let v2960 : BitVec 1 := Scalar.cmpi .eq c2_i32_1737 c0_i32_1738
  let c1_i32_1739 : BitVec 32 := 1#32
  let v2961 : BitVec 32 := Scalar.select v2960 c1_i32_1739 c2_i32_1737
  let v2962 : BitVec 32 := Scalar.remsi v2959 v2961
  let c0_i32_1741 : BitVec 32 := 0#32
  let v2964 : BitVec 1 := Scalar.cmpi .slt v2962 c0_i32_1741
  let c0_i32_1742 : BitVec 32 := 0#32
  let v2965 : BitVec 1 := Scalar.cmpi .slt v2961 c0_i32_1742
  let v2966 : BitVec 1 := Scalar.xori v2964 v2965
  let c0_i32_1740 : BitVec 32 := 0#32
  let v2963 : BitVec 1 := Scalar.cmpi .ne v2962 c0_i32_1740
  let v2967 : BitVec 1 := Scalar.andi v2966 v2963
  let v2968 : BitVec 32 := Scalar.addi v2962 v2961
  let v2969 : BitVec 32 := Scalar.select v2967 v2968 v2962
  let c1_i32_1745 : BitVec 32 := 1#32
  let c2_i32_1744 : BitVec 32 := 2#32
  let v2972 : BitVec 32 := Scalar.muli c2_i32_1744 v94
  let v2973 : BitVec 32 := Scalar.subi c1_i32_1745 v2972
  let v2974 : BitVec 32 := Scalar.muli v2969 v2973
  let v2975 : BitVec 32 := Scalar.addi v2971 v2974
  let v2977 : BitVec 32 := Scalar.addi v2976 v2975
  let c1_i32_1751 : BitVec 32 := 1#32
  let v2978 : BitVec 32 := Scalar.muli v2977 c1_i32_1751
  let v2979 : BitVec 32 := Scalar.addi c0_i32_1752 v2978
  v2979.toNat
def k0_dev50 (d0 : Dev nD) : Nat :=
  let c0_i32_1792 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c15_i32_1755 : BitVec 32 := 15#32
  let v2986 : BitVec 32 := Scalar.addi v96 c15_i32_1755
  let c16_i32_1756 : BitVec 32 := 16#32
  let c0_i32_1757 : BitVec 32 := 0#32
  let v2987 : BitVec 1 := Scalar.cmpi .eq c16_i32_1756 c0_i32_1757
  let c1_i32_1758 : BitVec 32 := 1#32
  let v2988 : BitVec 32 := Scalar.select v2987 c1_i32_1758 c16_i32_1756
  let v2989 : BitVec 32 := Scalar.remsi v2986 v2988
  let c0_i32_1760 : BitVec 32 := 0#32
  let v2991 : BitVec 1 := Scalar.cmpi .slt v2989 c0_i32_1760
  let c0_i32_1761 : BitVec 32 := 0#32
  let v2992 : BitVec 1 := Scalar.cmpi .slt v2988 c0_i32_1761
  let v2993 : BitVec 1 := Scalar.xori v2991 v2992
  let c0_i32_1759 : BitVec 32 := 0#32
  let v2990 : BitVec 1 := Scalar.cmpi .ne v2989 c0_i32_1759
  let v2994 : BitVec 1 := Scalar.andi v2993 v2990
  let v2995 : BitVec 32 := Scalar.addi v2989 v2988
  let v2996 : BitVec 32 := Scalar.select v2994 v2995 v2989
  let c0_i32_1765 : BitVec 32 := 0#32
  let v3000 : BitVec 1 := Scalar.cmpi .sgt v2996 c0_i32_1765
  let v3001 : BitVec 32 := Scalar.extui v3000
  let c0_i32_1766 : BitVec 32 := 0#32
  let v3002 : BitVec 1 := Scalar.cmpi .slt v2996 c0_i32_1766
  let v3003 : BitVec 32 := Scalar.extui v3002
  let v3004 : BitVec 32 := Scalar.subi v3001 v3003
  let c4_i32_1764 : BitVec 32 := 4#32
  let c0_i32_1767 : BitVec 32 := 0#32
  let v3005 : BitVec 1 := Scalar.cmpi .sgt c4_i32_1764 c0_i32_1767
  let v3006 : BitVec 32 := Scalar.extui v3005
  let c0_i32_1768 : BitVec 32 := 0#32
  let v3007 : BitVec 1 := Scalar.cmpi .slt c4_i32_1764 c0_i32_1768
  let v3008 : BitVec 32 := Scalar.extui v3007
  let v3009 : BitVec 32 := Scalar.subi v3006 v3008
  let v3010 : BitVec 1 := Scalar.cmpi .ne v3004 v3009
  let v3011 : BitVec 32 := Scalar.remsi v2996 c4_i32_1764
  let c0_i32_1769 : BitVec 32 := 0#32
  let v3012 : BitVec 1 := Scalar.cmpi .ne v3011 c0_i32_1769
  let v3013 : BitVec 1 := Scalar.andi v3010 v3012
  let v2999 : BitVec 32 := Scalar.divsi v2996 c4_i32_1764
  let c1_i32_1770 : BitVec 32 := 1#32
  let v3014 : BitVec 32 := Scalar.subi v2999 c1_i32_1770
  let v3015 : BitVec 32 := Scalar.select v3013 v3014 v2999
  let c8_i32_1786 : BitVec 32 := 8#32
  let v3042 : BitVec 32 := Scalar.muli v3015 c8_i32_1786
  let c2_i32_1783 : BitVec 32 := 2#32
  let c4_i32_1771 : BitVec 32 := 4#32
  let c0_i32_1772 : BitVec 32 := 0#32
  let v3016 : BitVec 1 := Scalar.cmpi .eq c4_i32_1771 c0_i32_1772
  let c1_i32_1773 : BitVec 32 := 1#32
  let v3017 : BitVec 32 := Scalar.select v3016 c1_i32_1773 c4_i32_1771
  let v3018 : BitVec 32 := Scalar.remsi v2996 v3017
  let c0_i32_1775 : BitVec 32 := 0#32
  let v3020 : BitVec 1 := Scalar.cmpi .slt v3018 c0_i32_1775
  let c0_i32_1776 : BitVec 32 := 0#32
  let v3021 : BitVec 1 := Scalar.cmpi .slt v3017 c0_i32_1776
  let v3022 : BitVec 1 := Scalar.xori v3020 v3021
  let c0_i32_1774 : BitVec 32 := 0#32
  let v3019 : BitVec 1 := Scalar.cmpi .ne v3018 c0_i32_1774
  let v3023 : BitVec 1 := Scalar.andi v3022 v3019
  let v3024 : BitVec 32 := Scalar.addi v3018 v3017
  let v3025 : BitVec 32 := Scalar.select v3023 v3024 v3018
  let v3036 : BitVec 32 := Scalar.muli c2_i32_1783 v3025
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v3037 : BitVec 32 := Scalar.addi v3036 v94
  let c2_i32_1777 : BitVec 32 := 2#32
  let c0_i32_1778 : BitVec 32 := 0#32
  let v3026 : BitVec 1 := Scalar.cmpi .eq c2_i32_1777 c0_i32_1778
  let c1_i32_1779 : BitVec 32 := 1#32
  let v3027 : BitVec 32 := Scalar.select v3026 c1_i32_1779 c2_i32_1777
  let v3028 : BitVec 32 := Scalar.remsi v3025 v3027
  let c0_i32_1781 : BitVec 32 := 0#32
  let v3030 : BitVec 1 := Scalar.cmpi .slt v3028 c0_i32_1781
  let c0_i32_1782 : BitVec 32 := 0#32
  let v3031 : BitVec 1 := Scalar.cmpi .slt v3027 c0_i32_1782
  let v3032 : BitVec 1 := Scalar.xori v3030 v3031
  let c0_i32_1780 : BitVec 32 := 0#32
  let v3029 : BitVec 1 := Scalar.cmpi .ne v3028 c0_i32_1780
  let v3033 : BitVec 1 := Scalar.andi v3032 v3029
  let v3034 : BitVec 32 := Scalar.addi v3028 v3027
  let v3035 : BitVec 32 := Scalar.select v3033 v3034 v3028
  let c1_i32_1785 : BitVec 32 := 1#32
  let c2_i32_1784 : BitVec 32 := 2#32
  let v3038 : BitVec 32 := Scalar.muli c2_i32_1784 v94
  let v3039 : BitVec 32 := Scalar.subi c1_i32_1785 v3038
  let v3040 : BitVec 32 := Scalar.muli v3035 v3039
  let v3041 : BitVec 32 := Scalar.addi v3037 v3040
  let v3043 : BitVec 32 := Scalar.addi v3042 v3041
  let c1_i32_1791 : BitVec 32 := 1#32
  let v3044 : BitVec 32 := Scalar.muli v3043 c1_i32_1791
  let v3045 : BitVec 32 := Scalar.addi c0_i32_1792 v3044
  v3045.toNat
def k0_off15 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let c512_i32 : BitVec 32 := 512#32
  let v97 : BitVec 32 := Scalar.muli v94 c512_i32
  let v3058 : Index := Scalar.indexCast v97
  let c512 : Index := 512#32
  ![v3058.toNat, 512]
def k0_off16 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c32_i32_1814 : BitVec 32 := 32#32
  let v3080 : BitVec 32 := Scalar.muli v96 c32_i32_1814
  let c512_i32_1844 : BitVec 32 := 512#32
  ![v3080.toNat, 512]
def k0_off17 (d0 : Dev nD) (c1_i32_1806 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let v3068 : BitVec 32 := Scalar.addi v96 c1_i32_1806
  let c16_i32_1807 : BitVec 32 := 16#32
  let c0_i32_1808 : BitVec 32 := 0#32
  let v3069 : BitVec 1 := Scalar.cmpi .eq c16_i32_1807 c0_i32_1808
  let c1_i32_1809 : BitVec 32 := 1#32
  let v3070 : BitVec 32 := Scalar.select v3069 c1_i32_1809 c16_i32_1807
  let v3071 : BitVec 32 := Scalar.remsi v3068 v3070
  let c0_i32_1811 : BitVec 32 := 0#32
  let v3073 : BitVec 1 := Scalar.cmpi .slt v3071 c0_i32_1811
  let c0_i32_1812 : BitVec 32 := 0#32
  let v3074 : BitVec 1 := Scalar.cmpi .slt v3070 c0_i32_1812
  let v3075 : BitVec 1 := Scalar.xori v3073 v3074
  let c0_i32_1810 : BitVec 32 := 0#32
  let v3072 : BitVec 1 := Scalar.cmpi .ne v3071 c0_i32_1810
  let v3076 : BitVec 1 := Scalar.andi v3075 v3072
  let v3077 : BitVec 32 := Scalar.addi v3071 v3070
  let v3078 : BitVec 32 := Scalar.select v3076 v3077 v3071
  let c32_i32_1813 : BitVec 32 := 32#32
  let v3079 : BitVec 32 := Scalar.muli v3078 c32_i32_1813
  let c512_i32_1845 : BitVec 32 := 512#32
  ![v3079.toNat, 512]
def k0_dev51 (d0 : Dev nD) : Nat :=
  let c0_i32_1843 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c1_i32_1806 : BitVec 32 := 1#32
  let v3068 : BitVec 32 := Scalar.addi v96 c1_i32_1806
  let c16_i32_1807 : BitVec 32 := 16#32
  let c0_i32_1808 : BitVec 32 := 0#32
  let v3069 : BitVec 1 := Scalar.cmpi .eq c16_i32_1807 c0_i32_1808
  let c1_i32_1809 : BitVec 32 := 1#32
  let v3070 : BitVec 32 := Scalar.select v3069 c1_i32_1809 c16_i32_1807
  let v3071 : BitVec 32 := Scalar.remsi v3068 v3070
  let c0_i32_1811 : BitVec 32 := 0#32
  let v3073 : BitVec 1 := Scalar.cmpi .slt v3071 c0_i32_1811
  let c0_i32_1812 : BitVec 32 := 0#32
  let v3074 : BitVec 1 := Scalar.cmpi .slt v3070 c0_i32_1812
  let v3075 : BitVec 1 := Scalar.xori v3073 v3074
  let c0_i32_1810 : BitVec 32 := 0#32
  let v3072 : BitVec 1 := Scalar.cmpi .ne v3071 c0_i32_1810
  let v3076 : BitVec 1 := Scalar.andi v3075 v3072
  let v3077 : BitVec 32 := Scalar.addi v3071 v3070
  let v3078 : BitVec 32 := Scalar.select v3076 v3077 v3071
  let c0_i32_1816 : BitVec 32 := 0#32
  let v3082 : BitVec 1 := Scalar.cmpi .sgt v3078 c0_i32_1816
  let v3083 : BitVec 32 := Scalar.extui v3082
  let c0_i32_1817 : BitVec 32 := 0#32
  let v3084 : BitVec 1 := Scalar.cmpi .slt v3078 c0_i32_1817
  let v3085 : BitVec 32 := Scalar.extui v3084
  let v3086 : BitVec 32 := Scalar.subi v3083 v3085
  let c4_i32_1815 : BitVec 32 := 4#32
  let c0_i32_1818 : BitVec 32 := 0#32
  let v3087 : BitVec 1 := Scalar.cmpi .sgt c4_i32_1815 c0_i32_1818
  let v3088 : BitVec 32 := Scalar.extui v3087
  let c0_i32_1819 : BitVec 32 := 0#32
  let v3089 : BitVec 1 := Scalar.cmpi .slt c4_i32_1815 c0_i32_1819
  let v3090 : BitVec 32 := Scalar.extui v3089
  let v3091 : BitVec 32 := Scalar.subi v3088 v3090
  let v3092 : BitVec 1 := Scalar.cmpi .ne v3086 v3091
  let v3093 : BitVec 32 := Scalar.remsi v3078 c4_i32_1815
  let c0_i32_1820 : BitVec 32 := 0#32
  let v3094 : BitVec 1 := Scalar.cmpi .ne v3093 c0_i32_1820
  let v3095 : BitVec 1 := Scalar.andi v3092 v3094
  let v3081 : BitVec 32 := Scalar.divsi v3078 c4_i32_1815
  let c1_i32_1821 : BitVec 32 := 1#32
  let v3096 : BitVec 32 := Scalar.subi v3081 c1_i32_1821
  let v3097 : BitVec 32 := Scalar.select v3095 v3096 v3081
  let c8_i32_1837 : BitVec 32 := 8#32
  let v3124 : BitVec 32 := Scalar.muli v3097 c8_i32_1837
  let c2_i32_1834 : BitVec 32 := 2#32
  let c4_i32_1822 : BitVec 32 := 4#32
  let c0_i32_1823 : BitVec 32 := 0#32
  let v3098 : BitVec 1 := Scalar.cmpi .eq c4_i32_1822 c0_i32_1823
  let c1_i32_1824 : BitVec 32 := 1#32
  let v3099 : BitVec 32 := Scalar.select v3098 c1_i32_1824 c4_i32_1822
  let v3100 : BitVec 32 := Scalar.remsi v3078 v3099
  let c0_i32_1826 : BitVec 32 := 0#32
  let v3102 : BitVec 1 := Scalar.cmpi .slt v3100 c0_i32_1826
  let c0_i32_1827 : BitVec 32 := 0#32
  let v3103 : BitVec 1 := Scalar.cmpi .slt v3099 c0_i32_1827
  let v3104 : BitVec 1 := Scalar.xori v3102 v3103
  let c0_i32_1825 : BitVec 32 := 0#32
  let v3101 : BitVec 1 := Scalar.cmpi .ne v3100 c0_i32_1825
  let v3105 : BitVec 1 := Scalar.andi v3104 v3101
  let v3106 : BitVec 32 := Scalar.addi v3100 v3099
  let v3107 : BitVec 32 := Scalar.select v3105 v3106 v3100
  let v3118 : BitVec 32 := Scalar.muli c2_i32_1834 v3107
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v3119 : BitVec 32 := Scalar.addi v3118 v94
  let c2_i32_1828 : BitVec 32 := 2#32
  let c0_i32_1829 : BitVec 32 := 0#32
  let v3108 : BitVec 1 := Scalar.cmpi .eq c2_i32_1828 c0_i32_1829
  let c1_i32_1830 : BitVec 32 := 1#32
  let v3109 : BitVec 32 := Scalar.select v3108 c1_i32_1830 c2_i32_1828
  let v3110 : BitVec 32 := Scalar.remsi v3107 v3109
  let c0_i32_1832 : BitVec 32 := 0#32
  let v3112 : BitVec 1 := Scalar.cmpi .slt v3110 c0_i32_1832
  let c0_i32_1833 : BitVec 32 := 0#32
  let v3113 : BitVec 1 := Scalar.cmpi .slt v3109 c0_i32_1833
  let v3114 : BitVec 1 := Scalar.xori v3112 v3113
  let c0_i32_1831 : BitVec 32 := 0#32
  let v3111 : BitVec 1 := Scalar.cmpi .ne v3110 c0_i32_1831
  let v3115 : BitVec 1 := Scalar.andi v3114 v3111
  let v3116 : BitVec 32 := Scalar.addi v3110 v3109
  let v3117 : BitVec 32 := Scalar.select v3115 v3116 v3110
  let c1_i32_1836 : BitVec 32 := 1#32
  let c2_i32_1835 : BitVec 32 := 2#32
  let v3120 : BitVec 32 := Scalar.muli c2_i32_1835 v94
  let v3121 : BitVec 32 := Scalar.subi c1_i32_1836 v3120
  let v3122 : BitVec 32 := Scalar.muli v3117 v3121
  let v3123 : BitVec 32 := Scalar.addi v3119 v3122
  let v3125 : BitVec 32 := Scalar.addi v3124 v3123
  let c1_i32_1842 : BitVec 32 := 1#32
  let v3126 : BitVec 32 := Scalar.muli v3125 c1_i32_1842
  let v3127 : BitVec 32 := Scalar.addi c0_i32_1843 v3126
  v3127.toNat
def k0_dev52 (d0 : Dev nD) : Nat :=
  let c0_i32_1883 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c2_i32_1846 : BitVec 32 := 2#32
  let v3134 : BitVec 32 := Scalar.addi v96 c2_i32_1846
  let c16_i32_1847 : BitVec 32 := 16#32
  let c0_i32_1848 : BitVec 32 := 0#32
  let v3135 : BitVec 1 := Scalar.cmpi .eq c16_i32_1847 c0_i32_1848
  let c1_i32_1849 : BitVec 32 := 1#32
  let v3136 : BitVec 32 := Scalar.select v3135 c1_i32_1849 c16_i32_1847
  let v3137 : BitVec 32 := Scalar.remsi v3134 v3136
  let c0_i32_1851 : BitVec 32 := 0#32
  let v3139 : BitVec 1 := Scalar.cmpi .slt v3137 c0_i32_1851
  let c0_i32_1852 : BitVec 32 := 0#32
  let v3140 : BitVec 1 := Scalar.cmpi .slt v3136 c0_i32_1852
  let v3141 : BitVec 1 := Scalar.xori v3139 v3140
  let c0_i32_1850 : BitVec 32 := 0#32
  let v3138 : BitVec 1 := Scalar.cmpi .ne v3137 c0_i32_1850
  let v3142 : BitVec 1 := Scalar.andi v3141 v3138
  let v3143 : BitVec 32 := Scalar.addi v3137 v3136
  let v3144 : BitVec 32 := Scalar.select v3142 v3143 v3137
  let c0_i32_1856 : BitVec 32 := 0#32
  let v3148 : BitVec 1 := Scalar.cmpi .sgt v3144 c0_i32_1856
  let v3149 : BitVec 32 := Scalar.extui v3148
  let c0_i32_1857 : BitVec 32 := 0#32
  let v3150 : BitVec 1 := Scalar.cmpi .slt v3144 c0_i32_1857
  let v3151 : BitVec 32 := Scalar.extui v3150
  let v3152 : BitVec 32 := Scalar.subi v3149 v3151
  let c4_i32_1855 : BitVec 32 := 4#32
  let c0_i32_1858 : BitVec 32 := 0#32
  let v3153 : BitVec 1 := Scalar.cmpi .sgt c4_i32_1855 c0_i32_1858
  let v3154 : BitVec 32 := Scalar.extui v3153
  let c0_i32_1859 : BitVec 32 := 0#32
  let v3155 : BitVec 1 := Scalar.cmpi .slt c4_i32_1855 c0_i32_1859
  let v3156 : BitVec 32 := Scalar.extui v3155
  let v3157 : BitVec 32 := Scalar.subi v3154 v3156
  let v3158 : BitVec 1 := Scalar.cmpi .ne v3152 v3157
  let v3159 : BitVec 32 := Scalar.remsi v3144 c4_i32_1855
  let c0_i32_1860 : BitVec 32 := 0#32
  let v3160 : BitVec 1 := Scalar.cmpi .ne v3159 c0_i32_1860
  let v3161 : BitVec 1 := Scalar.andi v3158 v3160
  let v3147 : BitVec 32 := Scalar.divsi v3144 c4_i32_1855
  let c1_i32_1861 : BitVec 32 := 1#32
  let v3162 : BitVec 32 := Scalar.subi v3147 c1_i32_1861
  let v3163 : BitVec 32 := Scalar.select v3161 v3162 v3147
  let c8_i32_1877 : BitVec 32 := 8#32
  let v3190 : BitVec 32 := Scalar.muli v3163 c8_i32_1877
  let c2_i32_1874 : BitVec 32 := 2#32
  let c4_i32_1862 : BitVec 32 := 4#32
  let c0_i32_1863 : BitVec 32 := 0#32
  let v3164 : BitVec 1 := Scalar.cmpi .eq c4_i32_1862 c0_i32_1863
  let c1_i32_1864 : BitVec 32 := 1#32
  let v3165 : BitVec 32 := Scalar.select v3164 c1_i32_1864 c4_i32_1862
  let v3166 : BitVec 32 := Scalar.remsi v3144 v3165
  let c0_i32_1866 : BitVec 32 := 0#32
  let v3168 : BitVec 1 := Scalar.cmpi .slt v3166 c0_i32_1866
  let c0_i32_1867 : BitVec 32 := 0#32
  let v3169 : BitVec 1 := Scalar.cmpi .slt v3165 c0_i32_1867
  let v3170 : BitVec 1 := Scalar.xori v3168 v3169
  let c0_i32_1865 : BitVec 32 := 0#32
  let v3167 : BitVec 1 := Scalar.cmpi .ne v3166 c0_i32_1865
  let v3171 : BitVec 1 := Scalar.andi v3170 v3167
  let v3172 : BitVec 32 := Scalar.addi v3166 v3165
  let v3173 : BitVec 32 := Scalar.select v3171 v3172 v3166
  let v3184 : BitVec 32 := Scalar.muli c2_i32_1874 v3173
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v3185 : BitVec 32 := Scalar.addi v3184 v94
  let c2_i32_1868 : BitVec 32 := 2#32
  let c0_i32_1869 : BitVec 32 := 0#32
  let v3174 : BitVec 1 := Scalar.cmpi .eq c2_i32_1868 c0_i32_1869
  let c1_i32_1870 : BitVec 32 := 1#32
  let v3175 : BitVec 32 := Scalar.select v3174 c1_i32_1870 c2_i32_1868
  let v3176 : BitVec 32 := Scalar.remsi v3173 v3175
  let c0_i32_1872 : BitVec 32 := 0#32
  let v3178 : BitVec 1 := Scalar.cmpi .slt v3176 c0_i32_1872
  let c0_i32_1873 : BitVec 32 := 0#32
  let v3179 : BitVec 1 := Scalar.cmpi .slt v3175 c0_i32_1873
  let v3180 : BitVec 1 := Scalar.xori v3178 v3179
  let c0_i32_1871 : BitVec 32 := 0#32
  let v3177 : BitVec 1 := Scalar.cmpi .ne v3176 c0_i32_1871
  let v3181 : BitVec 1 := Scalar.andi v3180 v3177
  let v3182 : BitVec 32 := Scalar.addi v3176 v3175
  let v3183 : BitVec 32 := Scalar.select v3181 v3182 v3176
  let c1_i32_1876 : BitVec 32 := 1#32
  let c2_i32_1875 : BitVec 32 := 2#32
  let v3186 : BitVec 32 := Scalar.muli c2_i32_1875 v94
  let v3187 : BitVec 32 := Scalar.subi c1_i32_1876 v3186
  let v3188 : BitVec 32 := Scalar.muli v3183 v3187
  let v3189 : BitVec 32 := Scalar.addi v3185 v3188
  let v3191 : BitVec 32 := Scalar.addi v3190 v3189
  let c1_i32_1882 : BitVec 32 := 1#32
  let v3192 : BitVec 32 := Scalar.muli v3191 c1_i32_1882
  let v3193 : BitVec 32 := Scalar.addi c0_i32_1883 v3192
  v3193.toNat
def k0_dev53 (d0 : Dev nD) : Nat :=
  let c0_i32_1923 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c3_i32_1886 : BitVec 32 := 3#32
  let v3200 : BitVec 32 := Scalar.addi v96 c3_i32_1886
  let c16_i32_1887 : BitVec 32 := 16#32
  let c0_i32_1888 : BitVec 32 := 0#32
  let v3201 : BitVec 1 := Scalar.cmpi .eq c16_i32_1887 c0_i32_1888
  let c1_i32_1889 : BitVec 32 := 1#32
  let v3202 : BitVec 32 := Scalar.select v3201 c1_i32_1889 c16_i32_1887
  let v3203 : BitVec 32 := Scalar.remsi v3200 v3202
  let c0_i32_1891 : BitVec 32 := 0#32
  let v3205 : BitVec 1 := Scalar.cmpi .slt v3203 c0_i32_1891
  let c0_i32_1892 : BitVec 32 := 0#32
  let v3206 : BitVec 1 := Scalar.cmpi .slt v3202 c0_i32_1892
  let v3207 : BitVec 1 := Scalar.xori v3205 v3206
  let c0_i32_1890 : BitVec 32 := 0#32
  let v3204 : BitVec 1 := Scalar.cmpi .ne v3203 c0_i32_1890
  let v3208 : BitVec 1 := Scalar.andi v3207 v3204
  let v3209 : BitVec 32 := Scalar.addi v3203 v3202
  let v3210 : BitVec 32 := Scalar.select v3208 v3209 v3203
  let c0_i32_1896 : BitVec 32 := 0#32
  let v3214 : BitVec 1 := Scalar.cmpi .sgt v3210 c0_i32_1896
  let v3215 : BitVec 32 := Scalar.extui v3214
  let c0_i32_1897 : BitVec 32 := 0#32
  let v3216 : BitVec 1 := Scalar.cmpi .slt v3210 c0_i32_1897
  let v3217 : BitVec 32 := Scalar.extui v3216
  let v3218 : BitVec 32 := Scalar.subi v3215 v3217
  let c4_i32_1895 : BitVec 32 := 4#32
  let c0_i32_1898 : BitVec 32 := 0#32
  let v3219 : BitVec 1 := Scalar.cmpi .sgt c4_i32_1895 c0_i32_1898
  let v3220 : BitVec 32 := Scalar.extui v3219
  let c0_i32_1899 : BitVec 32 := 0#32
  let v3221 : BitVec 1 := Scalar.cmpi .slt c4_i32_1895 c0_i32_1899
  let v3222 : BitVec 32 := Scalar.extui v3221
  let v3223 : BitVec 32 := Scalar.subi v3220 v3222
  let v3224 : BitVec 1 := Scalar.cmpi .ne v3218 v3223
  let v3225 : BitVec 32 := Scalar.remsi v3210 c4_i32_1895
  let c0_i32_1900 : BitVec 32 := 0#32
  let v3226 : BitVec 1 := Scalar.cmpi .ne v3225 c0_i32_1900
  let v3227 : BitVec 1 := Scalar.andi v3224 v3226
  let v3213 : BitVec 32 := Scalar.divsi v3210 c4_i32_1895
  let c1_i32_1901 : BitVec 32 := 1#32
  let v3228 : BitVec 32 := Scalar.subi v3213 c1_i32_1901
  let v3229 : BitVec 32 := Scalar.select v3227 v3228 v3213
  let c8_i32_1917 : BitVec 32 := 8#32
  let v3256 : BitVec 32 := Scalar.muli v3229 c8_i32_1917
  let c2_i32_1914 : BitVec 32 := 2#32
  let c4_i32_1902 : BitVec 32 := 4#32
  let c0_i32_1903 : BitVec 32 := 0#32
  let v3230 : BitVec 1 := Scalar.cmpi .eq c4_i32_1902 c0_i32_1903
  let c1_i32_1904 : BitVec 32 := 1#32
  let v3231 : BitVec 32 := Scalar.select v3230 c1_i32_1904 c4_i32_1902
  let v3232 : BitVec 32 := Scalar.remsi v3210 v3231
  let c0_i32_1906 : BitVec 32 := 0#32
  let v3234 : BitVec 1 := Scalar.cmpi .slt v3232 c0_i32_1906
  let c0_i32_1907 : BitVec 32 := 0#32
  let v3235 : BitVec 1 := Scalar.cmpi .slt v3231 c0_i32_1907
  let v3236 : BitVec 1 := Scalar.xori v3234 v3235
  let c0_i32_1905 : BitVec 32 := 0#32
  let v3233 : BitVec 1 := Scalar.cmpi .ne v3232 c0_i32_1905
  let v3237 : BitVec 1 := Scalar.andi v3236 v3233
  let v3238 : BitVec 32 := Scalar.addi v3232 v3231
  let v3239 : BitVec 32 := Scalar.select v3237 v3238 v3232
  let v3250 : BitVec 32 := Scalar.muli c2_i32_1914 v3239
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v3251 : BitVec 32 := Scalar.addi v3250 v94
  let c2_i32_1908 : BitVec 32 := 2#32
  let c0_i32_1909 : BitVec 32 := 0#32
  let v3240 : BitVec 1 := Scalar.cmpi .eq c2_i32_1908 c0_i32_1909
  let c1_i32_1910 : BitVec 32 := 1#32
  let v3241 : BitVec 32 := Scalar.select v3240 c1_i32_1910 c2_i32_1908
  let v3242 : BitVec 32 := Scalar.remsi v3239 v3241
  let c0_i32_1912 : BitVec 32 := 0#32
  let v3244 : BitVec 1 := Scalar.cmpi .slt v3242 c0_i32_1912
  let c0_i32_1913 : BitVec 32 := 0#32
  let v3245 : BitVec 1 := Scalar.cmpi .slt v3241 c0_i32_1913
  let v3246 : BitVec 1 := Scalar.xori v3244 v3245
  let c0_i32_1911 : BitVec 32 := 0#32
  let v3243 : BitVec 1 := Scalar.cmpi .ne v3242 c0_i32_1911
  let v3247 : BitVec 1 := Scalar.andi v3246 v3243
  let v3248 : BitVec 32 := Scalar.addi v3242 v3241
  let v3249 : BitVec 32 := Scalar.select v3247 v3248 v3242
  let c1_i32_1916 : BitVec 32 := 1#32
  let c2_i32_1915 : BitVec 32 := 2#32
  let v3252 : BitVec 32 := Scalar.muli c2_i32_1915 v94
  let v3253 : BitVec 32 := Scalar.subi c1_i32_1916 v3252
  let v3254 : BitVec 32 := Scalar.muli v3249 v3253
  let v3255 : BitVec 32 := Scalar.addi v3251 v3254
  let v3257 : BitVec 32 := Scalar.addi v3256 v3255
  let c1_i32_1922 : BitVec 32 := 1#32
  let v3258 : BitVec 32 := Scalar.muli v3257 c1_i32_1922
  let v3259 : BitVec 32 := Scalar.addi c0_i32_1923 v3258
  v3259.toNat
def k0_dev54 (d0 : Dev nD) : Nat :=
  let c0_i32_1963 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c4_i32_1926 : BitVec 32 := 4#32
  let v3266 : BitVec 32 := Scalar.addi v96 c4_i32_1926
  let c16_i32_1927 : BitVec 32 := 16#32
  let c0_i32_1928 : BitVec 32 := 0#32
  let v3267 : BitVec 1 := Scalar.cmpi .eq c16_i32_1927 c0_i32_1928
  let c1_i32_1929 : BitVec 32 := 1#32
  let v3268 : BitVec 32 := Scalar.select v3267 c1_i32_1929 c16_i32_1927
  let v3269 : BitVec 32 := Scalar.remsi v3266 v3268
  let c0_i32_1931 : BitVec 32 := 0#32
  let v3271 : BitVec 1 := Scalar.cmpi .slt v3269 c0_i32_1931
  let c0_i32_1932 : BitVec 32 := 0#32
  let v3272 : BitVec 1 := Scalar.cmpi .slt v3268 c0_i32_1932
  let v3273 : BitVec 1 := Scalar.xori v3271 v3272
  let c0_i32_1930 : BitVec 32 := 0#32
  let v3270 : BitVec 1 := Scalar.cmpi .ne v3269 c0_i32_1930
  let v3274 : BitVec 1 := Scalar.andi v3273 v3270
  let v3275 : BitVec 32 := Scalar.addi v3269 v3268
  let v3276 : BitVec 32 := Scalar.select v3274 v3275 v3269
  let c0_i32_1936 : BitVec 32 := 0#32
  let v3280 : BitVec 1 := Scalar.cmpi .sgt v3276 c0_i32_1936
  let v3281 : BitVec 32 := Scalar.extui v3280
  let c0_i32_1937 : BitVec 32 := 0#32
  let v3282 : BitVec 1 := Scalar.cmpi .slt v3276 c0_i32_1937
  let v3283 : BitVec 32 := Scalar.extui v3282
  let v3284 : BitVec 32 := Scalar.subi v3281 v3283
  let c4_i32_1935 : BitVec 32 := 4#32
  let c0_i32_1938 : BitVec 32 := 0#32
  let v3285 : BitVec 1 := Scalar.cmpi .sgt c4_i32_1935 c0_i32_1938
  let v3286 : BitVec 32 := Scalar.extui v3285
  let c0_i32_1939 : BitVec 32 := 0#32
  let v3287 : BitVec 1 := Scalar.cmpi .slt c4_i32_1935 c0_i32_1939
  let v3288 : BitVec 32 := Scalar.extui v3287
  let v3289 : BitVec 32 := Scalar.subi v3286 v3288
  let v3290 : BitVec 1 := Scalar.cmpi .ne v3284 v3289
  let v3291 : BitVec 32 := Scalar.remsi v3276 c4_i32_1935
  let c0_i32_1940 : BitVec 32 := 0#32
  let v3292 : BitVec 1 := Scalar.cmpi .ne v3291 c0_i32_1940
  let v3293 : BitVec 1 := Scalar.andi v3290 v3292
  let v3279 : BitVec 32 := Scalar.divsi v3276 c4_i32_1935
  let c1_i32_1941 : BitVec 32 := 1#32
  let v3294 : BitVec 32 := Scalar.subi v3279 c1_i32_1941
  let v3295 : BitVec 32 := Scalar.select v3293 v3294 v3279
  let c8_i32_1957 : BitVec 32 := 8#32
  let v3322 : BitVec 32 := Scalar.muli v3295 c8_i32_1957
  let c2_i32_1954 : BitVec 32 := 2#32
  let c4_i32_1942 : BitVec 32 := 4#32
  let c0_i32_1943 : BitVec 32 := 0#32
  let v3296 : BitVec 1 := Scalar.cmpi .eq c4_i32_1942 c0_i32_1943
  let c1_i32_1944 : BitVec 32 := 1#32
  let v3297 : BitVec 32 := Scalar.select v3296 c1_i32_1944 c4_i32_1942
  let v3298 : BitVec 32 := Scalar.remsi v3276 v3297
  let c0_i32_1946 : BitVec 32 := 0#32
  let v3300 : BitVec 1 := Scalar.cmpi .slt v3298 c0_i32_1946
  let c0_i32_1947 : BitVec 32 := 0#32
  let v3301 : BitVec 1 := Scalar.cmpi .slt v3297 c0_i32_1947
  let v3302 : BitVec 1 := Scalar.xori v3300 v3301
  let c0_i32_1945 : BitVec 32 := 0#32
  let v3299 : BitVec 1 := Scalar.cmpi .ne v3298 c0_i32_1945
  let v3303 : BitVec 1 := Scalar.andi v3302 v3299
  let v3304 : BitVec 32 := Scalar.addi v3298 v3297
  let v3305 : BitVec 32 := Scalar.select v3303 v3304 v3298
  let v3316 : BitVec 32 := Scalar.muli c2_i32_1954 v3305
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v3317 : BitVec 32 := Scalar.addi v3316 v94
  let c2_i32_1948 : BitVec 32 := 2#32
  let c0_i32_1949 : BitVec 32 := 0#32
  let v3306 : BitVec 1 := Scalar.cmpi .eq c2_i32_1948 c0_i32_1949
  let c1_i32_1950 : BitVec 32 := 1#32
  let v3307 : BitVec 32 := Scalar.select v3306 c1_i32_1950 c2_i32_1948
  let v3308 : BitVec 32 := Scalar.remsi v3305 v3307
  let c0_i32_1952 : BitVec 32 := 0#32
  let v3310 : BitVec 1 := Scalar.cmpi .slt v3308 c0_i32_1952
  let c0_i32_1953 : BitVec 32 := 0#32
  let v3311 : BitVec 1 := Scalar.cmpi .slt v3307 c0_i32_1953
  let v3312 : BitVec 1 := Scalar.xori v3310 v3311
  let c0_i32_1951 : BitVec 32 := 0#32
  let v3309 : BitVec 1 := Scalar.cmpi .ne v3308 c0_i32_1951
  let v3313 : BitVec 1 := Scalar.andi v3312 v3309
  let v3314 : BitVec 32 := Scalar.addi v3308 v3307
  let v3315 : BitVec 32 := Scalar.select v3313 v3314 v3308
  let c1_i32_1956 : BitVec 32 := 1#32
  let c2_i32_1955 : BitVec 32 := 2#32
  let v3318 : BitVec 32 := Scalar.muli c2_i32_1955 v94
  let v3319 : BitVec 32 := Scalar.subi c1_i32_1956 v3318
  let v3320 : BitVec 32 := Scalar.muli v3315 v3319
  let v3321 : BitVec 32 := Scalar.addi v3317 v3320
  let v3323 : BitVec 32 := Scalar.addi v3322 v3321
  let c1_i32_1962 : BitVec 32 := 1#32
  let v3324 : BitVec 32 := Scalar.muli v3323 c1_i32_1962
  let v3325 : BitVec 32 := Scalar.addi c0_i32_1963 v3324
  v3325.toNat
def k0_dev55 (d0 : Dev nD) : Nat :=
  let c0_i32_2003 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c5_i32_1966 : BitVec 32 := 5#32
  let v3332 : BitVec 32 := Scalar.addi v96 c5_i32_1966
  let c16_i32_1967 : BitVec 32 := 16#32
  let c0_i32_1968 : BitVec 32 := 0#32
  let v3333 : BitVec 1 := Scalar.cmpi .eq c16_i32_1967 c0_i32_1968
  let c1_i32_1969 : BitVec 32 := 1#32
  let v3334 : BitVec 32 := Scalar.select v3333 c1_i32_1969 c16_i32_1967
  let v3335 : BitVec 32 := Scalar.remsi v3332 v3334
  let c0_i32_1971 : BitVec 32 := 0#32
  let v3337 : BitVec 1 := Scalar.cmpi .slt v3335 c0_i32_1971
  let c0_i32_1972 : BitVec 32 := 0#32
  let v3338 : BitVec 1 := Scalar.cmpi .slt v3334 c0_i32_1972
  let v3339 : BitVec 1 := Scalar.xori v3337 v3338
  let c0_i32_1970 : BitVec 32 := 0#32
  let v3336 : BitVec 1 := Scalar.cmpi .ne v3335 c0_i32_1970
  let v3340 : BitVec 1 := Scalar.andi v3339 v3336
  let v3341 : BitVec 32 := Scalar.addi v3335 v3334
  let v3342 : BitVec 32 := Scalar.select v3340 v3341 v3335
  let c0_i32_1976 : BitVec 32 := 0#32
  let v3346 : BitVec 1 := Scalar.cmpi .sgt v3342 c0_i32_1976
  let v3347 : BitVec 32 := Scalar.extui v3346
  let c0_i32_1977 : BitVec 32 := 0#32
  let v3348 : BitVec 1 := Scalar.cmpi .slt v3342 c0_i32_1977
  let v3349 : BitVec 32 := Scalar.extui v3348
  let v3350 : BitVec 32 := Scalar.subi v3347 v3349
  let c4_i32_1975 : BitVec 32 := 4#32
  let c0_i32_1978 : BitVec 32 := 0#32
  let v3351 : BitVec 1 := Scalar.cmpi .sgt c4_i32_1975 c0_i32_1978
  let v3352 : BitVec 32 := Scalar.extui v3351
  let c0_i32_1979 : BitVec 32 := 0#32
  let v3353 : BitVec 1 := Scalar.cmpi .slt c4_i32_1975 c0_i32_1979
  let v3354 : BitVec 32 := Scalar.extui v3353
  let v3355 : BitVec 32 := Scalar.subi v3352 v3354
  let v3356 : BitVec 1 := Scalar.cmpi .ne v3350 v3355
  let v3357 : BitVec 32 := Scalar.remsi v3342 c4_i32_1975
  let c0_i32_1980 : BitVec 32 := 0#32
  let v3358 : BitVec 1 := Scalar.cmpi .ne v3357 c0_i32_1980
  let v3359 : BitVec 1 := Scalar.andi v3356 v3358
  let v3345 : BitVec 32 := Scalar.divsi v3342 c4_i32_1975
  let c1_i32_1981 : BitVec 32 := 1#32
  let v3360 : BitVec 32 := Scalar.subi v3345 c1_i32_1981
  let v3361 : BitVec 32 := Scalar.select v3359 v3360 v3345
  let c8_i32_1997 : BitVec 32 := 8#32
  let v3388 : BitVec 32 := Scalar.muli v3361 c8_i32_1997
  let c2_i32_1994 : BitVec 32 := 2#32
  let c4_i32_1982 : BitVec 32 := 4#32
  let c0_i32_1983 : BitVec 32 := 0#32
  let v3362 : BitVec 1 := Scalar.cmpi .eq c4_i32_1982 c0_i32_1983
  let c1_i32_1984 : BitVec 32 := 1#32
  let v3363 : BitVec 32 := Scalar.select v3362 c1_i32_1984 c4_i32_1982
  let v3364 : BitVec 32 := Scalar.remsi v3342 v3363
  let c0_i32_1986 : BitVec 32 := 0#32
  let v3366 : BitVec 1 := Scalar.cmpi .slt v3364 c0_i32_1986
  let c0_i32_1987 : BitVec 32 := 0#32
  let v3367 : BitVec 1 := Scalar.cmpi .slt v3363 c0_i32_1987
  let v3368 : BitVec 1 := Scalar.xori v3366 v3367
  let c0_i32_1985 : BitVec 32 := 0#32
  let v3365 : BitVec 1 := Scalar.cmpi .ne v3364 c0_i32_1985
  let v3369 : BitVec 1 := Scalar.andi v3368 v3365
  let v3370 : BitVec 32 := Scalar.addi v3364 v3363
  let v3371 : BitVec 32 := Scalar.select v3369 v3370 v3364
  let v3382 : BitVec 32 := Scalar.muli c2_i32_1994 v3371
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v3383 : BitVec 32 := Scalar.addi v3382 v94
  let c2_i32_1988 : BitVec 32 := 2#32
  let c0_i32_1989 : BitVec 32 := 0#32
  let v3372 : BitVec 1 := Scalar.cmpi .eq c2_i32_1988 c0_i32_1989
  let c1_i32_1990 : BitVec 32 := 1#32
  let v3373 : BitVec 32 := Scalar.select v3372 c1_i32_1990 c2_i32_1988
  let v3374 : BitVec 32 := Scalar.remsi v3371 v3373
  let c0_i32_1992 : BitVec 32 := 0#32
  let v3376 : BitVec 1 := Scalar.cmpi .slt v3374 c0_i32_1992
  let c0_i32_1993 : BitVec 32 := 0#32
  let v3377 : BitVec 1 := Scalar.cmpi .slt v3373 c0_i32_1993
  let v3378 : BitVec 1 := Scalar.xori v3376 v3377
  let c0_i32_1991 : BitVec 32 := 0#32
  let v3375 : BitVec 1 := Scalar.cmpi .ne v3374 c0_i32_1991
  let v3379 : BitVec 1 := Scalar.andi v3378 v3375
  let v3380 : BitVec 32 := Scalar.addi v3374 v3373
  let v3381 : BitVec 32 := Scalar.select v3379 v3380 v3374
  let c1_i32_1996 : BitVec 32 := 1#32
  let c2_i32_1995 : BitVec 32 := 2#32
  let v3384 : BitVec 32 := Scalar.muli c2_i32_1995 v94
  let v3385 : BitVec 32 := Scalar.subi c1_i32_1996 v3384
  let v3386 : BitVec 32 := Scalar.muli v3381 v3385
  let v3387 : BitVec 32 := Scalar.addi v3383 v3386
  let v3389 : BitVec 32 := Scalar.addi v3388 v3387
  let c1_i32_2002 : BitVec 32 := 1#32
  let v3390 : BitVec 32 := Scalar.muli v3389 c1_i32_2002
  let v3391 : BitVec 32 := Scalar.addi c0_i32_2003 v3390
  v3391.toNat
def k0_dev56 (d0 : Dev nD) : Nat :=
  let c0_i32_2043 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c6_i32_2006 : BitVec 32 := 6#32
  let v3398 : BitVec 32 := Scalar.addi v96 c6_i32_2006
  let c16_i32_2007 : BitVec 32 := 16#32
  let c0_i32_2008 : BitVec 32 := 0#32
  let v3399 : BitVec 1 := Scalar.cmpi .eq c16_i32_2007 c0_i32_2008
  let c1_i32_2009 : BitVec 32 := 1#32
  let v3400 : BitVec 32 := Scalar.select v3399 c1_i32_2009 c16_i32_2007
  let v3401 : BitVec 32 := Scalar.remsi v3398 v3400
  let c0_i32_2011 : BitVec 32 := 0#32
  let v3403 : BitVec 1 := Scalar.cmpi .slt v3401 c0_i32_2011
  let c0_i32_2012 : BitVec 32 := 0#32
  let v3404 : BitVec 1 := Scalar.cmpi .slt v3400 c0_i32_2012
  let v3405 : BitVec 1 := Scalar.xori v3403 v3404
  let c0_i32_2010 : BitVec 32 := 0#32
  let v3402 : BitVec 1 := Scalar.cmpi .ne v3401 c0_i32_2010
  let v3406 : BitVec 1 := Scalar.andi v3405 v3402
  let v3407 : BitVec 32 := Scalar.addi v3401 v3400
  let v3408 : BitVec 32 := Scalar.select v3406 v3407 v3401
  let c0_i32_2016 : BitVec 32 := 0#32
  let v3412 : BitVec 1 := Scalar.cmpi .sgt v3408 c0_i32_2016
  let v3413 : BitVec 32 := Scalar.extui v3412
  let c0_i32_2017 : BitVec 32 := 0#32
  let v3414 : BitVec 1 := Scalar.cmpi .slt v3408 c0_i32_2017
  let v3415 : BitVec 32 := Scalar.extui v3414
  let v3416 : BitVec 32 := Scalar.subi v3413 v3415
  let c4_i32_2015 : BitVec 32 := 4#32
  let c0_i32_2018 : BitVec 32 := 0#32
  let v3417 : BitVec 1 := Scalar.cmpi .sgt c4_i32_2015 c0_i32_2018
  let v3418 : BitVec 32 := Scalar.extui v3417
  let c0_i32_2019 : BitVec 32 := 0#32
  let v3419 : BitVec 1 := Scalar.cmpi .slt c4_i32_2015 c0_i32_2019
  let v3420 : BitVec 32 := Scalar.extui v3419
  let v3421 : BitVec 32 := Scalar.subi v3418 v3420
  let v3422 : BitVec 1 := Scalar.cmpi .ne v3416 v3421
  let v3423 : BitVec 32 := Scalar.remsi v3408 c4_i32_2015
  let c0_i32_2020 : BitVec 32 := 0#32
  let v3424 : BitVec 1 := Scalar.cmpi .ne v3423 c0_i32_2020
  let v3425 : BitVec 1 := Scalar.andi v3422 v3424
  let v3411 : BitVec 32 := Scalar.divsi v3408 c4_i32_2015
  let c1_i32_2021 : BitVec 32 := 1#32
  let v3426 : BitVec 32 := Scalar.subi v3411 c1_i32_2021
  let v3427 : BitVec 32 := Scalar.select v3425 v3426 v3411
  let c8_i32_2037 : BitVec 32 := 8#32
  let v3454 : BitVec 32 := Scalar.muli v3427 c8_i32_2037
  let c2_i32_2034 : BitVec 32 := 2#32
  let c4_i32_2022 : BitVec 32 := 4#32
  let c0_i32_2023 : BitVec 32 := 0#32
  let v3428 : BitVec 1 := Scalar.cmpi .eq c4_i32_2022 c0_i32_2023
  let c1_i32_2024 : BitVec 32 := 1#32
  let v3429 : BitVec 32 := Scalar.select v3428 c1_i32_2024 c4_i32_2022
  let v3430 : BitVec 32 := Scalar.remsi v3408 v3429
  let c0_i32_2026 : BitVec 32 := 0#32
  let v3432 : BitVec 1 := Scalar.cmpi .slt v3430 c0_i32_2026
  let c0_i32_2027 : BitVec 32 := 0#32
  let v3433 : BitVec 1 := Scalar.cmpi .slt v3429 c0_i32_2027
  let v3434 : BitVec 1 := Scalar.xori v3432 v3433
  let c0_i32_2025 : BitVec 32 := 0#32
  let v3431 : BitVec 1 := Scalar.cmpi .ne v3430 c0_i32_2025
  let v3435 : BitVec 1 := Scalar.andi v3434 v3431
  let v3436 : BitVec 32 := Scalar.addi v3430 v3429
  let v3437 : BitVec 32 := Scalar.select v3435 v3436 v3430
  let v3448 : BitVec 32 := Scalar.muli c2_i32_2034 v3437
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v3449 : BitVec 32 := Scalar.addi v3448 v94
  let c2_i32_2028 : BitVec 32 := 2#32
  let c0_i32_2029 : BitVec 32 := 0#32
  let v3438 : BitVec 1 := Scalar.cmpi .eq c2_i32_2028 c0_i32_2029
  let c1_i32_2030 : BitVec 32 := 1#32
  let v3439 : BitVec 32 := Scalar.select v3438 c1_i32_2030 c2_i32_2028
  let v3440 : BitVec 32 := Scalar.remsi v3437 v3439
  let c0_i32_2032 : BitVec 32 := 0#32
  let v3442 : BitVec 1 := Scalar.cmpi .slt v3440 c0_i32_2032
  let c0_i32_2033 : BitVec 32 := 0#32
  let v3443 : BitVec 1 := Scalar.cmpi .slt v3439 c0_i32_2033
  let v3444 : BitVec 1 := Scalar.xori v3442 v3443
  let c0_i32_2031 : BitVec 32 := 0#32
  let v3441 : BitVec 1 := Scalar.cmpi .ne v3440 c0_i32_2031
  let v3445 : BitVec 1 := Scalar.andi v3444 v3441
  let v3446 : BitVec 32 := Scalar.addi v3440 v3439
  let v3447 : BitVec 32 := Scalar.select v3445 v3446 v3440
  let c1_i32_2036 : BitVec 32 := 1#32
  let c2_i32_2035 : BitVec 32 := 2#32
  let v3450 : BitVec 32 := Scalar.muli c2_i32_2035 v94
  let v3451 : BitVec 32 := Scalar.subi c1_i32_2036 v3450
  let v3452 : BitVec 32 := Scalar.muli v3447 v3451
  let v3453 : BitVec 32 := Scalar.addi v3449 v3452
  let v3455 : BitVec 32 := Scalar.addi v3454 v3453
  let c1_i32_2042 : BitVec 32 := 1#32
  let v3456 : BitVec 32 := Scalar.muli v3455 c1_i32_2042
  let v3457 : BitVec 32 := Scalar.addi c0_i32_2043 v3456
  v3457.toNat
def k0_dev57 (d0 : Dev nD) : Nat :=
  let c0_i32_2083 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c7_i32_2046 : BitVec 32 := 7#32
  let v3464 : BitVec 32 := Scalar.addi v96 c7_i32_2046
  let c16_i32_2047 : BitVec 32 := 16#32
  let c0_i32_2048 : BitVec 32 := 0#32
  let v3465 : BitVec 1 := Scalar.cmpi .eq c16_i32_2047 c0_i32_2048
  let c1_i32_2049 : BitVec 32 := 1#32
  let v3466 : BitVec 32 := Scalar.select v3465 c1_i32_2049 c16_i32_2047
  let v3467 : BitVec 32 := Scalar.remsi v3464 v3466
  let c0_i32_2051 : BitVec 32 := 0#32
  let v3469 : BitVec 1 := Scalar.cmpi .slt v3467 c0_i32_2051
  let c0_i32_2052 : BitVec 32 := 0#32
  let v3470 : BitVec 1 := Scalar.cmpi .slt v3466 c0_i32_2052
  let v3471 : BitVec 1 := Scalar.xori v3469 v3470
  let c0_i32_2050 : BitVec 32 := 0#32
  let v3468 : BitVec 1 := Scalar.cmpi .ne v3467 c0_i32_2050
  let v3472 : BitVec 1 := Scalar.andi v3471 v3468
  let v3473 : BitVec 32 := Scalar.addi v3467 v3466
  let v3474 : BitVec 32 := Scalar.select v3472 v3473 v3467
  let c0_i32_2056 : BitVec 32 := 0#32
  let v3478 : BitVec 1 := Scalar.cmpi .sgt v3474 c0_i32_2056
  let v3479 : BitVec 32 := Scalar.extui v3478
  let c0_i32_2057 : BitVec 32 := 0#32
  let v3480 : BitVec 1 := Scalar.cmpi .slt v3474 c0_i32_2057
  let v3481 : BitVec 32 := Scalar.extui v3480
  let v3482 : BitVec 32 := Scalar.subi v3479 v3481
  let c4_i32_2055 : BitVec 32 := 4#32
  let c0_i32_2058 : BitVec 32 := 0#32
  let v3483 : BitVec 1 := Scalar.cmpi .sgt c4_i32_2055 c0_i32_2058
  let v3484 : BitVec 32 := Scalar.extui v3483
  let c0_i32_2059 : BitVec 32 := 0#32
  let v3485 : BitVec 1 := Scalar.cmpi .slt c4_i32_2055 c0_i32_2059
  let v3486 : BitVec 32 := Scalar.extui v3485
  let v3487 : BitVec 32 := Scalar.subi v3484 v3486
  let v3488 : BitVec 1 := Scalar.cmpi .ne v3482 v3487
  let v3489 : BitVec 32 := Scalar.remsi v3474 c4_i32_2055
  let c0_i32_2060 : BitVec 32 := 0#32
  let v3490 : BitVec 1 := Scalar.cmpi .ne v3489 c0_i32_2060
  let v3491 : BitVec 1 := Scalar.andi v3488 v3490
  let v3477 : BitVec 32 := Scalar.divsi v3474 c4_i32_2055
  let c1_i32_2061 : BitVec 32 := 1#32
  let v3492 : BitVec 32 := Scalar.subi v3477 c1_i32_2061
  let v3493 : BitVec 32 := Scalar.select v3491 v3492 v3477
  let c8_i32_2077 : BitVec 32 := 8#32
  let v3520 : BitVec 32 := Scalar.muli v3493 c8_i32_2077
  let c2_i32_2074 : BitVec 32 := 2#32
  let c4_i32_2062 : BitVec 32 := 4#32
  let c0_i32_2063 : BitVec 32 := 0#32
  let v3494 : BitVec 1 := Scalar.cmpi .eq c4_i32_2062 c0_i32_2063
  let c1_i32_2064 : BitVec 32 := 1#32
  let v3495 : BitVec 32 := Scalar.select v3494 c1_i32_2064 c4_i32_2062
  let v3496 : BitVec 32 := Scalar.remsi v3474 v3495
  let c0_i32_2066 : BitVec 32 := 0#32
  let v3498 : BitVec 1 := Scalar.cmpi .slt v3496 c0_i32_2066
  let c0_i32_2067 : BitVec 32 := 0#32
  let v3499 : BitVec 1 := Scalar.cmpi .slt v3495 c0_i32_2067
  let v3500 : BitVec 1 := Scalar.xori v3498 v3499
  let c0_i32_2065 : BitVec 32 := 0#32
  let v3497 : BitVec 1 := Scalar.cmpi .ne v3496 c0_i32_2065
  let v3501 : BitVec 1 := Scalar.andi v3500 v3497
  let v3502 : BitVec 32 := Scalar.addi v3496 v3495
  let v3503 : BitVec 32 := Scalar.select v3501 v3502 v3496
  let v3514 : BitVec 32 := Scalar.muli c2_i32_2074 v3503
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v3515 : BitVec 32 := Scalar.addi v3514 v94
  let c2_i32_2068 : BitVec 32 := 2#32
  let c0_i32_2069 : BitVec 32 := 0#32
  let v3504 : BitVec 1 := Scalar.cmpi .eq c2_i32_2068 c0_i32_2069
  let c1_i32_2070 : BitVec 32 := 1#32
  let v3505 : BitVec 32 := Scalar.select v3504 c1_i32_2070 c2_i32_2068
  let v3506 : BitVec 32 := Scalar.remsi v3503 v3505
  let c0_i32_2072 : BitVec 32 := 0#32
  let v3508 : BitVec 1 := Scalar.cmpi .slt v3506 c0_i32_2072
  let c0_i32_2073 : BitVec 32 := 0#32
  let v3509 : BitVec 1 := Scalar.cmpi .slt v3505 c0_i32_2073
  let v3510 : BitVec 1 := Scalar.xori v3508 v3509
  let c0_i32_2071 : BitVec 32 := 0#32
  let v3507 : BitVec 1 := Scalar.cmpi .ne v3506 c0_i32_2071
  let v3511 : BitVec 1 := Scalar.andi v3510 v3507
  let v3512 : BitVec 32 := Scalar.addi v3506 v3505
  let v3513 : BitVec 32 := Scalar.select v3511 v3512 v3506
  let c1_i32_2076 : BitVec 32 := 1#32
  let c2_i32_2075 : BitVec 32 := 2#32
  let v3516 : BitVec 32 := Scalar.muli c2_i32_2075 v94
  let v3517 : BitVec 32 := Scalar.subi c1_i32_2076 v3516
  let v3518 : BitVec 32 := Scalar.muli v3513 v3517
  let v3519 : BitVec 32 := Scalar.addi v3515 v3518
  let v3521 : BitVec 32 := Scalar.addi v3520 v3519
  let c1_i32_2082 : BitVec 32 := 1#32
  let v3522 : BitVec 32 := Scalar.muli v3521 c1_i32_2082
  let v3523 : BitVec 32 := Scalar.addi c0_i32_2083 v3522
  v3523.toNat
def k0_dev58 (d0 : Dev nD) : Nat :=
  let c0_i32_2123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c8_i32_2086 : BitVec 32 := 8#32
  let v3530 : BitVec 32 := Scalar.addi v96 c8_i32_2086
  let c16_i32_2087 : BitVec 32 := 16#32
  let c0_i32_2088 : BitVec 32 := 0#32
  let v3531 : BitVec 1 := Scalar.cmpi .eq c16_i32_2087 c0_i32_2088
  let c1_i32_2089 : BitVec 32 := 1#32
  let v3532 : BitVec 32 := Scalar.select v3531 c1_i32_2089 c16_i32_2087
  let v3533 : BitVec 32 := Scalar.remsi v3530 v3532
  let c0_i32_2091 : BitVec 32 := 0#32
  let v3535 : BitVec 1 := Scalar.cmpi .slt v3533 c0_i32_2091
  let c0_i32_2092 : BitVec 32 := 0#32
  let v3536 : BitVec 1 := Scalar.cmpi .slt v3532 c0_i32_2092
  let v3537 : BitVec 1 := Scalar.xori v3535 v3536
  let c0_i32_2090 : BitVec 32 := 0#32
  let v3534 : BitVec 1 := Scalar.cmpi .ne v3533 c0_i32_2090
  let v3538 : BitVec 1 := Scalar.andi v3537 v3534
  let v3539 : BitVec 32 := Scalar.addi v3533 v3532
  let v3540 : BitVec 32 := Scalar.select v3538 v3539 v3533
  let c0_i32_2096 : BitVec 32 := 0#32
  let v3544 : BitVec 1 := Scalar.cmpi .sgt v3540 c0_i32_2096
  let v3545 : BitVec 32 := Scalar.extui v3544
  let c0_i32_2097 : BitVec 32 := 0#32
  let v3546 : BitVec 1 := Scalar.cmpi .slt v3540 c0_i32_2097
  let v3547 : BitVec 32 := Scalar.extui v3546
  let v3548 : BitVec 32 := Scalar.subi v3545 v3547
  let c4_i32_2095 : BitVec 32 := 4#32
  let c0_i32_2098 : BitVec 32 := 0#32
  let v3549 : BitVec 1 := Scalar.cmpi .sgt c4_i32_2095 c0_i32_2098
  let v3550 : BitVec 32 := Scalar.extui v3549
  let c0_i32_2099 : BitVec 32 := 0#32
  let v3551 : BitVec 1 := Scalar.cmpi .slt c4_i32_2095 c0_i32_2099
  let v3552 : BitVec 32 := Scalar.extui v3551
  let v3553 : BitVec 32 := Scalar.subi v3550 v3552
  let v3554 : BitVec 1 := Scalar.cmpi .ne v3548 v3553
  let v3555 : BitVec 32 := Scalar.remsi v3540 c4_i32_2095
  let c0_i32_2100 : BitVec 32 := 0#32
  let v3556 : BitVec 1 := Scalar.cmpi .ne v3555 c0_i32_2100
  let v3557 : BitVec 1 := Scalar.andi v3554 v3556
  let v3543 : BitVec 32 := Scalar.divsi v3540 c4_i32_2095
  let c1_i32_2101 : BitVec 32 := 1#32
  let v3558 : BitVec 32 := Scalar.subi v3543 c1_i32_2101
  let v3559 : BitVec 32 := Scalar.select v3557 v3558 v3543
  let c8_i32_2117 : BitVec 32 := 8#32
  let v3586 : BitVec 32 := Scalar.muli v3559 c8_i32_2117
  let c2_i32_2114 : BitVec 32 := 2#32
  let c4_i32_2102 : BitVec 32 := 4#32
  let c0_i32_2103 : BitVec 32 := 0#32
  let v3560 : BitVec 1 := Scalar.cmpi .eq c4_i32_2102 c0_i32_2103
  let c1_i32_2104 : BitVec 32 := 1#32
  let v3561 : BitVec 32 := Scalar.select v3560 c1_i32_2104 c4_i32_2102
  let v3562 : BitVec 32 := Scalar.remsi v3540 v3561
  let c0_i32_2106 : BitVec 32 := 0#32
  let v3564 : BitVec 1 := Scalar.cmpi .slt v3562 c0_i32_2106
  let c0_i32_2107 : BitVec 32 := 0#32
  let v3565 : BitVec 1 := Scalar.cmpi .slt v3561 c0_i32_2107
  let v3566 : BitVec 1 := Scalar.xori v3564 v3565
  let c0_i32_2105 : BitVec 32 := 0#32
  let v3563 : BitVec 1 := Scalar.cmpi .ne v3562 c0_i32_2105
  let v3567 : BitVec 1 := Scalar.andi v3566 v3563
  let v3568 : BitVec 32 := Scalar.addi v3562 v3561
  let v3569 : BitVec 32 := Scalar.select v3567 v3568 v3562
  let v3580 : BitVec 32 := Scalar.muli c2_i32_2114 v3569
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v3581 : BitVec 32 := Scalar.addi v3580 v94
  let c2_i32_2108 : BitVec 32 := 2#32
  let c0_i32_2109 : BitVec 32 := 0#32
  let v3570 : BitVec 1 := Scalar.cmpi .eq c2_i32_2108 c0_i32_2109
  let c1_i32_2110 : BitVec 32 := 1#32
  let v3571 : BitVec 32 := Scalar.select v3570 c1_i32_2110 c2_i32_2108
  let v3572 : BitVec 32 := Scalar.remsi v3569 v3571
  let c0_i32_2112 : BitVec 32 := 0#32
  let v3574 : BitVec 1 := Scalar.cmpi .slt v3572 c0_i32_2112
  let c0_i32_2113 : BitVec 32 := 0#32
  let v3575 : BitVec 1 := Scalar.cmpi .slt v3571 c0_i32_2113
  let v3576 : BitVec 1 := Scalar.xori v3574 v3575
  let c0_i32_2111 : BitVec 32 := 0#32
  let v3573 : BitVec 1 := Scalar.cmpi .ne v3572 c0_i32_2111
  let v3577 : BitVec 1 := Scalar.andi v3576 v3573
  let v3578 : BitVec 32 := Scalar.addi v3572 v3571
  let v3579 : BitVec 32 := Scalar.select v3577 v3578 v3572
  let c1_i32_2116 : BitVec 32 := 1#32
  let c2_i32_2115 : BitVec 32 := 2#32
  let v3582 : BitVec 32 := Scalar.muli c2_i32_2115 v94
  let v3583 : BitVec 32 := Scalar.subi c1_i32_2116 v3582
  let v3584 : BitVec 32 := Scalar.muli v3579 v3583
  let v3585 : BitVec 32 := Scalar.addi v3581 v3584
  let v3587 : BitVec 32 := Scalar.addi v3586 v3585
  let c1_i32_2122 : BitVec 32 := 1#32
  let v3588 : BitVec 32 := Scalar.muli v3587 c1_i32_2122
  let v3589 : BitVec 32 := Scalar.addi c0_i32_2123 v3588
  v3589.toNat
def k0_dev59 (d0 : Dev nD) : Nat :=
  let c0_i32_2163 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c9_i32_2126 : BitVec 32 := 9#32
  let v3596 : BitVec 32 := Scalar.addi v96 c9_i32_2126
  let c16_i32_2127 : BitVec 32 := 16#32
  let c0_i32_2128 : BitVec 32 := 0#32
  let v3597 : BitVec 1 := Scalar.cmpi .eq c16_i32_2127 c0_i32_2128
  let c1_i32_2129 : BitVec 32 := 1#32
  let v3598 : BitVec 32 := Scalar.select v3597 c1_i32_2129 c16_i32_2127
  let v3599 : BitVec 32 := Scalar.remsi v3596 v3598
  let c0_i32_2131 : BitVec 32 := 0#32
  let v3601 : BitVec 1 := Scalar.cmpi .slt v3599 c0_i32_2131
  let c0_i32_2132 : BitVec 32 := 0#32
  let v3602 : BitVec 1 := Scalar.cmpi .slt v3598 c0_i32_2132
  let v3603 : BitVec 1 := Scalar.xori v3601 v3602
  let c0_i32_2130 : BitVec 32 := 0#32
  let v3600 : BitVec 1 := Scalar.cmpi .ne v3599 c0_i32_2130
  let v3604 : BitVec 1 := Scalar.andi v3603 v3600
  let v3605 : BitVec 32 := Scalar.addi v3599 v3598
  let v3606 : BitVec 32 := Scalar.select v3604 v3605 v3599
  let c0_i32_2136 : BitVec 32 := 0#32
  let v3610 : BitVec 1 := Scalar.cmpi .sgt v3606 c0_i32_2136
  let v3611 : BitVec 32 := Scalar.extui v3610
  let c0_i32_2137 : BitVec 32 := 0#32
  let v3612 : BitVec 1 := Scalar.cmpi .slt v3606 c0_i32_2137
  let v3613 : BitVec 32 := Scalar.extui v3612
  let v3614 : BitVec 32 := Scalar.subi v3611 v3613
  let c4_i32_2135 : BitVec 32 := 4#32
  let c0_i32_2138 : BitVec 32 := 0#32
  let v3615 : BitVec 1 := Scalar.cmpi .sgt c4_i32_2135 c0_i32_2138
  let v3616 : BitVec 32 := Scalar.extui v3615
  let c0_i32_2139 : BitVec 32 := 0#32
  let v3617 : BitVec 1 := Scalar.cmpi .slt c4_i32_2135 c0_i32_2139
  let v3618 : BitVec 32 := Scalar.extui v3617
  let v3619 : BitVec 32 := Scalar.subi v3616 v3618
  let v3620 : BitVec 1 := Scalar.cmpi .ne v3614 v3619
  let v3621 : BitVec 32 := Scalar.remsi v3606 c4_i32_2135
  let c0_i32_2140 : BitVec 32 := 0#32
  let v3622 : BitVec 1 := Scalar.cmpi .ne v3621 c0_i32_2140
  let v3623 : BitVec 1 := Scalar.andi v3620 v3622
  let v3609 : BitVec 32 := Scalar.divsi v3606 c4_i32_2135
  let c1_i32_2141 : BitVec 32 := 1#32
  let v3624 : BitVec 32 := Scalar.subi v3609 c1_i32_2141
  let v3625 : BitVec 32 := Scalar.select v3623 v3624 v3609
  let c8_i32_2157 : BitVec 32 := 8#32
  let v3652 : BitVec 32 := Scalar.muli v3625 c8_i32_2157
  let c2_i32_2154 : BitVec 32 := 2#32
  let c4_i32_2142 : BitVec 32 := 4#32
  let c0_i32_2143 : BitVec 32 := 0#32
  let v3626 : BitVec 1 := Scalar.cmpi .eq c4_i32_2142 c0_i32_2143
  let c1_i32_2144 : BitVec 32 := 1#32
  let v3627 : BitVec 32 := Scalar.select v3626 c1_i32_2144 c4_i32_2142
  let v3628 : BitVec 32 := Scalar.remsi v3606 v3627
  let c0_i32_2146 : BitVec 32 := 0#32
  let v3630 : BitVec 1 := Scalar.cmpi .slt v3628 c0_i32_2146
  let c0_i32_2147 : BitVec 32 := 0#32
  let v3631 : BitVec 1 := Scalar.cmpi .slt v3627 c0_i32_2147
  let v3632 : BitVec 1 := Scalar.xori v3630 v3631
  let c0_i32_2145 : BitVec 32 := 0#32
  let v3629 : BitVec 1 := Scalar.cmpi .ne v3628 c0_i32_2145
  let v3633 : BitVec 1 := Scalar.andi v3632 v3629
  let v3634 : BitVec 32 := Scalar.addi v3628 v3627
  let v3635 : BitVec 32 := Scalar.select v3633 v3634 v3628
  let v3646 : BitVec 32 := Scalar.muli c2_i32_2154 v3635
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v3647 : BitVec 32 := Scalar.addi v3646 v94
  let c2_i32_2148 : BitVec 32 := 2#32
  let c0_i32_2149 : BitVec 32 := 0#32
  let v3636 : BitVec 1 := Scalar.cmpi .eq c2_i32_2148 c0_i32_2149
  let c1_i32_2150 : BitVec 32 := 1#32
  let v3637 : BitVec 32 := Scalar.select v3636 c1_i32_2150 c2_i32_2148
  let v3638 : BitVec 32 := Scalar.remsi v3635 v3637
  let c0_i32_2152 : BitVec 32 := 0#32
  let v3640 : BitVec 1 := Scalar.cmpi .slt v3638 c0_i32_2152
  let c0_i32_2153 : BitVec 32 := 0#32
  let v3641 : BitVec 1 := Scalar.cmpi .slt v3637 c0_i32_2153
  let v3642 : BitVec 1 := Scalar.xori v3640 v3641
  let c0_i32_2151 : BitVec 32 := 0#32
  let v3639 : BitVec 1 := Scalar.cmpi .ne v3638 c0_i32_2151
  let v3643 : BitVec 1 := Scalar.andi v3642 v3639
  let v3644 : BitVec 32 := Scalar.addi v3638 v3637
  let v3645 : BitVec 32 := Scalar.select v3643 v3644 v3638
  let c1_i32_2156 : BitVec 32 := 1#32
  let c2_i32_2155 : BitVec 32 := 2#32
  let v3648 : BitVec 32 := Scalar.muli c2_i32_2155 v94
  let v3649 : BitVec 32 := Scalar.subi c1_i32_2156 v3648
  let v3650 : BitVec 32 := Scalar.muli v3645 v3649
  let v3651 : BitVec 32 := Scalar.addi v3647 v3650
  let v3653 : BitVec 32 := Scalar.addi v3652 v3651
  let c1_i32_2162 : BitVec 32 := 1#32
  let v3654 : BitVec 32 := Scalar.muli v3653 c1_i32_2162
  let v3655 : BitVec 32 := Scalar.addi c0_i32_2163 v3654
  v3655.toNat
def k0_dev60 (d0 : Dev nD) : Nat :=
  let c0_i32_2203 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c10_i32_2166 : BitVec 32 := 10#32
  let v3662 : BitVec 32 := Scalar.addi v96 c10_i32_2166
  let c16_i32_2167 : BitVec 32 := 16#32
  let c0_i32_2168 : BitVec 32 := 0#32
  let v3663 : BitVec 1 := Scalar.cmpi .eq c16_i32_2167 c0_i32_2168
  let c1_i32_2169 : BitVec 32 := 1#32
  let v3664 : BitVec 32 := Scalar.select v3663 c1_i32_2169 c16_i32_2167
  let v3665 : BitVec 32 := Scalar.remsi v3662 v3664
  let c0_i32_2171 : BitVec 32 := 0#32
  let v3667 : BitVec 1 := Scalar.cmpi .slt v3665 c0_i32_2171
  let c0_i32_2172 : BitVec 32 := 0#32
  let v3668 : BitVec 1 := Scalar.cmpi .slt v3664 c0_i32_2172
  let v3669 : BitVec 1 := Scalar.xori v3667 v3668
  let c0_i32_2170 : BitVec 32 := 0#32
  let v3666 : BitVec 1 := Scalar.cmpi .ne v3665 c0_i32_2170
  let v3670 : BitVec 1 := Scalar.andi v3669 v3666
  let v3671 : BitVec 32 := Scalar.addi v3665 v3664
  let v3672 : BitVec 32 := Scalar.select v3670 v3671 v3665
  let c0_i32_2176 : BitVec 32 := 0#32
  let v3676 : BitVec 1 := Scalar.cmpi .sgt v3672 c0_i32_2176
  let v3677 : BitVec 32 := Scalar.extui v3676
  let c0_i32_2177 : BitVec 32 := 0#32
  let v3678 : BitVec 1 := Scalar.cmpi .slt v3672 c0_i32_2177
  let v3679 : BitVec 32 := Scalar.extui v3678
  let v3680 : BitVec 32 := Scalar.subi v3677 v3679
  let c4_i32_2175 : BitVec 32 := 4#32
  let c0_i32_2178 : BitVec 32 := 0#32
  let v3681 : BitVec 1 := Scalar.cmpi .sgt c4_i32_2175 c0_i32_2178
  let v3682 : BitVec 32 := Scalar.extui v3681
  let c0_i32_2179 : BitVec 32 := 0#32
  let v3683 : BitVec 1 := Scalar.cmpi .slt c4_i32_2175 c0_i32_2179
  let v3684 : BitVec 32 := Scalar.extui v3683
  let v3685 : BitVec 32 := Scalar.subi v3682 v3684
  let v3686 : BitVec 1 := Scalar.cmpi .ne v3680 v3685
  let v3687 : BitVec 32 := Scalar.remsi v3672 c4_i32_2175
  let c0_i32_2180 : BitVec 32 := 0#32
  let v3688 : BitVec 1 := Scalar.cmpi .ne v3687 c0_i32_2180
  let v3689 : BitVec 1 := Scalar.andi v3686 v3688
  let v3675 : BitVec 32 := Scalar.divsi v3672 c4_i32_2175
  let c1_i32_2181 : BitVec 32 := 1#32
  let v3690 : BitVec 32 := Scalar.subi v3675 c1_i32_2181
  let v3691 : BitVec 32 := Scalar.select v3689 v3690 v3675
  let c8_i32_2197 : BitVec 32 := 8#32
  let v3718 : BitVec 32 := Scalar.muli v3691 c8_i32_2197
  let c2_i32_2194 : BitVec 32 := 2#32
  let c4_i32_2182 : BitVec 32 := 4#32
  let c0_i32_2183 : BitVec 32 := 0#32
  let v3692 : BitVec 1 := Scalar.cmpi .eq c4_i32_2182 c0_i32_2183
  let c1_i32_2184 : BitVec 32 := 1#32
  let v3693 : BitVec 32 := Scalar.select v3692 c1_i32_2184 c4_i32_2182
  let v3694 : BitVec 32 := Scalar.remsi v3672 v3693
  let c0_i32_2186 : BitVec 32 := 0#32
  let v3696 : BitVec 1 := Scalar.cmpi .slt v3694 c0_i32_2186
  let c0_i32_2187 : BitVec 32 := 0#32
  let v3697 : BitVec 1 := Scalar.cmpi .slt v3693 c0_i32_2187
  let v3698 : BitVec 1 := Scalar.xori v3696 v3697
  let c0_i32_2185 : BitVec 32 := 0#32
  let v3695 : BitVec 1 := Scalar.cmpi .ne v3694 c0_i32_2185
  let v3699 : BitVec 1 := Scalar.andi v3698 v3695
  let v3700 : BitVec 32 := Scalar.addi v3694 v3693
  let v3701 : BitVec 32 := Scalar.select v3699 v3700 v3694
  let v3712 : BitVec 32 := Scalar.muli c2_i32_2194 v3701
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v3713 : BitVec 32 := Scalar.addi v3712 v94
  let c2_i32_2188 : BitVec 32 := 2#32
  let c0_i32_2189 : BitVec 32 := 0#32
  let v3702 : BitVec 1 := Scalar.cmpi .eq c2_i32_2188 c0_i32_2189
  let c1_i32_2190 : BitVec 32 := 1#32
  let v3703 : BitVec 32 := Scalar.select v3702 c1_i32_2190 c2_i32_2188
  let v3704 : BitVec 32 := Scalar.remsi v3701 v3703
  let c0_i32_2192 : BitVec 32 := 0#32
  let v3706 : BitVec 1 := Scalar.cmpi .slt v3704 c0_i32_2192
  let c0_i32_2193 : BitVec 32 := 0#32
  let v3707 : BitVec 1 := Scalar.cmpi .slt v3703 c0_i32_2193
  let v3708 : BitVec 1 := Scalar.xori v3706 v3707
  let c0_i32_2191 : BitVec 32 := 0#32
  let v3705 : BitVec 1 := Scalar.cmpi .ne v3704 c0_i32_2191
  let v3709 : BitVec 1 := Scalar.andi v3708 v3705
  let v3710 : BitVec 32 := Scalar.addi v3704 v3703
  let v3711 : BitVec 32 := Scalar.select v3709 v3710 v3704
  let c1_i32_2196 : BitVec 32 := 1#32
  let c2_i32_2195 : BitVec 32 := 2#32
  let v3714 : BitVec 32 := Scalar.muli c2_i32_2195 v94
  let v3715 : BitVec 32 := Scalar.subi c1_i32_2196 v3714
  let v3716 : BitVec 32 := Scalar.muli v3711 v3715
  let v3717 : BitVec 32 := Scalar.addi v3713 v3716
  let v3719 : BitVec 32 := Scalar.addi v3718 v3717
  let c1_i32_2202 : BitVec 32 := 1#32
  let v3720 : BitVec 32 := Scalar.muli v3719 c1_i32_2202
  let v3721 : BitVec 32 := Scalar.addi c0_i32_2203 v3720
  v3721.toNat
def k0_dev61 (d0 : Dev nD) : Nat :=
  let c0_i32_2243 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c11_i32_2206 : BitVec 32 := 11#32
  let v3728 : BitVec 32 := Scalar.addi v96 c11_i32_2206
  let c16_i32_2207 : BitVec 32 := 16#32
  let c0_i32_2208 : BitVec 32 := 0#32
  let v3729 : BitVec 1 := Scalar.cmpi .eq c16_i32_2207 c0_i32_2208
  let c1_i32_2209 : BitVec 32 := 1#32
  let v3730 : BitVec 32 := Scalar.select v3729 c1_i32_2209 c16_i32_2207
  let v3731 : BitVec 32 := Scalar.remsi v3728 v3730
  let c0_i32_2211 : BitVec 32 := 0#32
  let v3733 : BitVec 1 := Scalar.cmpi .slt v3731 c0_i32_2211
  let c0_i32_2212 : BitVec 32 := 0#32
  let v3734 : BitVec 1 := Scalar.cmpi .slt v3730 c0_i32_2212
  let v3735 : BitVec 1 := Scalar.xori v3733 v3734
  let c0_i32_2210 : BitVec 32 := 0#32
  let v3732 : BitVec 1 := Scalar.cmpi .ne v3731 c0_i32_2210
  let v3736 : BitVec 1 := Scalar.andi v3735 v3732
  let v3737 : BitVec 32 := Scalar.addi v3731 v3730
  let v3738 : BitVec 32 := Scalar.select v3736 v3737 v3731
  let c0_i32_2216 : BitVec 32 := 0#32
  let v3742 : BitVec 1 := Scalar.cmpi .sgt v3738 c0_i32_2216
  let v3743 : BitVec 32 := Scalar.extui v3742
  let c0_i32_2217 : BitVec 32 := 0#32
  let v3744 : BitVec 1 := Scalar.cmpi .slt v3738 c0_i32_2217
  let v3745 : BitVec 32 := Scalar.extui v3744
  let v3746 : BitVec 32 := Scalar.subi v3743 v3745
  let c4_i32_2215 : BitVec 32 := 4#32
  let c0_i32_2218 : BitVec 32 := 0#32
  let v3747 : BitVec 1 := Scalar.cmpi .sgt c4_i32_2215 c0_i32_2218
  let v3748 : BitVec 32 := Scalar.extui v3747
  let c0_i32_2219 : BitVec 32 := 0#32
  let v3749 : BitVec 1 := Scalar.cmpi .slt c4_i32_2215 c0_i32_2219
  let v3750 : BitVec 32 := Scalar.extui v3749
  let v3751 : BitVec 32 := Scalar.subi v3748 v3750
  let v3752 : BitVec 1 := Scalar.cmpi .ne v3746 v3751
  let v3753 : BitVec 32 := Scalar.remsi v3738 c4_i32_2215
  let c0_i32_2220 : BitVec 32 := 0#32
  let v3754 : BitVec 1 := Scalar.cmpi .ne v3753 c0_i32_2220
  let v3755 : BitVec 1 := Scalar.andi v3752 v3754
  let v3741 : BitVec 32 := Scalar.divsi v3738 c4_i32_2215
  let c1_i32_2221 : BitVec 32 := 1#32
  let v3756 : BitVec 32 := Scalar.subi v3741 c1_i32_2221
  let v3757 : BitVec 32 := Scalar.select v3755 v3756 v3741
  let c8_i32_2237 : BitVec 32 := 8#32
  let v3784 : BitVec 32 := Scalar.muli v3757 c8_i32_2237
  let c2_i32_2234 : BitVec 32 := 2#32
  let c4_i32_2222 : BitVec 32 := 4#32
  let c0_i32_2223 : BitVec 32 := 0#32
  let v3758 : BitVec 1 := Scalar.cmpi .eq c4_i32_2222 c0_i32_2223
  let c1_i32_2224 : BitVec 32 := 1#32
  let v3759 : BitVec 32 := Scalar.select v3758 c1_i32_2224 c4_i32_2222
  let v3760 : BitVec 32 := Scalar.remsi v3738 v3759
  let c0_i32_2226 : BitVec 32 := 0#32
  let v3762 : BitVec 1 := Scalar.cmpi .slt v3760 c0_i32_2226
  let c0_i32_2227 : BitVec 32 := 0#32
  let v3763 : BitVec 1 := Scalar.cmpi .slt v3759 c0_i32_2227
  let v3764 : BitVec 1 := Scalar.xori v3762 v3763
  let c0_i32_2225 : BitVec 32 := 0#32
  let v3761 : BitVec 1 := Scalar.cmpi .ne v3760 c0_i32_2225
  let v3765 : BitVec 1 := Scalar.andi v3764 v3761
  let v3766 : BitVec 32 := Scalar.addi v3760 v3759
  let v3767 : BitVec 32 := Scalar.select v3765 v3766 v3760
  let v3778 : BitVec 32 := Scalar.muli c2_i32_2234 v3767
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v3779 : BitVec 32 := Scalar.addi v3778 v94
  let c2_i32_2228 : BitVec 32 := 2#32
  let c0_i32_2229 : BitVec 32 := 0#32
  let v3768 : BitVec 1 := Scalar.cmpi .eq c2_i32_2228 c0_i32_2229
  let c1_i32_2230 : BitVec 32 := 1#32
  let v3769 : BitVec 32 := Scalar.select v3768 c1_i32_2230 c2_i32_2228
  let v3770 : BitVec 32 := Scalar.remsi v3767 v3769
  let c0_i32_2232 : BitVec 32 := 0#32
  let v3772 : BitVec 1 := Scalar.cmpi .slt v3770 c0_i32_2232
  let c0_i32_2233 : BitVec 32 := 0#32
  let v3773 : BitVec 1 := Scalar.cmpi .slt v3769 c0_i32_2233
  let v3774 : BitVec 1 := Scalar.xori v3772 v3773
  let c0_i32_2231 : BitVec 32 := 0#32
  let v3771 : BitVec 1 := Scalar.cmpi .ne v3770 c0_i32_2231
  let v3775 : BitVec 1 := Scalar.andi v3774 v3771
  let v3776 : BitVec 32 := Scalar.addi v3770 v3769
  let v3777 : BitVec 32 := Scalar.select v3775 v3776 v3770
  let c1_i32_2236 : BitVec 32 := 1#32
  let c2_i32_2235 : BitVec 32 := 2#32
  let v3780 : BitVec 32 := Scalar.muli c2_i32_2235 v94
  let v3781 : BitVec 32 := Scalar.subi c1_i32_2236 v3780
  let v3782 : BitVec 32 := Scalar.muli v3777 v3781
  let v3783 : BitVec 32 := Scalar.addi v3779 v3782
  let v3785 : BitVec 32 := Scalar.addi v3784 v3783
  let c1_i32_2242 : BitVec 32 := 1#32
  let v3786 : BitVec 32 := Scalar.muli v3785 c1_i32_2242
  let v3787 : BitVec 32 := Scalar.addi c0_i32_2243 v3786
  v3787.toNat
def k0_dev62 (d0 : Dev nD) : Nat :=
  let c0_i32_2283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c12_i32_2246 : BitVec 32 := 12#32
  let v3794 : BitVec 32 := Scalar.addi v96 c12_i32_2246
  let c16_i32_2247 : BitVec 32 := 16#32
  let c0_i32_2248 : BitVec 32 := 0#32
  let v3795 : BitVec 1 := Scalar.cmpi .eq c16_i32_2247 c0_i32_2248
  let c1_i32_2249 : BitVec 32 := 1#32
  let v3796 : BitVec 32 := Scalar.select v3795 c1_i32_2249 c16_i32_2247
  let v3797 : BitVec 32 := Scalar.remsi v3794 v3796
  let c0_i32_2251 : BitVec 32 := 0#32
  let v3799 : BitVec 1 := Scalar.cmpi .slt v3797 c0_i32_2251
  let c0_i32_2252 : BitVec 32 := 0#32
  let v3800 : BitVec 1 := Scalar.cmpi .slt v3796 c0_i32_2252
  let v3801 : BitVec 1 := Scalar.xori v3799 v3800
  let c0_i32_2250 : BitVec 32 := 0#32
  let v3798 : BitVec 1 := Scalar.cmpi .ne v3797 c0_i32_2250
  let v3802 : BitVec 1 := Scalar.andi v3801 v3798
  let v3803 : BitVec 32 := Scalar.addi v3797 v3796
  let v3804 : BitVec 32 := Scalar.select v3802 v3803 v3797
  let c0_i32_2256 : BitVec 32 := 0#32
  let v3808 : BitVec 1 := Scalar.cmpi .sgt v3804 c0_i32_2256
  let v3809 : BitVec 32 := Scalar.extui v3808
  let c0_i32_2257 : BitVec 32 := 0#32
  let v3810 : BitVec 1 := Scalar.cmpi .slt v3804 c0_i32_2257
  let v3811 : BitVec 32 := Scalar.extui v3810
  let v3812 : BitVec 32 := Scalar.subi v3809 v3811
  let c4_i32_2255 : BitVec 32 := 4#32
  let c0_i32_2258 : BitVec 32 := 0#32
  let v3813 : BitVec 1 := Scalar.cmpi .sgt c4_i32_2255 c0_i32_2258
  let v3814 : BitVec 32 := Scalar.extui v3813
  let c0_i32_2259 : BitVec 32 := 0#32
  let v3815 : BitVec 1 := Scalar.cmpi .slt c4_i32_2255 c0_i32_2259
  let v3816 : BitVec 32 := Scalar.extui v3815
  let v3817 : BitVec 32 := Scalar.subi v3814 v3816
  let v3818 : BitVec 1 := Scalar.cmpi .ne v3812 v3817
  let v3819 : BitVec 32 := Scalar.remsi v3804 c4_i32_2255
  let c0_i32_2260 : BitVec 32 := 0#32
  let v3820 : BitVec 1 := Scalar.cmpi .ne v3819 c0_i32_2260
  let v3821 : BitVec 1 := Scalar.andi v3818 v3820
  let v3807 : BitVec 32 := Scalar.divsi v3804 c4_i32_2255
  let c1_i32_2261 : BitVec 32 := 1#32
  let v3822 : BitVec 32 := Scalar.subi v3807 c1_i32_2261
  let v3823 : BitVec 32 := Scalar.select v3821 v3822 v3807
  let c8_i32_2277 : BitVec 32 := 8#32
  let v3850 : BitVec 32 := Scalar.muli v3823 c8_i32_2277
  let c2_i32_2274 : BitVec 32 := 2#32
  let c4_i32_2262 : BitVec 32 := 4#32
  let c0_i32_2263 : BitVec 32 := 0#32
  let v3824 : BitVec 1 := Scalar.cmpi .eq c4_i32_2262 c0_i32_2263
  let c1_i32_2264 : BitVec 32 := 1#32
  let v3825 : BitVec 32 := Scalar.select v3824 c1_i32_2264 c4_i32_2262
  let v3826 : BitVec 32 := Scalar.remsi v3804 v3825
  let c0_i32_2266 : BitVec 32 := 0#32
  let v3828 : BitVec 1 := Scalar.cmpi .slt v3826 c0_i32_2266
  let c0_i32_2267 : BitVec 32 := 0#32
  let v3829 : BitVec 1 := Scalar.cmpi .slt v3825 c0_i32_2267
  let v3830 : BitVec 1 := Scalar.xori v3828 v3829
  let c0_i32_2265 : BitVec 32 := 0#32
  let v3827 : BitVec 1 := Scalar.cmpi .ne v3826 c0_i32_2265
  let v3831 : BitVec 1 := Scalar.andi v3830 v3827
  let v3832 : BitVec 32 := Scalar.addi v3826 v3825
  let v3833 : BitVec 32 := Scalar.select v3831 v3832 v3826
  let v3844 : BitVec 32 := Scalar.muli c2_i32_2274 v3833
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v3845 : BitVec 32 := Scalar.addi v3844 v94
  let c2_i32_2268 : BitVec 32 := 2#32
  let c0_i32_2269 : BitVec 32 := 0#32
  let v3834 : BitVec 1 := Scalar.cmpi .eq c2_i32_2268 c0_i32_2269
  let c1_i32_2270 : BitVec 32 := 1#32
  let v3835 : BitVec 32 := Scalar.select v3834 c1_i32_2270 c2_i32_2268
  let v3836 : BitVec 32 := Scalar.remsi v3833 v3835
  let c0_i32_2272 : BitVec 32 := 0#32
  let v3838 : BitVec 1 := Scalar.cmpi .slt v3836 c0_i32_2272
  let c0_i32_2273 : BitVec 32 := 0#32
  let v3839 : BitVec 1 := Scalar.cmpi .slt v3835 c0_i32_2273
  let v3840 : BitVec 1 := Scalar.xori v3838 v3839
  let c0_i32_2271 : BitVec 32 := 0#32
  let v3837 : BitVec 1 := Scalar.cmpi .ne v3836 c0_i32_2271
  let v3841 : BitVec 1 := Scalar.andi v3840 v3837
  let v3842 : BitVec 32 := Scalar.addi v3836 v3835
  let v3843 : BitVec 32 := Scalar.select v3841 v3842 v3836
  let c1_i32_2276 : BitVec 32 := 1#32
  let c2_i32_2275 : BitVec 32 := 2#32
  let v3846 : BitVec 32 := Scalar.muli c2_i32_2275 v94
  let v3847 : BitVec 32 := Scalar.subi c1_i32_2276 v3846
  let v3848 : BitVec 32 := Scalar.muli v3843 v3847
  let v3849 : BitVec 32 := Scalar.addi v3845 v3848
  let v3851 : BitVec 32 := Scalar.addi v3850 v3849
  let c1_i32_2282 : BitVec 32 := 1#32
  let v3852 : BitVec 32 := Scalar.muli v3851 c1_i32_2282
  let v3853 : BitVec 32 := Scalar.addi c0_i32_2283 v3852
  v3853.toNat
def k0_dev63 (d0 : Dev nD) : Nat :=
  let c0_i32_2323 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c13_i32_2286 : BitVec 32 := 13#32
  let v3860 : BitVec 32 := Scalar.addi v96 c13_i32_2286
  let c16_i32_2287 : BitVec 32 := 16#32
  let c0_i32_2288 : BitVec 32 := 0#32
  let v3861 : BitVec 1 := Scalar.cmpi .eq c16_i32_2287 c0_i32_2288
  let c1_i32_2289 : BitVec 32 := 1#32
  let v3862 : BitVec 32 := Scalar.select v3861 c1_i32_2289 c16_i32_2287
  let v3863 : BitVec 32 := Scalar.remsi v3860 v3862
  let c0_i32_2291 : BitVec 32 := 0#32
  let v3865 : BitVec 1 := Scalar.cmpi .slt v3863 c0_i32_2291
  let c0_i32_2292 : BitVec 32 := 0#32
  let v3866 : BitVec 1 := Scalar.cmpi .slt v3862 c0_i32_2292
  let v3867 : BitVec 1 := Scalar.xori v3865 v3866
  let c0_i32_2290 : BitVec 32 := 0#32
  let v3864 : BitVec 1 := Scalar.cmpi .ne v3863 c0_i32_2290
  let v3868 : BitVec 1 := Scalar.andi v3867 v3864
  let v3869 : BitVec 32 := Scalar.addi v3863 v3862
  let v3870 : BitVec 32 := Scalar.select v3868 v3869 v3863
  let c0_i32_2296 : BitVec 32 := 0#32
  let v3874 : BitVec 1 := Scalar.cmpi .sgt v3870 c0_i32_2296
  let v3875 : BitVec 32 := Scalar.extui v3874
  let c0_i32_2297 : BitVec 32 := 0#32
  let v3876 : BitVec 1 := Scalar.cmpi .slt v3870 c0_i32_2297
  let v3877 : BitVec 32 := Scalar.extui v3876
  let v3878 : BitVec 32 := Scalar.subi v3875 v3877
  let c4_i32_2295 : BitVec 32 := 4#32
  let c0_i32_2298 : BitVec 32 := 0#32
  let v3879 : BitVec 1 := Scalar.cmpi .sgt c4_i32_2295 c0_i32_2298
  let v3880 : BitVec 32 := Scalar.extui v3879
  let c0_i32_2299 : BitVec 32 := 0#32
  let v3881 : BitVec 1 := Scalar.cmpi .slt c4_i32_2295 c0_i32_2299
  let v3882 : BitVec 32 := Scalar.extui v3881
  let v3883 : BitVec 32 := Scalar.subi v3880 v3882
  let v3884 : BitVec 1 := Scalar.cmpi .ne v3878 v3883
  let v3885 : BitVec 32 := Scalar.remsi v3870 c4_i32_2295
  let c0_i32_2300 : BitVec 32 := 0#32
  let v3886 : BitVec 1 := Scalar.cmpi .ne v3885 c0_i32_2300
  let v3887 : BitVec 1 := Scalar.andi v3884 v3886
  let v3873 : BitVec 32 := Scalar.divsi v3870 c4_i32_2295
  let c1_i32_2301 : BitVec 32 := 1#32
  let v3888 : BitVec 32 := Scalar.subi v3873 c1_i32_2301
  let v3889 : BitVec 32 := Scalar.select v3887 v3888 v3873
  let c8_i32_2317 : BitVec 32 := 8#32
  let v3916 : BitVec 32 := Scalar.muli v3889 c8_i32_2317
  let c2_i32_2314 : BitVec 32 := 2#32
  let c4_i32_2302 : BitVec 32 := 4#32
  let c0_i32_2303 : BitVec 32 := 0#32
  let v3890 : BitVec 1 := Scalar.cmpi .eq c4_i32_2302 c0_i32_2303
  let c1_i32_2304 : BitVec 32 := 1#32
  let v3891 : BitVec 32 := Scalar.select v3890 c1_i32_2304 c4_i32_2302
  let v3892 : BitVec 32 := Scalar.remsi v3870 v3891
  let c0_i32_2306 : BitVec 32 := 0#32
  let v3894 : BitVec 1 := Scalar.cmpi .slt v3892 c0_i32_2306
  let c0_i32_2307 : BitVec 32 := 0#32
  let v3895 : BitVec 1 := Scalar.cmpi .slt v3891 c0_i32_2307
  let v3896 : BitVec 1 := Scalar.xori v3894 v3895
  let c0_i32_2305 : BitVec 32 := 0#32
  let v3893 : BitVec 1 := Scalar.cmpi .ne v3892 c0_i32_2305
  let v3897 : BitVec 1 := Scalar.andi v3896 v3893
  let v3898 : BitVec 32 := Scalar.addi v3892 v3891
  let v3899 : BitVec 32 := Scalar.select v3897 v3898 v3892
  let v3910 : BitVec 32 := Scalar.muli c2_i32_2314 v3899
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v3911 : BitVec 32 := Scalar.addi v3910 v94
  let c2_i32_2308 : BitVec 32 := 2#32
  let c0_i32_2309 : BitVec 32 := 0#32
  let v3900 : BitVec 1 := Scalar.cmpi .eq c2_i32_2308 c0_i32_2309
  let c1_i32_2310 : BitVec 32 := 1#32
  let v3901 : BitVec 32 := Scalar.select v3900 c1_i32_2310 c2_i32_2308
  let v3902 : BitVec 32 := Scalar.remsi v3899 v3901
  let c0_i32_2312 : BitVec 32 := 0#32
  let v3904 : BitVec 1 := Scalar.cmpi .slt v3902 c0_i32_2312
  let c0_i32_2313 : BitVec 32 := 0#32
  let v3905 : BitVec 1 := Scalar.cmpi .slt v3901 c0_i32_2313
  let v3906 : BitVec 1 := Scalar.xori v3904 v3905
  let c0_i32_2311 : BitVec 32 := 0#32
  let v3903 : BitVec 1 := Scalar.cmpi .ne v3902 c0_i32_2311
  let v3907 : BitVec 1 := Scalar.andi v3906 v3903
  let v3908 : BitVec 32 := Scalar.addi v3902 v3901
  let v3909 : BitVec 32 := Scalar.select v3907 v3908 v3902
  let c1_i32_2316 : BitVec 32 := 1#32
  let c2_i32_2315 : BitVec 32 := 2#32
  let v3912 : BitVec 32 := Scalar.muli c2_i32_2315 v94
  let v3913 : BitVec 32 := Scalar.subi c1_i32_2316 v3912
  let v3914 : BitVec 32 := Scalar.muli v3909 v3913
  let v3915 : BitVec 32 := Scalar.addi v3911 v3914
  let v3917 : BitVec 32 := Scalar.addi v3916 v3915
  let c1_i32_2322 : BitVec 32 := 1#32
  let v3918 : BitVec 32 := Scalar.muli v3917 c1_i32_2322
  let v3919 : BitVec 32 := Scalar.addi c0_i32_2323 v3918
  v3919.toNat
def k0_dev64 (d0 : Dev nD) : Nat :=
  let c0_i32_2363 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c14_i32_2326 : BitVec 32 := 14#32
  let v3926 : BitVec 32 := Scalar.addi v96 c14_i32_2326
  let c16_i32_2327 : BitVec 32 := 16#32
  let c0_i32_2328 : BitVec 32 := 0#32
  let v3927 : BitVec 1 := Scalar.cmpi .eq c16_i32_2327 c0_i32_2328
  let c1_i32_2329 : BitVec 32 := 1#32
  let v3928 : BitVec 32 := Scalar.select v3927 c1_i32_2329 c16_i32_2327
  let v3929 : BitVec 32 := Scalar.remsi v3926 v3928
  let c0_i32_2331 : BitVec 32 := 0#32
  let v3931 : BitVec 1 := Scalar.cmpi .slt v3929 c0_i32_2331
  let c0_i32_2332 : BitVec 32 := 0#32
  let v3932 : BitVec 1 := Scalar.cmpi .slt v3928 c0_i32_2332
  let v3933 : BitVec 1 := Scalar.xori v3931 v3932
  let c0_i32_2330 : BitVec 32 := 0#32
  let v3930 : BitVec 1 := Scalar.cmpi .ne v3929 c0_i32_2330
  let v3934 : BitVec 1 := Scalar.andi v3933 v3930
  let v3935 : BitVec 32 := Scalar.addi v3929 v3928
  let v3936 : BitVec 32 := Scalar.select v3934 v3935 v3929
  let c0_i32_2336 : BitVec 32 := 0#32
  let v3940 : BitVec 1 := Scalar.cmpi .sgt v3936 c0_i32_2336
  let v3941 : BitVec 32 := Scalar.extui v3940
  let c0_i32_2337 : BitVec 32 := 0#32
  let v3942 : BitVec 1 := Scalar.cmpi .slt v3936 c0_i32_2337
  let v3943 : BitVec 32 := Scalar.extui v3942
  let v3944 : BitVec 32 := Scalar.subi v3941 v3943
  let c4_i32_2335 : BitVec 32 := 4#32
  let c0_i32_2338 : BitVec 32 := 0#32
  let v3945 : BitVec 1 := Scalar.cmpi .sgt c4_i32_2335 c0_i32_2338
  let v3946 : BitVec 32 := Scalar.extui v3945
  let c0_i32_2339 : BitVec 32 := 0#32
  let v3947 : BitVec 1 := Scalar.cmpi .slt c4_i32_2335 c0_i32_2339
  let v3948 : BitVec 32 := Scalar.extui v3947
  let v3949 : BitVec 32 := Scalar.subi v3946 v3948
  let v3950 : BitVec 1 := Scalar.cmpi .ne v3944 v3949
  let v3951 : BitVec 32 := Scalar.remsi v3936 c4_i32_2335
  let c0_i32_2340 : BitVec 32 := 0#32
  let v3952 : BitVec 1 := Scalar.cmpi .ne v3951 c0_i32_2340
  let v3953 : BitVec 1 := Scalar.andi v3950 v3952
  let v3939 : BitVec 32 := Scalar.divsi v3936 c4_i32_2335
  let c1_i32_2341 : BitVec 32 := 1#32
  let v3954 : BitVec 32 := Scalar.subi v3939 c1_i32_2341
  let v3955 : BitVec 32 := Scalar.select v3953 v3954 v3939
  let c8_i32_2357 : BitVec 32 := 8#32
  let v3982 : BitVec 32 := Scalar.muli v3955 c8_i32_2357
  let c2_i32_2354 : BitVec 32 := 2#32
  let c4_i32_2342 : BitVec 32 := 4#32
  let c0_i32_2343 : BitVec 32 := 0#32
  let v3956 : BitVec 1 := Scalar.cmpi .eq c4_i32_2342 c0_i32_2343
  let c1_i32_2344 : BitVec 32 := 1#32
  let v3957 : BitVec 32 := Scalar.select v3956 c1_i32_2344 c4_i32_2342
  let v3958 : BitVec 32 := Scalar.remsi v3936 v3957
  let c0_i32_2346 : BitVec 32 := 0#32
  let v3960 : BitVec 1 := Scalar.cmpi .slt v3958 c0_i32_2346
  let c0_i32_2347 : BitVec 32 := 0#32
  let v3961 : BitVec 1 := Scalar.cmpi .slt v3957 c0_i32_2347
  let v3962 : BitVec 1 := Scalar.xori v3960 v3961
  let c0_i32_2345 : BitVec 32 := 0#32
  let v3959 : BitVec 1 := Scalar.cmpi .ne v3958 c0_i32_2345
  let v3963 : BitVec 1 := Scalar.andi v3962 v3959
  let v3964 : BitVec 32 := Scalar.addi v3958 v3957
  let v3965 : BitVec 32 := Scalar.select v3963 v3964 v3958
  let v3976 : BitVec 32 := Scalar.muli c2_i32_2354 v3965
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v3977 : BitVec 32 := Scalar.addi v3976 v94
  let c2_i32_2348 : BitVec 32 := 2#32
  let c0_i32_2349 : BitVec 32 := 0#32
  let v3966 : BitVec 1 := Scalar.cmpi .eq c2_i32_2348 c0_i32_2349
  let c1_i32_2350 : BitVec 32 := 1#32
  let v3967 : BitVec 32 := Scalar.select v3966 c1_i32_2350 c2_i32_2348
  let v3968 : BitVec 32 := Scalar.remsi v3965 v3967
  let c0_i32_2352 : BitVec 32 := 0#32
  let v3970 : BitVec 1 := Scalar.cmpi .slt v3968 c0_i32_2352
  let c0_i32_2353 : BitVec 32 := 0#32
  let v3971 : BitVec 1 := Scalar.cmpi .slt v3967 c0_i32_2353
  let v3972 : BitVec 1 := Scalar.xori v3970 v3971
  let c0_i32_2351 : BitVec 32 := 0#32
  let v3969 : BitVec 1 := Scalar.cmpi .ne v3968 c0_i32_2351
  let v3973 : BitVec 1 := Scalar.andi v3972 v3969
  let v3974 : BitVec 32 := Scalar.addi v3968 v3967
  let v3975 : BitVec 32 := Scalar.select v3973 v3974 v3968
  let c1_i32_2356 : BitVec 32 := 1#32
  let c2_i32_2355 : BitVec 32 := 2#32
  let v3978 : BitVec 32 := Scalar.muli c2_i32_2355 v94
  let v3979 : BitVec 32 := Scalar.subi c1_i32_2356 v3978
  let v3980 : BitVec 32 := Scalar.muli v3975 v3979
  let v3981 : BitVec 32 := Scalar.addi v3977 v3980
  let v3983 : BitVec 32 := Scalar.addi v3982 v3981
  let c1_i32_2362 : BitVec 32 := 1#32
  let v3984 : BitVec 32 := Scalar.muli v3983 c1_i32_2362
  let v3985 : BitVec 32 := Scalar.addi c0_i32_2363 v3984
  v3985.toNat
def k0_dev65 (d0 : Dev nD) : Nat :=
  let c0_i32_2403 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c15_i32_2366 : BitVec 32 := 15#32
  let v3992 : BitVec 32 := Scalar.addi v96 c15_i32_2366
  let c16_i32_2367 : BitVec 32 := 16#32
  let c0_i32_2368 : BitVec 32 := 0#32
  let v3993 : BitVec 1 := Scalar.cmpi .eq c16_i32_2367 c0_i32_2368
  let c1_i32_2369 : BitVec 32 := 1#32
  let v3994 : BitVec 32 := Scalar.select v3993 c1_i32_2369 c16_i32_2367
  let v3995 : BitVec 32 := Scalar.remsi v3992 v3994
  let c0_i32_2371 : BitVec 32 := 0#32
  let v3997 : BitVec 1 := Scalar.cmpi .slt v3995 c0_i32_2371
  let c0_i32_2372 : BitVec 32 := 0#32
  let v3998 : BitVec 1 := Scalar.cmpi .slt v3994 c0_i32_2372
  let v3999 : BitVec 1 := Scalar.xori v3997 v3998
  let c0_i32_2370 : BitVec 32 := 0#32
  let v3996 : BitVec 1 := Scalar.cmpi .ne v3995 c0_i32_2370
  let v4000 : BitVec 1 := Scalar.andi v3999 v3996
  let v4001 : BitVec 32 := Scalar.addi v3995 v3994
  let v4002 : BitVec 32 := Scalar.select v4000 v4001 v3995
  let c0_i32_2376 : BitVec 32 := 0#32
  let v4006 : BitVec 1 := Scalar.cmpi .sgt v4002 c0_i32_2376
  let v4007 : BitVec 32 := Scalar.extui v4006
  let c0_i32_2377 : BitVec 32 := 0#32
  let v4008 : BitVec 1 := Scalar.cmpi .slt v4002 c0_i32_2377
  let v4009 : BitVec 32 := Scalar.extui v4008
  let v4010 : BitVec 32 := Scalar.subi v4007 v4009
  let c4_i32_2375 : BitVec 32 := 4#32
  let c0_i32_2378 : BitVec 32 := 0#32
  let v4011 : BitVec 1 := Scalar.cmpi .sgt c4_i32_2375 c0_i32_2378
  let v4012 : BitVec 32 := Scalar.extui v4011
  let c0_i32_2379 : BitVec 32 := 0#32
  let v4013 : BitVec 1 := Scalar.cmpi .slt c4_i32_2375 c0_i32_2379
  let v4014 : BitVec 32 := Scalar.extui v4013
  let v4015 : BitVec 32 := Scalar.subi v4012 v4014
  let v4016 : BitVec 1 := Scalar.cmpi .ne v4010 v4015
  let v4017 : BitVec 32 := Scalar.remsi v4002 c4_i32_2375
  let c0_i32_2380 : BitVec 32 := 0#32
  let v4018 : BitVec 1 := Scalar.cmpi .ne v4017 c0_i32_2380
  let v4019 : BitVec 1 := Scalar.andi v4016 v4018
  let v4005 : BitVec 32 := Scalar.divsi v4002 c4_i32_2375
  let c1_i32_2381 : BitVec 32 := 1#32
  let v4020 : BitVec 32 := Scalar.subi v4005 c1_i32_2381
  let v4021 : BitVec 32 := Scalar.select v4019 v4020 v4005
  let c8_i32_2397 : BitVec 32 := 8#32
  let v4048 : BitVec 32 := Scalar.muli v4021 c8_i32_2397
  let c2_i32_2394 : BitVec 32 := 2#32
  let c4_i32_2382 : BitVec 32 := 4#32
  let c0_i32_2383 : BitVec 32 := 0#32
  let v4022 : BitVec 1 := Scalar.cmpi .eq c4_i32_2382 c0_i32_2383
  let c1_i32_2384 : BitVec 32 := 1#32
  let v4023 : BitVec 32 := Scalar.select v4022 c1_i32_2384 c4_i32_2382
  let v4024 : BitVec 32 := Scalar.remsi v4002 v4023
  let c0_i32_2386 : BitVec 32 := 0#32
  let v4026 : BitVec 1 := Scalar.cmpi .slt v4024 c0_i32_2386
  let c0_i32_2387 : BitVec 32 := 0#32
  let v4027 : BitVec 1 := Scalar.cmpi .slt v4023 c0_i32_2387
  let v4028 : BitVec 1 := Scalar.xori v4026 v4027
  let c0_i32_2385 : BitVec 32 := 0#32
  let v4025 : BitVec 1 := Scalar.cmpi .ne v4024 c0_i32_2385
  let v4029 : BitVec 1 := Scalar.andi v4028 v4025
  let v4030 : BitVec 32 := Scalar.addi v4024 v4023
  let v4031 : BitVec 32 := Scalar.select v4029 v4030 v4024
  let v4042 : BitVec 32 := Scalar.muli c2_i32_2394 v4031
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v4043 : BitVec 32 := Scalar.addi v4042 v94
  let c2_i32_2388 : BitVec 32 := 2#32
  let c0_i32_2389 : BitVec 32 := 0#32
  let v4032 : BitVec 1 := Scalar.cmpi .eq c2_i32_2388 c0_i32_2389
  let c1_i32_2390 : BitVec 32 := 1#32
  let v4033 : BitVec 32 := Scalar.select v4032 c1_i32_2390 c2_i32_2388
  let v4034 : BitVec 32 := Scalar.remsi v4031 v4033
  let c0_i32_2392 : BitVec 32 := 0#32
  let v4036 : BitVec 1 := Scalar.cmpi .slt v4034 c0_i32_2392
  let c0_i32_2393 : BitVec 32 := 0#32
  let v4037 : BitVec 1 := Scalar.cmpi .slt v4033 c0_i32_2393
  let v4038 : BitVec 1 := Scalar.xori v4036 v4037
  let c0_i32_2391 : BitVec 32 := 0#32
  let v4035 : BitVec 1 := Scalar.cmpi .ne v4034 c0_i32_2391
  let v4039 : BitVec 1 := Scalar.andi v4038 v4035
  let v4040 : BitVec 32 := Scalar.addi v4034 v4033
  let v4041 : BitVec 32 := Scalar.select v4039 v4040 v4034
  let c1_i32_2396 : BitVec 32 := 1#32
  let c2_i32_2395 : BitVec 32 := 2#32
  let v4044 : BitVec 32 := Scalar.muli c2_i32_2395 v94
  let v4045 : BitVec 32 := Scalar.subi c1_i32_2396 v4044
  let v4046 : BitVec 32 := Scalar.muli v4041 v4045
  let v4047 : BitVec 32 := Scalar.addi v4043 v4046
  let v4049 : BitVec 32 := Scalar.addi v4048 v4047
  let c1_i32_2402 : BitVec 32 := 1#32
  let v4050 : BitVec 32 := Scalar.muli v4049 c1_i32_2402
  let v4051 : BitVec 32 := Scalar.addi c0_i32_2403 v4050
  v4051.toNat
def k0_off18 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let c512_i32 : BitVec 32 := 512#32
  let v97 : BitVec 32 := Scalar.muli v94 c512_i32
  let v4064 : Index := Scalar.indexCast v97
  let c768 : Index := 768#32
  ![v4064.toNat, 768]
def k0_off19 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c32_i32_2425 : BitVec 32 := 32#32
  let v4086 : BitVec 32 := Scalar.muli v96 c32_i32_2425
  let c768_i32_2455 : BitVec 32 := 768#32
  ![v4086.toNat, 768]
def k0_off20 (d0 : Dev nD) (c1_i32_2417 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let v4074 : BitVec 32 := Scalar.addi v96 c1_i32_2417
  let c16_i32_2418 : BitVec 32 := 16#32
  let c0_i32_2419 : BitVec 32 := 0#32
  let v4075 : BitVec 1 := Scalar.cmpi .eq c16_i32_2418 c0_i32_2419
  let c1_i32_2420 : BitVec 32 := 1#32
  let v4076 : BitVec 32 := Scalar.select v4075 c1_i32_2420 c16_i32_2418
  let v4077 : BitVec 32 := Scalar.remsi v4074 v4076
  let c0_i32_2422 : BitVec 32 := 0#32
  let v4079 : BitVec 1 := Scalar.cmpi .slt v4077 c0_i32_2422
  let c0_i32_2423 : BitVec 32 := 0#32
  let v4080 : BitVec 1 := Scalar.cmpi .slt v4076 c0_i32_2423
  let v4081 : BitVec 1 := Scalar.xori v4079 v4080
  let c0_i32_2421 : BitVec 32 := 0#32
  let v4078 : BitVec 1 := Scalar.cmpi .ne v4077 c0_i32_2421
  let v4082 : BitVec 1 := Scalar.andi v4081 v4078
  let v4083 : BitVec 32 := Scalar.addi v4077 v4076
  let v4084 : BitVec 32 := Scalar.select v4082 v4083 v4077
  let c32_i32_2424 : BitVec 32 := 32#32
  let v4085 : BitVec 32 := Scalar.muli v4084 c32_i32_2424
  let c768_i32_2456 : BitVec 32 := 768#32
  ![v4085.toNat, 768]
def k0_dev66 (d0 : Dev nD) : Nat :=
  let c0_i32_2454 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c1_i32_2417 : BitVec 32 := 1#32
  let v4074 : BitVec 32 := Scalar.addi v96 c1_i32_2417
  let c16_i32_2418 : BitVec 32 := 16#32
  let c0_i32_2419 : BitVec 32 := 0#32
  let v4075 : BitVec 1 := Scalar.cmpi .eq c16_i32_2418 c0_i32_2419
  let c1_i32_2420 : BitVec 32 := 1#32
  let v4076 : BitVec 32 := Scalar.select v4075 c1_i32_2420 c16_i32_2418
  let v4077 : BitVec 32 := Scalar.remsi v4074 v4076
  let c0_i32_2422 : BitVec 32 := 0#32
  let v4079 : BitVec 1 := Scalar.cmpi .slt v4077 c0_i32_2422
  let c0_i32_2423 : BitVec 32 := 0#32
  let v4080 : BitVec 1 := Scalar.cmpi .slt v4076 c0_i32_2423
  let v4081 : BitVec 1 := Scalar.xori v4079 v4080
  let c0_i32_2421 : BitVec 32 := 0#32
  let v4078 : BitVec 1 := Scalar.cmpi .ne v4077 c0_i32_2421
  let v4082 : BitVec 1 := Scalar.andi v4081 v4078
  let v4083 : BitVec 32 := Scalar.addi v4077 v4076
  let v4084 : BitVec 32 := Scalar.select v4082 v4083 v4077
  let c0_i32_2427 : BitVec 32 := 0#32
  let v4088 : BitVec 1 := Scalar.cmpi .sgt v4084 c0_i32_2427
  let v4089 : BitVec 32 := Scalar.extui v4088
  let c0_i32_2428 : BitVec 32 := 0#32
  let v4090 : BitVec 1 := Scalar.cmpi .slt v4084 c0_i32_2428
  let v4091 : BitVec 32 := Scalar.extui v4090
  let v4092 : BitVec 32 := Scalar.subi v4089 v4091
  let c4_i32_2426 : BitVec 32 := 4#32
  let c0_i32_2429 : BitVec 32 := 0#32
  let v4093 : BitVec 1 := Scalar.cmpi .sgt c4_i32_2426 c0_i32_2429
  let v4094 : BitVec 32 := Scalar.extui v4093
  let c0_i32_2430 : BitVec 32 := 0#32
  let v4095 : BitVec 1 := Scalar.cmpi .slt c4_i32_2426 c0_i32_2430
  let v4096 : BitVec 32 := Scalar.extui v4095
  let v4097 : BitVec 32 := Scalar.subi v4094 v4096
  let v4098 : BitVec 1 := Scalar.cmpi .ne v4092 v4097
  let v4099 : BitVec 32 := Scalar.remsi v4084 c4_i32_2426
  let c0_i32_2431 : BitVec 32 := 0#32
  let v4100 : BitVec 1 := Scalar.cmpi .ne v4099 c0_i32_2431
  let v4101 : BitVec 1 := Scalar.andi v4098 v4100
  let v4087 : BitVec 32 := Scalar.divsi v4084 c4_i32_2426
  let c1_i32_2432 : BitVec 32 := 1#32
  let v4102 : BitVec 32 := Scalar.subi v4087 c1_i32_2432
  let v4103 : BitVec 32 := Scalar.select v4101 v4102 v4087
  let c8_i32_2448 : BitVec 32 := 8#32
  let v4130 : BitVec 32 := Scalar.muli v4103 c8_i32_2448
  let c2_i32_2445 : BitVec 32 := 2#32
  let c4_i32_2433 : BitVec 32 := 4#32
  let c0_i32_2434 : BitVec 32 := 0#32
  let v4104 : BitVec 1 := Scalar.cmpi .eq c4_i32_2433 c0_i32_2434
  let c1_i32_2435 : BitVec 32 := 1#32
  let v4105 : BitVec 32 := Scalar.select v4104 c1_i32_2435 c4_i32_2433
  let v4106 : BitVec 32 := Scalar.remsi v4084 v4105
  let c0_i32_2437 : BitVec 32 := 0#32
  let v4108 : BitVec 1 := Scalar.cmpi .slt v4106 c0_i32_2437
  let c0_i32_2438 : BitVec 32 := 0#32
  let v4109 : BitVec 1 := Scalar.cmpi .slt v4105 c0_i32_2438
  let v4110 : BitVec 1 := Scalar.xori v4108 v4109
  let c0_i32_2436 : BitVec 32 := 0#32
  let v4107 : BitVec 1 := Scalar.cmpi .ne v4106 c0_i32_2436
  let v4111 : BitVec 1 := Scalar.andi v4110 v4107
  let v4112 : BitVec 32 := Scalar.addi v4106 v4105
  let v4113 : BitVec 32 := Scalar.select v4111 v4112 v4106
  let v4124 : BitVec 32 := Scalar.muli c2_i32_2445 v4113
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v4125 : BitVec 32 := Scalar.addi v4124 v94
  let c2_i32_2439 : BitVec 32 := 2#32
  let c0_i32_2440 : BitVec 32 := 0#32
  let v4114 : BitVec 1 := Scalar.cmpi .eq c2_i32_2439 c0_i32_2440
  let c1_i32_2441 : BitVec 32 := 1#32
  let v4115 : BitVec 32 := Scalar.select v4114 c1_i32_2441 c2_i32_2439
  let v4116 : BitVec 32 := Scalar.remsi v4113 v4115
  let c0_i32_2443 : BitVec 32 := 0#32
  let v4118 : BitVec 1 := Scalar.cmpi .slt v4116 c0_i32_2443
  let c0_i32_2444 : BitVec 32 := 0#32
  let v4119 : BitVec 1 := Scalar.cmpi .slt v4115 c0_i32_2444
  let v4120 : BitVec 1 := Scalar.xori v4118 v4119
  let c0_i32_2442 : BitVec 32 := 0#32
  let v4117 : BitVec 1 := Scalar.cmpi .ne v4116 c0_i32_2442
  let v4121 : BitVec 1 := Scalar.andi v4120 v4117
  let v4122 : BitVec 32 := Scalar.addi v4116 v4115
  let v4123 : BitVec 32 := Scalar.select v4121 v4122 v4116
  let c1_i32_2447 : BitVec 32 := 1#32
  let c2_i32_2446 : BitVec 32 := 2#32
  let v4126 : BitVec 32 := Scalar.muli c2_i32_2446 v94
  let v4127 : BitVec 32 := Scalar.subi c1_i32_2447 v4126
  let v4128 : BitVec 32 := Scalar.muli v4123 v4127
  let v4129 : BitVec 32 := Scalar.addi v4125 v4128
  let v4131 : BitVec 32 := Scalar.addi v4130 v4129
  let c1_i32_2453 : BitVec 32 := 1#32
  let v4132 : BitVec 32 := Scalar.muli v4131 c1_i32_2453
  let v4133 : BitVec 32 := Scalar.addi c0_i32_2454 v4132
  v4133.toNat
def k0_dev67 (d0 : Dev nD) : Nat :=
  let c0_i32_2494 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c2_i32_2457 : BitVec 32 := 2#32
  let v4140 : BitVec 32 := Scalar.addi v96 c2_i32_2457
  let c16_i32_2458 : BitVec 32 := 16#32
  let c0_i32_2459 : BitVec 32 := 0#32
  let v4141 : BitVec 1 := Scalar.cmpi .eq c16_i32_2458 c0_i32_2459
  let c1_i32_2460 : BitVec 32 := 1#32
  let v4142 : BitVec 32 := Scalar.select v4141 c1_i32_2460 c16_i32_2458
  let v4143 : BitVec 32 := Scalar.remsi v4140 v4142
  let c0_i32_2462 : BitVec 32 := 0#32
  let v4145 : BitVec 1 := Scalar.cmpi .slt v4143 c0_i32_2462
  let c0_i32_2463 : BitVec 32 := 0#32
  let v4146 : BitVec 1 := Scalar.cmpi .slt v4142 c0_i32_2463
  let v4147 : BitVec 1 := Scalar.xori v4145 v4146
  let c0_i32_2461 : BitVec 32 := 0#32
  let v4144 : BitVec 1 := Scalar.cmpi .ne v4143 c0_i32_2461
  let v4148 : BitVec 1 := Scalar.andi v4147 v4144
  let v4149 : BitVec 32 := Scalar.addi v4143 v4142
  let v4150 : BitVec 32 := Scalar.select v4148 v4149 v4143
  let c0_i32_2467 : BitVec 32 := 0#32
  let v4154 : BitVec 1 := Scalar.cmpi .sgt v4150 c0_i32_2467
  let v4155 : BitVec 32 := Scalar.extui v4154
  let c0_i32_2468 : BitVec 32 := 0#32
  let v4156 : BitVec 1 := Scalar.cmpi .slt v4150 c0_i32_2468
  let v4157 : BitVec 32 := Scalar.extui v4156
  let v4158 : BitVec 32 := Scalar.subi v4155 v4157
  let c4_i32_2466 : BitVec 32 := 4#32
  let c0_i32_2469 : BitVec 32 := 0#32
  let v4159 : BitVec 1 := Scalar.cmpi .sgt c4_i32_2466 c0_i32_2469
  let v4160 : BitVec 32 := Scalar.extui v4159
  let c0_i32_2470 : BitVec 32 := 0#32
  let v4161 : BitVec 1 := Scalar.cmpi .slt c4_i32_2466 c0_i32_2470
  let v4162 : BitVec 32 := Scalar.extui v4161
  let v4163 : BitVec 32 := Scalar.subi v4160 v4162
  let v4164 : BitVec 1 := Scalar.cmpi .ne v4158 v4163
  let v4165 : BitVec 32 := Scalar.remsi v4150 c4_i32_2466
  let c0_i32_2471 : BitVec 32 := 0#32
  let v4166 : BitVec 1 := Scalar.cmpi .ne v4165 c0_i32_2471
  let v4167 : BitVec 1 := Scalar.andi v4164 v4166
  let v4153 : BitVec 32 := Scalar.divsi v4150 c4_i32_2466
  let c1_i32_2472 : BitVec 32 := 1#32
  let v4168 : BitVec 32 := Scalar.subi v4153 c1_i32_2472
  let v4169 : BitVec 32 := Scalar.select v4167 v4168 v4153
  let c8_i32_2488 : BitVec 32 := 8#32
  let v4196 : BitVec 32 := Scalar.muli v4169 c8_i32_2488
  let c2_i32_2485 : BitVec 32 := 2#32
  let c4_i32_2473 : BitVec 32 := 4#32
  let c0_i32_2474 : BitVec 32 := 0#32
  let v4170 : BitVec 1 := Scalar.cmpi .eq c4_i32_2473 c0_i32_2474
  let c1_i32_2475 : BitVec 32 := 1#32
  let v4171 : BitVec 32 := Scalar.select v4170 c1_i32_2475 c4_i32_2473
  let v4172 : BitVec 32 := Scalar.remsi v4150 v4171
  let c0_i32_2477 : BitVec 32 := 0#32
  let v4174 : BitVec 1 := Scalar.cmpi .slt v4172 c0_i32_2477
  let c0_i32_2478 : BitVec 32 := 0#32
  let v4175 : BitVec 1 := Scalar.cmpi .slt v4171 c0_i32_2478
  let v4176 : BitVec 1 := Scalar.xori v4174 v4175
  let c0_i32_2476 : BitVec 32 := 0#32
  let v4173 : BitVec 1 := Scalar.cmpi .ne v4172 c0_i32_2476
  let v4177 : BitVec 1 := Scalar.andi v4176 v4173
  let v4178 : BitVec 32 := Scalar.addi v4172 v4171
  let v4179 : BitVec 32 := Scalar.select v4177 v4178 v4172
  let v4190 : BitVec 32 := Scalar.muli c2_i32_2485 v4179
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v4191 : BitVec 32 := Scalar.addi v4190 v94
  let c2_i32_2479 : BitVec 32 := 2#32
  let c0_i32_2480 : BitVec 32 := 0#32
  let v4180 : BitVec 1 := Scalar.cmpi .eq c2_i32_2479 c0_i32_2480
  let c1_i32_2481 : BitVec 32 := 1#32
  let v4181 : BitVec 32 := Scalar.select v4180 c1_i32_2481 c2_i32_2479
  let v4182 : BitVec 32 := Scalar.remsi v4179 v4181
  let c0_i32_2483 : BitVec 32 := 0#32
  let v4184 : BitVec 1 := Scalar.cmpi .slt v4182 c0_i32_2483
  let c0_i32_2484 : BitVec 32 := 0#32
  let v4185 : BitVec 1 := Scalar.cmpi .slt v4181 c0_i32_2484
  let v4186 : BitVec 1 := Scalar.xori v4184 v4185
  let c0_i32_2482 : BitVec 32 := 0#32
  let v4183 : BitVec 1 := Scalar.cmpi .ne v4182 c0_i32_2482
  let v4187 : BitVec 1 := Scalar.andi v4186 v4183
  let v4188 : BitVec 32 := Scalar.addi v4182 v4181
  let v4189 : BitVec 32 := Scalar.select v4187 v4188 v4182
  let c1_i32_2487 : BitVec 32 := 1#32
  let c2_i32_2486 : BitVec 32 := 2#32
  let v4192 : BitVec 32 := Scalar.muli c2_i32_2486 v94
  let v4193 : BitVec 32 := Scalar.subi c1_i32_2487 v4192
  let v4194 : BitVec 32 := Scalar.muli v4189 v4193
  let v4195 : BitVec 32 := Scalar.addi v4191 v4194
  let v4197 : BitVec 32 := Scalar.addi v4196 v4195
  let c1_i32_2493 : BitVec 32 := 1#32
  let v4198 : BitVec 32 := Scalar.muli v4197 c1_i32_2493
  let v4199 : BitVec 32 := Scalar.addi c0_i32_2494 v4198
  v4199.toNat
def k0_dev68 (d0 : Dev nD) : Nat :=
  let c0_i32_2534 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c3_i32_2497 : BitVec 32 := 3#32
  let v4206 : BitVec 32 := Scalar.addi v96 c3_i32_2497
  let c16_i32_2498 : BitVec 32 := 16#32
  let c0_i32_2499 : BitVec 32 := 0#32
  let v4207 : BitVec 1 := Scalar.cmpi .eq c16_i32_2498 c0_i32_2499
  let c1_i32_2500 : BitVec 32 := 1#32
  let v4208 : BitVec 32 := Scalar.select v4207 c1_i32_2500 c16_i32_2498
  let v4209 : BitVec 32 := Scalar.remsi v4206 v4208
  let c0_i32_2502 : BitVec 32 := 0#32
  let v4211 : BitVec 1 := Scalar.cmpi .slt v4209 c0_i32_2502
  let c0_i32_2503 : BitVec 32 := 0#32
  let v4212 : BitVec 1 := Scalar.cmpi .slt v4208 c0_i32_2503
  let v4213 : BitVec 1 := Scalar.xori v4211 v4212
  let c0_i32_2501 : BitVec 32 := 0#32
  let v4210 : BitVec 1 := Scalar.cmpi .ne v4209 c0_i32_2501
  let v4214 : BitVec 1 := Scalar.andi v4213 v4210
  let v4215 : BitVec 32 := Scalar.addi v4209 v4208
  let v4216 : BitVec 32 := Scalar.select v4214 v4215 v4209
  let c0_i32_2507 : BitVec 32 := 0#32
  let v4220 : BitVec 1 := Scalar.cmpi .sgt v4216 c0_i32_2507
  let v4221 : BitVec 32 := Scalar.extui v4220
  let c0_i32_2508 : BitVec 32 := 0#32
  let v4222 : BitVec 1 := Scalar.cmpi .slt v4216 c0_i32_2508
  let v4223 : BitVec 32 := Scalar.extui v4222
  let v4224 : BitVec 32 := Scalar.subi v4221 v4223
  let c4_i32_2506 : BitVec 32 := 4#32
  let c0_i32_2509 : BitVec 32 := 0#32
  let v4225 : BitVec 1 := Scalar.cmpi .sgt c4_i32_2506 c0_i32_2509
  let v4226 : BitVec 32 := Scalar.extui v4225
  let c0_i32_2510 : BitVec 32 := 0#32
  let v4227 : BitVec 1 := Scalar.cmpi .slt c4_i32_2506 c0_i32_2510
  let v4228 : BitVec 32 := Scalar.extui v4227
  let v4229 : BitVec 32 := Scalar.subi v4226 v4228
  let v4230 : BitVec 1 := Scalar.cmpi .ne v4224 v4229
  let v4231 : BitVec 32 := Scalar.remsi v4216 c4_i32_2506
  let c0_i32_2511 : BitVec 32 := 0#32
  let v4232 : BitVec 1 := Scalar.cmpi .ne v4231 c0_i32_2511
  let v4233 : BitVec 1 := Scalar.andi v4230 v4232
  let v4219 : BitVec 32 := Scalar.divsi v4216 c4_i32_2506
  let c1_i32_2512 : BitVec 32 := 1#32
  let v4234 : BitVec 32 := Scalar.subi v4219 c1_i32_2512
  let v4235 : BitVec 32 := Scalar.select v4233 v4234 v4219
  let c8_i32_2528 : BitVec 32 := 8#32
  let v4262 : BitVec 32 := Scalar.muli v4235 c8_i32_2528
  let c2_i32_2525 : BitVec 32 := 2#32
  let c4_i32_2513 : BitVec 32 := 4#32
  let c0_i32_2514 : BitVec 32 := 0#32
  let v4236 : BitVec 1 := Scalar.cmpi .eq c4_i32_2513 c0_i32_2514
  let c1_i32_2515 : BitVec 32 := 1#32
  let v4237 : BitVec 32 := Scalar.select v4236 c1_i32_2515 c4_i32_2513
  let v4238 : BitVec 32 := Scalar.remsi v4216 v4237
  let c0_i32_2517 : BitVec 32 := 0#32
  let v4240 : BitVec 1 := Scalar.cmpi .slt v4238 c0_i32_2517
  let c0_i32_2518 : BitVec 32 := 0#32
  let v4241 : BitVec 1 := Scalar.cmpi .slt v4237 c0_i32_2518
  let v4242 : BitVec 1 := Scalar.xori v4240 v4241
  let c0_i32_2516 : BitVec 32 := 0#32
  let v4239 : BitVec 1 := Scalar.cmpi .ne v4238 c0_i32_2516
  let v4243 : BitVec 1 := Scalar.andi v4242 v4239
  let v4244 : BitVec 32 := Scalar.addi v4238 v4237
  let v4245 : BitVec 32 := Scalar.select v4243 v4244 v4238
  let v4256 : BitVec 32 := Scalar.muli c2_i32_2525 v4245
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v4257 : BitVec 32 := Scalar.addi v4256 v94
  let c2_i32_2519 : BitVec 32 := 2#32
  let c0_i32_2520 : BitVec 32 := 0#32
  let v4246 : BitVec 1 := Scalar.cmpi .eq c2_i32_2519 c0_i32_2520
  let c1_i32_2521 : BitVec 32 := 1#32
  let v4247 : BitVec 32 := Scalar.select v4246 c1_i32_2521 c2_i32_2519
  let v4248 : BitVec 32 := Scalar.remsi v4245 v4247
  let c0_i32_2523 : BitVec 32 := 0#32
  let v4250 : BitVec 1 := Scalar.cmpi .slt v4248 c0_i32_2523
  let c0_i32_2524 : BitVec 32 := 0#32
  let v4251 : BitVec 1 := Scalar.cmpi .slt v4247 c0_i32_2524
  let v4252 : BitVec 1 := Scalar.xori v4250 v4251
  let c0_i32_2522 : BitVec 32 := 0#32
  let v4249 : BitVec 1 := Scalar.cmpi .ne v4248 c0_i32_2522
  let v4253 : BitVec 1 := Scalar.andi v4252 v4249
  let v4254 : BitVec 32 := Scalar.addi v4248 v4247
  let v4255 : BitVec 32 := Scalar.select v4253 v4254 v4248
  let c1_i32_2527 : BitVec 32 := 1#32
  let c2_i32_2526 : BitVec 32 := 2#32
  let v4258 : BitVec 32 := Scalar.muli c2_i32_2526 v94
  let v4259 : BitVec 32 := Scalar.subi c1_i32_2527 v4258
  let v4260 : BitVec 32 := Scalar.muli v4255 v4259
  let v4261 : BitVec 32 := Scalar.addi v4257 v4260
  let v4263 : BitVec 32 := Scalar.addi v4262 v4261
  let c1_i32_2533 : BitVec 32 := 1#32
  let v4264 : BitVec 32 := Scalar.muli v4263 c1_i32_2533
  let v4265 : BitVec 32 := Scalar.addi c0_i32_2534 v4264
  v4265.toNat
def k0_dev69 (d0 : Dev nD) : Nat :=
  let c0_i32_2574 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c4_i32_2537 : BitVec 32 := 4#32
  let v4272 : BitVec 32 := Scalar.addi v96 c4_i32_2537
  let c16_i32_2538 : BitVec 32 := 16#32
  let c0_i32_2539 : BitVec 32 := 0#32
  let v4273 : BitVec 1 := Scalar.cmpi .eq c16_i32_2538 c0_i32_2539
  let c1_i32_2540 : BitVec 32 := 1#32
  let v4274 : BitVec 32 := Scalar.select v4273 c1_i32_2540 c16_i32_2538
  let v4275 : BitVec 32 := Scalar.remsi v4272 v4274
  let c0_i32_2542 : BitVec 32 := 0#32
  let v4277 : BitVec 1 := Scalar.cmpi .slt v4275 c0_i32_2542
  let c0_i32_2543 : BitVec 32 := 0#32
  let v4278 : BitVec 1 := Scalar.cmpi .slt v4274 c0_i32_2543
  let v4279 : BitVec 1 := Scalar.xori v4277 v4278
  let c0_i32_2541 : BitVec 32 := 0#32
  let v4276 : BitVec 1 := Scalar.cmpi .ne v4275 c0_i32_2541
  let v4280 : BitVec 1 := Scalar.andi v4279 v4276
  let v4281 : BitVec 32 := Scalar.addi v4275 v4274
  let v4282 : BitVec 32 := Scalar.select v4280 v4281 v4275
  let c0_i32_2547 : BitVec 32 := 0#32
  let v4286 : BitVec 1 := Scalar.cmpi .sgt v4282 c0_i32_2547
  let v4287 : BitVec 32 := Scalar.extui v4286
  let c0_i32_2548 : BitVec 32 := 0#32
  let v4288 : BitVec 1 := Scalar.cmpi .slt v4282 c0_i32_2548
  let v4289 : BitVec 32 := Scalar.extui v4288
  let v4290 : BitVec 32 := Scalar.subi v4287 v4289
  let c4_i32_2546 : BitVec 32 := 4#32
  let c0_i32_2549 : BitVec 32 := 0#32
  let v4291 : BitVec 1 := Scalar.cmpi .sgt c4_i32_2546 c0_i32_2549
  let v4292 : BitVec 32 := Scalar.extui v4291
  let c0_i32_2550 : BitVec 32 := 0#32
  let v4293 : BitVec 1 := Scalar.cmpi .slt c4_i32_2546 c0_i32_2550
  let v4294 : BitVec 32 := Scalar.extui v4293
  let v4295 : BitVec 32 := Scalar.subi v4292 v4294
  let v4296 : BitVec 1 := Scalar.cmpi .ne v4290 v4295
  let v4297 : BitVec 32 := Scalar.remsi v4282 c4_i32_2546
  let c0_i32_2551 : BitVec 32 := 0#32
  let v4298 : BitVec 1 := Scalar.cmpi .ne v4297 c0_i32_2551
  let v4299 : BitVec 1 := Scalar.andi v4296 v4298
  let v4285 : BitVec 32 := Scalar.divsi v4282 c4_i32_2546
  let c1_i32_2552 : BitVec 32 := 1#32
  let v4300 : BitVec 32 := Scalar.subi v4285 c1_i32_2552
  let v4301 : BitVec 32 := Scalar.select v4299 v4300 v4285
  let c8_i32_2568 : BitVec 32 := 8#32
  let v4328 : BitVec 32 := Scalar.muli v4301 c8_i32_2568
  let c2_i32_2565 : BitVec 32 := 2#32
  let c4_i32_2553 : BitVec 32 := 4#32
  let c0_i32_2554 : BitVec 32 := 0#32
  let v4302 : BitVec 1 := Scalar.cmpi .eq c4_i32_2553 c0_i32_2554
  let c1_i32_2555 : BitVec 32 := 1#32
  let v4303 : BitVec 32 := Scalar.select v4302 c1_i32_2555 c4_i32_2553
  let v4304 : BitVec 32 := Scalar.remsi v4282 v4303
  let c0_i32_2557 : BitVec 32 := 0#32
  let v4306 : BitVec 1 := Scalar.cmpi .slt v4304 c0_i32_2557
  let c0_i32_2558 : BitVec 32 := 0#32
  let v4307 : BitVec 1 := Scalar.cmpi .slt v4303 c0_i32_2558
  let v4308 : BitVec 1 := Scalar.xori v4306 v4307
  let c0_i32_2556 : BitVec 32 := 0#32
  let v4305 : BitVec 1 := Scalar.cmpi .ne v4304 c0_i32_2556
  let v4309 : BitVec 1 := Scalar.andi v4308 v4305
  let v4310 : BitVec 32 := Scalar.addi v4304 v4303
  let v4311 : BitVec 32 := Scalar.select v4309 v4310 v4304
  let v4322 : BitVec 32 := Scalar.muli c2_i32_2565 v4311
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v4323 : BitVec 32 := Scalar.addi v4322 v94
  let c2_i32_2559 : BitVec 32 := 2#32
  let c0_i32_2560 : BitVec 32 := 0#32
  let v4312 : BitVec 1 := Scalar.cmpi .eq c2_i32_2559 c0_i32_2560
  let c1_i32_2561 : BitVec 32 := 1#32
  let v4313 : BitVec 32 := Scalar.select v4312 c1_i32_2561 c2_i32_2559
  let v4314 : BitVec 32 := Scalar.remsi v4311 v4313
  let c0_i32_2563 : BitVec 32 := 0#32
  let v4316 : BitVec 1 := Scalar.cmpi .slt v4314 c0_i32_2563
  let c0_i32_2564 : BitVec 32 := 0#32
  let v4317 : BitVec 1 := Scalar.cmpi .slt v4313 c0_i32_2564
  let v4318 : BitVec 1 := Scalar.xori v4316 v4317
  let c0_i32_2562 : BitVec 32 := 0#32
  let v4315 : BitVec 1 := Scalar.cmpi .ne v4314 c0_i32_2562
  let v4319 : BitVec 1 := Scalar.andi v4318 v4315
  let v4320 : BitVec 32 := Scalar.addi v4314 v4313
  let v4321 : BitVec 32 := Scalar.select v4319 v4320 v4314
  let c1_i32_2567 : BitVec 32 := 1#32
  let c2_i32_2566 : BitVec 32 := 2#32
  let v4324 : BitVec 32 := Scalar.muli c2_i32_2566 v94
  let v4325 : BitVec 32 := Scalar.subi c1_i32_2567 v4324
  let v4326 : BitVec 32 := Scalar.muli v4321 v4325
  let v4327 : BitVec 32 := Scalar.addi v4323 v4326
  let v4329 : BitVec 32 := Scalar.addi v4328 v4327
  let c1_i32_2573 : BitVec 32 := 1#32
  let v4330 : BitVec 32 := Scalar.muli v4329 c1_i32_2573
  let v4331 : BitVec 32 := Scalar.addi c0_i32_2574 v4330
  v4331.toNat
def k0_dev70 (d0 : Dev nD) : Nat :=
  let c0_i32_2614 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c5_i32_2577 : BitVec 32 := 5#32
  let v4338 : BitVec 32 := Scalar.addi v96 c5_i32_2577
  let c16_i32_2578 : BitVec 32 := 16#32
  let c0_i32_2579 : BitVec 32 := 0#32
  let v4339 : BitVec 1 := Scalar.cmpi .eq c16_i32_2578 c0_i32_2579
  let c1_i32_2580 : BitVec 32 := 1#32
  let v4340 : BitVec 32 := Scalar.select v4339 c1_i32_2580 c16_i32_2578
  let v4341 : BitVec 32 := Scalar.remsi v4338 v4340
  let c0_i32_2582 : BitVec 32 := 0#32
  let v4343 : BitVec 1 := Scalar.cmpi .slt v4341 c0_i32_2582
  let c0_i32_2583 : BitVec 32 := 0#32
  let v4344 : BitVec 1 := Scalar.cmpi .slt v4340 c0_i32_2583
  let v4345 : BitVec 1 := Scalar.xori v4343 v4344
  let c0_i32_2581 : BitVec 32 := 0#32
  let v4342 : BitVec 1 := Scalar.cmpi .ne v4341 c0_i32_2581
  let v4346 : BitVec 1 := Scalar.andi v4345 v4342
  let v4347 : BitVec 32 := Scalar.addi v4341 v4340
  let v4348 : BitVec 32 := Scalar.select v4346 v4347 v4341
  let c0_i32_2587 : BitVec 32 := 0#32
  let v4352 : BitVec 1 := Scalar.cmpi .sgt v4348 c0_i32_2587
  let v4353 : BitVec 32 := Scalar.extui v4352
  let c0_i32_2588 : BitVec 32 := 0#32
  let v4354 : BitVec 1 := Scalar.cmpi .slt v4348 c0_i32_2588
  let v4355 : BitVec 32 := Scalar.extui v4354
  let v4356 : BitVec 32 := Scalar.subi v4353 v4355
  let c4_i32_2586 : BitVec 32 := 4#32
  let c0_i32_2589 : BitVec 32 := 0#32
  let v4357 : BitVec 1 := Scalar.cmpi .sgt c4_i32_2586 c0_i32_2589
  let v4358 : BitVec 32 := Scalar.extui v4357
  let c0_i32_2590 : BitVec 32 := 0#32
  let v4359 : BitVec 1 := Scalar.cmpi .slt c4_i32_2586 c0_i32_2590
  let v4360 : BitVec 32 := Scalar.extui v4359
  let v4361 : BitVec 32 := Scalar.subi v4358 v4360
  let v4362 : BitVec 1 := Scalar.cmpi .ne v4356 v4361
  let v4363 : BitVec 32 := Scalar.remsi v4348 c4_i32_2586
  let c0_i32_2591 : BitVec 32 := 0#32
  let v4364 : BitVec 1 := Scalar.cmpi .ne v4363 c0_i32_2591
  let v4365 : BitVec 1 := Scalar.andi v4362 v4364
  let v4351 : BitVec 32 := Scalar.divsi v4348 c4_i32_2586
  let c1_i32_2592 : BitVec 32 := 1#32
  let v4366 : BitVec 32 := Scalar.subi v4351 c1_i32_2592
  let v4367 : BitVec 32 := Scalar.select v4365 v4366 v4351
  let c8_i32_2608 : BitVec 32 := 8#32
  let v4394 : BitVec 32 := Scalar.muli v4367 c8_i32_2608
  let c2_i32_2605 : BitVec 32 := 2#32
  let c4_i32_2593 : BitVec 32 := 4#32
  let c0_i32_2594 : BitVec 32 := 0#32
  let v4368 : BitVec 1 := Scalar.cmpi .eq c4_i32_2593 c0_i32_2594
  let c1_i32_2595 : BitVec 32 := 1#32
  let v4369 : BitVec 32 := Scalar.select v4368 c1_i32_2595 c4_i32_2593
  let v4370 : BitVec 32 := Scalar.remsi v4348 v4369
  let c0_i32_2597 : BitVec 32 := 0#32
  let v4372 : BitVec 1 := Scalar.cmpi .slt v4370 c0_i32_2597
  let c0_i32_2598 : BitVec 32 := 0#32
  let v4373 : BitVec 1 := Scalar.cmpi .slt v4369 c0_i32_2598
  let v4374 : BitVec 1 := Scalar.xori v4372 v4373
  let c0_i32_2596 : BitVec 32 := 0#32
  let v4371 : BitVec 1 := Scalar.cmpi .ne v4370 c0_i32_2596
  let v4375 : BitVec 1 := Scalar.andi v4374 v4371
  let v4376 : BitVec 32 := Scalar.addi v4370 v4369
  let v4377 : BitVec 32 := Scalar.select v4375 v4376 v4370
  let v4388 : BitVec 32 := Scalar.muli c2_i32_2605 v4377
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v4389 : BitVec 32 := Scalar.addi v4388 v94
  let c2_i32_2599 : BitVec 32 := 2#32
  let c0_i32_2600 : BitVec 32 := 0#32
  let v4378 : BitVec 1 := Scalar.cmpi .eq c2_i32_2599 c0_i32_2600
  let c1_i32_2601 : BitVec 32 := 1#32
  let v4379 : BitVec 32 := Scalar.select v4378 c1_i32_2601 c2_i32_2599
  let v4380 : BitVec 32 := Scalar.remsi v4377 v4379
  let c0_i32_2603 : BitVec 32 := 0#32
  let v4382 : BitVec 1 := Scalar.cmpi .slt v4380 c0_i32_2603
  let c0_i32_2604 : BitVec 32 := 0#32
  let v4383 : BitVec 1 := Scalar.cmpi .slt v4379 c0_i32_2604
  let v4384 : BitVec 1 := Scalar.xori v4382 v4383
  let c0_i32_2602 : BitVec 32 := 0#32
  let v4381 : BitVec 1 := Scalar.cmpi .ne v4380 c0_i32_2602
  let v4385 : BitVec 1 := Scalar.andi v4384 v4381
  let v4386 : BitVec 32 := Scalar.addi v4380 v4379
  let v4387 : BitVec 32 := Scalar.select v4385 v4386 v4380
  let c1_i32_2607 : BitVec 32 := 1#32
  let c2_i32_2606 : BitVec 32 := 2#32
  let v4390 : BitVec 32 := Scalar.muli c2_i32_2606 v94
  let v4391 : BitVec 32 := Scalar.subi c1_i32_2607 v4390
  let v4392 : BitVec 32 := Scalar.muli v4387 v4391
  let v4393 : BitVec 32 := Scalar.addi v4389 v4392
  let v4395 : BitVec 32 := Scalar.addi v4394 v4393
  let c1_i32_2613 : BitVec 32 := 1#32
  let v4396 : BitVec 32 := Scalar.muli v4395 c1_i32_2613
  let v4397 : BitVec 32 := Scalar.addi c0_i32_2614 v4396
  v4397.toNat
def k0_dev71 (d0 : Dev nD) : Nat :=
  let c0_i32_2654 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c6_i32_2617 : BitVec 32 := 6#32
  let v4404 : BitVec 32 := Scalar.addi v96 c6_i32_2617
  let c16_i32_2618 : BitVec 32 := 16#32
  let c0_i32_2619 : BitVec 32 := 0#32
  let v4405 : BitVec 1 := Scalar.cmpi .eq c16_i32_2618 c0_i32_2619
  let c1_i32_2620 : BitVec 32 := 1#32
  let v4406 : BitVec 32 := Scalar.select v4405 c1_i32_2620 c16_i32_2618
  let v4407 : BitVec 32 := Scalar.remsi v4404 v4406
  let c0_i32_2622 : BitVec 32 := 0#32
  let v4409 : BitVec 1 := Scalar.cmpi .slt v4407 c0_i32_2622
  let c0_i32_2623 : BitVec 32 := 0#32
  let v4410 : BitVec 1 := Scalar.cmpi .slt v4406 c0_i32_2623
  let v4411 : BitVec 1 := Scalar.xori v4409 v4410
  let c0_i32_2621 : BitVec 32 := 0#32
  let v4408 : BitVec 1 := Scalar.cmpi .ne v4407 c0_i32_2621
  let v4412 : BitVec 1 := Scalar.andi v4411 v4408
  let v4413 : BitVec 32 := Scalar.addi v4407 v4406
  let v4414 : BitVec 32 := Scalar.select v4412 v4413 v4407
  let c0_i32_2627 : BitVec 32 := 0#32
  let v4418 : BitVec 1 := Scalar.cmpi .sgt v4414 c0_i32_2627
  let v4419 : BitVec 32 := Scalar.extui v4418
  let c0_i32_2628 : BitVec 32 := 0#32
  let v4420 : BitVec 1 := Scalar.cmpi .slt v4414 c0_i32_2628
  let v4421 : BitVec 32 := Scalar.extui v4420
  let v4422 : BitVec 32 := Scalar.subi v4419 v4421
  let c4_i32_2626 : BitVec 32 := 4#32
  let c0_i32_2629 : BitVec 32 := 0#32
  let v4423 : BitVec 1 := Scalar.cmpi .sgt c4_i32_2626 c0_i32_2629
  let v4424 : BitVec 32 := Scalar.extui v4423
  let c0_i32_2630 : BitVec 32 := 0#32
  let v4425 : BitVec 1 := Scalar.cmpi .slt c4_i32_2626 c0_i32_2630
  let v4426 : BitVec 32 := Scalar.extui v4425
  let v4427 : BitVec 32 := Scalar.subi v4424 v4426
  let v4428 : BitVec 1 := Scalar.cmpi .ne v4422 v4427
  let v4429 : BitVec 32 := Scalar.remsi v4414 c4_i32_2626
  let c0_i32_2631 : BitVec 32 := 0#32
  let v4430 : BitVec 1 := Scalar.cmpi .ne v4429 c0_i32_2631
  let v4431 : BitVec 1 := Scalar.andi v4428 v4430
  let v4417 : BitVec 32 := Scalar.divsi v4414 c4_i32_2626
  let c1_i32_2632 : BitVec 32 := 1#32
  let v4432 : BitVec 32 := Scalar.subi v4417 c1_i32_2632
  let v4433 : BitVec 32 := Scalar.select v4431 v4432 v4417
  let c8_i32_2648 : BitVec 32 := 8#32
  let v4460 : BitVec 32 := Scalar.muli v4433 c8_i32_2648
  let c2_i32_2645 : BitVec 32 := 2#32
  let c4_i32_2633 : BitVec 32 := 4#32
  let c0_i32_2634 : BitVec 32 := 0#32
  let v4434 : BitVec 1 := Scalar.cmpi .eq c4_i32_2633 c0_i32_2634
  let c1_i32_2635 : BitVec 32 := 1#32
  let v4435 : BitVec 32 := Scalar.select v4434 c1_i32_2635 c4_i32_2633
  let v4436 : BitVec 32 := Scalar.remsi v4414 v4435
  let c0_i32_2637 : BitVec 32 := 0#32
  let v4438 : BitVec 1 := Scalar.cmpi .slt v4436 c0_i32_2637
  let c0_i32_2638 : BitVec 32 := 0#32
  let v4439 : BitVec 1 := Scalar.cmpi .slt v4435 c0_i32_2638
  let v4440 : BitVec 1 := Scalar.xori v4438 v4439
  let c0_i32_2636 : BitVec 32 := 0#32
  let v4437 : BitVec 1 := Scalar.cmpi .ne v4436 c0_i32_2636
  let v4441 : BitVec 1 := Scalar.andi v4440 v4437
  let v4442 : BitVec 32 := Scalar.addi v4436 v4435
  let v4443 : BitVec 32 := Scalar.select v4441 v4442 v4436
  let v4454 : BitVec 32 := Scalar.muli c2_i32_2645 v4443
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v4455 : BitVec 32 := Scalar.addi v4454 v94
  let c2_i32_2639 : BitVec 32 := 2#32
  let c0_i32_2640 : BitVec 32 := 0#32
  let v4444 : BitVec 1 := Scalar.cmpi .eq c2_i32_2639 c0_i32_2640
  let c1_i32_2641 : BitVec 32 := 1#32
  let v4445 : BitVec 32 := Scalar.select v4444 c1_i32_2641 c2_i32_2639
  let v4446 : BitVec 32 := Scalar.remsi v4443 v4445
  let c0_i32_2643 : BitVec 32 := 0#32
  let v4448 : BitVec 1 := Scalar.cmpi .slt v4446 c0_i32_2643
  let c0_i32_2644 : BitVec 32 := 0#32
  let v4449 : BitVec 1 := Scalar.cmpi .slt v4445 c0_i32_2644
  let v4450 : BitVec 1 := Scalar.xori v4448 v4449
  let c0_i32_2642 : BitVec 32 := 0#32
  let v4447 : BitVec 1 := Scalar.cmpi .ne v4446 c0_i32_2642
  let v4451 : BitVec 1 := Scalar.andi v4450 v4447
  let v4452 : BitVec 32 := Scalar.addi v4446 v4445
  let v4453 : BitVec 32 := Scalar.select v4451 v4452 v4446
  let c1_i32_2647 : BitVec 32 := 1#32
  let c2_i32_2646 : BitVec 32 := 2#32
  let v4456 : BitVec 32 := Scalar.muli c2_i32_2646 v94
  let v4457 : BitVec 32 := Scalar.subi c1_i32_2647 v4456
  let v4458 : BitVec 32 := Scalar.muli v4453 v4457
  let v4459 : BitVec 32 := Scalar.addi v4455 v4458
  let v4461 : BitVec 32 := Scalar.addi v4460 v4459
  let c1_i32_2653 : BitVec 32 := 1#32
  let v4462 : BitVec 32 := Scalar.muli v4461 c1_i32_2653
  let v4463 : BitVec 32 := Scalar.addi c0_i32_2654 v4462
  v4463.toNat
def k0_dev72 (d0 : Dev nD) : Nat :=
  let c0_i32_2694 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c7_i32_2657 : BitVec 32 := 7#32
  let v4470 : BitVec 32 := Scalar.addi v96 c7_i32_2657
  let c16_i32_2658 : BitVec 32 := 16#32
  let c0_i32_2659 : BitVec 32 := 0#32
  let v4471 : BitVec 1 := Scalar.cmpi .eq c16_i32_2658 c0_i32_2659
  let c1_i32_2660 : BitVec 32 := 1#32
  let v4472 : BitVec 32 := Scalar.select v4471 c1_i32_2660 c16_i32_2658
  let v4473 : BitVec 32 := Scalar.remsi v4470 v4472
  let c0_i32_2662 : BitVec 32 := 0#32
  let v4475 : BitVec 1 := Scalar.cmpi .slt v4473 c0_i32_2662
  let c0_i32_2663 : BitVec 32 := 0#32
  let v4476 : BitVec 1 := Scalar.cmpi .slt v4472 c0_i32_2663
  let v4477 : BitVec 1 := Scalar.xori v4475 v4476
  let c0_i32_2661 : BitVec 32 := 0#32
  let v4474 : BitVec 1 := Scalar.cmpi .ne v4473 c0_i32_2661
  let v4478 : BitVec 1 := Scalar.andi v4477 v4474
  let v4479 : BitVec 32 := Scalar.addi v4473 v4472
  let v4480 : BitVec 32 := Scalar.select v4478 v4479 v4473
  let c0_i32_2667 : BitVec 32 := 0#32
  let v4484 : BitVec 1 := Scalar.cmpi .sgt v4480 c0_i32_2667
  let v4485 : BitVec 32 := Scalar.extui v4484
  let c0_i32_2668 : BitVec 32 := 0#32
  let v4486 : BitVec 1 := Scalar.cmpi .slt v4480 c0_i32_2668
  let v4487 : BitVec 32 := Scalar.extui v4486
  let v4488 : BitVec 32 := Scalar.subi v4485 v4487
  let c4_i32_2666 : BitVec 32 := 4#32
  let c0_i32_2669 : BitVec 32 := 0#32
  let v4489 : BitVec 1 := Scalar.cmpi .sgt c4_i32_2666 c0_i32_2669
  let v4490 : BitVec 32 := Scalar.extui v4489
  let c0_i32_2670 : BitVec 32 := 0#32
  let v4491 : BitVec 1 := Scalar.cmpi .slt c4_i32_2666 c0_i32_2670
  let v4492 : BitVec 32 := Scalar.extui v4491
  let v4493 : BitVec 32 := Scalar.subi v4490 v4492
  let v4494 : BitVec 1 := Scalar.cmpi .ne v4488 v4493
  let v4495 : BitVec 32 := Scalar.remsi v4480 c4_i32_2666
  let c0_i32_2671 : BitVec 32 := 0#32
  let v4496 : BitVec 1 := Scalar.cmpi .ne v4495 c0_i32_2671
  let v4497 : BitVec 1 := Scalar.andi v4494 v4496
  let v4483 : BitVec 32 := Scalar.divsi v4480 c4_i32_2666
  let c1_i32_2672 : BitVec 32 := 1#32
  let v4498 : BitVec 32 := Scalar.subi v4483 c1_i32_2672
  let v4499 : BitVec 32 := Scalar.select v4497 v4498 v4483
  let c8_i32_2688 : BitVec 32 := 8#32
  let v4526 : BitVec 32 := Scalar.muli v4499 c8_i32_2688
  let c2_i32_2685 : BitVec 32 := 2#32
  let c4_i32_2673 : BitVec 32 := 4#32
  let c0_i32_2674 : BitVec 32 := 0#32
  let v4500 : BitVec 1 := Scalar.cmpi .eq c4_i32_2673 c0_i32_2674
  let c1_i32_2675 : BitVec 32 := 1#32
  let v4501 : BitVec 32 := Scalar.select v4500 c1_i32_2675 c4_i32_2673
  let v4502 : BitVec 32 := Scalar.remsi v4480 v4501
  let c0_i32_2677 : BitVec 32 := 0#32
  let v4504 : BitVec 1 := Scalar.cmpi .slt v4502 c0_i32_2677
  let c0_i32_2678 : BitVec 32 := 0#32
  let v4505 : BitVec 1 := Scalar.cmpi .slt v4501 c0_i32_2678
  let v4506 : BitVec 1 := Scalar.xori v4504 v4505
  let c0_i32_2676 : BitVec 32 := 0#32
  let v4503 : BitVec 1 := Scalar.cmpi .ne v4502 c0_i32_2676
  let v4507 : BitVec 1 := Scalar.andi v4506 v4503
  let v4508 : BitVec 32 := Scalar.addi v4502 v4501
  let v4509 : BitVec 32 := Scalar.select v4507 v4508 v4502
  let v4520 : BitVec 32 := Scalar.muli c2_i32_2685 v4509
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v4521 : BitVec 32 := Scalar.addi v4520 v94
  let c2_i32_2679 : BitVec 32 := 2#32
  let c0_i32_2680 : BitVec 32 := 0#32
  let v4510 : BitVec 1 := Scalar.cmpi .eq c2_i32_2679 c0_i32_2680
  let c1_i32_2681 : BitVec 32 := 1#32
  let v4511 : BitVec 32 := Scalar.select v4510 c1_i32_2681 c2_i32_2679
  let v4512 : BitVec 32 := Scalar.remsi v4509 v4511
  let c0_i32_2683 : BitVec 32 := 0#32
  let v4514 : BitVec 1 := Scalar.cmpi .slt v4512 c0_i32_2683
  let c0_i32_2684 : BitVec 32 := 0#32
  let v4515 : BitVec 1 := Scalar.cmpi .slt v4511 c0_i32_2684
  let v4516 : BitVec 1 := Scalar.xori v4514 v4515
  let c0_i32_2682 : BitVec 32 := 0#32
  let v4513 : BitVec 1 := Scalar.cmpi .ne v4512 c0_i32_2682
  let v4517 : BitVec 1 := Scalar.andi v4516 v4513
  let v4518 : BitVec 32 := Scalar.addi v4512 v4511
  let v4519 : BitVec 32 := Scalar.select v4517 v4518 v4512
  let c1_i32_2687 : BitVec 32 := 1#32
  let c2_i32_2686 : BitVec 32 := 2#32
  let v4522 : BitVec 32 := Scalar.muli c2_i32_2686 v94
  let v4523 : BitVec 32 := Scalar.subi c1_i32_2687 v4522
  let v4524 : BitVec 32 := Scalar.muli v4519 v4523
  let v4525 : BitVec 32 := Scalar.addi v4521 v4524
  let v4527 : BitVec 32 := Scalar.addi v4526 v4525
  let c1_i32_2693 : BitVec 32 := 1#32
  let v4528 : BitVec 32 := Scalar.muli v4527 c1_i32_2693
  let v4529 : BitVec 32 := Scalar.addi c0_i32_2694 v4528
  v4529.toNat
def k0_dev73 (d0 : Dev nD) : Nat :=
  let c0_i32_2734 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c8_i32_2697 : BitVec 32 := 8#32
  let v4536 : BitVec 32 := Scalar.addi v96 c8_i32_2697
  let c16_i32_2698 : BitVec 32 := 16#32
  let c0_i32_2699 : BitVec 32 := 0#32
  let v4537 : BitVec 1 := Scalar.cmpi .eq c16_i32_2698 c0_i32_2699
  let c1_i32_2700 : BitVec 32 := 1#32
  let v4538 : BitVec 32 := Scalar.select v4537 c1_i32_2700 c16_i32_2698
  let v4539 : BitVec 32 := Scalar.remsi v4536 v4538
  let c0_i32_2702 : BitVec 32 := 0#32
  let v4541 : BitVec 1 := Scalar.cmpi .slt v4539 c0_i32_2702
  let c0_i32_2703 : BitVec 32 := 0#32
  let v4542 : BitVec 1 := Scalar.cmpi .slt v4538 c0_i32_2703
  let v4543 : BitVec 1 := Scalar.xori v4541 v4542
  let c0_i32_2701 : BitVec 32 := 0#32
  let v4540 : BitVec 1 := Scalar.cmpi .ne v4539 c0_i32_2701
  let v4544 : BitVec 1 := Scalar.andi v4543 v4540
  let v4545 : BitVec 32 := Scalar.addi v4539 v4538
  let v4546 : BitVec 32 := Scalar.select v4544 v4545 v4539
  let c0_i32_2707 : BitVec 32 := 0#32
  let v4550 : BitVec 1 := Scalar.cmpi .sgt v4546 c0_i32_2707
  let v4551 : BitVec 32 := Scalar.extui v4550
  let c0_i32_2708 : BitVec 32 := 0#32
  let v4552 : BitVec 1 := Scalar.cmpi .slt v4546 c0_i32_2708
  let v4553 : BitVec 32 := Scalar.extui v4552
  let v4554 : BitVec 32 := Scalar.subi v4551 v4553
  let c4_i32_2706 : BitVec 32 := 4#32
  let c0_i32_2709 : BitVec 32 := 0#32
  let v4555 : BitVec 1 := Scalar.cmpi .sgt c4_i32_2706 c0_i32_2709
  let v4556 : BitVec 32 := Scalar.extui v4555
  let c0_i32_2710 : BitVec 32 := 0#32
  let v4557 : BitVec 1 := Scalar.cmpi .slt c4_i32_2706 c0_i32_2710
  let v4558 : BitVec 32 := Scalar.extui v4557
  let v4559 : BitVec 32 := Scalar.subi v4556 v4558
  let v4560 : BitVec 1 := Scalar.cmpi .ne v4554 v4559
  let v4561 : BitVec 32 := Scalar.remsi v4546 c4_i32_2706
  let c0_i32_2711 : BitVec 32 := 0#32
  let v4562 : BitVec 1 := Scalar.cmpi .ne v4561 c0_i32_2711
  let v4563 : BitVec 1 := Scalar.andi v4560 v4562
  let v4549 : BitVec 32 := Scalar.divsi v4546 c4_i32_2706
  let c1_i32_2712 : BitVec 32 := 1#32
  let v4564 : BitVec 32 := Scalar.subi v4549 c1_i32_2712
  let v4565 : BitVec 32 := Scalar.select v4563 v4564 v4549
  let c8_i32_2728 : BitVec 32 := 8#32
  let v4592 : BitVec 32 := Scalar.muli v4565 c8_i32_2728
  let c2_i32_2725 : BitVec 32 := 2#32
  let c4_i32_2713 : BitVec 32 := 4#32
  let c0_i32_2714 : BitVec 32 := 0#32
  let v4566 : BitVec 1 := Scalar.cmpi .eq c4_i32_2713 c0_i32_2714
  let c1_i32_2715 : BitVec 32 := 1#32
  let v4567 : BitVec 32 := Scalar.select v4566 c1_i32_2715 c4_i32_2713
  let v4568 : BitVec 32 := Scalar.remsi v4546 v4567
  let c0_i32_2717 : BitVec 32 := 0#32
  let v4570 : BitVec 1 := Scalar.cmpi .slt v4568 c0_i32_2717
  let c0_i32_2718 : BitVec 32 := 0#32
  let v4571 : BitVec 1 := Scalar.cmpi .slt v4567 c0_i32_2718
  let v4572 : BitVec 1 := Scalar.xori v4570 v4571
  let c0_i32_2716 : BitVec 32 := 0#32
  let v4569 : BitVec 1 := Scalar.cmpi .ne v4568 c0_i32_2716
  let v4573 : BitVec 1 := Scalar.andi v4572 v4569
  let v4574 : BitVec 32 := Scalar.addi v4568 v4567
  let v4575 : BitVec 32 := Scalar.select v4573 v4574 v4568
  let v4586 : BitVec 32 := Scalar.muli c2_i32_2725 v4575
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v4587 : BitVec 32 := Scalar.addi v4586 v94
  let c2_i32_2719 : BitVec 32 := 2#32
  let c0_i32_2720 : BitVec 32 := 0#32
  let v4576 : BitVec 1 := Scalar.cmpi .eq c2_i32_2719 c0_i32_2720
  let c1_i32_2721 : BitVec 32 := 1#32
  let v4577 : BitVec 32 := Scalar.select v4576 c1_i32_2721 c2_i32_2719
  let v4578 : BitVec 32 := Scalar.remsi v4575 v4577
  let c0_i32_2723 : BitVec 32 := 0#32
  let v4580 : BitVec 1 := Scalar.cmpi .slt v4578 c0_i32_2723
  let c0_i32_2724 : BitVec 32 := 0#32
  let v4581 : BitVec 1 := Scalar.cmpi .slt v4577 c0_i32_2724
  let v4582 : BitVec 1 := Scalar.xori v4580 v4581
  let c0_i32_2722 : BitVec 32 := 0#32
  let v4579 : BitVec 1 := Scalar.cmpi .ne v4578 c0_i32_2722
  let v4583 : BitVec 1 := Scalar.andi v4582 v4579
  let v4584 : BitVec 32 := Scalar.addi v4578 v4577
  let v4585 : BitVec 32 := Scalar.select v4583 v4584 v4578
  let c1_i32_2727 : BitVec 32 := 1#32
  let c2_i32_2726 : BitVec 32 := 2#32
  let v4588 : BitVec 32 := Scalar.muli c2_i32_2726 v94
  let v4589 : BitVec 32 := Scalar.subi c1_i32_2727 v4588
  let v4590 : BitVec 32 := Scalar.muli v4585 v4589
  let v4591 : BitVec 32 := Scalar.addi v4587 v4590
  let v4593 : BitVec 32 := Scalar.addi v4592 v4591
  let c1_i32_2733 : BitVec 32 := 1#32
  let v4594 : BitVec 32 := Scalar.muli v4593 c1_i32_2733
  let v4595 : BitVec 32 := Scalar.addi c0_i32_2734 v4594
  v4595.toNat
def k0_dev74 (d0 : Dev nD) : Nat :=
  let c0_i32_2774 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c9_i32_2737 : BitVec 32 := 9#32
  let v4602 : BitVec 32 := Scalar.addi v96 c9_i32_2737
  let c16_i32_2738 : BitVec 32 := 16#32
  let c0_i32_2739 : BitVec 32 := 0#32
  let v4603 : BitVec 1 := Scalar.cmpi .eq c16_i32_2738 c0_i32_2739
  let c1_i32_2740 : BitVec 32 := 1#32
  let v4604 : BitVec 32 := Scalar.select v4603 c1_i32_2740 c16_i32_2738
  let v4605 : BitVec 32 := Scalar.remsi v4602 v4604
  let c0_i32_2742 : BitVec 32 := 0#32
  let v4607 : BitVec 1 := Scalar.cmpi .slt v4605 c0_i32_2742
  let c0_i32_2743 : BitVec 32 := 0#32
  let v4608 : BitVec 1 := Scalar.cmpi .slt v4604 c0_i32_2743
  let v4609 : BitVec 1 := Scalar.xori v4607 v4608
  let c0_i32_2741 : BitVec 32 := 0#32
  let v4606 : BitVec 1 := Scalar.cmpi .ne v4605 c0_i32_2741
  let v4610 : BitVec 1 := Scalar.andi v4609 v4606
  let v4611 : BitVec 32 := Scalar.addi v4605 v4604
  let v4612 : BitVec 32 := Scalar.select v4610 v4611 v4605
  let c0_i32_2747 : BitVec 32 := 0#32
  let v4616 : BitVec 1 := Scalar.cmpi .sgt v4612 c0_i32_2747
  let v4617 : BitVec 32 := Scalar.extui v4616
  let c0_i32_2748 : BitVec 32 := 0#32
  let v4618 : BitVec 1 := Scalar.cmpi .slt v4612 c0_i32_2748
  let v4619 : BitVec 32 := Scalar.extui v4618
  let v4620 : BitVec 32 := Scalar.subi v4617 v4619
  let c4_i32_2746 : BitVec 32 := 4#32
  let c0_i32_2749 : BitVec 32 := 0#32
  let v4621 : BitVec 1 := Scalar.cmpi .sgt c4_i32_2746 c0_i32_2749
  let v4622 : BitVec 32 := Scalar.extui v4621
  let c0_i32_2750 : BitVec 32 := 0#32
  let v4623 : BitVec 1 := Scalar.cmpi .slt c4_i32_2746 c0_i32_2750
  let v4624 : BitVec 32 := Scalar.extui v4623
  let v4625 : BitVec 32 := Scalar.subi v4622 v4624
  let v4626 : BitVec 1 := Scalar.cmpi .ne v4620 v4625
  let v4627 : BitVec 32 := Scalar.remsi v4612 c4_i32_2746
  let c0_i32_2751 : BitVec 32 := 0#32
  let v4628 : BitVec 1 := Scalar.cmpi .ne v4627 c0_i32_2751
  let v4629 : BitVec 1 := Scalar.andi v4626 v4628
  let v4615 : BitVec 32 := Scalar.divsi v4612 c4_i32_2746
  let c1_i32_2752 : BitVec 32 := 1#32
  let v4630 : BitVec 32 := Scalar.subi v4615 c1_i32_2752
  let v4631 : BitVec 32 := Scalar.select v4629 v4630 v4615
  let c8_i32_2768 : BitVec 32 := 8#32
  let v4658 : BitVec 32 := Scalar.muli v4631 c8_i32_2768
  let c2_i32_2765 : BitVec 32 := 2#32
  let c4_i32_2753 : BitVec 32 := 4#32
  let c0_i32_2754 : BitVec 32 := 0#32
  let v4632 : BitVec 1 := Scalar.cmpi .eq c4_i32_2753 c0_i32_2754
  let c1_i32_2755 : BitVec 32 := 1#32
  let v4633 : BitVec 32 := Scalar.select v4632 c1_i32_2755 c4_i32_2753
  let v4634 : BitVec 32 := Scalar.remsi v4612 v4633
  let c0_i32_2757 : BitVec 32 := 0#32
  let v4636 : BitVec 1 := Scalar.cmpi .slt v4634 c0_i32_2757
  let c0_i32_2758 : BitVec 32 := 0#32
  let v4637 : BitVec 1 := Scalar.cmpi .slt v4633 c0_i32_2758
  let v4638 : BitVec 1 := Scalar.xori v4636 v4637
  let c0_i32_2756 : BitVec 32 := 0#32
  let v4635 : BitVec 1 := Scalar.cmpi .ne v4634 c0_i32_2756
  let v4639 : BitVec 1 := Scalar.andi v4638 v4635
  let v4640 : BitVec 32 := Scalar.addi v4634 v4633
  let v4641 : BitVec 32 := Scalar.select v4639 v4640 v4634
  let v4652 : BitVec 32 := Scalar.muli c2_i32_2765 v4641
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v4653 : BitVec 32 := Scalar.addi v4652 v94
  let c2_i32_2759 : BitVec 32 := 2#32
  let c0_i32_2760 : BitVec 32 := 0#32
  let v4642 : BitVec 1 := Scalar.cmpi .eq c2_i32_2759 c0_i32_2760
  let c1_i32_2761 : BitVec 32 := 1#32
  let v4643 : BitVec 32 := Scalar.select v4642 c1_i32_2761 c2_i32_2759
  let v4644 : BitVec 32 := Scalar.remsi v4641 v4643
  let c0_i32_2763 : BitVec 32 := 0#32
  let v4646 : BitVec 1 := Scalar.cmpi .slt v4644 c0_i32_2763
  let c0_i32_2764 : BitVec 32 := 0#32
  let v4647 : BitVec 1 := Scalar.cmpi .slt v4643 c0_i32_2764
  let v4648 : BitVec 1 := Scalar.xori v4646 v4647
  let c0_i32_2762 : BitVec 32 := 0#32
  let v4645 : BitVec 1 := Scalar.cmpi .ne v4644 c0_i32_2762
  let v4649 : BitVec 1 := Scalar.andi v4648 v4645
  let v4650 : BitVec 32 := Scalar.addi v4644 v4643
  let v4651 : BitVec 32 := Scalar.select v4649 v4650 v4644
  let c1_i32_2767 : BitVec 32 := 1#32
  let c2_i32_2766 : BitVec 32 := 2#32
  let v4654 : BitVec 32 := Scalar.muli c2_i32_2766 v94
  let v4655 : BitVec 32 := Scalar.subi c1_i32_2767 v4654
  let v4656 : BitVec 32 := Scalar.muli v4651 v4655
  let v4657 : BitVec 32 := Scalar.addi v4653 v4656
  let v4659 : BitVec 32 := Scalar.addi v4658 v4657
  let c1_i32_2773 : BitVec 32 := 1#32
  let v4660 : BitVec 32 := Scalar.muli v4659 c1_i32_2773
  let v4661 : BitVec 32 := Scalar.addi c0_i32_2774 v4660
  v4661.toNat
def k0_dev75 (d0 : Dev nD) : Nat :=
  let c0_i32_2814 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c10_i32_2777 : BitVec 32 := 10#32
  let v4668 : BitVec 32 := Scalar.addi v96 c10_i32_2777
  let c16_i32_2778 : BitVec 32 := 16#32
  let c0_i32_2779 : BitVec 32 := 0#32
  let v4669 : BitVec 1 := Scalar.cmpi .eq c16_i32_2778 c0_i32_2779
  let c1_i32_2780 : BitVec 32 := 1#32
  let v4670 : BitVec 32 := Scalar.select v4669 c1_i32_2780 c16_i32_2778
  let v4671 : BitVec 32 := Scalar.remsi v4668 v4670
  let c0_i32_2782 : BitVec 32 := 0#32
  let v4673 : BitVec 1 := Scalar.cmpi .slt v4671 c0_i32_2782
  let c0_i32_2783 : BitVec 32 := 0#32
  let v4674 : BitVec 1 := Scalar.cmpi .slt v4670 c0_i32_2783
  let v4675 : BitVec 1 := Scalar.xori v4673 v4674
  let c0_i32_2781 : BitVec 32 := 0#32
  let v4672 : BitVec 1 := Scalar.cmpi .ne v4671 c0_i32_2781
  let v4676 : BitVec 1 := Scalar.andi v4675 v4672
  let v4677 : BitVec 32 := Scalar.addi v4671 v4670
  let v4678 : BitVec 32 := Scalar.select v4676 v4677 v4671
  let c0_i32_2787 : BitVec 32 := 0#32
  let v4682 : BitVec 1 := Scalar.cmpi .sgt v4678 c0_i32_2787
  let v4683 : BitVec 32 := Scalar.extui v4682
  let c0_i32_2788 : BitVec 32 := 0#32
  let v4684 : BitVec 1 := Scalar.cmpi .slt v4678 c0_i32_2788
  let v4685 : BitVec 32 := Scalar.extui v4684
  let v4686 : BitVec 32 := Scalar.subi v4683 v4685
  let c4_i32_2786 : BitVec 32 := 4#32
  let c0_i32_2789 : BitVec 32 := 0#32
  let v4687 : BitVec 1 := Scalar.cmpi .sgt c4_i32_2786 c0_i32_2789
  let v4688 : BitVec 32 := Scalar.extui v4687
  let c0_i32_2790 : BitVec 32 := 0#32
  let v4689 : BitVec 1 := Scalar.cmpi .slt c4_i32_2786 c0_i32_2790
  let v4690 : BitVec 32 := Scalar.extui v4689
  let v4691 : BitVec 32 := Scalar.subi v4688 v4690
  let v4692 : BitVec 1 := Scalar.cmpi .ne v4686 v4691
  let v4693 : BitVec 32 := Scalar.remsi v4678 c4_i32_2786
  let c0_i32_2791 : BitVec 32 := 0#32
  let v4694 : BitVec 1 := Scalar.cmpi .ne v4693 c0_i32_2791
  let v4695 : BitVec 1 := Scalar.andi v4692 v4694
  let v4681 : BitVec 32 := Scalar.divsi v4678 c4_i32_2786
  let c1_i32_2792 : BitVec 32 := 1#32
  let v4696 : BitVec 32 := Scalar.subi v4681 c1_i32_2792
  let v4697 : BitVec 32 := Scalar.select v4695 v4696 v4681
  let c8_i32_2808 : BitVec 32 := 8#32
  let v4724 : BitVec 32 := Scalar.muli v4697 c8_i32_2808
  let c2_i32_2805 : BitVec 32 := 2#32
  let c4_i32_2793 : BitVec 32 := 4#32
  let c0_i32_2794 : BitVec 32 := 0#32
  let v4698 : BitVec 1 := Scalar.cmpi .eq c4_i32_2793 c0_i32_2794
  let c1_i32_2795 : BitVec 32 := 1#32
  let v4699 : BitVec 32 := Scalar.select v4698 c1_i32_2795 c4_i32_2793
  let v4700 : BitVec 32 := Scalar.remsi v4678 v4699
  let c0_i32_2797 : BitVec 32 := 0#32
  let v4702 : BitVec 1 := Scalar.cmpi .slt v4700 c0_i32_2797
  let c0_i32_2798 : BitVec 32 := 0#32
  let v4703 : BitVec 1 := Scalar.cmpi .slt v4699 c0_i32_2798
  let v4704 : BitVec 1 := Scalar.xori v4702 v4703
  let c0_i32_2796 : BitVec 32 := 0#32
  let v4701 : BitVec 1 := Scalar.cmpi .ne v4700 c0_i32_2796
  let v4705 : BitVec 1 := Scalar.andi v4704 v4701
  let v4706 : BitVec 32 := Scalar.addi v4700 v4699
  let v4707 : BitVec 32 := Scalar.select v4705 v4706 v4700
  let v4718 : BitVec 32 := Scalar.muli c2_i32_2805 v4707
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v4719 : BitVec 32 := Scalar.addi v4718 v94
  let c2_i32_2799 : BitVec 32 := 2#32
  let c0_i32_2800 : BitVec 32 := 0#32
  let v4708 : BitVec 1 := Scalar.cmpi .eq c2_i32_2799 c0_i32_2800
  let c1_i32_2801 : BitVec 32 := 1#32
  let v4709 : BitVec 32 := Scalar.select v4708 c1_i32_2801 c2_i32_2799
  let v4710 : BitVec 32 := Scalar.remsi v4707 v4709
  let c0_i32_2803 : BitVec 32 := 0#32
  let v4712 : BitVec 1 := Scalar.cmpi .slt v4710 c0_i32_2803
  let c0_i32_2804 : BitVec 32 := 0#32
  let v4713 : BitVec 1 := Scalar.cmpi .slt v4709 c0_i32_2804
  let v4714 : BitVec 1 := Scalar.xori v4712 v4713
  let c0_i32_2802 : BitVec 32 := 0#32
  let v4711 : BitVec 1 := Scalar.cmpi .ne v4710 c0_i32_2802
  let v4715 : BitVec 1 := Scalar.andi v4714 v4711
  let v4716 : BitVec 32 := Scalar.addi v4710 v4709
  let v4717 : BitVec 32 := Scalar.select v4715 v4716 v4710
  let c1_i32_2807 : BitVec 32 := 1#32
  let c2_i32_2806 : BitVec 32 := 2#32
  let v4720 : BitVec 32 := Scalar.muli c2_i32_2806 v94
  let v4721 : BitVec 32 := Scalar.subi c1_i32_2807 v4720
  let v4722 : BitVec 32 := Scalar.muli v4717 v4721
  let v4723 : BitVec 32 := Scalar.addi v4719 v4722
  let v4725 : BitVec 32 := Scalar.addi v4724 v4723
  let c1_i32_2813 : BitVec 32 := 1#32
  let v4726 : BitVec 32 := Scalar.muli v4725 c1_i32_2813
  let v4727 : BitVec 32 := Scalar.addi c0_i32_2814 v4726
  v4727.toNat
def k0_dev76 (d0 : Dev nD) : Nat :=
  let c0_i32_2854 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c11_i32_2817 : BitVec 32 := 11#32
  let v4734 : BitVec 32 := Scalar.addi v96 c11_i32_2817
  let c16_i32_2818 : BitVec 32 := 16#32
  let c0_i32_2819 : BitVec 32 := 0#32
  let v4735 : BitVec 1 := Scalar.cmpi .eq c16_i32_2818 c0_i32_2819
  let c1_i32_2820 : BitVec 32 := 1#32
  let v4736 : BitVec 32 := Scalar.select v4735 c1_i32_2820 c16_i32_2818
  let v4737 : BitVec 32 := Scalar.remsi v4734 v4736
  let c0_i32_2822 : BitVec 32 := 0#32
  let v4739 : BitVec 1 := Scalar.cmpi .slt v4737 c0_i32_2822
  let c0_i32_2823 : BitVec 32 := 0#32
  let v4740 : BitVec 1 := Scalar.cmpi .slt v4736 c0_i32_2823
  let v4741 : BitVec 1 := Scalar.xori v4739 v4740
  let c0_i32_2821 : BitVec 32 := 0#32
  let v4738 : BitVec 1 := Scalar.cmpi .ne v4737 c0_i32_2821
  let v4742 : BitVec 1 := Scalar.andi v4741 v4738
  let v4743 : BitVec 32 := Scalar.addi v4737 v4736
  let v4744 : BitVec 32 := Scalar.select v4742 v4743 v4737
  let c0_i32_2827 : BitVec 32 := 0#32
  let v4748 : BitVec 1 := Scalar.cmpi .sgt v4744 c0_i32_2827
  let v4749 : BitVec 32 := Scalar.extui v4748
  let c0_i32_2828 : BitVec 32 := 0#32
  let v4750 : BitVec 1 := Scalar.cmpi .slt v4744 c0_i32_2828
  let v4751 : BitVec 32 := Scalar.extui v4750
  let v4752 : BitVec 32 := Scalar.subi v4749 v4751
  let c4_i32_2826 : BitVec 32 := 4#32
  let c0_i32_2829 : BitVec 32 := 0#32
  let v4753 : BitVec 1 := Scalar.cmpi .sgt c4_i32_2826 c0_i32_2829
  let v4754 : BitVec 32 := Scalar.extui v4753
  let c0_i32_2830 : BitVec 32 := 0#32
  let v4755 : BitVec 1 := Scalar.cmpi .slt c4_i32_2826 c0_i32_2830
  let v4756 : BitVec 32 := Scalar.extui v4755
  let v4757 : BitVec 32 := Scalar.subi v4754 v4756
  let v4758 : BitVec 1 := Scalar.cmpi .ne v4752 v4757
  let v4759 : BitVec 32 := Scalar.remsi v4744 c4_i32_2826
  let c0_i32_2831 : BitVec 32 := 0#32
  let v4760 : BitVec 1 := Scalar.cmpi .ne v4759 c0_i32_2831
  let v4761 : BitVec 1 := Scalar.andi v4758 v4760
  let v4747 : BitVec 32 := Scalar.divsi v4744 c4_i32_2826
  let c1_i32_2832 : BitVec 32 := 1#32
  let v4762 : BitVec 32 := Scalar.subi v4747 c1_i32_2832
  let v4763 : BitVec 32 := Scalar.select v4761 v4762 v4747
  let c8_i32_2848 : BitVec 32 := 8#32
  let v4790 : BitVec 32 := Scalar.muli v4763 c8_i32_2848
  let c2_i32_2845 : BitVec 32 := 2#32
  let c4_i32_2833 : BitVec 32 := 4#32
  let c0_i32_2834 : BitVec 32 := 0#32
  let v4764 : BitVec 1 := Scalar.cmpi .eq c4_i32_2833 c0_i32_2834
  let c1_i32_2835 : BitVec 32 := 1#32
  let v4765 : BitVec 32 := Scalar.select v4764 c1_i32_2835 c4_i32_2833
  let v4766 : BitVec 32 := Scalar.remsi v4744 v4765
  let c0_i32_2837 : BitVec 32 := 0#32
  let v4768 : BitVec 1 := Scalar.cmpi .slt v4766 c0_i32_2837
  let c0_i32_2838 : BitVec 32 := 0#32
  let v4769 : BitVec 1 := Scalar.cmpi .slt v4765 c0_i32_2838
  let v4770 : BitVec 1 := Scalar.xori v4768 v4769
  let c0_i32_2836 : BitVec 32 := 0#32
  let v4767 : BitVec 1 := Scalar.cmpi .ne v4766 c0_i32_2836
  let v4771 : BitVec 1 := Scalar.andi v4770 v4767
  let v4772 : BitVec 32 := Scalar.addi v4766 v4765
  let v4773 : BitVec 32 := Scalar.select v4771 v4772 v4766
  let v4784 : BitVec 32 := Scalar.muli c2_i32_2845 v4773
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v4785 : BitVec 32 := Scalar.addi v4784 v94
  let c2_i32_2839 : BitVec 32 := 2#32
  let c0_i32_2840 : BitVec 32 := 0#32
  let v4774 : BitVec 1 := Scalar.cmpi .eq c2_i32_2839 c0_i32_2840
  let c1_i32_2841 : BitVec 32 := 1#32
  let v4775 : BitVec 32 := Scalar.select v4774 c1_i32_2841 c2_i32_2839
  let v4776 : BitVec 32 := Scalar.remsi v4773 v4775
  let c0_i32_2843 : BitVec 32 := 0#32
  let v4778 : BitVec 1 := Scalar.cmpi .slt v4776 c0_i32_2843
  let c0_i32_2844 : BitVec 32 := 0#32
  let v4779 : BitVec 1 := Scalar.cmpi .slt v4775 c0_i32_2844
  let v4780 : BitVec 1 := Scalar.xori v4778 v4779
  let c0_i32_2842 : BitVec 32 := 0#32
  let v4777 : BitVec 1 := Scalar.cmpi .ne v4776 c0_i32_2842
  let v4781 : BitVec 1 := Scalar.andi v4780 v4777
  let v4782 : BitVec 32 := Scalar.addi v4776 v4775
  let v4783 : BitVec 32 := Scalar.select v4781 v4782 v4776
  let c1_i32_2847 : BitVec 32 := 1#32
  let c2_i32_2846 : BitVec 32 := 2#32
  let v4786 : BitVec 32 := Scalar.muli c2_i32_2846 v94
  let v4787 : BitVec 32 := Scalar.subi c1_i32_2847 v4786
  let v4788 : BitVec 32 := Scalar.muli v4783 v4787
  let v4789 : BitVec 32 := Scalar.addi v4785 v4788
  let v4791 : BitVec 32 := Scalar.addi v4790 v4789
  let c1_i32_2853 : BitVec 32 := 1#32
  let v4792 : BitVec 32 := Scalar.muli v4791 c1_i32_2853
  let v4793 : BitVec 32 := Scalar.addi c0_i32_2854 v4792
  v4793.toNat
def k0_dev77 (d0 : Dev nD) : Nat :=
  let c0_i32_2894 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c12_i32_2857 : BitVec 32 := 12#32
  let v4800 : BitVec 32 := Scalar.addi v96 c12_i32_2857
  let c16_i32_2858 : BitVec 32 := 16#32
  let c0_i32_2859 : BitVec 32 := 0#32
  let v4801 : BitVec 1 := Scalar.cmpi .eq c16_i32_2858 c0_i32_2859
  let c1_i32_2860 : BitVec 32 := 1#32
  let v4802 : BitVec 32 := Scalar.select v4801 c1_i32_2860 c16_i32_2858
  let v4803 : BitVec 32 := Scalar.remsi v4800 v4802
  let c0_i32_2862 : BitVec 32 := 0#32
  let v4805 : BitVec 1 := Scalar.cmpi .slt v4803 c0_i32_2862
  let c0_i32_2863 : BitVec 32 := 0#32
  let v4806 : BitVec 1 := Scalar.cmpi .slt v4802 c0_i32_2863
  let v4807 : BitVec 1 := Scalar.xori v4805 v4806
  let c0_i32_2861 : BitVec 32 := 0#32
  let v4804 : BitVec 1 := Scalar.cmpi .ne v4803 c0_i32_2861
  let v4808 : BitVec 1 := Scalar.andi v4807 v4804
  let v4809 : BitVec 32 := Scalar.addi v4803 v4802
  let v4810 : BitVec 32 := Scalar.select v4808 v4809 v4803
  let c0_i32_2867 : BitVec 32 := 0#32
  let v4814 : BitVec 1 := Scalar.cmpi .sgt v4810 c0_i32_2867
  let v4815 : BitVec 32 := Scalar.extui v4814
  let c0_i32_2868 : BitVec 32 := 0#32
  let v4816 : BitVec 1 := Scalar.cmpi .slt v4810 c0_i32_2868
  let v4817 : BitVec 32 := Scalar.extui v4816
  let v4818 : BitVec 32 := Scalar.subi v4815 v4817
  let c4_i32_2866 : BitVec 32 := 4#32
  let c0_i32_2869 : BitVec 32 := 0#32
  let v4819 : BitVec 1 := Scalar.cmpi .sgt c4_i32_2866 c0_i32_2869
  let v4820 : BitVec 32 := Scalar.extui v4819
  let c0_i32_2870 : BitVec 32 := 0#32
  let v4821 : BitVec 1 := Scalar.cmpi .slt c4_i32_2866 c0_i32_2870
  let v4822 : BitVec 32 := Scalar.extui v4821
  let v4823 : BitVec 32 := Scalar.subi v4820 v4822
  let v4824 : BitVec 1 := Scalar.cmpi .ne v4818 v4823
  let v4825 : BitVec 32 := Scalar.remsi v4810 c4_i32_2866
  let c0_i32_2871 : BitVec 32 := 0#32
  let v4826 : BitVec 1 := Scalar.cmpi .ne v4825 c0_i32_2871
  let v4827 : BitVec 1 := Scalar.andi v4824 v4826
  let v4813 : BitVec 32 := Scalar.divsi v4810 c4_i32_2866
  let c1_i32_2872 : BitVec 32 := 1#32
  let v4828 : BitVec 32 := Scalar.subi v4813 c1_i32_2872
  let v4829 : BitVec 32 := Scalar.select v4827 v4828 v4813
  let c8_i32_2888 : BitVec 32 := 8#32
  let v4856 : BitVec 32 := Scalar.muli v4829 c8_i32_2888
  let c2_i32_2885 : BitVec 32 := 2#32
  let c4_i32_2873 : BitVec 32 := 4#32
  let c0_i32_2874 : BitVec 32 := 0#32
  let v4830 : BitVec 1 := Scalar.cmpi .eq c4_i32_2873 c0_i32_2874
  let c1_i32_2875 : BitVec 32 := 1#32
  let v4831 : BitVec 32 := Scalar.select v4830 c1_i32_2875 c4_i32_2873
  let v4832 : BitVec 32 := Scalar.remsi v4810 v4831
  let c0_i32_2877 : BitVec 32 := 0#32
  let v4834 : BitVec 1 := Scalar.cmpi .slt v4832 c0_i32_2877
  let c0_i32_2878 : BitVec 32 := 0#32
  let v4835 : BitVec 1 := Scalar.cmpi .slt v4831 c0_i32_2878
  let v4836 : BitVec 1 := Scalar.xori v4834 v4835
  let c0_i32_2876 : BitVec 32 := 0#32
  let v4833 : BitVec 1 := Scalar.cmpi .ne v4832 c0_i32_2876
  let v4837 : BitVec 1 := Scalar.andi v4836 v4833
  let v4838 : BitVec 32 := Scalar.addi v4832 v4831
  let v4839 : BitVec 32 := Scalar.select v4837 v4838 v4832
  let v4850 : BitVec 32 := Scalar.muli c2_i32_2885 v4839
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v4851 : BitVec 32 := Scalar.addi v4850 v94
  let c2_i32_2879 : BitVec 32 := 2#32
  let c0_i32_2880 : BitVec 32 := 0#32
  let v4840 : BitVec 1 := Scalar.cmpi .eq c2_i32_2879 c0_i32_2880
  let c1_i32_2881 : BitVec 32 := 1#32
  let v4841 : BitVec 32 := Scalar.select v4840 c1_i32_2881 c2_i32_2879
  let v4842 : BitVec 32 := Scalar.remsi v4839 v4841
  let c0_i32_2883 : BitVec 32 := 0#32
  let v4844 : BitVec 1 := Scalar.cmpi .slt v4842 c0_i32_2883
  let c0_i32_2884 : BitVec 32 := 0#32
  let v4845 : BitVec 1 := Scalar.cmpi .slt v4841 c0_i32_2884
  let v4846 : BitVec 1 := Scalar.xori v4844 v4845
  let c0_i32_2882 : BitVec 32 := 0#32
  let v4843 : BitVec 1 := Scalar.cmpi .ne v4842 c0_i32_2882
  let v4847 : BitVec 1 := Scalar.andi v4846 v4843
  let v4848 : BitVec 32 := Scalar.addi v4842 v4841
  let v4849 : BitVec 32 := Scalar.select v4847 v4848 v4842
  let c1_i32_2887 : BitVec 32 := 1#32
  let c2_i32_2886 : BitVec 32 := 2#32
  let v4852 : BitVec 32 := Scalar.muli c2_i32_2886 v94
  let v4853 : BitVec 32 := Scalar.subi c1_i32_2887 v4852
  let v4854 : BitVec 32 := Scalar.muli v4849 v4853
  let v4855 : BitVec 32 := Scalar.addi v4851 v4854
  let v4857 : BitVec 32 := Scalar.addi v4856 v4855
  let c1_i32_2893 : BitVec 32 := 1#32
  let v4858 : BitVec 32 := Scalar.muli v4857 c1_i32_2893
  let v4859 : BitVec 32 := Scalar.addi c0_i32_2894 v4858
  v4859.toNat
def k0_dev78 (d0 : Dev nD) : Nat :=
  let c0_i32_2934 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c13_i32_2897 : BitVec 32 := 13#32
  let v4866 : BitVec 32 := Scalar.addi v96 c13_i32_2897
  let c16_i32_2898 : BitVec 32 := 16#32
  let c0_i32_2899 : BitVec 32 := 0#32
  let v4867 : BitVec 1 := Scalar.cmpi .eq c16_i32_2898 c0_i32_2899
  let c1_i32_2900 : BitVec 32 := 1#32
  let v4868 : BitVec 32 := Scalar.select v4867 c1_i32_2900 c16_i32_2898
  let v4869 : BitVec 32 := Scalar.remsi v4866 v4868
  let c0_i32_2902 : BitVec 32 := 0#32
  let v4871 : BitVec 1 := Scalar.cmpi .slt v4869 c0_i32_2902
  let c0_i32_2903 : BitVec 32 := 0#32
  let v4872 : BitVec 1 := Scalar.cmpi .slt v4868 c0_i32_2903
  let v4873 : BitVec 1 := Scalar.xori v4871 v4872
  let c0_i32_2901 : BitVec 32 := 0#32
  let v4870 : BitVec 1 := Scalar.cmpi .ne v4869 c0_i32_2901
  let v4874 : BitVec 1 := Scalar.andi v4873 v4870
  let v4875 : BitVec 32 := Scalar.addi v4869 v4868
  let v4876 : BitVec 32 := Scalar.select v4874 v4875 v4869
  let c0_i32_2907 : BitVec 32 := 0#32
  let v4880 : BitVec 1 := Scalar.cmpi .sgt v4876 c0_i32_2907
  let v4881 : BitVec 32 := Scalar.extui v4880
  let c0_i32_2908 : BitVec 32 := 0#32
  let v4882 : BitVec 1 := Scalar.cmpi .slt v4876 c0_i32_2908
  let v4883 : BitVec 32 := Scalar.extui v4882
  let v4884 : BitVec 32 := Scalar.subi v4881 v4883
  let c4_i32_2906 : BitVec 32 := 4#32
  let c0_i32_2909 : BitVec 32 := 0#32
  let v4885 : BitVec 1 := Scalar.cmpi .sgt c4_i32_2906 c0_i32_2909
  let v4886 : BitVec 32 := Scalar.extui v4885
  let c0_i32_2910 : BitVec 32 := 0#32
  let v4887 : BitVec 1 := Scalar.cmpi .slt c4_i32_2906 c0_i32_2910
  let v4888 : BitVec 32 := Scalar.extui v4887
  let v4889 : BitVec 32 := Scalar.subi v4886 v4888
  let v4890 : BitVec 1 := Scalar.cmpi .ne v4884 v4889
  let v4891 : BitVec 32 := Scalar.remsi v4876 c4_i32_2906
  let c0_i32_2911 : BitVec 32 := 0#32
  let v4892 : BitVec 1 := Scalar.cmpi .ne v4891 c0_i32_2911
  let v4893 : BitVec 1 := Scalar.andi v4890 v4892
  let v4879 : BitVec 32 := Scalar.divsi v4876 c4_i32_2906
  let c1_i32_2912 : BitVec 32 := 1#32
  let v4894 : BitVec 32 := Scalar.subi v4879 c1_i32_2912
  let v4895 : BitVec 32 := Scalar.select v4893 v4894 v4879
  let c8_i32_2928 : BitVec 32 := 8#32
  let v4922 : BitVec 32 := Scalar.muli v4895 c8_i32_2928
  let c2_i32_2925 : BitVec 32 := 2#32
  let c4_i32_2913 : BitVec 32 := 4#32
  let c0_i32_2914 : BitVec 32 := 0#32
  let v4896 : BitVec 1 := Scalar.cmpi .eq c4_i32_2913 c0_i32_2914
  let c1_i32_2915 : BitVec 32 := 1#32
  let v4897 : BitVec 32 := Scalar.select v4896 c1_i32_2915 c4_i32_2913
  let v4898 : BitVec 32 := Scalar.remsi v4876 v4897
  let c0_i32_2917 : BitVec 32 := 0#32
  let v4900 : BitVec 1 := Scalar.cmpi .slt v4898 c0_i32_2917
  let c0_i32_2918 : BitVec 32 := 0#32
  let v4901 : BitVec 1 := Scalar.cmpi .slt v4897 c0_i32_2918
  let v4902 : BitVec 1 := Scalar.xori v4900 v4901
  let c0_i32_2916 : BitVec 32 := 0#32
  let v4899 : BitVec 1 := Scalar.cmpi .ne v4898 c0_i32_2916
  let v4903 : BitVec 1 := Scalar.andi v4902 v4899
  let v4904 : BitVec 32 := Scalar.addi v4898 v4897
  let v4905 : BitVec 32 := Scalar.select v4903 v4904 v4898
  let v4916 : BitVec 32 := Scalar.muli c2_i32_2925 v4905
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v4917 : BitVec 32 := Scalar.addi v4916 v94
  let c2_i32_2919 : BitVec 32 := 2#32
  let c0_i32_2920 : BitVec 32 := 0#32
  let v4906 : BitVec 1 := Scalar.cmpi .eq c2_i32_2919 c0_i32_2920
  let c1_i32_2921 : BitVec 32 := 1#32
  let v4907 : BitVec 32 := Scalar.select v4906 c1_i32_2921 c2_i32_2919
  let v4908 : BitVec 32 := Scalar.remsi v4905 v4907
  let c0_i32_2923 : BitVec 32 := 0#32
  let v4910 : BitVec 1 := Scalar.cmpi .slt v4908 c0_i32_2923
  let c0_i32_2924 : BitVec 32 := 0#32
  let v4911 : BitVec 1 := Scalar.cmpi .slt v4907 c0_i32_2924
  let v4912 : BitVec 1 := Scalar.xori v4910 v4911
  let c0_i32_2922 : BitVec 32 := 0#32
  let v4909 : BitVec 1 := Scalar.cmpi .ne v4908 c0_i32_2922
  let v4913 : BitVec 1 := Scalar.andi v4912 v4909
  let v4914 : BitVec 32 := Scalar.addi v4908 v4907
  let v4915 : BitVec 32 := Scalar.select v4913 v4914 v4908
  let c1_i32_2927 : BitVec 32 := 1#32
  let c2_i32_2926 : BitVec 32 := 2#32
  let v4918 : BitVec 32 := Scalar.muli c2_i32_2926 v94
  let v4919 : BitVec 32 := Scalar.subi c1_i32_2927 v4918
  let v4920 : BitVec 32 := Scalar.muli v4915 v4919
  let v4921 : BitVec 32 := Scalar.addi v4917 v4920
  let v4923 : BitVec 32 := Scalar.addi v4922 v4921
  let c1_i32_2933 : BitVec 32 := 1#32
  let v4924 : BitVec 32 := Scalar.muli v4923 c1_i32_2933
  let v4925 : BitVec 32 := Scalar.addi c0_i32_2934 v4924
  v4925.toNat
def k0_dev79 (d0 : Dev nD) : Nat :=
  let c0_i32_2974 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c14_i32_2937 : BitVec 32 := 14#32
  let v4932 : BitVec 32 := Scalar.addi v96 c14_i32_2937
  let c16_i32_2938 : BitVec 32 := 16#32
  let c0_i32_2939 : BitVec 32 := 0#32
  let v4933 : BitVec 1 := Scalar.cmpi .eq c16_i32_2938 c0_i32_2939
  let c1_i32_2940 : BitVec 32 := 1#32
  let v4934 : BitVec 32 := Scalar.select v4933 c1_i32_2940 c16_i32_2938
  let v4935 : BitVec 32 := Scalar.remsi v4932 v4934
  let c0_i32_2942 : BitVec 32 := 0#32
  let v4937 : BitVec 1 := Scalar.cmpi .slt v4935 c0_i32_2942
  let c0_i32_2943 : BitVec 32 := 0#32
  let v4938 : BitVec 1 := Scalar.cmpi .slt v4934 c0_i32_2943
  let v4939 : BitVec 1 := Scalar.xori v4937 v4938
  let c0_i32_2941 : BitVec 32 := 0#32
  let v4936 : BitVec 1 := Scalar.cmpi .ne v4935 c0_i32_2941
  let v4940 : BitVec 1 := Scalar.andi v4939 v4936
  let v4941 : BitVec 32 := Scalar.addi v4935 v4934
  let v4942 : BitVec 32 := Scalar.select v4940 v4941 v4935
  let c0_i32_2947 : BitVec 32 := 0#32
  let v4946 : BitVec 1 := Scalar.cmpi .sgt v4942 c0_i32_2947
  let v4947 : BitVec 32 := Scalar.extui v4946
  let c0_i32_2948 : BitVec 32 := 0#32
  let v4948 : BitVec 1 := Scalar.cmpi .slt v4942 c0_i32_2948
  let v4949 : BitVec 32 := Scalar.extui v4948
  let v4950 : BitVec 32 := Scalar.subi v4947 v4949
  let c4_i32_2946 : BitVec 32 := 4#32
  let c0_i32_2949 : BitVec 32 := 0#32
  let v4951 : BitVec 1 := Scalar.cmpi .sgt c4_i32_2946 c0_i32_2949
  let v4952 : BitVec 32 := Scalar.extui v4951
  let c0_i32_2950 : BitVec 32 := 0#32
  let v4953 : BitVec 1 := Scalar.cmpi .slt c4_i32_2946 c0_i32_2950
  let v4954 : BitVec 32 := Scalar.extui v4953
  let v4955 : BitVec 32 := Scalar.subi v4952 v4954
  let v4956 : BitVec 1 := Scalar.cmpi .ne v4950 v4955
  let v4957 : BitVec 32 := Scalar.remsi v4942 c4_i32_2946
  let c0_i32_2951 : BitVec 32 := 0#32
  let v4958 : BitVec 1 := Scalar.cmpi .ne v4957 c0_i32_2951
  let v4959 : BitVec 1 := Scalar.andi v4956 v4958
  let v4945 : BitVec 32 := Scalar.divsi v4942 c4_i32_2946
  let c1_i32_2952 : BitVec 32 := 1#32
  let v4960 : BitVec 32 := Scalar.subi v4945 c1_i32_2952
  let v4961 : BitVec 32 := Scalar.select v4959 v4960 v4945
  let c8_i32_2968 : BitVec 32 := 8#32
  let v4988 : BitVec 32 := Scalar.muli v4961 c8_i32_2968
  let c2_i32_2965 : BitVec 32 := 2#32
  let c4_i32_2953 : BitVec 32 := 4#32
  let c0_i32_2954 : BitVec 32 := 0#32
  let v4962 : BitVec 1 := Scalar.cmpi .eq c4_i32_2953 c0_i32_2954
  let c1_i32_2955 : BitVec 32 := 1#32
  let v4963 : BitVec 32 := Scalar.select v4962 c1_i32_2955 c4_i32_2953
  let v4964 : BitVec 32 := Scalar.remsi v4942 v4963
  let c0_i32_2957 : BitVec 32 := 0#32
  let v4966 : BitVec 1 := Scalar.cmpi .slt v4964 c0_i32_2957
  let c0_i32_2958 : BitVec 32 := 0#32
  let v4967 : BitVec 1 := Scalar.cmpi .slt v4963 c0_i32_2958
  let v4968 : BitVec 1 := Scalar.xori v4966 v4967
  let c0_i32_2956 : BitVec 32 := 0#32
  let v4965 : BitVec 1 := Scalar.cmpi .ne v4964 c0_i32_2956
  let v4969 : BitVec 1 := Scalar.andi v4968 v4965
  let v4970 : BitVec 32 := Scalar.addi v4964 v4963
  let v4971 : BitVec 32 := Scalar.select v4969 v4970 v4964
  let v4982 : BitVec 32 := Scalar.muli c2_i32_2965 v4971
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v4983 : BitVec 32 := Scalar.addi v4982 v94
  let c2_i32_2959 : BitVec 32 := 2#32
  let c0_i32_2960 : BitVec 32 := 0#32
  let v4972 : BitVec 1 := Scalar.cmpi .eq c2_i32_2959 c0_i32_2960
  let c1_i32_2961 : BitVec 32 := 1#32
  let v4973 : BitVec 32 := Scalar.select v4972 c1_i32_2961 c2_i32_2959
  let v4974 : BitVec 32 := Scalar.remsi v4971 v4973
  let c0_i32_2963 : BitVec 32 := 0#32
  let v4976 : BitVec 1 := Scalar.cmpi .slt v4974 c0_i32_2963
  let c0_i32_2964 : BitVec 32 := 0#32
  let v4977 : BitVec 1 := Scalar.cmpi .slt v4973 c0_i32_2964
  let v4978 : BitVec 1 := Scalar.xori v4976 v4977
  let c0_i32_2962 : BitVec 32 := 0#32
  let v4975 : BitVec 1 := Scalar.cmpi .ne v4974 c0_i32_2962
  let v4979 : BitVec 1 := Scalar.andi v4978 v4975
  let v4980 : BitVec 32 := Scalar.addi v4974 v4973
  let v4981 : BitVec 32 := Scalar.select v4979 v4980 v4974
  let c1_i32_2967 : BitVec 32 := 1#32
  let c2_i32_2966 : BitVec 32 := 2#32
  let v4984 : BitVec 32 := Scalar.muli c2_i32_2966 v94
  let v4985 : BitVec 32 := Scalar.subi c1_i32_2967 v4984
  let v4986 : BitVec 32 := Scalar.muli v4981 v4985
  let v4987 : BitVec 32 := Scalar.addi v4983 v4986
  let v4989 : BitVec 32 := Scalar.addi v4988 v4987
  let c1_i32_2973 : BitVec 32 := 1#32
  let v4990 : BitVec 32 := Scalar.muli v4989 c1_i32_2973
  let v4991 : BitVec 32 := Scalar.addi c0_i32_2974 v4990
  v4991.toNat
def k0_dev80 (d0 : Dev nD) : Nat :=
  let c0_i32_3014 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c15_i32_2977 : BitVec 32 := 15#32
  let v4998 : BitVec 32 := Scalar.addi v96 c15_i32_2977
  let c16_i32_2978 : BitVec 32 := 16#32
  let c0_i32_2979 : BitVec 32 := 0#32
  let v4999 : BitVec 1 := Scalar.cmpi .eq c16_i32_2978 c0_i32_2979
  let c1_i32_2980 : BitVec 32 := 1#32
  let v5000 : BitVec 32 := Scalar.select v4999 c1_i32_2980 c16_i32_2978
  let v5001 : BitVec 32 := Scalar.remsi v4998 v5000
  let c0_i32_2982 : BitVec 32 := 0#32
  let v5003 : BitVec 1 := Scalar.cmpi .slt v5001 c0_i32_2982
  let c0_i32_2983 : BitVec 32 := 0#32
  let v5004 : BitVec 1 := Scalar.cmpi .slt v5000 c0_i32_2983
  let v5005 : BitVec 1 := Scalar.xori v5003 v5004
  let c0_i32_2981 : BitVec 32 := 0#32
  let v5002 : BitVec 1 := Scalar.cmpi .ne v5001 c0_i32_2981
  let v5006 : BitVec 1 := Scalar.andi v5005 v5002
  let v5007 : BitVec 32 := Scalar.addi v5001 v5000
  let v5008 : BitVec 32 := Scalar.select v5006 v5007 v5001
  let c0_i32_2987 : BitVec 32 := 0#32
  let v5012 : BitVec 1 := Scalar.cmpi .sgt v5008 c0_i32_2987
  let v5013 : BitVec 32 := Scalar.extui v5012
  let c0_i32_2988 : BitVec 32 := 0#32
  let v5014 : BitVec 1 := Scalar.cmpi .slt v5008 c0_i32_2988
  let v5015 : BitVec 32 := Scalar.extui v5014
  let v5016 : BitVec 32 := Scalar.subi v5013 v5015
  let c4_i32_2986 : BitVec 32 := 4#32
  let c0_i32_2989 : BitVec 32 := 0#32
  let v5017 : BitVec 1 := Scalar.cmpi .sgt c4_i32_2986 c0_i32_2989
  let v5018 : BitVec 32 := Scalar.extui v5017
  let c0_i32_2990 : BitVec 32 := 0#32
  let v5019 : BitVec 1 := Scalar.cmpi .slt c4_i32_2986 c0_i32_2990
  let v5020 : BitVec 32 := Scalar.extui v5019
  let v5021 : BitVec 32 := Scalar.subi v5018 v5020
  let v5022 : BitVec 1 := Scalar.cmpi .ne v5016 v5021
  let v5023 : BitVec 32 := Scalar.remsi v5008 c4_i32_2986
  let c0_i32_2991 : BitVec 32 := 0#32
  let v5024 : BitVec 1 := Scalar.cmpi .ne v5023 c0_i32_2991
  let v5025 : BitVec 1 := Scalar.andi v5022 v5024
  let v5011 : BitVec 32 := Scalar.divsi v5008 c4_i32_2986
  let c1_i32_2992 : BitVec 32 := 1#32
  let v5026 : BitVec 32 := Scalar.subi v5011 c1_i32_2992
  let v5027 : BitVec 32 := Scalar.select v5025 v5026 v5011
  let c8_i32_3008 : BitVec 32 := 8#32
  let v5054 : BitVec 32 := Scalar.muli v5027 c8_i32_3008
  let c2_i32_3005 : BitVec 32 := 2#32
  let c4_i32_2993 : BitVec 32 := 4#32
  let c0_i32_2994 : BitVec 32 := 0#32
  let v5028 : BitVec 1 := Scalar.cmpi .eq c4_i32_2993 c0_i32_2994
  let c1_i32_2995 : BitVec 32 := 1#32
  let v5029 : BitVec 32 := Scalar.select v5028 c1_i32_2995 c4_i32_2993
  let v5030 : BitVec 32 := Scalar.remsi v5008 v5029
  let c0_i32_2997 : BitVec 32 := 0#32
  let v5032 : BitVec 1 := Scalar.cmpi .slt v5030 c0_i32_2997
  let c0_i32_2998 : BitVec 32 := 0#32
  let v5033 : BitVec 1 := Scalar.cmpi .slt v5029 c0_i32_2998
  let v5034 : BitVec 1 := Scalar.xori v5032 v5033
  let c0_i32_2996 : BitVec 32 := 0#32
  let v5031 : BitVec 1 := Scalar.cmpi .ne v5030 c0_i32_2996
  let v5035 : BitVec 1 := Scalar.andi v5034 v5031
  let v5036 : BitVec 32 := Scalar.addi v5030 v5029
  let v5037 : BitVec 32 := Scalar.select v5035 v5036 v5030
  let v5048 : BitVec 32 := Scalar.muli c2_i32_3005 v5037
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v5049 : BitVec 32 := Scalar.addi v5048 v94
  let c2_i32_2999 : BitVec 32 := 2#32
  let c0_i32_3000 : BitVec 32 := 0#32
  let v5038 : BitVec 1 := Scalar.cmpi .eq c2_i32_2999 c0_i32_3000
  let c1_i32_3001 : BitVec 32 := 1#32
  let v5039 : BitVec 32 := Scalar.select v5038 c1_i32_3001 c2_i32_2999
  let v5040 : BitVec 32 := Scalar.remsi v5037 v5039
  let c0_i32_3003 : BitVec 32 := 0#32
  let v5042 : BitVec 1 := Scalar.cmpi .slt v5040 c0_i32_3003
  let c0_i32_3004 : BitVec 32 := 0#32
  let v5043 : BitVec 1 := Scalar.cmpi .slt v5039 c0_i32_3004
  let v5044 : BitVec 1 := Scalar.xori v5042 v5043
  let c0_i32_3002 : BitVec 32 := 0#32
  let v5041 : BitVec 1 := Scalar.cmpi .ne v5040 c0_i32_3002
  let v5045 : BitVec 1 := Scalar.andi v5044 v5041
  let v5046 : BitVec 32 := Scalar.addi v5040 v5039
  let v5047 : BitVec 32 := Scalar.select v5045 v5046 v5040
  let c1_i32_3007 : BitVec 32 := 1#32
  let c2_i32_3006 : BitVec 32 := 2#32
  let v5050 : BitVec 32 := Scalar.muli c2_i32_3006 v94
  let v5051 : BitVec 32 := Scalar.subi c1_i32_3007 v5050
  let v5052 : BitVec 32 := Scalar.muli v5047 v5051
  let v5053 : BitVec 32 := Scalar.addi v5049 v5052
  let v5055 : BitVec 32 := Scalar.addi v5054 v5053
  let c1_i32_3013 : BitVec 32 := 1#32
  let v5056 : BitVec 32 := Scalar.muli v5055 c1_i32_3013
  let v5057 : BitVec 32 := Scalar.addi c0_i32_3014 v5056
  v5057.toNat
def k0_off21 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c32_i32_3017 : BitVec 32 := 32#32
  let v5064 : BitVec 32 := Scalar.muli v96 c32_i32_3017
  let v5065 : Index := Scalar.indexCast v5064
  let c0_3018 : Index := 0#32
  ![v5065.toNat, 0]
def k0_off22 (d0 : Dev nD) (c1_i32_3021 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let v5071 : BitVec 32 := Scalar.addi v96 c1_i32_3021
  let c16_i32_3022 : BitVec 32 := 16#32
  let c0_i32_3023 : BitVec 32 := 0#32
  let v5072 : BitVec 1 := Scalar.cmpi .eq c16_i32_3022 c0_i32_3023
  let c1_i32_3024 : BitVec 32 := 1#32
  let v5073 : BitVec 32 := Scalar.select v5072 c1_i32_3024 c16_i32_3022
  let v5074 : BitVec 32 := Scalar.remsi v5071 v5073
  let c0_i32_3026 : BitVec 32 := 0#32
  let v5076 : BitVec 1 := Scalar.cmpi .slt v5074 c0_i32_3026
  let c0_i32_3027 : BitVec 32 := 0#32
  let v5077 : BitVec 1 := Scalar.cmpi .slt v5073 c0_i32_3027
  let v5078 : BitVec 1 := Scalar.xori v5076 v5077
  let c0_i32_3025 : BitVec 32 := 0#32
  let v5075 : BitVec 1 := Scalar.cmpi .ne v5074 c0_i32_3025
  let v5079 : BitVec 1 := Scalar.andi v5078 v5075
  let v5080 : BitVec 32 := Scalar.addi v5074 v5073
  let v5081 : BitVec 32 := Scalar.select v5079 v5080 v5074
  let c32_i32_3063 : BitVec 32 := 32#32
  let v5135 : BitVec 32 := Scalar.muli v5081 c32_i32_3063
  let v5136 : Index := Scalar.indexCast v5135
  let c0_3064 : Index := 0#32
  ![v5136.toNat, 0]
def k0_dev81 (d0 : Dev nD) : Nat :=
  let c0_i32_3751 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c1_i32_3715 : BitVec 32 := 1#32
  let v6156 : BitVec 32 := Scalar.addi v96 c1_i32_3715
  let c16_i32_3716 : BitVec 32 := 16#32
  let c0_i32_3717 : BitVec 32 := 0#32
  let v6157 : BitVec 1 := Scalar.cmpi .eq c16_i32_3716 c0_i32_3717
  let c1_i32_3718 : BitVec 32 := 1#32
  let v6158 : BitVec 32 := Scalar.select v6157 c1_i32_3718 c16_i32_3716
  let v6159 : BitVec 32 := Scalar.remsi v6156 v6158
  let c0_i32_3720 : BitVec 32 := 0#32
  let v6161 : BitVec 1 := Scalar.cmpi .slt v6159 c0_i32_3720
  let c0_i32_3721 : BitVec 32 := 0#32
  let v6162 : BitVec 1 := Scalar.cmpi .slt v6158 c0_i32_3721
  let v6163 : BitVec 1 := Scalar.xori v6161 v6162
  let c0_i32_3719 : BitVec 32 := 0#32
  let v6160 : BitVec 1 := Scalar.cmpi .ne v6159 c0_i32_3719
  let v6164 : BitVec 1 := Scalar.andi v6163 v6160
  let v6165 : BitVec 32 := Scalar.addi v6159 v6158
  let v6166 : BitVec 32 := Scalar.select v6164 v6165 v6159
  let c0_i32_3724 : BitVec 32 := 0#32
  let v6169 : BitVec 1 := Scalar.cmpi .sgt v6166 c0_i32_3724
  let v6170 : BitVec 32 := Scalar.extui v6169
  let c0_i32_3725 : BitVec 32 := 0#32
  let v6171 : BitVec 1 := Scalar.cmpi .slt v6166 c0_i32_3725
  let v6172 : BitVec 32 := Scalar.extui v6171
  let v6173 : BitVec 32 := Scalar.subi v6170 v6172
  let c4_i32_3723 : BitVec 32 := 4#32
  let c0_i32_3726 : BitVec 32 := 0#32
  let v6174 : BitVec 1 := Scalar.cmpi .sgt c4_i32_3723 c0_i32_3726
  let v6175 : BitVec 32 := Scalar.extui v6174
  let c0_i32_3727 : BitVec 32 := 0#32
  let v6176 : BitVec 1 := Scalar.cmpi .slt c4_i32_3723 c0_i32_3727
  let v6177 : BitVec 32 := Scalar.extui v6176
  let v6178 : BitVec 32 := Scalar.subi v6175 v6177
  let v6179 : BitVec 1 := Scalar.cmpi .ne v6173 v6178
  let v6180 : BitVec 32 := Scalar.remsi v6166 c4_i32_3723
  let c0_i32_3728 : BitVec 32 := 0#32
  let v6181 : BitVec 1 := Scalar.cmpi .ne v6180 c0_i32_3728
  let v6182 : BitVec 1 := Scalar.andi v6179 v6181
  let v6168 : BitVec 32 := Scalar.divsi v6166 c4_i32_3723
  let c1_i32_3729 : BitVec 32 := 1#32
  let v6183 : BitVec 32 := Scalar.subi v6168 c1_i32_3729
  let v6184 : BitVec 32 := Scalar.select v6182 v6183 v6168
  let c8_i32_3745 : BitVec 32 := 8#32
  let v6211 : BitVec 32 := Scalar.muli v6184 c8_i32_3745
  let c2_i32_3742 : BitVec 32 := 2#32
  let c4_i32_3730 : BitVec 32 := 4#32
  let c0_i32_3731 : BitVec 32 := 0#32
  let v6185 : BitVec 1 := Scalar.cmpi .eq c4_i32_3730 c0_i32_3731
  let c1_i32_3732 : BitVec 32 := 1#32
  let v6186 : BitVec 32 := Scalar.select v6185 c1_i32_3732 c4_i32_3730
  let v6187 : BitVec 32 := Scalar.remsi v6166 v6186
  let c0_i32_3734 : BitVec 32 := 0#32
  let v6189 : BitVec 1 := Scalar.cmpi .slt v6187 c0_i32_3734
  let c0_i32_3735 : BitVec 32 := 0#32
  let v6190 : BitVec 1 := Scalar.cmpi .slt v6186 c0_i32_3735
  let v6191 : BitVec 1 := Scalar.xori v6189 v6190
  let c0_i32_3733 : BitVec 32 := 0#32
  let v6188 : BitVec 1 := Scalar.cmpi .ne v6187 c0_i32_3733
  let v6192 : BitVec 1 := Scalar.andi v6191 v6188
  let v6193 : BitVec 32 := Scalar.addi v6187 v6186
  let v6194 : BitVec 32 := Scalar.select v6192 v6193 v6187
  let v6205 : BitVec 32 := Scalar.muli c2_i32_3742 v6194
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v6206 : BitVec 32 := Scalar.addi v6205 v94
  let c2_i32_3736 : BitVec 32 := 2#32
  let c0_i32_3737 : BitVec 32 := 0#32
  let v6195 : BitVec 1 := Scalar.cmpi .eq c2_i32_3736 c0_i32_3737
  let c1_i32_3738 : BitVec 32 := 1#32
  let v6196 : BitVec 32 := Scalar.select v6195 c1_i32_3738 c2_i32_3736
  let v6197 : BitVec 32 := Scalar.remsi v6194 v6196
  let c0_i32_3740 : BitVec 32 := 0#32
  let v6199 : BitVec 1 := Scalar.cmpi .slt v6197 c0_i32_3740
  let c0_i32_3741 : BitVec 32 := 0#32
  let v6200 : BitVec 1 := Scalar.cmpi .slt v6196 c0_i32_3741
  let v6201 : BitVec 1 := Scalar.xori v6199 v6200
  let c0_i32_3739 : BitVec 32 := 0#32
  let v6198 : BitVec 1 := Scalar.cmpi .ne v6197 c0_i32_3739
  let v6202 : BitVec 1 := Scalar.andi v6201 v6198
  let v6203 : BitVec 32 := Scalar.addi v6197 v6196
  let v6204 : BitVec 32 := Scalar.select v6202 v6203 v6197
  let c1_i32_3744 : BitVec 32 := 1#32
  let c2_i32_3743 : BitVec 32 := 2#32
  let v6207 : BitVec 32 := Scalar.muli c2_i32_3743 v94
  let v6208 : BitVec 32 := Scalar.subi c1_i32_3744 v6207
  let v6209 : BitVec 32 := Scalar.muli v6204 v6208
  let v6210 : BitVec 32 := Scalar.addi v6206 v6209
  let v6212 : BitVec 32 := Scalar.addi v6211 v6210
  let c1_i32_3750 : BitVec 32 := 1#32
  let v6213 : BitVec 32 := Scalar.muli v6212 c1_i32_3750
  let v6214 : BitVec 32 := Scalar.addi c0_i32_3751 v6213
  v6214.toNat
def k0_dev82 (d0 : Dev nD) : Nat :=
  let c0_i32_3791 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c2_i32_3755 : BitVec 32 := 2#32
  let v6221 : BitVec 32 := Scalar.addi v96 c2_i32_3755
  let c16_i32_3756 : BitVec 32 := 16#32
  let c0_i32_3757 : BitVec 32 := 0#32
  let v6222 : BitVec 1 := Scalar.cmpi .eq c16_i32_3756 c0_i32_3757
  let c1_i32_3758 : BitVec 32 := 1#32
  let v6223 : BitVec 32 := Scalar.select v6222 c1_i32_3758 c16_i32_3756
  let v6224 : BitVec 32 := Scalar.remsi v6221 v6223
  let c0_i32_3760 : BitVec 32 := 0#32
  let v6226 : BitVec 1 := Scalar.cmpi .slt v6224 c0_i32_3760
  let c0_i32_3761 : BitVec 32 := 0#32
  let v6227 : BitVec 1 := Scalar.cmpi .slt v6223 c0_i32_3761
  let v6228 : BitVec 1 := Scalar.xori v6226 v6227
  let c0_i32_3759 : BitVec 32 := 0#32
  let v6225 : BitVec 1 := Scalar.cmpi .ne v6224 c0_i32_3759
  let v6229 : BitVec 1 := Scalar.andi v6228 v6225
  let v6230 : BitVec 32 := Scalar.addi v6224 v6223
  let v6231 : BitVec 32 := Scalar.select v6229 v6230 v6224
  let c0_i32_3764 : BitVec 32 := 0#32
  let v6234 : BitVec 1 := Scalar.cmpi .sgt v6231 c0_i32_3764
  let v6235 : BitVec 32 := Scalar.extui v6234
  let c0_i32_3765 : BitVec 32 := 0#32
  let v6236 : BitVec 1 := Scalar.cmpi .slt v6231 c0_i32_3765
  let v6237 : BitVec 32 := Scalar.extui v6236
  let v6238 : BitVec 32 := Scalar.subi v6235 v6237
  let c4_i32_3763 : BitVec 32 := 4#32
  let c0_i32_3766 : BitVec 32 := 0#32
  let v6239 : BitVec 1 := Scalar.cmpi .sgt c4_i32_3763 c0_i32_3766
  let v6240 : BitVec 32 := Scalar.extui v6239
  let c0_i32_3767 : BitVec 32 := 0#32
  let v6241 : BitVec 1 := Scalar.cmpi .slt c4_i32_3763 c0_i32_3767
  let v6242 : BitVec 32 := Scalar.extui v6241
  let v6243 : BitVec 32 := Scalar.subi v6240 v6242
  let v6244 : BitVec 1 := Scalar.cmpi .ne v6238 v6243
  let v6245 : BitVec 32 := Scalar.remsi v6231 c4_i32_3763
  let c0_i32_3768 : BitVec 32 := 0#32
  let v6246 : BitVec 1 := Scalar.cmpi .ne v6245 c0_i32_3768
  let v6247 : BitVec 1 := Scalar.andi v6244 v6246
  let v6233 : BitVec 32 := Scalar.divsi v6231 c4_i32_3763
  let c1_i32_3769 : BitVec 32 := 1#32
  let v6248 : BitVec 32 := Scalar.subi v6233 c1_i32_3769
  let v6249 : BitVec 32 := Scalar.select v6247 v6248 v6233
  let c8_i32_3785 : BitVec 32 := 8#32
  let v6276 : BitVec 32 := Scalar.muli v6249 c8_i32_3785
  let c2_i32_3782 : BitVec 32 := 2#32
  let c4_i32_3770 : BitVec 32 := 4#32
  let c0_i32_3771 : BitVec 32 := 0#32
  let v6250 : BitVec 1 := Scalar.cmpi .eq c4_i32_3770 c0_i32_3771
  let c1_i32_3772 : BitVec 32 := 1#32
  let v6251 : BitVec 32 := Scalar.select v6250 c1_i32_3772 c4_i32_3770
  let v6252 : BitVec 32 := Scalar.remsi v6231 v6251
  let c0_i32_3774 : BitVec 32 := 0#32
  let v6254 : BitVec 1 := Scalar.cmpi .slt v6252 c0_i32_3774
  let c0_i32_3775 : BitVec 32 := 0#32
  let v6255 : BitVec 1 := Scalar.cmpi .slt v6251 c0_i32_3775
  let v6256 : BitVec 1 := Scalar.xori v6254 v6255
  let c0_i32_3773 : BitVec 32 := 0#32
  let v6253 : BitVec 1 := Scalar.cmpi .ne v6252 c0_i32_3773
  let v6257 : BitVec 1 := Scalar.andi v6256 v6253
  let v6258 : BitVec 32 := Scalar.addi v6252 v6251
  let v6259 : BitVec 32 := Scalar.select v6257 v6258 v6252
  let v6270 : BitVec 32 := Scalar.muli c2_i32_3782 v6259
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v6271 : BitVec 32 := Scalar.addi v6270 v94
  let c2_i32_3776 : BitVec 32 := 2#32
  let c0_i32_3777 : BitVec 32 := 0#32
  let v6260 : BitVec 1 := Scalar.cmpi .eq c2_i32_3776 c0_i32_3777
  let c1_i32_3778 : BitVec 32 := 1#32
  let v6261 : BitVec 32 := Scalar.select v6260 c1_i32_3778 c2_i32_3776
  let v6262 : BitVec 32 := Scalar.remsi v6259 v6261
  let c0_i32_3780 : BitVec 32 := 0#32
  let v6264 : BitVec 1 := Scalar.cmpi .slt v6262 c0_i32_3780
  let c0_i32_3781 : BitVec 32 := 0#32
  let v6265 : BitVec 1 := Scalar.cmpi .slt v6261 c0_i32_3781
  let v6266 : BitVec 1 := Scalar.xori v6264 v6265
  let c0_i32_3779 : BitVec 32 := 0#32
  let v6263 : BitVec 1 := Scalar.cmpi .ne v6262 c0_i32_3779
  let v6267 : BitVec 1 := Scalar.andi v6266 v6263
  let v6268 : BitVec 32 := Scalar.addi v6262 v6261
  let v6269 : BitVec 32 := Scalar.select v6267 v6268 v6262
  let c1_i32_3784 : BitVec 32 := 1#32
  let c2_i32_3783 : BitVec 32 := 2#32
  let v6272 : BitVec 32 := Scalar.muli c2_i32_3783 v94
  let v6273 : BitVec 32 := Scalar.subi c1_i32_3784 v6272
  let v6274 : BitVec 32 := Scalar.muli v6269 v6273
  let v6275 : BitVec 32 := Scalar.addi v6271 v6274
  let v6277 : BitVec 32 := Scalar.addi v6276 v6275
  let c1_i32_3790 : BitVec 32 := 1#32
  let v6278 : BitVec 32 := Scalar.muli v6277 c1_i32_3790
  let v6279 : BitVec 32 := Scalar.addi c0_i32_3791 v6278
  v6279.toNat
def k0_dev83 (d0 : Dev nD) : Nat :=
  let c0_i32_3831 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c3_i32_3795 : BitVec 32 := 3#32
  let v6286 : BitVec 32 := Scalar.addi v96 c3_i32_3795
  let c16_i32_3796 : BitVec 32 := 16#32
  let c0_i32_3797 : BitVec 32 := 0#32
  let v6287 : BitVec 1 := Scalar.cmpi .eq c16_i32_3796 c0_i32_3797
  let c1_i32_3798 : BitVec 32 := 1#32
  let v6288 : BitVec 32 := Scalar.select v6287 c1_i32_3798 c16_i32_3796
  let v6289 : BitVec 32 := Scalar.remsi v6286 v6288
  let c0_i32_3800 : BitVec 32 := 0#32
  let v6291 : BitVec 1 := Scalar.cmpi .slt v6289 c0_i32_3800
  let c0_i32_3801 : BitVec 32 := 0#32
  let v6292 : BitVec 1 := Scalar.cmpi .slt v6288 c0_i32_3801
  let v6293 : BitVec 1 := Scalar.xori v6291 v6292
  let c0_i32_3799 : BitVec 32 := 0#32
  let v6290 : BitVec 1 := Scalar.cmpi .ne v6289 c0_i32_3799
  let v6294 : BitVec 1 := Scalar.andi v6293 v6290
  let v6295 : BitVec 32 := Scalar.addi v6289 v6288
  let v6296 : BitVec 32 := Scalar.select v6294 v6295 v6289
  let c0_i32_3804 : BitVec 32 := 0#32
  let v6299 : BitVec 1 := Scalar.cmpi .sgt v6296 c0_i32_3804
  let v6300 : BitVec 32 := Scalar.extui v6299
  let c0_i32_3805 : BitVec 32 := 0#32
  let v6301 : BitVec 1 := Scalar.cmpi .slt v6296 c0_i32_3805
  let v6302 : BitVec 32 := Scalar.extui v6301
  let v6303 : BitVec 32 := Scalar.subi v6300 v6302
  let c4_i32_3803 : BitVec 32 := 4#32
  let c0_i32_3806 : BitVec 32 := 0#32
  let v6304 : BitVec 1 := Scalar.cmpi .sgt c4_i32_3803 c0_i32_3806
  let v6305 : BitVec 32 := Scalar.extui v6304
  let c0_i32_3807 : BitVec 32 := 0#32
  let v6306 : BitVec 1 := Scalar.cmpi .slt c4_i32_3803 c0_i32_3807
  let v6307 : BitVec 32 := Scalar.extui v6306
  let v6308 : BitVec 32 := Scalar.subi v6305 v6307
  let v6309 : BitVec 1 := Scalar.cmpi .ne v6303 v6308
  let v6310 : BitVec 32 := Scalar.remsi v6296 c4_i32_3803
  let c0_i32_3808 : BitVec 32 := 0#32
  let v6311 : BitVec 1 := Scalar.cmpi .ne v6310 c0_i32_3808
  let v6312 : BitVec 1 := Scalar.andi v6309 v6311
  let v6298 : BitVec 32 := Scalar.divsi v6296 c4_i32_3803
  let c1_i32_3809 : BitVec 32 := 1#32
  let v6313 : BitVec 32 := Scalar.subi v6298 c1_i32_3809
  let v6314 : BitVec 32 := Scalar.select v6312 v6313 v6298
  let c8_i32_3825 : BitVec 32 := 8#32
  let v6341 : BitVec 32 := Scalar.muli v6314 c8_i32_3825
  let c2_i32_3822 : BitVec 32 := 2#32
  let c4_i32_3810 : BitVec 32 := 4#32
  let c0_i32_3811 : BitVec 32 := 0#32
  let v6315 : BitVec 1 := Scalar.cmpi .eq c4_i32_3810 c0_i32_3811
  let c1_i32_3812 : BitVec 32 := 1#32
  let v6316 : BitVec 32 := Scalar.select v6315 c1_i32_3812 c4_i32_3810
  let v6317 : BitVec 32 := Scalar.remsi v6296 v6316
  let c0_i32_3814 : BitVec 32 := 0#32
  let v6319 : BitVec 1 := Scalar.cmpi .slt v6317 c0_i32_3814
  let c0_i32_3815 : BitVec 32 := 0#32
  let v6320 : BitVec 1 := Scalar.cmpi .slt v6316 c0_i32_3815
  let v6321 : BitVec 1 := Scalar.xori v6319 v6320
  let c0_i32_3813 : BitVec 32 := 0#32
  let v6318 : BitVec 1 := Scalar.cmpi .ne v6317 c0_i32_3813
  let v6322 : BitVec 1 := Scalar.andi v6321 v6318
  let v6323 : BitVec 32 := Scalar.addi v6317 v6316
  let v6324 : BitVec 32 := Scalar.select v6322 v6323 v6317
  let v6335 : BitVec 32 := Scalar.muli c2_i32_3822 v6324
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v6336 : BitVec 32 := Scalar.addi v6335 v94
  let c2_i32_3816 : BitVec 32 := 2#32
  let c0_i32_3817 : BitVec 32 := 0#32
  let v6325 : BitVec 1 := Scalar.cmpi .eq c2_i32_3816 c0_i32_3817
  let c1_i32_3818 : BitVec 32 := 1#32
  let v6326 : BitVec 32 := Scalar.select v6325 c1_i32_3818 c2_i32_3816
  let v6327 : BitVec 32 := Scalar.remsi v6324 v6326
  let c0_i32_3820 : BitVec 32 := 0#32
  let v6329 : BitVec 1 := Scalar.cmpi .slt v6327 c0_i32_3820
  let c0_i32_3821 : BitVec 32 := 0#32
  let v6330 : BitVec 1 := Scalar.cmpi .slt v6326 c0_i32_3821
  let v6331 : BitVec 1 := Scalar.xori v6329 v6330
  let c0_i32_3819 : BitVec 32 := 0#32
  let v6328 : BitVec 1 := Scalar.cmpi .ne v6327 c0_i32_3819
  let v6332 : BitVec 1 := Scalar.andi v6331 v6328
  let v6333 : BitVec 32 := Scalar.addi v6327 v6326
  let v6334 : BitVec 32 := Scalar.select v6332 v6333 v6327
  let c1_i32_3824 : BitVec 32 := 1#32
  let c2_i32_3823 : BitVec 32 := 2#32
  let v6337 : BitVec 32 := Scalar.muli c2_i32_3823 v94
  let v6338 : BitVec 32 := Scalar.subi c1_i32_3824 v6337
  let v6339 : BitVec 32 := Scalar.muli v6334 v6338
  let v6340 : BitVec 32 := Scalar.addi v6336 v6339
  let v6342 : BitVec 32 := Scalar.addi v6341 v6340
  let c1_i32_3830 : BitVec 32 := 1#32
  let v6343 : BitVec 32 := Scalar.muli v6342 c1_i32_3830
  let v6344 : BitVec 32 := Scalar.addi c0_i32_3831 v6343
  v6344.toNat
def k0_dev84 (d0 : Dev nD) : Nat :=
  let c0_i32_3871 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c4_i32_3835 : BitVec 32 := 4#32
  let v6351 : BitVec 32 := Scalar.addi v96 c4_i32_3835
  let c16_i32_3836 : BitVec 32 := 16#32
  let c0_i32_3837 : BitVec 32 := 0#32
  let v6352 : BitVec 1 := Scalar.cmpi .eq c16_i32_3836 c0_i32_3837
  let c1_i32_3838 : BitVec 32 := 1#32
  let v6353 : BitVec 32 := Scalar.select v6352 c1_i32_3838 c16_i32_3836
  let v6354 : BitVec 32 := Scalar.remsi v6351 v6353
  let c0_i32_3840 : BitVec 32 := 0#32
  let v6356 : BitVec 1 := Scalar.cmpi .slt v6354 c0_i32_3840
  let c0_i32_3841 : BitVec 32 := 0#32
  let v6357 : BitVec 1 := Scalar.cmpi .slt v6353 c0_i32_3841
  let v6358 : BitVec 1 := Scalar.xori v6356 v6357
  let c0_i32_3839 : BitVec 32 := 0#32
  let v6355 : BitVec 1 := Scalar.cmpi .ne v6354 c0_i32_3839
  let v6359 : BitVec 1 := Scalar.andi v6358 v6355
  let v6360 : BitVec 32 := Scalar.addi v6354 v6353
  let v6361 : BitVec 32 := Scalar.select v6359 v6360 v6354
  let c0_i32_3844 : BitVec 32 := 0#32
  let v6364 : BitVec 1 := Scalar.cmpi .sgt v6361 c0_i32_3844
  let v6365 : BitVec 32 := Scalar.extui v6364
  let c0_i32_3845 : BitVec 32 := 0#32
  let v6366 : BitVec 1 := Scalar.cmpi .slt v6361 c0_i32_3845
  let v6367 : BitVec 32 := Scalar.extui v6366
  let v6368 : BitVec 32 := Scalar.subi v6365 v6367
  let c4_i32_3843 : BitVec 32 := 4#32
  let c0_i32_3846 : BitVec 32 := 0#32
  let v6369 : BitVec 1 := Scalar.cmpi .sgt c4_i32_3843 c0_i32_3846
  let v6370 : BitVec 32 := Scalar.extui v6369
  let c0_i32_3847 : BitVec 32 := 0#32
  let v6371 : BitVec 1 := Scalar.cmpi .slt c4_i32_3843 c0_i32_3847
  let v6372 : BitVec 32 := Scalar.extui v6371
  let v6373 : BitVec 32 := Scalar.subi v6370 v6372
  let v6374 : BitVec 1 := Scalar.cmpi .ne v6368 v6373
  let v6375 : BitVec 32 := Scalar.remsi v6361 c4_i32_3843
  let c0_i32_3848 : BitVec 32 := 0#32
  let v6376 : BitVec 1 := Scalar.cmpi .ne v6375 c0_i32_3848
  let v6377 : BitVec 1 := Scalar.andi v6374 v6376
  let v6363 : BitVec 32 := Scalar.divsi v6361 c4_i32_3843
  let c1_i32_3849 : BitVec 32 := 1#32
  let v6378 : BitVec 32 := Scalar.subi v6363 c1_i32_3849
  let v6379 : BitVec 32 := Scalar.select v6377 v6378 v6363
  let c8_i32_3865 : BitVec 32 := 8#32
  let v6406 : BitVec 32 := Scalar.muli v6379 c8_i32_3865
  let c2_i32_3862 : BitVec 32 := 2#32
  let c4_i32_3850 : BitVec 32 := 4#32
  let c0_i32_3851 : BitVec 32 := 0#32
  let v6380 : BitVec 1 := Scalar.cmpi .eq c4_i32_3850 c0_i32_3851
  let c1_i32_3852 : BitVec 32 := 1#32
  let v6381 : BitVec 32 := Scalar.select v6380 c1_i32_3852 c4_i32_3850
  let v6382 : BitVec 32 := Scalar.remsi v6361 v6381
  let c0_i32_3854 : BitVec 32 := 0#32
  let v6384 : BitVec 1 := Scalar.cmpi .slt v6382 c0_i32_3854
  let c0_i32_3855 : BitVec 32 := 0#32
  let v6385 : BitVec 1 := Scalar.cmpi .slt v6381 c0_i32_3855
  let v6386 : BitVec 1 := Scalar.xori v6384 v6385
  let c0_i32_3853 : BitVec 32 := 0#32
  let v6383 : BitVec 1 := Scalar.cmpi .ne v6382 c0_i32_3853
  let v6387 : BitVec 1 := Scalar.andi v6386 v6383
  let v6388 : BitVec 32 := Scalar.addi v6382 v6381
  let v6389 : BitVec 32 := Scalar.select v6387 v6388 v6382
  let v6400 : BitVec 32 := Scalar.muli c2_i32_3862 v6389
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v6401 : BitVec 32 := Scalar.addi v6400 v94
  let c2_i32_3856 : BitVec 32 := 2#32
  let c0_i32_3857 : BitVec 32 := 0#32
  let v6390 : BitVec 1 := Scalar.cmpi .eq c2_i32_3856 c0_i32_3857
  let c1_i32_3858 : BitVec 32 := 1#32
  let v6391 : BitVec 32 := Scalar.select v6390 c1_i32_3858 c2_i32_3856
  let v6392 : BitVec 32 := Scalar.remsi v6389 v6391
  let c0_i32_3860 : BitVec 32 := 0#32
  let v6394 : BitVec 1 := Scalar.cmpi .slt v6392 c0_i32_3860
  let c0_i32_3861 : BitVec 32 := 0#32
  let v6395 : BitVec 1 := Scalar.cmpi .slt v6391 c0_i32_3861
  let v6396 : BitVec 1 := Scalar.xori v6394 v6395
  let c0_i32_3859 : BitVec 32 := 0#32
  let v6393 : BitVec 1 := Scalar.cmpi .ne v6392 c0_i32_3859
  let v6397 : BitVec 1 := Scalar.andi v6396 v6393
  let v6398 : BitVec 32 := Scalar.addi v6392 v6391
  let v6399 : BitVec 32 := Scalar.select v6397 v6398 v6392
  let c1_i32_3864 : BitVec 32 := 1#32
  let c2_i32_3863 : BitVec 32 := 2#32
  let v6402 : BitVec 32 := Scalar.muli c2_i32_3863 v94
  let v6403 : BitVec 32 := Scalar.subi c1_i32_3864 v6402
  let v6404 : BitVec 32 := Scalar.muli v6399 v6403
  let v6405 : BitVec 32 := Scalar.addi v6401 v6404
  let v6407 : BitVec 32 := Scalar.addi v6406 v6405
  let c1_i32_3870 : BitVec 32 := 1#32
  let v6408 : BitVec 32 := Scalar.muli v6407 c1_i32_3870
  let v6409 : BitVec 32 := Scalar.addi c0_i32_3871 v6408
  v6409.toNat
def k0_dev85 (d0 : Dev nD) : Nat :=
  let c0_i32_3911 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c5_i32_3875 : BitVec 32 := 5#32
  let v6416 : BitVec 32 := Scalar.addi v96 c5_i32_3875
  let c16_i32_3876 : BitVec 32 := 16#32
  let c0_i32_3877 : BitVec 32 := 0#32
  let v6417 : BitVec 1 := Scalar.cmpi .eq c16_i32_3876 c0_i32_3877
  let c1_i32_3878 : BitVec 32 := 1#32
  let v6418 : BitVec 32 := Scalar.select v6417 c1_i32_3878 c16_i32_3876
  let v6419 : BitVec 32 := Scalar.remsi v6416 v6418
  let c0_i32_3880 : BitVec 32 := 0#32
  let v6421 : BitVec 1 := Scalar.cmpi .slt v6419 c0_i32_3880
  let c0_i32_3881 : BitVec 32 := 0#32
  let v6422 : BitVec 1 := Scalar.cmpi .slt v6418 c0_i32_3881
  let v6423 : BitVec 1 := Scalar.xori v6421 v6422
  let c0_i32_3879 : BitVec 32 := 0#32
  let v6420 : BitVec 1 := Scalar.cmpi .ne v6419 c0_i32_3879
  let v6424 : BitVec 1 := Scalar.andi v6423 v6420
  let v6425 : BitVec 32 := Scalar.addi v6419 v6418
  let v6426 : BitVec 32 := Scalar.select v6424 v6425 v6419
  let c0_i32_3884 : BitVec 32 := 0#32
  let v6429 : BitVec 1 := Scalar.cmpi .sgt v6426 c0_i32_3884
  let v6430 : BitVec 32 := Scalar.extui v6429
  let c0_i32_3885 : BitVec 32 := 0#32
  let v6431 : BitVec 1 := Scalar.cmpi .slt v6426 c0_i32_3885
  let v6432 : BitVec 32 := Scalar.extui v6431
  let v6433 : BitVec 32 := Scalar.subi v6430 v6432
  let c4_i32_3883 : BitVec 32 := 4#32
  let c0_i32_3886 : BitVec 32 := 0#32
  let v6434 : BitVec 1 := Scalar.cmpi .sgt c4_i32_3883 c0_i32_3886
  let v6435 : BitVec 32 := Scalar.extui v6434
  let c0_i32_3887 : BitVec 32 := 0#32
  let v6436 : BitVec 1 := Scalar.cmpi .slt c4_i32_3883 c0_i32_3887
  let v6437 : BitVec 32 := Scalar.extui v6436
  let v6438 : BitVec 32 := Scalar.subi v6435 v6437
  let v6439 : BitVec 1 := Scalar.cmpi .ne v6433 v6438
  let v6440 : BitVec 32 := Scalar.remsi v6426 c4_i32_3883
  let c0_i32_3888 : BitVec 32 := 0#32
  let v6441 : BitVec 1 := Scalar.cmpi .ne v6440 c0_i32_3888
  let v6442 : BitVec 1 := Scalar.andi v6439 v6441
  let v6428 : BitVec 32 := Scalar.divsi v6426 c4_i32_3883
  let c1_i32_3889 : BitVec 32 := 1#32
  let v6443 : BitVec 32 := Scalar.subi v6428 c1_i32_3889
  let v6444 : BitVec 32 := Scalar.select v6442 v6443 v6428
  let c8_i32_3905 : BitVec 32 := 8#32
  let v6471 : BitVec 32 := Scalar.muli v6444 c8_i32_3905
  let c2_i32_3902 : BitVec 32 := 2#32
  let c4_i32_3890 : BitVec 32 := 4#32
  let c0_i32_3891 : BitVec 32 := 0#32
  let v6445 : BitVec 1 := Scalar.cmpi .eq c4_i32_3890 c0_i32_3891
  let c1_i32_3892 : BitVec 32 := 1#32
  let v6446 : BitVec 32 := Scalar.select v6445 c1_i32_3892 c4_i32_3890
  let v6447 : BitVec 32 := Scalar.remsi v6426 v6446
  let c0_i32_3894 : BitVec 32 := 0#32
  let v6449 : BitVec 1 := Scalar.cmpi .slt v6447 c0_i32_3894
  let c0_i32_3895 : BitVec 32 := 0#32
  let v6450 : BitVec 1 := Scalar.cmpi .slt v6446 c0_i32_3895
  let v6451 : BitVec 1 := Scalar.xori v6449 v6450
  let c0_i32_3893 : BitVec 32 := 0#32
  let v6448 : BitVec 1 := Scalar.cmpi .ne v6447 c0_i32_3893
  let v6452 : BitVec 1 := Scalar.andi v6451 v6448
  let v6453 : BitVec 32 := Scalar.addi v6447 v6446
  let v6454 : BitVec 32 := Scalar.select v6452 v6453 v6447
  let v6465 : BitVec 32 := Scalar.muli c2_i32_3902 v6454
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v6466 : BitVec 32 := Scalar.addi v6465 v94
  let c2_i32_3896 : BitVec 32 := 2#32
  let c0_i32_3897 : BitVec 32 := 0#32
  let v6455 : BitVec 1 := Scalar.cmpi .eq c2_i32_3896 c0_i32_3897
  let c1_i32_3898 : BitVec 32 := 1#32
  let v6456 : BitVec 32 := Scalar.select v6455 c1_i32_3898 c2_i32_3896
  let v6457 : BitVec 32 := Scalar.remsi v6454 v6456
  let c0_i32_3900 : BitVec 32 := 0#32
  let v6459 : BitVec 1 := Scalar.cmpi .slt v6457 c0_i32_3900
  let c0_i32_3901 : BitVec 32 := 0#32
  let v6460 : BitVec 1 := Scalar.cmpi .slt v6456 c0_i32_3901
  let v6461 : BitVec 1 := Scalar.xori v6459 v6460
  let c0_i32_3899 : BitVec 32 := 0#32
  let v6458 : BitVec 1 := Scalar.cmpi .ne v6457 c0_i32_3899
  let v6462 : BitVec 1 := Scalar.andi v6461 v6458
  let v6463 : BitVec 32 := Scalar.addi v6457 v6456
  let v6464 : BitVec 32 := Scalar.select v6462 v6463 v6457
  let c1_i32_3904 : BitVec 32 := 1#32
  let c2_i32_3903 : BitVec 32 := 2#32
  let v6467 : BitVec 32 := Scalar.muli c2_i32_3903 v94
  let v6468 : BitVec 32 := Scalar.subi c1_i32_3904 v6467
  let v6469 : BitVec 32 := Scalar.muli v6464 v6468
  let v6470 : BitVec 32 := Scalar.addi v6466 v6469
  let v6472 : BitVec 32 := Scalar.addi v6471 v6470
  let c1_i32_3910 : BitVec 32 := 1#32
  let v6473 : BitVec 32 := Scalar.muli v6472 c1_i32_3910
  let v6474 : BitVec 32 := Scalar.addi c0_i32_3911 v6473
  v6474.toNat
def k0_dev86 (d0 : Dev nD) : Nat :=
  let c0_i32_3951 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c6_i32_3915 : BitVec 32 := 6#32
  let v6481 : BitVec 32 := Scalar.addi v96 c6_i32_3915
  let c16_i32_3916 : BitVec 32 := 16#32
  let c0_i32_3917 : BitVec 32 := 0#32
  let v6482 : BitVec 1 := Scalar.cmpi .eq c16_i32_3916 c0_i32_3917
  let c1_i32_3918 : BitVec 32 := 1#32
  let v6483 : BitVec 32 := Scalar.select v6482 c1_i32_3918 c16_i32_3916
  let v6484 : BitVec 32 := Scalar.remsi v6481 v6483
  let c0_i32_3920 : BitVec 32 := 0#32
  let v6486 : BitVec 1 := Scalar.cmpi .slt v6484 c0_i32_3920
  let c0_i32_3921 : BitVec 32 := 0#32
  let v6487 : BitVec 1 := Scalar.cmpi .slt v6483 c0_i32_3921
  let v6488 : BitVec 1 := Scalar.xori v6486 v6487
  let c0_i32_3919 : BitVec 32 := 0#32
  let v6485 : BitVec 1 := Scalar.cmpi .ne v6484 c0_i32_3919
  let v6489 : BitVec 1 := Scalar.andi v6488 v6485
  let v6490 : BitVec 32 := Scalar.addi v6484 v6483
  let v6491 : BitVec 32 := Scalar.select v6489 v6490 v6484
  let c0_i32_3924 : BitVec 32 := 0#32
  let v6494 : BitVec 1 := Scalar.cmpi .sgt v6491 c0_i32_3924
  let v6495 : BitVec 32 := Scalar.extui v6494
  let c0_i32_3925 : BitVec 32 := 0#32
  let v6496 : BitVec 1 := Scalar.cmpi .slt v6491 c0_i32_3925
  let v6497 : BitVec 32 := Scalar.extui v6496
  let v6498 : BitVec 32 := Scalar.subi v6495 v6497
  let c4_i32_3923 : BitVec 32 := 4#32
  let c0_i32_3926 : BitVec 32 := 0#32
  let v6499 : BitVec 1 := Scalar.cmpi .sgt c4_i32_3923 c0_i32_3926
  let v6500 : BitVec 32 := Scalar.extui v6499
  let c0_i32_3927 : BitVec 32 := 0#32
  let v6501 : BitVec 1 := Scalar.cmpi .slt c4_i32_3923 c0_i32_3927
  let v6502 : BitVec 32 := Scalar.extui v6501
  let v6503 : BitVec 32 := Scalar.subi v6500 v6502
  let v6504 : BitVec 1 := Scalar.cmpi .ne v6498 v6503
  let v6505 : BitVec 32 := Scalar.remsi v6491 c4_i32_3923
  let c0_i32_3928 : BitVec 32 := 0#32
  let v6506 : BitVec 1 := Scalar.cmpi .ne v6505 c0_i32_3928
  let v6507 : BitVec 1 := Scalar.andi v6504 v6506
  let v6493 : BitVec 32 := Scalar.divsi v6491 c4_i32_3923
  let c1_i32_3929 : BitVec 32 := 1#32
  let v6508 : BitVec 32 := Scalar.subi v6493 c1_i32_3929
  let v6509 : BitVec 32 := Scalar.select v6507 v6508 v6493
  let c8_i32_3945 : BitVec 32 := 8#32
  let v6536 : BitVec 32 := Scalar.muli v6509 c8_i32_3945
  let c2_i32_3942 : BitVec 32 := 2#32
  let c4_i32_3930 : BitVec 32 := 4#32
  let c0_i32_3931 : BitVec 32 := 0#32
  let v6510 : BitVec 1 := Scalar.cmpi .eq c4_i32_3930 c0_i32_3931
  let c1_i32_3932 : BitVec 32 := 1#32
  let v6511 : BitVec 32 := Scalar.select v6510 c1_i32_3932 c4_i32_3930
  let v6512 : BitVec 32 := Scalar.remsi v6491 v6511
  let c0_i32_3934 : BitVec 32 := 0#32
  let v6514 : BitVec 1 := Scalar.cmpi .slt v6512 c0_i32_3934
  let c0_i32_3935 : BitVec 32 := 0#32
  let v6515 : BitVec 1 := Scalar.cmpi .slt v6511 c0_i32_3935
  let v6516 : BitVec 1 := Scalar.xori v6514 v6515
  let c0_i32_3933 : BitVec 32 := 0#32
  let v6513 : BitVec 1 := Scalar.cmpi .ne v6512 c0_i32_3933
  let v6517 : BitVec 1 := Scalar.andi v6516 v6513
  let v6518 : BitVec 32 := Scalar.addi v6512 v6511
  let v6519 : BitVec 32 := Scalar.select v6517 v6518 v6512
  let v6530 : BitVec 32 := Scalar.muli c2_i32_3942 v6519
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v6531 : BitVec 32 := Scalar.addi v6530 v94
  let c2_i32_3936 : BitVec 32 := 2#32
  let c0_i32_3937 : BitVec 32 := 0#32
  let v6520 : BitVec 1 := Scalar.cmpi .eq c2_i32_3936 c0_i32_3937
  let c1_i32_3938 : BitVec 32 := 1#32
  let v6521 : BitVec 32 := Scalar.select v6520 c1_i32_3938 c2_i32_3936
  let v6522 : BitVec 32 := Scalar.remsi v6519 v6521
  let c0_i32_3940 : BitVec 32 := 0#32
  let v6524 : BitVec 1 := Scalar.cmpi .slt v6522 c0_i32_3940
  let c0_i32_3941 : BitVec 32 := 0#32
  let v6525 : BitVec 1 := Scalar.cmpi .slt v6521 c0_i32_3941
  let v6526 : BitVec 1 := Scalar.xori v6524 v6525
  let c0_i32_3939 : BitVec 32 := 0#32
  let v6523 : BitVec 1 := Scalar.cmpi .ne v6522 c0_i32_3939
  let v6527 : BitVec 1 := Scalar.andi v6526 v6523
  let v6528 : BitVec 32 := Scalar.addi v6522 v6521
  let v6529 : BitVec 32 := Scalar.select v6527 v6528 v6522
  let c1_i32_3944 : BitVec 32 := 1#32
  let c2_i32_3943 : BitVec 32 := 2#32
  let v6532 : BitVec 32 := Scalar.muli c2_i32_3943 v94
  let v6533 : BitVec 32 := Scalar.subi c1_i32_3944 v6532
  let v6534 : BitVec 32 := Scalar.muli v6529 v6533
  let v6535 : BitVec 32 := Scalar.addi v6531 v6534
  let v6537 : BitVec 32 := Scalar.addi v6536 v6535
  let c1_i32_3950 : BitVec 32 := 1#32
  let v6538 : BitVec 32 := Scalar.muli v6537 c1_i32_3950
  let v6539 : BitVec 32 := Scalar.addi c0_i32_3951 v6538
  v6539.toNat
def k0_dev87 (d0 : Dev nD) : Nat :=
  let c0_i32_3991 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c7_i32_3955 : BitVec 32 := 7#32
  let v6546 : BitVec 32 := Scalar.addi v96 c7_i32_3955
  let c16_i32_3956 : BitVec 32 := 16#32
  let c0_i32_3957 : BitVec 32 := 0#32
  let v6547 : BitVec 1 := Scalar.cmpi .eq c16_i32_3956 c0_i32_3957
  let c1_i32_3958 : BitVec 32 := 1#32
  let v6548 : BitVec 32 := Scalar.select v6547 c1_i32_3958 c16_i32_3956
  let v6549 : BitVec 32 := Scalar.remsi v6546 v6548
  let c0_i32_3960 : BitVec 32 := 0#32
  let v6551 : BitVec 1 := Scalar.cmpi .slt v6549 c0_i32_3960
  let c0_i32_3961 : BitVec 32 := 0#32
  let v6552 : BitVec 1 := Scalar.cmpi .slt v6548 c0_i32_3961
  let v6553 : BitVec 1 := Scalar.xori v6551 v6552
  let c0_i32_3959 : BitVec 32 := 0#32
  let v6550 : BitVec 1 := Scalar.cmpi .ne v6549 c0_i32_3959
  let v6554 : BitVec 1 := Scalar.andi v6553 v6550
  let v6555 : BitVec 32 := Scalar.addi v6549 v6548
  let v6556 : BitVec 32 := Scalar.select v6554 v6555 v6549
  let c0_i32_3964 : BitVec 32 := 0#32
  let v6559 : BitVec 1 := Scalar.cmpi .sgt v6556 c0_i32_3964
  let v6560 : BitVec 32 := Scalar.extui v6559
  let c0_i32_3965 : BitVec 32 := 0#32
  let v6561 : BitVec 1 := Scalar.cmpi .slt v6556 c0_i32_3965
  let v6562 : BitVec 32 := Scalar.extui v6561
  let v6563 : BitVec 32 := Scalar.subi v6560 v6562
  let c4_i32_3963 : BitVec 32 := 4#32
  let c0_i32_3966 : BitVec 32 := 0#32
  let v6564 : BitVec 1 := Scalar.cmpi .sgt c4_i32_3963 c0_i32_3966
  let v6565 : BitVec 32 := Scalar.extui v6564
  let c0_i32_3967 : BitVec 32 := 0#32
  let v6566 : BitVec 1 := Scalar.cmpi .slt c4_i32_3963 c0_i32_3967
  let v6567 : BitVec 32 := Scalar.extui v6566
  let v6568 : BitVec 32 := Scalar.subi v6565 v6567
  let v6569 : BitVec 1 := Scalar.cmpi .ne v6563 v6568
  let v6570 : BitVec 32 := Scalar.remsi v6556 c4_i32_3963
  let c0_i32_3968 : BitVec 32 := 0#32
  let v6571 : BitVec 1 := Scalar.cmpi .ne v6570 c0_i32_3968
  let v6572 : BitVec 1 := Scalar.andi v6569 v6571
  let v6558 : BitVec 32 := Scalar.divsi v6556 c4_i32_3963
  let c1_i32_3969 : BitVec 32 := 1#32
  let v6573 : BitVec 32 := Scalar.subi v6558 c1_i32_3969
  let v6574 : BitVec 32 := Scalar.select v6572 v6573 v6558
  let c8_i32_3985 : BitVec 32 := 8#32
  let v6601 : BitVec 32 := Scalar.muli v6574 c8_i32_3985
  let c2_i32_3982 : BitVec 32 := 2#32
  let c4_i32_3970 : BitVec 32 := 4#32
  let c0_i32_3971 : BitVec 32 := 0#32
  let v6575 : BitVec 1 := Scalar.cmpi .eq c4_i32_3970 c0_i32_3971
  let c1_i32_3972 : BitVec 32 := 1#32
  let v6576 : BitVec 32 := Scalar.select v6575 c1_i32_3972 c4_i32_3970
  let v6577 : BitVec 32 := Scalar.remsi v6556 v6576
  let c0_i32_3974 : BitVec 32 := 0#32
  let v6579 : BitVec 1 := Scalar.cmpi .slt v6577 c0_i32_3974
  let c0_i32_3975 : BitVec 32 := 0#32
  let v6580 : BitVec 1 := Scalar.cmpi .slt v6576 c0_i32_3975
  let v6581 : BitVec 1 := Scalar.xori v6579 v6580
  let c0_i32_3973 : BitVec 32 := 0#32
  let v6578 : BitVec 1 := Scalar.cmpi .ne v6577 c0_i32_3973
  let v6582 : BitVec 1 := Scalar.andi v6581 v6578
  let v6583 : BitVec 32 := Scalar.addi v6577 v6576
  let v6584 : BitVec 32 := Scalar.select v6582 v6583 v6577
  let v6595 : BitVec 32 := Scalar.muli c2_i32_3982 v6584
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v6596 : BitVec 32 := Scalar.addi v6595 v94
  let c2_i32_3976 : BitVec 32 := 2#32
  let c0_i32_3977 : BitVec 32 := 0#32
  let v6585 : BitVec 1 := Scalar.cmpi .eq c2_i32_3976 c0_i32_3977
  let c1_i32_3978 : BitVec 32 := 1#32
  let v6586 : BitVec 32 := Scalar.select v6585 c1_i32_3978 c2_i32_3976
  let v6587 : BitVec 32 := Scalar.remsi v6584 v6586
  let c0_i32_3980 : BitVec 32 := 0#32
  let v6589 : BitVec 1 := Scalar.cmpi .slt v6587 c0_i32_3980
  let c0_i32_3981 : BitVec 32 := 0#32
  let v6590 : BitVec 1 := Scalar.cmpi .slt v6586 c0_i32_3981
  let v6591 : BitVec 1 := Scalar.xori v6589 v6590
  let c0_i32_3979 : BitVec 32 := 0#32
  let v6588 : BitVec 1 := Scalar.cmpi .ne v6587 c0_i32_3979
  let v6592 : BitVec 1 := Scalar.andi v6591 v6588
  let v6593 : BitVec 32 := Scalar.addi v6587 v6586
  let v6594 : BitVec 32 := Scalar.select v6592 v6593 v6587
  let c1_i32_3984 : BitVec 32 := 1#32
  let c2_i32_3983 : BitVec 32 := 2#32
  let v6597 : BitVec 32 := Scalar.muli c2_i32_3983 v94
  let v6598 : BitVec 32 := Scalar.subi c1_i32_3984 v6597
  let v6599 : BitVec 32 := Scalar.muli v6594 v6598
  let v6600 : BitVec 32 := Scalar.addi v6596 v6599
  let v6602 : BitVec 32 := Scalar.addi v6601 v6600
  let c1_i32_3990 : BitVec 32 := 1#32
  let v6603 : BitVec 32 := Scalar.muli v6602 c1_i32_3990
  let v6604 : BitVec 32 := Scalar.addi c0_i32_3991 v6603
  v6604.toNat
def k0_dev88 (d0 : Dev nD) : Nat :=
  let c0_i32_4031 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c8_i32_3995 : BitVec 32 := 8#32
  let v6611 : BitVec 32 := Scalar.addi v96 c8_i32_3995
  let c16_i32_3996 : BitVec 32 := 16#32
  let c0_i32_3997 : BitVec 32 := 0#32
  let v6612 : BitVec 1 := Scalar.cmpi .eq c16_i32_3996 c0_i32_3997
  let c1_i32_3998 : BitVec 32 := 1#32
  let v6613 : BitVec 32 := Scalar.select v6612 c1_i32_3998 c16_i32_3996
  let v6614 : BitVec 32 := Scalar.remsi v6611 v6613
  let c0_i32_4000 : BitVec 32 := 0#32
  let v6616 : BitVec 1 := Scalar.cmpi .slt v6614 c0_i32_4000
  let c0_i32_4001 : BitVec 32 := 0#32
  let v6617 : BitVec 1 := Scalar.cmpi .slt v6613 c0_i32_4001
  let v6618 : BitVec 1 := Scalar.xori v6616 v6617
  let c0_i32_3999 : BitVec 32 := 0#32
  let v6615 : BitVec 1 := Scalar.cmpi .ne v6614 c0_i32_3999
  let v6619 : BitVec 1 := Scalar.andi v6618 v6615
  let v6620 : BitVec 32 := Scalar.addi v6614 v6613
  let v6621 : BitVec 32 := Scalar.select v6619 v6620 v6614
  let c0_i32_4004 : BitVec 32 := 0#32
  let v6624 : BitVec 1 := Scalar.cmpi .sgt v6621 c0_i32_4004
  let v6625 : BitVec 32 := Scalar.extui v6624
  let c0_i32_4005 : BitVec 32 := 0#32
  let v6626 : BitVec 1 := Scalar.cmpi .slt v6621 c0_i32_4005
  let v6627 : BitVec 32 := Scalar.extui v6626
  let v6628 : BitVec 32 := Scalar.subi v6625 v6627
  let c4_i32_4003 : BitVec 32 := 4#32
  let c0_i32_4006 : BitVec 32 := 0#32
  let v6629 : BitVec 1 := Scalar.cmpi .sgt c4_i32_4003 c0_i32_4006
  let v6630 : BitVec 32 := Scalar.extui v6629
  let c0_i32_4007 : BitVec 32 := 0#32
  let v6631 : BitVec 1 := Scalar.cmpi .slt c4_i32_4003 c0_i32_4007
  let v6632 : BitVec 32 := Scalar.extui v6631
  let v6633 : BitVec 32 := Scalar.subi v6630 v6632
  let v6634 : BitVec 1 := Scalar.cmpi .ne v6628 v6633
  let v6635 : BitVec 32 := Scalar.remsi v6621 c4_i32_4003
  let c0_i32_4008 : BitVec 32 := 0#32
  let v6636 : BitVec 1 := Scalar.cmpi .ne v6635 c0_i32_4008
  let v6637 : BitVec 1 := Scalar.andi v6634 v6636
  let v6623 : BitVec 32 := Scalar.divsi v6621 c4_i32_4003
  let c1_i32_4009 : BitVec 32 := 1#32
  let v6638 : BitVec 32 := Scalar.subi v6623 c1_i32_4009
  let v6639 : BitVec 32 := Scalar.select v6637 v6638 v6623
  let c8_i32_4025 : BitVec 32 := 8#32
  let v6666 : BitVec 32 := Scalar.muli v6639 c8_i32_4025
  let c2_i32_4022 : BitVec 32 := 2#32
  let c4_i32_4010 : BitVec 32 := 4#32
  let c0_i32_4011 : BitVec 32 := 0#32
  let v6640 : BitVec 1 := Scalar.cmpi .eq c4_i32_4010 c0_i32_4011
  let c1_i32_4012 : BitVec 32 := 1#32
  let v6641 : BitVec 32 := Scalar.select v6640 c1_i32_4012 c4_i32_4010
  let v6642 : BitVec 32 := Scalar.remsi v6621 v6641
  let c0_i32_4014 : BitVec 32 := 0#32
  let v6644 : BitVec 1 := Scalar.cmpi .slt v6642 c0_i32_4014
  let c0_i32_4015 : BitVec 32 := 0#32
  let v6645 : BitVec 1 := Scalar.cmpi .slt v6641 c0_i32_4015
  let v6646 : BitVec 1 := Scalar.xori v6644 v6645
  let c0_i32_4013 : BitVec 32 := 0#32
  let v6643 : BitVec 1 := Scalar.cmpi .ne v6642 c0_i32_4013
  let v6647 : BitVec 1 := Scalar.andi v6646 v6643
  let v6648 : BitVec 32 := Scalar.addi v6642 v6641
  let v6649 : BitVec 32 := Scalar.select v6647 v6648 v6642
  let v6660 : BitVec 32 := Scalar.muli c2_i32_4022 v6649
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v6661 : BitVec 32 := Scalar.addi v6660 v94
  let c2_i32_4016 : BitVec 32 := 2#32
  let c0_i32_4017 : BitVec 32 := 0#32
  let v6650 : BitVec 1 := Scalar.cmpi .eq c2_i32_4016 c0_i32_4017
  let c1_i32_4018 : BitVec 32 := 1#32
  let v6651 : BitVec 32 := Scalar.select v6650 c1_i32_4018 c2_i32_4016
  let v6652 : BitVec 32 := Scalar.remsi v6649 v6651
  let c0_i32_4020 : BitVec 32 := 0#32
  let v6654 : BitVec 1 := Scalar.cmpi .slt v6652 c0_i32_4020
  let c0_i32_4021 : BitVec 32 := 0#32
  let v6655 : BitVec 1 := Scalar.cmpi .slt v6651 c0_i32_4021
  let v6656 : BitVec 1 := Scalar.xori v6654 v6655
  let c0_i32_4019 : BitVec 32 := 0#32
  let v6653 : BitVec 1 := Scalar.cmpi .ne v6652 c0_i32_4019
  let v6657 : BitVec 1 := Scalar.andi v6656 v6653
  let v6658 : BitVec 32 := Scalar.addi v6652 v6651
  let v6659 : BitVec 32 := Scalar.select v6657 v6658 v6652
  let c1_i32_4024 : BitVec 32 := 1#32
  let c2_i32_4023 : BitVec 32 := 2#32
  let v6662 : BitVec 32 := Scalar.muli c2_i32_4023 v94
  let v6663 : BitVec 32 := Scalar.subi c1_i32_4024 v6662
  let v6664 : BitVec 32 := Scalar.muli v6659 v6663
  let v6665 : BitVec 32 := Scalar.addi v6661 v6664
  let v6667 : BitVec 32 := Scalar.addi v6666 v6665
  let c1_i32_4030 : BitVec 32 := 1#32
  let v6668 : BitVec 32 := Scalar.muli v6667 c1_i32_4030
  let v6669 : BitVec 32 := Scalar.addi c0_i32_4031 v6668
  v6669.toNat
def k0_dev89 (d0 : Dev nD) : Nat :=
  let c0_i32_4071 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c9_i32_4035 : BitVec 32 := 9#32
  let v6676 : BitVec 32 := Scalar.addi v96 c9_i32_4035
  let c16_i32_4036 : BitVec 32 := 16#32
  let c0_i32_4037 : BitVec 32 := 0#32
  let v6677 : BitVec 1 := Scalar.cmpi .eq c16_i32_4036 c0_i32_4037
  let c1_i32_4038 : BitVec 32 := 1#32
  let v6678 : BitVec 32 := Scalar.select v6677 c1_i32_4038 c16_i32_4036
  let v6679 : BitVec 32 := Scalar.remsi v6676 v6678
  let c0_i32_4040 : BitVec 32 := 0#32
  let v6681 : BitVec 1 := Scalar.cmpi .slt v6679 c0_i32_4040
  let c0_i32_4041 : BitVec 32 := 0#32
  let v6682 : BitVec 1 := Scalar.cmpi .slt v6678 c0_i32_4041
  let v6683 : BitVec 1 := Scalar.xori v6681 v6682
  let c0_i32_4039 : BitVec 32 := 0#32
  let v6680 : BitVec 1 := Scalar.cmpi .ne v6679 c0_i32_4039
  let v6684 : BitVec 1 := Scalar.andi v6683 v6680
  let v6685 : BitVec 32 := Scalar.addi v6679 v6678
  let v6686 : BitVec 32 := Scalar.select v6684 v6685 v6679
  let c0_i32_4044 : BitVec 32 := 0#32
  let v6689 : BitVec 1 := Scalar.cmpi .sgt v6686 c0_i32_4044
  let v6690 : BitVec 32 := Scalar.extui v6689
  let c0_i32_4045 : BitVec 32 := 0#32
  let v6691 : BitVec 1 := Scalar.cmpi .slt v6686 c0_i32_4045
  let v6692 : BitVec 32 := Scalar.extui v6691
  let v6693 : BitVec 32 := Scalar.subi v6690 v6692
  let c4_i32_4043 : BitVec 32 := 4#32
  let c0_i32_4046 : BitVec 32 := 0#32
  let v6694 : BitVec 1 := Scalar.cmpi .sgt c4_i32_4043 c0_i32_4046
  let v6695 : BitVec 32 := Scalar.extui v6694
  let c0_i32_4047 : BitVec 32 := 0#32
  let v6696 : BitVec 1 := Scalar.cmpi .slt c4_i32_4043 c0_i32_4047
  let v6697 : BitVec 32 := Scalar.extui v6696
  let v6698 : BitVec 32 := Scalar.subi v6695 v6697
  let v6699 : BitVec 1 := Scalar.cmpi .ne v6693 v6698
  let v6700 : BitVec 32 := Scalar.remsi v6686 c4_i32_4043
  let c0_i32_4048 : BitVec 32 := 0#32
  let v6701 : BitVec 1 := Scalar.cmpi .ne v6700 c0_i32_4048
  let v6702 : BitVec 1 := Scalar.andi v6699 v6701
  let v6688 : BitVec 32 := Scalar.divsi v6686 c4_i32_4043
  let c1_i32_4049 : BitVec 32 := 1#32
  let v6703 : BitVec 32 := Scalar.subi v6688 c1_i32_4049
  let v6704 : BitVec 32 := Scalar.select v6702 v6703 v6688
  let c8_i32_4065 : BitVec 32 := 8#32
  let v6731 : BitVec 32 := Scalar.muli v6704 c8_i32_4065
  let c2_i32_4062 : BitVec 32 := 2#32
  let c4_i32_4050 : BitVec 32 := 4#32
  let c0_i32_4051 : BitVec 32 := 0#32
  let v6705 : BitVec 1 := Scalar.cmpi .eq c4_i32_4050 c0_i32_4051
  let c1_i32_4052 : BitVec 32 := 1#32
  let v6706 : BitVec 32 := Scalar.select v6705 c1_i32_4052 c4_i32_4050
  let v6707 : BitVec 32 := Scalar.remsi v6686 v6706
  let c0_i32_4054 : BitVec 32 := 0#32
  let v6709 : BitVec 1 := Scalar.cmpi .slt v6707 c0_i32_4054
  let c0_i32_4055 : BitVec 32 := 0#32
  let v6710 : BitVec 1 := Scalar.cmpi .slt v6706 c0_i32_4055
  let v6711 : BitVec 1 := Scalar.xori v6709 v6710
  let c0_i32_4053 : BitVec 32 := 0#32
  let v6708 : BitVec 1 := Scalar.cmpi .ne v6707 c0_i32_4053
  let v6712 : BitVec 1 := Scalar.andi v6711 v6708
  let v6713 : BitVec 32 := Scalar.addi v6707 v6706
  let v6714 : BitVec 32 := Scalar.select v6712 v6713 v6707
  let v6725 : BitVec 32 := Scalar.muli c2_i32_4062 v6714
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v6726 : BitVec 32 := Scalar.addi v6725 v94
  let c2_i32_4056 : BitVec 32 := 2#32
  let c0_i32_4057 : BitVec 32 := 0#32
  let v6715 : BitVec 1 := Scalar.cmpi .eq c2_i32_4056 c0_i32_4057
  let c1_i32_4058 : BitVec 32 := 1#32
  let v6716 : BitVec 32 := Scalar.select v6715 c1_i32_4058 c2_i32_4056
  let v6717 : BitVec 32 := Scalar.remsi v6714 v6716
  let c0_i32_4060 : BitVec 32 := 0#32
  let v6719 : BitVec 1 := Scalar.cmpi .slt v6717 c0_i32_4060
  let c0_i32_4061 : BitVec 32 := 0#32
  let v6720 : BitVec 1 := Scalar.cmpi .slt v6716 c0_i32_4061
  let v6721 : BitVec 1 := Scalar.xori v6719 v6720
  let c0_i32_4059 : BitVec 32 := 0#32
  let v6718 : BitVec 1 := Scalar.cmpi .ne v6717 c0_i32_4059
  let v6722 : BitVec 1 := Scalar.andi v6721 v6718
  let v6723 : BitVec 32 := Scalar.addi v6717 v6716
  let v6724 : BitVec 32 := Scalar.select v6722 v6723 v6717
  let c1_i32_4064 : BitVec 32 := 1#32
  let c2_i32_4063 : BitVec 32 := 2#32
  let v6727 : BitVec 32 := Scalar.muli c2_i32_4063 v94
  let v6728 : BitVec 32 := Scalar.subi c1_i32_4064 v6727
  let v6729 : BitVec 32 := Scalar.muli v6724 v6728
  let v6730 : BitVec 32 := Scalar.addi v6726 v6729
  let v6732 : BitVec 32 := Scalar.addi v6731 v6730
  let c1_i32_4070 : BitVec 32 := 1#32
  let v6733 : BitVec 32 := Scalar.muli v6732 c1_i32_4070
  let v6734 : BitVec 32 := Scalar.addi c0_i32_4071 v6733
  v6734.toNat
def k0_dev90 (d0 : Dev nD) : Nat :=
  let c0_i32_4111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c10_i32_4075 : BitVec 32 := 10#32
  let v6741 : BitVec 32 := Scalar.addi v96 c10_i32_4075
  let c16_i32_4076 : BitVec 32 := 16#32
  let c0_i32_4077 : BitVec 32 := 0#32
  let v6742 : BitVec 1 := Scalar.cmpi .eq c16_i32_4076 c0_i32_4077
  let c1_i32_4078 : BitVec 32 := 1#32
  let v6743 : BitVec 32 := Scalar.select v6742 c1_i32_4078 c16_i32_4076
  let v6744 : BitVec 32 := Scalar.remsi v6741 v6743
  let c0_i32_4080 : BitVec 32 := 0#32
  let v6746 : BitVec 1 := Scalar.cmpi .slt v6744 c0_i32_4080
  let c0_i32_4081 : BitVec 32 := 0#32
  let v6747 : BitVec 1 := Scalar.cmpi .slt v6743 c0_i32_4081
  let v6748 : BitVec 1 := Scalar.xori v6746 v6747
  let c0_i32_4079 : BitVec 32 := 0#32
  let v6745 : BitVec 1 := Scalar.cmpi .ne v6744 c0_i32_4079
  let v6749 : BitVec 1 := Scalar.andi v6748 v6745
  let v6750 : BitVec 32 := Scalar.addi v6744 v6743
  let v6751 : BitVec 32 := Scalar.select v6749 v6750 v6744
  let c0_i32_4084 : BitVec 32 := 0#32
  let v6754 : BitVec 1 := Scalar.cmpi .sgt v6751 c0_i32_4084
  let v6755 : BitVec 32 := Scalar.extui v6754
  let c0_i32_4085 : BitVec 32 := 0#32
  let v6756 : BitVec 1 := Scalar.cmpi .slt v6751 c0_i32_4085
  let v6757 : BitVec 32 := Scalar.extui v6756
  let v6758 : BitVec 32 := Scalar.subi v6755 v6757
  let c4_i32_4083 : BitVec 32 := 4#32
  let c0_i32_4086 : BitVec 32 := 0#32
  let v6759 : BitVec 1 := Scalar.cmpi .sgt c4_i32_4083 c0_i32_4086
  let v6760 : BitVec 32 := Scalar.extui v6759
  let c0_i32_4087 : BitVec 32 := 0#32
  let v6761 : BitVec 1 := Scalar.cmpi .slt c4_i32_4083 c0_i32_4087
  let v6762 : BitVec 32 := Scalar.extui v6761
  let v6763 : BitVec 32 := Scalar.subi v6760 v6762
  let v6764 : BitVec 1 := Scalar.cmpi .ne v6758 v6763
  let v6765 : BitVec 32 := Scalar.remsi v6751 c4_i32_4083
  let c0_i32_4088 : BitVec 32 := 0#32
  let v6766 : BitVec 1 := Scalar.cmpi .ne v6765 c0_i32_4088
  let v6767 : BitVec 1 := Scalar.andi v6764 v6766
  let v6753 : BitVec 32 := Scalar.divsi v6751 c4_i32_4083
  let c1_i32_4089 : BitVec 32 := 1#32
  let v6768 : BitVec 32 := Scalar.subi v6753 c1_i32_4089
  let v6769 : BitVec 32 := Scalar.select v6767 v6768 v6753
  let c8_i32_4105 : BitVec 32 := 8#32
  let v6796 : BitVec 32 := Scalar.muli v6769 c8_i32_4105
  let c2_i32_4102 : BitVec 32 := 2#32
  let c4_i32_4090 : BitVec 32 := 4#32
  let c0_i32_4091 : BitVec 32 := 0#32
  let v6770 : BitVec 1 := Scalar.cmpi .eq c4_i32_4090 c0_i32_4091
  let c1_i32_4092 : BitVec 32 := 1#32
  let v6771 : BitVec 32 := Scalar.select v6770 c1_i32_4092 c4_i32_4090
  let v6772 : BitVec 32 := Scalar.remsi v6751 v6771
  let c0_i32_4094 : BitVec 32 := 0#32
  let v6774 : BitVec 1 := Scalar.cmpi .slt v6772 c0_i32_4094
  let c0_i32_4095 : BitVec 32 := 0#32
  let v6775 : BitVec 1 := Scalar.cmpi .slt v6771 c0_i32_4095
  let v6776 : BitVec 1 := Scalar.xori v6774 v6775
  let c0_i32_4093 : BitVec 32 := 0#32
  let v6773 : BitVec 1 := Scalar.cmpi .ne v6772 c0_i32_4093
  let v6777 : BitVec 1 := Scalar.andi v6776 v6773
  let v6778 : BitVec 32 := Scalar.addi v6772 v6771
  let v6779 : BitVec 32 := Scalar.select v6777 v6778 v6772
  let v6790 : BitVec 32 := Scalar.muli c2_i32_4102 v6779
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v6791 : BitVec 32 := Scalar.addi v6790 v94
  let c2_i32_4096 : BitVec 32 := 2#32
  let c0_i32_4097 : BitVec 32 := 0#32
  let v6780 : BitVec 1 := Scalar.cmpi .eq c2_i32_4096 c0_i32_4097
  let c1_i32_4098 : BitVec 32 := 1#32
  let v6781 : BitVec 32 := Scalar.select v6780 c1_i32_4098 c2_i32_4096
  let v6782 : BitVec 32 := Scalar.remsi v6779 v6781
  let c0_i32_4100 : BitVec 32 := 0#32
  let v6784 : BitVec 1 := Scalar.cmpi .slt v6782 c0_i32_4100
  let c0_i32_4101 : BitVec 32 := 0#32
  let v6785 : BitVec 1 := Scalar.cmpi .slt v6781 c0_i32_4101
  let v6786 : BitVec 1 := Scalar.xori v6784 v6785
  let c0_i32_4099 : BitVec 32 := 0#32
  let v6783 : BitVec 1 := Scalar.cmpi .ne v6782 c0_i32_4099
  let v6787 : BitVec 1 := Scalar.andi v6786 v6783
  let v6788 : BitVec 32 := Scalar.addi v6782 v6781
  let v6789 : BitVec 32 := Scalar.select v6787 v6788 v6782
  let c1_i32_4104 : BitVec 32 := 1#32
  let c2_i32_4103 : BitVec 32 := 2#32
  let v6792 : BitVec 32 := Scalar.muli c2_i32_4103 v94
  let v6793 : BitVec 32 := Scalar.subi c1_i32_4104 v6792
  let v6794 : BitVec 32 := Scalar.muli v6789 v6793
  let v6795 : BitVec 32 := Scalar.addi v6791 v6794
  let v6797 : BitVec 32 := Scalar.addi v6796 v6795
  let c1_i32_4110 : BitVec 32 := 1#32
  let v6798 : BitVec 32 := Scalar.muli v6797 c1_i32_4110
  let v6799 : BitVec 32 := Scalar.addi c0_i32_4111 v6798
  v6799.toNat
def k0_dev91 (d0 : Dev nD) : Nat :=
  let c0_i32_4151 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c11_i32_4115 : BitVec 32 := 11#32
  let v6806 : BitVec 32 := Scalar.addi v96 c11_i32_4115
  let c16_i32_4116 : BitVec 32 := 16#32
  let c0_i32_4117 : BitVec 32 := 0#32
  let v6807 : BitVec 1 := Scalar.cmpi .eq c16_i32_4116 c0_i32_4117
  let c1_i32_4118 : BitVec 32 := 1#32
  let v6808 : BitVec 32 := Scalar.select v6807 c1_i32_4118 c16_i32_4116
  let v6809 : BitVec 32 := Scalar.remsi v6806 v6808
  let c0_i32_4120 : BitVec 32 := 0#32
  let v6811 : BitVec 1 := Scalar.cmpi .slt v6809 c0_i32_4120
  let c0_i32_4121 : BitVec 32 := 0#32
  let v6812 : BitVec 1 := Scalar.cmpi .slt v6808 c0_i32_4121
  let v6813 : BitVec 1 := Scalar.xori v6811 v6812
  let c0_i32_4119 : BitVec 32 := 0#32
  let v6810 : BitVec 1 := Scalar.cmpi .ne v6809 c0_i32_4119
  let v6814 : BitVec 1 := Scalar.andi v6813 v6810
  let v6815 : BitVec 32 := Scalar.addi v6809 v6808
  let v6816 : BitVec 32 := Scalar.select v6814 v6815 v6809
  let c0_i32_4124 : BitVec 32 := 0#32
  let v6819 : BitVec 1 := Scalar.cmpi .sgt v6816 c0_i32_4124
  let v6820 : BitVec 32 := Scalar.extui v6819
  let c0_i32_4125 : BitVec 32 := 0#32
  let v6821 : BitVec 1 := Scalar.cmpi .slt v6816 c0_i32_4125
  let v6822 : BitVec 32 := Scalar.extui v6821
  let v6823 : BitVec 32 := Scalar.subi v6820 v6822
  let c4_i32_4123 : BitVec 32 := 4#32
  let c0_i32_4126 : BitVec 32 := 0#32
  let v6824 : BitVec 1 := Scalar.cmpi .sgt c4_i32_4123 c0_i32_4126
  let v6825 : BitVec 32 := Scalar.extui v6824
  let c0_i32_4127 : BitVec 32 := 0#32
  let v6826 : BitVec 1 := Scalar.cmpi .slt c4_i32_4123 c0_i32_4127
  let v6827 : BitVec 32 := Scalar.extui v6826
  let v6828 : BitVec 32 := Scalar.subi v6825 v6827
  let v6829 : BitVec 1 := Scalar.cmpi .ne v6823 v6828
  let v6830 : BitVec 32 := Scalar.remsi v6816 c4_i32_4123
  let c0_i32_4128 : BitVec 32 := 0#32
  let v6831 : BitVec 1 := Scalar.cmpi .ne v6830 c0_i32_4128
  let v6832 : BitVec 1 := Scalar.andi v6829 v6831
  let v6818 : BitVec 32 := Scalar.divsi v6816 c4_i32_4123
  let c1_i32_4129 : BitVec 32 := 1#32
  let v6833 : BitVec 32 := Scalar.subi v6818 c1_i32_4129
  let v6834 : BitVec 32 := Scalar.select v6832 v6833 v6818
  let c8_i32_4145 : BitVec 32 := 8#32
  let v6861 : BitVec 32 := Scalar.muli v6834 c8_i32_4145
  let c2_i32_4142 : BitVec 32 := 2#32
  let c4_i32_4130 : BitVec 32 := 4#32
  let c0_i32_4131 : BitVec 32 := 0#32
  let v6835 : BitVec 1 := Scalar.cmpi .eq c4_i32_4130 c0_i32_4131
  let c1_i32_4132 : BitVec 32 := 1#32
  let v6836 : BitVec 32 := Scalar.select v6835 c1_i32_4132 c4_i32_4130
  let v6837 : BitVec 32 := Scalar.remsi v6816 v6836
  let c0_i32_4134 : BitVec 32 := 0#32
  let v6839 : BitVec 1 := Scalar.cmpi .slt v6837 c0_i32_4134
  let c0_i32_4135 : BitVec 32 := 0#32
  let v6840 : BitVec 1 := Scalar.cmpi .slt v6836 c0_i32_4135
  let v6841 : BitVec 1 := Scalar.xori v6839 v6840
  let c0_i32_4133 : BitVec 32 := 0#32
  let v6838 : BitVec 1 := Scalar.cmpi .ne v6837 c0_i32_4133
  let v6842 : BitVec 1 := Scalar.andi v6841 v6838
  let v6843 : BitVec 32 := Scalar.addi v6837 v6836
  let v6844 : BitVec 32 := Scalar.select v6842 v6843 v6837
  let v6855 : BitVec 32 := Scalar.muli c2_i32_4142 v6844
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v6856 : BitVec 32 := Scalar.addi v6855 v94
  let c2_i32_4136 : BitVec 32 := 2#32
  let c0_i32_4137 : BitVec 32 := 0#32
  let v6845 : BitVec 1 := Scalar.cmpi .eq c2_i32_4136 c0_i32_4137
  let c1_i32_4138 : BitVec 32 := 1#32
  let v6846 : BitVec 32 := Scalar.select v6845 c1_i32_4138 c2_i32_4136
  let v6847 : BitVec 32 := Scalar.remsi v6844 v6846
  let c0_i32_4140 : BitVec 32 := 0#32
  let v6849 : BitVec 1 := Scalar.cmpi .slt v6847 c0_i32_4140
  let c0_i32_4141 : BitVec 32 := 0#32
  let v6850 : BitVec 1 := Scalar.cmpi .slt v6846 c0_i32_4141
  let v6851 : BitVec 1 := Scalar.xori v6849 v6850
  let c0_i32_4139 : BitVec 32 := 0#32
  let v6848 : BitVec 1 := Scalar.cmpi .ne v6847 c0_i32_4139
  let v6852 : BitVec 1 := Scalar.andi v6851 v6848
  let v6853 : BitVec 32 := Scalar.addi v6847 v6846
  let v6854 : BitVec 32 := Scalar.select v6852 v6853 v6847
  let c1_i32_4144 : BitVec 32 := 1#32
  let c2_i32_4143 : BitVec 32 := 2#32
  let v6857 : BitVec 32 := Scalar.muli c2_i32_4143 v94
  let v6858 : BitVec 32 := Scalar.subi c1_i32_4144 v6857
  let v6859 : BitVec 32 := Scalar.muli v6854 v6858
  let v6860 : BitVec 32 := Scalar.addi v6856 v6859
  let v6862 : BitVec 32 := Scalar.addi v6861 v6860
  let c1_i32_4150 : BitVec 32 := 1#32
  let v6863 : BitVec 32 := Scalar.muli v6862 c1_i32_4150
  let v6864 : BitVec 32 := Scalar.addi c0_i32_4151 v6863
  v6864.toNat
def k0_dev92 (d0 : Dev nD) : Nat :=
  let c0_i32_4191 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c12_i32_4155 : BitVec 32 := 12#32
  let v6871 : BitVec 32 := Scalar.addi v96 c12_i32_4155
  let c16_i32_4156 : BitVec 32 := 16#32
  let c0_i32_4157 : BitVec 32 := 0#32
  let v6872 : BitVec 1 := Scalar.cmpi .eq c16_i32_4156 c0_i32_4157
  let c1_i32_4158 : BitVec 32 := 1#32
  let v6873 : BitVec 32 := Scalar.select v6872 c1_i32_4158 c16_i32_4156
  let v6874 : BitVec 32 := Scalar.remsi v6871 v6873
  let c0_i32_4160 : BitVec 32 := 0#32
  let v6876 : BitVec 1 := Scalar.cmpi .slt v6874 c0_i32_4160
  let c0_i32_4161 : BitVec 32 := 0#32
  let v6877 : BitVec 1 := Scalar.cmpi .slt v6873 c0_i32_4161
  let v6878 : BitVec 1 := Scalar.xori v6876 v6877
  let c0_i32_4159 : BitVec 32 := 0#32
  let v6875 : BitVec 1 := Scalar.cmpi .ne v6874 c0_i32_4159
  let v6879 : BitVec 1 := Scalar.andi v6878 v6875
  let v6880 : BitVec 32 := Scalar.addi v6874 v6873
  let v6881 : BitVec 32 := Scalar.select v6879 v6880 v6874
  let c0_i32_4164 : BitVec 32 := 0#32
  let v6884 : BitVec 1 := Scalar.cmpi .sgt v6881 c0_i32_4164
  let v6885 : BitVec 32 := Scalar.extui v6884
  let c0_i32_4165 : BitVec 32 := 0#32
  let v6886 : BitVec 1 := Scalar.cmpi .slt v6881 c0_i32_4165
  let v6887 : BitVec 32 := Scalar.extui v6886
  let v6888 : BitVec 32 := Scalar.subi v6885 v6887
  let c4_i32_4163 : BitVec 32 := 4#32
  let c0_i32_4166 : BitVec 32 := 0#32
  let v6889 : BitVec 1 := Scalar.cmpi .sgt c4_i32_4163 c0_i32_4166
  let v6890 : BitVec 32 := Scalar.extui v6889
  let c0_i32_4167 : BitVec 32 := 0#32
  let v6891 : BitVec 1 := Scalar.cmpi .slt c4_i32_4163 c0_i32_4167
  let v6892 : BitVec 32 := Scalar.extui v6891
  let v6893 : BitVec 32 := Scalar.subi v6890 v6892
  let v6894 : BitVec 1 := Scalar.cmpi .ne v6888 v6893
  let v6895 : BitVec 32 := Scalar.remsi v6881 c4_i32_4163
  let c0_i32_4168 : BitVec 32 := 0#32
  let v6896 : BitVec 1 := Scalar.cmpi .ne v6895 c0_i32_4168
  let v6897 : BitVec 1 := Scalar.andi v6894 v6896
  let v6883 : BitVec 32 := Scalar.divsi v6881 c4_i32_4163
  let c1_i32_4169 : BitVec 32 := 1#32
  let v6898 : BitVec 32 := Scalar.subi v6883 c1_i32_4169
  let v6899 : BitVec 32 := Scalar.select v6897 v6898 v6883
  let c8_i32_4185 : BitVec 32 := 8#32
  let v6926 : BitVec 32 := Scalar.muli v6899 c8_i32_4185
  let c2_i32_4182 : BitVec 32 := 2#32
  let c4_i32_4170 : BitVec 32 := 4#32
  let c0_i32_4171 : BitVec 32 := 0#32
  let v6900 : BitVec 1 := Scalar.cmpi .eq c4_i32_4170 c0_i32_4171
  let c1_i32_4172 : BitVec 32 := 1#32
  let v6901 : BitVec 32 := Scalar.select v6900 c1_i32_4172 c4_i32_4170
  let v6902 : BitVec 32 := Scalar.remsi v6881 v6901
  let c0_i32_4174 : BitVec 32 := 0#32
  let v6904 : BitVec 1 := Scalar.cmpi .slt v6902 c0_i32_4174
  let c0_i32_4175 : BitVec 32 := 0#32
  let v6905 : BitVec 1 := Scalar.cmpi .slt v6901 c0_i32_4175
  let v6906 : BitVec 1 := Scalar.xori v6904 v6905
  let c0_i32_4173 : BitVec 32 := 0#32
  let v6903 : BitVec 1 := Scalar.cmpi .ne v6902 c0_i32_4173
  let v6907 : BitVec 1 := Scalar.andi v6906 v6903
  let v6908 : BitVec 32 := Scalar.addi v6902 v6901
  let v6909 : BitVec 32 := Scalar.select v6907 v6908 v6902
  let v6920 : BitVec 32 := Scalar.muli c2_i32_4182 v6909
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v6921 : BitVec 32 := Scalar.addi v6920 v94
  let c2_i32_4176 : BitVec 32 := 2#32
  let c0_i32_4177 : BitVec 32 := 0#32
  let v6910 : BitVec 1 := Scalar.cmpi .eq c2_i32_4176 c0_i32_4177
  let c1_i32_4178 : BitVec 32 := 1#32
  let v6911 : BitVec 32 := Scalar.select v6910 c1_i32_4178 c2_i32_4176
  let v6912 : BitVec 32 := Scalar.remsi v6909 v6911
  let c0_i32_4180 : BitVec 32 := 0#32
  let v6914 : BitVec 1 := Scalar.cmpi .slt v6912 c0_i32_4180
  let c0_i32_4181 : BitVec 32 := 0#32
  let v6915 : BitVec 1 := Scalar.cmpi .slt v6911 c0_i32_4181
  let v6916 : BitVec 1 := Scalar.xori v6914 v6915
  let c0_i32_4179 : BitVec 32 := 0#32
  let v6913 : BitVec 1 := Scalar.cmpi .ne v6912 c0_i32_4179
  let v6917 : BitVec 1 := Scalar.andi v6916 v6913
  let v6918 : BitVec 32 := Scalar.addi v6912 v6911
  let v6919 : BitVec 32 := Scalar.select v6917 v6918 v6912
  let c1_i32_4184 : BitVec 32 := 1#32
  let c2_i32_4183 : BitVec 32 := 2#32
  let v6922 : BitVec 32 := Scalar.muli c2_i32_4183 v94
  let v6923 : BitVec 32 := Scalar.subi c1_i32_4184 v6922
  let v6924 : BitVec 32 := Scalar.muli v6919 v6923
  let v6925 : BitVec 32 := Scalar.addi v6921 v6924
  let v6927 : BitVec 32 := Scalar.addi v6926 v6925
  let c1_i32_4190 : BitVec 32 := 1#32
  let v6928 : BitVec 32 := Scalar.muli v6927 c1_i32_4190
  let v6929 : BitVec 32 := Scalar.addi c0_i32_4191 v6928
  v6929.toNat
def k0_dev93 (d0 : Dev nD) : Nat :=
  let c0_i32_4231 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c13_i32_4195 : BitVec 32 := 13#32
  let v6936 : BitVec 32 := Scalar.addi v96 c13_i32_4195
  let c16_i32_4196 : BitVec 32 := 16#32
  let c0_i32_4197 : BitVec 32 := 0#32
  let v6937 : BitVec 1 := Scalar.cmpi .eq c16_i32_4196 c0_i32_4197
  let c1_i32_4198 : BitVec 32 := 1#32
  let v6938 : BitVec 32 := Scalar.select v6937 c1_i32_4198 c16_i32_4196
  let v6939 : BitVec 32 := Scalar.remsi v6936 v6938
  let c0_i32_4200 : BitVec 32 := 0#32
  let v6941 : BitVec 1 := Scalar.cmpi .slt v6939 c0_i32_4200
  let c0_i32_4201 : BitVec 32 := 0#32
  let v6942 : BitVec 1 := Scalar.cmpi .slt v6938 c0_i32_4201
  let v6943 : BitVec 1 := Scalar.xori v6941 v6942
  let c0_i32_4199 : BitVec 32 := 0#32
  let v6940 : BitVec 1 := Scalar.cmpi .ne v6939 c0_i32_4199
  let v6944 : BitVec 1 := Scalar.andi v6943 v6940
  let v6945 : BitVec 32 := Scalar.addi v6939 v6938
  let v6946 : BitVec 32 := Scalar.select v6944 v6945 v6939
  let c0_i32_4204 : BitVec 32 := 0#32
  let v6949 : BitVec 1 := Scalar.cmpi .sgt v6946 c0_i32_4204
  let v6950 : BitVec 32 := Scalar.extui v6949
  let c0_i32_4205 : BitVec 32 := 0#32
  let v6951 : BitVec 1 := Scalar.cmpi .slt v6946 c0_i32_4205
  let v6952 : BitVec 32 := Scalar.extui v6951
  let v6953 : BitVec 32 := Scalar.subi v6950 v6952
  let c4_i32_4203 : BitVec 32 := 4#32
  let c0_i32_4206 : BitVec 32 := 0#32
  let v6954 : BitVec 1 := Scalar.cmpi .sgt c4_i32_4203 c0_i32_4206
  let v6955 : BitVec 32 := Scalar.extui v6954
  let c0_i32_4207 : BitVec 32 := 0#32
  let v6956 : BitVec 1 := Scalar.cmpi .slt c4_i32_4203 c0_i32_4207
  let v6957 : BitVec 32 := Scalar.extui v6956
  let v6958 : BitVec 32 := Scalar.subi v6955 v6957
  let v6959 : BitVec 1 := Scalar.cmpi .ne v6953 v6958
  let v6960 : BitVec 32 := Scalar.remsi v6946 c4_i32_4203
  let c0_i32_4208 : BitVec 32 := 0#32
  let v6961 : BitVec 1 := Scalar.cmpi .ne v6960 c0_i32_4208
  let v6962 : BitVec 1 := Scalar.andi v6959 v6961
  let v6948 : BitVec 32 := Scalar.divsi v6946 c4_i32_4203
  let c1_i32_4209 : BitVec 32 := 1#32
  let v6963 : BitVec 32 := Scalar.subi v6948 c1_i32_4209
  let v6964 : BitVec 32 := Scalar.select v6962 v6963 v6948
  let c8_i32_4225 : BitVec 32 := 8#32
  let v6991 : BitVec 32 := Scalar.muli v6964 c8_i32_4225
  let c2_i32_4222 : BitVec 32 := 2#32
  let c4_i32_4210 : BitVec 32 := 4#32
  let c0_i32_4211 : BitVec 32 := 0#32
  let v6965 : BitVec 1 := Scalar.cmpi .eq c4_i32_4210 c0_i32_4211
  let c1_i32_4212 : BitVec 32 := 1#32
  let v6966 : BitVec 32 := Scalar.select v6965 c1_i32_4212 c4_i32_4210
  let v6967 : BitVec 32 := Scalar.remsi v6946 v6966
  let c0_i32_4214 : BitVec 32 := 0#32
  let v6969 : BitVec 1 := Scalar.cmpi .slt v6967 c0_i32_4214
  let c0_i32_4215 : BitVec 32 := 0#32
  let v6970 : BitVec 1 := Scalar.cmpi .slt v6966 c0_i32_4215
  let v6971 : BitVec 1 := Scalar.xori v6969 v6970
  let c0_i32_4213 : BitVec 32 := 0#32
  let v6968 : BitVec 1 := Scalar.cmpi .ne v6967 c0_i32_4213
  let v6972 : BitVec 1 := Scalar.andi v6971 v6968
  let v6973 : BitVec 32 := Scalar.addi v6967 v6966
  let v6974 : BitVec 32 := Scalar.select v6972 v6973 v6967
  let v6985 : BitVec 32 := Scalar.muli c2_i32_4222 v6974
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v6986 : BitVec 32 := Scalar.addi v6985 v94
  let c2_i32_4216 : BitVec 32 := 2#32
  let c0_i32_4217 : BitVec 32 := 0#32
  let v6975 : BitVec 1 := Scalar.cmpi .eq c2_i32_4216 c0_i32_4217
  let c1_i32_4218 : BitVec 32 := 1#32
  let v6976 : BitVec 32 := Scalar.select v6975 c1_i32_4218 c2_i32_4216
  let v6977 : BitVec 32 := Scalar.remsi v6974 v6976
  let c0_i32_4220 : BitVec 32 := 0#32
  let v6979 : BitVec 1 := Scalar.cmpi .slt v6977 c0_i32_4220
  let c0_i32_4221 : BitVec 32 := 0#32
  let v6980 : BitVec 1 := Scalar.cmpi .slt v6976 c0_i32_4221
  let v6981 : BitVec 1 := Scalar.xori v6979 v6980
  let c0_i32_4219 : BitVec 32 := 0#32
  let v6978 : BitVec 1 := Scalar.cmpi .ne v6977 c0_i32_4219
  let v6982 : BitVec 1 := Scalar.andi v6981 v6978
  let v6983 : BitVec 32 := Scalar.addi v6977 v6976
  let v6984 : BitVec 32 := Scalar.select v6982 v6983 v6977
  let c1_i32_4224 : BitVec 32 := 1#32
  let c2_i32_4223 : BitVec 32 := 2#32
  let v6987 : BitVec 32 := Scalar.muli c2_i32_4223 v94
  let v6988 : BitVec 32 := Scalar.subi c1_i32_4224 v6987
  let v6989 : BitVec 32 := Scalar.muli v6984 v6988
  let v6990 : BitVec 32 := Scalar.addi v6986 v6989
  let v6992 : BitVec 32 := Scalar.addi v6991 v6990
  let c1_i32_4230 : BitVec 32 := 1#32
  let v6993 : BitVec 32 := Scalar.muli v6992 c1_i32_4230
  let v6994 : BitVec 32 := Scalar.addi c0_i32_4231 v6993
  v6994.toNat
def k0_dev94 (d0 : Dev nD) : Nat :=
  let c0_i32_4271 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c14_i32_4235 : BitVec 32 := 14#32
  let v7001 : BitVec 32 := Scalar.addi v96 c14_i32_4235
  let c16_i32_4236 : BitVec 32 := 16#32
  let c0_i32_4237 : BitVec 32 := 0#32
  let v7002 : BitVec 1 := Scalar.cmpi .eq c16_i32_4236 c0_i32_4237
  let c1_i32_4238 : BitVec 32 := 1#32
  let v7003 : BitVec 32 := Scalar.select v7002 c1_i32_4238 c16_i32_4236
  let v7004 : BitVec 32 := Scalar.remsi v7001 v7003
  let c0_i32_4240 : BitVec 32 := 0#32
  let v7006 : BitVec 1 := Scalar.cmpi .slt v7004 c0_i32_4240
  let c0_i32_4241 : BitVec 32 := 0#32
  let v7007 : BitVec 1 := Scalar.cmpi .slt v7003 c0_i32_4241
  let v7008 : BitVec 1 := Scalar.xori v7006 v7007
  let c0_i32_4239 : BitVec 32 := 0#32
  let v7005 : BitVec 1 := Scalar.cmpi .ne v7004 c0_i32_4239
  let v7009 : BitVec 1 := Scalar.andi v7008 v7005
  let v7010 : BitVec 32 := Scalar.addi v7004 v7003
  let v7011 : BitVec 32 := Scalar.select v7009 v7010 v7004
  let c0_i32_4244 : BitVec 32 := 0#32
  let v7014 : BitVec 1 := Scalar.cmpi .sgt v7011 c0_i32_4244
  let v7015 : BitVec 32 := Scalar.extui v7014
  let c0_i32_4245 : BitVec 32 := 0#32
  let v7016 : BitVec 1 := Scalar.cmpi .slt v7011 c0_i32_4245
  let v7017 : BitVec 32 := Scalar.extui v7016
  let v7018 : BitVec 32 := Scalar.subi v7015 v7017
  let c4_i32_4243 : BitVec 32 := 4#32
  let c0_i32_4246 : BitVec 32 := 0#32
  let v7019 : BitVec 1 := Scalar.cmpi .sgt c4_i32_4243 c0_i32_4246
  let v7020 : BitVec 32 := Scalar.extui v7019
  let c0_i32_4247 : BitVec 32 := 0#32
  let v7021 : BitVec 1 := Scalar.cmpi .slt c4_i32_4243 c0_i32_4247
  let v7022 : BitVec 32 := Scalar.extui v7021
  let v7023 : BitVec 32 := Scalar.subi v7020 v7022
  let v7024 : BitVec 1 := Scalar.cmpi .ne v7018 v7023
  let v7025 : BitVec 32 := Scalar.remsi v7011 c4_i32_4243
  let c0_i32_4248 : BitVec 32 := 0#32
  let v7026 : BitVec 1 := Scalar.cmpi .ne v7025 c0_i32_4248
  let v7027 : BitVec 1 := Scalar.andi v7024 v7026
  let v7013 : BitVec 32 := Scalar.divsi v7011 c4_i32_4243
  let c1_i32_4249 : BitVec 32 := 1#32
  let v7028 : BitVec 32 := Scalar.subi v7013 c1_i32_4249
  let v7029 : BitVec 32 := Scalar.select v7027 v7028 v7013
  let c8_i32_4265 : BitVec 32 := 8#32
  let v7056 : BitVec 32 := Scalar.muli v7029 c8_i32_4265
  let c2_i32_4262 : BitVec 32 := 2#32
  let c4_i32_4250 : BitVec 32 := 4#32
  let c0_i32_4251 : BitVec 32 := 0#32
  let v7030 : BitVec 1 := Scalar.cmpi .eq c4_i32_4250 c0_i32_4251
  let c1_i32_4252 : BitVec 32 := 1#32
  let v7031 : BitVec 32 := Scalar.select v7030 c1_i32_4252 c4_i32_4250
  let v7032 : BitVec 32 := Scalar.remsi v7011 v7031
  let c0_i32_4254 : BitVec 32 := 0#32
  let v7034 : BitVec 1 := Scalar.cmpi .slt v7032 c0_i32_4254
  let c0_i32_4255 : BitVec 32 := 0#32
  let v7035 : BitVec 1 := Scalar.cmpi .slt v7031 c0_i32_4255
  let v7036 : BitVec 1 := Scalar.xori v7034 v7035
  let c0_i32_4253 : BitVec 32 := 0#32
  let v7033 : BitVec 1 := Scalar.cmpi .ne v7032 c0_i32_4253
  let v7037 : BitVec 1 := Scalar.andi v7036 v7033
  let v7038 : BitVec 32 := Scalar.addi v7032 v7031
  let v7039 : BitVec 32 := Scalar.select v7037 v7038 v7032
  let v7050 : BitVec 32 := Scalar.muli c2_i32_4262 v7039
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v7051 : BitVec 32 := Scalar.addi v7050 v94
  let c2_i32_4256 : BitVec 32 := 2#32
  let c0_i32_4257 : BitVec 32 := 0#32
  let v7040 : BitVec 1 := Scalar.cmpi .eq c2_i32_4256 c0_i32_4257
  let c1_i32_4258 : BitVec 32 := 1#32
  let v7041 : BitVec 32 := Scalar.select v7040 c1_i32_4258 c2_i32_4256
  let v7042 : BitVec 32 := Scalar.remsi v7039 v7041
  let c0_i32_4260 : BitVec 32 := 0#32
  let v7044 : BitVec 1 := Scalar.cmpi .slt v7042 c0_i32_4260
  let c0_i32_4261 : BitVec 32 := 0#32
  let v7045 : BitVec 1 := Scalar.cmpi .slt v7041 c0_i32_4261
  let v7046 : BitVec 1 := Scalar.xori v7044 v7045
  let c0_i32_4259 : BitVec 32 := 0#32
  let v7043 : BitVec 1 := Scalar.cmpi .ne v7042 c0_i32_4259
  let v7047 : BitVec 1 := Scalar.andi v7046 v7043
  let v7048 : BitVec 32 := Scalar.addi v7042 v7041
  let v7049 : BitVec 32 := Scalar.select v7047 v7048 v7042
  let c1_i32_4264 : BitVec 32 := 1#32
  let c2_i32_4263 : BitVec 32 := 2#32
  let v7052 : BitVec 32 := Scalar.muli c2_i32_4263 v94
  let v7053 : BitVec 32 := Scalar.subi c1_i32_4264 v7052
  let v7054 : BitVec 32 := Scalar.muli v7049 v7053
  let v7055 : BitVec 32 := Scalar.addi v7051 v7054
  let v7057 : BitVec 32 := Scalar.addi v7056 v7055
  let c1_i32_4270 : BitVec 32 := 1#32
  let v7058 : BitVec 32 := Scalar.muli v7057 c1_i32_4270
  let v7059 : BitVec 32 := Scalar.addi c0_i32_4271 v7058
  v7059.toNat
def k0_dev95 (d0 : Dev nD) : Nat :=
  let c0_i32_4311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c15_i32_4275 : BitVec 32 := 15#32
  let v7066 : BitVec 32 := Scalar.addi v96 c15_i32_4275
  let c16_i32_4276 : BitVec 32 := 16#32
  let c0_i32_4277 : BitVec 32 := 0#32
  let v7067 : BitVec 1 := Scalar.cmpi .eq c16_i32_4276 c0_i32_4277
  let c1_i32_4278 : BitVec 32 := 1#32
  let v7068 : BitVec 32 := Scalar.select v7067 c1_i32_4278 c16_i32_4276
  let v7069 : BitVec 32 := Scalar.remsi v7066 v7068
  let c0_i32_4280 : BitVec 32 := 0#32
  let v7071 : BitVec 1 := Scalar.cmpi .slt v7069 c0_i32_4280
  let c0_i32_4281 : BitVec 32 := 0#32
  let v7072 : BitVec 1 := Scalar.cmpi .slt v7068 c0_i32_4281
  let v7073 : BitVec 1 := Scalar.xori v7071 v7072
  let c0_i32_4279 : BitVec 32 := 0#32
  let v7070 : BitVec 1 := Scalar.cmpi .ne v7069 c0_i32_4279
  let v7074 : BitVec 1 := Scalar.andi v7073 v7070
  let v7075 : BitVec 32 := Scalar.addi v7069 v7068
  let v7076 : BitVec 32 := Scalar.select v7074 v7075 v7069
  let c0_i32_4284 : BitVec 32 := 0#32
  let v7079 : BitVec 1 := Scalar.cmpi .sgt v7076 c0_i32_4284
  let v7080 : BitVec 32 := Scalar.extui v7079
  let c0_i32_4285 : BitVec 32 := 0#32
  let v7081 : BitVec 1 := Scalar.cmpi .slt v7076 c0_i32_4285
  let v7082 : BitVec 32 := Scalar.extui v7081
  let v7083 : BitVec 32 := Scalar.subi v7080 v7082
  let c4_i32_4283 : BitVec 32 := 4#32
  let c0_i32_4286 : BitVec 32 := 0#32
  let v7084 : BitVec 1 := Scalar.cmpi .sgt c4_i32_4283 c0_i32_4286
  let v7085 : BitVec 32 := Scalar.extui v7084
  let c0_i32_4287 : BitVec 32 := 0#32
  let v7086 : BitVec 1 := Scalar.cmpi .slt c4_i32_4283 c0_i32_4287
  let v7087 : BitVec 32 := Scalar.extui v7086
  let v7088 : BitVec 32 := Scalar.subi v7085 v7087
  let v7089 : BitVec 1 := Scalar.cmpi .ne v7083 v7088
  let v7090 : BitVec 32 := Scalar.remsi v7076 c4_i32_4283
  let c0_i32_4288 : BitVec 32 := 0#32
  let v7091 : BitVec 1 := Scalar.cmpi .ne v7090 c0_i32_4288
  let v7092 : BitVec 1 := Scalar.andi v7089 v7091
  let v7078 : BitVec 32 := Scalar.divsi v7076 c4_i32_4283
  let c1_i32_4289 : BitVec 32 := 1#32
  let v7093 : BitVec 32 := Scalar.subi v7078 c1_i32_4289
  let v7094 : BitVec 32 := Scalar.select v7092 v7093 v7078
  let c8_i32_4305 : BitVec 32 := 8#32
  let v7121 : BitVec 32 := Scalar.muli v7094 c8_i32_4305
  let c2_i32_4302 : BitVec 32 := 2#32
  let c4_i32_4290 : BitVec 32 := 4#32
  let c0_i32_4291 : BitVec 32 := 0#32
  let v7095 : BitVec 1 := Scalar.cmpi .eq c4_i32_4290 c0_i32_4291
  let c1_i32_4292 : BitVec 32 := 1#32
  let v7096 : BitVec 32 := Scalar.select v7095 c1_i32_4292 c4_i32_4290
  let v7097 : BitVec 32 := Scalar.remsi v7076 v7096
  let c0_i32_4294 : BitVec 32 := 0#32
  let v7099 : BitVec 1 := Scalar.cmpi .slt v7097 c0_i32_4294
  let c0_i32_4295 : BitVec 32 := 0#32
  let v7100 : BitVec 1 := Scalar.cmpi .slt v7096 c0_i32_4295
  let v7101 : BitVec 1 := Scalar.xori v7099 v7100
  let c0_i32_4293 : BitVec 32 := 0#32
  let v7098 : BitVec 1 := Scalar.cmpi .ne v7097 c0_i32_4293
  let v7102 : BitVec 1 := Scalar.andi v7101 v7098
  let v7103 : BitVec 32 := Scalar.addi v7097 v7096
  let v7104 : BitVec 32 := Scalar.select v7102 v7103 v7097
  let v7115 : BitVec 32 := Scalar.muli c2_i32_4302 v7104
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v7116 : BitVec 32 := Scalar.addi v7115 v94
  let c2_i32_4296 : BitVec 32 := 2#32
  let c0_i32_4297 : BitVec 32 := 0#32
  let v7105 : BitVec 1 := Scalar.cmpi .eq c2_i32_4296 c0_i32_4297
  let c1_i32_4298 : BitVec 32 := 1#32
  let v7106 : BitVec 32 := Scalar.select v7105 c1_i32_4298 c2_i32_4296
  let v7107 : BitVec 32 := Scalar.remsi v7104 v7106
  let c0_i32_4300 : BitVec 32 := 0#32
  let v7109 : BitVec 1 := Scalar.cmpi .slt v7107 c0_i32_4300
  let c0_i32_4301 : BitVec 32 := 0#32
  let v7110 : BitVec 1 := Scalar.cmpi .slt v7106 c0_i32_4301
  let v7111 : BitVec 1 := Scalar.xori v7109 v7110
  let c0_i32_4299 : BitVec 32 := 0#32
  let v7108 : BitVec 1 := Scalar.cmpi .ne v7107 c0_i32_4299
  let v7112 : BitVec 1 := Scalar.andi v7111 v7108
  let v7113 : BitVec 32 := Scalar.addi v7107 v7106
  let v7114 : BitVec 32 := Scalar.select v7112 v7113 v7107
  let c1_i32_4304 : BitVec 32 := 1#32
  let c2_i32_4303 : BitVec 32 := 2#32
  let v7117 : BitVec 32 := Scalar.muli c2_i32_4303 v94
  let v7118 : BitVec 32 := Scalar.subi c1_i32_4304 v7117
  let v7119 : BitVec 32 := Scalar.muli v7114 v7118
  let v7120 : BitVec 32 := Scalar.addi v7116 v7119
  let v7122 : BitVec 32 := Scalar.addi v7121 v7120
  let c1_i32_4310 : BitVec 32 := 1#32
  let v7123 : BitVec 32 := Scalar.muli v7122 c1_i32_4310
  let v7124 : BitVec 32 := Scalar.addi c0_i32_4311 v7123
  v7124.toNat
def k0_off23 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c32_i32_4319 : BitVec 32 := 32#32
  let v7137 : BitVec 32 := Scalar.muli v96 c32_i32_4319
  let v7138 : Index := Scalar.indexCast v7137
  let c256_4320 : Index := 256#32
  ![v7138.toNat, 256]
def k0_off24 (d0 : Dev nD) (c1_i32_4323 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let v7144 : BitVec 32 := Scalar.addi v96 c1_i32_4323
  let c16_i32_4324 : BitVec 32 := 16#32
  let c0_i32_4325 : BitVec 32 := 0#32
  let v7145 : BitVec 1 := Scalar.cmpi .eq c16_i32_4324 c0_i32_4325
  let c1_i32_4326 : BitVec 32 := 1#32
  let v7146 : BitVec 32 := Scalar.select v7145 c1_i32_4326 c16_i32_4324
  let v7147 : BitVec 32 := Scalar.remsi v7144 v7146
  let c0_i32_4328 : BitVec 32 := 0#32
  let v7149 : BitVec 1 := Scalar.cmpi .slt v7147 c0_i32_4328
  let c0_i32_4329 : BitVec 32 := 0#32
  let v7150 : BitVec 1 := Scalar.cmpi .slt v7146 c0_i32_4329
  let v7151 : BitVec 1 := Scalar.xori v7149 v7150
  let c0_i32_4327 : BitVec 32 := 0#32
  let v7148 : BitVec 1 := Scalar.cmpi .ne v7147 c0_i32_4327
  let v7152 : BitVec 1 := Scalar.andi v7151 v7148
  let v7153 : BitVec 32 := Scalar.addi v7147 v7146
  let v7154 : BitVec 32 := Scalar.select v7152 v7153 v7147
  let c32_i32_4365 : BitVec 32 := 32#32
  let v7208 : BitVec 32 := Scalar.muli v7154 c32_i32_4365
  let v7209 : Index := Scalar.indexCast v7208
  let c256_4366 : Index := 256#32
  ![v7209.toNat, 256]
def k0_dev96 (d0 : Dev nD) : Nat :=
  let c0_i32_5053 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c1_i32_5017 : BitVec 32 := 1#32
  let v8229 : BitVec 32 := Scalar.addi v96 c1_i32_5017
  let c16_i32_5018 : BitVec 32 := 16#32
  let c0_i32_5019 : BitVec 32 := 0#32
  let v8230 : BitVec 1 := Scalar.cmpi .eq c16_i32_5018 c0_i32_5019
  let c1_i32_5020 : BitVec 32 := 1#32
  let v8231 : BitVec 32 := Scalar.select v8230 c1_i32_5020 c16_i32_5018
  let v8232 : BitVec 32 := Scalar.remsi v8229 v8231
  let c0_i32_5022 : BitVec 32 := 0#32
  let v8234 : BitVec 1 := Scalar.cmpi .slt v8232 c0_i32_5022
  let c0_i32_5023 : BitVec 32 := 0#32
  let v8235 : BitVec 1 := Scalar.cmpi .slt v8231 c0_i32_5023
  let v8236 : BitVec 1 := Scalar.xori v8234 v8235
  let c0_i32_5021 : BitVec 32 := 0#32
  let v8233 : BitVec 1 := Scalar.cmpi .ne v8232 c0_i32_5021
  let v8237 : BitVec 1 := Scalar.andi v8236 v8233
  let v8238 : BitVec 32 := Scalar.addi v8232 v8231
  let v8239 : BitVec 32 := Scalar.select v8237 v8238 v8232
  let c0_i32_5026 : BitVec 32 := 0#32
  let v8242 : BitVec 1 := Scalar.cmpi .sgt v8239 c0_i32_5026
  let v8243 : BitVec 32 := Scalar.extui v8242
  let c0_i32_5027 : BitVec 32 := 0#32
  let v8244 : BitVec 1 := Scalar.cmpi .slt v8239 c0_i32_5027
  let v8245 : BitVec 32 := Scalar.extui v8244
  let v8246 : BitVec 32 := Scalar.subi v8243 v8245
  let c4_i32_5025 : BitVec 32 := 4#32
  let c0_i32_5028 : BitVec 32 := 0#32
  let v8247 : BitVec 1 := Scalar.cmpi .sgt c4_i32_5025 c0_i32_5028
  let v8248 : BitVec 32 := Scalar.extui v8247
  let c0_i32_5029 : BitVec 32 := 0#32
  let v8249 : BitVec 1 := Scalar.cmpi .slt c4_i32_5025 c0_i32_5029
  let v8250 : BitVec 32 := Scalar.extui v8249
  let v8251 : BitVec 32 := Scalar.subi v8248 v8250
  let v8252 : BitVec 1 := Scalar.cmpi .ne v8246 v8251
  let v8253 : BitVec 32 := Scalar.remsi v8239 c4_i32_5025
  let c0_i32_5030 : BitVec 32 := 0#32
  let v8254 : BitVec 1 := Scalar.cmpi .ne v8253 c0_i32_5030
  let v8255 : BitVec 1 := Scalar.andi v8252 v8254
  let v8241 : BitVec 32 := Scalar.divsi v8239 c4_i32_5025
  let c1_i32_5031 : BitVec 32 := 1#32
  let v8256 : BitVec 32 := Scalar.subi v8241 c1_i32_5031
  let v8257 : BitVec 32 := Scalar.select v8255 v8256 v8241
  let c8_i32_5047 : BitVec 32 := 8#32
  let v8284 : BitVec 32 := Scalar.muli v8257 c8_i32_5047
  let c2_i32_5044 : BitVec 32 := 2#32
  let c4_i32_5032 : BitVec 32 := 4#32
  let c0_i32_5033 : BitVec 32 := 0#32
  let v8258 : BitVec 1 := Scalar.cmpi .eq c4_i32_5032 c0_i32_5033
  let c1_i32_5034 : BitVec 32 := 1#32
  let v8259 : BitVec 32 := Scalar.select v8258 c1_i32_5034 c4_i32_5032
  let v8260 : BitVec 32 := Scalar.remsi v8239 v8259
  let c0_i32_5036 : BitVec 32 := 0#32
  let v8262 : BitVec 1 := Scalar.cmpi .slt v8260 c0_i32_5036
  let c0_i32_5037 : BitVec 32 := 0#32
  let v8263 : BitVec 1 := Scalar.cmpi .slt v8259 c0_i32_5037
  let v8264 : BitVec 1 := Scalar.xori v8262 v8263
  let c0_i32_5035 : BitVec 32 := 0#32
  let v8261 : BitVec 1 := Scalar.cmpi .ne v8260 c0_i32_5035
  let v8265 : BitVec 1 := Scalar.andi v8264 v8261
  let v8266 : BitVec 32 := Scalar.addi v8260 v8259
  let v8267 : BitVec 32 := Scalar.select v8265 v8266 v8260
  let v8278 : BitVec 32 := Scalar.muli c2_i32_5044 v8267
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v8279 : BitVec 32 := Scalar.addi v8278 v94
  let c2_i32_5038 : BitVec 32 := 2#32
  let c0_i32_5039 : BitVec 32 := 0#32
  let v8268 : BitVec 1 := Scalar.cmpi .eq c2_i32_5038 c0_i32_5039
  let c1_i32_5040 : BitVec 32 := 1#32
  let v8269 : BitVec 32 := Scalar.select v8268 c1_i32_5040 c2_i32_5038
  let v8270 : BitVec 32 := Scalar.remsi v8267 v8269
  let c0_i32_5042 : BitVec 32 := 0#32
  let v8272 : BitVec 1 := Scalar.cmpi .slt v8270 c0_i32_5042
  let c0_i32_5043 : BitVec 32 := 0#32
  let v8273 : BitVec 1 := Scalar.cmpi .slt v8269 c0_i32_5043
  let v8274 : BitVec 1 := Scalar.xori v8272 v8273
  let c0_i32_5041 : BitVec 32 := 0#32
  let v8271 : BitVec 1 := Scalar.cmpi .ne v8270 c0_i32_5041
  let v8275 : BitVec 1 := Scalar.andi v8274 v8271
  let v8276 : BitVec 32 := Scalar.addi v8270 v8269
  let v8277 : BitVec 32 := Scalar.select v8275 v8276 v8270
  let c1_i32_5046 : BitVec 32 := 1#32
  let c2_i32_5045 : BitVec 32 := 2#32
  let v8280 : BitVec 32 := Scalar.muli c2_i32_5045 v94
  let v8281 : BitVec 32 := Scalar.subi c1_i32_5046 v8280
  let v8282 : BitVec 32 := Scalar.muli v8277 v8281
  let v8283 : BitVec 32 := Scalar.addi v8279 v8282
  let v8285 : BitVec 32 := Scalar.addi v8284 v8283
  let c1_i32_5052 : BitVec 32 := 1#32
  let v8286 : BitVec 32 := Scalar.muli v8285 c1_i32_5052
  let v8287 : BitVec 32 := Scalar.addi c0_i32_5053 v8286
  v8287.toNat
def k0_dev97 (d0 : Dev nD) : Nat :=
  let c0_i32_5093 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c2_i32_5057 : BitVec 32 := 2#32
  let v8294 : BitVec 32 := Scalar.addi v96 c2_i32_5057
  let c16_i32_5058 : BitVec 32 := 16#32
  let c0_i32_5059 : BitVec 32 := 0#32
  let v8295 : BitVec 1 := Scalar.cmpi .eq c16_i32_5058 c0_i32_5059
  let c1_i32_5060 : BitVec 32 := 1#32
  let v8296 : BitVec 32 := Scalar.select v8295 c1_i32_5060 c16_i32_5058
  let v8297 : BitVec 32 := Scalar.remsi v8294 v8296
  let c0_i32_5062 : BitVec 32 := 0#32
  let v8299 : BitVec 1 := Scalar.cmpi .slt v8297 c0_i32_5062
  let c0_i32_5063 : BitVec 32 := 0#32
  let v8300 : BitVec 1 := Scalar.cmpi .slt v8296 c0_i32_5063
  let v8301 : BitVec 1 := Scalar.xori v8299 v8300
  let c0_i32_5061 : BitVec 32 := 0#32
  let v8298 : BitVec 1 := Scalar.cmpi .ne v8297 c0_i32_5061
  let v8302 : BitVec 1 := Scalar.andi v8301 v8298
  let v8303 : BitVec 32 := Scalar.addi v8297 v8296
  let v8304 : BitVec 32 := Scalar.select v8302 v8303 v8297
  let c0_i32_5066 : BitVec 32 := 0#32
  let v8307 : BitVec 1 := Scalar.cmpi .sgt v8304 c0_i32_5066
  let v8308 : BitVec 32 := Scalar.extui v8307
  let c0_i32_5067 : BitVec 32 := 0#32
  let v8309 : BitVec 1 := Scalar.cmpi .slt v8304 c0_i32_5067
  let v8310 : BitVec 32 := Scalar.extui v8309
  let v8311 : BitVec 32 := Scalar.subi v8308 v8310
  let c4_i32_5065 : BitVec 32 := 4#32
  let c0_i32_5068 : BitVec 32 := 0#32
  let v8312 : BitVec 1 := Scalar.cmpi .sgt c4_i32_5065 c0_i32_5068
  let v8313 : BitVec 32 := Scalar.extui v8312
  let c0_i32_5069 : BitVec 32 := 0#32
  let v8314 : BitVec 1 := Scalar.cmpi .slt c4_i32_5065 c0_i32_5069
  let v8315 : BitVec 32 := Scalar.extui v8314
  let v8316 : BitVec 32 := Scalar.subi v8313 v8315
  let v8317 : BitVec 1 := Scalar.cmpi .ne v8311 v8316
  let v8318 : BitVec 32 := Scalar.remsi v8304 c4_i32_5065
  let c0_i32_5070 : BitVec 32 := 0#32
  let v8319 : BitVec 1 := Scalar.cmpi .ne v8318 c0_i32_5070
  let v8320 : BitVec 1 := Scalar.andi v8317 v8319
  let v8306 : BitVec 32 := Scalar.divsi v8304 c4_i32_5065
  let c1_i32_5071 : BitVec 32 := 1#32
  let v8321 : BitVec 32 := Scalar.subi v8306 c1_i32_5071
  let v8322 : BitVec 32 := Scalar.select v8320 v8321 v8306
  let c8_i32_5087 : BitVec 32 := 8#32
  let v8349 : BitVec 32 := Scalar.muli v8322 c8_i32_5087
  let c2_i32_5084 : BitVec 32 := 2#32
  let c4_i32_5072 : BitVec 32 := 4#32
  let c0_i32_5073 : BitVec 32 := 0#32
  let v8323 : BitVec 1 := Scalar.cmpi .eq c4_i32_5072 c0_i32_5073
  let c1_i32_5074 : BitVec 32 := 1#32
  let v8324 : BitVec 32 := Scalar.select v8323 c1_i32_5074 c4_i32_5072
  let v8325 : BitVec 32 := Scalar.remsi v8304 v8324
  let c0_i32_5076 : BitVec 32 := 0#32
  let v8327 : BitVec 1 := Scalar.cmpi .slt v8325 c0_i32_5076
  let c0_i32_5077 : BitVec 32 := 0#32
  let v8328 : BitVec 1 := Scalar.cmpi .slt v8324 c0_i32_5077
  let v8329 : BitVec 1 := Scalar.xori v8327 v8328
  let c0_i32_5075 : BitVec 32 := 0#32
  let v8326 : BitVec 1 := Scalar.cmpi .ne v8325 c0_i32_5075
  let v8330 : BitVec 1 := Scalar.andi v8329 v8326
  let v8331 : BitVec 32 := Scalar.addi v8325 v8324
  let v8332 : BitVec 32 := Scalar.select v8330 v8331 v8325
  let v8343 : BitVec 32 := Scalar.muli c2_i32_5084 v8332
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v8344 : BitVec 32 := Scalar.addi v8343 v94
  let c2_i32_5078 : BitVec 32 := 2#32
  let c0_i32_5079 : BitVec 32 := 0#32
  let v8333 : BitVec 1 := Scalar.cmpi .eq c2_i32_5078 c0_i32_5079
  let c1_i32_5080 : BitVec 32 := 1#32
  let v8334 : BitVec 32 := Scalar.select v8333 c1_i32_5080 c2_i32_5078
  let v8335 : BitVec 32 := Scalar.remsi v8332 v8334
  let c0_i32_5082 : BitVec 32 := 0#32
  let v8337 : BitVec 1 := Scalar.cmpi .slt v8335 c0_i32_5082
  let c0_i32_5083 : BitVec 32 := 0#32
  let v8338 : BitVec 1 := Scalar.cmpi .slt v8334 c0_i32_5083
  let v8339 : BitVec 1 := Scalar.xori v8337 v8338
  let c0_i32_5081 : BitVec 32 := 0#32
  let v8336 : BitVec 1 := Scalar.cmpi .ne v8335 c0_i32_5081
  let v8340 : BitVec 1 := Scalar.andi v8339 v8336
  let v8341 : BitVec 32 := Scalar.addi v8335 v8334
  let v8342 : BitVec 32 := Scalar.select v8340 v8341 v8335
  let c1_i32_5086 : BitVec 32 := 1#32
  let c2_i32_5085 : BitVec 32 := 2#32
  let v8345 : BitVec 32 := Scalar.muli c2_i32_5085 v94
  let v8346 : BitVec 32 := Scalar.subi c1_i32_5086 v8345
  let v8347 : BitVec 32 := Scalar.muli v8342 v8346
  let v8348 : BitVec 32 := Scalar.addi v8344 v8347
  let v8350 : BitVec 32 := Scalar.addi v8349 v8348
  let c1_i32_5092 : BitVec 32 := 1#32
  let v8351 : BitVec 32 := Scalar.muli v8350 c1_i32_5092
  let v8352 : BitVec 32 := Scalar.addi c0_i32_5093 v8351
  v8352.toNat
def k0_dev98 (d0 : Dev nD) : Nat :=
  let c0_i32_5133 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c3_i32_5097 : BitVec 32 := 3#32
  let v8359 : BitVec 32 := Scalar.addi v96 c3_i32_5097
  let c16_i32_5098 : BitVec 32 := 16#32
  let c0_i32_5099 : BitVec 32 := 0#32
  let v8360 : BitVec 1 := Scalar.cmpi .eq c16_i32_5098 c0_i32_5099
  let c1_i32_5100 : BitVec 32 := 1#32
  let v8361 : BitVec 32 := Scalar.select v8360 c1_i32_5100 c16_i32_5098
  let v8362 : BitVec 32 := Scalar.remsi v8359 v8361
  let c0_i32_5102 : BitVec 32 := 0#32
  let v8364 : BitVec 1 := Scalar.cmpi .slt v8362 c0_i32_5102
  let c0_i32_5103 : BitVec 32 := 0#32
  let v8365 : BitVec 1 := Scalar.cmpi .slt v8361 c0_i32_5103
  let v8366 : BitVec 1 := Scalar.xori v8364 v8365
  let c0_i32_5101 : BitVec 32 := 0#32
  let v8363 : BitVec 1 := Scalar.cmpi .ne v8362 c0_i32_5101
  let v8367 : BitVec 1 := Scalar.andi v8366 v8363
  let v8368 : BitVec 32 := Scalar.addi v8362 v8361
  let v8369 : BitVec 32 := Scalar.select v8367 v8368 v8362
  let c0_i32_5106 : BitVec 32 := 0#32
  let v8372 : BitVec 1 := Scalar.cmpi .sgt v8369 c0_i32_5106
  let v8373 : BitVec 32 := Scalar.extui v8372
  let c0_i32_5107 : BitVec 32 := 0#32
  let v8374 : BitVec 1 := Scalar.cmpi .slt v8369 c0_i32_5107
  let v8375 : BitVec 32 := Scalar.extui v8374
  let v8376 : BitVec 32 := Scalar.subi v8373 v8375
  let c4_i32_5105 : BitVec 32 := 4#32
  let c0_i32_5108 : BitVec 32 := 0#32
  let v8377 : BitVec 1 := Scalar.cmpi .sgt c4_i32_5105 c0_i32_5108
  let v8378 : BitVec 32 := Scalar.extui v8377
  let c0_i32_5109 : BitVec 32 := 0#32
  let v8379 : BitVec 1 := Scalar.cmpi .slt c4_i32_5105 c0_i32_5109
  let v8380 : BitVec 32 := Scalar.extui v8379
  let v8381 : BitVec 32 := Scalar.subi v8378 v8380
  let v8382 : BitVec 1 := Scalar.cmpi .ne v8376 v8381
  let v8383 : BitVec 32 := Scalar.remsi v8369 c4_i32_5105
  let c0_i32_5110 : BitVec 32 := 0#32
  let v8384 : BitVec 1 := Scalar.cmpi .ne v8383 c0_i32_5110
  let v8385 : BitVec 1 := Scalar.andi v8382 v8384
  let v8371 : BitVec 32 := Scalar.divsi v8369 c4_i32_5105
  let c1_i32_5111 : BitVec 32 := 1#32
  let v8386 : BitVec 32 := Scalar.subi v8371 c1_i32_5111
  let v8387 : BitVec 32 := Scalar.select v8385 v8386 v8371
  let c8_i32_5127 : BitVec 32 := 8#32
  let v8414 : BitVec 32 := Scalar.muli v8387 c8_i32_5127
  let c2_i32_5124 : BitVec 32 := 2#32
  let c4_i32_5112 : BitVec 32 := 4#32
  let c0_i32_5113 : BitVec 32 := 0#32
  let v8388 : BitVec 1 := Scalar.cmpi .eq c4_i32_5112 c0_i32_5113
  let c1_i32_5114 : BitVec 32 := 1#32
  let v8389 : BitVec 32 := Scalar.select v8388 c1_i32_5114 c4_i32_5112
  let v8390 : BitVec 32 := Scalar.remsi v8369 v8389
  let c0_i32_5116 : BitVec 32 := 0#32
  let v8392 : BitVec 1 := Scalar.cmpi .slt v8390 c0_i32_5116
  let c0_i32_5117 : BitVec 32 := 0#32
  let v8393 : BitVec 1 := Scalar.cmpi .slt v8389 c0_i32_5117
  let v8394 : BitVec 1 := Scalar.xori v8392 v8393
  let c0_i32_5115 : BitVec 32 := 0#32
  let v8391 : BitVec 1 := Scalar.cmpi .ne v8390 c0_i32_5115
  let v8395 : BitVec 1 := Scalar.andi v8394 v8391
  let v8396 : BitVec 32 := Scalar.addi v8390 v8389
  let v8397 : BitVec 32 := Scalar.select v8395 v8396 v8390
  let v8408 : BitVec 32 := Scalar.muli c2_i32_5124 v8397
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v8409 : BitVec 32 := Scalar.addi v8408 v94
  let c2_i32_5118 : BitVec 32 := 2#32
  let c0_i32_5119 : BitVec 32 := 0#32
  let v8398 : BitVec 1 := Scalar.cmpi .eq c2_i32_5118 c0_i32_5119
  let c1_i32_5120 : BitVec 32 := 1#32
  let v8399 : BitVec 32 := Scalar.select v8398 c1_i32_5120 c2_i32_5118
  let v8400 : BitVec 32 := Scalar.remsi v8397 v8399
  let c0_i32_5122 : BitVec 32 := 0#32
  let v8402 : BitVec 1 := Scalar.cmpi .slt v8400 c0_i32_5122
  let c0_i32_5123 : BitVec 32 := 0#32
  let v8403 : BitVec 1 := Scalar.cmpi .slt v8399 c0_i32_5123
  let v8404 : BitVec 1 := Scalar.xori v8402 v8403
  let c0_i32_5121 : BitVec 32 := 0#32
  let v8401 : BitVec 1 := Scalar.cmpi .ne v8400 c0_i32_5121
  let v8405 : BitVec 1 := Scalar.andi v8404 v8401
  let v8406 : BitVec 32 := Scalar.addi v8400 v8399
  let v8407 : BitVec 32 := Scalar.select v8405 v8406 v8400
  let c1_i32_5126 : BitVec 32 := 1#32
  let c2_i32_5125 : BitVec 32 := 2#32
  let v8410 : BitVec 32 := Scalar.muli c2_i32_5125 v94
  let v8411 : BitVec 32 := Scalar.subi c1_i32_5126 v8410
  let v8412 : BitVec 32 := Scalar.muli v8407 v8411
  let v8413 : BitVec 32 := Scalar.addi v8409 v8412
  let v8415 : BitVec 32 := Scalar.addi v8414 v8413
  let c1_i32_5132 : BitVec 32 := 1#32
  let v8416 : BitVec 32 := Scalar.muli v8415 c1_i32_5132
  let v8417 : BitVec 32 := Scalar.addi c0_i32_5133 v8416
  v8417.toNat
def k0_dev99 (d0 : Dev nD) : Nat :=
  let c0_i32_5173 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c4_i32_5137 : BitVec 32 := 4#32
  let v8424 : BitVec 32 := Scalar.addi v96 c4_i32_5137
  let c16_i32_5138 : BitVec 32 := 16#32
  let c0_i32_5139 : BitVec 32 := 0#32
  let v8425 : BitVec 1 := Scalar.cmpi .eq c16_i32_5138 c0_i32_5139
  let c1_i32_5140 : BitVec 32 := 1#32
  let v8426 : BitVec 32 := Scalar.select v8425 c1_i32_5140 c16_i32_5138
  let v8427 : BitVec 32 := Scalar.remsi v8424 v8426
  let c0_i32_5142 : BitVec 32 := 0#32
  let v8429 : BitVec 1 := Scalar.cmpi .slt v8427 c0_i32_5142
  let c0_i32_5143 : BitVec 32 := 0#32
  let v8430 : BitVec 1 := Scalar.cmpi .slt v8426 c0_i32_5143
  let v8431 : BitVec 1 := Scalar.xori v8429 v8430
  let c0_i32_5141 : BitVec 32 := 0#32
  let v8428 : BitVec 1 := Scalar.cmpi .ne v8427 c0_i32_5141
  let v8432 : BitVec 1 := Scalar.andi v8431 v8428
  let v8433 : BitVec 32 := Scalar.addi v8427 v8426
  let v8434 : BitVec 32 := Scalar.select v8432 v8433 v8427
  let c0_i32_5146 : BitVec 32 := 0#32
  let v8437 : BitVec 1 := Scalar.cmpi .sgt v8434 c0_i32_5146
  let v8438 : BitVec 32 := Scalar.extui v8437
  let c0_i32_5147 : BitVec 32 := 0#32
  let v8439 : BitVec 1 := Scalar.cmpi .slt v8434 c0_i32_5147
  let v8440 : BitVec 32 := Scalar.extui v8439
  let v8441 : BitVec 32 := Scalar.subi v8438 v8440
  let c4_i32_5145 : BitVec 32 := 4#32
  let c0_i32_5148 : BitVec 32 := 0#32
  let v8442 : BitVec 1 := Scalar.cmpi .sgt c4_i32_5145 c0_i32_5148
  let v8443 : BitVec 32 := Scalar.extui v8442
  let c0_i32_5149 : BitVec 32 := 0#32
  let v8444 : BitVec 1 := Scalar.cmpi .slt c4_i32_5145 c0_i32_5149
  let v8445 : BitVec 32 := Scalar.extui v8444
  let v8446 : BitVec 32 := Scalar.subi v8443 v8445
  let v8447 : BitVec 1 := Scalar.cmpi .ne v8441 v8446
  let v8448 : BitVec 32 := Scalar.remsi v8434 c4_i32_5145
  let c0_i32_5150 : BitVec 32 := 0#32
  let v8449 : BitVec 1 := Scalar.cmpi .ne v8448 c0_i32_5150
  let v8450 : BitVec 1 := Scalar.andi v8447 v8449
  let v8436 : BitVec 32 := Scalar.divsi v8434 c4_i32_5145
  let c1_i32_5151 : BitVec 32 := 1#32
  let v8451 : BitVec 32 := Scalar.subi v8436 c1_i32_5151
  let v8452 : BitVec 32 := Scalar.select v8450 v8451 v8436
  let c8_i32_5167 : BitVec 32 := 8#32
  let v8479 : BitVec 32 := Scalar.muli v8452 c8_i32_5167
  let c2_i32_5164 : BitVec 32 := 2#32
  let c4_i32_5152 : BitVec 32 := 4#32
  let c0_i32_5153 : BitVec 32 := 0#32
  let v8453 : BitVec 1 := Scalar.cmpi .eq c4_i32_5152 c0_i32_5153
  let c1_i32_5154 : BitVec 32 := 1#32
  let v8454 : BitVec 32 := Scalar.select v8453 c1_i32_5154 c4_i32_5152
  let v8455 : BitVec 32 := Scalar.remsi v8434 v8454
  let c0_i32_5156 : BitVec 32 := 0#32
  let v8457 : BitVec 1 := Scalar.cmpi .slt v8455 c0_i32_5156
  let c0_i32_5157 : BitVec 32 := 0#32
  let v8458 : BitVec 1 := Scalar.cmpi .slt v8454 c0_i32_5157
  let v8459 : BitVec 1 := Scalar.xori v8457 v8458
  let c0_i32_5155 : BitVec 32 := 0#32
  let v8456 : BitVec 1 := Scalar.cmpi .ne v8455 c0_i32_5155
  let v8460 : BitVec 1 := Scalar.andi v8459 v8456
  let v8461 : BitVec 32 := Scalar.addi v8455 v8454
  let v8462 : BitVec 32 := Scalar.select v8460 v8461 v8455
  let v8473 : BitVec 32 := Scalar.muli c2_i32_5164 v8462
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v8474 : BitVec 32 := Scalar.addi v8473 v94
  let c2_i32_5158 : BitVec 32 := 2#32
  let c0_i32_5159 : BitVec 32 := 0#32
  let v8463 : BitVec 1 := Scalar.cmpi .eq c2_i32_5158 c0_i32_5159
  let c1_i32_5160 : BitVec 32 := 1#32
  let v8464 : BitVec 32 := Scalar.select v8463 c1_i32_5160 c2_i32_5158
  let v8465 : BitVec 32 := Scalar.remsi v8462 v8464
  let c0_i32_5162 : BitVec 32 := 0#32
  let v8467 : BitVec 1 := Scalar.cmpi .slt v8465 c0_i32_5162
  let c0_i32_5163 : BitVec 32 := 0#32
  let v8468 : BitVec 1 := Scalar.cmpi .slt v8464 c0_i32_5163
  let v8469 : BitVec 1 := Scalar.xori v8467 v8468
  let c0_i32_5161 : BitVec 32 := 0#32
  let v8466 : BitVec 1 := Scalar.cmpi .ne v8465 c0_i32_5161
  let v8470 : BitVec 1 := Scalar.andi v8469 v8466
  let v8471 : BitVec 32 := Scalar.addi v8465 v8464
  let v8472 : BitVec 32 := Scalar.select v8470 v8471 v8465
  let c1_i32_5166 : BitVec 32 := 1#32
  let c2_i32_5165 : BitVec 32 := 2#32
  let v8475 : BitVec 32 := Scalar.muli c2_i32_5165 v94
  let v8476 : BitVec 32 := Scalar.subi c1_i32_5166 v8475
  let v8477 : BitVec 32 := Scalar.muli v8472 v8476
  let v8478 : BitVec 32 := Scalar.addi v8474 v8477
  let v8480 : BitVec 32 := Scalar.addi v8479 v8478
  let c1_i32_5172 : BitVec 32 := 1#32
  let v8481 : BitVec 32 := Scalar.muli v8480 c1_i32_5172
  let v8482 : BitVec 32 := Scalar.addi c0_i32_5173 v8481
  v8482.toNat
def k0_dev100 (d0 : Dev nD) : Nat :=
  let c0_i32_5213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c5_i32_5177 : BitVec 32 := 5#32
  let v8489 : BitVec 32 := Scalar.addi v96 c5_i32_5177
  let c16_i32_5178 : BitVec 32 := 16#32
  let c0_i32_5179 : BitVec 32 := 0#32
  let v8490 : BitVec 1 := Scalar.cmpi .eq c16_i32_5178 c0_i32_5179
  let c1_i32_5180 : BitVec 32 := 1#32
  let v8491 : BitVec 32 := Scalar.select v8490 c1_i32_5180 c16_i32_5178
  let v8492 : BitVec 32 := Scalar.remsi v8489 v8491
  let c0_i32_5182 : BitVec 32 := 0#32
  let v8494 : BitVec 1 := Scalar.cmpi .slt v8492 c0_i32_5182
  let c0_i32_5183 : BitVec 32 := 0#32
  let v8495 : BitVec 1 := Scalar.cmpi .slt v8491 c0_i32_5183
  let v8496 : BitVec 1 := Scalar.xori v8494 v8495
  let c0_i32_5181 : BitVec 32 := 0#32
  let v8493 : BitVec 1 := Scalar.cmpi .ne v8492 c0_i32_5181
  let v8497 : BitVec 1 := Scalar.andi v8496 v8493
  let v8498 : BitVec 32 := Scalar.addi v8492 v8491
  let v8499 : BitVec 32 := Scalar.select v8497 v8498 v8492
  let c0_i32_5186 : BitVec 32 := 0#32
  let v8502 : BitVec 1 := Scalar.cmpi .sgt v8499 c0_i32_5186
  let v8503 : BitVec 32 := Scalar.extui v8502
  let c0_i32_5187 : BitVec 32 := 0#32
  let v8504 : BitVec 1 := Scalar.cmpi .slt v8499 c0_i32_5187
  let v8505 : BitVec 32 := Scalar.extui v8504
  let v8506 : BitVec 32 := Scalar.subi v8503 v8505
  let c4_i32_5185 : BitVec 32 := 4#32
  let c0_i32_5188 : BitVec 32 := 0#32
  let v8507 : BitVec 1 := Scalar.cmpi .sgt c4_i32_5185 c0_i32_5188
  let v8508 : BitVec 32 := Scalar.extui v8507
  let c0_i32_5189 : BitVec 32 := 0#32
  let v8509 : BitVec 1 := Scalar.cmpi .slt c4_i32_5185 c0_i32_5189
  let v8510 : BitVec 32 := Scalar.extui v8509
  let v8511 : BitVec 32 := Scalar.subi v8508 v8510
  let v8512 : BitVec 1 := Scalar.cmpi .ne v8506 v8511
  let v8513 : BitVec 32 := Scalar.remsi v8499 c4_i32_5185
  let c0_i32_5190 : BitVec 32 := 0#32
  let v8514 : BitVec 1 := Scalar.cmpi .ne v8513 c0_i32_5190
  let v8515 : BitVec 1 := Scalar.andi v8512 v8514
  let v8501 : BitVec 32 := Scalar.divsi v8499 c4_i32_5185
  let c1_i32_5191 : BitVec 32 := 1#32
  let v8516 : BitVec 32 := Scalar.subi v8501 c1_i32_5191
  let v8517 : BitVec 32 := Scalar.select v8515 v8516 v8501
  let c8_i32_5207 : BitVec 32 := 8#32
  let v8544 : BitVec 32 := Scalar.muli v8517 c8_i32_5207
  let c2_i32_5204 : BitVec 32 := 2#32
  let c4_i32_5192 : BitVec 32 := 4#32
  let c0_i32_5193 : BitVec 32 := 0#32
  let v8518 : BitVec 1 := Scalar.cmpi .eq c4_i32_5192 c0_i32_5193
  let c1_i32_5194 : BitVec 32 := 1#32
  let v8519 : BitVec 32 := Scalar.select v8518 c1_i32_5194 c4_i32_5192
  let v8520 : BitVec 32 := Scalar.remsi v8499 v8519
  let c0_i32_5196 : BitVec 32 := 0#32
  let v8522 : BitVec 1 := Scalar.cmpi .slt v8520 c0_i32_5196
  let c0_i32_5197 : BitVec 32 := 0#32
  let v8523 : BitVec 1 := Scalar.cmpi .slt v8519 c0_i32_5197
  let v8524 : BitVec 1 := Scalar.xori v8522 v8523
  let c0_i32_5195 : BitVec 32 := 0#32
  let v8521 : BitVec 1 := Scalar.cmpi .ne v8520 c0_i32_5195
  let v8525 : BitVec 1 := Scalar.andi v8524 v8521
  let v8526 : BitVec 32 := Scalar.addi v8520 v8519
  let v8527 : BitVec 32 := Scalar.select v8525 v8526 v8520
  let v8538 : BitVec 32 := Scalar.muli c2_i32_5204 v8527
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v8539 : BitVec 32 := Scalar.addi v8538 v94
  let c2_i32_5198 : BitVec 32 := 2#32
  let c0_i32_5199 : BitVec 32 := 0#32
  let v8528 : BitVec 1 := Scalar.cmpi .eq c2_i32_5198 c0_i32_5199
  let c1_i32_5200 : BitVec 32 := 1#32
  let v8529 : BitVec 32 := Scalar.select v8528 c1_i32_5200 c2_i32_5198
  let v8530 : BitVec 32 := Scalar.remsi v8527 v8529
  let c0_i32_5202 : BitVec 32 := 0#32
  let v8532 : BitVec 1 := Scalar.cmpi .slt v8530 c0_i32_5202
  let c0_i32_5203 : BitVec 32 := 0#32
  let v8533 : BitVec 1 := Scalar.cmpi .slt v8529 c0_i32_5203
  let v8534 : BitVec 1 := Scalar.xori v8532 v8533
  let c0_i32_5201 : BitVec 32 := 0#32
  let v8531 : BitVec 1 := Scalar.cmpi .ne v8530 c0_i32_5201
  let v8535 : BitVec 1 := Scalar.andi v8534 v8531
  let v8536 : BitVec 32 := Scalar.addi v8530 v8529
  let v8537 : BitVec 32 := Scalar.select v8535 v8536 v8530
  let c1_i32_5206 : BitVec 32 := 1#32
  let c2_i32_5205 : BitVec 32 := 2#32
  let v8540 : BitVec 32 := Scalar.muli c2_i32_5205 v94
  let v8541 : BitVec 32 := Scalar.subi c1_i32_5206 v8540
  let v8542 : BitVec 32 := Scalar.muli v8537 v8541
  let v8543 : BitVec 32 := Scalar.addi v8539 v8542
  let v8545 : BitVec 32 := Scalar.addi v8544 v8543
  let c1_i32_5212 : BitVec 32 := 1#32
  let v8546 : BitVec 32 := Scalar.muli v8545 c1_i32_5212
  let v8547 : BitVec 32 := Scalar.addi c0_i32_5213 v8546
  v8547.toNat
def k0_dev101 (d0 : Dev nD) : Nat :=
  let c0_i32_5253 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c6_i32_5217 : BitVec 32 := 6#32
  let v8554 : BitVec 32 := Scalar.addi v96 c6_i32_5217
  let c16_i32_5218 : BitVec 32 := 16#32
  let c0_i32_5219 : BitVec 32 := 0#32
  let v8555 : BitVec 1 := Scalar.cmpi .eq c16_i32_5218 c0_i32_5219
  let c1_i32_5220 : BitVec 32 := 1#32
  let v8556 : BitVec 32 := Scalar.select v8555 c1_i32_5220 c16_i32_5218
  let v8557 : BitVec 32 := Scalar.remsi v8554 v8556
  let c0_i32_5222 : BitVec 32 := 0#32
  let v8559 : BitVec 1 := Scalar.cmpi .slt v8557 c0_i32_5222
  let c0_i32_5223 : BitVec 32 := 0#32
  let v8560 : BitVec 1 := Scalar.cmpi .slt v8556 c0_i32_5223
  let v8561 : BitVec 1 := Scalar.xori v8559 v8560
  let c0_i32_5221 : BitVec 32 := 0#32
  let v8558 : BitVec 1 := Scalar.cmpi .ne v8557 c0_i32_5221
  let v8562 : BitVec 1 := Scalar.andi v8561 v8558
  let v8563 : BitVec 32 := Scalar.addi v8557 v8556
  let v8564 : BitVec 32 := Scalar.select v8562 v8563 v8557
  let c0_i32_5226 : BitVec 32 := 0#32
  let v8567 : BitVec 1 := Scalar.cmpi .sgt v8564 c0_i32_5226
  let v8568 : BitVec 32 := Scalar.extui v8567
  let c0_i32_5227 : BitVec 32 := 0#32
  let v8569 : BitVec 1 := Scalar.cmpi .slt v8564 c0_i32_5227
  let v8570 : BitVec 32 := Scalar.extui v8569
  let v8571 : BitVec 32 := Scalar.subi v8568 v8570
  let c4_i32_5225 : BitVec 32 := 4#32
  let c0_i32_5228 : BitVec 32 := 0#32
  let v8572 : BitVec 1 := Scalar.cmpi .sgt c4_i32_5225 c0_i32_5228
  let v8573 : BitVec 32 := Scalar.extui v8572
  let c0_i32_5229 : BitVec 32 := 0#32
  let v8574 : BitVec 1 := Scalar.cmpi .slt c4_i32_5225 c0_i32_5229
  let v8575 : BitVec 32 := Scalar.extui v8574
  let v8576 : BitVec 32 := Scalar.subi v8573 v8575
  let v8577 : BitVec 1 := Scalar.cmpi .ne v8571 v8576
  let v8578 : BitVec 32 := Scalar.remsi v8564 c4_i32_5225
  let c0_i32_5230 : BitVec 32 := 0#32
  let v8579 : BitVec 1 := Scalar.cmpi .ne v8578 c0_i32_5230
  let v8580 : BitVec 1 := Scalar.andi v8577 v8579
  let v8566 : BitVec 32 := Scalar.divsi v8564 c4_i32_5225
  let c1_i32_5231 : BitVec 32 := 1#32
  let v8581 : BitVec 32 := Scalar.subi v8566 c1_i32_5231
  let v8582 : BitVec 32 := Scalar.select v8580 v8581 v8566
  let c8_i32_5247 : BitVec 32 := 8#32
  let v8609 : BitVec 32 := Scalar.muli v8582 c8_i32_5247
  let c2_i32_5244 : BitVec 32 := 2#32
  let c4_i32_5232 : BitVec 32 := 4#32
  let c0_i32_5233 : BitVec 32 := 0#32
  let v8583 : BitVec 1 := Scalar.cmpi .eq c4_i32_5232 c0_i32_5233
  let c1_i32_5234 : BitVec 32 := 1#32
  let v8584 : BitVec 32 := Scalar.select v8583 c1_i32_5234 c4_i32_5232
  let v8585 : BitVec 32 := Scalar.remsi v8564 v8584
  let c0_i32_5236 : BitVec 32 := 0#32
  let v8587 : BitVec 1 := Scalar.cmpi .slt v8585 c0_i32_5236
  let c0_i32_5237 : BitVec 32 := 0#32
  let v8588 : BitVec 1 := Scalar.cmpi .slt v8584 c0_i32_5237
  let v8589 : BitVec 1 := Scalar.xori v8587 v8588
  let c0_i32_5235 : BitVec 32 := 0#32
  let v8586 : BitVec 1 := Scalar.cmpi .ne v8585 c0_i32_5235
  let v8590 : BitVec 1 := Scalar.andi v8589 v8586
  let v8591 : BitVec 32 := Scalar.addi v8585 v8584
  let v8592 : BitVec 32 := Scalar.select v8590 v8591 v8585
  let v8603 : BitVec 32 := Scalar.muli c2_i32_5244 v8592
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v8604 : BitVec 32 := Scalar.addi v8603 v94
  let c2_i32_5238 : BitVec 32 := 2#32
  let c0_i32_5239 : BitVec 32 := 0#32
  let v8593 : BitVec 1 := Scalar.cmpi .eq c2_i32_5238 c0_i32_5239
  let c1_i32_5240 : BitVec 32 := 1#32
  let v8594 : BitVec 32 := Scalar.select v8593 c1_i32_5240 c2_i32_5238
  let v8595 : BitVec 32 := Scalar.remsi v8592 v8594
  let c0_i32_5242 : BitVec 32 := 0#32
  let v8597 : BitVec 1 := Scalar.cmpi .slt v8595 c0_i32_5242
  let c0_i32_5243 : BitVec 32 := 0#32
  let v8598 : BitVec 1 := Scalar.cmpi .slt v8594 c0_i32_5243
  let v8599 : BitVec 1 := Scalar.xori v8597 v8598
  let c0_i32_5241 : BitVec 32 := 0#32
  let v8596 : BitVec 1 := Scalar.cmpi .ne v8595 c0_i32_5241
  let v8600 : BitVec 1 := Scalar.andi v8599 v8596
  let v8601 : BitVec 32 := Scalar.addi v8595 v8594
  let v8602 : BitVec 32 := Scalar.select v8600 v8601 v8595
  let c1_i32_5246 : BitVec 32 := 1#32
  let c2_i32_5245 : BitVec 32 := 2#32
  let v8605 : BitVec 32 := Scalar.muli c2_i32_5245 v94
  let v8606 : BitVec 32 := Scalar.subi c1_i32_5246 v8605
  let v8607 : BitVec 32 := Scalar.muli v8602 v8606
  let v8608 : BitVec 32 := Scalar.addi v8604 v8607
  let v8610 : BitVec 32 := Scalar.addi v8609 v8608
  let c1_i32_5252 : BitVec 32 := 1#32
  let v8611 : BitVec 32 := Scalar.muli v8610 c1_i32_5252
  let v8612 : BitVec 32 := Scalar.addi c0_i32_5253 v8611
  v8612.toNat
def k0_dev102 (d0 : Dev nD) : Nat :=
  let c0_i32_5293 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c7_i32_5257 : BitVec 32 := 7#32
  let v8619 : BitVec 32 := Scalar.addi v96 c7_i32_5257
  let c16_i32_5258 : BitVec 32 := 16#32
  let c0_i32_5259 : BitVec 32 := 0#32
  let v8620 : BitVec 1 := Scalar.cmpi .eq c16_i32_5258 c0_i32_5259
  let c1_i32_5260 : BitVec 32 := 1#32
  let v8621 : BitVec 32 := Scalar.select v8620 c1_i32_5260 c16_i32_5258
  let v8622 : BitVec 32 := Scalar.remsi v8619 v8621
  let c0_i32_5262 : BitVec 32 := 0#32
  let v8624 : BitVec 1 := Scalar.cmpi .slt v8622 c0_i32_5262
  let c0_i32_5263 : BitVec 32 := 0#32
  let v8625 : BitVec 1 := Scalar.cmpi .slt v8621 c0_i32_5263
  let v8626 : BitVec 1 := Scalar.xori v8624 v8625
  let c0_i32_5261 : BitVec 32 := 0#32
  let v8623 : BitVec 1 := Scalar.cmpi .ne v8622 c0_i32_5261
  let v8627 : BitVec 1 := Scalar.andi v8626 v8623
  let v8628 : BitVec 32 := Scalar.addi v8622 v8621
  let v8629 : BitVec 32 := Scalar.select v8627 v8628 v8622
  let c0_i32_5266 : BitVec 32 := 0#32
  let v8632 : BitVec 1 := Scalar.cmpi .sgt v8629 c0_i32_5266
  let v8633 : BitVec 32 := Scalar.extui v8632
  let c0_i32_5267 : BitVec 32 := 0#32
  let v8634 : BitVec 1 := Scalar.cmpi .slt v8629 c0_i32_5267
  let v8635 : BitVec 32 := Scalar.extui v8634
  let v8636 : BitVec 32 := Scalar.subi v8633 v8635
  let c4_i32_5265 : BitVec 32 := 4#32
  let c0_i32_5268 : BitVec 32 := 0#32
  let v8637 : BitVec 1 := Scalar.cmpi .sgt c4_i32_5265 c0_i32_5268
  let v8638 : BitVec 32 := Scalar.extui v8637
  let c0_i32_5269 : BitVec 32 := 0#32
  let v8639 : BitVec 1 := Scalar.cmpi .slt c4_i32_5265 c0_i32_5269
  let v8640 : BitVec 32 := Scalar.extui v8639
  let v8641 : BitVec 32 := Scalar.subi v8638 v8640
  let v8642 : BitVec 1 := Scalar.cmpi .ne v8636 v8641
  let v8643 : BitVec 32 := Scalar.remsi v8629 c4_i32_5265
  let c0_i32_5270 : BitVec 32 := 0#32
  let v8644 : BitVec 1 := Scalar.cmpi .ne v8643 c0_i32_5270
  let v8645 : BitVec 1 := Scalar.andi v8642 v8644
  let v8631 : BitVec 32 := Scalar.divsi v8629 c4_i32_5265
  let c1_i32_5271 : BitVec 32 := 1#32
  let v8646 : BitVec 32 := Scalar.subi v8631 c1_i32_5271
  let v8647 : BitVec 32 := Scalar.select v8645 v8646 v8631
  let c8_i32_5287 : BitVec 32 := 8#32
  let v8674 : BitVec 32 := Scalar.muli v8647 c8_i32_5287
  let c2_i32_5284 : BitVec 32 := 2#32
  let c4_i32_5272 : BitVec 32 := 4#32
  let c0_i32_5273 : BitVec 32 := 0#32
  let v8648 : BitVec 1 := Scalar.cmpi .eq c4_i32_5272 c0_i32_5273
  let c1_i32_5274 : BitVec 32 := 1#32
  let v8649 : BitVec 32 := Scalar.select v8648 c1_i32_5274 c4_i32_5272
  let v8650 : BitVec 32 := Scalar.remsi v8629 v8649
  let c0_i32_5276 : BitVec 32 := 0#32
  let v8652 : BitVec 1 := Scalar.cmpi .slt v8650 c0_i32_5276
  let c0_i32_5277 : BitVec 32 := 0#32
  let v8653 : BitVec 1 := Scalar.cmpi .slt v8649 c0_i32_5277
  let v8654 : BitVec 1 := Scalar.xori v8652 v8653
  let c0_i32_5275 : BitVec 32 := 0#32
  let v8651 : BitVec 1 := Scalar.cmpi .ne v8650 c0_i32_5275
  let v8655 : BitVec 1 := Scalar.andi v8654 v8651
  let v8656 : BitVec 32 := Scalar.addi v8650 v8649
  let v8657 : BitVec 32 := Scalar.select v8655 v8656 v8650
  let v8668 : BitVec 32 := Scalar.muli c2_i32_5284 v8657
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v8669 : BitVec 32 := Scalar.addi v8668 v94
  let c2_i32_5278 : BitVec 32 := 2#32
  let c0_i32_5279 : BitVec 32 := 0#32
  let v8658 : BitVec 1 := Scalar.cmpi .eq c2_i32_5278 c0_i32_5279
  let c1_i32_5280 : BitVec 32 := 1#32
  let v8659 : BitVec 32 := Scalar.select v8658 c1_i32_5280 c2_i32_5278
  let v8660 : BitVec 32 := Scalar.remsi v8657 v8659
  let c0_i32_5282 : BitVec 32 := 0#32
  let v8662 : BitVec 1 := Scalar.cmpi .slt v8660 c0_i32_5282
  let c0_i32_5283 : BitVec 32 := 0#32
  let v8663 : BitVec 1 := Scalar.cmpi .slt v8659 c0_i32_5283
  let v8664 : BitVec 1 := Scalar.xori v8662 v8663
  let c0_i32_5281 : BitVec 32 := 0#32
  let v8661 : BitVec 1 := Scalar.cmpi .ne v8660 c0_i32_5281
  let v8665 : BitVec 1 := Scalar.andi v8664 v8661
  let v8666 : BitVec 32 := Scalar.addi v8660 v8659
  let v8667 : BitVec 32 := Scalar.select v8665 v8666 v8660
  let c1_i32_5286 : BitVec 32 := 1#32
  let c2_i32_5285 : BitVec 32 := 2#32
  let v8670 : BitVec 32 := Scalar.muli c2_i32_5285 v94
  let v8671 : BitVec 32 := Scalar.subi c1_i32_5286 v8670
  let v8672 : BitVec 32 := Scalar.muli v8667 v8671
  let v8673 : BitVec 32 := Scalar.addi v8669 v8672
  let v8675 : BitVec 32 := Scalar.addi v8674 v8673
  let c1_i32_5292 : BitVec 32 := 1#32
  let v8676 : BitVec 32 := Scalar.muli v8675 c1_i32_5292
  let v8677 : BitVec 32 := Scalar.addi c0_i32_5293 v8676
  v8677.toNat
def k0_dev103 (d0 : Dev nD) : Nat :=
  let c0_i32_5333 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c8_i32_5297 : BitVec 32 := 8#32
  let v8684 : BitVec 32 := Scalar.addi v96 c8_i32_5297
  let c16_i32_5298 : BitVec 32 := 16#32
  let c0_i32_5299 : BitVec 32 := 0#32
  let v8685 : BitVec 1 := Scalar.cmpi .eq c16_i32_5298 c0_i32_5299
  let c1_i32_5300 : BitVec 32 := 1#32
  let v8686 : BitVec 32 := Scalar.select v8685 c1_i32_5300 c16_i32_5298
  let v8687 : BitVec 32 := Scalar.remsi v8684 v8686
  let c0_i32_5302 : BitVec 32 := 0#32
  let v8689 : BitVec 1 := Scalar.cmpi .slt v8687 c0_i32_5302
  let c0_i32_5303 : BitVec 32 := 0#32
  let v8690 : BitVec 1 := Scalar.cmpi .slt v8686 c0_i32_5303
  let v8691 : BitVec 1 := Scalar.xori v8689 v8690
  let c0_i32_5301 : BitVec 32 := 0#32
  let v8688 : BitVec 1 := Scalar.cmpi .ne v8687 c0_i32_5301
  let v8692 : BitVec 1 := Scalar.andi v8691 v8688
  let v8693 : BitVec 32 := Scalar.addi v8687 v8686
  let v8694 : BitVec 32 := Scalar.select v8692 v8693 v8687
  let c0_i32_5306 : BitVec 32 := 0#32
  let v8697 : BitVec 1 := Scalar.cmpi .sgt v8694 c0_i32_5306
  let v8698 : BitVec 32 := Scalar.extui v8697
  let c0_i32_5307 : BitVec 32 := 0#32
  let v8699 : BitVec 1 := Scalar.cmpi .slt v8694 c0_i32_5307
  let v8700 : BitVec 32 := Scalar.extui v8699
  let v8701 : BitVec 32 := Scalar.subi v8698 v8700
  let c4_i32_5305 : BitVec 32 := 4#32
  let c0_i32_5308 : BitVec 32 := 0#32
  let v8702 : BitVec 1 := Scalar.cmpi .sgt c4_i32_5305 c0_i32_5308
  let v8703 : BitVec 32 := Scalar.extui v8702
  let c0_i32_5309 : BitVec 32 := 0#32
  let v8704 : BitVec 1 := Scalar.cmpi .slt c4_i32_5305 c0_i32_5309
  let v8705 : BitVec 32 := Scalar.extui v8704
  let v8706 : BitVec 32 := Scalar.subi v8703 v8705
  let v8707 : BitVec 1 := Scalar.cmpi .ne v8701 v8706
  let v8708 : BitVec 32 := Scalar.remsi v8694 c4_i32_5305
  let c0_i32_5310 : BitVec 32 := 0#32
  let v8709 : BitVec 1 := Scalar.cmpi .ne v8708 c0_i32_5310
  let v8710 : BitVec 1 := Scalar.andi v8707 v8709
  let v8696 : BitVec 32 := Scalar.divsi v8694 c4_i32_5305
  let c1_i32_5311 : BitVec 32 := 1#32
  let v8711 : BitVec 32 := Scalar.subi v8696 c1_i32_5311
  let v8712 : BitVec 32 := Scalar.select v8710 v8711 v8696
  let c8_i32_5327 : BitVec 32 := 8#32
  let v8739 : BitVec 32 := Scalar.muli v8712 c8_i32_5327
  let c2_i32_5324 : BitVec 32 := 2#32
  let c4_i32_5312 : BitVec 32 := 4#32
  let c0_i32_5313 : BitVec 32 := 0#32
  let v8713 : BitVec 1 := Scalar.cmpi .eq c4_i32_5312 c0_i32_5313
  let c1_i32_5314 : BitVec 32 := 1#32
  let v8714 : BitVec 32 := Scalar.select v8713 c1_i32_5314 c4_i32_5312
  let v8715 : BitVec 32 := Scalar.remsi v8694 v8714
  let c0_i32_5316 : BitVec 32 := 0#32
  let v8717 : BitVec 1 := Scalar.cmpi .slt v8715 c0_i32_5316
  let c0_i32_5317 : BitVec 32 := 0#32
  let v8718 : BitVec 1 := Scalar.cmpi .slt v8714 c0_i32_5317
  let v8719 : BitVec 1 := Scalar.xori v8717 v8718
  let c0_i32_5315 : BitVec 32 := 0#32
  let v8716 : BitVec 1 := Scalar.cmpi .ne v8715 c0_i32_5315
  let v8720 : BitVec 1 := Scalar.andi v8719 v8716
  let v8721 : BitVec 32 := Scalar.addi v8715 v8714
  let v8722 : BitVec 32 := Scalar.select v8720 v8721 v8715
  let v8733 : BitVec 32 := Scalar.muli c2_i32_5324 v8722
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v8734 : BitVec 32 := Scalar.addi v8733 v94
  let c2_i32_5318 : BitVec 32 := 2#32
  let c0_i32_5319 : BitVec 32 := 0#32
  let v8723 : BitVec 1 := Scalar.cmpi .eq c2_i32_5318 c0_i32_5319
  let c1_i32_5320 : BitVec 32 := 1#32
  let v8724 : BitVec 32 := Scalar.select v8723 c1_i32_5320 c2_i32_5318
  let v8725 : BitVec 32 := Scalar.remsi v8722 v8724
  let c0_i32_5322 : BitVec 32 := 0#32
  let v8727 : BitVec 1 := Scalar.cmpi .slt v8725 c0_i32_5322
  let c0_i32_5323 : BitVec 32 := 0#32
  let v8728 : BitVec 1 := Scalar.cmpi .slt v8724 c0_i32_5323
  let v8729 : BitVec 1 := Scalar.xori v8727 v8728
  let c0_i32_5321 : BitVec 32 := 0#32
  let v8726 : BitVec 1 := Scalar.cmpi .ne v8725 c0_i32_5321
  let v8730 : BitVec 1 := Scalar.andi v8729 v8726
  let v8731 : BitVec 32 := Scalar.addi v8725 v8724
  let v8732 : BitVec 32 := Scalar.select v8730 v8731 v8725
  let c1_i32_5326 : BitVec 32 := 1#32
  let c2_i32_5325 : BitVec 32 := 2#32
  let v8735 : BitVec 32 := Scalar.muli c2_i32_5325 v94
  let v8736 : BitVec 32 := Scalar.subi c1_i32_5326 v8735
  let v8737 : BitVec 32 := Scalar.muli v8732 v8736
  let v8738 : BitVec 32 := Scalar.addi v8734 v8737
  let v8740 : BitVec 32 := Scalar.addi v8739 v8738
  let c1_i32_5332 : BitVec 32 := 1#32
  let v8741 : BitVec 32 := Scalar.muli v8740 c1_i32_5332
  let v8742 : BitVec 32 := Scalar.addi c0_i32_5333 v8741
  v8742.toNat
def k0_dev104 (d0 : Dev nD) : Nat :=
  let c0_i32_5373 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c9_i32_5337 : BitVec 32 := 9#32
  let v8749 : BitVec 32 := Scalar.addi v96 c9_i32_5337
  let c16_i32_5338 : BitVec 32 := 16#32
  let c0_i32_5339 : BitVec 32 := 0#32
  let v8750 : BitVec 1 := Scalar.cmpi .eq c16_i32_5338 c0_i32_5339
  let c1_i32_5340 : BitVec 32 := 1#32
  let v8751 : BitVec 32 := Scalar.select v8750 c1_i32_5340 c16_i32_5338
  let v8752 : BitVec 32 := Scalar.remsi v8749 v8751
  let c0_i32_5342 : BitVec 32 := 0#32
  let v8754 : BitVec 1 := Scalar.cmpi .slt v8752 c0_i32_5342
  let c0_i32_5343 : BitVec 32 := 0#32
  let v8755 : BitVec 1 := Scalar.cmpi .slt v8751 c0_i32_5343
  let v8756 : BitVec 1 := Scalar.xori v8754 v8755
  let c0_i32_5341 : BitVec 32 := 0#32
  let v8753 : BitVec 1 := Scalar.cmpi .ne v8752 c0_i32_5341
  let v8757 : BitVec 1 := Scalar.andi v8756 v8753
  let v8758 : BitVec 32 := Scalar.addi v8752 v8751
  let v8759 : BitVec 32 := Scalar.select v8757 v8758 v8752
  let c0_i32_5346 : BitVec 32 := 0#32
  let v8762 : BitVec 1 := Scalar.cmpi .sgt v8759 c0_i32_5346
  let v8763 : BitVec 32 := Scalar.extui v8762
  let c0_i32_5347 : BitVec 32 := 0#32
  let v8764 : BitVec 1 := Scalar.cmpi .slt v8759 c0_i32_5347
  let v8765 : BitVec 32 := Scalar.extui v8764
  let v8766 : BitVec 32 := Scalar.subi v8763 v8765
  let c4_i32_5345 : BitVec 32 := 4#32
  let c0_i32_5348 : BitVec 32 := 0#32
  let v8767 : BitVec 1 := Scalar.cmpi .sgt c4_i32_5345 c0_i32_5348
  let v8768 : BitVec 32 := Scalar.extui v8767
  let c0_i32_5349 : BitVec 32 := 0#32
  let v8769 : BitVec 1 := Scalar.cmpi .slt c4_i32_5345 c0_i32_5349
  let v8770 : BitVec 32 := Scalar.extui v8769
  let v8771 : BitVec 32 := Scalar.subi v8768 v8770
  let v8772 : BitVec 1 := Scalar.cmpi .ne v8766 v8771
  let v8773 : BitVec 32 := Scalar.remsi v8759 c4_i32_5345
  let c0_i32_5350 : BitVec 32 := 0#32
  let v8774 : BitVec 1 := Scalar.cmpi .ne v8773 c0_i32_5350
  let v8775 : BitVec 1 := Scalar.andi v8772 v8774
  let v8761 : BitVec 32 := Scalar.divsi v8759 c4_i32_5345
  let c1_i32_5351 : BitVec 32 := 1#32
  let v8776 : BitVec 32 := Scalar.subi v8761 c1_i32_5351
  let v8777 : BitVec 32 := Scalar.select v8775 v8776 v8761
  let c8_i32_5367 : BitVec 32 := 8#32
  let v8804 : BitVec 32 := Scalar.muli v8777 c8_i32_5367
  let c2_i32_5364 : BitVec 32 := 2#32
  let c4_i32_5352 : BitVec 32 := 4#32
  let c0_i32_5353 : BitVec 32 := 0#32
  let v8778 : BitVec 1 := Scalar.cmpi .eq c4_i32_5352 c0_i32_5353
  let c1_i32_5354 : BitVec 32 := 1#32
  let v8779 : BitVec 32 := Scalar.select v8778 c1_i32_5354 c4_i32_5352
  let v8780 : BitVec 32 := Scalar.remsi v8759 v8779
  let c0_i32_5356 : BitVec 32 := 0#32
  let v8782 : BitVec 1 := Scalar.cmpi .slt v8780 c0_i32_5356
  let c0_i32_5357 : BitVec 32 := 0#32
  let v8783 : BitVec 1 := Scalar.cmpi .slt v8779 c0_i32_5357
  let v8784 : BitVec 1 := Scalar.xori v8782 v8783
  let c0_i32_5355 : BitVec 32 := 0#32
  let v8781 : BitVec 1 := Scalar.cmpi .ne v8780 c0_i32_5355
  let v8785 : BitVec 1 := Scalar.andi v8784 v8781
  let v8786 : BitVec 32 := Scalar.addi v8780 v8779
  let v8787 : BitVec 32 := Scalar.select v8785 v8786 v8780
  let v8798 : BitVec 32 := Scalar.muli c2_i32_5364 v8787
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v8799 : BitVec 32 := Scalar.addi v8798 v94
  let c2_i32_5358 : BitVec 32 := 2#32
  let c0_i32_5359 : BitVec 32 := 0#32
  let v8788 : BitVec 1 := Scalar.cmpi .eq c2_i32_5358 c0_i32_5359
  let c1_i32_5360 : BitVec 32 := 1#32
  let v8789 : BitVec 32 := Scalar.select v8788 c1_i32_5360 c2_i32_5358
  let v8790 : BitVec 32 := Scalar.remsi v8787 v8789
  let c0_i32_5362 : BitVec 32 := 0#32
  let v8792 : BitVec 1 := Scalar.cmpi .slt v8790 c0_i32_5362
  let c0_i32_5363 : BitVec 32 := 0#32
  let v8793 : BitVec 1 := Scalar.cmpi .slt v8789 c0_i32_5363
  let v8794 : BitVec 1 := Scalar.xori v8792 v8793
  let c0_i32_5361 : BitVec 32 := 0#32
  let v8791 : BitVec 1 := Scalar.cmpi .ne v8790 c0_i32_5361
  let v8795 : BitVec 1 := Scalar.andi v8794 v8791
  let v8796 : BitVec 32 := Scalar.addi v8790 v8789
  let v8797 : BitVec 32 := Scalar.select v8795 v8796 v8790
  let c1_i32_5366 : BitVec 32 := 1#32
  let c2_i32_5365 : BitVec 32 := 2#32
  let v8800 : BitVec 32 := Scalar.muli c2_i32_5365 v94
  let v8801 : BitVec 32 := Scalar.subi c1_i32_5366 v8800
  let v8802 : BitVec 32 := Scalar.muli v8797 v8801
  let v8803 : BitVec 32 := Scalar.addi v8799 v8802
  let v8805 : BitVec 32 := Scalar.addi v8804 v8803
  let c1_i32_5372 : BitVec 32 := 1#32
  let v8806 : BitVec 32 := Scalar.muli v8805 c1_i32_5372
  let v8807 : BitVec 32 := Scalar.addi c0_i32_5373 v8806
  v8807.toNat
def k0_dev105 (d0 : Dev nD) : Nat :=
  let c0_i32_5413 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c10_i32_5377 : BitVec 32 := 10#32
  let v8814 : BitVec 32 := Scalar.addi v96 c10_i32_5377
  let c16_i32_5378 : BitVec 32 := 16#32
  let c0_i32_5379 : BitVec 32 := 0#32
  let v8815 : BitVec 1 := Scalar.cmpi .eq c16_i32_5378 c0_i32_5379
  let c1_i32_5380 : BitVec 32 := 1#32
  let v8816 : BitVec 32 := Scalar.select v8815 c1_i32_5380 c16_i32_5378
  let v8817 : BitVec 32 := Scalar.remsi v8814 v8816
  let c0_i32_5382 : BitVec 32 := 0#32
  let v8819 : BitVec 1 := Scalar.cmpi .slt v8817 c0_i32_5382
  let c0_i32_5383 : BitVec 32 := 0#32
  let v8820 : BitVec 1 := Scalar.cmpi .slt v8816 c0_i32_5383
  let v8821 : BitVec 1 := Scalar.xori v8819 v8820
  let c0_i32_5381 : BitVec 32 := 0#32
  let v8818 : BitVec 1 := Scalar.cmpi .ne v8817 c0_i32_5381
  let v8822 : BitVec 1 := Scalar.andi v8821 v8818
  let v8823 : BitVec 32 := Scalar.addi v8817 v8816
  let v8824 : BitVec 32 := Scalar.select v8822 v8823 v8817
  let c0_i32_5386 : BitVec 32 := 0#32
  let v8827 : BitVec 1 := Scalar.cmpi .sgt v8824 c0_i32_5386
  let v8828 : BitVec 32 := Scalar.extui v8827
  let c0_i32_5387 : BitVec 32 := 0#32
  let v8829 : BitVec 1 := Scalar.cmpi .slt v8824 c0_i32_5387
  let v8830 : BitVec 32 := Scalar.extui v8829
  let v8831 : BitVec 32 := Scalar.subi v8828 v8830
  let c4_i32_5385 : BitVec 32 := 4#32
  let c0_i32_5388 : BitVec 32 := 0#32
  let v8832 : BitVec 1 := Scalar.cmpi .sgt c4_i32_5385 c0_i32_5388
  let v8833 : BitVec 32 := Scalar.extui v8832
  let c0_i32_5389 : BitVec 32 := 0#32
  let v8834 : BitVec 1 := Scalar.cmpi .slt c4_i32_5385 c0_i32_5389
  let v8835 : BitVec 32 := Scalar.extui v8834
  let v8836 : BitVec 32 := Scalar.subi v8833 v8835
  let v8837 : BitVec 1 := Scalar.cmpi .ne v8831 v8836
  let v8838 : BitVec 32 := Scalar.remsi v8824 c4_i32_5385
  let c0_i32_5390 : BitVec 32 := 0#32
  let v8839 : BitVec 1 := Scalar.cmpi .ne v8838 c0_i32_5390
  let v8840 : BitVec 1 := Scalar.andi v8837 v8839
  let v8826 : BitVec 32 := Scalar.divsi v8824 c4_i32_5385
  let c1_i32_5391 : BitVec 32 := 1#32
  let v8841 : BitVec 32 := Scalar.subi v8826 c1_i32_5391
  let v8842 : BitVec 32 := Scalar.select v8840 v8841 v8826
  let c8_i32_5407 : BitVec 32 := 8#32
  let v8869 : BitVec 32 := Scalar.muli v8842 c8_i32_5407
  let c2_i32_5404 : BitVec 32 := 2#32
  let c4_i32_5392 : BitVec 32 := 4#32
  let c0_i32_5393 : BitVec 32 := 0#32
  let v8843 : BitVec 1 := Scalar.cmpi .eq c4_i32_5392 c0_i32_5393
  let c1_i32_5394 : BitVec 32 := 1#32
  let v8844 : BitVec 32 := Scalar.select v8843 c1_i32_5394 c4_i32_5392
  let v8845 : BitVec 32 := Scalar.remsi v8824 v8844
  let c0_i32_5396 : BitVec 32 := 0#32
  let v8847 : BitVec 1 := Scalar.cmpi .slt v8845 c0_i32_5396
  let c0_i32_5397 : BitVec 32 := 0#32
  let v8848 : BitVec 1 := Scalar.cmpi .slt v8844 c0_i32_5397
  let v8849 : BitVec 1 := Scalar.xori v8847 v8848
  let c0_i32_5395 : BitVec 32 := 0#32
  let v8846 : BitVec 1 := Scalar.cmpi .ne v8845 c0_i32_5395
  let v8850 : BitVec 1 := Scalar.andi v8849 v8846
  let v8851 : BitVec 32 := Scalar.addi v8845 v8844
  let v8852 : BitVec 32 := Scalar.select v8850 v8851 v8845
  let v8863 : BitVec 32 := Scalar.muli c2_i32_5404 v8852
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v8864 : BitVec 32 := Scalar.addi v8863 v94
  let c2_i32_5398 : BitVec 32 := 2#32
  let c0_i32_5399 : BitVec 32 := 0#32
  let v8853 : BitVec 1 := Scalar.cmpi .eq c2_i32_5398 c0_i32_5399
  let c1_i32_5400 : BitVec 32 := 1#32
  let v8854 : BitVec 32 := Scalar.select v8853 c1_i32_5400 c2_i32_5398
  let v8855 : BitVec 32 := Scalar.remsi v8852 v8854
  let c0_i32_5402 : BitVec 32 := 0#32
  let v8857 : BitVec 1 := Scalar.cmpi .slt v8855 c0_i32_5402
  let c0_i32_5403 : BitVec 32 := 0#32
  let v8858 : BitVec 1 := Scalar.cmpi .slt v8854 c0_i32_5403
  let v8859 : BitVec 1 := Scalar.xori v8857 v8858
  let c0_i32_5401 : BitVec 32 := 0#32
  let v8856 : BitVec 1 := Scalar.cmpi .ne v8855 c0_i32_5401
  let v8860 : BitVec 1 := Scalar.andi v8859 v8856
  let v8861 : BitVec 32 := Scalar.addi v8855 v8854
  let v8862 : BitVec 32 := Scalar.select v8860 v8861 v8855
  let c1_i32_5406 : BitVec 32 := 1#32
  let c2_i32_5405 : BitVec 32 := 2#32
  let v8865 : BitVec 32 := Scalar.muli c2_i32_5405 v94
  let v8866 : BitVec 32 := Scalar.subi c1_i32_5406 v8865
  let v8867 : BitVec 32 := Scalar.muli v8862 v8866
  let v8868 : BitVec 32 := Scalar.addi v8864 v8867
  let v8870 : BitVec 32 := Scalar.addi v8869 v8868
  let c1_i32_5412 : BitVec 32 := 1#32
  let v8871 : BitVec 32 := Scalar.muli v8870 c1_i32_5412
  let v8872 : BitVec 32 := Scalar.addi c0_i32_5413 v8871
  v8872.toNat
def k0_dev106 (d0 : Dev nD) : Nat :=
  let c0_i32_5453 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c11_i32_5417 : BitVec 32 := 11#32
  let v8879 : BitVec 32 := Scalar.addi v96 c11_i32_5417
  let c16_i32_5418 : BitVec 32 := 16#32
  let c0_i32_5419 : BitVec 32 := 0#32
  let v8880 : BitVec 1 := Scalar.cmpi .eq c16_i32_5418 c0_i32_5419
  let c1_i32_5420 : BitVec 32 := 1#32
  let v8881 : BitVec 32 := Scalar.select v8880 c1_i32_5420 c16_i32_5418
  let v8882 : BitVec 32 := Scalar.remsi v8879 v8881
  let c0_i32_5422 : BitVec 32 := 0#32
  let v8884 : BitVec 1 := Scalar.cmpi .slt v8882 c0_i32_5422
  let c0_i32_5423 : BitVec 32 := 0#32
  let v8885 : BitVec 1 := Scalar.cmpi .slt v8881 c0_i32_5423
  let v8886 : BitVec 1 := Scalar.xori v8884 v8885
  let c0_i32_5421 : BitVec 32 := 0#32
  let v8883 : BitVec 1 := Scalar.cmpi .ne v8882 c0_i32_5421
  let v8887 : BitVec 1 := Scalar.andi v8886 v8883
  let v8888 : BitVec 32 := Scalar.addi v8882 v8881
  let v8889 : BitVec 32 := Scalar.select v8887 v8888 v8882
  let c0_i32_5426 : BitVec 32 := 0#32
  let v8892 : BitVec 1 := Scalar.cmpi .sgt v8889 c0_i32_5426
  let v8893 : BitVec 32 := Scalar.extui v8892
  let c0_i32_5427 : BitVec 32 := 0#32
  let v8894 : BitVec 1 := Scalar.cmpi .slt v8889 c0_i32_5427
  let v8895 : BitVec 32 := Scalar.extui v8894
  let v8896 : BitVec 32 := Scalar.subi v8893 v8895
  let c4_i32_5425 : BitVec 32 := 4#32
  let c0_i32_5428 : BitVec 32 := 0#32
  let v8897 : BitVec 1 := Scalar.cmpi .sgt c4_i32_5425 c0_i32_5428
  let v8898 : BitVec 32 := Scalar.extui v8897
  let c0_i32_5429 : BitVec 32 := 0#32
  let v8899 : BitVec 1 := Scalar.cmpi .slt c4_i32_5425 c0_i32_5429
  let v8900 : BitVec 32 := Scalar.extui v8899
  let v8901 : BitVec 32 := Scalar.subi v8898 v8900
  let v8902 : BitVec 1 := Scalar.cmpi .ne v8896 v8901
  let v8903 : BitVec 32 := Scalar.remsi v8889 c4_i32_5425
  let c0_i32_5430 : BitVec 32 := 0#32
  let v8904 : BitVec 1 := Scalar.cmpi .ne v8903 c0_i32_5430
  let v8905 : BitVec 1 := Scalar.andi v8902 v8904
  let v8891 : BitVec 32 := Scalar.divsi v8889 c4_i32_5425
  let c1_i32_5431 : BitVec 32 := 1#32
  let v8906 : BitVec 32 := Scalar.subi v8891 c1_i32_5431
  let v8907 : BitVec 32 := Scalar.select v8905 v8906 v8891
  let c8_i32_5447 : BitVec 32 := 8#32
  let v8934 : BitVec 32 := Scalar.muli v8907 c8_i32_5447
  let c2_i32_5444 : BitVec 32 := 2#32
  let c4_i32_5432 : BitVec 32 := 4#32
  let c0_i32_5433 : BitVec 32 := 0#32
  let v8908 : BitVec 1 := Scalar.cmpi .eq c4_i32_5432 c0_i32_5433
  let c1_i32_5434 : BitVec 32 := 1#32
  let v8909 : BitVec 32 := Scalar.select v8908 c1_i32_5434 c4_i32_5432
  let v8910 : BitVec 32 := Scalar.remsi v8889 v8909
  let c0_i32_5436 : BitVec 32 := 0#32
  let v8912 : BitVec 1 := Scalar.cmpi .slt v8910 c0_i32_5436
  let c0_i32_5437 : BitVec 32 := 0#32
  let v8913 : BitVec 1 := Scalar.cmpi .slt v8909 c0_i32_5437
  let v8914 : BitVec 1 := Scalar.xori v8912 v8913
  let c0_i32_5435 : BitVec 32 := 0#32
  let v8911 : BitVec 1 := Scalar.cmpi .ne v8910 c0_i32_5435
  let v8915 : BitVec 1 := Scalar.andi v8914 v8911
  let v8916 : BitVec 32 := Scalar.addi v8910 v8909
  let v8917 : BitVec 32 := Scalar.select v8915 v8916 v8910
  let v8928 : BitVec 32 := Scalar.muli c2_i32_5444 v8917
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v8929 : BitVec 32 := Scalar.addi v8928 v94
  let c2_i32_5438 : BitVec 32 := 2#32
  let c0_i32_5439 : BitVec 32 := 0#32
  let v8918 : BitVec 1 := Scalar.cmpi .eq c2_i32_5438 c0_i32_5439
  let c1_i32_5440 : BitVec 32 := 1#32
  let v8919 : BitVec 32 := Scalar.select v8918 c1_i32_5440 c2_i32_5438
  let v8920 : BitVec 32 := Scalar.remsi v8917 v8919
  let c0_i32_5442 : BitVec 32 := 0#32
  let v8922 : BitVec 1 := Scalar.cmpi .slt v8920 c0_i32_5442
  let c0_i32_5443 : BitVec 32 := 0#32
  let v8923 : BitVec 1 := Scalar.cmpi .slt v8919 c0_i32_5443
  let v8924 : BitVec 1 := Scalar.xori v8922 v8923
  let c0_i32_5441 : BitVec 32 := 0#32
  let v8921 : BitVec 1 := Scalar.cmpi .ne v8920 c0_i32_5441
  let v8925 : BitVec 1 := Scalar.andi v8924 v8921
  let v8926 : BitVec 32 := Scalar.addi v8920 v8919
  let v8927 : BitVec 32 := Scalar.select v8925 v8926 v8920
  let c1_i32_5446 : BitVec 32 := 1#32
  let c2_i32_5445 : BitVec 32 := 2#32
  let v8930 : BitVec 32 := Scalar.muli c2_i32_5445 v94
  let v8931 : BitVec 32 := Scalar.subi c1_i32_5446 v8930
  let v8932 : BitVec 32 := Scalar.muli v8927 v8931
  let v8933 : BitVec 32 := Scalar.addi v8929 v8932
  let v8935 : BitVec 32 := Scalar.addi v8934 v8933
  let c1_i32_5452 : BitVec 32 := 1#32
  let v8936 : BitVec 32 := Scalar.muli v8935 c1_i32_5452
  let v8937 : BitVec 32 := Scalar.addi c0_i32_5453 v8936
  v8937.toNat
def k0_dev107 (d0 : Dev nD) : Nat :=
  let c0_i32_5493 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c12_i32_5457 : BitVec 32 := 12#32
  let v8944 : BitVec 32 := Scalar.addi v96 c12_i32_5457
  let c16_i32_5458 : BitVec 32 := 16#32
  let c0_i32_5459 : BitVec 32 := 0#32
  let v8945 : BitVec 1 := Scalar.cmpi .eq c16_i32_5458 c0_i32_5459
  let c1_i32_5460 : BitVec 32 := 1#32
  let v8946 : BitVec 32 := Scalar.select v8945 c1_i32_5460 c16_i32_5458
  let v8947 : BitVec 32 := Scalar.remsi v8944 v8946
  let c0_i32_5462 : BitVec 32 := 0#32
  let v8949 : BitVec 1 := Scalar.cmpi .slt v8947 c0_i32_5462
  let c0_i32_5463 : BitVec 32 := 0#32
  let v8950 : BitVec 1 := Scalar.cmpi .slt v8946 c0_i32_5463
  let v8951 : BitVec 1 := Scalar.xori v8949 v8950
  let c0_i32_5461 : BitVec 32 := 0#32
  let v8948 : BitVec 1 := Scalar.cmpi .ne v8947 c0_i32_5461
  let v8952 : BitVec 1 := Scalar.andi v8951 v8948
  let v8953 : BitVec 32 := Scalar.addi v8947 v8946
  let v8954 : BitVec 32 := Scalar.select v8952 v8953 v8947
  let c0_i32_5466 : BitVec 32 := 0#32
  let v8957 : BitVec 1 := Scalar.cmpi .sgt v8954 c0_i32_5466
  let v8958 : BitVec 32 := Scalar.extui v8957
  let c0_i32_5467 : BitVec 32 := 0#32
  let v8959 : BitVec 1 := Scalar.cmpi .slt v8954 c0_i32_5467
  let v8960 : BitVec 32 := Scalar.extui v8959
  let v8961 : BitVec 32 := Scalar.subi v8958 v8960
  let c4_i32_5465 : BitVec 32 := 4#32
  let c0_i32_5468 : BitVec 32 := 0#32
  let v8962 : BitVec 1 := Scalar.cmpi .sgt c4_i32_5465 c0_i32_5468
  let v8963 : BitVec 32 := Scalar.extui v8962
  let c0_i32_5469 : BitVec 32 := 0#32
  let v8964 : BitVec 1 := Scalar.cmpi .slt c4_i32_5465 c0_i32_5469
  let v8965 : BitVec 32 := Scalar.extui v8964
  let v8966 : BitVec 32 := Scalar.subi v8963 v8965
  let v8967 : BitVec 1 := Scalar.cmpi .ne v8961 v8966
  let v8968 : BitVec 32 := Scalar.remsi v8954 c4_i32_5465
  let c0_i32_5470 : BitVec 32 := 0#32
  let v8969 : BitVec 1 := Scalar.cmpi .ne v8968 c0_i32_5470
  let v8970 : BitVec 1 := Scalar.andi v8967 v8969
  let v8956 : BitVec 32 := Scalar.divsi v8954 c4_i32_5465
  let c1_i32_5471 : BitVec 32 := 1#32
  let v8971 : BitVec 32 := Scalar.subi v8956 c1_i32_5471
  let v8972 : BitVec 32 := Scalar.select v8970 v8971 v8956
  let c8_i32_5487 : BitVec 32 := 8#32
  let v8999 : BitVec 32 := Scalar.muli v8972 c8_i32_5487
  let c2_i32_5484 : BitVec 32 := 2#32
  let c4_i32_5472 : BitVec 32 := 4#32
  let c0_i32_5473 : BitVec 32 := 0#32
  let v8973 : BitVec 1 := Scalar.cmpi .eq c4_i32_5472 c0_i32_5473
  let c1_i32_5474 : BitVec 32 := 1#32
  let v8974 : BitVec 32 := Scalar.select v8973 c1_i32_5474 c4_i32_5472
  let v8975 : BitVec 32 := Scalar.remsi v8954 v8974
  let c0_i32_5476 : BitVec 32 := 0#32
  let v8977 : BitVec 1 := Scalar.cmpi .slt v8975 c0_i32_5476
  let c0_i32_5477 : BitVec 32 := 0#32
  let v8978 : BitVec 1 := Scalar.cmpi .slt v8974 c0_i32_5477
  let v8979 : BitVec 1 := Scalar.xori v8977 v8978
  let c0_i32_5475 : BitVec 32 := 0#32
  let v8976 : BitVec 1 := Scalar.cmpi .ne v8975 c0_i32_5475
  let v8980 : BitVec 1 := Scalar.andi v8979 v8976
  let v8981 : BitVec 32 := Scalar.addi v8975 v8974
  let v8982 : BitVec 32 := Scalar.select v8980 v8981 v8975
  let v8993 : BitVec 32 := Scalar.muli c2_i32_5484 v8982
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v8994 : BitVec 32 := Scalar.addi v8993 v94
  let c2_i32_5478 : BitVec 32 := 2#32
  let c0_i32_5479 : BitVec 32 := 0#32
  let v8983 : BitVec 1 := Scalar.cmpi .eq c2_i32_5478 c0_i32_5479
  let c1_i32_5480 : BitVec 32 := 1#32
  let v8984 : BitVec 32 := Scalar.select v8983 c1_i32_5480 c2_i32_5478
  let v8985 : BitVec 32 := Scalar.remsi v8982 v8984
  let c0_i32_5482 : BitVec 32 := 0#32
  let v8987 : BitVec 1 := Scalar.cmpi .slt v8985 c0_i32_5482
  let c0_i32_5483 : BitVec 32 := 0#32
  let v8988 : BitVec 1 := Scalar.cmpi .slt v8984 c0_i32_5483
  let v8989 : BitVec 1 := Scalar.xori v8987 v8988
  let c0_i32_5481 : BitVec 32 := 0#32
  let v8986 : BitVec 1 := Scalar.cmpi .ne v8985 c0_i32_5481
  let v8990 : BitVec 1 := Scalar.andi v8989 v8986
  let v8991 : BitVec 32 := Scalar.addi v8985 v8984
  let v8992 : BitVec 32 := Scalar.select v8990 v8991 v8985
  let c1_i32_5486 : BitVec 32 := 1#32
  let c2_i32_5485 : BitVec 32 := 2#32
  let v8995 : BitVec 32 := Scalar.muli c2_i32_5485 v94
  let v8996 : BitVec 32 := Scalar.subi c1_i32_5486 v8995
  let v8997 : BitVec 32 := Scalar.muli v8992 v8996
  let v8998 : BitVec 32 := Scalar.addi v8994 v8997
  let v9000 : BitVec 32 := Scalar.addi v8999 v8998
  let c1_i32_5492 : BitVec 32 := 1#32
  let v9001 : BitVec 32 := Scalar.muli v9000 c1_i32_5492
  let v9002 : BitVec 32 := Scalar.addi c0_i32_5493 v9001
  v9002.toNat
def k0_dev108 (d0 : Dev nD) : Nat :=
  let c0_i32_5533 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c13_i32_5497 : BitVec 32 := 13#32
  let v9009 : BitVec 32 := Scalar.addi v96 c13_i32_5497
  let c16_i32_5498 : BitVec 32 := 16#32
  let c0_i32_5499 : BitVec 32 := 0#32
  let v9010 : BitVec 1 := Scalar.cmpi .eq c16_i32_5498 c0_i32_5499
  let c1_i32_5500 : BitVec 32 := 1#32
  let v9011 : BitVec 32 := Scalar.select v9010 c1_i32_5500 c16_i32_5498
  let v9012 : BitVec 32 := Scalar.remsi v9009 v9011
  let c0_i32_5502 : BitVec 32 := 0#32
  let v9014 : BitVec 1 := Scalar.cmpi .slt v9012 c0_i32_5502
  let c0_i32_5503 : BitVec 32 := 0#32
  let v9015 : BitVec 1 := Scalar.cmpi .slt v9011 c0_i32_5503
  let v9016 : BitVec 1 := Scalar.xori v9014 v9015
  let c0_i32_5501 : BitVec 32 := 0#32
  let v9013 : BitVec 1 := Scalar.cmpi .ne v9012 c0_i32_5501
  let v9017 : BitVec 1 := Scalar.andi v9016 v9013
  let v9018 : BitVec 32 := Scalar.addi v9012 v9011
  let v9019 : BitVec 32 := Scalar.select v9017 v9018 v9012
  let c0_i32_5506 : BitVec 32 := 0#32
  let v9022 : BitVec 1 := Scalar.cmpi .sgt v9019 c0_i32_5506
  let v9023 : BitVec 32 := Scalar.extui v9022
  let c0_i32_5507 : BitVec 32 := 0#32
  let v9024 : BitVec 1 := Scalar.cmpi .slt v9019 c0_i32_5507
  let v9025 : BitVec 32 := Scalar.extui v9024
  let v9026 : BitVec 32 := Scalar.subi v9023 v9025
  let c4_i32_5505 : BitVec 32 := 4#32
  let c0_i32_5508 : BitVec 32 := 0#32
  let v9027 : BitVec 1 := Scalar.cmpi .sgt c4_i32_5505 c0_i32_5508
  let v9028 : BitVec 32 := Scalar.extui v9027
  let c0_i32_5509 : BitVec 32 := 0#32
  let v9029 : BitVec 1 := Scalar.cmpi .slt c4_i32_5505 c0_i32_5509
  let v9030 : BitVec 32 := Scalar.extui v9029
  let v9031 : BitVec 32 := Scalar.subi v9028 v9030
  let v9032 : BitVec 1 := Scalar.cmpi .ne v9026 v9031
  let v9033 : BitVec 32 := Scalar.remsi v9019 c4_i32_5505
  let c0_i32_5510 : BitVec 32 := 0#32
  let v9034 : BitVec 1 := Scalar.cmpi .ne v9033 c0_i32_5510
  let v9035 : BitVec 1 := Scalar.andi v9032 v9034
  let v9021 : BitVec 32 := Scalar.divsi v9019 c4_i32_5505
  let c1_i32_5511 : BitVec 32 := 1#32
  let v9036 : BitVec 32 := Scalar.subi v9021 c1_i32_5511
  let v9037 : BitVec 32 := Scalar.select v9035 v9036 v9021
  let c8_i32_5527 : BitVec 32 := 8#32
  let v9064 : BitVec 32 := Scalar.muli v9037 c8_i32_5527
  let c2_i32_5524 : BitVec 32 := 2#32
  let c4_i32_5512 : BitVec 32 := 4#32
  let c0_i32_5513 : BitVec 32 := 0#32
  let v9038 : BitVec 1 := Scalar.cmpi .eq c4_i32_5512 c0_i32_5513
  let c1_i32_5514 : BitVec 32 := 1#32
  let v9039 : BitVec 32 := Scalar.select v9038 c1_i32_5514 c4_i32_5512
  let v9040 : BitVec 32 := Scalar.remsi v9019 v9039
  let c0_i32_5516 : BitVec 32 := 0#32
  let v9042 : BitVec 1 := Scalar.cmpi .slt v9040 c0_i32_5516
  let c0_i32_5517 : BitVec 32 := 0#32
  let v9043 : BitVec 1 := Scalar.cmpi .slt v9039 c0_i32_5517
  let v9044 : BitVec 1 := Scalar.xori v9042 v9043
  let c0_i32_5515 : BitVec 32 := 0#32
  let v9041 : BitVec 1 := Scalar.cmpi .ne v9040 c0_i32_5515
  let v9045 : BitVec 1 := Scalar.andi v9044 v9041
  let v9046 : BitVec 32 := Scalar.addi v9040 v9039
  let v9047 : BitVec 32 := Scalar.select v9045 v9046 v9040
  let v9058 : BitVec 32 := Scalar.muli c2_i32_5524 v9047
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v9059 : BitVec 32 := Scalar.addi v9058 v94
  let c2_i32_5518 : BitVec 32 := 2#32
  let c0_i32_5519 : BitVec 32 := 0#32
  let v9048 : BitVec 1 := Scalar.cmpi .eq c2_i32_5518 c0_i32_5519
  let c1_i32_5520 : BitVec 32 := 1#32
  let v9049 : BitVec 32 := Scalar.select v9048 c1_i32_5520 c2_i32_5518
  let v9050 : BitVec 32 := Scalar.remsi v9047 v9049
  let c0_i32_5522 : BitVec 32 := 0#32
  let v9052 : BitVec 1 := Scalar.cmpi .slt v9050 c0_i32_5522
  let c0_i32_5523 : BitVec 32 := 0#32
  let v9053 : BitVec 1 := Scalar.cmpi .slt v9049 c0_i32_5523
  let v9054 : BitVec 1 := Scalar.xori v9052 v9053
  let c0_i32_5521 : BitVec 32 := 0#32
  let v9051 : BitVec 1 := Scalar.cmpi .ne v9050 c0_i32_5521
  let v9055 : BitVec 1 := Scalar.andi v9054 v9051
  let v9056 : BitVec 32 := Scalar.addi v9050 v9049
  let v9057 : BitVec 32 := Scalar.select v9055 v9056 v9050
  let c1_i32_5526 : BitVec 32 := 1#32
  let c2_i32_5525 : BitVec 32 := 2#32
  let v9060 : BitVec 32 := Scalar.muli c2_i32_5525 v94
  let v9061 : BitVec 32 := Scalar.subi c1_i32_5526 v9060
  let v9062 : BitVec 32 := Scalar.muli v9057 v9061
  let v9063 : BitVec 32 := Scalar.addi v9059 v9062
  let v9065 : BitVec 32 := Scalar.addi v9064 v9063
  let c1_i32_5532 : BitVec 32 := 1#32
  let v9066 : BitVec 32 := Scalar.muli v9065 c1_i32_5532
  let v9067 : BitVec 32 := Scalar.addi c0_i32_5533 v9066
  v9067.toNat
def k0_dev109 (d0 : Dev nD) : Nat :=
  let c0_i32_5573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c14_i32_5537 : BitVec 32 := 14#32
  let v9074 : BitVec 32 := Scalar.addi v96 c14_i32_5537
  let c16_i32_5538 : BitVec 32 := 16#32
  let c0_i32_5539 : BitVec 32 := 0#32
  let v9075 : BitVec 1 := Scalar.cmpi .eq c16_i32_5538 c0_i32_5539
  let c1_i32_5540 : BitVec 32 := 1#32
  let v9076 : BitVec 32 := Scalar.select v9075 c1_i32_5540 c16_i32_5538
  let v9077 : BitVec 32 := Scalar.remsi v9074 v9076
  let c0_i32_5542 : BitVec 32 := 0#32
  let v9079 : BitVec 1 := Scalar.cmpi .slt v9077 c0_i32_5542
  let c0_i32_5543 : BitVec 32 := 0#32
  let v9080 : BitVec 1 := Scalar.cmpi .slt v9076 c0_i32_5543
  let v9081 : BitVec 1 := Scalar.xori v9079 v9080
  let c0_i32_5541 : BitVec 32 := 0#32
  let v9078 : BitVec 1 := Scalar.cmpi .ne v9077 c0_i32_5541
  let v9082 : BitVec 1 := Scalar.andi v9081 v9078
  let v9083 : BitVec 32 := Scalar.addi v9077 v9076
  let v9084 : BitVec 32 := Scalar.select v9082 v9083 v9077
  let c0_i32_5546 : BitVec 32 := 0#32
  let v9087 : BitVec 1 := Scalar.cmpi .sgt v9084 c0_i32_5546
  let v9088 : BitVec 32 := Scalar.extui v9087
  let c0_i32_5547 : BitVec 32 := 0#32
  let v9089 : BitVec 1 := Scalar.cmpi .slt v9084 c0_i32_5547
  let v9090 : BitVec 32 := Scalar.extui v9089
  let v9091 : BitVec 32 := Scalar.subi v9088 v9090
  let c4_i32_5545 : BitVec 32 := 4#32
  let c0_i32_5548 : BitVec 32 := 0#32
  let v9092 : BitVec 1 := Scalar.cmpi .sgt c4_i32_5545 c0_i32_5548
  let v9093 : BitVec 32 := Scalar.extui v9092
  let c0_i32_5549 : BitVec 32 := 0#32
  let v9094 : BitVec 1 := Scalar.cmpi .slt c4_i32_5545 c0_i32_5549
  let v9095 : BitVec 32 := Scalar.extui v9094
  let v9096 : BitVec 32 := Scalar.subi v9093 v9095
  let v9097 : BitVec 1 := Scalar.cmpi .ne v9091 v9096
  let v9098 : BitVec 32 := Scalar.remsi v9084 c4_i32_5545
  let c0_i32_5550 : BitVec 32 := 0#32
  let v9099 : BitVec 1 := Scalar.cmpi .ne v9098 c0_i32_5550
  let v9100 : BitVec 1 := Scalar.andi v9097 v9099
  let v9086 : BitVec 32 := Scalar.divsi v9084 c4_i32_5545
  let c1_i32_5551 : BitVec 32 := 1#32
  let v9101 : BitVec 32 := Scalar.subi v9086 c1_i32_5551
  let v9102 : BitVec 32 := Scalar.select v9100 v9101 v9086
  let c8_i32_5567 : BitVec 32 := 8#32
  let v9129 : BitVec 32 := Scalar.muli v9102 c8_i32_5567
  let c2_i32_5564 : BitVec 32 := 2#32
  let c4_i32_5552 : BitVec 32 := 4#32
  let c0_i32_5553 : BitVec 32 := 0#32
  let v9103 : BitVec 1 := Scalar.cmpi .eq c4_i32_5552 c0_i32_5553
  let c1_i32_5554 : BitVec 32 := 1#32
  let v9104 : BitVec 32 := Scalar.select v9103 c1_i32_5554 c4_i32_5552
  let v9105 : BitVec 32 := Scalar.remsi v9084 v9104
  let c0_i32_5556 : BitVec 32 := 0#32
  let v9107 : BitVec 1 := Scalar.cmpi .slt v9105 c0_i32_5556
  let c0_i32_5557 : BitVec 32 := 0#32
  let v9108 : BitVec 1 := Scalar.cmpi .slt v9104 c0_i32_5557
  let v9109 : BitVec 1 := Scalar.xori v9107 v9108
  let c0_i32_5555 : BitVec 32 := 0#32
  let v9106 : BitVec 1 := Scalar.cmpi .ne v9105 c0_i32_5555
  let v9110 : BitVec 1 := Scalar.andi v9109 v9106
  let v9111 : BitVec 32 := Scalar.addi v9105 v9104
  let v9112 : BitVec 32 := Scalar.select v9110 v9111 v9105
  let v9123 : BitVec 32 := Scalar.muli c2_i32_5564 v9112
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v9124 : BitVec 32 := Scalar.addi v9123 v94
  let c2_i32_5558 : BitVec 32 := 2#32
  let c0_i32_5559 : BitVec 32 := 0#32
  let v9113 : BitVec 1 := Scalar.cmpi .eq c2_i32_5558 c0_i32_5559
  let c1_i32_5560 : BitVec 32 := 1#32
  let v9114 : BitVec 32 := Scalar.select v9113 c1_i32_5560 c2_i32_5558
  let v9115 : BitVec 32 := Scalar.remsi v9112 v9114
  let c0_i32_5562 : BitVec 32 := 0#32
  let v9117 : BitVec 1 := Scalar.cmpi .slt v9115 c0_i32_5562
  let c0_i32_5563 : BitVec 32 := 0#32
  let v9118 : BitVec 1 := Scalar.cmpi .slt v9114 c0_i32_5563
  let v9119 : BitVec 1 := Scalar.xori v9117 v9118
  let c0_i32_5561 : BitVec 32 := 0#32
  let v9116 : BitVec 1 := Scalar.cmpi .ne v9115 c0_i32_5561
  let v9120 : BitVec 1 := Scalar.andi v9119 v9116
  let v9121 : BitVec 32 := Scalar.addi v9115 v9114
  let v9122 : BitVec 32 := Scalar.select v9120 v9121 v9115
  let c1_i32_5566 : BitVec 32 := 1#32
  let c2_i32_5565 : BitVec 32 := 2#32
  let v9125 : BitVec 32 := Scalar.muli c2_i32_5565 v94
  let v9126 : BitVec 32 := Scalar.subi c1_i32_5566 v9125
  let v9127 : BitVec 32 := Scalar.muli v9122 v9126
  let v9128 : BitVec 32 := Scalar.addi v9124 v9127
  let v9130 : BitVec 32 := Scalar.addi v9129 v9128
  let c1_i32_5572 : BitVec 32 := 1#32
  let v9131 : BitVec 32 := Scalar.muli v9130 c1_i32_5572
  let v9132 : BitVec 32 := Scalar.addi c0_i32_5573 v9131
  v9132.toNat
def k0_dev110 (d0 : Dev nD) : Nat :=
  let c0_i32_5613 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c15_i32_5577 : BitVec 32 := 15#32
  let v9139 : BitVec 32 := Scalar.addi v96 c15_i32_5577
  let c16_i32_5578 : BitVec 32 := 16#32
  let c0_i32_5579 : BitVec 32 := 0#32
  let v9140 : BitVec 1 := Scalar.cmpi .eq c16_i32_5578 c0_i32_5579
  let c1_i32_5580 : BitVec 32 := 1#32
  let v9141 : BitVec 32 := Scalar.select v9140 c1_i32_5580 c16_i32_5578
  let v9142 : BitVec 32 := Scalar.remsi v9139 v9141
  let c0_i32_5582 : BitVec 32 := 0#32
  let v9144 : BitVec 1 := Scalar.cmpi .slt v9142 c0_i32_5582
  let c0_i32_5583 : BitVec 32 := 0#32
  let v9145 : BitVec 1 := Scalar.cmpi .slt v9141 c0_i32_5583
  let v9146 : BitVec 1 := Scalar.xori v9144 v9145
  let c0_i32_5581 : BitVec 32 := 0#32
  let v9143 : BitVec 1 := Scalar.cmpi .ne v9142 c0_i32_5581
  let v9147 : BitVec 1 := Scalar.andi v9146 v9143
  let v9148 : BitVec 32 := Scalar.addi v9142 v9141
  let v9149 : BitVec 32 := Scalar.select v9147 v9148 v9142
  let c0_i32_5586 : BitVec 32 := 0#32
  let v9152 : BitVec 1 := Scalar.cmpi .sgt v9149 c0_i32_5586
  let v9153 : BitVec 32 := Scalar.extui v9152
  let c0_i32_5587 : BitVec 32 := 0#32
  let v9154 : BitVec 1 := Scalar.cmpi .slt v9149 c0_i32_5587
  let v9155 : BitVec 32 := Scalar.extui v9154
  let v9156 : BitVec 32 := Scalar.subi v9153 v9155
  let c4_i32_5585 : BitVec 32 := 4#32
  let c0_i32_5588 : BitVec 32 := 0#32
  let v9157 : BitVec 1 := Scalar.cmpi .sgt c4_i32_5585 c0_i32_5588
  let v9158 : BitVec 32 := Scalar.extui v9157
  let c0_i32_5589 : BitVec 32 := 0#32
  let v9159 : BitVec 1 := Scalar.cmpi .slt c4_i32_5585 c0_i32_5589
  let v9160 : BitVec 32 := Scalar.extui v9159
  let v9161 : BitVec 32 := Scalar.subi v9158 v9160
  let v9162 : BitVec 1 := Scalar.cmpi .ne v9156 v9161
  let v9163 : BitVec 32 := Scalar.remsi v9149 c4_i32_5585
  let c0_i32_5590 : BitVec 32 := 0#32
  let v9164 : BitVec 1 := Scalar.cmpi .ne v9163 c0_i32_5590
  let v9165 : BitVec 1 := Scalar.andi v9162 v9164
  let v9151 : BitVec 32 := Scalar.divsi v9149 c4_i32_5585
  let c1_i32_5591 : BitVec 32 := 1#32
  let v9166 : BitVec 32 := Scalar.subi v9151 c1_i32_5591
  let v9167 : BitVec 32 := Scalar.select v9165 v9166 v9151
  let c8_i32_5607 : BitVec 32 := 8#32
  let v9194 : BitVec 32 := Scalar.muli v9167 c8_i32_5607
  let c2_i32_5604 : BitVec 32 := 2#32
  let c4_i32_5592 : BitVec 32 := 4#32
  let c0_i32_5593 : BitVec 32 := 0#32
  let v9168 : BitVec 1 := Scalar.cmpi .eq c4_i32_5592 c0_i32_5593
  let c1_i32_5594 : BitVec 32 := 1#32
  let v9169 : BitVec 32 := Scalar.select v9168 c1_i32_5594 c4_i32_5592
  let v9170 : BitVec 32 := Scalar.remsi v9149 v9169
  let c0_i32_5596 : BitVec 32 := 0#32
  let v9172 : BitVec 1 := Scalar.cmpi .slt v9170 c0_i32_5596
  let c0_i32_5597 : BitVec 32 := 0#32
  let v9173 : BitVec 1 := Scalar.cmpi .slt v9169 c0_i32_5597
  let v9174 : BitVec 1 := Scalar.xori v9172 v9173
  let c0_i32_5595 : BitVec 32 := 0#32
  let v9171 : BitVec 1 := Scalar.cmpi .ne v9170 c0_i32_5595
  let v9175 : BitVec 1 := Scalar.andi v9174 v9171
  let v9176 : BitVec 32 := Scalar.addi v9170 v9169
  let v9177 : BitVec 32 := Scalar.select v9175 v9176 v9170
  let v9188 : BitVec 32 := Scalar.muli c2_i32_5604 v9177
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v9189 : BitVec 32 := Scalar.addi v9188 v94
  let c2_i32_5598 : BitVec 32 := 2#32
  let c0_i32_5599 : BitVec 32 := 0#32
  let v9178 : BitVec 1 := Scalar.cmpi .eq c2_i32_5598 c0_i32_5599
  let c1_i32_5600 : BitVec 32 := 1#32
  let v9179 : BitVec 32 := Scalar.select v9178 c1_i32_5600 c2_i32_5598
  let v9180 : BitVec 32 := Scalar.remsi v9177 v9179
  let c0_i32_5602 : BitVec 32 := 0#32
  let v9182 : BitVec 1 := Scalar.cmpi .slt v9180 c0_i32_5602
  let c0_i32_5603 : BitVec 32 := 0#32
  let v9183 : BitVec 1 := Scalar.cmpi .slt v9179 c0_i32_5603
  let v9184 : BitVec 1 := Scalar.xori v9182 v9183
  let c0_i32_5601 : BitVec 32 := 0#32
  let v9181 : BitVec 1 := Scalar.cmpi .ne v9180 c0_i32_5601
  let v9185 : BitVec 1 := Scalar.andi v9184 v9181
  let v9186 : BitVec 32 := Scalar.addi v9180 v9179
  let v9187 : BitVec 32 := Scalar.select v9185 v9186 v9180
  let c1_i32_5606 : BitVec 32 := 1#32
  let c2_i32_5605 : BitVec 32 := 2#32
  let v9190 : BitVec 32 := Scalar.muli c2_i32_5605 v94
  let v9191 : BitVec 32 := Scalar.subi c1_i32_5606 v9190
  let v9192 : BitVec 32 := Scalar.muli v9187 v9191
  let v9193 : BitVec 32 := Scalar.addi v9189 v9192
  let v9195 : BitVec 32 := Scalar.addi v9194 v9193
  let c1_i32_5612 : BitVec 32 := 1#32
  let v9196 : BitVec 32 := Scalar.muli v9195 c1_i32_5612
  let v9197 : BitVec 32 := Scalar.addi c0_i32_5613 v9196
  v9197.toNat
def k0_off25 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let c512_i32 : BitVec 32 := 512#32
  let v97 : BitVec 32 := Scalar.muli v94 c512_i32
  let c0_i32_6225 : BitVec 32 := 0#32
  ![v97.toNat, 0]
def k0_dev111 (d0 : Dev nD) : Nat :=
  let c0_i32_6224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_44 : BitVec 32 := 8#32
  let v100 : BitVec 32 := Scalar.muli v19 c8_i32_44
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v101 : BitVec 32 := Scalar.addi v100 v29
  let c1_i32_45 : BitVec 32 := 1#32
  let v102 : BitVec 32 := Scalar.addi v101 c1_i32_45
  let c2_i32_52 : BitVec 32 := 2#32
  let c2_i32_46 : BitVec 32 := 2#32
  let c0_i32_47 : BitVec 32 := 0#32
  let v103 : BitVec 1 := Scalar.cmpi .eq c2_i32_46 c0_i32_47
  let c1_i32_48 : BitVec 32 := 1#32
  let v104 : BitVec 32 := Scalar.select v103 c1_i32_48 c2_i32_46
  let v105 : BitVec 32 := Scalar.remsi v29 v104
  let c0_i32_50 : BitVec 32 := 0#32
  let v107 : BitVec 1 := Scalar.cmpi .slt v105 c0_i32_50
  let c0_i32_51 : BitVec 32 := 0#32
  let v108 : BitVec 1 := Scalar.cmpi .slt v104 c0_i32_51
  let v109 : BitVec 1 := Scalar.xori v107 v108
  let c0_i32_49 : BitVec 32 := 0#32
  let v106 : BitVec 1 := Scalar.cmpi .ne v105 c0_i32_49
  let v110 : BitVec 1 := Scalar.andi v109 v106
  let v111 : BitVec 32 := Scalar.addi v105 v104
  let v112 : BitVec 32 := Scalar.select v110 v111 v105
  let v113 : BitVec 32 := Scalar.muli c2_i32_52 v112
  let v114 : BitVec 32 := Scalar.subi v102 v113
  let c1_i32_6223 : BitVec 32 := 1#32
  let v10155 : BitVec 32 := Scalar.muli v114 c1_i32_6223
  let v10156 : BitVec 32 := Scalar.addi c0_i32_6224 v10155
  v10156.toNat
def k0_off26 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c32_i32_6231 : BitVec 32 := 32#32
  let v10166 : BitVec 32 := Scalar.muli v96 c32_i32_6231
  let v10167 : Index := Scalar.indexCast v10166
  let c512_6232 : Index := 512#32
  ![v10167.toNat, 512]
def k0_off27 (d0 : Dev nD) (c1_i32_6235 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let v10173 : BitVec 32 := Scalar.addi v96 c1_i32_6235
  let c16_i32_6236 : BitVec 32 := 16#32
  let c0_i32_6237 : BitVec 32 := 0#32
  let v10174 : BitVec 1 := Scalar.cmpi .eq c16_i32_6236 c0_i32_6237
  let c1_i32_6238 : BitVec 32 := 1#32
  let v10175 : BitVec 32 := Scalar.select v10174 c1_i32_6238 c16_i32_6236
  let v10176 : BitVec 32 := Scalar.remsi v10173 v10175
  let c0_i32_6240 : BitVec 32 := 0#32
  let v10178 : BitVec 1 := Scalar.cmpi .slt v10176 c0_i32_6240
  let c0_i32_6241 : BitVec 32 := 0#32
  let v10179 : BitVec 1 := Scalar.cmpi .slt v10175 c0_i32_6241
  let v10180 : BitVec 1 := Scalar.xori v10178 v10179
  let c0_i32_6239 : BitVec 32 := 0#32
  let v10177 : BitVec 1 := Scalar.cmpi .ne v10176 c0_i32_6239
  let v10181 : BitVec 1 := Scalar.andi v10180 v10177
  let v10182 : BitVec 32 := Scalar.addi v10176 v10175
  let v10183 : BitVec 32 := Scalar.select v10181 v10182 v10176
  let c32_i32_6277 : BitVec 32 := 32#32
  let v10237 : BitVec 32 := Scalar.muli v10183 c32_i32_6277
  let v10238 : Index := Scalar.indexCast v10237
  let c512_6278 : Index := 512#32
  ![v10238.toNat, 512]
def k0_dev112 (d0 : Dev nD) : Nat :=
  let c0_i32_6965 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c1_i32_6929 : BitVec 32 := 1#32
  let v11258 : BitVec 32 := Scalar.addi v96 c1_i32_6929
  let c16_i32_6930 : BitVec 32 := 16#32
  let c0_i32_6931 : BitVec 32 := 0#32
  let v11259 : BitVec 1 := Scalar.cmpi .eq c16_i32_6930 c0_i32_6931
  let c1_i32_6932 : BitVec 32 := 1#32
  let v11260 : BitVec 32 := Scalar.select v11259 c1_i32_6932 c16_i32_6930
  let v11261 : BitVec 32 := Scalar.remsi v11258 v11260
  let c0_i32_6934 : BitVec 32 := 0#32
  let v11263 : BitVec 1 := Scalar.cmpi .slt v11261 c0_i32_6934
  let c0_i32_6935 : BitVec 32 := 0#32
  let v11264 : BitVec 1 := Scalar.cmpi .slt v11260 c0_i32_6935
  let v11265 : BitVec 1 := Scalar.xori v11263 v11264
  let c0_i32_6933 : BitVec 32 := 0#32
  let v11262 : BitVec 1 := Scalar.cmpi .ne v11261 c0_i32_6933
  let v11266 : BitVec 1 := Scalar.andi v11265 v11262
  let v11267 : BitVec 32 := Scalar.addi v11261 v11260
  let v11268 : BitVec 32 := Scalar.select v11266 v11267 v11261
  let c0_i32_6938 : BitVec 32 := 0#32
  let v11271 : BitVec 1 := Scalar.cmpi .sgt v11268 c0_i32_6938
  let v11272 : BitVec 32 := Scalar.extui v11271
  let c0_i32_6939 : BitVec 32 := 0#32
  let v11273 : BitVec 1 := Scalar.cmpi .slt v11268 c0_i32_6939
  let v11274 : BitVec 32 := Scalar.extui v11273
  let v11275 : BitVec 32 := Scalar.subi v11272 v11274
  let c4_i32_6937 : BitVec 32 := 4#32
  let c0_i32_6940 : BitVec 32 := 0#32
  let v11276 : BitVec 1 := Scalar.cmpi .sgt c4_i32_6937 c0_i32_6940
  let v11277 : BitVec 32 := Scalar.extui v11276
  let c0_i32_6941 : BitVec 32 := 0#32
  let v11278 : BitVec 1 := Scalar.cmpi .slt c4_i32_6937 c0_i32_6941
  let v11279 : BitVec 32 := Scalar.extui v11278
  let v11280 : BitVec 32 := Scalar.subi v11277 v11279
  let v11281 : BitVec 1 := Scalar.cmpi .ne v11275 v11280
  let v11282 : BitVec 32 := Scalar.remsi v11268 c4_i32_6937
  let c0_i32_6942 : BitVec 32 := 0#32
  let v11283 : BitVec 1 := Scalar.cmpi .ne v11282 c0_i32_6942
  let v11284 : BitVec 1 := Scalar.andi v11281 v11283
  let v11270 : BitVec 32 := Scalar.divsi v11268 c4_i32_6937
  let c1_i32_6943 : BitVec 32 := 1#32
  let v11285 : BitVec 32 := Scalar.subi v11270 c1_i32_6943
  let v11286 : BitVec 32 := Scalar.select v11284 v11285 v11270
  let c8_i32_6959 : BitVec 32 := 8#32
  let v11313 : BitVec 32 := Scalar.muli v11286 c8_i32_6959
  let c2_i32_6956 : BitVec 32 := 2#32
  let c4_i32_6944 : BitVec 32 := 4#32
  let c0_i32_6945 : BitVec 32 := 0#32
  let v11287 : BitVec 1 := Scalar.cmpi .eq c4_i32_6944 c0_i32_6945
  let c1_i32_6946 : BitVec 32 := 1#32
  let v11288 : BitVec 32 := Scalar.select v11287 c1_i32_6946 c4_i32_6944
  let v11289 : BitVec 32 := Scalar.remsi v11268 v11288
  let c0_i32_6948 : BitVec 32 := 0#32
  let v11291 : BitVec 1 := Scalar.cmpi .slt v11289 c0_i32_6948
  let c0_i32_6949 : BitVec 32 := 0#32
  let v11292 : BitVec 1 := Scalar.cmpi .slt v11288 c0_i32_6949
  let v11293 : BitVec 1 := Scalar.xori v11291 v11292
  let c0_i32_6947 : BitVec 32 := 0#32
  let v11290 : BitVec 1 := Scalar.cmpi .ne v11289 c0_i32_6947
  let v11294 : BitVec 1 := Scalar.andi v11293 v11290
  let v11295 : BitVec 32 := Scalar.addi v11289 v11288
  let v11296 : BitVec 32 := Scalar.select v11294 v11295 v11289
  let v11307 : BitVec 32 := Scalar.muli c2_i32_6956 v11296
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v11308 : BitVec 32 := Scalar.addi v11307 v94
  let c2_i32_6950 : BitVec 32 := 2#32
  let c0_i32_6951 : BitVec 32 := 0#32
  let v11297 : BitVec 1 := Scalar.cmpi .eq c2_i32_6950 c0_i32_6951
  let c1_i32_6952 : BitVec 32 := 1#32
  let v11298 : BitVec 32 := Scalar.select v11297 c1_i32_6952 c2_i32_6950
  let v11299 : BitVec 32 := Scalar.remsi v11296 v11298
  let c0_i32_6954 : BitVec 32 := 0#32
  let v11301 : BitVec 1 := Scalar.cmpi .slt v11299 c0_i32_6954
  let c0_i32_6955 : BitVec 32 := 0#32
  let v11302 : BitVec 1 := Scalar.cmpi .slt v11298 c0_i32_6955
  let v11303 : BitVec 1 := Scalar.xori v11301 v11302
  let c0_i32_6953 : BitVec 32 := 0#32
  let v11300 : BitVec 1 := Scalar.cmpi .ne v11299 c0_i32_6953
  let v11304 : BitVec 1 := Scalar.andi v11303 v11300
  let v11305 : BitVec 32 := Scalar.addi v11299 v11298
  let v11306 : BitVec 32 := Scalar.select v11304 v11305 v11299
  let c1_i32_6958 : BitVec 32 := 1#32
  let c2_i32_6957 : BitVec 32 := 2#32
  let v11309 : BitVec 32 := Scalar.muli c2_i32_6957 v94
  let v11310 : BitVec 32 := Scalar.subi c1_i32_6958 v11309
  let v11311 : BitVec 32 := Scalar.muli v11306 v11310
  let v11312 : BitVec 32 := Scalar.addi v11308 v11311
  let v11314 : BitVec 32 := Scalar.addi v11313 v11312
  let c1_i32_6964 : BitVec 32 := 1#32
  let v11315 : BitVec 32 := Scalar.muli v11314 c1_i32_6964
  let v11316 : BitVec 32 := Scalar.addi c0_i32_6965 v11315
  v11316.toNat
def k0_dev113 (d0 : Dev nD) : Nat :=
  let c0_i32_7005 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c2_i32_6969 : BitVec 32 := 2#32
  let v11323 : BitVec 32 := Scalar.addi v96 c2_i32_6969
  let c16_i32_6970 : BitVec 32 := 16#32
  let c0_i32_6971 : BitVec 32 := 0#32
  let v11324 : BitVec 1 := Scalar.cmpi .eq c16_i32_6970 c0_i32_6971
  let c1_i32_6972 : BitVec 32 := 1#32
  let v11325 : BitVec 32 := Scalar.select v11324 c1_i32_6972 c16_i32_6970
  let v11326 : BitVec 32 := Scalar.remsi v11323 v11325
  let c0_i32_6974 : BitVec 32 := 0#32
  let v11328 : BitVec 1 := Scalar.cmpi .slt v11326 c0_i32_6974
  let c0_i32_6975 : BitVec 32 := 0#32
  let v11329 : BitVec 1 := Scalar.cmpi .slt v11325 c0_i32_6975
  let v11330 : BitVec 1 := Scalar.xori v11328 v11329
  let c0_i32_6973 : BitVec 32 := 0#32
  let v11327 : BitVec 1 := Scalar.cmpi .ne v11326 c0_i32_6973
  let v11331 : BitVec 1 := Scalar.andi v11330 v11327
  let v11332 : BitVec 32 := Scalar.addi v11326 v11325
  let v11333 : BitVec 32 := Scalar.select v11331 v11332 v11326
  let c0_i32_6978 : BitVec 32 := 0#32
  let v11336 : BitVec 1 := Scalar.cmpi .sgt v11333 c0_i32_6978
  let v11337 : BitVec 32 := Scalar.extui v11336
  let c0_i32_6979 : BitVec 32 := 0#32
  let v11338 : BitVec 1 := Scalar.cmpi .slt v11333 c0_i32_6979
  let v11339 : BitVec 32 := Scalar.extui v11338
  let v11340 : BitVec 32 := Scalar.subi v11337 v11339
  let c4_i32_6977 : BitVec 32 := 4#32
  let c0_i32_6980 : BitVec 32 := 0#32
  let v11341 : BitVec 1 := Scalar.cmpi .sgt c4_i32_6977 c0_i32_6980
  let v11342 : BitVec 32 := Scalar.extui v11341
  let c0_i32_6981 : BitVec 32 := 0#32
  let v11343 : BitVec 1 := Scalar.cmpi .slt c4_i32_6977 c0_i32_6981
  let v11344 : BitVec 32 := Scalar.extui v11343
  let v11345 : BitVec 32 := Scalar.subi v11342 v11344
  let v11346 : BitVec 1 := Scalar.cmpi .ne v11340 v11345
  let v11347 : BitVec 32 := Scalar.remsi v11333 c4_i32_6977
  let c0_i32_6982 : BitVec 32 := 0#32
  let v11348 : BitVec 1 := Scalar.cmpi .ne v11347 c0_i32_6982
  let v11349 : BitVec 1 := Scalar.andi v11346 v11348
  let v11335 : BitVec 32 := Scalar.divsi v11333 c4_i32_6977
  let c1_i32_6983 : BitVec 32 := 1#32
  let v11350 : BitVec 32 := Scalar.subi v11335 c1_i32_6983
  let v11351 : BitVec 32 := Scalar.select v11349 v11350 v11335
  let c8_i32_6999 : BitVec 32 := 8#32
  let v11378 : BitVec 32 := Scalar.muli v11351 c8_i32_6999
  let c2_i32_6996 : BitVec 32 := 2#32
  let c4_i32_6984 : BitVec 32 := 4#32
  let c0_i32_6985 : BitVec 32 := 0#32
  let v11352 : BitVec 1 := Scalar.cmpi .eq c4_i32_6984 c0_i32_6985
  let c1_i32_6986 : BitVec 32 := 1#32
  let v11353 : BitVec 32 := Scalar.select v11352 c1_i32_6986 c4_i32_6984
  let v11354 : BitVec 32 := Scalar.remsi v11333 v11353
  let c0_i32_6988 : BitVec 32 := 0#32
  let v11356 : BitVec 1 := Scalar.cmpi .slt v11354 c0_i32_6988
  let c0_i32_6989 : BitVec 32 := 0#32
  let v11357 : BitVec 1 := Scalar.cmpi .slt v11353 c0_i32_6989
  let v11358 : BitVec 1 := Scalar.xori v11356 v11357
  let c0_i32_6987 : BitVec 32 := 0#32
  let v11355 : BitVec 1 := Scalar.cmpi .ne v11354 c0_i32_6987
  let v11359 : BitVec 1 := Scalar.andi v11358 v11355
  let v11360 : BitVec 32 := Scalar.addi v11354 v11353
  let v11361 : BitVec 32 := Scalar.select v11359 v11360 v11354
  let v11372 : BitVec 32 := Scalar.muli c2_i32_6996 v11361
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v11373 : BitVec 32 := Scalar.addi v11372 v94
  let c2_i32_6990 : BitVec 32 := 2#32
  let c0_i32_6991 : BitVec 32 := 0#32
  let v11362 : BitVec 1 := Scalar.cmpi .eq c2_i32_6990 c0_i32_6991
  let c1_i32_6992 : BitVec 32 := 1#32
  let v11363 : BitVec 32 := Scalar.select v11362 c1_i32_6992 c2_i32_6990
  let v11364 : BitVec 32 := Scalar.remsi v11361 v11363
  let c0_i32_6994 : BitVec 32 := 0#32
  let v11366 : BitVec 1 := Scalar.cmpi .slt v11364 c0_i32_6994
  let c0_i32_6995 : BitVec 32 := 0#32
  let v11367 : BitVec 1 := Scalar.cmpi .slt v11363 c0_i32_6995
  let v11368 : BitVec 1 := Scalar.xori v11366 v11367
  let c0_i32_6993 : BitVec 32 := 0#32
  let v11365 : BitVec 1 := Scalar.cmpi .ne v11364 c0_i32_6993
  let v11369 : BitVec 1 := Scalar.andi v11368 v11365
  let v11370 : BitVec 32 := Scalar.addi v11364 v11363
  let v11371 : BitVec 32 := Scalar.select v11369 v11370 v11364
  let c1_i32_6998 : BitVec 32 := 1#32
  let c2_i32_6997 : BitVec 32 := 2#32
  let v11374 : BitVec 32 := Scalar.muli c2_i32_6997 v94
  let v11375 : BitVec 32 := Scalar.subi c1_i32_6998 v11374
  let v11376 : BitVec 32 := Scalar.muli v11371 v11375
  let v11377 : BitVec 32 := Scalar.addi v11373 v11376
  let v11379 : BitVec 32 := Scalar.addi v11378 v11377
  let c1_i32_7004 : BitVec 32 := 1#32
  let v11380 : BitVec 32 := Scalar.muli v11379 c1_i32_7004
  let v11381 : BitVec 32 := Scalar.addi c0_i32_7005 v11380
  v11381.toNat
def k0_dev114 (d0 : Dev nD) : Nat :=
  let c0_i32_7045 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c3_i32_7009 : BitVec 32 := 3#32
  let v11388 : BitVec 32 := Scalar.addi v96 c3_i32_7009
  let c16_i32_7010 : BitVec 32 := 16#32
  let c0_i32_7011 : BitVec 32 := 0#32
  let v11389 : BitVec 1 := Scalar.cmpi .eq c16_i32_7010 c0_i32_7011
  let c1_i32_7012 : BitVec 32 := 1#32
  let v11390 : BitVec 32 := Scalar.select v11389 c1_i32_7012 c16_i32_7010
  let v11391 : BitVec 32 := Scalar.remsi v11388 v11390
  let c0_i32_7014 : BitVec 32 := 0#32
  let v11393 : BitVec 1 := Scalar.cmpi .slt v11391 c0_i32_7014
  let c0_i32_7015 : BitVec 32 := 0#32
  let v11394 : BitVec 1 := Scalar.cmpi .slt v11390 c0_i32_7015
  let v11395 : BitVec 1 := Scalar.xori v11393 v11394
  let c0_i32_7013 : BitVec 32 := 0#32
  let v11392 : BitVec 1 := Scalar.cmpi .ne v11391 c0_i32_7013
  let v11396 : BitVec 1 := Scalar.andi v11395 v11392
  let v11397 : BitVec 32 := Scalar.addi v11391 v11390
  let v11398 : BitVec 32 := Scalar.select v11396 v11397 v11391
  let c0_i32_7018 : BitVec 32 := 0#32
  let v11401 : BitVec 1 := Scalar.cmpi .sgt v11398 c0_i32_7018
  let v11402 : BitVec 32 := Scalar.extui v11401
  let c0_i32_7019 : BitVec 32 := 0#32
  let v11403 : BitVec 1 := Scalar.cmpi .slt v11398 c0_i32_7019
  let v11404 : BitVec 32 := Scalar.extui v11403
  let v11405 : BitVec 32 := Scalar.subi v11402 v11404
  let c4_i32_7017 : BitVec 32 := 4#32
  let c0_i32_7020 : BitVec 32 := 0#32
  let v11406 : BitVec 1 := Scalar.cmpi .sgt c4_i32_7017 c0_i32_7020
  let v11407 : BitVec 32 := Scalar.extui v11406
  let c0_i32_7021 : BitVec 32 := 0#32
  let v11408 : BitVec 1 := Scalar.cmpi .slt c4_i32_7017 c0_i32_7021
  let v11409 : BitVec 32 := Scalar.extui v11408
  let v11410 : BitVec 32 := Scalar.subi v11407 v11409
  let v11411 : BitVec 1 := Scalar.cmpi .ne v11405 v11410
  let v11412 : BitVec 32 := Scalar.remsi v11398 c4_i32_7017
  let c0_i32_7022 : BitVec 32 := 0#32
  let v11413 : BitVec 1 := Scalar.cmpi .ne v11412 c0_i32_7022
  let v11414 : BitVec 1 := Scalar.andi v11411 v11413
  let v11400 : BitVec 32 := Scalar.divsi v11398 c4_i32_7017
  let c1_i32_7023 : BitVec 32 := 1#32
  let v11415 : BitVec 32 := Scalar.subi v11400 c1_i32_7023
  let v11416 : BitVec 32 := Scalar.select v11414 v11415 v11400
  let c8_i32_7039 : BitVec 32 := 8#32
  let v11443 : BitVec 32 := Scalar.muli v11416 c8_i32_7039
  let c2_i32_7036 : BitVec 32 := 2#32
  let c4_i32_7024 : BitVec 32 := 4#32
  let c0_i32_7025 : BitVec 32 := 0#32
  let v11417 : BitVec 1 := Scalar.cmpi .eq c4_i32_7024 c0_i32_7025
  let c1_i32_7026 : BitVec 32 := 1#32
  let v11418 : BitVec 32 := Scalar.select v11417 c1_i32_7026 c4_i32_7024
  let v11419 : BitVec 32 := Scalar.remsi v11398 v11418
  let c0_i32_7028 : BitVec 32 := 0#32
  let v11421 : BitVec 1 := Scalar.cmpi .slt v11419 c0_i32_7028
  let c0_i32_7029 : BitVec 32 := 0#32
  let v11422 : BitVec 1 := Scalar.cmpi .slt v11418 c0_i32_7029
  let v11423 : BitVec 1 := Scalar.xori v11421 v11422
  let c0_i32_7027 : BitVec 32 := 0#32
  let v11420 : BitVec 1 := Scalar.cmpi .ne v11419 c0_i32_7027
  let v11424 : BitVec 1 := Scalar.andi v11423 v11420
  let v11425 : BitVec 32 := Scalar.addi v11419 v11418
  let v11426 : BitVec 32 := Scalar.select v11424 v11425 v11419
  let v11437 : BitVec 32 := Scalar.muli c2_i32_7036 v11426
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v11438 : BitVec 32 := Scalar.addi v11437 v94
  let c2_i32_7030 : BitVec 32 := 2#32
  let c0_i32_7031 : BitVec 32 := 0#32
  let v11427 : BitVec 1 := Scalar.cmpi .eq c2_i32_7030 c0_i32_7031
  let c1_i32_7032 : BitVec 32 := 1#32
  let v11428 : BitVec 32 := Scalar.select v11427 c1_i32_7032 c2_i32_7030
  let v11429 : BitVec 32 := Scalar.remsi v11426 v11428
  let c0_i32_7034 : BitVec 32 := 0#32
  let v11431 : BitVec 1 := Scalar.cmpi .slt v11429 c0_i32_7034
  let c0_i32_7035 : BitVec 32 := 0#32
  let v11432 : BitVec 1 := Scalar.cmpi .slt v11428 c0_i32_7035
  let v11433 : BitVec 1 := Scalar.xori v11431 v11432
  let c0_i32_7033 : BitVec 32 := 0#32
  let v11430 : BitVec 1 := Scalar.cmpi .ne v11429 c0_i32_7033
  let v11434 : BitVec 1 := Scalar.andi v11433 v11430
  let v11435 : BitVec 32 := Scalar.addi v11429 v11428
  let v11436 : BitVec 32 := Scalar.select v11434 v11435 v11429
  let c1_i32_7038 : BitVec 32 := 1#32
  let c2_i32_7037 : BitVec 32 := 2#32
  let v11439 : BitVec 32 := Scalar.muli c2_i32_7037 v94
  let v11440 : BitVec 32 := Scalar.subi c1_i32_7038 v11439
  let v11441 : BitVec 32 := Scalar.muli v11436 v11440
  let v11442 : BitVec 32 := Scalar.addi v11438 v11441
  let v11444 : BitVec 32 := Scalar.addi v11443 v11442
  let c1_i32_7044 : BitVec 32 := 1#32
  let v11445 : BitVec 32 := Scalar.muli v11444 c1_i32_7044
  let v11446 : BitVec 32 := Scalar.addi c0_i32_7045 v11445
  v11446.toNat
def k0_dev115 (d0 : Dev nD) : Nat :=
  let c0_i32_7085 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c4_i32_7049 : BitVec 32 := 4#32
  let v11453 : BitVec 32 := Scalar.addi v96 c4_i32_7049
  let c16_i32_7050 : BitVec 32 := 16#32
  let c0_i32_7051 : BitVec 32 := 0#32
  let v11454 : BitVec 1 := Scalar.cmpi .eq c16_i32_7050 c0_i32_7051
  let c1_i32_7052 : BitVec 32 := 1#32
  let v11455 : BitVec 32 := Scalar.select v11454 c1_i32_7052 c16_i32_7050
  let v11456 : BitVec 32 := Scalar.remsi v11453 v11455
  let c0_i32_7054 : BitVec 32 := 0#32
  let v11458 : BitVec 1 := Scalar.cmpi .slt v11456 c0_i32_7054
  let c0_i32_7055 : BitVec 32 := 0#32
  let v11459 : BitVec 1 := Scalar.cmpi .slt v11455 c0_i32_7055
  let v11460 : BitVec 1 := Scalar.xori v11458 v11459
  let c0_i32_7053 : BitVec 32 := 0#32
  let v11457 : BitVec 1 := Scalar.cmpi .ne v11456 c0_i32_7053
  let v11461 : BitVec 1 := Scalar.andi v11460 v11457
  let v11462 : BitVec 32 := Scalar.addi v11456 v11455
  let v11463 : BitVec 32 := Scalar.select v11461 v11462 v11456
  let c0_i32_7058 : BitVec 32 := 0#32
  let v11466 : BitVec 1 := Scalar.cmpi .sgt v11463 c0_i32_7058
  let v11467 : BitVec 32 := Scalar.extui v11466
  let c0_i32_7059 : BitVec 32 := 0#32
  let v11468 : BitVec 1 := Scalar.cmpi .slt v11463 c0_i32_7059
  let v11469 : BitVec 32 := Scalar.extui v11468
  let v11470 : BitVec 32 := Scalar.subi v11467 v11469
  let c4_i32_7057 : BitVec 32 := 4#32
  let c0_i32_7060 : BitVec 32 := 0#32
  let v11471 : BitVec 1 := Scalar.cmpi .sgt c4_i32_7057 c0_i32_7060
  let v11472 : BitVec 32 := Scalar.extui v11471
  let c0_i32_7061 : BitVec 32 := 0#32
  let v11473 : BitVec 1 := Scalar.cmpi .slt c4_i32_7057 c0_i32_7061
  let v11474 : BitVec 32 := Scalar.extui v11473
  let v11475 : BitVec 32 := Scalar.subi v11472 v11474
  let v11476 : BitVec 1 := Scalar.cmpi .ne v11470 v11475
  let v11477 : BitVec 32 := Scalar.remsi v11463 c4_i32_7057
  let c0_i32_7062 : BitVec 32 := 0#32
  let v11478 : BitVec 1 := Scalar.cmpi .ne v11477 c0_i32_7062
  let v11479 : BitVec 1 := Scalar.andi v11476 v11478
  let v11465 : BitVec 32 := Scalar.divsi v11463 c4_i32_7057
  let c1_i32_7063 : BitVec 32 := 1#32
  let v11480 : BitVec 32 := Scalar.subi v11465 c1_i32_7063
  let v11481 : BitVec 32 := Scalar.select v11479 v11480 v11465
  let c8_i32_7079 : BitVec 32 := 8#32
  let v11508 : BitVec 32 := Scalar.muli v11481 c8_i32_7079
  let c2_i32_7076 : BitVec 32 := 2#32
  let c4_i32_7064 : BitVec 32 := 4#32
  let c0_i32_7065 : BitVec 32 := 0#32
  let v11482 : BitVec 1 := Scalar.cmpi .eq c4_i32_7064 c0_i32_7065
  let c1_i32_7066 : BitVec 32 := 1#32
  let v11483 : BitVec 32 := Scalar.select v11482 c1_i32_7066 c4_i32_7064
  let v11484 : BitVec 32 := Scalar.remsi v11463 v11483
  let c0_i32_7068 : BitVec 32 := 0#32
  let v11486 : BitVec 1 := Scalar.cmpi .slt v11484 c0_i32_7068
  let c0_i32_7069 : BitVec 32 := 0#32
  let v11487 : BitVec 1 := Scalar.cmpi .slt v11483 c0_i32_7069
  let v11488 : BitVec 1 := Scalar.xori v11486 v11487
  let c0_i32_7067 : BitVec 32 := 0#32
  let v11485 : BitVec 1 := Scalar.cmpi .ne v11484 c0_i32_7067
  let v11489 : BitVec 1 := Scalar.andi v11488 v11485
  let v11490 : BitVec 32 := Scalar.addi v11484 v11483
  let v11491 : BitVec 32 := Scalar.select v11489 v11490 v11484
  let v11502 : BitVec 32 := Scalar.muli c2_i32_7076 v11491
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v11503 : BitVec 32 := Scalar.addi v11502 v94
  let c2_i32_7070 : BitVec 32 := 2#32
  let c0_i32_7071 : BitVec 32 := 0#32
  let v11492 : BitVec 1 := Scalar.cmpi .eq c2_i32_7070 c0_i32_7071
  let c1_i32_7072 : BitVec 32 := 1#32
  let v11493 : BitVec 32 := Scalar.select v11492 c1_i32_7072 c2_i32_7070
  let v11494 : BitVec 32 := Scalar.remsi v11491 v11493
  let c0_i32_7074 : BitVec 32 := 0#32
  let v11496 : BitVec 1 := Scalar.cmpi .slt v11494 c0_i32_7074
  let c0_i32_7075 : BitVec 32 := 0#32
  let v11497 : BitVec 1 := Scalar.cmpi .slt v11493 c0_i32_7075
  let v11498 : BitVec 1 := Scalar.xori v11496 v11497
  let c0_i32_7073 : BitVec 32 := 0#32
  let v11495 : BitVec 1 := Scalar.cmpi .ne v11494 c0_i32_7073
  let v11499 : BitVec 1 := Scalar.andi v11498 v11495
  let v11500 : BitVec 32 := Scalar.addi v11494 v11493
  let v11501 : BitVec 32 := Scalar.select v11499 v11500 v11494
  let c1_i32_7078 : BitVec 32 := 1#32
  let c2_i32_7077 : BitVec 32 := 2#32
  let v11504 : BitVec 32 := Scalar.muli c2_i32_7077 v94
  let v11505 : BitVec 32 := Scalar.subi c1_i32_7078 v11504
  let v11506 : BitVec 32 := Scalar.muli v11501 v11505
  let v11507 : BitVec 32 := Scalar.addi v11503 v11506
  let v11509 : BitVec 32 := Scalar.addi v11508 v11507
  let c1_i32_7084 : BitVec 32 := 1#32
  let v11510 : BitVec 32 := Scalar.muli v11509 c1_i32_7084
  let v11511 : BitVec 32 := Scalar.addi c0_i32_7085 v11510
  v11511.toNat
def k0_dev116 (d0 : Dev nD) : Nat :=
  let c0_i32_7125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c5_i32_7089 : BitVec 32 := 5#32
  let v11518 : BitVec 32 := Scalar.addi v96 c5_i32_7089
  let c16_i32_7090 : BitVec 32 := 16#32
  let c0_i32_7091 : BitVec 32 := 0#32
  let v11519 : BitVec 1 := Scalar.cmpi .eq c16_i32_7090 c0_i32_7091
  let c1_i32_7092 : BitVec 32 := 1#32
  let v11520 : BitVec 32 := Scalar.select v11519 c1_i32_7092 c16_i32_7090
  let v11521 : BitVec 32 := Scalar.remsi v11518 v11520
  let c0_i32_7094 : BitVec 32 := 0#32
  let v11523 : BitVec 1 := Scalar.cmpi .slt v11521 c0_i32_7094
  let c0_i32_7095 : BitVec 32 := 0#32
  let v11524 : BitVec 1 := Scalar.cmpi .slt v11520 c0_i32_7095
  let v11525 : BitVec 1 := Scalar.xori v11523 v11524
  let c0_i32_7093 : BitVec 32 := 0#32
  let v11522 : BitVec 1 := Scalar.cmpi .ne v11521 c0_i32_7093
  let v11526 : BitVec 1 := Scalar.andi v11525 v11522
  let v11527 : BitVec 32 := Scalar.addi v11521 v11520
  let v11528 : BitVec 32 := Scalar.select v11526 v11527 v11521
  let c0_i32_7098 : BitVec 32 := 0#32
  let v11531 : BitVec 1 := Scalar.cmpi .sgt v11528 c0_i32_7098
  let v11532 : BitVec 32 := Scalar.extui v11531
  let c0_i32_7099 : BitVec 32 := 0#32
  let v11533 : BitVec 1 := Scalar.cmpi .slt v11528 c0_i32_7099
  let v11534 : BitVec 32 := Scalar.extui v11533
  let v11535 : BitVec 32 := Scalar.subi v11532 v11534
  let c4_i32_7097 : BitVec 32 := 4#32
  let c0_i32_7100 : BitVec 32 := 0#32
  let v11536 : BitVec 1 := Scalar.cmpi .sgt c4_i32_7097 c0_i32_7100
  let v11537 : BitVec 32 := Scalar.extui v11536
  let c0_i32_7101 : BitVec 32 := 0#32
  let v11538 : BitVec 1 := Scalar.cmpi .slt c4_i32_7097 c0_i32_7101
  let v11539 : BitVec 32 := Scalar.extui v11538
  let v11540 : BitVec 32 := Scalar.subi v11537 v11539
  let v11541 : BitVec 1 := Scalar.cmpi .ne v11535 v11540
  let v11542 : BitVec 32 := Scalar.remsi v11528 c4_i32_7097
  let c0_i32_7102 : BitVec 32 := 0#32
  let v11543 : BitVec 1 := Scalar.cmpi .ne v11542 c0_i32_7102
  let v11544 : BitVec 1 := Scalar.andi v11541 v11543
  let v11530 : BitVec 32 := Scalar.divsi v11528 c4_i32_7097
  let c1_i32_7103 : BitVec 32 := 1#32
  let v11545 : BitVec 32 := Scalar.subi v11530 c1_i32_7103
  let v11546 : BitVec 32 := Scalar.select v11544 v11545 v11530
  let c8_i32_7119 : BitVec 32 := 8#32
  let v11573 : BitVec 32 := Scalar.muli v11546 c8_i32_7119
  let c2_i32_7116 : BitVec 32 := 2#32
  let c4_i32_7104 : BitVec 32 := 4#32
  let c0_i32_7105 : BitVec 32 := 0#32
  let v11547 : BitVec 1 := Scalar.cmpi .eq c4_i32_7104 c0_i32_7105
  let c1_i32_7106 : BitVec 32 := 1#32
  let v11548 : BitVec 32 := Scalar.select v11547 c1_i32_7106 c4_i32_7104
  let v11549 : BitVec 32 := Scalar.remsi v11528 v11548
  let c0_i32_7108 : BitVec 32 := 0#32
  let v11551 : BitVec 1 := Scalar.cmpi .slt v11549 c0_i32_7108
  let c0_i32_7109 : BitVec 32 := 0#32
  let v11552 : BitVec 1 := Scalar.cmpi .slt v11548 c0_i32_7109
  let v11553 : BitVec 1 := Scalar.xori v11551 v11552
  let c0_i32_7107 : BitVec 32 := 0#32
  let v11550 : BitVec 1 := Scalar.cmpi .ne v11549 c0_i32_7107
  let v11554 : BitVec 1 := Scalar.andi v11553 v11550
  let v11555 : BitVec 32 := Scalar.addi v11549 v11548
  let v11556 : BitVec 32 := Scalar.select v11554 v11555 v11549
  let v11567 : BitVec 32 := Scalar.muli c2_i32_7116 v11556
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v11568 : BitVec 32 := Scalar.addi v11567 v94
  let c2_i32_7110 : BitVec 32 := 2#32
  let c0_i32_7111 : BitVec 32 := 0#32
  let v11557 : BitVec 1 := Scalar.cmpi .eq c2_i32_7110 c0_i32_7111
  let c1_i32_7112 : BitVec 32 := 1#32
  let v11558 : BitVec 32 := Scalar.select v11557 c1_i32_7112 c2_i32_7110
  let v11559 : BitVec 32 := Scalar.remsi v11556 v11558
  let c0_i32_7114 : BitVec 32 := 0#32
  let v11561 : BitVec 1 := Scalar.cmpi .slt v11559 c0_i32_7114
  let c0_i32_7115 : BitVec 32 := 0#32
  let v11562 : BitVec 1 := Scalar.cmpi .slt v11558 c0_i32_7115
  let v11563 : BitVec 1 := Scalar.xori v11561 v11562
  let c0_i32_7113 : BitVec 32 := 0#32
  let v11560 : BitVec 1 := Scalar.cmpi .ne v11559 c0_i32_7113
  let v11564 : BitVec 1 := Scalar.andi v11563 v11560
  let v11565 : BitVec 32 := Scalar.addi v11559 v11558
  let v11566 : BitVec 32 := Scalar.select v11564 v11565 v11559
  let c1_i32_7118 : BitVec 32 := 1#32
  let c2_i32_7117 : BitVec 32 := 2#32
  let v11569 : BitVec 32 := Scalar.muli c2_i32_7117 v94
  let v11570 : BitVec 32 := Scalar.subi c1_i32_7118 v11569
  let v11571 : BitVec 32 := Scalar.muli v11566 v11570
  let v11572 : BitVec 32 := Scalar.addi v11568 v11571
  let v11574 : BitVec 32 := Scalar.addi v11573 v11572
  let c1_i32_7124 : BitVec 32 := 1#32
  let v11575 : BitVec 32 := Scalar.muli v11574 c1_i32_7124
  let v11576 : BitVec 32 := Scalar.addi c0_i32_7125 v11575
  v11576.toNat
def k0_dev117 (d0 : Dev nD) : Nat :=
  let c0_i32_7165 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c6_i32_7129 : BitVec 32 := 6#32
  let v11583 : BitVec 32 := Scalar.addi v96 c6_i32_7129
  let c16_i32_7130 : BitVec 32 := 16#32
  let c0_i32_7131 : BitVec 32 := 0#32
  let v11584 : BitVec 1 := Scalar.cmpi .eq c16_i32_7130 c0_i32_7131
  let c1_i32_7132 : BitVec 32 := 1#32
  let v11585 : BitVec 32 := Scalar.select v11584 c1_i32_7132 c16_i32_7130
  let v11586 : BitVec 32 := Scalar.remsi v11583 v11585
  let c0_i32_7134 : BitVec 32 := 0#32
  let v11588 : BitVec 1 := Scalar.cmpi .slt v11586 c0_i32_7134
  let c0_i32_7135 : BitVec 32 := 0#32
  let v11589 : BitVec 1 := Scalar.cmpi .slt v11585 c0_i32_7135
  let v11590 : BitVec 1 := Scalar.xori v11588 v11589
  let c0_i32_7133 : BitVec 32 := 0#32
  let v11587 : BitVec 1 := Scalar.cmpi .ne v11586 c0_i32_7133
  let v11591 : BitVec 1 := Scalar.andi v11590 v11587
  let v11592 : BitVec 32 := Scalar.addi v11586 v11585
  let v11593 : BitVec 32 := Scalar.select v11591 v11592 v11586
  let c0_i32_7138 : BitVec 32 := 0#32
  let v11596 : BitVec 1 := Scalar.cmpi .sgt v11593 c0_i32_7138
  let v11597 : BitVec 32 := Scalar.extui v11596
  let c0_i32_7139 : BitVec 32 := 0#32
  let v11598 : BitVec 1 := Scalar.cmpi .slt v11593 c0_i32_7139
  let v11599 : BitVec 32 := Scalar.extui v11598
  let v11600 : BitVec 32 := Scalar.subi v11597 v11599
  let c4_i32_7137 : BitVec 32 := 4#32
  let c0_i32_7140 : BitVec 32 := 0#32
  let v11601 : BitVec 1 := Scalar.cmpi .sgt c4_i32_7137 c0_i32_7140
  let v11602 : BitVec 32 := Scalar.extui v11601
  let c0_i32_7141 : BitVec 32 := 0#32
  let v11603 : BitVec 1 := Scalar.cmpi .slt c4_i32_7137 c0_i32_7141
  let v11604 : BitVec 32 := Scalar.extui v11603
  let v11605 : BitVec 32 := Scalar.subi v11602 v11604
  let v11606 : BitVec 1 := Scalar.cmpi .ne v11600 v11605
  let v11607 : BitVec 32 := Scalar.remsi v11593 c4_i32_7137
  let c0_i32_7142 : BitVec 32 := 0#32
  let v11608 : BitVec 1 := Scalar.cmpi .ne v11607 c0_i32_7142
  let v11609 : BitVec 1 := Scalar.andi v11606 v11608
  let v11595 : BitVec 32 := Scalar.divsi v11593 c4_i32_7137
  let c1_i32_7143 : BitVec 32 := 1#32
  let v11610 : BitVec 32 := Scalar.subi v11595 c1_i32_7143
  let v11611 : BitVec 32 := Scalar.select v11609 v11610 v11595
  let c8_i32_7159 : BitVec 32 := 8#32
  let v11638 : BitVec 32 := Scalar.muli v11611 c8_i32_7159
  let c2_i32_7156 : BitVec 32 := 2#32
  let c4_i32_7144 : BitVec 32 := 4#32
  let c0_i32_7145 : BitVec 32 := 0#32
  let v11612 : BitVec 1 := Scalar.cmpi .eq c4_i32_7144 c0_i32_7145
  let c1_i32_7146 : BitVec 32 := 1#32
  let v11613 : BitVec 32 := Scalar.select v11612 c1_i32_7146 c4_i32_7144
  let v11614 : BitVec 32 := Scalar.remsi v11593 v11613
  let c0_i32_7148 : BitVec 32 := 0#32
  let v11616 : BitVec 1 := Scalar.cmpi .slt v11614 c0_i32_7148
  let c0_i32_7149 : BitVec 32 := 0#32
  let v11617 : BitVec 1 := Scalar.cmpi .slt v11613 c0_i32_7149
  let v11618 : BitVec 1 := Scalar.xori v11616 v11617
  let c0_i32_7147 : BitVec 32 := 0#32
  let v11615 : BitVec 1 := Scalar.cmpi .ne v11614 c0_i32_7147
  let v11619 : BitVec 1 := Scalar.andi v11618 v11615
  let v11620 : BitVec 32 := Scalar.addi v11614 v11613
  let v11621 : BitVec 32 := Scalar.select v11619 v11620 v11614
  let v11632 : BitVec 32 := Scalar.muli c2_i32_7156 v11621
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v11633 : BitVec 32 := Scalar.addi v11632 v94
  let c2_i32_7150 : BitVec 32 := 2#32
  let c0_i32_7151 : BitVec 32 := 0#32
  let v11622 : BitVec 1 := Scalar.cmpi .eq c2_i32_7150 c0_i32_7151
  let c1_i32_7152 : BitVec 32 := 1#32
  let v11623 : BitVec 32 := Scalar.select v11622 c1_i32_7152 c2_i32_7150
  let v11624 : BitVec 32 := Scalar.remsi v11621 v11623
  let c0_i32_7154 : BitVec 32 := 0#32
  let v11626 : BitVec 1 := Scalar.cmpi .slt v11624 c0_i32_7154
  let c0_i32_7155 : BitVec 32 := 0#32
  let v11627 : BitVec 1 := Scalar.cmpi .slt v11623 c0_i32_7155
  let v11628 : BitVec 1 := Scalar.xori v11626 v11627
  let c0_i32_7153 : BitVec 32 := 0#32
  let v11625 : BitVec 1 := Scalar.cmpi .ne v11624 c0_i32_7153
  let v11629 : BitVec 1 := Scalar.andi v11628 v11625
  let v11630 : BitVec 32 := Scalar.addi v11624 v11623
  let v11631 : BitVec 32 := Scalar.select v11629 v11630 v11624
  let c1_i32_7158 : BitVec 32 := 1#32
  let c2_i32_7157 : BitVec 32 := 2#32
  let v11634 : BitVec 32 := Scalar.muli c2_i32_7157 v94
  let v11635 : BitVec 32 := Scalar.subi c1_i32_7158 v11634
  let v11636 : BitVec 32 := Scalar.muli v11631 v11635
  let v11637 : BitVec 32 := Scalar.addi v11633 v11636
  let v11639 : BitVec 32 := Scalar.addi v11638 v11637
  let c1_i32_7164 : BitVec 32 := 1#32
  let v11640 : BitVec 32 := Scalar.muli v11639 c1_i32_7164
  let v11641 : BitVec 32 := Scalar.addi c0_i32_7165 v11640
  v11641.toNat
def k0_dev118 (d0 : Dev nD) : Nat :=
  let c0_i32_7205 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c7_i32_7169 : BitVec 32 := 7#32
  let v11648 : BitVec 32 := Scalar.addi v96 c7_i32_7169
  let c16_i32_7170 : BitVec 32 := 16#32
  let c0_i32_7171 : BitVec 32 := 0#32
  let v11649 : BitVec 1 := Scalar.cmpi .eq c16_i32_7170 c0_i32_7171
  let c1_i32_7172 : BitVec 32 := 1#32
  let v11650 : BitVec 32 := Scalar.select v11649 c1_i32_7172 c16_i32_7170
  let v11651 : BitVec 32 := Scalar.remsi v11648 v11650
  let c0_i32_7174 : BitVec 32 := 0#32
  let v11653 : BitVec 1 := Scalar.cmpi .slt v11651 c0_i32_7174
  let c0_i32_7175 : BitVec 32 := 0#32
  let v11654 : BitVec 1 := Scalar.cmpi .slt v11650 c0_i32_7175
  let v11655 : BitVec 1 := Scalar.xori v11653 v11654
  let c0_i32_7173 : BitVec 32 := 0#32
  let v11652 : BitVec 1 := Scalar.cmpi .ne v11651 c0_i32_7173
  let v11656 : BitVec 1 := Scalar.andi v11655 v11652
  let v11657 : BitVec 32 := Scalar.addi v11651 v11650
  let v11658 : BitVec 32 := Scalar.select v11656 v11657 v11651
  let c0_i32_7178 : BitVec 32 := 0#32
  let v11661 : BitVec 1 := Scalar.cmpi .sgt v11658 c0_i32_7178
  let v11662 : BitVec 32 := Scalar.extui v11661
  let c0_i32_7179 : BitVec 32 := 0#32
  let v11663 : BitVec 1 := Scalar.cmpi .slt v11658 c0_i32_7179
  let v11664 : BitVec 32 := Scalar.extui v11663
  let v11665 : BitVec 32 := Scalar.subi v11662 v11664
  let c4_i32_7177 : BitVec 32 := 4#32
  let c0_i32_7180 : BitVec 32 := 0#32
  let v11666 : BitVec 1 := Scalar.cmpi .sgt c4_i32_7177 c0_i32_7180
  let v11667 : BitVec 32 := Scalar.extui v11666
  let c0_i32_7181 : BitVec 32 := 0#32
  let v11668 : BitVec 1 := Scalar.cmpi .slt c4_i32_7177 c0_i32_7181
  let v11669 : BitVec 32 := Scalar.extui v11668
  let v11670 : BitVec 32 := Scalar.subi v11667 v11669
  let v11671 : BitVec 1 := Scalar.cmpi .ne v11665 v11670
  let v11672 : BitVec 32 := Scalar.remsi v11658 c4_i32_7177
  let c0_i32_7182 : BitVec 32 := 0#32
  let v11673 : BitVec 1 := Scalar.cmpi .ne v11672 c0_i32_7182
  let v11674 : BitVec 1 := Scalar.andi v11671 v11673
  let v11660 : BitVec 32 := Scalar.divsi v11658 c4_i32_7177
  let c1_i32_7183 : BitVec 32 := 1#32
  let v11675 : BitVec 32 := Scalar.subi v11660 c1_i32_7183
  let v11676 : BitVec 32 := Scalar.select v11674 v11675 v11660
  let c8_i32_7199 : BitVec 32 := 8#32
  let v11703 : BitVec 32 := Scalar.muli v11676 c8_i32_7199
  let c2_i32_7196 : BitVec 32 := 2#32
  let c4_i32_7184 : BitVec 32 := 4#32
  let c0_i32_7185 : BitVec 32 := 0#32
  let v11677 : BitVec 1 := Scalar.cmpi .eq c4_i32_7184 c0_i32_7185
  let c1_i32_7186 : BitVec 32 := 1#32
  let v11678 : BitVec 32 := Scalar.select v11677 c1_i32_7186 c4_i32_7184
  let v11679 : BitVec 32 := Scalar.remsi v11658 v11678
  let c0_i32_7188 : BitVec 32 := 0#32
  let v11681 : BitVec 1 := Scalar.cmpi .slt v11679 c0_i32_7188
  let c0_i32_7189 : BitVec 32 := 0#32
  let v11682 : BitVec 1 := Scalar.cmpi .slt v11678 c0_i32_7189
  let v11683 : BitVec 1 := Scalar.xori v11681 v11682
  let c0_i32_7187 : BitVec 32 := 0#32
  let v11680 : BitVec 1 := Scalar.cmpi .ne v11679 c0_i32_7187
  let v11684 : BitVec 1 := Scalar.andi v11683 v11680
  let v11685 : BitVec 32 := Scalar.addi v11679 v11678
  let v11686 : BitVec 32 := Scalar.select v11684 v11685 v11679
  let v11697 : BitVec 32 := Scalar.muli c2_i32_7196 v11686
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v11698 : BitVec 32 := Scalar.addi v11697 v94
  let c2_i32_7190 : BitVec 32 := 2#32
  let c0_i32_7191 : BitVec 32 := 0#32
  let v11687 : BitVec 1 := Scalar.cmpi .eq c2_i32_7190 c0_i32_7191
  let c1_i32_7192 : BitVec 32 := 1#32
  let v11688 : BitVec 32 := Scalar.select v11687 c1_i32_7192 c2_i32_7190
  let v11689 : BitVec 32 := Scalar.remsi v11686 v11688
  let c0_i32_7194 : BitVec 32 := 0#32
  let v11691 : BitVec 1 := Scalar.cmpi .slt v11689 c0_i32_7194
  let c0_i32_7195 : BitVec 32 := 0#32
  let v11692 : BitVec 1 := Scalar.cmpi .slt v11688 c0_i32_7195
  let v11693 : BitVec 1 := Scalar.xori v11691 v11692
  let c0_i32_7193 : BitVec 32 := 0#32
  let v11690 : BitVec 1 := Scalar.cmpi .ne v11689 c0_i32_7193
  let v11694 : BitVec 1 := Scalar.andi v11693 v11690
  let v11695 : BitVec 32 := Scalar.addi v11689 v11688
  let v11696 : BitVec 32 := Scalar.select v11694 v11695 v11689
  let c1_i32_7198 : BitVec 32 := 1#32
  let c2_i32_7197 : BitVec 32 := 2#32
  let v11699 : BitVec 32 := Scalar.muli c2_i32_7197 v94
  let v11700 : BitVec 32 := Scalar.subi c1_i32_7198 v11699
  let v11701 : BitVec 32 := Scalar.muli v11696 v11700
  let v11702 : BitVec 32 := Scalar.addi v11698 v11701
  let v11704 : BitVec 32 := Scalar.addi v11703 v11702
  let c1_i32_7204 : BitVec 32 := 1#32
  let v11705 : BitVec 32 := Scalar.muli v11704 c1_i32_7204
  let v11706 : BitVec 32 := Scalar.addi c0_i32_7205 v11705
  v11706.toNat
def k0_dev119 (d0 : Dev nD) : Nat :=
  let c0_i32_7245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c8_i32_7209 : BitVec 32 := 8#32
  let v11713 : BitVec 32 := Scalar.addi v96 c8_i32_7209
  let c16_i32_7210 : BitVec 32 := 16#32
  let c0_i32_7211 : BitVec 32 := 0#32
  let v11714 : BitVec 1 := Scalar.cmpi .eq c16_i32_7210 c0_i32_7211
  let c1_i32_7212 : BitVec 32 := 1#32
  let v11715 : BitVec 32 := Scalar.select v11714 c1_i32_7212 c16_i32_7210
  let v11716 : BitVec 32 := Scalar.remsi v11713 v11715
  let c0_i32_7214 : BitVec 32 := 0#32
  let v11718 : BitVec 1 := Scalar.cmpi .slt v11716 c0_i32_7214
  let c0_i32_7215 : BitVec 32 := 0#32
  let v11719 : BitVec 1 := Scalar.cmpi .slt v11715 c0_i32_7215
  let v11720 : BitVec 1 := Scalar.xori v11718 v11719
  let c0_i32_7213 : BitVec 32 := 0#32
  let v11717 : BitVec 1 := Scalar.cmpi .ne v11716 c0_i32_7213
  let v11721 : BitVec 1 := Scalar.andi v11720 v11717
  let v11722 : BitVec 32 := Scalar.addi v11716 v11715
  let v11723 : BitVec 32 := Scalar.select v11721 v11722 v11716
  let c0_i32_7218 : BitVec 32 := 0#32
  let v11726 : BitVec 1 := Scalar.cmpi .sgt v11723 c0_i32_7218
  let v11727 : BitVec 32 := Scalar.extui v11726
  let c0_i32_7219 : BitVec 32 := 0#32
  let v11728 : BitVec 1 := Scalar.cmpi .slt v11723 c0_i32_7219
  let v11729 : BitVec 32 := Scalar.extui v11728
  let v11730 : BitVec 32 := Scalar.subi v11727 v11729
  let c4_i32_7217 : BitVec 32 := 4#32
  let c0_i32_7220 : BitVec 32 := 0#32
  let v11731 : BitVec 1 := Scalar.cmpi .sgt c4_i32_7217 c0_i32_7220
  let v11732 : BitVec 32 := Scalar.extui v11731
  let c0_i32_7221 : BitVec 32 := 0#32
  let v11733 : BitVec 1 := Scalar.cmpi .slt c4_i32_7217 c0_i32_7221
  let v11734 : BitVec 32 := Scalar.extui v11733
  let v11735 : BitVec 32 := Scalar.subi v11732 v11734
  let v11736 : BitVec 1 := Scalar.cmpi .ne v11730 v11735
  let v11737 : BitVec 32 := Scalar.remsi v11723 c4_i32_7217
  let c0_i32_7222 : BitVec 32 := 0#32
  let v11738 : BitVec 1 := Scalar.cmpi .ne v11737 c0_i32_7222
  let v11739 : BitVec 1 := Scalar.andi v11736 v11738
  let v11725 : BitVec 32 := Scalar.divsi v11723 c4_i32_7217
  let c1_i32_7223 : BitVec 32 := 1#32
  let v11740 : BitVec 32 := Scalar.subi v11725 c1_i32_7223
  let v11741 : BitVec 32 := Scalar.select v11739 v11740 v11725
  let c8_i32_7239 : BitVec 32 := 8#32
  let v11768 : BitVec 32 := Scalar.muli v11741 c8_i32_7239
  let c2_i32_7236 : BitVec 32 := 2#32
  let c4_i32_7224 : BitVec 32 := 4#32
  let c0_i32_7225 : BitVec 32 := 0#32
  let v11742 : BitVec 1 := Scalar.cmpi .eq c4_i32_7224 c0_i32_7225
  let c1_i32_7226 : BitVec 32 := 1#32
  let v11743 : BitVec 32 := Scalar.select v11742 c1_i32_7226 c4_i32_7224
  let v11744 : BitVec 32 := Scalar.remsi v11723 v11743
  let c0_i32_7228 : BitVec 32 := 0#32
  let v11746 : BitVec 1 := Scalar.cmpi .slt v11744 c0_i32_7228
  let c0_i32_7229 : BitVec 32 := 0#32
  let v11747 : BitVec 1 := Scalar.cmpi .slt v11743 c0_i32_7229
  let v11748 : BitVec 1 := Scalar.xori v11746 v11747
  let c0_i32_7227 : BitVec 32 := 0#32
  let v11745 : BitVec 1 := Scalar.cmpi .ne v11744 c0_i32_7227
  let v11749 : BitVec 1 := Scalar.andi v11748 v11745
  let v11750 : BitVec 32 := Scalar.addi v11744 v11743
  let v11751 : BitVec 32 := Scalar.select v11749 v11750 v11744
  let v11762 : BitVec 32 := Scalar.muli c2_i32_7236 v11751
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v11763 : BitVec 32 := Scalar.addi v11762 v94
  let c2_i32_7230 : BitVec 32 := 2#32
  let c0_i32_7231 : BitVec 32 := 0#32
  let v11752 : BitVec 1 := Scalar.cmpi .eq c2_i32_7230 c0_i32_7231
  let c1_i32_7232 : BitVec 32 := 1#32
  let v11753 : BitVec 32 := Scalar.select v11752 c1_i32_7232 c2_i32_7230
  let v11754 : BitVec 32 := Scalar.remsi v11751 v11753
  let c0_i32_7234 : BitVec 32 := 0#32
  let v11756 : BitVec 1 := Scalar.cmpi .slt v11754 c0_i32_7234
  let c0_i32_7235 : BitVec 32 := 0#32
  let v11757 : BitVec 1 := Scalar.cmpi .slt v11753 c0_i32_7235
  let v11758 : BitVec 1 := Scalar.xori v11756 v11757
  let c0_i32_7233 : BitVec 32 := 0#32
  let v11755 : BitVec 1 := Scalar.cmpi .ne v11754 c0_i32_7233
  let v11759 : BitVec 1 := Scalar.andi v11758 v11755
  let v11760 : BitVec 32 := Scalar.addi v11754 v11753
  let v11761 : BitVec 32 := Scalar.select v11759 v11760 v11754
  let c1_i32_7238 : BitVec 32 := 1#32
  let c2_i32_7237 : BitVec 32 := 2#32
  let v11764 : BitVec 32 := Scalar.muli c2_i32_7237 v94
  let v11765 : BitVec 32 := Scalar.subi c1_i32_7238 v11764
  let v11766 : BitVec 32 := Scalar.muli v11761 v11765
  let v11767 : BitVec 32 := Scalar.addi v11763 v11766
  let v11769 : BitVec 32 := Scalar.addi v11768 v11767
  let c1_i32_7244 : BitVec 32 := 1#32
  let v11770 : BitVec 32 := Scalar.muli v11769 c1_i32_7244
  let v11771 : BitVec 32 := Scalar.addi c0_i32_7245 v11770
  v11771.toNat
def k0_dev120 (d0 : Dev nD) : Nat :=
  let c0_i32_7285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c9_i32_7249 : BitVec 32 := 9#32
  let v11778 : BitVec 32 := Scalar.addi v96 c9_i32_7249
  let c16_i32_7250 : BitVec 32 := 16#32
  let c0_i32_7251 : BitVec 32 := 0#32
  let v11779 : BitVec 1 := Scalar.cmpi .eq c16_i32_7250 c0_i32_7251
  let c1_i32_7252 : BitVec 32 := 1#32
  let v11780 : BitVec 32 := Scalar.select v11779 c1_i32_7252 c16_i32_7250
  let v11781 : BitVec 32 := Scalar.remsi v11778 v11780
  let c0_i32_7254 : BitVec 32 := 0#32
  let v11783 : BitVec 1 := Scalar.cmpi .slt v11781 c0_i32_7254
  let c0_i32_7255 : BitVec 32 := 0#32
  let v11784 : BitVec 1 := Scalar.cmpi .slt v11780 c0_i32_7255
  let v11785 : BitVec 1 := Scalar.xori v11783 v11784
  let c0_i32_7253 : BitVec 32 := 0#32
  let v11782 : BitVec 1 := Scalar.cmpi .ne v11781 c0_i32_7253
  let v11786 : BitVec 1 := Scalar.andi v11785 v11782
  let v11787 : BitVec 32 := Scalar.addi v11781 v11780
  let v11788 : BitVec 32 := Scalar.select v11786 v11787 v11781
  let c0_i32_7258 : BitVec 32 := 0#32
  let v11791 : BitVec 1 := Scalar.cmpi .sgt v11788 c0_i32_7258
  let v11792 : BitVec 32 := Scalar.extui v11791
  let c0_i32_7259 : BitVec 32 := 0#32
  let v11793 : BitVec 1 := Scalar.cmpi .slt v11788 c0_i32_7259
  let v11794 : BitVec 32 := Scalar.extui v11793
  let v11795 : BitVec 32 := Scalar.subi v11792 v11794
  let c4_i32_7257 : BitVec 32 := 4#32
  let c0_i32_7260 : BitVec 32 := 0#32
  let v11796 : BitVec 1 := Scalar.cmpi .sgt c4_i32_7257 c0_i32_7260
  let v11797 : BitVec 32 := Scalar.extui v11796
  let c0_i32_7261 : BitVec 32 := 0#32
  let v11798 : BitVec 1 := Scalar.cmpi .slt c4_i32_7257 c0_i32_7261
  let v11799 : BitVec 32 := Scalar.extui v11798
  let v11800 : BitVec 32 := Scalar.subi v11797 v11799
  let v11801 : BitVec 1 := Scalar.cmpi .ne v11795 v11800
  let v11802 : BitVec 32 := Scalar.remsi v11788 c4_i32_7257
  let c0_i32_7262 : BitVec 32 := 0#32
  let v11803 : BitVec 1 := Scalar.cmpi .ne v11802 c0_i32_7262
  let v11804 : BitVec 1 := Scalar.andi v11801 v11803
  let v11790 : BitVec 32 := Scalar.divsi v11788 c4_i32_7257
  let c1_i32_7263 : BitVec 32 := 1#32
  let v11805 : BitVec 32 := Scalar.subi v11790 c1_i32_7263
  let v11806 : BitVec 32 := Scalar.select v11804 v11805 v11790
  let c8_i32_7279 : BitVec 32 := 8#32
  let v11833 : BitVec 32 := Scalar.muli v11806 c8_i32_7279
  let c2_i32_7276 : BitVec 32 := 2#32
  let c4_i32_7264 : BitVec 32 := 4#32
  let c0_i32_7265 : BitVec 32 := 0#32
  let v11807 : BitVec 1 := Scalar.cmpi .eq c4_i32_7264 c0_i32_7265
  let c1_i32_7266 : BitVec 32 := 1#32
  let v11808 : BitVec 32 := Scalar.select v11807 c1_i32_7266 c4_i32_7264
  let v11809 : BitVec 32 := Scalar.remsi v11788 v11808
  let c0_i32_7268 : BitVec 32 := 0#32
  let v11811 : BitVec 1 := Scalar.cmpi .slt v11809 c0_i32_7268
  let c0_i32_7269 : BitVec 32 := 0#32
  let v11812 : BitVec 1 := Scalar.cmpi .slt v11808 c0_i32_7269
  let v11813 : BitVec 1 := Scalar.xori v11811 v11812
  let c0_i32_7267 : BitVec 32 := 0#32
  let v11810 : BitVec 1 := Scalar.cmpi .ne v11809 c0_i32_7267
  let v11814 : BitVec 1 := Scalar.andi v11813 v11810
  let v11815 : BitVec 32 := Scalar.addi v11809 v11808
  let v11816 : BitVec 32 := Scalar.select v11814 v11815 v11809
  let v11827 : BitVec 32 := Scalar.muli c2_i32_7276 v11816
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v11828 : BitVec 32 := Scalar.addi v11827 v94
  let c2_i32_7270 : BitVec 32 := 2#32
  let c0_i32_7271 : BitVec 32 := 0#32
  let v11817 : BitVec 1 := Scalar.cmpi .eq c2_i32_7270 c0_i32_7271
  let c1_i32_7272 : BitVec 32 := 1#32
  let v11818 : BitVec 32 := Scalar.select v11817 c1_i32_7272 c2_i32_7270
  let v11819 : BitVec 32 := Scalar.remsi v11816 v11818
  let c0_i32_7274 : BitVec 32 := 0#32
  let v11821 : BitVec 1 := Scalar.cmpi .slt v11819 c0_i32_7274
  let c0_i32_7275 : BitVec 32 := 0#32
  let v11822 : BitVec 1 := Scalar.cmpi .slt v11818 c0_i32_7275
  let v11823 : BitVec 1 := Scalar.xori v11821 v11822
  let c0_i32_7273 : BitVec 32 := 0#32
  let v11820 : BitVec 1 := Scalar.cmpi .ne v11819 c0_i32_7273
  let v11824 : BitVec 1 := Scalar.andi v11823 v11820
  let v11825 : BitVec 32 := Scalar.addi v11819 v11818
  let v11826 : BitVec 32 := Scalar.select v11824 v11825 v11819
  let c1_i32_7278 : BitVec 32 := 1#32
  let c2_i32_7277 : BitVec 32 := 2#32
  let v11829 : BitVec 32 := Scalar.muli c2_i32_7277 v94
  let v11830 : BitVec 32 := Scalar.subi c1_i32_7278 v11829
  let v11831 : BitVec 32 := Scalar.muli v11826 v11830
  let v11832 : BitVec 32 := Scalar.addi v11828 v11831
  let v11834 : BitVec 32 := Scalar.addi v11833 v11832
  let c1_i32_7284 : BitVec 32 := 1#32
  let v11835 : BitVec 32 := Scalar.muli v11834 c1_i32_7284
  let v11836 : BitVec 32 := Scalar.addi c0_i32_7285 v11835
  v11836.toNat
def k0_dev121 (d0 : Dev nD) : Nat :=
  let c0_i32_7325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c10_i32_7289 : BitVec 32 := 10#32
  let v11843 : BitVec 32 := Scalar.addi v96 c10_i32_7289
  let c16_i32_7290 : BitVec 32 := 16#32
  let c0_i32_7291 : BitVec 32 := 0#32
  let v11844 : BitVec 1 := Scalar.cmpi .eq c16_i32_7290 c0_i32_7291
  let c1_i32_7292 : BitVec 32 := 1#32
  let v11845 : BitVec 32 := Scalar.select v11844 c1_i32_7292 c16_i32_7290
  let v11846 : BitVec 32 := Scalar.remsi v11843 v11845
  let c0_i32_7294 : BitVec 32 := 0#32
  let v11848 : BitVec 1 := Scalar.cmpi .slt v11846 c0_i32_7294
  let c0_i32_7295 : BitVec 32 := 0#32
  let v11849 : BitVec 1 := Scalar.cmpi .slt v11845 c0_i32_7295
  let v11850 : BitVec 1 := Scalar.xori v11848 v11849
  let c0_i32_7293 : BitVec 32 := 0#32
  let v11847 : BitVec 1 := Scalar.cmpi .ne v11846 c0_i32_7293
  let v11851 : BitVec 1 := Scalar.andi v11850 v11847
  let v11852 : BitVec 32 := Scalar.addi v11846 v11845
  let v11853 : BitVec 32 := Scalar.select v11851 v11852 v11846
  let c0_i32_7298 : BitVec 32 := 0#32
  let v11856 : BitVec 1 := Scalar.cmpi .sgt v11853 c0_i32_7298
  let v11857 : BitVec 32 := Scalar.extui v11856
  let c0_i32_7299 : BitVec 32 := 0#32
  let v11858 : BitVec 1 := Scalar.cmpi .slt v11853 c0_i32_7299
  let v11859 : BitVec 32 := Scalar.extui v11858
  let v11860 : BitVec 32 := Scalar.subi v11857 v11859
  let c4_i32_7297 : BitVec 32 := 4#32
  let c0_i32_7300 : BitVec 32 := 0#32
  let v11861 : BitVec 1 := Scalar.cmpi .sgt c4_i32_7297 c0_i32_7300
  let v11862 : BitVec 32 := Scalar.extui v11861
  let c0_i32_7301 : BitVec 32 := 0#32
  let v11863 : BitVec 1 := Scalar.cmpi .slt c4_i32_7297 c0_i32_7301
  let v11864 : BitVec 32 := Scalar.extui v11863
  let v11865 : BitVec 32 := Scalar.subi v11862 v11864
  let v11866 : BitVec 1 := Scalar.cmpi .ne v11860 v11865
  let v11867 : BitVec 32 := Scalar.remsi v11853 c4_i32_7297
  let c0_i32_7302 : BitVec 32 := 0#32
  let v11868 : BitVec 1 := Scalar.cmpi .ne v11867 c0_i32_7302
  let v11869 : BitVec 1 := Scalar.andi v11866 v11868
  let v11855 : BitVec 32 := Scalar.divsi v11853 c4_i32_7297
  let c1_i32_7303 : BitVec 32 := 1#32
  let v11870 : BitVec 32 := Scalar.subi v11855 c1_i32_7303
  let v11871 : BitVec 32 := Scalar.select v11869 v11870 v11855
  let c8_i32_7319 : BitVec 32 := 8#32
  let v11898 : BitVec 32 := Scalar.muli v11871 c8_i32_7319
  let c2_i32_7316 : BitVec 32 := 2#32
  let c4_i32_7304 : BitVec 32 := 4#32
  let c0_i32_7305 : BitVec 32 := 0#32
  let v11872 : BitVec 1 := Scalar.cmpi .eq c4_i32_7304 c0_i32_7305
  let c1_i32_7306 : BitVec 32 := 1#32
  let v11873 : BitVec 32 := Scalar.select v11872 c1_i32_7306 c4_i32_7304
  let v11874 : BitVec 32 := Scalar.remsi v11853 v11873
  let c0_i32_7308 : BitVec 32 := 0#32
  let v11876 : BitVec 1 := Scalar.cmpi .slt v11874 c0_i32_7308
  let c0_i32_7309 : BitVec 32 := 0#32
  let v11877 : BitVec 1 := Scalar.cmpi .slt v11873 c0_i32_7309
  let v11878 : BitVec 1 := Scalar.xori v11876 v11877
  let c0_i32_7307 : BitVec 32 := 0#32
  let v11875 : BitVec 1 := Scalar.cmpi .ne v11874 c0_i32_7307
  let v11879 : BitVec 1 := Scalar.andi v11878 v11875
  let v11880 : BitVec 32 := Scalar.addi v11874 v11873
  let v11881 : BitVec 32 := Scalar.select v11879 v11880 v11874
  let v11892 : BitVec 32 := Scalar.muli c2_i32_7316 v11881
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v11893 : BitVec 32 := Scalar.addi v11892 v94
  let c2_i32_7310 : BitVec 32 := 2#32
  let c0_i32_7311 : BitVec 32 := 0#32
  let v11882 : BitVec 1 := Scalar.cmpi .eq c2_i32_7310 c0_i32_7311
  let c1_i32_7312 : BitVec 32 := 1#32
  let v11883 : BitVec 32 := Scalar.select v11882 c1_i32_7312 c2_i32_7310
  let v11884 : BitVec 32 := Scalar.remsi v11881 v11883
  let c0_i32_7314 : BitVec 32 := 0#32
  let v11886 : BitVec 1 := Scalar.cmpi .slt v11884 c0_i32_7314
  let c0_i32_7315 : BitVec 32 := 0#32
  let v11887 : BitVec 1 := Scalar.cmpi .slt v11883 c0_i32_7315
  let v11888 : BitVec 1 := Scalar.xori v11886 v11887
  let c0_i32_7313 : BitVec 32 := 0#32
  let v11885 : BitVec 1 := Scalar.cmpi .ne v11884 c0_i32_7313
  let v11889 : BitVec 1 := Scalar.andi v11888 v11885
  let v11890 : BitVec 32 := Scalar.addi v11884 v11883
  let v11891 : BitVec 32 := Scalar.select v11889 v11890 v11884
  let c1_i32_7318 : BitVec 32 := 1#32
  let c2_i32_7317 : BitVec 32 := 2#32
  let v11894 : BitVec 32 := Scalar.muli c2_i32_7317 v94
  let v11895 : BitVec 32 := Scalar.subi c1_i32_7318 v11894
  let v11896 : BitVec 32 := Scalar.muli v11891 v11895
  let v11897 : BitVec 32 := Scalar.addi v11893 v11896
  let v11899 : BitVec 32 := Scalar.addi v11898 v11897
  let c1_i32_7324 : BitVec 32 := 1#32
  let v11900 : BitVec 32 := Scalar.muli v11899 c1_i32_7324
  let v11901 : BitVec 32 := Scalar.addi c0_i32_7325 v11900
  v11901.toNat
def k0_dev122 (d0 : Dev nD) : Nat :=
  let c0_i32_7365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c11_i32_7329 : BitVec 32 := 11#32
  let v11908 : BitVec 32 := Scalar.addi v96 c11_i32_7329
  let c16_i32_7330 : BitVec 32 := 16#32
  let c0_i32_7331 : BitVec 32 := 0#32
  let v11909 : BitVec 1 := Scalar.cmpi .eq c16_i32_7330 c0_i32_7331
  let c1_i32_7332 : BitVec 32 := 1#32
  let v11910 : BitVec 32 := Scalar.select v11909 c1_i32_7332 c16_i32_7330
  let v11911 : BitVec 32 := Scalar.remsi v11908 v11910
  let c0_i32_7334 : BitVec 32 := 0#32
  let v11913 : BitVec 1 := Scalar.cmpi .slt v11911 c0_i32_7334
  let c0_i32_7335 : BitVec 32 := 0#32
  let v11914 : BitVec 1 := Scalar.cmpi .slt v11910 c0_i32_7335
  let v11915 : BitVec 1 := Scalar.xori v11913 v11914
  let c0_i32_7333 : BitVec 32 := 0#32
  let v11912 : BitVec 1 := Scalar.cmpi .ne v11911 c0_i32_7333
  let v11916 : BitVec 1 := Scalar.andi v11915 v11912
  let v11917 : BitVec 32 := Scalar.addi v11911 v11910
  let v11918 : BitVec 32 := Scalar.select v11916 v11917 v11911
  let c0_i32_7338 : BitVec 32 := 0#32
  let v11921 : BitVec 1 := Scalar.cmpi .sgt v11918 c0_i32_7338
  let v11922 : BitVec 32 := Scalar.extui v11921
  let c0_i32_7339 : BitVec 32 := 0#32
  let v11923 : BitVec 1 := Scalar.cmpi .slt v11918 c0_i32_7339
  let v11924 : BitVec 32 := Scalar.extui v11923
  let v11925 : BitVec 32 := Scalar.subi v11922 v11924
  let c4_i32_7337 : BitVec 32 := 4#32
  let c0_i32_7340 : BitVec 32 := 0#32
  let v11926 : BitVec 1 := Scalar.cmpi .sgt c4_i32_7337 c0_i32_7340
  let v11927 : BitVec 32 := Scalar.extui v11926
  let c0_i32_7341 : BitVec 32 := 0#32
  let v11928 : BitVec 1 := Scalar.cmpi .slt c4_i32_7337 c0_i32_7341
  let v11929 : BitVec 32 := Scalar.extui v11928
  let v11930 : BitVec 32 := Scalar.subi v11927 v11929
  let v11931 : BitVec 1 := Scalar.cmpi .ne v11925 v11930
  let v11932 : BitVec 32 := Scalar.remsi v11918 c4_i32_7337
  let c0_i32_7342 : BitVec 32 := 0#32
  let v11933 : BitVec 1 := Scalar.cmpi .ne v11932 c0_i32_7342
  let v11934 : BitVec 1 := Scalar.andi v11931 v11933
  let v11920 : BitVec 32 := Scalar.divsi v11918 c4_i32_7337
  let c1_i32_7343 : BitVec 32 := 1#32
  let v11935 : BitVec 32 := Scalar.subi v11920 c1_i32_7343
  let v11936 : BitVec 32 := Scalar.select v11934 v11935 v11920
  let c8_i32_7359 : BitVec 32 := 8#32
  let v11963 : BitVec 32 := Scalar.muli v11936 c8_i32_7359
  let c2_i32_7356 : BitVec 32 := 2#32
  let c4_i32_7344 : BitVec 32 := 4#32
  let c0_i32_7345 : BitVec 32 := 0#32
  let v11937 : BitVec 1 := Scalar.cmpi .eq c4_i32_7344 c0_i32_7345
  let c1_i32_7346 : BitVec 32 := 1#32
  let v11938 : BitVec 32 := Scalar.select v11937 c1_i32_7346 c4_i32_7344
  let v11939 : BitVec 32 := Scalar.remsi v11918 v11938
  let c0_i32_7348 : BitVec 32 := 0#32
  let v11941 : BitVec 1 := Scalar.cmpi .slt v11939 c0_i32_7348
  let c0_i32_7349 : BitVec 32 := 0#32
  let v11942 : BitVec 1 := Scalar.cmpi .slt v11938 c0_i32_7349
  let v11943 : BitVec 1 := Scalar.xori v11941 v11942
  let c0_i32_7347 : BitVec 32 := 0#32
  let v11940 : BitVec 1 := Scalar.cmpi .ne v11939 c0_i32_7347
  let v11944 : BitVec 1 := Scalar.andi v11943 v11940
  let v11945 : BitVec 32 := Scalar.addi v11939 v11938
  let v11946 : BitVec 32 := Scalar.select v11944 v11945 v11939
  let v11957 : BitVec 32 := Scalar.muli c2_i32_7356 v11946
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v11958 : BitVec 32 := Scalar.addi v11957 v94
  let c2_i32_7350 : BitVec 32 := 2#32
  let c0_i32_7351 : BitVec 32 := 0#32
  let v11947 : BitVec 1 := Scalar.cmpi .eq c2_i32_7350 c0_i32_7351
  let c1_i32_7352 : BitVec 32 := 1#32
  let v11948 : BitVec 32 := Scalar.select v11947 c1_i32_7352 c2_i32_7350
  let v11949 : BitVec 32 := Scalar.remsi v11946 v11948
  let c0_i32_7354 : BitVec 32 := 0#32
  let v11951 : BitVec 1 := Scalar.cmpi .slt v11949 c0_i32_7354
  let c0_i32_7355 : BitVec 32 := 0#32
  let v11952 : BitVec 1 := Scalar.cmpi .slt v11948 c0_i32_7355
  let v11953 : BitVec 1 := Scalar.xori v11951 v11952
  let c0_i32_7353 : BitVec 32 := 0#32
  let v11950 : BitVec 1 := Scalar.cmpi .ne v11949 c0_i32_7353
  let v11954 : BitVec 1 := Scalar.andi v11953 v11950
  let v11955 : BitVec 32 := Scalar.addi v11949 v11948
  let v11956 : BitVec 32 := Scalar.select v11954 v11955 v11949
  let c1_i32_7358 : BitVec 32 := 1#32
  let c2_i32_7357 : BitVec 32 := 2#32
  let v11959 : BitVec 32 := Scalar.muli c2_i32_7357 v94
  let v11960 : BitVec 32 := Scalar.subi c1_i32_7358 v11959
  let v11961 : BitVec 32 := Scalar.muli v11956 v11960
  let v11962 : BitVec 32 := Scalar.addi v11958 v11961
  let v11964 : BitVec 32 := Scalar.addi v11963 v11962
  let c1_i32_7364 : BitVec 32 := 1#32
  let v11965 : BitVec 32 := Scalar.muli v11964 c1_i32_7364
  let v11966 : BitVec 32 := Scalar.addi c0_i32_7365 v11965
  v11966.toNat
def k0_dev123 (d0 : Dev nD) : Nat :=
  let c0_i32_7405 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c12_i32_7369 : BitVec 32 := 12#32
  let v11973 : BitVec 32 := Scalar.addi v96 c12_i32_7369
  let c16_i32_7370 : BitVec 32 := 16#32
  let c0_i32_7371 : BitVec 32 := 0#32
  let v11974 : BitVec 1 := Scalar.cmpi .eq c16_i32_7370 c0_i32_7371
  let c1_i32_7372 : BitVec 32 := 1#32
  let v11975 : BitVec 32 := Scalar.select v11974 c1_i32_7372 c16_i32_7370
  let v11976 : BitVec 32 := Scalar.remsi v11973 v11975
  let c0_i32_7374 : BitVec 32 := 0#32
  let v11978 : BitVec 1 := Scalar.cmpi .slt v11976 c0_i32_7374
  let c0_i32_7375 : BitVec 32 := 0#32
  let v11979 : BitVec 1 := Scalar.cmpi .slt v11975 c0_i32_7375
  let v11980 : BitVec 1 := Scalar.xori v11978 v11979
  let c0_i32_7373 : BitVec 32 := 0#32
  let v11977 : BitVec 1 := Scalar.cmpi .ne v11976 c0_i32_7373
  let v11981 : BitVec 1 := Scalar.andi v11980 v11977
  let v11982 : BitVec 32 := Scalar.addi v11976 v11975
  let v11983 : BitVec 32 := Scalar.select v11981 v11982 v11976
  let c0_i32_7378 : BitVec 32 := 0#32
  let v11986 : BitVec 1 := Scalar.cmpi .sgt v11983 c0_i32_7378
  let v11987 : BitVec 32 := Scalar.extui v11986
  let c0_i32_7379 : BitVec 32 := 0#32
  let v11988 : BitVec 1 := Scalar.cmpi .slt v11983 c0_i32_7379
  let v11989 : BitVec 32 := Scalar.extui v11988
  let v11990 : BitVec 32 := Scalar.subi v11987 v11989
  let c4_i32_7377 : BitVec 32 := 4#32
  let c0_i32_7380 : BitVec 32 := 0#32
  let v11991 : BitVec 1 := Scalar.cmpi .sgt c4_i32_7377 c0_i32_7380
  let v11992 : BitVec 32 := Scalar.extui v11991
  let c0_i32_7381 : BitVec 32 := 0#32
  let v11993 : BitVec 1 := Scalar.cmpi .slt c4_i32_7377 c0_i32_7381
  let v11994 : BitVec 32 := Scalar.extui v11993
  let v11995 : BitVec 32 := Scalar.subi v11992 v11994
  let v11996 : BitVec 1 := Scalar.cmpi .ne v11990 v11995
  let v11997 : BitVec 32 := Scalar.remsi v11983 c4_i32_7377
  let c0_i32_7382 : BitVec 32 := 0#32
  let v11998 : BitVec 1 := Scalar.cmpi .ne v11997 c0_i32_7382
  let v11999 : BitVec 1 := Scalar.andi v11996 v11998
  let v11985 : BitVec 32 := Scalar.divsi v11983 c4_i32_7377
  let c1_i32_7383 : BitVec 32 := 1#32
  let v12000 : BitVec 32 := Scalar.subi v11985 c1_i32_7383
  let v12001 : BitVec 32 := Scalar.select v11999 v12000 v11985
  let c8_i32_7399 : BitVec 32 := 8#32
  let v12028 : BitVec 32 := Scalar.muli v12001 c8_i32_7399
  let c2_i32_7396 : BitVec 32 := 2#32
  let c4_i32_7384 : BitVec 32 := 4#32
  let c0_i32_7385 : BitVec 32 := 0#32
  let v12002 : BitVec 1 := Scalar.cmpi .eq c4_i32_7384 c0_i32_7385
  let c1_i32_7386 : BitVec 32 := 1#32
  let v12003 : BitVec 32 := Scalar.select v12002 c1_i32_7386 c4_i32_7384
  let v12004 : BitVec 32 := Scalar.remsi v11983 v12003
  let c0_i32_7388 : BitVec 32 := 0#32
  let v12006 : BitVec 1 := Scalar.cmpi .slt v12004 c0_i32_7388
  let c0_i32_7389 : BitVec 32 := 0#32
  let v12007 : BitVec 1 := Scalar.cmpi .slt v12003 c0_i32_7389
  let v12008 : BitVec 1 := Scalar.xori v12006 v12007
  let c0_i32_7387 : BitVec 32 := 0#32
  let v12005 : BitVec 1 := Scalar.cmpi .ne v12004 c0_i32_7387
  let v12009 : BitVec 1 := Scalar.andi v12008 v12005
  let v12010 : BitVec 32 := Scalar.addi v12004 v12003
  let v12011 : BitVec 32 := Scalar.select v12009 v12010 v12004
  let v12022 : BitVec 32 := Scalar.muli c2_i32_7396 v12011
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v12023 : BitVec 32 := Scalar.addi v12022 v94
  let c2_i32_7390 : BitVec 32 := 2#32
  let c0_i32_7391 : BitVec 32 := 0#32
  let v12012 : BitVec 1 := Scalar.cmpi .eq c2_i32_7390 c0_i32_7391
  let c1_i32_7392 : BitVec 32 := 1#32
  let v12013 : BitVec 32 := Scalar.select v12012 c1_i32_7392 c2_i32_7390
  let v12014 : BitVec 32 := Scalar.remsi v12011 v12013
  let c0_i32_7394 : BitVec 32 := 0#32
  let v12016 : BitVec 1 := Scalar.cmpi .slt v12014 c0_i32_7394
  let c0_i32_7395 : BitVec 32 := 0#32
  let v12017 : BitVec 1 := Scalar.cmpi .slt v12013 c0_i32_7395
  let v12018 : BitVec 1 := Scalar.xori v12016 v12017
  let c0_i32_7393 : BitVec 32 := 0#32
  let v12015 : BitVec 1 := Scalar.cmpi .ne v12014 c0_i32_7393
  let v12019 : BitVec 1 := Scalar.andi v12018 v12015
  let v12020 : BitVec 32 := Scalar.addi v12014 v12013
  let v12021 : BitVec 32 := Scalar.select v12019 v12020 v12014
  let c1_i32_7398 : BitVec 32 := 1#32
  let c2_i32_7397 : BitVec 32 := 2#32
  let v12024 : BitVec 32 := Scalar.muli c2_i32_7397 v94
  let v12025 : BitVec 32 := Scalar.subi c1_i32_7398 v12024
  let v12026 : BitVec 32 := Scalar.muli v12021 v12025
  let v12027 : BitVec 32 := Scalar.addi v12023 v12026
  let v12029 : BitVec 32 := Scalar.addi v12028 v12027
  let c1_i32_7404 : BitVec 32 := 1#32
  let v12030 : BitVec 32 := Scalar.muli v12029 c1_i32_7404
  let v12031 : BitVec 32 := Scalar.addi c0_i32_7405 v12030
  v12031.toNat
def k0_dev124 (d0 : Dev nD) : Nat :=
  let c0_i32_7445 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c13_i32_7409 : BitVec 32 := 13#32
  let v12038 : BitVec 32 := Scalar.addi v96 c13_i32_7409
  let c16_i32_7410 : BitVec 32 := 16#32
  let c0_i32_7411 : BitVec 32 := 0#32
  let v12039 : BitVec 1 := Scalar.cmpi .eq c16_i32_7410 c0_i32_7411
  let c1_i32_7412 : BitVec 32 := 1#32
  let v12040 : BitVec 32 := Scalar.select v12039 c1_i32_7412 c16_i32_7410
  let v12041 : BitVec 32 := Scalar.remsi v12038 v12040
  let c0_i32_7414 : BitVec 32 := 0#32
  let v12043 : BitVec 1 := Scalar.cmpi .slt v12041 c0_i32_7414
  let c0_i32_7415 : BitVec 32 := 0#32
  let v12044 : BitVec 1 := Scalar.cmpi .slt v12040 c0_i32_7415
  let v12045 : BitVec 1 := Scalar.xori v12043 v12044
  let c0_i32_7413 : BitVec 32 := 0#32
  let v12042 : BitVec 1 := Scalar.cmpi .ne v12041 c0_i32_7413
  let v12046 : BitVec 1 := Scalar.andi v12045 v12042
  let v12047 : BitVec 32 := Scalar.addi v12041 v12040
  let v12048 : BitVec 32 := Scalar.select v12046 v12047 v12041
  let c0_i32_7418 : BitVec 32 := 0#32
  let v12051 : BitVec 1 := Scalar.cmpi .sgt v12048 c0_i32_7418
  let v12052 : BitVec 32 := Scalar.extui v12051
  let c0_i32_7419 : BitVec 32 := 0#32
  let v12053 : BitVec 1 := Scalar.cmpi .slt v12048 c0_i32_7419
  let v12054 : BitVec 32 := Scalar.extui v12053
  let v12055 : BitVec 32 := Scalar.subi v12052 v12054
  let c4_i32_7417 : BitVec 32 := 4#32
  let c0_i32_7420 : BitVec 32 := 0#32
  let v12056 : BitVec 1 := Scalar.cmpi .sgt c4_i32_7417 c0_i32_7420
  let v12057 : BitVec 32 := Scalar.extui v12056
  let c0_i32_7421 : BitVec 32 := 0#32
  let v12058 : BitVec 1 := Scalar.cmpi .slt c4_i32_7417 c0_i32_7421
  let v12059 : BitVec 32 := Scalar.extui v12058
  let v12060 : BitVec 32 := Scalar.subi v12057 v12059
  let v12061 : BitVec 1 := Scalar.cmpi .ne v12055 v12060
  let v12062 : BitVec 32 := Scalar.remsi v12048 c4_i32_7417
  let c0_i32_7422 : BitVec 32 := 0#32
  let v12063 : BitVec 1 := Scalar.cmpi .ne v12062 c0_i32_7422
  let v12064 : BitVec 1 := Scalar.andi v12061 v12063
  let v12050 : BitVec 32 := Scalar.divsi v12048 c4_i32_7417
  let c1_i32_7423 : BitVec 32 := 1#32
  let v12065 : BitVec 32 := Scalar.subi v12050 c1_i32_7423
  let v12066 : BitVec 32 := Scalar.select v12064 v12065 v12050
  let c8_i32_7439 : BitVec 32 := 8#32
  let v12093 : BitVec 32 := Scalar.muli v12066 c8_i32_7439
  let c2_i32_7436 : BitVec 32 := 2#32
  let c4_i32_7424 : BitVec 32 := 4#32
  let c0_i32_7425 : BitVec 32 := 0#32
  let v12067 : BitVec 1 := Scalar.cmpi .eq c4_i32_7424 c0_i32_7425
  let c1_i32_7426 : BitVec 32 := 1#32
  let v12068 : BitVec 32 := Scalar.select v12067 c1_i32_7426 c4_i32_7424
  let v12069 : BitVec 32 := Scalar.remsi v12048 v12068
  let c0_i32_7428 : BitVec 32 := 0#32
  let v12071 : BitVec 1 := Scalar.cmpi .slt v12069 c0_i32_7428
  let c0_i32_7429 : BitVec 32 := 0#32
  let v12072 : BitVec 1 := Scalar.cmpi .slt v12068 c0_i32_7429
  let v12073 : BitVec 1 := Scalar.xori v12071 v12072
  let c0_i32_7427 : BitVec 32 := 0#32
  let v12070 : BitVec 1 := Scalar.cmpi .ne v12069 c0_i32_7427
  let v12074 : BitVec 1 := Scalar.andi v12073 v12070
  let v12075 : BitVec 32 := Scalar.addi v12069 v12068
  let v12076 : BitVec 32 := Scalar.select v12074 v12075 v12069
  let v12087 : BitVec 32 := Scalar.muli c2_i32_7436 v12076
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v12088 : BitVec 32 := Scalar.addi v12087 v94
  let c2_i32_7430 : BitVec 32 := 2#32
  let c0_i32_7431 : BitVec 32 := 0#32
  let v12077 : BitVec 1 := Scalar.cmpi .eq c2_i32_7430 c0_i32_7431
  let c1_i32_7432 : BitVec 32 := 1#32
  let v12078 : BitVec 32 := Scalar.select v12077 c1_i32_7432 c2_i32_7430
  let v12079 : BitVec 32 := Scalar.remsi v12076 v12078
  let c0_i32_7434 : BitVec 32 := 0#32
  let v12081 : BitVec 1 := Scalar.cmpi .slt v12079 c0_i32_7434
  let c0_i32_7435 : BitVec 32 := 0#32
  let v12082 : BitVec 1 := Scalar.cmpi .slt v12078 c0_i32_7435
  let v12083 : BitVec 1 := Scalar.xori v12081 v12082
  let c0_i32_7433 : BitVec 32 := 0#32
  let v12080 : BitVec 1 := Scalar.cmpi .ne v12079 c0_i32_7433
  let v12084 : BitVec 1 := Scalar.andi v12083 v12080
  let v12085 : BitVec 32 := Scalar.addi v12079 v12078
  let v12086 : BitVec 32 := Scalar.select v12084 v12085 v12079
  let c1_i32_7438 : BitVec 32 := 1#32
  let c2_i32_7437 : BitVec 32 := 2#32
  let v12089 : BitVec 32 := Scalar.muli c2_i32_7437 v94
  let v12090 : BitVec 32 := Scalar.subi c1_i32_7438 v12089
  let v12091 : BitVec 32 := Scalar.muli v12086 v12090
  let v12092 : BitVec 32 := Scalar.addi v12088 v12091
  let v12094 : BitVec 32 := Scalar.addi v12093 v12092
  let c1_i32_7444 : BitVec 32 := 1#32
  let v12095 : BitVec 32 := Scalar.muli v12094 c1_i32_7444
  let v12096 : BitVec 32 := Scalar.addi c0_i32_7445 v12095
  v12096.toNat
def k0_dev125 (d0 : Dev nD) : Nat :=
  let c0_i32_7485 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c14_i32_7449 : BitVec 32 := 14#32
  let v12103 : BitVec 32 := Scalar.addi v96 c14_i32_7449
  let c16_i32_7450 : BitVec 32 := 16#32
  let c0_i32_7451 : BitVec 32 := 0#32
  let v12104 : BitVec 1 := Scalar.cmpi .eq c16_i32_7450 c0_i32_7451
  let c1_i32_7452 : BitVec 32 := 1#32
  let v12105 : BitVec 32 := Scalar.select v12104 c1_i32_7452 c16_i32_7450
  let v12106 : BitVec 32 := Scalar.remsi v12103 v12105
  let c0_i32_7454 : BitVec 32 := 0#32
  let v12108 : BitVec 1 := Scalar.cmpi .slt v12106 c0_i32_7454
  let c0_i32_7455 : BitVec 32 := 0#32
  let v12109 : BitVec 1 := Scalar.cmpi .slt v12105 c0_i32_7455
  let v12110 : BitVec 1 := Scalar.xori v12108 v12109
  let c0_i32_7453 : BitVec 32 := 0#32
  let v12107 : BitVec 1 := Scalar.cmpi .ne v12106 c0_i32_7453
  let v12111 : BitVec 1 := Scalar.andi v12110 v12107
  let v12112 : BitVec 32 := Scalar.addi v12106 v12105
  let v12113 : BitVec 32 := Scalar.select v12111 v12112 v12106
  let c0_i32_7458 : BitVec 32 := 0#32
  let v12116 : BitVec 1 := Scalar.cmpi .sgt v12113 c0_i32_7458
  let v12117 : BitVec 32 := Scalar.extui v12116
  let c0_i32_7459 : BitVec 32 := 0#32
  let v12118 : BitVec 1 := Scalar.cmpi .slt v12113 c0_i32_7459
  let v12119 : BitVec 32 := Scalar.extui v12118
  let v12120 : BitVec 32 := Scalar.subi v12117 v12119
  let c4_i32_7457 : BitVec 32 := 4#32
  let c0_i32_7460 : BitVec 32 := 0#32
  let v12121 : BitVec 1 := Scalar.cmpi .sgt c4_i32_7457 c0_i32_7460
  let v12122 : BitVec 32 := Scalar.extui v12121
  let c0_i32_7461 : BitVec 32 := 0#32
  let v12123 : BitVec 1 := Scalar.cmpi .slt c4_i32_7457 c0_i32_7461
  let v12124 : BitVec 32 := Scalar.extui v12123
  let v12125 : BitVec 32 := Scalar.subi v12122 v12124
  let v12126 : BitVec 1 := Scalar.cmpi .ne v12120 v12125
  let v12127 : BitVec 32 := Scalar.remsi v12113 c4_i32_7457
  let c0_i32_7462 : BitVec 32 := 0#32
  let v12128 : BitVec 1 := Scalar.cmpi .ne v12127 c0_i32_7462
  let v12129 : BitVec 1 := Scalar.andi v12126 v12128
  let v12115 : BitVec 32 := Scalar.divsi v12113 c4_i32_7457
  let c1_i32_7463 : BitVec 32 := 1#32
  let v12130 : BitVec 32 := Scalar.subi v12115 c1_i32_7463
  let v12131 : BitVec 32 := Scalar.select v12129 v12130 v12115
  let c8_i32_7479 : BitVec 32 := 8#32
  let v12158 : BitVec 32 := Scalar.muli v12131 c8_i32_7479
  let c2_i32_7476 : BitVec 32 := 2#32
  let c4_i32_7464 : BitVec 32 := 4#32
  let c0_i32_7465 : BitVec 32 := 0#32
  let v12132 : BitVec 1 := Scalar.cmpi .eq c4_i32_7464 c0_i32_7465
  let c1_i32_7466 : BitVec 32 := 1#32
  let v12133 : BitVec 32 := Scalar.select v12132 c1_i32_7466 c4_i32_7464
  let v12134 : BitVec 32 := Scalar.remsi v12113 v12133
  let c0_i32_7468 : BitVec 32 := 0#32
  let v12136 : BitVec 1 := Scalar.cmpi .slt v12134 c0_i32_7468
  let c0_i32_7469 : BitVec 32 := 0#32
  let v12137 : BitVec 1 := Scalar.cmpi .slt v12133 c0_i32_7469
  let v12138 : BitVec 1 := Scalar.xori v12136 v12137
  let c0_i32_7467 : BitVec 32 := 0#32
  let v12135 : BitVec 1 := Scalar.cmpi .ne v12134 c0_i32_7467
  let v12139 : BitVec 1 := Scalar.andi v12138 v12135
  let v12140 : BitVec 32 := Scalar.addi v12134 v12133
  let v12141 : BitVec 32 := Scalar.select v12139 v12140 v12134
  let v12152 : BitVec 32 := Scalar.muli c2_i32_7476 v12141
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v12153 : BitVec 32 := Scalar.addi v12152 v94
  let c2_i32_7470 : BitVec 32 := 2#32
  let c0_i32_7471 : BitVec 32 := 0#32
  let v12142 : BitVec 1 := Scalar.cmpi .eq c2_i32_7470 c0_i32_7471
  let c1_i32_7472 : BitVec 32 := 1#32
  let v12143 : BitVec 32 := Scalar.select v12142 c1_i32_7472 c2_i32_7470
  let v12144 : BitVec 32 := Scalar.remsi v12141 v12143
  let c0_i32_7474 : BitVec 32 := 0#32
  let v12146 : BitVec 1 := Scalar.cmpi .slt v12144 c0_i32_7474
  let c0_i32_7475 : BitVec 32 := 0#32
  let v12147 : BitVec 1 := Scalar.cmpi .slt v12143 c0_i32_7475
  let v12148 : BitVec 1 := Scalar.xori v12146 v12147
  let c0_i32_7473 : BitVec 32 := 0#32
  let v12145 : BitVec 1 := Scalar.cmpi .ne v12144 c0_i32_7473
  let v12149 : BitVec 1 := Scalar.andi v12148 v12145
  let v12150 : BitVec 32 := Scalar.addi v12144 v12143
  let v12151 : BitVec 32 := Scalar.select v12149 v12150 v12144
  let c1_i32_7478 : BitVec 32 := 1#32
  let c2_i32_7477 : BitVec 32 := 2#32
  let v12154 : BitVec 32 := Scalar.muli c2_i32_7477 v94
  let v12155 : BitVec 32 := Scalar.subi c1_i32_7478 v12154
  let v12156 : BitVec 32 := Scalar.muli v12151 v12155
  let v12157 : BitVec 32 := Scalar.addi v12153 v12156
  let v12159 : BitVec 32 := Scalar.addi v12158 v12157
  let c1_i32_7484 : BitVec 32 := 1#32
  let v12160 : BitVec 32 := Scalar.muli v12159 c1_i32_7484
  let v12161 : BitVec 32 := Scalar.addi c0_i32_7485 v12160
  v12161.toNat
def k0_dev126 (d0 : Dev nD) : Nat :=
  let c0_i32_7525 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c15_i32_7489 : BitVec 32 := 15#32
  let v12168 : BitVec 32 := Scalar.addi v96 c15_i32_7489
  let c16_i32_7490 : BitVec 32 := 16#32
  let c0_i32_7491 : BitVec 32 := 0#32
  let v12169 : BitVec 1 := Scalar.cmpi .eq c16_i32_7490 c0_i32_7491
  let c1_i32_7492 : BitVec 32 := 1#32
  let v12170 : BitVec 32 := Scalar.select v12169 c1_i32_7492 c16_i32_7490
  let v12171 : BitVec 32 := Scalar.remsi v12168 v12170
  let c0_i32_7494 : BitVec 32 := 0#32
  let v12173 : BitVec 1 := Scalar.cmpi .slt v12171 c0_i32_7494
  let c0_i32_7495 : BitVec 32 := 0#32
  let v12174 : BitVec 1 := Scalar.cmpi .slt v12170 c0_i32_7495
  let v12175 : BitVec 1 := Scalar.xori v12173 v12174
  let c0_i32_7493 : BitVec 32 := 0#32
  let v12172 : BitVec 1 := Scalar.cmpi .ne v12171 c0_i32_7493
  let v12176 : BitVec 1 := Scalar.andi v12175 v12172
  let v12177 : BitVec 32 := Scalar.addi v12171 v12170
  let v12178 : BitVec 32 := Scalar.select v12176 v12177 v12171
  let c0_i32_7498 : BitVec 32 := 0#32
  let v12181 : BitVec 1 := Scalar.cmpi .sgt v12178 c0_i32_7498
  let v12182 : BitVec 32 := Scalar.extui v12181
  let c0_i32_7499 : BitVec 32 := 0#32
  let v12183 : BitVec 1 := Scalar.cmpi .slt v12178 c0_i32_7499
  let v12184 : BitVec 32 := Scalar.extui v12183
  let v12185 : BitVec 32 := Scalar.subi v12182 v12184
  let c4_i32_7497 : BitVec 32 := 4#32
  let c0_i32_7500 : BitVec 32 := 0#32
  let v12186 : BitVec 1 := Scalar.cmpi .sgt c4_i32_7497 c0_i32_7500
  let v12187 : BitVec 32 := Scalar.extui v12186
  let c0_i32_7501 : BitVec 32 := 0#32
  let v12188 : BitVec 1 := Scalar.cmpi .slt c4_i32_7497 c0_i32_7501
  let v12189 : BitVec 32 := Scalar.extui v12188
  let v12190 : BitVec 32 := Scalar.subi v12187 v12189
  let v12191 : BitVec 1 := Scalar.cmpi .ne v12185 v12190
  let v12192 : BitVec 32 := Scalar.remsi v12178 c4_i32_7497
  let c0_i32_7502 : BitVec 32 := 0#32
  let v12193 : BitVec 1 := Scalar.cmpi .ne v12192 c0_i32_7502
  let v12194 : BitVec 1 := Scalar.andi v12191 v12193
  let v12180 : BitVec 32 := Scalar.divsi v12178 c4_i32_7497
  let c1_i32_7503 : BitVec 32 := 1#32
  let v12195 : BitVec 32 := Scalar.subi v12180 c1_i32_7503
  let v12196 : BitVec 32 := Scalar.select v12194 v12195 v12180
  let c8_i32_7519 : BitVec 32 := 8#32
  let v12223 : BitVec 32 := Scalar.muli v12196 c8_i32_7519
  let c2_i32_7516 : BitVec 32 := 2#32
  let c4_i32_7504 : BitVec 32 := 4#32
  let c0_i32_7505 : BitVec 32 := 0#32
  let v12197 : BitVec 1 := Scalar.cmpi .eq c4_i32_7504 c0_i32_7505
  let c1_i32_7506 : BitVec 32 := 1#32
  let v12198 : BitVec 32 := Scalar.select v12197 c1_i32_7506 c4_i32_7504
  let v12199 : BitVec 32 := Scalar.remsi v12178 v12198
  let c0_i32_7508 : BitVec 32 := 0#32
  let v12201 : BitVec 1 := Scalar.cmpi .slt v12199 c0_i32_7508
  let c0_i32_7509 : BitVec 32 := 0#32
  let v12202 : BitVec 1 := Scalar.cmpi .slt v12198 c0_i32_7509
  let v12203 : BitVec 1 := Scalar.xori v12201 v12202
  let c0_i32_7507 : BitVec 32 := 0#32
  let v12200 : BitVec 1 := Scalar.cmpi .ne v12199 c0_i32_7507
  let v12204 : BitVec 1 := Scalar.andi v12203 v12200
  let v12205 : BitVec 32 := Scalar.addi v12199 v12198
  let v12206 : BitVec 32 := Scalar.select v12204 v12205 v12199
  let v12217 : BitVec 32 := Scalar.muli c2_i32_7516 v12206
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v12218 : BitVec 32 := Scalar.addi v12217 v94
  let c2_i32_7510 : BitVec 32 := 2#32
  let c0_i32_7511 : BitVec 32 := 0#32
  let v12207 : BitVec 1 := Scalar.cmpi .eq c2_i32_7510 c0_i32_7511
  let c1_i32_7512 : BitVec 32 := 1#32
  let v12208 : BitVec 32 := Scalar.select v12207 c1_i32_7512 c2_i32_7510
  let v12209 : BitVec 32 := Scalar.remsi v12206 v12208
  let c0_i32_7514 : BitVec 32 := 0#32
  let v12211 : BitVec 1 := Scalar.cmpi .slt v12209 c0_i32_7514
  let c0_i32_7515 : BitVec 32 := 0#32
  let v12212 : BitVec 1 := Scalar.cmpi .slt v12208 c0_i32_7515
  let v12213 : BitVec 1 := Scalar.xori v12211 v12212
  let c0_i32_7513 : BitVec 32 := 0#32
  let v12210 : BitVec 1 := Scalar.cmpi .ne v12209 c0_i32_7513
  let v12214 : BitVec 1 := Scalar.andi v12213 v12210
  let v12215 : BitVec 32 := Scalar.addi v12209 v12208
  let v12216 : BitVec 32 := Scalar.select v12214 v12215 v12209
  let c1_i32_7518 : BitVec 32 := 1#32
  let c2_i32_7517 : BitVec 32 := 2#32
  let v12219 : BitVec 32 := Scalar.muli c2_i32_7517 v94
  let v12220 : BitVec 32 := Scalar.subi c1_i32_7518 v12219
  let v12221 : BitVec 32 := Scalar.muli v12216 v12220
  let v12222 : BitVec 32 := Scalar.addi v12218 v12221
  let v12224 : BitVec 32 := Scalar.addi v12223 v12222
  let c1_i32_7524 : BitVec 32 := 1#32
  let v12225 : BitVec 32 := Scalar.muli v12224 c1_i32_7524
  let v12226 : BitVec 32 := Scalar.addi c0_i32_7525 v12225
  v12226.toNat
def k0_off28 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let c512_i32 : BitVec 32 := 512#32
  let v97 : BitVec 32 := Scalar.muli v94 c512_i32
  let c256_i32_8137 : BitVec 32 := 256#32
  ![v97.toNat, 256]
def k0_dev127 (d0 : Dev nD) : Nat :=
  let c0_i32_8136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_44 : BitVec 32 := 8#32
  let v100 : BitVec 32 := Scalar.muli v19 c8_i32_44
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v101 : BitVec 32 := Scalar.addi v100 v29
  let c1_i32_45 : BitVec 32 := 1#32
  let v102 : BitVec 32 := Scalar.addi v101 c1_i32_45
  let c2_i32_52 : BitVec 32 := 2#32
  let c2_i32_46 : BitVec 32 := 2#32
  let c0_i32_47 : BitVec 32 := 0#32
  let v103 : BitVec 1 := Scalar.cmpi .eq c2_i32_46 c0_i32_47
  let c1_i32_48 : BitVec 32 := 1#32
  let v104 : BitVec 32 := Scalar.select v103 c1_i32_48 c2_i32_46
  let v105 : BitVec 32 := Scalar.remsi v29 v104
  let c0_i32_50 : BitVec 32 := 0#32
  let v107 : BitVec 1 := Scalar.cmpi .slt v105 c0_i32_50
  let c0_i32_51 : BitVec 32 := 0#32
  let v108 : BitVec 1 := Scalar.cmpi .slt v104 c0_i32_51
  let v109 : BitVec 1 := Scalar.xori v107 v108
  let c0_i32_49 : BitVec 32 := 0#32
  let v106 : BitVec 1 := Scalar.cmpi .ne v105 c0_i32_49
  let v110 : BitVec 1 := Scalar.andi v109 v106
  let v111 : BitVec 32 := Scalar.addi v105 v104
  let v112 : BitVec 32 := Scalar.select v110 v111 v105
  let v113 : BitVec 32 := Scalar.muli c2_i32_52 v112
  let v114 : BitVec 32 := Scalar.subi v102 v113
  let c1_i32_8135 : BitVec 32 := 1#32
  let v13184 : BitVec 32 := Scalar.muli v114 c1_i32_8135
  let v13185 : BitVec 32 := Scalar.addi c0_i32_8136 v13184
  v13185.toNat
def k0_off29 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c32_i32_8143 : BitVec 32 := 32#32
  let v13195 : BitVec 32 := Scalar.muli v96 c32_i32_8143
  let v13196 : Index := Scalar.indexCast v13195
  let c768_8144 : Index := 768#32
  ![v13196.toNat, 768]
def k0_off30 (d0 : Dev nD) (c1_i32_8147 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let v13202 : BitVec 32 := Scalar.addi v96 c1_i32_8147
  let c16_i32_8148 : BitVec 32 := 16#32
  let c0_i32_8149 : BitVec 32 := 0#32
  let v13203 : BitVec 1 := Scalar.cmpi .eq c16_i32_8148 c0_i32_8149
  let c1_i32_8150 : BitVec 32 := 1#32
  let v13204 : BitVec 32 := Scalar.select v13203 c1_i32_8150 c16_i32_8148
  let v13205 : BitVec 32 := Scalar.remsi v13202 v13204
  let c0_i32_8152 : BitVec 32 := 0#32
  let v13207 : BitVec 1 := Scalar.cmpi .slt v13205 c0_i32_8152
  let c0_i32_8153 : BitVec 32 := 0#32
  let v13208 : BitVec 1 := Scalar.cmpi .slt v13204 c0_i32_8153
  let v13209 : BitVec 1 := Scalar.xori v13207 v13208
  let c0_i32_8151 : BitVec 32 := 0#32
  let v13206 : BitVec 1 := Scalar.cmpi .ne v13205 c0_i32_8151
  let v13210 : BitVec 1 := Scalar.andi v13209 v13206
  let v13211 : BitVec 32 := Scalar.addi v13205 v13204
  let v13212 : BitVec 32 := Scalar.select v13210 v13211 v13205
  let c32_i32_8189 : BitVec 32 := 32#32
  let v13266 : BitVec 32 := Scalar.muli v13212 c32_i32_8189
  let v13267 : Index := Scalar.indexCast v13266
  let c768_8190 : Index := 768#32
  ![v13267.toNat, 768]
def k0_dev128 (d0 : Dev nD) : Nat :=
  let c0_i32_8877 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c1_i32_8841 : BitVec 32 := 1#32
  let v14287 : BitVec 32 := Scalar.addi v96 c1_i32_8841
  let c16_i32_8842 : BitVec 32 := 16#32
  let c0_i32_8843 : BitVec 32 := 0#32
  let v14288 : BitVec 1 := Scalar.cmpi .eq c16_i32_8842 c0_i32_8843
  let c1_i32_8844 : BitVec 32 := 1#32
  let v14289 : BitVec 32 := Scalar.select v14288 c1_i32_8844 c16_i32_8842
  let v14290 : BitVec 32 := Scalar.remsi v14287 v14289
  let c0_i32_8846 : BitVec 32 := 0#32
  let v14292 : BitVec 1 := Scalar.cmpi .slt v14290 c0_i32_8846
  let c0_i32_8847 : BitVec 32 := 0#32
  let v14293 : BitVec 1 := Scalar.cmpi .slt v14289 c0_i32_8847
  let v14294 : BitVec 1 := Scalar.xori v14292 v14293
  let c0_i32_8845 : BitVec 32 := 0#32
  let v14291 : BitVec 1 := Scalar.cmpi .ne v14290 c0_i32_8845
  let v14295 : BitVec 1 := Scalar.andi v14294 v14291
  let v14296 : BitVec 32 := Scalar.addi v14290 v14289
  let v14297 : BitVec 32 := Scalar.select v14295 v14296 v14290
  let c0_i32_8850 : BitVec 32 := 0#32
  let v14300 : BitVec 1 := Scalar.cmpi .sgt v14297 c0_i32_8850
  let v14301 : BitVec 32 := Scalar.extui v14300
  let c0_i32_8851 : BitVec 32 := 0#32
  let v14302 : BitVec 1 := Scalar.cmpi .slt v14297 c0_i32_8851
  let v14303 : BitVec 32 := Scalar.extui v14302
  let v14304 : BitVec 32 := Scalar.subi v14301 v14303
  let c4_i32_8849 : BitVec 32 := 4#32
  let c0_i32_8852 : BitVec 32 := 0#32
  let v14305 : BitVec 1 := Scalar.cmpi .sgt c4_i32_8849 c0_i32_8852
  let v14306 : BitVec 32 := Scalar.extui v14305
  let c0_i32_8853 : BitVec 32 := 0#32
  let v14307 : BitVec 1 := Scalar.cmpi .slt c4_i32_8849 c0_i32_8853
  let v14308 : BitVec 32 := Scalar.extui v14307
  let v14309 : BitVec 32 := Scalar.subi v14306 v14308
  let v14310 : BitVec 1 := Scalar.cmpi .ne v14304 v14309
  let v14311 : BitVec 32 := Scalar.remsi v14297 c4_i32_8849
  let c0_i32_8854 : BitVec 32 := 0#32
  let v14312 : BitVec 1 := Scalar.cmpi .ne v14311 c0_i32_8854
  let v14313 : BitVec 1 := Scalar.andi v14310 v14312
  let v14299 : BitVec 32 := Scalar.divsi v14297 c4_i32_8849
  let c1_i32_8855 : BitVec 32 := 1#32
  let v14314 : BitVec 32 := Scalar.subi v14299 c1_i32_8855
  let v14315 : BitVec 32 := Scalar.select v14313 v14314 v14299
  let c8_i32_8871 : BitVec 32 := 8#32
  let v14342 : BitVec 32 := Scalar.muli v14315 c8_i32_8871
  let c2_i32_8868 : BitVec 32 := 2#32
  let c4_i32_8856 : BitVec 32 := 4#32
  let c0_i32_8857 : BitVec 32 := 0#32
  let v14316 : BitVec 1 := Scalar.cmpi .eq c4_i32_8856 c0_i32_8857
  let c1_i32_8858 : BitVec 32 := 1#32
  let v14317 : BitVec 32 := Scalar.select v14316 c1_i32_8858 c4_i32_8856
  let v14318 : BitVec 32 := Scalar.remsi v14297 v14317
  let c0_i32_8860 : BitVec 32 := 0#32
  let v14320 : BitVec 1 := Scalar.cmpi .slt v14318 c0_i32_8860
  let c0_i32_8861 : BitVec 32 := 0#32
  let v14321 : BitVec 1 := Scalar.cmpi .slt v14317 c0_i32_8861
  let v14322 : BitVec 1 := Scalar.xori v14320 v14321
  let c0_i32_8859 : BitVec 32 := 0#32
  let v14319 : BitVec 1 := Scalar.cmpi .ne v14318 c0_i32_8859
  let v14323 : BitVec 1 := Scalar.andi v14322 v14319
  let v14324 : BitVec 32 := Scalar.addi v14318 v14317
  let v14325 : BitVec 32 := Scalar.select v14323 v14324 v14318
  let v14336 : BitVec 32 := Scalar.muli c2_i32_8868 v14325
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v14337 : BitVec 32 := Scalar.addi v14336 v94
  let c2_i32_8862 : BitVec 32 := 2#32
  let c0_i32_8863 : BitVec 32 := 0#32
  let v14326 : BitVec 1 := Scalar.cmpi .eq c2_i32_8862 c0_i32_8863
  let c1_i32_8864 : BitVec 32 := 1#32
  let v14327 : BitVec 32 := Scalar.select v14326 c1_i32_8864 c2_i32_8862
  let v14328 : BitVec 32 := Scalar.remsi v14325 v14327
  let c0_i32_8866 : BitVec 32 := 0#32
  let v14330 : BitVec 1 := Scalar.cmpi .slt v14328 c0_i32_8866
  let c0_i32_8867 : BitVec 32 := 0#32
  let v14331 : BitVec 1 := Scalar.cmpi .slt v14327 c0_i32_8867
  let v14332 : BitVec 1 := Scalar.xori v14330 v14331
  let c0_i32_8865 : BitVec 32 := 0#32
  let v14329 : BitVec 1 := Scalar.cmpi .ne v14328 c0_i32_8865
  let v14333 : BitVec 1 := Scalar.andi v14332 v14329
  let v14334 : BitVec 32 := Scalar.addi v14328 v14327
  let v14335 : BitVec 32 := Scalar.select v14333 v14334 v14328
  let c1_i32_8870 : BitVec 32 := 1#32
  let c2_i32_8869 : BitVec 32 := 2#32
  let v14338 : BitVec 32 := Scalar.muli c2_i32_8869 v94
  let v14339 : BitVec 32 := Scalar.subi c1_i32_8870 v14338
  let v14340 : BitVec 32 := Scalar.muli v14335 v14339
  let v14341 : BitVec 32 := Scalar.addi v14337 v14340
  let v14343 : BitVec 32 := Scalar.addi v14342 v14341
  let c1_i32_8876 : BitVec 32 := 1#32
  let v14344 : BitVec 32 := Scalar.muli v14343 c1_i32_8876
  let v14345 : BitVec 32 := Scalar.addi c0_i32_8877 v14344
  v14345.toNat
def k0_dev129 (d0 : Dev nD) : Nat :=
  let c0_i32_8917 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c2_i32_8881 : BitVec 32 := 2#32
  let v14352 : BitVec 32 := Scalar.addi v96 c2_i32_8881
  let c16_i32_8882 : BitVec 32 := 16#32
  let c0_i32_8883 : BitVec 32 := 0#32
  let v14353 : BitVec 1 := Scalar.cmpi .eq c16_i32_8882 c0_i32_8883
  let c1_i32_8884 : BitVec 32 := 1#32
  let v14354 : BitVec 32 := Scalar.select v14353 c1_i32_8884 c16_i32_8882
  let v14355 : BitVec 32 := Scalar.remsi v14352 v14354
  let c0_i32_8886 : BitVec 32 := 0#32
  let v14357 : BitVec 1 := Scalar.cmpi .slt v14355 c0_i32_8886
  let c0_i32_8887 : BitVec 32 := 0#32
  let v14358 : BitVec 1 := Scalar.cmpi .slt v14354 c0_i32_8887
  let v14359 : BitVec 1 := Scalar.xori v14357 v14358
  let c0_i32_8885 : BitVec 32 := 0#32
  let v14356 : BitVec 1 := Scalar.cmpi .ne v14355 c0_i32_8885
  let v14360 : BitVec 1 := Scalar.andi v14359 v14356
  let v14361 : BitVec 32 := Scalar.addi v14355 v14354
  let v14362 : BitVec 32 := Scalar.select v14360 v14361 v14355
  let c0_i32_8890 : BitVec 32 := 0#32
  let v14365 : BitVec 1 := Scalar.cmpi .sgt v14362 c0_i32_8890
  let v14366 : BitVec 32 := Scalar.extui v14365
  let c0_i32_8891 : BitVec 32 := 0#32
  let v14367 : BitVec 1 := Scalar.cmpi .slt v14362 c0_i32_8891
  let v14368 : BitVec 32 := Scalar.extui v14367
  let v14369 : BitVec 32 := Scalar.subi v14366 v14368
  let c4_i32_8889 : BitVec 32 := 4#32
  let c0_i32_8892 : BitVec 32 := 0#32
  let v14370 : BitVec 1 := Scalar.cmpi .sgt c4_i32_8889 c0_i32_8892
  let v14371 : BitVec 32 := Scalar.extui v14370
  let c0_i32_8893 : BitVec 32 := 0#32
  let v14372 : BitVec 1 := Scalar.cmpi .slt c4_i32_8889 c0_i32_8893
  let v14373 : BitVec 32 := Scalar.extui v14372
  let v14374 : BitVec 32 := Scalar.subi v14371 v14373
  let v14375 : BitVec 1 := Scalar.cmpi .ne v14369 v14374
  let v14376 : BitVec 32 := Scalar.remsi v14362 c4_i32_8889
  let c0_i32_8894 : BitVec 32 := 0#32
  let v14377 : BitVec 1 := Scalar.cmpi .ne v14376 c0_i32_8894
  let v14378 : BitVec 1 := Scalar.andi v14375 v14377
  let v14364 : BitVec 32 := Scalar.divsi v14362 c4_i32_8889
  let c1_i32_8895 : BitVec 32 := 1#32
  let v14379 : BitVec 32 := Scalar.subi v14364 c1_i32_8895
  let v14380 : BitVec 32 := Scalar.select v14378 v14379 v14364
  let c8_i32_8911 : BitVec 32 := 8#32
  let v14407 : BitVec 32 := Scalar.muli v14380 c8_i32_8911
  let c2_i32_8908 : BitVec 32 := 2#32
  let c4_i32_8896 : BitVec 32 := 4#32
  let c0_i32_8897 : BitVec 32 := 0#32
  let v14381 : BitVec 1 := Scalar.cmpi .eq c4_i32_8896 c0_i32_8897
  let c1_i32_8898 : BitVec 32 := 1#32
  let v14382 : BitVec 32 := Scalar.select v14381 c1_i32_8898 c4_i32_8896
  let v14383 : BitVec 32 := Scalar.remsi v14362 v14382
  let c0_i32_8900 : BitVec 32 := 0#32
  let v14385 : BitVec 1 := Scalar.cmpi .slt v14383 c0_i32_8900
  let c0_i32_8901 : BitVec 32 := 0#32
  let v14386 : BitVec 1 := Scalar.cmpi .slt v14382 c0_i32_8901
  let v14387 : BitVec 1 := Scalar.xori v14385 v14386
  let c0_i32_8899 : BitVec 32 := 0#32
  let v14384 : BitVec 1 := Scalar.cmpi .ne v14383 c0_i32_8899
  let v14388 : BitVec 1 := Scalar.andi v14387 v14384
  let v14389 : BitVec 32 := Scalar.addi v14383 v14382
  let v14390 : BitVec 32 := Scalar.select v14388 v14389 v14383
  let v14401 : BitVec 32 := Scalar.muli c2_i32_8908 v14390
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v14402 : BitVec 32 := Scalar.addi v14401 v94
  let c2_i32_8902 : BitVec 32 := 2#32
  let c0_i32_8903 : BitVec 32 := 0#32
  let v14391 : BitVec 1 := Scalar.cmpi .eq c2_i32_8902 c0_i32_8903
  let c1_i32_8904 : BitVec 32 := 1#32
  let v14392 : BitVec 32 := Scalar.select v14391 c1_i32_8904 c2_i32_8902
  let v14393 : BitVec 32 := Scalar.remsi v14390 v14392
  let c0_i32_8906 : BitVec 32 := 0#32
  let v14395 : BitVec 1 := Scalar.cmpi .slt v14393 c0_i32_8906
  let c0_i32_8907 : BitVec 32 := 0#32
  let v14396 : BitVec 1 := Scalar.cmpi .slt v14392 c0_i32_8907
  let v14397 : BitVec 1 := Scalar.xori v14395 v14396
  let c0_i32_8905 : BitVec 32 := 0#32
  let v14394 : BitVec 1 := Scalar.cmpi .ne v14393 c0_i32_8905
  let v14398 : BitVec 1 := Scalar.andi v14397 v14394
  let v14399 : BitVec 32 := Scalar.addi v14393 v14392
  let v14400 : BitVec 32 := Scalar.select v14398 v14399 v14393
  let c1_i32_8910 : BitVec 32 := 1#32
  let c2_i32_8909 : BitVec 32 := 2#32
  let v14403 : BitVec 32 := Scalar.muli c2_i32_8909 v94
  let v14404 : BitVec 32 := Scalar.subi c1_i32_8910 v14403
  let v14405 : BitVec 32 := Scalar.muli v14400 v14404
  let v14406 : BitVec 32 := Scalar.addi v14402 v14405
  let v14408 : BitVec 32 := Scalar.addi v14407 v14406
  let c1_i32_8916 : BitVec 32 := 1#32
  let v14409 : BitVec 32 := Scalar.muli v14408 c1_i32_8916
  let v14410 : BitVec 32 := Scalar.addi c0_i32_8917 v14409
  v14410.toNat
def k0_dev130 (d0 : Dev nD) : Nat :=
  let c0_i32_8957 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c3_i32_8921 : BitVec 32 := 3#32
  let v14417 : BitVec 32 := Scalar.addi v96 c3_i32_8921
  let c16_i32_8922 : BitVec 32 := 16#32
  let c0_i32_8923 : BitVec 32 := 0#32
  let v14418 : BitVec 1 := Scalar.cmpi .eq c16_i32_8922 c0_i32_8923
  let c1_i32_8924 : BitVec 32 := 1#32
  let v14419 : BitVec 32 := Scalar.select v14418 c1_i32_8924 c16_i32_8922
  let v14420 : BitVec 32 := Scalar.remsi v14417 v14419
  let c0_i32_8926 : BitVec 32 := 0#32
  let v14422 : BitVec 1 := Scalar.cmpi .slt v14420 c0_i32_8926
  let c0_i32_8927 : BitVec 32 := 0#32
  let v14423 : BitVec 1 := Scalar.cmpi .slt v14419 c0_i32_8927
  let v14424 : BitVec 1 := Scalar.xori v14422 v14423
  let c0_i32_8925 : BitVec 32 := 0#32
  let v14421 : BitVec 1 := Scalar.cmpi .ne v14420 c0_i32_8925
  let v14425 : BitVec 1 := Scalar.andi v14424 v14421
  let v14426 : BitVec 32 := Scalar.addi v14420 v14419
  let v14427 : BitVec 32 := Scalar.select v14425 v14426 v14420
  let c0_i32_8930 : BitVec 32 := 0#32
  let v14430 : BitVec 1 := Scalar.cmpi .sgt v14427 c0_i32_8930
  let v14431 : BitVec 32 := Scalar.extui v14430
  let c0_i32_8931 : BitVec 32 := 0#32
  let v14432 : BitVec 1 := Scalar.cmpi .slt v14427 c0_i32_8931
  let v14433 : BitVec 32 := Scalar.extui v14432
  let v14434 : BitVec 32 := Scalar.subi v14431 v14433
  let c4_i32_8929 : BitVec 32 := 4#32
  let c0_i32_8932 : BitVec 32 := 0#32
  let v14435 : BitVec 1 := Scalar.cmpi .sgt c4_i32_8929 c0_i32_8932
  let v14436 : BitVec 32 := Scalar.extui v14435
  let c0_i32_8933 : BitVec 32 := 0#32
  let v14437 : BitVec 1 := Scalar.cmpi .slt c4_i32_8929 c0_i32_8933
  let v14438 : BitVec 32 := Scalar.extui v14437
  let v14439 : BitVec 32 := Scalar.subi v14436 v14438
  let v14440 : BitVec 1 := Scalar.cmpi .ne v14434 v14439
  let v14441 : BitVec 32 := Scalar.remsi v14427 c4_i32_8929
  let c0_i32_8934 : BitVec 32 := 0#32
  let v14442 : BitVec 1 := Scalar.cmpi .ne v14441 c0_i32_8934
  let v14443 : BitVec 1 := Scalar.andi v14440 v14442
  let v14429 : BitVec 32 := Scalar.divsi v14427 c4_i32_8929
  let c1_i32_8935 : BitVec 32 := 1#32
  let v14444 : BitVec 32 := Scalar.subi v14429 c1_i32_8935
  let v14445 : BitVec 32 := Scalar.select v14443 v14444 v14429
  let c8_i32_8951 : BitVec 32 := 8#32
  let v14472 : BitVec 32 := Scalar.muli v14445 c8_i32_8951
  let c2_i32_8948 : BitVec 32 := 2#32
  let c4_i32_8936 : BitVec 32 := 4#32
  let c0_i32_8937 : BitVec 32 := 0#32
  let v14446 : BitVec 1 := Scalar.cmpi .eq c4_i32_8936 c0_i32_8937
  let c1_i32_8938 : BitVec 32 := 1#32
  let v14447 : BitVec 32 := Scalar.select v14446 c1_i32_8938 c4_i32_8936
  let v14448 : BitVec 32 := Scalar.remsi v14427 v14447
  let c0_i32_8940 : BitVec 32 := 0#32
  let v14450 : BitVec 1 := Scalar.cmpi .slt v14448 c0_i32_8940
  let c0_i32_8941 : BitVec 32 := 0#32
  let v14451 : BitVec 1 := Scalar.cmpi .slt v14447 c0_i32_8941
  let v14452 : BitVec 1 := Scalar.xori v14450 v14451
  let c0_i32_8939 : BitVec 32 := 0#32
  let v14449 : BitVec 1 := Scalar.cmpi .ne v14448 c0_i32_8939
  let v14453 : BitVec 1 := Scalar.andi v14452 v14449
  let v14454 : BitVec 32 := Scalar.addi v14448 v14447
  let v14455 : BitVec 32 := Scalar.select v14453 v14454 v14448
  let v14466 : BitVec 32 := Scalar.muli c2_i32_8948 v14455
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v14467 : BitVec 32 := Scalar.addi v14466 v94
  let c2_i32_8942 : BitVec 32 := 2#32
  let c0_i32_8943 : BitVec 32 := 0#32
  let v14456 : BitVec 1 := Scalar.cmpi .eq c2_i32_8942 c0_i32_8943
  let c1_i32_8944 : BitVec 32 := 1#32
  let v14457 : BitVec 32 := Scalar.select v14456 c1_i32_8944 c2_i32_8942
  let v14458 : BitVec 32 := Scalar.remsi v14455 v14457
  let c0_i32_8946 : BitVec 32 := 0#32
  let v14460 : BitVec 1 := Scalar.cmpi .slt v14458 c0_i32_8946
  let c0_i32_8947 : BitVec 32 := 0#32
  let v14461 : BitVec 1 := Scalar.cmpi .slt v14457 c0_i32_8947
  let v14462 : BitVec 1 := Scalar.xori v14460 v14461
  let c0_i32_8945 : BitVec 32 := 0#32
  let v14459 : BitVec 1 := Scalar.cmpi .ne v14458 c0_i32_8945
  let v14463 : BitVec 1 := Scalar.andi v14462 v14459
  let v14464 : BitVec 32 := Scalar.addi v14458 v14457
  let v14465 : BitVec 32 := Scalar.select v14463 v14464 v14458
  let c1_i32_8950 : BitVec 32 := 1#32
  let c2_i32_8949 : BitVec 32 := 2#32
  let v14468 : BitVec 32 := Scalar.muli c2_i32_8949 v94
  let v14469 : BitVec 32 := Scalar.subi c1_i32_8950 v14468
  let v14470 : BitVec 32 := Scalar.muli v14465 v14469
  let v14471 : BitVec 32 := Scalar.addi v14467 v14470
  let v14473 : BitVec 32 := Scalar.addi v14472 v14471
  let c1_i32_8956 : BitVec 32 := 1#32
  let v14474 : BitVec 32 := Scalar.muli v14473 c1_i32_8956
  let v14475 : BitVec 32 := Scalar.addi c0_i32_8957 v14474
  v14475.toNat
def k0_dev131 (d0 : Dev nD) : Nat :=
  let c0_i32_8997 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c4_i32_8961 : BitVec 32 := 4#32
  let v14482 : BitVec 32 := Scalar.addi v96 c4_i32_8961
  let c16_i32_8962 : BitVec 32 := 16#32
  let c0_i32_8963 : BitVec 32 := 0#32
  let v14483 : BitVec 1 := Scalar.cmpi .eq c16_i32_8962 c0_i32_8963
  let c1_i32_8964 : BitVec 32 := 1#32
  let v14484 : BitVec 32 := Scalar.select v14483 c1_i32_8964 c16_i32_8962
  let v14485 : BitVec 32 := Scalar.remsi v14482 v14484
  let c0_i32_8966 : BitVec 32 := 0#32
  let v14487 : BitVec 1 := Scalar.cmpi .slt v14485 c0_i32_8966
  let c0_i32_8967 : BitVec 32 := 0#32
  let v14488 : BitVec 1 := Scalar.cmpi .slt v14484 c0_i32_8967
  let v14489 : BitVec 1 := Scalar.xori v14487 v14488
  let c0_i32_8965 : BitVec 32 := 0#32
  let v14486 : BitVec 1 := Scalar.cmpi .ne v14485 c0_i32_8965
  let v14490 : BitVec 1 := Scalar.andi v14489 v14486
  let v14491 : BitVec 32 := Scalar.addi v14485 v14484
  let v14492 : BitVec 32 := Scalar.select v14490 v14491 v14485
  let c0_i32_8970 : BitVec 32 := 0#32
  let v14495 : BitVec 1 := Scalar.cmpi .sgt v14492 c0_i32_8970
  let v14496 : BitVec 32 := Scalar.extui v14495
  let c0_i32_8971 : BitVec 32 := 0#32
  let v14497 : BitVec 1 := Scalar.cmpi .slt v14492 c0_i32_8971
  let v14498 : BitVec 32 := Scalar.extui v14497
  let v14499 : BitVec 32 := Scalar.subi v14496 v14498
  let c4_i32_8969 : BitVec 32 := 4#32
  let c0_i32_8972 : BitVec 32 := 0#32
  let v14500 : BitVec 1 := Scalar.cmpi .sgt c4_i32_8969 c0_i32_8972
  let v14501 : BitVec 32 := Scalar.extui v14500
  let c0_i32_8973 : BitVec 32 := 0#32
  let v14502 : BitVec 1 := Scalar.cmpi .slt c4_i32_8969 c0_i32_8973
  let v14503 : BitVec 32 := Scalar.extui v14502
  let v14504 : BitVec 32 := Scalar.subi v14501 v14503
  let v14505 : BitVec 1 := Scalar.cmpi .ne v14499 v14504
  let v14506 : BitVec 32 := Scalar.remsi v14492 c4_i32_8969
  let c0_i32_8974 : BitVec 32 := 0#32
  let v14507 : BitVec 1 := Scalar.cmpi .ne v14506 c0_i32_8974
  let v14508 : BitVec 1 := Scalar.andi v14505 v14507
  let v14494 : BitVec 32 := Scalar.divsi v14492 c4_i32_8969
  let c1_i32_8975 : BitVec 32 := 1#32
  let v14509 : BitVec 32 := Scalar.subi v14494 c1_i32_8975
  let v14510 : BitVec 32 := Scalar.select v14508 v14509 v14494
  let c8_i32_8991 : BitVec 32 := 8#32
  let v14537 : BitVec 32 := Scalar.muli v14510 c8_i32_8991
  let c2_i32_8988 : BitVec 32 := 2#32
  let c4_i32_8976 : BitVec 32 := 4#32
  let c0_i32_8977 : BitVec 32 := 0#32
  let v14511 : BitVec 1 := Scalar.cmpi .eq c4_i32_8976 c0_i32_8977
  let c1_i32_8978 : BitVec 32 := 1#32
  let v14512 : BitVec 32 := Scalar.select v14511 c1_i32_8978 c4_i32_8976
  let v14513 : BitVec 32 := Scalar.remsi v14492 v14512
  let c0_i32_8980 : BitVec 32 := 0#32
  let v14515 : BitVec 1 := Scalar.cmpi .slt v14513 c0_i32_8980
  let c0_i32_8981 : BitVec 32 := 0#32
  let v14516 : BitVec 1 := Scalar.cmpi .slt v14512 c0_i32_8981
  let v14517 : BitVec 1 := Scalar.xori v14515 v14516
  let c0_i32_8979 : BitVec 32 := 0#32
  let v14514 : BitVec 1 := Scalar.cmpi .ne v14513 c0_i32_8979
  let v14518 : BitVec 1 := Scalar.andi v14517 v14514
  let v14519 : BitVec 32 := Scalar.addi v14513 v14512
  let v14520 : BitVec 32 := Scalar.select v14518 v14519 v14513
  let v14531 : BitVec 32 := Scalar.muli c2_i32_8988 v14520
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v14532 : BitVec 32 := Scalar.addi v14531 v94
  let c2_i32_8982 : BitVec 32 := 2#32
  let c0_i32_8983 : BitVec 32 := 0#32
  let v14521 : BitVec 1 := Scalar.cmpi .eq c2_i32_8982 c0_i32_8983
  let c1_i32_8984 : BitVec 32 := 1#32
  let v14522 : BitVec 32 := Scalar.select v14521 c1_i32_8984 c2_i32_8982
  let v14523 : BitVec 32 := Scalar.remsi v14520 v14522
  let c0_i32_8986 : BitVec 32 := 0#32
  let v14525 : BitVec 1 := Scalar.cmpi .slt v14523 c0_i32_8986
  let c0_i32_8987 : BitVec 32 := 0#32
  let v14526 : BitVec 1 := Scalar.cmpi .slt v14522 c0_i32_8987
  let v14527 : BitVec 1 := Scalar.xori v14525 v14526
  let c0_i32_8985 : BitVec 32 := 0#32
  let v14524 : BitVec 1 := Scalar.cmpi .ne v14523 c0_i32_8985
  let v14528 : BitVec 1 := Scalar.andi v14527 v14524
  let v14529 : BitVec 32 := Scalar.addi v14523 v14522
  let v14530 : BitVec 32 := Scalar.select v14528 v14529 v14523
  let c1_i32_8990 : BitVec 32 := 1#32
  let c2_i32_8989 : BitVec 32 := 2#32
  let v14533 : BitVec 32 := Scalar.muli c2_i32_8989 v94
  let v14534 : BitVec 32 := Scalar.subi c1_i32_8990 v14533
  let v14535 : BitVec 32 := Scalar.muli v14530 v14534
  let v14536 : BitVec 32 := Scalar.addi v14532 v14535
  let v14538 : BitVec 32 := Scalar.addi v14537 v14536
  let c1_i32_8996 : BitVec 32 := 1#32
  let v14539 : BitVec 32 := Scalar.muli v14538 c1_i32_8996
  let v14540 : BitVec 32 := Scalar.addi c0_i32_8997 v14539
  v14540.toNat
def k0_dev132 (d0 : Dev nD) : Nat :=
  let c0_i32_9037 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c5_i32_9001 : BitVec 32 := 5#32
  let v14547 : BitVec 32 := Scalar.addi v96 c5_i32_9001
  let c16_i32_9002 : BitVec 32 := 16#32
  let c0_i32_9003 : BitVec 32 := 0#32
  let v14548 : BitVec 1 := Scalar.cmpi .eq c16_i32_9002 c0_i32_9003
  let c1_i32_9004 : BitVec 32 := 1#32
  let v14549 : BitVec 32 := Scalar.select v14548 c1_i32_9004 c16_i32_9002
  let v14550 : BitVec 32 := Scalar.remsi v14547 v14549
  let c0_i32_9006 : BitVec 32 := 0#32
  let v14552 : BitVec 1 := Scalar.cmpi .slt v14550 c0_i32_9006
  let c0_i32_9007 : BitVec 32 := 0#32
  let v14553 : BitVec 1 := Scalar.cmpi .slt v14549 c0_i32_9007
  let v14554 : BitVec 1 := Scalar.xori v14552 v14553
  let c0_i32_9005 : BitVec 32 := 0#32
  let v14551 : BitVec 1 := Scalar.cmpi .ne v14550 c0_i32_9005
  let v14555 : BitVec 1 := Scalar.andi v14554 v14551
  let v14556 : BitVec 32 := Scalar.addi v14550 v14549
  let v14557 : BitVec 32 := Scalar.select v14555 v14556 v14550
  let c0_i32_9010 : BitVec 32 := 0#32
  let v14560 : BitVec 1 := Scalar.cmpi .sgt v14557 c0_i32_9010
  let v14561 : BitVec 32 := Scalar.extui v14560
  let c0_i32_9011 : BitVec 32 := 0#32
  let v14562 : BitVec 1 := Scalar.cmpi .slt v14557 c0_i32_9011
  let v14563 : BitVec 32 := Scalar.extui v14562
  let v14564 : BitVec 32 := Scalar.subi v14561 v14563
  let c4_i32_9009 : BitVec 32 := 4#32
  let c0_i32_9012 : BitVec 32 := 0#32
  let v14565 : BitVec 1 := Scalar.cmpi .sgt c4_i32_9009 c0_i32_9012
  let v14566 : BitVec 32 := Scalar.extui v14565
  let c0_i32_9013 : BitVec 32 := 0#32
  let v14567 : BitVec 1 := Scalar.cmpi .slt c4_i32_9009 c0_i32_9013
  let v14568 : BitVec 32 := Scalar.extui v14567
  let v14569 : BitVec 32 := Scalar.subi v14566 v14568
  let v14570 : BitVec 1 := Scalar.cmpi .ne v14564 v14569
  let v14571 : BitVec 32 := Scalar.remsi v14557 c4_i32_9009
  let c0_i32_9014 : BitVec 32 := 0#32
  let v14572 : BitVec 1 := Scalar.cmpi .ne v14571 c0_i32_9014
  let v14573 : BitVec 1 := Scalar.andi v14570 v14572
  let v14559 : BitVec 32 := Scalar.divsi v14557 c4_i32_9009
  let c1_i32_9015 : BitVec 32 := 1#32
  let v14574 : BitVec 32 := Scalar.subi v14559 c1_i32_9015
  let v14575 : BitVec 32 := Scalar.select v14573 v14574 v14559
  let c8_i32_9031 : BitVec 32 := 8#32
  let v14602 : BitVec 32 := Scalar.muli v14575 c8_i32_9031
  let c2_i32_9028 : BitVec 32 := 2#32
  let c4_i32_9016 : BitVec 32 := 4#32
  let c0_i32_9017 : BitVec 32 := 0#32
  let v14576 : BitVec 1 := Scalar.cmpi .eq c4_i32_9016 c0_i32_9017
  let c1_i32_9018 : BitVec 32 := 1#32
  let v14577 : BitVec 32 := Scalar.select v14576 c1_i32_9018 c4_i32_9016
  let v14578 : BitVec 32 := Scalar.remsi v14557 v14577
  let c0_i32_9020 : BitVec 32 := 0#32
  let v14580 : BitVec 1 := Scalar.cmpi .slt v14578 c0_i32_9020
  let c0_i32_9021 : BitVec 32 := 0#32
  let v14581 : BitVec 1 := Scalar.cmpi .slt v14577 c0_i32_9021
  let v14582 : BitVec 1 := Scalar.xori v14580 v14581
  let c0_i32_9019 : BitVec 32 := 0#32
  let v14579 : BitVec 1 := Scalar.cmpi .ne v14578 c0_i32_9019
  let v14583 : BitVec 1 := Scalar.andi v14582 v14579
  let v14584 : BitVec 32 := Scalar.addi v14578 v14577
  let v14585 : BitVec 32 := Scalar.select v14583 v14584 v14578
  let v14596 : BitVec 32 := Scalar.muli c2_i32_9028 v14585
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v14597 : BitVec 32 := Scalar.addi v14596 v94
  let c2_i32_9022 : BitVec 32 := 2#32
  let c0_i32_9023 : BitVec 32 := 0#32
  let v14586 : BitVec 1 := Scalar.cmpi .eq c2_i32_9022 c0_i32_9023
  let c1_i32_9024 : BitVec 32 := 1#32
  let v14587 : BitVec 32 := Scalar.select v14586 c1_i32_9024 c2_i32_9022
  let v14588 : BitVec 32 := Scalar.remsi v14585 v14587
  let c0_i32_9026 : BitVec 32 := 0#32
  let v14590 : BitVec 1 := Scalar.cmpi .slt v14588 c0_i32_9026
  let c0_i32_9027 : BitVec 32 := 0#32
  let v14591 : BitVec 1 := Scalar.cmpi .slt v14587 c0_i32_9027
  let v14592 : BitVec 1 := Scalar.xori v14590 v14591
  let c0_i32_9025 : BitVec 32 := 0#32
  let v14589 : BitVec 1 := Scalar.cmpi .ne v14588 c0_i32_9025
  let v14593 : BitVec 1 := Scalar.andi v14592 v14589
  let v14594 : BitVec 32 := Scalar.addi v14588 v14587
  let v14595 : BitVec 32 := Scalar.select v14593 v14594 v14588
  let c1_i32_9030 : BitVec 32 := 1#32
  let c2_i32_9029 : BitVec 32 := 2#32
  let v14598 : BitVec 32 := Scalar.muli c2_i32_9029 v94
  let v14599 : BitVec 32 := Scalar.subi c1_i32_9030 v14598
  let v14600 : BitVec 32 := Scalar.muli v14595 v14599
  let v14601 : BitVec 32 := Scalar.addi v14597 v14600
  let v14603 : BitVec 32 := Scalar.addi v14602 v14601
  let c1_i32_9036 : BitVec 32 := 1#32
  let v14604 : BitVec 32 := Scalar.muli v14603 c1_i32_9036
  let v14605 : BitVec 32 := Scalar.addi c0_i32_9037 v14604
  v14605.toNat
def k0_dev133 (d0 : Dev nD) : Nat :=
  let c0_i32_9077 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c6_i32_9041 : BitVec 32 := 6#32
  let v14612 : BitVec 32 := Scalar.addi v96 c6_i32_9041
  let c16_i32_9042 : BitVec 32 := 16#32
  let c0_i32_9043 : BitVec 32 := 0#32
  let v14613 : BitVec 1 := Scalar.cmpi .eq c16_i32_9042 c0_i32_9043
  let c1_i32_9044 : BitVec 32 := 1#32
  let v14614 : BitVec 32 := Scalar.select v14613 c1_i32_9044 c16_i32_9042
  let v14615 : BitVec 32 := Scalar.remsi v14612 v14614
  let c0_i32_9046 : BitVec 32 := 0#32
  let v14617 : BitVec 1 := Scalar.cmpi .slt v14615 c0_i32_9046
  let c0_i32_9047 : BitVec 32 := 0#32
  let v14618 : BitVec 1 := Scalar.cmpi .slt v14614 c0_i32_9047
  let v14619 : BitVec 1 := Scalar.xori v14617 v14618
  let c0_i32_9045 : BitVec 32 := 0#32
  let v14616 : BitVec 1 := Scalar.cmpi .ne v14615 c0_i32_9045
  let v14620 : BitVec 1 := Scalar.andi v14619 v14616
  let v14621 : BitVec 32 := Scalar.addi v14615 v14614
  let v14622 : BitVec 32 := Scalar.select v14620 v14621 v14615
  let c0_i32_9050 : BitVec 32 := 0#32
  let v14625 : BitVec 1 := Scalar.cmpi .sgt v14622 c0_i32_9050
  let v14626 : BitVec 32 := Scalar.extui v14625
  let c0_i32_9051 : BitVec 32 := 0#32
  let v14627 : BitVec 1 := Scalar.cmpi .slt v14622 c0_i32_9051
  let v14628 : BitVec 32 := Scalar.extui v14627
  let v14629 : BitVec 32 := Scalar.subi v14626 v14628
  let c4_i32_9049 : BitVec 32 := 4#32
  let c0_i32_9052 : BitVec 32 := 0#32
  let v14630 : BitVec 1 := Scalar.cmpi .sgt c4_i32_9049 c0_i32_9052
  let v14631 : BitVec 32 := Scalar.extui v14630
  let c0_i32_9053 : BitVec 32 := 0#32
  let v14632 : BitVec 1 := Scalar.cmpi .slt c4_i32_9049 c0_i32_9053
  let v14633 : BitVec 32 := Scalar.extui v14632
  let v14634 : BitVec 32 := Scalar.subi v14631 v14633
  let v14635 : BitVec 1 := Scalar.cmpi .ne v14629 v14634
  let v14636 : BitVec 32 := Scalar.remsi v14622 c4_i32_9049
  let c0_i32_9054 : BitVec 32 := 0#32
  let v14637 : BitVec 1 := Scalar.cmpi .ne v14636 c0_i32_9054
  let v14638 : BitVec 1 := Scalar.andi v14635 v14637
  let v14624 : BitVec 32 := Scalar.divsi v14622 c4_i32_9049
  let c1_i32_9055 : BitVec 32 := 1#32
  let v14639 : BitVec 32 := Scalar.subi v14624 c1_i32_9055
  let v14640 : BitVec 32 := Scalar.select v14638 v14639 v14624
  let c8_i32_9071 : BitVec 32 := 8#32
  let v14667 : BitVec 32 := Scalar.muli v14640 c8_i32_9071
  let c2_i32_9068 : BitVec 32 := 2#32
  let c4_i32_9056 : BitVec 32 := 4#32
  let c0_i32_9057 : BitVec 32 := 0#32
  let v14641 : BitVec 1 := Scalar.cmpi .eq c4_i32_9056 c0_i32_9057
  let c1_i32_9058 : BitVec 32 := 1#32
  let v14642 : BitVec 32 := Scalar.select v14641 c1_i32_9058 c4_i32_9056
  let v14643 : BitVec 32 := Scalar.remsi v14622 v14642
  let c0_i32_9060 : BitVec 32 := 0#32
  let v14645 : BitVec 1 := Scalar.cmpi .slt v14643 c0_i32_9060
  let c0_i32_9061 : BitVec 32 := 0#32
  let v14646 : BitVec 1 := Scalar.cmpi .slt v14642 c0_i32_9061
  let v14647 : BitVec 1 := Scalar.xori v14645 v14646
  let c0_i32_9059 : BitVec 32 := 0#32
  let v14644 : BitVec 1 := Scalar.cmpi .ne v14643 c0_i32_9059
  let v14648 : BitVec 1 := Scalar.andi v14647 v14644
  let v14649 : BitVec 32 := Scalar.addi v14643 v14642
  let v14650 : BitVec 32 := Scalar.select v14648 v14649 v14643
  let v14661 : BitVec 32 := Scalar.muli c2_i32_9068 v14650
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v14662 : BitVec 32 := Scalar.addi v14661 v94
  let c2_i32_9062 : BitVec 32 := 2#32
  let c0_i32_9063 : BitVec 32 := 0#32
  let v14651 : BitVec 1 := Scalar.cmpi .eq c2_i32_9062 c0_i32_9063
  let c1_i32_9064 : BitVec 32 := 1#32
  let v14652 : BitVec 32 := Scalar.select v14651 c1_i32_9064 c2_i32_9062
  let v14653 : BitVec 32 := Scalar.remsi v14650 v14652
  let c0_i32_9066 : BitVec 32 := 0#32
  let v14655 : BitVec 1 := Scalar.cmpi .slt v14653 c0_i32_9066
  let c0_i32_9067 : BitVec 32 := 0#32
  let v14656 : BitVec 1 := Scalar.cmpi .slt v14652 c0_i32_9067
  let v14657 : BitVec 1 := Scalar.xori v14655 v14656
  let c0_i32_9065 : BitVec 32 := 0#32
  let v14654 : BitVec 1 := Scalar.cmpi .ne v14653 c0_i32_9065
  let v14658 : BitVec 1 := Scalar.andi v14657 v14654
  let v14659 : BitVec 32 := Scalar.addi v14653 v14652
  let v14660 : BitVec 32 := Scalar.select v14658 v14659 v14653
  let c1_i32_9070 : BitVec 32 := 1#32
  let c2_i32_9069 : BitVec 32 := 2#32
  let v14663 : BitVec 32 := Scalar.muli c2_i32_9069 v94
  let v14664 : BitVec 32 := Scalar.subi c1_i32_9070 v14663
  let v14665 : BitVec 32 := Scalar.muli v14660 v14664
  let v14666 : BitVec 32 := Scalar.addi v14662 v14665
  let v14668 : BitVec 32 := Scalar.addi v14667 v14666
  let c1_i32_9076 : BitVec 32 := 1#32
  let v14669 : BitVec 32 := Scalar.muli v14668 c1_i32_9076
  let v14670 : BitVec 32 := Scalar.addi c0_i32_9077 v14669
  v14670.toNat
def k0_dev134 (d0 : Dev nD) : Nat :=
  let c0_i32_9117 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c7_i32_9081 : BitVec 32 := 7#32
  let v14677 : BitVec 32 := Scalar.addi v96 c7_i32_9081
  let c16_i32_9082 : BitVec 32 := 16#32
  let c0_i32_9083 : BitVec 32 := 0#32
  let v14678 : BitVec 1 := Scalar.cmpi .eq c16_i32_9082 c0_i32_9083
  let c1_i32_9084 : BitVec 32 := 1#32
  let v14679 : BitVec 32 := Scalar.select v14678 c1_i32_9084 c16_i32_9082
  let v14680 : BitVec 32 := Scalar.remsi v14677 v14679
  let c0_i32_9086 : BitVec 32 := 0#32
  let v14682 : BitVec 1 := Scalar.cmpi .slt v14680 c0_i32_9086
  let c0_i32_9087 : BitVec 32 := 0#32
  let v14683 : BitVec 1 := Scalar.cmpi .slt v14679 c0_i32_9087
  let v14684 : BitVec 1 := Scalar.xori v14682 v14683
  let c0_i32_9085 : BitVec 32 := 0#32
  let v14681 : BitVec 1 := Scalar.cmpi .ne v14680 c0_i32_9085
  let v14685 : BitVec 1 := Scalar.andi v14684 v14681
  let v14686 : BitVec 32 := Scalar.addi v14680 v14679
  let v14687 : BitVec 32 := Scalar.select v14685 v14686 v14680
  let c0_i32_9090 : BitVec 32 := 0#32
  let v14690 : BitVec 1 := Scalar.cmpi .sgt v14687 c0_i32_9090
  let v14691 : BitVec 32 := Scalar.extui v14690
  let c0_i32_9091 : BitVec 32 := 0#32
  let v14692 : BitVec 1 := Scalar.cmpi .slt v14687 c0_i32_9091
  let v14693 : BitVec 32 := Scalar.extui v14692
  let v14694 : BitVec 32 := Scalar.subi v14691 v14693
  let c4_i32_9089 : BitVec 32 := 4#32
  let c0_i32_9092 : BitVec 32 := 0#32
  let v14695 : BitVec 1 := Scalar.cmpi .sgt c4_i32_9089 c0_i32_9092
  let v14696 : BitVec 32 := Scalar.extui v14695
  let c0_i32_9093 : BitVec 32 := 0#32
  let v14697 : BitVec 1 := Scalar.cmpi .slt c4_i32_9089 c0_i32_9093
  let v14698 : BitVec 32 := Scalar.extui v14697
  let v14699 : BitVec 32 := Scalar.subi v14696 v14698
  let v14700 : BitVec 1 := Scalar.cmpi .ne v14694 v14699
  let v14701 : BitVec 32 := Scalar.remsi v14687 c4_i32_9089
  let c0_i32_9094 : BitVec 32 := 0#32
  let v14702 : BitVec 1 := Scalar.cmpi .ne v14701 c0_i32_9094
  let v14703 : BitVec 1 := Scalar.andi v14700 v14702
  let v14689 : BitVec 32 := Scalar.divsi v14687 c4_i32_9089
  let c1_i32_9095 : BitVec 32 := 1#32
  let v14704 : BitVec 32 := Scalar.subi v14689 c1_i32_9095
  let v14705 : BitVec 32 := Scalar.select v14703 v14704 v14689
  let c8_i32_9111 : BitVec 32 := 8#32
  let v14732 : BitVec 32 := Scalar.muli v14705 c8_i32_9111
  let c2_i32_9108 : BitVec 32 := 2#32
  let c4_i32_9096 : BitVec 32 := 4#32
  let c0_i32_9097 : BitVec 32 := 0#32
  let v14706 : BitVec 1 := Scalar.cmpi .eq c4_i32_9096 c0_i32_9097
  let c1_i32_9098 : BitVec 32 := 1#32
  let v14707 : BitVec 32 := Scalar.select v14706 c1_i32_9098 c4_i32_9096
  let v14708 : BitVec 32 := Scalar.remsi v14687 v14707
  let c0_i32_9100 : BitVec 32 := 0#32
  let v14710 : BitVec 1 := Scalar.cmpi .slt v14708 c0_i32_9100
  let c0_i32_9101 : BitVec 32 := 0#32
  let v14711 : BitVec 1 := Scalar.cmpi .slt v14707 c0_i32_9101
  let v14712 : BitVec 1 := Scalar.xori v14710 v14711
  let c0_i32_9099 : BitVec 32 := 0#32
  let v14709 : BitVec 1 := Scalar.cmpi .ne v14708 c0_i32_9099
  let v14713 : BitVec 1 := Scalar.andi v14712 v14709
  let v14714 : BitVec 32 := Scalar.addi v14708 v14707
  let v14715 : BitVec 32 := Scalar.select v14713 v14714 v14708
  let v14726 : BitVec 32 := Scalar.muli c2_i32_9108 v14715
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v14727 : BitVec 32 := Scalar.addi v14726 v94
  let c2_i32_9102 : BitVec 32 := 2#32
  let c0_i32_9103 : BitVec 32 := 0#32
  let v14716 : BitVec 1 := Scalar.cmpi .eq c2_i32_9102 c0_i32_9103
  let c1_i32_9104 : BitVec 32 := 1#32
  let v14717 : BitVec 32 := Scalar.select v14716 c1_i32_9104 c2_i32_9102
  let v14718 : BitVec 32 := Scalar.remsi v14715 v14717
  let c0_i32_9106 : BitVec 32 := 0#32
  let v14720 : BitVec 1 := Scalar.cmpi .slt v14718 c0_i32_9106
  let c0_i32_9107 : BitVec 32 := 0#32
  let v14721 : BitVec 1 := Scalar.cmpi .slt v14717 c0_i32_9107
  let v14722 : BitVec 1 := Scalar.xori v14720 v14721
  let c0_i32_9105 : BitVec 32 := 0#32
  let v14719 : BitVec 1 := Scalar.cmpi .ne v14718 c0_i32_9105
  let v14723 : BitVec 1 := Scalar.andi v14722 v14719
  let v14724 : BitVec 32 := Scalar.addi v14718 v14717
  let v14725 : BitVec 32 := Scalar.select v14723 v14724 v14718
  let c1_i32_9110 : BitVec 32 := 1#32
  let c2_i32_9109 : BitVec 32 := 2#32
  let v14728 : BitVec 32 := Scalar.muli c2_i32_9109 v94
  let v14729 : BitVec 32 := Scalar.subi c1_i32_9110 v14728
  let v14730 : BitVec 32 := Scalar.muli v14725 v14729
  let v14731 : BitVec 32 := Scalar.addi v14727 v14730
  let v14733 : BitVec 32 := Scalar.addi v14732 v14731
  let c1_i32_9116 : BitVec 32 := 1#32
  let v14734 : BitVec 32 := Scalar.muli v14733 c1_i32_9116
  let v14735 : BitVec 32 := Scalar.addi c0_i32_9117 v14734
  v14735.toNat
def k0_dev135 (d0 : Dev nD) : Nat :=
  let c0_i32_9157 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c8_i32_9121 : BitVec 32 := 8#32
  let v14742 : BitVec 32 := Scalar.addi v96 c8_i32_9121
  let c16_i32_9122 : BitVec 32 := 16#32
  let c0_i32_9123 : BitVec 32 := 0#32
  let v14743 : BitVec 1 := Scalar.cmpi .eq c16_i32_9122 c0_i32_9123
  let c1_i32_9124 : BitVec 32 := 1#32
  let v14744 : BitVec 32 := Scalar.select v14743 c1_i32_9124 c16_i32_9122
  let v14745 : BitVec 32 := Scalar.remsi v14742 v14744
  let c0_i32_9126 : BitVec 32 := 0#32
  let v14747 : BitVec 1 := Scalar.cmpi .slt v14745 c0_i32_9126
  let c0_i32_9127 : BitVec 32 := 0#32
  let v14748 : BitVec 1 := Scalar.cmpi .slt v14744 c0_i32_9127
  let v14749 : BitVec 1 := Scalar.xori v14747 v14748
  let c0_i32_9125 : BitVec 32 := 0#32
  let v14746 : BitVec 1 := Scalar.cmpi .ne v14745 c0_i32_9125
  let v14750 : BitVec 1 := Scalar.andi v14749 v14746
  let v14751 : BitVec 32 := Scalar.addi v14745 v14744
  let v14752 : BitVec 32 := Scalar.select v14750 v14751 v14745
  let c0_i32_9130 : BitVec 32 := 0#32
  let v14755 : BitVec 1 := Scalar.cmpi .sgt v14752 c0_i32_9130
  let v14756 : BitVec 32 := Scalar.extui v14755
  let c0_i32_9131 : BitVec 32 := 0#32
  let v14757 : BitVec 1 := Scalar.cmpi .slt v14752 c0_i32_9131
  let v14758 : BitVec 32 := Scalar.extui v14757
  let v14759 : BitVec 32 := Scalar.subi v14756 v14758
  let c4_i32_9129 : BitVec 32 := 4#32
  let c0_i32_9132 : BitVec 32 := 0#32
  let v14760 : BitVec 1 := Scalar.cmpi .sgt c4_i32_9129 c0_i32_9132
  let v14761 : BitVec 32 := Scalar.extui v14760
  let c0_i32_9133 : BitVec 32 := 0#32
  let v14762 : BitVec 1 := Scalar.cmpi .slt c4_i32_9129 c0_i32_9133
  let v14763 : BitVec 32 := Scalar.extui v14762
  let v14764 : BitVec 32 := Scalar.subi v14761 v14763
  let v14765 : BitVec 1 := Scalar.cmpi .ne v14759 v14764
  let v14766 : BitVec 32 := Scalar.remsi v14752 c4_i32_9129
  let c0_i32_9134 : BitVec 32 := 0#32
  let v14767 : BitVec 1 := Scalar.cmpi .ne v14766 c0_i32_9134
  let v14768 : BitVec 1 := Scalar.andi v14765 v14767
  let v14754 : BitVec 32 := Scalar.divsi v14752 c4_i32_9129
  let c1_i32_9135 : BitVec 32 := 1#32
  let v14769 : BitVec 32 := Scalar.subi v14754 c1_i32_9135
  let v14770 : BitVec 32 := Scalar.select v14768 v14769 v14754
  let c8_i32_9151 : BitVec 32 := 8#32
  let v14797 : BitVec 32 := Scalar.muli v14770 c8_i32_9151
  let c2_i32_9148 : BitVec 32 := 2#32
  let c4_i32_9136 : BitVec 32 := 4#32
  let c0_i32_9137 : BitVec 32 := 0#32
  let v14771 : BitVec 1 := Scalar.cmpi .eq c4_i32_9136 c0_i32_9137
  let c1_i32_9138 : BitVec 32 := 1#32
  let v14772 : BitVec 32 := Scalar.select v14771 c1_i32_9138 c4_i32_9136
  let v14773 : BitVec 32 := Scalar.remsi v14752 v14772
  let c0_i32_9140 : BitVec 32 := 0#32
  let v14775 : BitVec 1 := Scalar.cmpi .slt v14773 c0_i32_9140
  let c0_i32_9141 : BitVec 32 := 0#32
  let v14776 : BitVec 1 := Scalar.cmpi .slt v14772 c0_i32_9141
  let v14777 : BitVec 1 := Scalar.xori v14775 v14776
  let c0_i32_9139 : BitVec 32 := 0#32
  let v14774 : BitVec 1 := Scalar.cmpi .ne v14773 c0_i32_9139
  let v14778 : BitVec 1 := Scalar.andi v14777 v14774
  let v14779 : BitVec 32 := Scalar.addi v14773 v14772
  let v14780 : BitVec 32 := Scalar.select v14778 v14779 v14773
  let v14791 : BitVec 32 := Scalar.muli c2_i32_9148 v14780
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v14792 : BitVec 32 := Scalar.addi v14791 v94
  let c2_i32_9142 : BitVec 32 := 2#32
  let c0_i32_9143 : BitVec 32 := 0#32
  let v14781 : BitVec 1 := Scalar.cmpi .eq c2_i32_9142 c0_i32_9143
  let c1_i32_9144 : BitVec 32 := 1#32
  let v14782 : BitVec 32 := Scalar.select v14781 c1_i32_9144 c2_i32_9142
  let v14783 : BitVec 32 := Scalar.remsi v14780 v14782
  let c0_i32_9146 : BitVec 32 := 0#32
  let v14785 : BitVec 1 := Scalar.cmpi .slt v14783 c0_i32_9146
  let c0_i32_9147 : BitVec 32 := 0#32
  let v14786 : BitVec 1 := Scalar.cmpi .slt v14782 c0_i32_9147
  let v14787 : BitVec 1 := Scalar.xori v14785 v14786
  let c0_i32_9145 : BitVec 32 := 0#32
  let v14784 : BitVec 1 := Scalar.cmpi .ne v14783 c0_i32_9145
  let v14788 : BitVec 1 := Scalar.andi v14787 v14784
  let v14789 : BitVec 32 := Scalar.addi v14783 v14782
  let v14790 : BitVec 32 := Scalar.select v14788 v14789 v14783
  let c1_i32_9150 : BitVec 32 := 1#32
  let c2_i32_9149 : BitVec 32 := 2#32
  let v14793 : BitVec 32 := Scalar.muli c2_i32_9149 v94
  let v14794 : BitVec 32 := Scalar.subi c1_i32_9150 v14793
  let v14795 : BitVec 32 := Scalar.muli v14790 v14794
  let v14796 : BitVec 32 := Scalar.addi v14792 v14795
  let v14798 : BitVec 32 := Scalar.addi v14797 v14796
  let c1_i32_9156 : BitVec 32 := 1#32
  let v14799 : BitVec 32 := Scalar.muli v14798 c1_i32_9156
  let v14800 : BitVec 32 := Scalar.addi c0_i32_9157 v14799
  v14800.toNat
def k0_dev136 (d0 : Dev nD) : Nat :=
  let c0_i32_9197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c9_i32_9161 : BitVec 32 := 9#32
  let v14807 : BitVec 32 := Scalar.addi v96 c9_i32_9161
  let c16_i32_9162 : BitVec 32 := 16#32
  let c0_i32_9163 : BitVec 32 := 0#32
  let v14808 : BitVec 1 := Scalar.cmpi .eq c16_i32_9162 c0_i32_9163
  let c1_i32_9164 : BitVec 32 := 1#32
  let v14809 : BitVec 32 := Scalar.select v14808 c1_i32_9164 c16_i32_9162
  let v14810 : BitVec 32 := Scalar.remsi v14807 v14809
  let c0_i32_9166 : BitVec 32 := 0#32
  let v14812 : BitVec 1 := Scalar.cmpi .slt v14810 c0_i32_9166
  let c0_i32_9167 : BitVec 32 := 0#32
  let v14813 : BitVec 1 := Scalar.cmpi .slt v14809 c0_i32_9167
  let v14814 : BitVec 1 := Scalar.xori v14812 v14813
  let c0_i32_9165 : BitVec 32 := 0#32
  let v14811 : BitVec 1 := Scalar.cmpi .ne v14810 c0_i32_9165
  let v14815 : BitVec 1 := Scalar.andi v14814 v14811
  let v14816 : BitVec 32 := Scalar.addi v14810 v14809
  let v14817 : BitVec 32 := Scalar.select v14815 v14816 v14810
  let c0_i32_9170 : BitVec 32 := 0#32
  let v14820 : BitVec 1 := Scalar.cmpi .sgt v14817 c0_i32_9170
  let v14821 : BitVec 32 := Scalar.extui v14820
  let c0_i32_9171 : BitVec 32 := 0#32
  let v14822 : BitVec 1 := Scalar.cmpi .slt v14817 c0_i32_9171
  let v14823 : BitVec 32 := Scalar.extui v14822
  let v14824 : BitVec 32 := Scalar.subi v14821 v14823
  let c4_i32_9169 : BitVec 32 := 4#32
  let c0_i32_9172 : BitVec 32 := 0#32
  let v14825 : BitVec 1 := Scalar.cmpi .sgt c4_i32_9169 c0_i32_9172
  let v14826 : BitVec 32 := Scalar.extui v14825
  let c0_i32_9173 : BitVec 32 := 0#32
  let v14827 : BitVec 1 := Scalar.cmpi .slt c4_i32_9169 c0_i32_9173
  let v14828 : BitVec 32 := Scalar.extui v14827
  let v14829 : BitVec 32 := Scalar.subi v14826 v14828
  let v14830 : BitVec 1 := Scalar.cmpi .ne v14824 v14829
  let v14831 : BitVec 32 := Scalar.remsi v14817 c4_i32_9169
  let c0_i32_9174 : BitVec 32 := 0#32
  let v14832 : BitVec 1 := Scalar.cmpi .ne v14831 c0_i32_9174
  let v14833 : BitVec 1 := Scalar.andi v14830 v14832
  let v14819 : BitVec 32 := Scalar.divsi v14817 c4_i32_9169
  let c1_i32_9175 : BitVec 32 := 1#32
  let v14834 : BitVec 32 := Scalar.subi v14819 c1_i32_9175
  let v14835 : BitVec 32 := Scalar.select v14833 v14834 v14819
  let c8_i32_9191 : BitVec 32 := 8#32
  let v14862 : BitVec 32 := Scalar.muli v14835 c8_i32_9191
  let c2_i32_9188 : BitVec 32 := 2#32
  let c4_i32_9176 : BitVec 32 := 4#32
  let c0_i32_9177 : BitVec 32 := 0#32
  let v14836 : BitVec 1 := Scalar.cmpi .eq c4_i32_9176 c0_i32_9177
  let c1_i32_9178 : BitVec 32 := 1#32
  let v14837 : BitVec 32 := Scalar.select v14836 c1_i32_9178 c4_i32_9176
  let v14838 : BitVec 32 := Scalar.remsi v14817 v14837
  let c0_i32_9180 : BitVec 32 := 0#32
  let v14840 : BitVec 1 := Scalar.cmpi .slt v14838 c0_i32_9180
  let c0_i32_9181 : BitVec 32 := 0#32
  let v14841 : BitVec 1 := Scalar.cmpi .slt v14837 c0_i32_9181
  let v14842 : BitVec 1 := Scalar.xori v14840 v14841
  let c0_i32_9179 : BitVec 32 := 0#32
  let v14839 : BitVec 1 := Scalar.cmpi .ne v14838 c0_i32_9179
  let v14843 : BitVec 1 := Scalar.andi v14842 v14839
  let v14844 : BitVec 32 := Scalar.addi v14838 v14837
  let v14845 : BitVec 32 := Scalar.select v14843 v14844 v14838
  let v14856 : BitVec 32 := Scalar.muli c2_i32_9188 v14845
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v14857 : BitVec 32 := Scalar.addi v14856 v94
  let c2_i32_9182 : BitVec 32 := 2#32
  let c0_i32_9183 : BitVec 32 := 0#32
  let v14846 : BitVec 1 := Scalar.cmpi .eq c2_i32_9182 c0_i32_9183
  let c1_i32_9184 : BitVec 32 := 1#32
  let v14847 : BitVec 32 := Scalar.select v14846 c1_i32_9184 c2_i32_9182
  let v14848 : BitVec 32 := Scalar.remsi v14845 v14847
  let c0_i32_9186 : BitVec 32 := 0#32
  let v14850 : BitVec 1 := Scalar.cmpi .slt v14848 c0_i32_9186
  let c0_i32_9187 : BitVec 32 := 0#32
  let v14851 : BitVec 1 := Scalar.cmpi .slt v14847 c0_i32_9187
  let v14852 : BitVec 1 := Scalar.xori v14850 v14851
  let c0_i32_9185 : BitVec 32 := 0#32
  let v14849 : BitVec 1 := Scalar.cmpi .ne v14848 c0_i32_9185
  let v14853 : BitVec 1 := Scalar.andi v14852 v14849
  let v14854 : BitVec 32 := Scalar.addi v14848 v14847
  let v14855 : BitVec 32 := Scalar.select v14853 v14854 v14848
  let c1_i32_9190 : BitVec 32 := 1#32
  let c2_i32_9189 : BitVec 32 := 2#32
  let v14858 : BitVec 32 := Scalar.muli c2_i32_9189 v94
  let v14859 : BitVec 32 := Scalar.subi c1_i32_9190 v14858
  let v14860 : BitVec 32 := Scalar.muli v14855 v14859
  let v14861 : BitVec 32 := Scalar.addi v14857 v14860
  let v14863 : BitVec 32 := Scalar.addi v14862 v14861
  let c1_i32_9196 : BitVec 32 := 1#32
  let v14864 : BitVec 32 := Scalar.muli v14863 c1_i32_9196
  let v14865 : BitVec 32 := Scalar.addi c0_i32_9197 v14864
  v14865.toNat
def k0_dev137 (d0 : Dev nD) : Nat :=
  let c0_i32_9237 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c10_i32_9201 : BitVec 32 := 10#32
  let v14872 : BitVec 32 := Scalar.addi v96 c10_i32_9201
  let c16_i32_9202 : BitVec 32 := 16#32
  let c0_i32_9203 : BitVec 32 := 0#32
  let v14873 : BitVec 1 := Scalar.cmpi .eq c16_i32_9202 c0_i32_9203
  let c1_i32_9204 : BitVec 32 := 1#32
  let v14874 : BitVec 32 := Scalar.select v14873 c1_i32_9204 c16_i32_9202
  let v14875 : BitVec 32 := Scalar.remsi v14872 v14874
  let c0_i32_9206 : BitVec 32 := 0#32
  let v14877 : BitVec 1 := Scalar.cmpi .slt v14875 c0_i32_9206
  let c0_i32_9207 : BitVec 32 := 0#32
  let v14878 : BitVec 1 := Scalar.cmpi .slt v14874 c0_i32_9207
  let v14879 : BitVec 1 := Scalar.xori v14877 v14878
  let c0_i32_9205 : BitVec 32 := 0#32
  let v14876 : BitVec 1 := Scalar.cmpi .ne v14875 c0_i32_9205
  let v14880 : BitVec 1 := Scalar.andi v14879 v14876
  let v14881 : BitVec 32 := Scalar.addi v14875 v14874
  let v14882 : BitVec 32 := Scalar.select v14880 v14881 v14875
  let c0_i32_9210 : BitVec 32 := 0#32
  let v14885 : BitVec 1 := Scalar.cmpi .sgt v14882 c0_i32_9210
  let v14886 : BitVec 32 := Scalar.extui v14885
  let c0_i32_9211 : BitVec 32 := 0#32
  let v14887 : BitVec 1 := Scalar.cmpi .slt v14882 c0_i32_9211
  let v14888 : BitVec 32 := Scalar.extui v14887
  let v14889 : BitVec 32 := Scalar.subi v14886 v14888
  let c4_i32_9209 : BitVec 32 := 4#32
  let c0_i32_9212 : BitVec 32 := 0#32
  let v14890 : BitVec 1 := Scalar.cmpi .sgt c4_i32_9209 c0_i32_9212
  let v14891 : BitVec 32 := Scalar.extui v14890
  let c0_i32_9213 : BitVec 32 := 0#32
  let v14892 : BitVec 1 := Scalar.cmpi .slt c4_i32_9209 c0_i32_9213
  let v14893 : BitVec 32 := Scalar.extui v14892
  let v14894 : BitVec 32 := Scalar.subi v14891 v14893
  let v14895 : BitVec 1 := Scalar.cmpi .ne v14889 v14894
  let v14896 : BitVec 32 := Scalar.remsi v14882 c4_i32_9209
  let c0_i32_9214 : BitVec 32 := 0#32
  let v14897 : BitVec 1 := Scalar.cmpi .ne v14896 c0_i32_9214
  let v14898 : BitVec 1 := Scalar.andi v14895 v14897
  let v14884 : BitVec 32 := Scalar.divsi v14882 c4_i32_9209
  let c1_i32_9215 : BitVec 32 := 1#32
  let v14899 : BitVec 32 := Scalar.subi v14884 c1_i32_9215
  let v14900 : BitVec 32 := Scalar.select v14898 v14899 v14884
  let c8_i32_9231 : BitVec 32 := 8#32
  let v14927 : BitVec 32 := Scalar.muli v14900 c8_i32_9231
  let c2_i32_9228 : BitVec 32 := 2#32
  let c4_i32_9216 : BitVec 32 := 4#32
  let c0_i32_9217 : BitVec 32 := 0#32
  let v14901 : BitVec 1 := Scalar.cmpi .eq c4_i32_9216 c0_i32_9217
  let c1_i32_9218 : BitVec 32 := 1#32
  let v14902 : BitVec 32 := Scalar.select v14901 c1_i32_9218 c4_i32_9216
  let v14903 : BitVec 32 := Scalar.remsi v14882 v14902
  let c0_i32_9220 : BitVec 32 := 0#32
  let v14905 : BitVec 1 := Scalar.cmpi .slt v14903 c0_i32_9220
  let c0_i32_9221 : BitVec 32 := 0#32
  let v14906 : BitVec 1 := Scalar.cmpi .slt v14902 c0_i32_9221
  let v14907 : BitVec 1 := Scalar.xori v14905 v14906
  let c0_i32_9219 : BitVec 32 := 0#32
  let v14904 : BitVec 1 := Scalar.cmpi .ne v14903 c0_i32_9219
  let v14908 : BitVec 1 := Scalar.andi v14907 v14904
  let v14909 : BitVec 32 := Scalar.addi v14903 v14902
  let v14910 : BitVec 32 := Scalar.select v14908 v14909 v14903
  let v14921 : BitVec 32 := Scalar.muli c2_i32_9228 v14910
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v14922 : BitVec 32 := Scalar.addi v14921 v94
  let c2_i32_9222 : BitVec 32 := 2#32
  let c0_i32_9223 : BitVec 32 := 0#32
  let v14911 : BitVec 1 := Scalar.cmpi .eq c2_i32_9222 c0_i32_9223
  let c1_i32_9224 : BitVec 32 := 1#32
  let v14912 : BitVec 32 := Scalar.select v14911 c1_i32_9224 c2_i32_9222
  let v14913 : BitVec 32 := Scalar.remsi v14910 v14912
  let c0_i32_9226 : BitVec 32 := 0#32
  let v14915 : BitVec 1 := Scalar.cmpi .slt v14913 c0_i32_9226
  let c0_i32_9227 : BitVec 32 := 0#32
  let v14916 : BitVec 1 := Scalar.cmpi .slt v14912 c0_i32_9227
  let v14917 : BitVec 1 := Scalar.xori v14915 v14916
  let c0_i32_9225 : BitVec 32 := 0#32
  let v14914 : BitVec 1 := Scalar.cmpi .ne v14913 c0_i32_9225
  let v14918 : BitVec 1 := Scalar.andi v14917 v14914
  let v14919 : BitVec 32 := Scalar.addi v14913 v14912
  let v14920 : BitVec 32 := Scalar.select v14918 v14919 v14913
  let c1_i32_9230 : BitVec 32 := 1#32
  let c2_i32_9229 : BitVec 32 := 2#32
  let v14923 : BitVec 32 := Scalar.muli c2_i32_9229 v94
  let v14924 : BitVec 32 := Scalar.subi c1_i32_9230 v14923
  let v14925 : BitVec 32 := Scalar.muli v14920 v14924
  let v14926 : BitVec 32 := Scalar.addi v14922 v14925
  let v14928 : BitVec 32 := Scalar.addi v14927 v14926
  let c1_i32_9236 : BitVec 32 := 1#32
  let v14929 : BitVec 32 := Scalar.muli v14928 c1_i32_9236
  let v14930 : BitVec 32 := Scalar.addi c0_i32_9237 v14929
  v14930.toNat
def k0_dev138 (d0 : Dev nD) : Nat :=
  let c0_i32_9277 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c11_i32_9241 : BitVec 32 := 11#32
  let v14937 : BitVec 32 := Scalar.addi v96 c11_i32_9241
  let c16_i32_9242 : BitVec 32 := 16#32
  let c0_i32_9243 : BitVec 32 := 0#32
  let v14938 : BitVec 1 := Scalar.cmpi .eq c16_i32_9242 c0_i32_9243
  let c1_i32_9244 : BitVec 32 := 1#32
  let v14939 : BitVec 32 := Scalar.select v14938 c1_i32_9244 c16_i32_9242
  let v14940 : BitVec 32 := Scalar.remsi v14937 v14939
  let c0_i32_9246 : BitVec 32 := 0#32
  let v14942 : BitVec 1 := Scalar.cmpi .slt v14940 c0_i32_9246
  let c0_i32_9247 : BitVec 32 := 0#32
  let v14943 : BitVec 1 := Scalar.cmpi .slt v14939 c0_i32_9247
  let v14944 : BitVec 1 := Scalar.xori v14942 v14943
  let c0_i32_9245 : BitVec 32 := 0#32
  let v14941 : BitVec 1 := Scalar.cmpi .ne v14940 c0_i32_9245
  let v14945 : BitVec 1 := Scalar.andi v14944 v14941
  let v14946 : BitVec 32 := Scalar.addi v14940 v14939
  let v14947 : BitVec 32 := Scalar.select v14945 v14946 v14940
  let c0_i32_9250 : BitVec 32 := 0#32
  let v14950 : BitVec 1 := Scalar.cmpi .sgt v14947 c0_i32_9250
  let v14951 : BitVec 32 := Scalar.extui v14950
  let c0_i32_9251 : BitVec 32 := 0#32
  let v14952 : BitVec 1 := Scalar.cmpi .slt v14947 c0_i32_9251
  let v14953 : BitVec 32 := Scalar.extui v14952
  let v14954 : BitVec 32 := Scalar.subi v14951 v14953
  let c4_i32_9249 : BitVec 32 := 4#32
  let c0_i32_9252 : BitVec 32 := 0#32
  let v14955 : BitVec 1 := Scalar.cmpi .sgt c4_i32_9249 c0_i32_9252
  let v14956 : BitVec 32 := Scalar.extui v14955
  let c0_i32_9253 : BitVec 32 := 0#32
  let v14957 : BitVec 1 := Scalar.cmpi .slt c4_i32_9249 c0_i32_9253
  let v14958 : BitVec 32 := Scalar.extui v14957
  let v14959 : BitVec 32 := Scalar.subi v14956 v14958
  let v14960 : BitVec 1 := Scalar.cmpi .ne v14954 v14959
  let v14961 : BitVec 32 := Scalar.remsi v14947 c4_i32_9249
  let c0_i32_9254 : BitVec 32 := 0#32
  let v14962 : BitVec 1 := Scalar.cmpi .ne v14961 c0_i32_9254
  let v14963 : BitVec 1 := Scalar.andi v14960 v14962
  let v14949 : BitVec 32 := Scalar.divsi v14947 c4_i32_9249
  let c1_i32_9255 : BitVec 32 := 1#32
  let v14964 : BitVec 32 := Scalar.subi v14949 c1_i32_9255
  let v14965 : BitVec 32 := Scalar.select v14963 v14964 v14949
  let c8_i32_9271 : BitVec 32 := 8#32
  let v14992 : BitVec 32 := Scalar.muli v14965 c8_i32_9271
  let c2_i32_9268 : BitVec 32 := 2#32
  let c4_i32_9256 : BitVec 32 := 4#32
  let c0_i32_9257 : BitVec 32 := 0#32
  let v14966 : BitVec 1 := Scalar.cmpi .eq c4_i32_9256 c0_i32_9257
  let c1_i32_9258 : BitVec 32 := 1#32
  let v14967 : BitVec 32 := Scalar.select v14966 c1_i32_9258 c4_i32_9256
  let v14968 : BitVec 32 := Scalar.remsi v14947 v14967
  let c0_i32_9260 : BitVec 32 := 0#32
  let v14970 : BitVec 1 := Scalar.cmpi .slt v14968 c0_i32_9260
  let c0_i32_9261 : BitVec 32 := 0#32
  let v14971 : BitVec 1 := Scalar.cmpi .slt v14967 c0_i32_9261
  let v14972 : BitVec 1 := Scalar.xori v14970 v14971
  let c0_i32_9259 : BitVec 32 := 0#32
  let v14969 : BitVec 1 := Scalar.cmpi .ne v14968 c0_i32_9259
  let v14973 : BitVec 1 := Scalar.andi v14972 v14969
  let v14974 : BitVec 32 := Scalar.addi v14968 v14967
  let v14975 : BitVec 32 := Scalar.select v14973 v14974 v14968
  let v14986 : BitVec 32 := Scalar.muli c2_i32_9268 v14975
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v14987 : BitVec 32 := Scalar.addi v14986 v94
  let c2_i32_9262 : BitVec 32 := 2#32
  let c0_i32_9263 : BitVec 32 := 0#32
  let v14976 : BitVec 1 := Scalar.cmpi .eq c2_i32_9262 c0_i32_9263
  let c1_i32_9264 : BitVec 32 := 1#32
  let v14977 : BitVec 32 := Scalar.select v14976 c1_i32_9264 c2_i32_9262
  let v14978 : BitVec 32 := Scalar.remsi v14975 v14977
  let c0_i32_9266 : BitVec 32 := 0#32
  let v14980 : BitVec 1 := Scalar.cmpi .slt v14978 c0_i32_9266
  let c0_i32_9267 : BitVec 32 := 0#32
  let v14981 : BitVec 1 := Scalar.cmpi .slt v14977 c0_i32_9267
  let v14982 : BitVec 1 := Scalar.xori v14980 v14981
  let c0_i32_9265 : BitVec 32 := 0#32
  let v14979 : BitVec 1 := Scalar.cmpi .ne v14978 c0_i32_9265
  let v14983 : BitVec 1 := Scalar.andi v14982 v14979
  let v14984 : BitVec 32 := Scalar.addi v14978 v14977
  let v14985 : BitVec 32 := Scalar.select v14983 v14984 v14978
  let c1_i32_9270 : BitVec 32 := 1#32
  let c2_i32_9269 : BitVec 32 := 2#32
  let v14988 : BitVec 32 := Scalar.muli c2_i32_9269 v94
  let v14989 : BitVec 32 := Scalar.subi c1_i32_9270 v14988
  let v14990 : BitVec 32 := Scalar.muli v14985 v14989
  let v14991 : BitVec 32 := Scalar.addi v14987 v14990
  let v14993 : BitVec 32 := Scalar.addi v14992 v14991
  let c1_i32_9276 : BitVec 32 := 1#32
  let v14994 : BitVec 32 := Scalar.muli v14993 c1_i32_9276
  let v14995 : BitVec 32 := Scalar.addi c0_i32_9277 v14994
  v14995.toNat
def k0_dev139 (d0 : Dev nD) : Nat :=
  let c0_i32_9317 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c12_i32_9281 : BitVec 32 := 12#32
  let v15002 : BitVec 32 := Scalar.addi v96 c12_i32_9281
  let c16_i32_9282 : BitVec 32 := 16#32
  let c0_i32_9283 : BitVec 32 := 0#32
  let v15003 : BitVec 1 := Scalar.cmpi .eq c16_i32_9282 c0_i32_9283
  let c1_i32_9284 : BitVec 32 := 1#32
  let v15004 : BitVec 32 := Scalar.select v15003 c1_i32_9284 c16_i32_9282
  let v15005 : BitVec 32 := Scalar.remsi v15002 v15004
  let c0_i32_9286 : BitVec 32 := 0#32
  let v15007 : BitVec 1 := Scalar.cmpi .slt v15005 c0_i32_9286
  let c0_i32_9287 : BitVec 32 := 0#32
  let v15008 : BitVec 1 := Scalar.cmpi .slt v15004 c0_i32_9287
  let v15009 : BitVec 1 := Scalar.xori v15007 v15008
  let c0_i32_9285 : BitVec 32 := 0#32
  let v15006 : BitVec 1 := Scalar.cmpi .ne v15005 c0_i32_9285
  let v15010 : BitVec 1 := Scalar.andi v15009 v15006
  let v15011 : BitVec 32 := Scalar.addi v15005 v15004
  let v15012 : BitVec 32 := Scalar.select v15010 v15011 v15005
  let c0_i32_9290 : BitVec 32 := 0#32
  let v15015 : BitVec 1 := Scalar.cmpi .sgt v15012 c0_i32_9290
  let v15016 : BitVec 32 := Scalar.extui v15015
  let c0_i32_9291 : BitVec 32 := 0#32
  let v15017 : BitVec 1 := Scalar.cmpi .slt v15012 c0_i32_9291
  let v15018 : BitVec 32 := Scalar.extui v15017
  let v15019 : BitVec 32 := Scalar.subi v15016 v15018
  let c4_i32_9289 : BitVec 32 := 4#32
  let c0_i32_9292 : BitVec 32 := 0#32
  let v15020 : BitVec 1 := Scalar.cmpi .sgt c4_i32_9289 c0_i32_9292
  let v15021 : BitVec 32 := Scalar.extui v15020
  let c0_i32_9293 : BitVec 32 := 0#32
  let v15022 : BitVec 1 := Scalar.cmpi .slt c4_i32_9289 c0_i32_9293
  let v15023 : BitVec 32 := Scalar.extui v15022
  let v15024 : BitVec 32 := Scalar.subi v15021 v15023
  let v15025 : BitVec 1 := Scalar.cmpi .ne v15019 v15024
  let v15026 : BitVec 32 := Scalar.remsi v15012 c4_i32_9289
  let c0_i32_9294 : BitVec 32 := 0#32
  let v15027 : BitVec 1 := Scalar.cmpi .ne v15026 c0_i32_9294
  let v15028 : BitVec 1 := Scalar.andi v15025 v15027
  let v15014 : BitVec 32 := Scalar.divsi v15012 c4_i32_9289
  let c1_i32_9295 : BitVec 32 := 1#32
  let v15029 : BitVec 32 := Scalar.subi v15014 c1_i32_9295
  let v15030 : BitVec 32 := Scalar.select v15028 v15029 v15014
  let c8_i32_9311 : BitVec 32 := 8#32
  let v15057 : BitVec 32 := Scalar.muli v15030 c8_i32_9311
  let c2_i32_9308 : BitVec 32 := 2#32
  let c4_i32_9296 : BitVec 32 := 4#32
  let c0_i32_9297 : BitVec 32 := 0#32
  let v15031 : BitVec 1 := Scalar.cmpi .eq c4_i32_9296 c0_i32_9297
  let c1_i32_9298 : BitVec 32 := 1#32
  let v15032 : BitVec 32 := Scalar.select v15031 c1_i32_9298 c4_i32_9296
  let v15033 : BitVec 32 := Scalar.remsi v15012 v15032
  let c0_i32_9300 : BitVec 32 := 0#32
  let v15035 : BitVec 1 := Scalar.cmpi .slt v15033 c0_i32_9300
  let c0_i32_9301 : BitVec 32 := 0#32
  let v15036 : BitVec 1 := Scalar.cmpi .slt v15032 c0_i32_9301
  let v15037 : BitVec 1 := Scalar.xori v15035 v15036
  let c0_i32_9299 : BitVec 32 := 0#32
  let v15034 : BitVec 1 := Scalar.cmpi .ne v15033 c0_i32_9299
  let v15038 : BitVec 1 := Scalar.andi v15037 v15034
  let v15039 : BitVec 32 := Scalar.addi v15033 v15032
  let v15040 : BitVec 32 := Scalar.select v15038 v15039 v15033
  let v15051 : BitVec 32 := Scalar.muli c2_i32_9308 v15040
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v15052 : BitVec 32 := Scalar.addi v15051 v94
  let c2_i32_9302 : BitVec 32 := 2#32
  let c0_i32_9303 : BitVec 32 := 0#32
  let v15041 : BitVec 1 := Scalar.cmpi .eq c2_i32_9302 c0_i32_9303
  let c1_i32_9304 : BitVec 32 := 1#32
  let v15042 : BitVec 32 := Scalar.select v15041 c1_i32_9304 c2_i32_9302
  let v15043 : BitVec 32 := Scalar.remsi v15040 v15042
  let c0_i32_9306 : BitVec 32 := 0#32
  let v15045 : BitVec 1 := Scalar.cmpi .slt v15043 c0_i32_9306
  let c0_i32_9307 : BitVec 32 := 0#32
  let v15046 : BitVec 1 := Scalar.cmpi .slt v15042 c0_i32_9307
  let v15047 : BitVec 1 := Scalar.xori v15045 v15046
  let c0_i32_9305 : BitVec 32 := 0#32
  let v15044 : BitVec 1 := Scalar.cmpi .ne v15043 c0_i32_9305
  let v15048 : BitVec 1 := Scalar.andi v15047 v15044
  let v15049 : BitVec 32 := Scalar.addi v15043 v15042
  let v15050 : BitVec 32 := Scalar.select v15048 v15049 v15043
  let c1_i32_9310 : BitVec 32 := 1#32
  let c2_i32_9309 : BitVec 32 := 2#32
  let v15053 : BitVec 32 := Scalar.muli c2_i32_9309 v94
  let v15054 : BitVec 32 := Scalar.subi c1_i32_9310 v15053
  let v15055 : BitVec 32 := Scalar.muli v15050 v15054
  let v15056 : BitVec 32 := Scalar.addi v15052 v15055
  let v15058 : BitVec 32 := Scalar.addi v15057 v15056
  let c1_i32_9316 : BitVec 32 := 1#32
  let v15059 : BitVec 32 := Scalar.muli v15058 c1_i32_9316
  let v15060 : BitVec 32 := Scalar.addi c0_i32_9317 v15059
  v15060.toNat
def k0_dev140 (d0 : Dev nD) : Nat :=
  let c0_i32_9357 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c13_i32_9321 : BitVec 32 := 13#32
  let v15067 : BitVec 32 := Scalar.addi v96 c13_i32_9321
  let c16_i32_9322 : BitVec 32 := 16#32
  let c0_i32_9323 : BitVec 32 := 0#32
  let v15068 : BitVec 1 := Scalar.cmpi .eq c16_i32_9322 c0_i32_9323
  let c1_i32_9324 : BitVec 32 := 1#32
  let v15069 : BitVec 32 := Scalar.select v15068 c1_i32_9324 c16_i32_9322
  let v15070 : BitVec 32 := Scalar.remsi v15067 v15069
  let c0_i32_9326 : BitVec 32 := 0#32
  let v15072 : BitVec 1 := Scalar.cmpi .slt v15070 c0_i32_9326
  let c0_i32_9327 : BitVec 32 := 0#32
  let v15073 : BitVec 1 := Scalar.cmpi .slt v15069 c0_i32_9327
  let v15074 : BitVec 1 := Scalar.xori v15072 v15073
  let c0_i32_9325 : BitVec 32 := 0#32
  let v15071 : BitVec 1 := Scalar.cmpi .ne v15070 c0_i32_9325
  let v15075 : BitVec 1 := Scalar.andi v15074 v15071
  let v15076 : BitVec 32 := Scalar.addi v15070 v15069
  let v15077 : BitVec 32 := Scalar.select v15075 v15076 v15070
  let c0_i32_9330 : BitVec 32 := 0#32
  let v15080 : BitVec 1 := Scalar.cmpi .sgt v15077 c0_i32_9330
  let v15081 : BitVec 32 := Scalar.extui v15080
  let c0_i32_9331 : BitVec 32 := 0#32
  let v15082 : BitVec 1 := Scalar.cmpi .slt v15077 c0_i32_9331
  let v15083 : BitVec 32 := Scalar.extui v15082
  let v15084 : BitVec 32 := Scalar.subi v15081 v15083
  let c4_i32_9329 : BitVec 32 := 4#32
  let c0_i32_9332 : BitVec 32 := 0#32
  let v15085 : BitVec 1 := Scalar.cmpi .sgt c4_i32_9329 c0_i32_9332
  let v15086 : BitVec 32 := Scalar.extui v15085
  let c0_i32_9333 : BitVec 32 := 0#32
  let v15087 : BitVec 1 := Scalar.cmpi .slt c4_i32_9329 c0_i32_9333
  let v15088 : BitVec 32 := Scalar.extui v15087
  let v15089 : BitVec 32 := Scalar.subi v15086 v15088
  let v15090 : BitVec 1 := Scalar.cmpi .ne v15084 v15089
  let v15091 : BitVec 32 := Scalar.remsi v15077 c4_i32_9329
  let c0_i32_9334 : BitVec 32 := 0#32
  let v15092 : BitVec 1 := Scalar.cmpi .ne v15091 c0_i32_9334
  let v15093 : BitVec 1 := Scalar.andi v15090 v15092
  let v15079 : BitVec 32 := Scalar.divsi v15077 c4_i32_9329
  let c1_i32_9335 : BitVec 32 := 1#32
  let v15094 : BitVec 32 := Scalar.subi v15079 c1_i32_9335
  let v15095 : BitVec 32 := Scalar.select v15093 v15094 v15079
  let c8_i32_9351 : BitVec 32 := 8#32
  let v15122 : BitVec 32 := Scalar.muli v15095 c8_i32_9351
  let c2_i32_9348 : BitVec 32 := 2#32
  let c4_i32_9336 : BitVec 32 := 4#32
  let c0_i32_9337 : BitVec 32 := 0#32
  let v15096 : BitVec 1 := Scalar.cmpi .eq c4_i32_9336 c0_i32_9337
  let c1_i32_9338 : BitVec 32 := 1#32
  let v15097 : BitVec 32 := Scalar.select v15096 c1_i32_9338 c4_i32_9336
  let v15098 : BitVec 32 := Scalar.remsi v15077 v15097
  let c0_i32_9340 : BitVec 32 := 0#32
  let v15100 : BitVec 1 := Scalar.cmpi .slt v15098 c0_i32_9340
  let c0_i32_9341 : BitVec 32 := 0#32
  let v15101 : BitVec 1 := Scalar.cmpi .slt v15097 c0_i32_9341
  let v15102 : BitVec 1 := Scalar.xori v15100 v15101
  let c0_i32_9339 : BitVec 32 := 0#32
  let v15099 : BitVec 1 := Scalar.cmpi .ne v15098 c0_i32_9339
  let v15103 : BitVec 1 := Scalar.andi v15102 v15099
  let v15104 : BitVec 32 := Scalar.addi v15098 v15097
  let v15105 : BitVec 32 := Scalar.select v15103 v15104 v15098
  let v15116 : BitVec 32 := Scalar.muli c2_i32_9348 v15105
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v15117 : BitVec 32 := Scalar.addi v15116 v94
  let c2_i32_9342 : BitVec 32 := 2#32
  let c0_i32_9343 : BitVec 32 := 0#32
  let v15106 : BitVec 1 := Scalar.cmpi .eq c2_i32_9342 c0_i32_9343
  let c1_i32_9344 : BitVec 32 := 1#32
  let v15107 : BitVec 32 := Scalar.select v15106 c1_i32_9344 c2_i32_9342
  let v15108 : BitVec 32 := Scalar.remsi v15105 v15107
  let c0_i32_9346 : BitVec 32 := 0#32
  let v15110 : BitVec 1 := Scalar.cmpi .slt v15108 c0_i32_9346
  let c0_i32_9347 : BitVec 32 := 0#32
  let v15111 : BitVec 1 := Scalar.cmpi .slt v15107 c0_i32_9347
  let v15112 : BitVec 1 := Scalar.xori v15110 v15111
  let c0_i32_9345 : BitVec 32 := 0#32
  let v15109 : BitVec 1 := Scalar.cmpi .ne v15108 c0_i32_9345
  let v15113 : BitVec 1 := Scalar.andi v15112 v15109
  let v15114 : BitVec 32 := Scalar.addi v15108 v15107
  let v15115 : BitVec 32 := Scalar.select v15113 v15114 v15108
  let c1_i32_9350 : BitVec 32 := 1#32
  let c2_i32_9349 : BitVec 32 := 2#32
  let v15118 : BitVec 32 := Scalar.muli c2_i32_9349 v94
  let v15119 : BitVec 32 := Scalar.subi c1_i32_9350 v15118
  let v15120 : BitVec 32 := Scalar.muli v15115 v15119
  let v15121 : BitVec 32 := Scalar.addi v15117 v15120
  let v15123 : BitVec 32 := Scalar.addi v15122 v15121
  let c1_i32_9356 : BitVec 32 := 1#32
  let v15124 : BitVec 32 := Scalar.muli v15123 c1_i32_9356
  let v15125 : BitVec 32 := Scalar.addi c0_i32_9357 v15124
  v15125.toNat
def k0_dev141 (d0 : Dev nD) : Nat :=
  let c0_i32_9397 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c14_i32_9361 : BitVec 32 := 14#32
  let v15132 : BitVec 32 := Scalar.addi v96 c14_i32_9361
  let c16_i32_9362 : BitVec 32 := 16#32
  let c0_i32_9363 : BitVec 32 := 0#32
  let v15133 : BitVec 1 := Scalar.cmpi .eq c16_i32_9362 c0_i32_9363
  let c1_i32_9364 : BitVec 32 := 1#32
  let v15134 : BitVec 32 := Scalar.select v15133 c1_i32_9364 c16_i32_9362
  let v15135 : BitVec 32 := Scalar.remsi v15132 v15134
  let c0_i32_9366 : BitVec 32 := 0#32
  let v15137 : BitVec 1 := Scalar.cmpi .slt v15135 c0_i32_9366
  let c0_i32_9367 : BitVec 32 := 0#32
  let v15138 : BitVec 1 := Scalar.cmpi .slt v15134 c0_i32_9367
  let v15139 : BitVec 1 := Scalar.xori v15137 v15138
  let c0_i32_9365 : BitVec 32 := 0#32
  let v15136 : BitVec 1 := Scalar.cmpi .ne v15135 c0_i32_9365
  let v15140 : BitVec 1 := Scalar.andi v15139 v15136
  let v15141 : BitVec 32 := Scalar.addi v15135 v15134
  let v15142 : BitVec 32 := Scalar.select v15140 v15141 v15135
  let c0_i32_9370 : BitVec 32 := 0#32
  let v15145 : BitVec 1 := Scalar.cmpi .sgt v15142 c0_i32_9370
  let v15146 : BitVec 32 := Scalar.extui v15145
  let c0_i32_9371 : BitVec 32 := 0#32
  let v15147 : BitVec 1 := Scalar.cmpi .slt v15142 c0_i32_9371
  let v15148 : BitVec 32 := Scalar.extui v15147
  let v15149 : BitVec 32 := Scalar.subi v15146 v15148
  let c4_i32_9369 : BitVec 32 := 4#32
  let c0_i32_9372 : BitVec 32 := 0#32
  let v15150 : BitVec 1 := Scalar.cmpi .sgt c4_i32_9369 c0_i32_9372
  let v15151 : BitVec 32 := Scalar.extui v15150
  let c0_i32_9373 : BitVec 32 := 0#32
  let v15152 : BitVec 1 := Scalar.cmpi .slt c4_i32_9369 c0_i32_9373
  let v15153 : BitVec 32 := Scalar.extui v15152
  let v15154 : BitVec 32 := Scalar.subi v15151 v15153
  let v15155 : BitVec 1 := Scalar.cmpi .ne v15149 v15154
  let v15156 : BitVec 32 := Scalar.remsi v15142 c4_i32_9369
  let c0_i32_9374 : BitVec 32 := 0#32
  let v15157 : BitVec 1 := Scalar.cmpi .ne v15156 c0_i32_9374
  let v15158 : BitVec 1 := Scalar.andi v15155 v15157
  let v15144 : BitVec 32 := Scalar.divsi v15142 c4_i32_9369
  let c1_i32_9375 : BitVec 32 := 1#32
  let v15159 : BitVec 32 := Scalar.subi v15144 c1_i32_9375
  let v15160 : BitVec 32 := Scalar.select v15158 v15159 v15144
  let c8_i32_9391 : BitVec 32 := 8#32
  let v15187 : BitVec 32 := Scalar.muli v15160 c8_i32_9391
  let c2_i32_9388 : BitVec 32 := 2#32
  let c4_i32_9376 : BitVec 32 := 4#32
  let c0_i32_9377 : BitVec 32 := 0#32
  let v15161 : BitVec 1 := Scalar.cmpi .eq c4_i32_9376 c0_i32_9377
  let c1_i32_9378 : BitVec 32 := 1#32
  let v15162 : BitVec 32 := Scalar.select v15161 c1_i32_9378 c4_i32_9376
  let v15163 : BitVec 32 := Scalar.remsi v15142 v15162
  let c0_i32_9380 : BitVec 32 := 0#32
  let v15165 : BitVec 1 := Scalar.cmpi .slt v15163 c0_i32_9380
  let c0_i32_9381 : BitVec 32 := 0#32
  let v15166 : BitVec 1 := Scalar.cmpi .slt v15162 c0_i32_9381
  let v15167 : BitVec 1 := Scalar.xori v15165 v15166
  let c0_i32_9379 : BitVec 32 := 0#32
  let v15164 : BitVec 1 := Scalar.cmpi .ne v15163 c0_i32_9379
  let v15168 : BitVec 1 := Scalar.andi v15167 v15164
  let v15169 : BitVec 32 := Scalar.addi v15163 v15162
  let v15170 : BitVec 32 := Scalar.select v15168 v15169 v15163
  let v15181 : BitVec 32 := Scalar.muli c2_i32_9388 v15170
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v15182 : BitVec 32 := Scalar.addi v15181 v94
  let c2_i32_9382 : BitVec 32 := 2#32
  let c0_i32_9383 : BitVec 32 := 0#32
  let v15171 : BitVec 1 := Scalar.cmpi .eq c2_i32_9382 c0_i32_9383
  let c1_i32_9384 : BitVec 32 := 1#32
  let v15172 : BitVec 32 := Scalar.select v15171 c1_i32_9384 c2_i32_9382
  let v15173 : BitVec 32 := Scalar.remsi v15170 v15172
  let c0_i32_9386 : BitVec 32 := 0#32
  let v15175 : BitVec 1 := Scalar.cmpi .slt v15173 c0_i32_9386
  let c0_i32_9387 : BitVec 32 := 0#32
  let v15176 : BitVec 1 := Scalar.cmpi .slt v15172 c0_i32_9387
  let v15177 : BitVec 1 := Scalar.xori v15175 v15176
  let c0_i32_9385 : BitVec 32 := 0#32
  let v15174 : BitVec 1 := Scalar.cmpi .ne v15173 c0_i32_9385
  let v15178 : BitVec 1 := Scalar.andi v15177 v15174
  let v15179 : BitVec 32 := Scalar.addi v15173 v15172
  let v15180 : BitVec 32 := Scalar.select v15178 v15179 v15173
  let c1_i32_9390 : BitVec 32 := 1#32
  let c2_i32_9389 : BitVec 32 := 2#32
  let v15183 : BitVec 32 := Scalar.muli c2_i32_9389 v94
  let v15184 : BitVec 32 := Scalar.subi c1_i32_9390 v15183
  let v15185 : BitVec 32 := Scalar.muli v15180 v15184
  let v15186 : BitVec 32 := Scalar.addi v15182 v15185
  let v15188 : BitVec 32 := Scalar.addi v15187 v15186
  let c1_i32_9396 : BitVec 32 := 1#32
  let v15189 : BitVec 32 := Scalar.muli v15188 c1_i32_9396
  let v15190 : BitVec 32 := Scalar.addi c0_i32_9397 v15189
  v15190.toNat
def k0_dev142 (d0 : Dev nD) : Nat :=
  let c0_i32_9437 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_41 : BitVec 32 := 4#32
  let v95 : BitVec 32 := Scalar.muli v19 c4_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v96 : BitVec 32 := Scalar.addi v95 v46
  let c15_i32_9401 : BitVec 32 := 15#32
  let v15197 : BitVec 32 := Scalar.addi v96 c15_i32_9401
  let c16_i32_9402 : BitVec 32 := 16#32
  let c0_i32_9403 : BitVec 32 := 0#32
  let v15198 : BitVec 1 := Scalar.cmpi .eq c16_i32_9402 c0_i32_9403
  let c1_i32_9404 : BitVec 32 := 1#32
  let v15199 : BitVec 32 := Scalar.select v15198 c1_i32_9404 c16_i32_9402
  let v15200 : BitVec 32 := Scalar.remsi v15197 v15199
  let c0_i32_9406 : BitVec 32 := 0#32
  let v15202 : BitVec 1 := Scalar.cmpi .slt v15200 c0_i32_9406
  let c0_i32_9407 : BitVec 32 := 0#32
  let v15203 : BitVec 1 := Scalar.cmpi .slt v15199 c0_i32_9407
  let v15204 : BitVec 1 := Scalar.xori v15202 v15203
  let c0_i32_9405 : BitVec 32 := 0#32
  let v15201 : BitVec 1 := Scalar.cmpi .ne v15200 c0_i32_9405
  let v15205 : BitVec 1 := Scalar.andi v15204 v15201
  let v15206 : BitVec 32 := Scalar.addi v15200 v15199
  let v15207 : BitVec 32 := Scalar.select v15205 v15206 v15200
  let c0_i32_9410 : BitVec 32 := 0#32
  let v15210 : BitVec 1 := Scalar.cmpi .sgt v15207 c0_i32_9410
  let v15211 : BitVec 32 := Scalar.extui v15210
  let c0_i32_9411 : BitVec 32 := 0#32
  let v15212 : BitVec 1 := Scalar.cmpi .slt v15207 c0_i32_9411
  let v15213 : BitVec 32 := Scalar.extui v15212
  let v15214 : BitVec 32 := Scalar.subi v15211 v15213
  let c4_i32_9409 : BitVec 32 := 4#32
  let c0_i32_9412 : BitVec 32 := 0#32
  let v15215 : BitVec 1 := Scalar.cmpi .sgt c4_i32_9409 c0_i32_9412
  let v15216 : BitVec 32 := Scalar.extui v15215
  let c0_i32_9413 : BitVec 32 := 0#32
  let v15217 : BitVec 1 := Scalar.cmpi .slt c4_i32_9409 c0_i32_9413
  let v15218 : BitVec 32 := Scalar.extui v15217
  let v15219 : BitVec 32 := Scalar.subi v15216 v15218
  let v15220 : BitVec 1 := Scalar.cmpi .ne v15214 v15219
  let v15221 : BitVec 32 := Scalar.remsi v15207 c4_i32_9409
  let c0_i32_9414 : BitVec 32 := 0#32
  let v15222 : BitVec 1 := Scalar.cmpi .ne v15221 c0_i32_9414
  let v15223 : BitVec 1 := Scalar.andi v15220 v15222
  let v15209 : BitVec 32 := Scalar.divsi v15207 c4_i32_9409
  let c1_i32_9415 : BitVec 32 := 1#32
  let v15224 : BitVec 32 := Scalar.subi v15209 c1_i32_9415
  let v15225 : BitVec 32 := Scalar.select v15223 v15224 v15209
  let c8_i32_9431 : BitVec 32 := 8#32
  let v15252 : BitVec 32 := Scalar.muli v15225 c8_i32_9431
  let c2_i32_9428 : BitVec 32 := 2#32
  let c4_i32_9416 : BitVec 32 := 4#32
  let c0_i32_9417 : BitVec 32 := 0#32
  let v15226 : BitVec 1 := Scalar.cmpi .eq c4_i32_9416 c0_i32_9417
  let c1_i32_9418 : BitVec 32 := 1#32
  let v15227 : BitVec 32 := Scalar.select v15226 c1_i32_9418 c4_i32_9416
  let v15228 : BitVec 32 := Scalar.remsi v15207 v15227
  let c0_i32_9420 : BitVec 32 := 0#32
  let v15230 : BitVec 1 := Scalar.cmpi .slt v15228 c0_i32_9420
  let c0_i32_9421 : BitVec 32 := 0#32
  let v15231 : BitVec 1 := Scalar.cmpi .slt v15227 c0_i32_9421
  let v15232 : BitVec 1 := Scalar.xori v15230 v15231
  let c0_i32_9419 : BitVec 32 := 0#32
  let v15229 : BitVec 1 := Scalar.cmpi .ne v15228 c0_i32_9419
  let v15233 : BitVec 1 := Scalar.andi v15232 v15229
  let v15234 : BitVec 32 := Scalar.addi v15228 v15227
  let v15235 : BitVec 32 := Scalar.select v15233 v15234 v15228
  let v15246 : BitVec 32 := Scalar.muli c2_i32_9428 v15235
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v15247 : BitVec 32 := Scalar.addi v15246 v94
  let c2_i32_9422 : BitVec 32 := 2#32
  let c0_i32_9423 : BitVec 32 := 0#32
  let v15236 : BitVec 1 := Scalar.cmpi .eq c2_i32_9422 c0_i32_9423
  let c1_i32_9424 : BitVec 32 := 1#32
  let v15237 : BitVec 32 := Scalar.select v15236 c1_i32_9424 c2_i32_9422
  let v15238 : BitVec 32 := Scalar.remsi v15235 v15237
  let c0_i32_9426 : BitVec 32 := 0#32
  let v15240 : BitVec 1 := Scalar.cmpi .slt v15238 c0_i32_9426
  let c0_i32_9427 : BitVec 32 := 0#32
  let v15241 : BitVec 1 := Scalar.cmpi .slt v15237 c0_i32_9427
  let v15242 : BitVec 1 := Scalar.xori v15240 v15241
  let c0_i32_9425 : BitVec 32 := 0#32
  let v15239 : BitVec 1 := Scalar.cmpi .ne v15238 c0_i32_9425
  let v15243 : BitVec 1 := Scalar.andi v15242 v15239
  let v15244 : BitVec 32 := Scalar.addi v15238 v15237
  let v15245 : BitVec 32 := Scalar.select v15243 v15244 v15238
  let c1_i32_9430 : BitVec 32 := 1#32
  let c2_i32_9429 : BitVec 32 := 2#32
  let v15248 : BitVec 32 := Scalar.muli c2_i32_9429 v94
  let v15249 : BitVec 32 := Scalar.subi c1_i32_9430 v15248
  let v15250 : BitVec 32 := Scalar.muli v15245 v15249
  let v15251 : BitVec 32 := Scalar.addi v15247 v15250
  let v15253 : BitVec 32 := Scalar.addi v15252 v15251
  let c1_i32_9436 : BitVec 32 := 1#32
  let v15254 : BitVec 32 := Scalar.muli v15253 c1_i32_9436
  let v15255 : BitVec 32 := Scalar.addi c0_i32_9437 v15254
  v15255.toNat
def k0_off31 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let c512_i32 : BitVec 32 := 512#32
  let v97 : BitVec 32 := Scalar.muli v94 c512_i32
  let c512_i32_10049 : BitVec 32 := 512#32
  ![v97.toNat, 512]
def k0_dev143 (d0 : Dev nD) : Nat :=
  let c0_i32_10048 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_44 : BitVec 32 := 8#32
  let v100 : BitVec 32 := Scalar.muli v19 c8_i32_44
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v101 : BitVec 32 := Scalar.addi v100 v29
  let c1_i32_45 : BitVec 32 := 1#32
  let v102 : BitVec 32 := Scalar.addi v101 c1_i32_45
  let c2_i32_52 : BitVec 32 := 2#32
  let c2_i32_46 : BitVec 32 := 2#32
  let c0_i32_47 : BitVec 32 := 0#32
  let v103 : BitVec 1 := Scalar.cmpi .eq c2_i32_46 c0_i32_47
  let c1_i32_48 : BitVec 32 := 1#32
  let v104 : BitVec 32 := Scalar.select v103 c1_i32_48 c2_i32_46
  let v105 : BitVec 32 := Scalar.remsi v29 v104
  let c0_i32_50 : BitVec 32 := 0#32
  let v107 : BitVec 1 := Scalar.cmpi .slt v105 c0_i32_50
  let c0_i32_51 : BitVec 32 := 0#32
  let v108 : BitVec 1 := Scalar.cmpi .slt v104 c0_i32_51
  let v109 : BitVec 1 := Scalar.xori v107 v108
  let c0_i32_49 : BitVec 32 := 0#32
  let v106 : BitVec 1 := Scalar.cmpi .ne v105 c0_i32_49
  let v110 : BitVec 1 := Scalar.andi v109 v106
  let v111 : BitVec 32 := Scalar.addi v105 v104
  let v112 : BitVec 32 := Scalar.select v110 v111 v105
  let v113 : BitVec 32 := Scalar.muli c2_i32_52 v112
  let v114 : BitVec 32 := Scalar.subi v102 v113
  let c1_i32_10047 : BitVec 32 := 1#32
  let v16213 : BitVec 32 := Scalar.muli v114 c1_i32_10047
  let v16214 : BitVec 32 := Scalar.addi c0_i32_10048 v16213
  v16214.toNat
def k0_off32 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c2_i32_22 : BitVec 32 := 2#32
  let c0_i32_23 : BitVec 32 := 0#32
  let v57 : BitVec 1 := Scalar.cmpi .eq c2_i32_22 c0_i32_23
  let c1_i32_24 : BitVec 32 := 1#32
  let v58 : BitVec 32 := Scalar.select v57 c1_i32_24 c2_i32_22
  let v59 : BitVec 32 := Scalar.remsi v56 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c0_i32_29 : BitVec 32 := 0#32
  let v68 : BitVec 1 := Scalar.cmpi .sgt v56 c0_i32_29
  let v69 : BitVec 32 := Scalar.extui v68
  let c0_i32_30 : BitVec 32 := 0#32
  let v70 : BitVec 1 := Scalar.cmpi .slt v56 c0_i32_30
  let v71 : BitVec 32 := Scalar.extui v70
  let v72 : BitVec 32 := Scalar.subi v69 v71
  let c2_i32_28 : BitVec 32 := 2#32
  let c0_i32_31 : BitVec 32 := 0#32
  let v73 : BitVec 1 := Scalar.cmpi .sgt c2_i32_28 c0_i32_31
  let v74 : BitVec 32 := Scalar.extui v73
  let c0_i32_32 : BitVec 32 := 0#32
  let v75 : BitVec 1 := Scalar.cmpi .slt c2_i32_28 c0_i32_32
  let v76 : BitVec 32 := Scalar.extui v75
  let v77 : BitVec 32 := Scalar.subi v74 v76
  let v78 : BitVec 1 := Scalar.cmpi .ne v72 v77
  let v79 : BitVec 32 := Scalar.remsi v56 c2_i32_28
  let c0_i32_33 : BitVec 32 := 0#32
  let v80 : BitVec 1 := Scalar.cmpi .ne v79 c0_i32_33
  let v81 : BitVec 1 := Scalar.andi v78 v80
  let v67 : BitVec 32 := Scalar.divsi v56 c2_i32_28
  let c1_i32_34 : BitVec 32 := 1#32
  let v82 : BitVec 32 := Scalar.subi v67 c1_i32_34
  let v83 : BitVec 32 := Scalar.select v81 v82 v67
  let v84 : BitVec 32 := Scalar.addi v66 v83
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let c512_i32 : BitVec 32 := 512#32
  let v97 : BitVec 32 := Scalar.muli v94 c512_i32
  let c768_i32_10659 : BitVec 32 := 768#32
  ![v97.toNat, 768]
def k0_dev144 (d0 : Dev nD) : Nat :=
  let c0_i32_10658 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_44 : BitVec 32 := 8#32
  let v100 : BitVec 32 := Scalar.muli v19 c8_i32_44
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v101 : BitVec 32 := Scalar.addi v100 v29
  let c1_i32_45 : BitVec 32 := 1#32
  let v102 : BitVec 32 := Scalar.addi v101 c1_i32_45
  let c2_i32_52 : BitVec 32 := 2#32
  let c2_i32_46 : BitVec 32 := 2#32
  let c0_i32_47 : BitVec 32 := 0#32
  let v103 : BitVec 1 := Scalar.cmpi .eq c2_i32_46 c0_i32_47
  let c1_i32_48 : BitVec 32 := 1#32
  let v104 : BitVec 32 := Scalar.select v103 c1_i32_48 c2_i32_46
  let v105 : BitVec 32 := Scalar.remsi v29 v104
  let c0_i32_50 : BitVec 32 := 0#32
  let v107 : BitVec 1 := Scalar.cmpi .slt v105 c0_i32_50
  let c0_i32_51 : BitVec 32 := 0#32
  let v108 : BitVec 1 := Scalar.cmpi .slt v104 c0_i32_51
  let v109 : BitVec 1 := Scalar.xori v107 v108
  let c0_i32_49 : BitVec 32 := 0#32
  let v106 : BitVec 1 := Scalar.cmpi .ne v105 c0_i32_49
  let v110 : BitVec 1 := Scalar.andi v109 v106
  let v111 : BitVec 32 := Scalar.addi v105 v104
  let v112 : BitVec 32 := Scalar.select v110 v111 v105
  let v113 : BitVec 32 := Scalar.muli c2_i32_52 v112
  let v114 : BitVec 32 := Scalar.subi v102 v113
  let c1_i32_10657 : BitVec 32 := 1#32
  let v17169 : BitVec 32 := Scalar.muli v114 c1_i32_10657
  let v17170 : BitVec 32 := Scalar.addi c0_i32_10658 v17169
  v17170.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x16384 : Shape := ⟨2, ![1024, 16384]⟩
abbrev S16384x1024 : Shape := ⟨2, ![16384, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x16384, .bf16⟩
  | .hbm, ⟨1, _⟩ => ⟨S16384x1024, .bf16⟩
  | .hbm, ⟨2, _⟩ => ⟨S1024x16384, .f32⟩
  | .hbm, ⟨3, _⟩ => ⟨S16384x1024, .f32⟩
  | .hbm, ⟨4, _⟩ => ⟨S1024x1024, .f32⟩
  | .hbm, ⟨5, _⟩ => ⟨S1024x1024, .bf16⟩
  | _, _ => ⟨S1024x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.KernelIdeal.Prog.lean ====
/-
  The kernel's body as loops. One device's body sends, receives and adds in straight-line text; here the same operations,
  in the same order, are written with one step per kind of operation and lists for the repetitions: four column strips,
  fifteen partners of the plane.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions

@[expose] public section

noncomputable section

namespace Cert.KernelIdeal.AllReduce

open Idealize.ShloMosaic Idealize.SL.Sem Cert.KernelIdeal Cert.KernelIdeal.Gen

variable {F : FTy → Type} [FloatOps F]

/-- The device a generated table entry names. -/
abbrev dv (f : Dev nD → ℕ) (h : ∀ d, f d < nD) : Dev nD → Dev nD := fun d => ⟨f d, h d⟩

/-- What the body reads of one column strip: where its accesses lie and whom its copies address, with the evidence that
    each access is inside its buffer and made of whole words. -/
structure Strip where
  /-- Which strip. -/
  s : Fin 4
  /-- The half of the rows the partner keeps, in a [1024, 1024] buffer. -/
  offO : Dev nD → Fin 2 → ℕ
  offO_inb : ∀ d, ∀ a, offO d a + S512x256.size a ≤ S1024x1024.size a
  offO_words : ∀ d, (Rect.unit (s := S1024x1024) (offO d) S512x256.size (offO_inb d)).WholeWords (EltTy.packing .bf16)
  /-- The half of the rows this device keeps, as loaded and stored. -/
  offM : Dev nD → Fin 2 → ℕ
  offM_inb : ∀ d, ∀ a, offM d a + S512x256.size a ≤ S1024x1024.size a
  offM_packed : ∀ d, (Rect.unit (s := S1024x1024) (offM d) S512x256.size (offM_inb d)).PackedRows (EltTy.packing .bf16)
  /-- The same half, as a copy's destination. -/
  offR : Dev nD → Fin 2 → ℕ
  offR_inb : ∀ d, ∀ a, offR d a + S512x256.size a ≤ S1024x1024.size a
  offR_words : ∀ d, (Rect.unit (s := S1024x1024) (offR d) S512x256.size (offR_inb d)).WholeWords (EltTy.packing .bf16)
  /-- The rows of the partner `1 + r` places on, as a copy reads or fills them. -/
  offB : Dev nD → Fin 15 → Fin 2 → ℕ
  offB_inb : ∀ d r, ∀ a, offB d r a + S32x256.size a ≤ S512x1024.size a
  offB_words : ∀ d r, (Rect.unit (s := S512x1024) (offB d r) S32x256.size (offB_inb d r)).WholeWords (EltTy.packing .bf16)
  /-- This device's own rows, as a copy's destination. -/
  offG : Dev nD → Fin 2 → ℕ
  offG_inb : ∀ d, ∀ a, offG d a + S32x256.size a ≤ S512x1024.size a
  offG_words : ∀ d, (Rect.unit (s := S512x1024) (offG d) S32x256.size (offG_inb d)).WholeWords (EltTy.packing .bf16)
  /-- This device's own rows, as loaded and stored. -/
  offL : Dev nD → Fin 2 → ℕ
  offL_inb : ∀ d, ∀ a, offL d a + S32x256.size a ≤ S512x1024.size a
  offL_packed : ∀ d, (Rect.unit (s := S512x1024) (offL d) S32x256.size (offL_inb d)).PackedRows (EltTy.packing .bf16)
  /-- The rows of the partner `1 + r` places on, as loaded. -/
  offT : Dev nD → Fin 15 → Fin 2 → ℕ
  offT_inb : ∀ d r, ∀ a, offT d r a + S32x256.size a ≤ S512x1024.size a
  colH_inb : ∀ a, (![0, 256 * s.val] : Fin 2 → ℕ) a + S512x256.size a ≤ S512x1024.size a
  colH_words : (Rect.unit (s := S512x1024) ![0, 256 * s.val] S512x256.size colH_inb).WholeWords (EltTy.packing .bf16)
  colH_packed : (Rect.unit (s := S512x1024) ![0, 256 * s.val] S512x256.size colH_inb).PackedRows (EltTy.packing .bf16)
  colB_inb : ∀ a, (![0, 256 * s.val] : Fin 2 → ℕ) a + S32x256.size a ≤ S512x1024.size a
  colB_words : (Rect.unit (s := S512x1024) ![0, 256 * s.val] S32x256.size colB_inb).WholeWords (EltTy.packing .bf16)
  colR_inb : ∀ a, (![0, 256 * s.val] : Fin 2 → ℕ) a + S32x256.size a ≤ S32x1024.size a
  colR_words : (Rect.unit (s := S32x1024) ![0, 256 * s.val] S32x256.size colR_inb).WholeWords (EltTy.packing .bf16)
  colR_packed : (Rect.unit (s := S32x1024) ![0, 256 * s.val] S32x256.size colR_inb).PackedRows (EltTy.packing .bf16)
  /-- The partner the first exchange inside the plane addresses in its step `r`. -/
  dev1 : Fin 15 → Dev nD → Dev nD
  /-- The partner the second exchange inside the plane addresses in its step `r`. -/
  dev2 : Fin 15 → Dev nD → Dev nD
  /-- The partner across, of the first exchange. -/
  devX : Dev nD → Dev nD
  /-- The partner across, of the last exchange. -/
  devA : Dev nD → Dev nD

/-- Column strip 0. -/
def strip0 : Strip where
  s := ⟨0, by decide⟩
  offO := k0_off3
  offO_inb := k0_off3_inb
  offO_words := k0_off3_wordsbf16
  offM := k0_off9
  offM_inb := k0_off9_inb
  offM_packed := k0_off9_packedbf16
  offR := k0_off25
  offR_inb := k0_off25_inb
  offR_words := k0_off25_wordsbf16
  offB := fun d r => k0_off11 d (BitVec.ofNat 32 (1 + r.val))
  offB_inb := k0_off11_inb
  offB_words := k0_off11_wordsbf16
  offG := k0_off10
  offG_inb := k0_off10_inb
  offG_words := k0_off10_wordsbf16
  offL := k0_off21
  offL_inb := k0_off21_inb
  offL_packed := k0_off21_packedbf16
  offT := fun d r => k0_off22 d (BitVec.ofNat 32 (1 + r.val))
  offT_inb := k0_off22_inb
  colH_inb := inb_S512x1024_S512x256_0_0
  colH_words := wordsbf16_S512x1024_S512x256_0_0
  colH_packed := packedbf16_S512x1024_S512x256_0_0
  colB_inb := inb_S512x1024_S32x256_0_0
  colB_words := wordsbf16_S512x1024_S32x256_0_0
  colR_inb := inb_S32x1024_S32x256_0_0
  colR_words := wordsbf16_S32x1024_S32x256_0_0
  colR_packed := packedbf16_S32x1024_S32x256_0_0
  dev1 := ![dv k0_dev21 k0_dev21_lt, dv k0_dev22 k0_dev22_lt, dv k0_dev23 k0_dev23_lt, dv k0_dev24 k0_dev24_lt, dv k0_dev25 k0_dev25_lt, dv k0_dev26 k0_dev26_lt, dv k0_dev27 k0_dev27_lt, dv k0_dev28 k0_dev28_lt, dv k0_dev29 k0_dev29_lt, dv k0_dev30 k0_dev30_lt, dv k0_dev31 k0_dev31_lt, dv k0_dev32 k0_dev32_lt, dv k0_dev33 k0_dev33_lt, dv k0_dev34 k0_dev34_lt, dv k0_dev35 k0_dev35_lt]
  dev2 := ![dv k0_dev81 k0_dev81_lt, dv k0_dev82 k0_dev82_lt, dv k0_dev83 k0_dev83_lt, dv k0_dev84 k0_dev84_lt, dv k0_dev85 k0_dev85_lt, dv k0_dev86 k0_dev86_lt, dv k0_dev87 k0_dev87_lt, dv k0_dev88 k0_dev88_lt, dv k0_dev89 k0_dev89_lt, dv k0_dev90 k0_dev90_lt, dv k0_dev91 k0_dev91_lt, dv k0_dev92 k0_dev92_lt, dv k0_dev93 k0_dev93_lt, dv k0_dev94 k0_dev94_lt, dv k0_dev95 k0_dev95_lt]
  devX := dv k0_dev17 k0_dev17_lt
  devA := dv k0_dev111 k0_dev111_lt

/-- Column strip 1. -/
def strip1 : Strip where
  s := ⟨1, by decide⟩
  offO := k0_off4
  offO_inb := k0_off4_inb
  offO_words := k0_off4_wordsbf16
  offM := k0_off12
  offM_inb := k0_off12_inb
  offM_packed := k0_off12_packedbf16
  offR := k0_off28
  offR_inb := k0_off28_inb
  offR_words := k0_off28_wordsbf16
  offB := fun d r => k0_off14 d (BitVec.ofNat 32 (1 + r.val))
  offB_inb := k0_off14_inb
  offB_words := k0_off14_wordsbf16
  offG := k0_off13
  offG_inb := k0_off13_inb
  offG_words := k0_off13_wordsbf16
  offL := k0_off23
  offL_inb := k0_off23_inb
  offL_packed := k0_off23_packedbf16
  offT := fun d r => k0_off24 d (BitVec.ofNat 32 (1 + r.val))
  offT_inb := k0_off24_inb
  colH_inb := inb_S512x1024_S512x256_0_256
  colH_words := wordsbf16_S512x1024_S512x256_0_256
  colH_packed := packedbf16_S512x1024_S512x256_0_256
  colB_inb := inb_S512x1024_S32x256_0_256
  colB_words := wordsbf16_S512x1024_S32x256_0_256
  colR_inb := inb_S32x1024_S32x256_0_256
  colR_words := wordsbf16_S32x1024_S32x256_0_256
  colR_packed := packedbf16_S32x1024_S32x256_0_256
  dev1 := ![dv k0_dev36 k0_dev36_lt, dv k0_dev37 k0_dev37_lt, dv k0_dev38 k0_dev38_lt, dv k0_dev39 k0_dev39_lt, dv k0_dev40 k0_dev40_lt, dv k0_dev41 k0_dev41_lt, dv k0_dev42 k0_dev42_lt, dv k0_dev43 k0_dev43_lt, dv k0_dev44 k0_dev44_lt, dv k0_dev45 k0_dev45_lt, dv k0_dev46 k0_dev46_lt, dv k0_dev47 k0_dev47_lt, dv k0_dev48 k0_dev48_lt, dv k0_dev49 k0_dev49_lt, dv k0_dev50 k0_dev50_lt]
  dev2 := ![dv k0_dev96 k0_dev96_lt, dv k0_dev97 k0_dev97_lt, dv k0_dev98 k0_dev98_lt, dv k0_dev99 k0_dev99_lt, dv k0_dev100 k0_dev100_lt, dv k0_dev101 k0_dev101_lt, dv k0_dev102 k0_dev102_lt, dv k0_dev103 k0_dev103_lt, dv k0_dev104 k0_dev104_lt, dv k0_dev105 k0_dev105_lt, dv k0_dev106 k0_dev106_lt, dv k0_dev107 k0_dev107_lt, dv k0_dev108 k0_dev108_lt, dv k0_dev109 k0_dev109_lt, dv k0_dev110 k0_dev110_lt]
  devX := dv k0_dev18 k0_dev18_lt
  devA := dv k0_dev127 k0_dev127_lt

/-- Column strip 2. -/
def strip2 : Strip where
  s := ⟨2, by decide⟩
  offO := k0_off5
  offO_inb := k0_off5_inb
  offO_words := k0_off5_wordsbf16
  offM := k0_off15
  offM_inb := k0_off15_inb
  offM_packed := k0_off15_packedbf16
  offR := k0_off31
  offR_inb := k0_off31_inb
  offR_words := k0_off31_wordsbf16
  offB := fun d r => k0_off17 d (BitVec.ofNat 32 (1 + r.val))
  offB_inb := k0_off17_inb
  offB_words := k0_off17_wordsbf16
  offG := k0_off16
  offG_inb := k0_off16_inb
  offG_words := k0_off16_wordsbf16
  offL := k0_off26
  offL_inb := k0_off26_inb
  offL_packed := k0_off26_packedbf16
  offT := fun d r => k0_off27 d (BitVec.ofNat 32 (1 + r.val))
  offT_inb := k0_off27_inb
  colH_inb := inb_S512x1024_S512x256_0_512
  colH_words := wordsbf16_S512x1024_S512x256_0_512
  colH_packed := packedbf16_S512x1024_S512x256_0_512
  colB_inb := inb_S512x1024_S32x256_0_512
  colB_words := wordsbf16_S512x1024_S32x256_0_512
  colR_inb := inb_S32x1024_S32x256_0_512
  colR_words := wordsbf16_S32x1024_S32x256_0_512
  colR_packed := packedbf16_S32x1024_S32x256_0_512
  dev1 := ![dv k0_dev51 k0_dev51_lt, dv k0_dev52 k0_dev52_lt, dv k0_dev53 k0_dev53_lt, dv k0_dev54 k0_dev54_lt, dv k0_dev55 k0_dev55_lt, dv k0_dev56 k0_dev56_lt, dv k0_dev57 k0_dev57_lt, dv k0_dev58 k0_dev58_lt, dv k0_dev59 k0_dev59_lt, dv k0_dev60 k0_dev60_lt, dv k0_dev61 k0_dev61_lt, dv k0_dev62 k0_dev62_lt, dv k0_dev63 k0_dev63_lt, dv k0_dev64 k0_dev64_lt, dv k0_dev65 k0_dev65_lt]
  dev2 := ![dv k0_dev112 k0_dev112_lt, dv k0_dev113 k0_dev113_lt, dv k0_dev114 k0_dev114_lt, dv k0_dev115 k0_dev115_lt, dv k0_dev116 k0_dev116_lt, dv k0_dev117 k0_dev117_lt, dv k0_dev118 k0_dev118_lt, dv k0_dev119 k0_dev119_lt, dv k0_dev120 k0_dev120_lt, dv k0_dev121 k0_dev121_lt, dv k0_dev122 k0_dev122_lt, dv k0_dev123 k0_dev123_lt, dv k0_dev124 k0_dev124_lt, dv k0_dev125 k0_dev125_lt, dv k0_dev126 k0_dev126_lt]
  devX := dv k0_dev19 k0_dev19_lt
  devA := dv k0_dev143 k0_dev143_lt

/-- Column strip 3. -/
def strip3 : Strip where
  s := ⟨3, by decide⟩
  offO := k0_off6
  offO_inb := k0_off6_inb
  offO_words := k0_off6_wordsbf16
  offM := k0_off18
  offM_inb := k0_off18_inb
  offM_packed := k0_off18_packedbf16
  offR := k0_off32
  offR_inb := k0_off32_inb
  offR_words := k0_off32_wordsbf16
  offB := fun d r => k0_off20 d (BitVec.ofNat 32 (1 + r.val))
  offB_inb := k0_off20_inb
  offB_words := k0_off20_wordsbf16
  offG := k0_off19
  offG_inb := k0_off19_inb
  offG_words := k0_off19_wordsbf16
  offL := k0_off29
  offL_inb := k0_off29_inb
  offL_packed := k0_off29_packedbf16
  offT := fun d r => k0_off30 d (BitVec.ofNat 32 (1 + r.val))
  offT_inb := k0_off30_inb
  colH_inb := inb_S512x1024_S512x256_0_768
  colH_words := wordsbf16_S512x1024_S512x256_0_768
  colH_packed := packedbf16_S512x1024_S512x256_0_768
  colB_inb := inb_S512x1024_S32x256_0_768
  colB_words := wordsbf16_S512x1024_S32x256_0_768
  colR_inb := inb_S32x1024_S32x256_0_768
  colR_words := wordsbf16_S32x1024_S32x256_0_768
  colR_packed := packedbf16_S32x1024_S32x256_0_768
  dev1 := ![dv k0_dev66 k0_dev66_lt, dv k0_dev67 k0_dev67_lt, dv k0_dev68 k0_dev68_lt, dv k0_dev69 k0_dev69_lt, dv k0_dev70 k0_dev70_lt, dv k0_dev71 k0_dev71_lt, dv k0_dev72 k0_dev72_lt, dv k0_dev73 k0_dev73_lt, dv k0_dev74 k0_dev74_lt, dv k0_dev75 k0_dev75_lt, dv k0_dev76 k0_dev76_lt, dv k0_dev77 k0_dev77_lt, dv k0_dev78 k0_dev78_lt, dv k0_dev79 k0_dev79_lt, dv k0_dev80 k0_dev80_lt]
  dev2 := ![dv k0_dev128 k0_dev128_lt, dv k0_dev129 k0_dev129_lt, dv k0_dev130 k0_dev130_lt, dv k0_dev131 k0_dev131_lt, dv k0_dev132 k0_dev132_lt, dv k0_dev133 k0_dev133_lt, dv k0_dev134 k0_dev134_lt, dv k0_dev135 k0_dev135_lt, dv k0_dev136 k0_dev136_lt, dv k0_dev137 k0_dev137_lt, dv k0_dev138 k0_dev138_lt, dv k0_dev139 k0_dev139_lt, dv k0_dev140 k0_dev140_lt, dv k0_dev141 k0_dev141_lt, dv k0_dev142 k0_dev142_lt]
  devX := dv k0_dev20 k0_dev20_lt
  devA := dv k0_dev144 k0_dev144_lt

/-! ## The buffers and semaphores -/

abbrev mA : Memref sig .tc .vmem S1024x512 .bf16 := Memref.whole cc0_stg0_0
abbrev mB : Memref sig .tc .vmem S512x1024 .bf16 := Memref.whole cc0_stg1_0
abbrev mOut : Memref sig .tc .vmem S1024x1024 .bf16 := Memref.whole cc0_stg2_0
abbrev mPart : Memref sig .tc .vmem S1024x1024 .bf16 := Memref.whole cc0_scratch0
abbrev mXr : Memref sig .tc .vmem S512x1024 .bf16 := Memref.whole cc0_scratch1
abbrev mHb : Memref sig .tc .vmem S512x1024 .bf16 := Memref.whole cc0_scratch2
abbrev mYz : Memref sig .tc .vmem S512x1024 .bf16 := Memref.whole cc0_scratch3
abbrev mAcc : Memref sig .tc .vmem S32x1024 .f32 := Memref.whole cc0_scratch4
abbrev mRed : Memref sig .tc .vmem S32x1024 .bf16 := Memref.whole cc0_scratch5
abbrev mHalf : Memref sig .tc .vmem S512x1024 .bf16 := Memref.whole cc0_scratch6

abbrev barSem : Sem sig := (SemArray.scalar (sig.barrier 0 rfl) : Sems sig S_).sem

theorem inb4 (s : Fin 4) : ∀ a, (![s.val] : Fin 1 → ℕ) a + S1.size a ≤ S4.size a := by revert s; decide
theorem inb15 (o : Fin 15) (s : Fin 4) : ∀ a, (![o.val, s.val] : Fin 2 → ℕ) a + S1x1.size a ≤ S15x4.size a := by revert o s; decide

/-- Entry `s` of a row of four semaphores. -/
abbrev sem4 (a : DmaSems sig S4) (s : Fin 4) : DmaSem sig :=
  ((a.slice (Rect.unit (s := S4) ![s.val] S1.size (inb4 s))).squeeze S_ squeezes_S1_S_).sem
/-- Entry `(o, s)` of a table of fifteen by four semaphores. -/
abbrev sem15 (a : DmaSems sig S15x4) (o : Fin 15) (s : Fin 4) : DmaSem sig :=
  ((a.slice (Rect.unit (s := S15x4) ![o.val, s.val] S1x1.size (inb15 o s))).squeeze S_ squeezes_S1x1_S_).sem

/-! ## One operation each -/

/-- The programs of one thread. -/
abbrev Pg (F : FTy → Type) : Type 1 := Prog (TpuEff nD τ sig (Elt F) Λ₀ .tc) PUnit

/-- The part of a [512, 1024] buffer at `off`, 512 rows by 256 columns. -/
abbrev slH (m : Memref sig .tc .vmem S512x1024 .bf16) (off : Fin 2 → ℕ) (h : ∀ a, off a + S512x256.size a ≤ S512x1024.size a) : Memref sig .tc .vmem S512x256 .bf16 :=
  m.slice (Rect.unit (s := S512x1024) off S512x256.size h) (fun _ => rfl)
/-- The part of a [512, 1024] buffer at `off`, 32 rows by 256 columns. -/
abbrev slB (m : Memref sig .tc .vmem S512x1024 .bf16) (off : Fin 2 → ℕ) (h : ∀ a, off a + S32x256.size a ≤ S512x1024.size a) : Memref sig .tc .vmem S32x256 .bf16 :=
  m.slice (Rect.unit (s := S512x1024) off S32x256.size h) (fun _ => rfl)
/-- The part of a [1024, 1024] buffer at `off`, 512 rows by 256 columns. -/
abbrev slF (m : Memref sig .tc .vmem S1024x1024 .bf16) (off : Fin 2 → ℕ) (h : ∀ a, off a + S512x256.size a ≤ S1024x1024.size a) : Memref sig .tc .vmem S512x256 .bf16 :=
  m.slice (Rect.unit (s := S1024x1024) off S512x256.size h) (fun _ => rfl)
/-- The part of a [32, 1024] buffer at `off`, 32 rows by 256 columns. -/
abbrev slR (m : Memref sig .tc .vmem S32x1024 .bf16) (off : Fin 2 → ℕ) (h : ∀ a, off a + S32x256.size a ≤ S32x1024.size a) : Memref sig .tc .vmem S32x256 .bf16 :=
  m.slice (Rect.unit (s := S32x1024) off S32x256.size h) (fun _ => rfl)

/-- Send `src` to `dst` of device `d`'s core. -/
abbrev sendTo {s : Shape} (src dst : Memref sig .tc .vmem s .bf16) (d : Dev nD) (sS sR : DmaSem sig) (h₁ : src.view.WordExact) (h₂ : dst.view.WordExact) (k : Pg F) : Pg F :=
  .op (.enqueueDma src (.remote (Dev.tc d) dst (.dma sS)) (.dma sR) h₁ h₂ ⟨⟨rfl, Or.inl rfl⟩, trivial⟩) fun _ => k

/-- Wait for a copy of the size of `dst` on `sm`. -/
abbrev waitOn {s : Shape} (sm : DmaSem sig) (src dst : Memref sig .tc .vmem s .bf16) (h₁ : src.view.WordExact) (h₂ : dst.view.WordExact) (k : Pg F) : Pg F :=
  .op (.waitDma2 sm src dst h₁ h₂) fun _ => k

abbrev ldH (m : Memref sig .tc .vmem S512x1024 .bf16) (off : Fin 2 → ℕ) (h : ∀ a, off a + S512x256.size a ≤ S512x1024.size a) (k : Vec F S512x256 .bf16 → Pg F) : Pg F :=
  .op (.load m (Rect.unit (s := S512x1024) off S512x256.size h).toLoadRect (View.loadsAt_vmem h_S512x256)) k
abbrev ldB (m : Memref sig .tc .vmem S512x1024 .bf16) (off : Fin 2 → ℕ) (h : ∀ a, off a + S32x256.size a ≤ S512x1024.size a) (k : Vec F S32x256 .bf16 → Pg F) : Pg F :=
  .op (.load m (Rect.unit (s := S512x1024) off S32x256.size h).toLoadRect (View.loadsAt_vmem h_S32x256)) k
abbrev ldF (m : Memref sig .tc .vmem S1024x1024 .bf16) (off : Fin 2 → ℕ) (h : ∀ a, off a + S512x256.size a ≤ S1024x1024.size a) (k : Vec F S512x256 .bf16 → Pg F) : Pg F :=
  .op (.load m (Rect.unit (s := S1024x1024) off S512x256.size h).toLoadRect (View.loadsAt_vmem h_S512x256)) k
abbrev ldR {e : EltTy} (m : Memref sig .tc .vmem S32x1024 e) (off : Fin 2 → ℕ) (h : ∀ a, off a + S32x256.size a ≤ S32x1024.size a) (k : Vec F S32x256 e → Pg F) : Pg F :=
  .op (.load m (Rect.unit (s := S32x1024) off S32x256.size h).toLoadRect (View.loadsAt_vmem h_S32x256)) k
abbrev stAcc (off : Fin 2 → ℕ) (h : ∀ a, off a + S32x256.size a ≤ S32x1024.size a) (v : FVec F S32x256 .f32) (k : Pg F) : Pg F :=
  .op (.store mAcc (Rect.unit (s := S32x1024) off S32x256.size h) v Finset.univ (View.stores_vmem_bits_univ h_S32x256 rfl) (.inl rfl)) fun _ => k

/-! ## The stages -/

/-- The fifteen partners of the plane, in order. -/
def js : List (Fin 15) := [⟨0, by decide⟩, ⟨1, by decide⟩, ⟨2, by decide⟩, ⟨3, by decide⟩, ⟨4, by decide⟩, ⟨5, by decide⟩, ⟨6, by decide⟩, ⟨7, by decide⟩, ⟨8, by decide⟩, ⟨9, by decide⟩, ⟨10, by decide⟩, ⟨11, by decide⟩, ⟨12, by decide⟩, ⟨13, by decide⟩, ⟨14, by decide⟩]

/-- The four strips. -/
def strips : List Strip := [strip0, strip1, strip2, strip3]

/-- A step for each entry of a list, in order, then `K`. -/
def each {A : Type} (step : A → Pg F → Pg F) (l : List A) (K : Pg F) : Pg F := l.foldr step K

/-- Tell device `f d` that this one has entered. -/
def signal (d : Dev nD) (f : Dev nD → Dev nD) (K : Pg F) : Pg F :=
  .op (.semSignal (Dev.tc (f d)) barSem (1#32 : BitVec 32).toInt) fun _ => K

/-- Whom the entry signals address, in order. -/
def barDevs : List (Dev nD → Dev nD) := [dv k0_dev1 k0_dev1_lt, dv k0_dev2 k0_dev2_lt, dv k0_dev3 k0_dev3_lt, dv k0_dev4 k0_dev4_lt, dv k0_dev5 k0_dev5_lt, dv k0_dev6 k0_dev6_lt, dv k0_dev7 k0_dev7_lt, dv k0_dev8 k0_dev8_lt, dv k0_dev9 k0_dev9_lt, dv k0_dev10 k0_dev10_lt, dv k0_dev11 k0_dev11_lt, dv k0_dev12 k0_dev12_lt, dv k0_dev13 k0_dev13_lt, dv k0_dev14 k0_dev14_lt, dv k0_dev15 k0_dev15_lt, dv k0_dev16 k0_dev16_lt]

/-- Send the strip of the partial product the partner across keeps. -/
def sendX (d : Dev nD) (S : Strip) (K : Pg F) : Pg F :=
  sendTo (slF mPart (S.offO d) (S.offO_inb d)) (slH mXr ![0, 256 * S.s.val] S.colH_inb) (S.devX d) (sem4 cc0_scratch7 S.s) (sem4 cc0_scratch8 S.s)
    ((Memref.isWhole_whole _).wordExact_slice rfl _ (S.offO_words d)) ((Memref.isWhole_whole _).wordExact_slice rfl _ S.colH_words) K

/-- Send the rows of the partner `1 + o` places on. -/
def send1 (d : Dev nD) (S : Strip) (o : Fin 15) (K : Pg F) : Pg F :=
  sendTo (slB mHb (S.offB d o) (S.offB_inb d o)) (slB mYz (S.offG d) (S.offG_inb d)) (S.dev1 o d) (sem15 cc0_scratch9 o S.s) (sem15 cc0_scratch10 o S.s)
    ((Memref.isWhole_whole _).wordExact_slice rfl _ (S.offB_words d o)) ((Memref.isWhole_whole _).wordExact_slice rfl _ (S.offG_words d)) K

/-- Add the partner's strip to this device's own and send the sums round the plane. -/
def stage1 (d : Dev nD) (S : Strip) (K : Pg F) : Pg F :=
  waitOn (sem4 cc0_scratch8 S.s) (slF mPart (S.offO d) (S.offO_inb d)) (slH mXr ![0, 256 * S.s.val] S.colH_inb)
    ((Memref.isWhole_whole _).wordExact_slice rfl _ (S.offO_words d)) ((Memref.isWhole_whole _).wordExact_slice rfl _ S.colH_words) <|
  ldF mPart (S.offM d) (S.offM_inb d) fun v => ldH mXr ![0, 256 * S.s.val] S.colH_inb fun w => ldH mHb ![0, 256 * S.s.val] S.colH_inb fun _ =>
  .op (.store mHb (Rect.unit (s := S512x1024) ![0, 256 * S.s.val] S512x256.size S.colH_inb) (k0_pay6 v w) Finset.univ
    (View.stores_vmem h_S512x256 ((Memref.isWhole_whole _).storeExact_slice rfl _ S.colH_packed) (fun _ => rfl)) (.inl rfl)) fun _ =>
  each (send1 d S) js K

/-- The semaphore entry a partner's copy arrives on. -/
def mir (o : Fin 15) : Fin 15 := ⟨14 - o.val, Nat.lt_of_le_of_lt (Nat.sub_le _ _) (by decide)⟩

/-- Take in the copy of the partner `1 + o` places on and add it. -/
def recv1 (d : Dev nD) (S : Strip) (o : Fin 15) (K : Pg F) : Pg F :=
  waitOn (sem15 cc0_scratch10 (mir o) S.s) (slB mHb ![0, 256 * S.s.val] S.colB_inb) (slB mYz (S.offB d o) (S.offB_inb d o))
    ((Memref.isWhole_whole _).wordExact_slice rfl _ S.colB_words) ((Memref.isWhole_whole _).wordExact_slice rfl _ (S.offB_words d o)) <|
  ldR mAcc ![0, 256 * S.s.val] S.colR_inb fun a => ldB mYz (S.offT d o) (S.offT_inb d o) fun v => ldR mAcc ![0, 256 * S.s.val] S.colR_inb fun _ =>
  stAcc ![0, 256 * S.s.val] S.colR_inb (k0_pay10 a v) K

/-- Send the finished rows to the partner `1 + o` places on. -/
def send2 (d : Dev nD) (S : Strip) (o : Fin 15) (K : Pg F) : Pg F :=
  sendTo (slR mRed ![0, 256 * S.s.val] S.colR_inb) (slB mHalf (S.offG d) (S.offG_inb d)) (S.dev2 o d) (sem15 cc0_scratch11 o S.s) (sem15 cc0_scratch12 o S.s)
    ((Memref.isWhole_whole _).wordExact_slice rfl _ S.colR_words) ((Memref.isWhole_whole _).wordExact_slice rfl _ (S.offG_words d)) K

/-- Keep this device's own finished rows. -/
def keep2 (d : Dev nD) (S : Strip) (K : Pg F) : Pg F :=
  ldR mRed ![0, 256 * S.s.val] S.colR_inb fun v => ldB mHalf (S.offL d) (S.offL_inb d) fun _ =>
  .op (.store mHalf (Rect.unit (s := S512x1024) (S.offL d) S32x256.size (S.offL_inb d)) (k0_pay27 v) Finset.univ
    (View.stores_vmem h_S32x256 ((Memref.isWhole_whole _).storeExact_slice rfl _ (S.offL_packed d)) (fun _ => rfl)) (.inl rfl)) fun _ => K

/-- Round the finished rows and send them round the plane. -/
def spread2 (d : Dev nD) (S : Strip) (K : Pg F) : Pg F :=
  ldR mAcc ![0, 256 * S.s.val] S.colR_inb fun a => ldR mRed ![0, 256 * S.s.val] S.colR_inb fun _ =>
  .op (.store mRed (Rect.unit (s := S32x1024) ![0, 256 * S.s.val] S32x256.size S.colR_inb) (k0_pay26 (k0_pay25 a)) Finset.univ
    (View.stores_vmem h_S32x256 ((Memref.isWhole_whole _).storeExact_slice rfl _ S.colR_packed) (fun _ => rfl)) (.inl rfl)) fun _ =>
  each (send2 d S) js <| keep2 d S K

/-- Add up this device's own rows over the plane and send the sums round. -/
def stage2 (d : Dev nD) (S : Strip) (K : Pg F) : Pg F :=
  ldB mHb (S.offL d) (S.offL_inb d) fun v => ldR mAcc ![0, 256 * S.s.val] S.colR_inb fun _ =>
  stAcc ![0, 256 * S.s.val] S.colR_inb (k0_pay9 v) <|
  each (recv1 d S) js <| spread2 d S K

/-- Take in the finished rows of the partner `1 + o` places on. -/
def recv2 (d : Dev nD) (S : Strip) (o : Fin 15) (K : Pg F) : Pg F :=
  waitOn (sem15 cc0_scratch12 (mir o) S.s) (slR mRed ![0, 256 * S.s.val] S.colR_inb) (slB mHalf (S.offB d o) (S.offB_inb d o))
    ((Memref.isWhole_whole _).wordExact_slice rfl _ S.colR_words) ((Memref.isWhole_whole _).wordExact_slice rfl _ (S.offB_words d o)) K

/-- Send the finished half to the partner across, and keep it. -/
def finish3 (d : Dev nD) (S : Strip) (K : Pg F) : Pg F :=
  sendTo (slH mHalf ![0, 256 * S.s.val] S.colH_inb) (slF mOut (S.offR d) (S.offR_inb d)) (S.devA d) (sem4 cc0_scratch13 S.s) (sem4 cc0_scratch14 S.s)
    ((Memref.isWhole_whole _).wordExact_slice rfl _ S.colH_words) ((Memref.isWhole_whole _).wordExact_slice rfl _ (S.offR_words d)) <|
  ldH mHalf ![0, 256 * S.s.val] S.colH_inb fun v => ldF mOut (S.offM d) (S.offM_inb d) fun _ =>
  .op (.store mOut (Rect.unit (s := S1024x1024) (S.offM d) S512x256.size (S.offM_inb d)) v Finset.univ
    (View.stores_vmem h_S512x256 ((Memref.isWhole_whole _).storeExact_slice rfl _ (S.offM_packed d)) (fun _ => rfl)) (.inl rfl)) fun _ => K

/-- Take in the plane's finished rows, send the half across and keep it. -/
def stage3 (d : Dev nD) (S : Strip) (K : Pg F) : Pg F := each (recv2 d S) js <| finish3 d S K

/-- Take in the other half from the partner across. -/
def recvA (d : Dev nD) (S : Strip) (K : Pg F) : Pg F :=
  waitOn (sem4 cc0_scratch14 S.s) (slH mHalf ![0, 256 * S.s.val] S.colH_inb) (slF mOut (S.offO d) (S.offO_inb d))
    ((Memref.isWhole_whole _).wordExact_slice rfl _ S.colH_words) ((Memref.isWhole_whole _).wordExact_slice rfl _ (S.offO_words d)) K

/-- Wait until the first copy across has left. -/
def drainX (d : Dev nD) (S : Strip) (K : Pg F) : Pg F :=
  waitOn (sem4 cc0_scratch7 S.s) (slH mXr ![0, 256 * S.s.val] S.colH_inb) (slF mPart (S.offO d) (S.offO_inb d))
    ((Memref.isWhole_whole _).wordExact_slice rfl _ S.colH_words) ((Memref.isWhole_whole _).wordExact_slice rfl _ (S.offO_words d)) K
/-- Wait until a copy of the first exchange in the plane has left. -/
def drain1 (d : Dev nD) (S : Strip) (o : Fin 15) (K : Pg F) : Pg F :=
  waitOn (sem15 cc0_scratch9 o S.s) (slB mYz (S.offG d) (S.offG_inb d)) (slB mHb (S.offB d o) (S.offB_inb d o))
    ((Memref.isWhole_whole _).wordExact_slice rfl _ (S.offG_words d)) ((Memref.isWhole_whole _).wordExact_slice rfl _ (S.offB_words d o)) K
/-- Wait until a copy of the second exchange in the plane has left. -/
def drain2 (d : Dev nD) (S : Strip) (o : Fin 15) (K : Pg F) : Pg F :=
  waitOn (sem15 cc0_scratch11 o S.s) (slB mHalf (S.offG d) (S.offG_inb d)) (slR mRed ![0, 256 * S.s.val] S.colR_inb)
    ((Memref.isWhole_whole _).wordExact_slice rfl _ (S.offG_words d)) ((Memref.isWhole_whole _).wordExact_slice rfl _ S.colR_words) K
/-- Wait until the last copy across has left. -/
def drainA (d : Dev nD) (S : Strip) (K : Pg F) : Pg F :=
  waitOn (sem4 cc0_scratch13 S.s) (slF mOut (S.offR d) (S.offR_inb d)) (slH mHalf ![0, 256 * S.s.val] S.colH_inb)
    ((Memref.isWhole_whole _).wordExact_slice rfl _ (S.offR_words d)) ((Memref.isWhole_whole _).wordExact_slice rfl _ S.colH_words) K

/-- The waits at the end, in the order of the sends. -/
def drains (d : Dev nD) : Pg F :=
  each (drainX d) strips <| each (fun S => each (drain1 d S) js) strips <|
  each (drain2 d strip0) js <| each (drain2 d strip1) js <| drainA d strip0 <| each (drain2 d strip2) js <| drainA d strip1 <|
  each (drain2 d strip3) js <| drainA d strip2 <| drainA d strip3 <| .ret ⟨⟩

/-- The exchanges inside the plane and the last one across. -/
def exchange (d : Dev nD) : Pg F :=
  each (stage1 d) strips <|
  stage2 d strip0 <| stage2 d strip1 <| stage3 d strip0 <| stage2 d strip2 <| stage3 d strip1 <| stage2 d strip3 <| stage3 d strip2 <| stage3 d strip3 <|
  each (recvA d) strips <| drains d

/-- The partial products: the partner's half, which is sent strip by strip once every partner has entered, then this
    device's own half. -/
def products (d : Dev nD) : Pg F :=
  .op (.load mB (Rect.unit (s := S512x1024) ![0, 0] S512x1024.size inb_S512x1024_S512x1024_0_0).toLoadRect (View.loadsAt_vmem h_S512x1024)) fun b =>
  .op (.load mA (Rect.unit (s := S1024x512) (k0_off1 d) S512x512.size (k0_off1_inb d)).toLoadRect (View.loadsAt_vmem h_S512x512)) fun a =>
  .op (.load mPart (Rect.unit (s := S1024x1024) (k0_off2 d) S512x1024.size (k0_off2_inb d)).toLoadRect (View.loadsAt_vmem h_S512x1024)) fun _ =>
  .op (.store mPart (Rect.unit (s := S1024x1024) (k0_off2 d) S512x1024.size (k0_off2_inb d)) (k0_pay2 b a) Finset.univ
    (View.stores_vmem h_S512x1024 ((Memref.isWhole_whole _).storeExact_slice rfl _ (k0_off2_packedbf16 d)) (fun _ => rfl)) (.inl rfl)) fun _ =>
  .op (.semWait barSem (16#32 : BitVec 32).toInt) fun _ =>
  each (sendX d) strips <|
  .op (.load mA (Rect.unit (s := S1024x512) (k0_off7 d) S512x512.size (k0_off7_inb d)).toLoadRect (View.loadsAt_vmem h_S512x512)) fun a' =>
  .op (.load mPart (Rect.unit (s := S1024x1024) (k0_off8 d) S512x1024.size (k0_off8_inb d)).toLoadRect (View.loadsAt_vmem h_S512x1024)) fun _ =>
  .op (.store mPart (Rect.unit (s := S1024x1024) (k0_off8 d) S512x1024.size (k0_off8_inb d)) (k0_pay3 (k0_pay1 b) a') Finset.univ
    (View.stores_vmem h_S512x1024 ((Memref.isWhole_whole _).storeExact_slice rfl _ (k0_off8_packedbf16 d)) (fun _ => rfl)) (.inl rfl)) fun _ =>
  exchange d

/-- The body on device `d`. -/
def bodyOn (d : Dev nD) : Pg F := each (signal d) barDevs <| products d

/-- The body. -/
def body : Pg F := .op .deviceId bodyOn

set_option maxRecDepth 65536 in
/-- The printed body, on the buffers the launch gives it, is `body`. -/
theorem body_eq (t : Fin cfg0.N) : bodyAt0 (F := F) t = body := by
  chain_rfl

end Cert.KernelIdeal.AllReduce

end
-- ==== Proof.KernelIdeal.Topo.lean ====
/-
  The places of the 32 devices. A device is one of two planes' members `x` and one of sixteen places `g` in its plane; it
  exchanges with the device at its place in the other plane, and with the fifteen others of its own plane. Every address
  and device number the body computes, in closed form over `(x, g)`.
-/
module

public import proofs.«01_k».proof.Proof.KernelIdeal.Prog

@[expose] public section

set_option maxRecDepth 65536

noncomputable section

namespace Cert.KernelIdeal.AllReduce

open Idealize.ShloMosaic Idealize.SL.Sem Cert.KernelIdeal Cert.KernelIdeal.Gen

/-- The plane of device `d`. -/
def xOf (d : Dev nD) : Fin 2 := ⟨(d.val % 8 % 4 % 2 + d.val % 8 % 4 / 2) % 2, Nat.mod_lt _ (by decide)⟩
/-- The place of device `d` in its plane. -/
def gOf (d : Dev nD) : Fin 16 := ⟨(d.val / 8 * 4 + d.val % 8 / 2) % 16, Nat.mod_lt _ (by decide)⟩
/-- The device of plane `x` at place `g`. -/
def devAt (x : Fin 2) (g : Fin 16) : Dev nD :=
  ⟨(g.val / 4 * 8 + 2 * (g.val % 4) + (x.val + g.val % 4 % 2) % 2) % 32, Nat.mod_lt _ (by decide)⟩

theorem fin16_assoc (a b c : Fin 16) : a + b + c = a + (b + c) := Fin.ext (by simp only [Fin.val_add]; omega)
theorem fin16_zero (a : Fin 16) : a + 0 = a := by revert a; decide
theorem fin16_neg_add (a : Fin 16) : -a + a = 0 := by revert a; decide
theorem fin16_add_neg (a : Fin 16) : a + -a = 0 := by revert a; decide
theorem fin16_add_comm (a b : Fin 16) : a + b = b + a := Fin.ext (by simp only [Fin.val_add]; omega)
theorem fin2_sub_sub (a : Fin 2) : 1 - (1 - a) = a := by revert a; decide

theorem devAt_of (d : Dev nD) : devAt (xOf d) (gOf d) = d := by revert d; decide +kernel
theorem xOf_devAt (x : Fin 2) (g : Fin 16) : xOf (devAt x g) = x := by revert x g; decide +kernel
theorem gOf_devAt (x : Fin 2) (g : Fin 16) : gOf (devAt x g) = g := by revert x g; decide +kernel

/-- The device at the same place of the other plane. -/
def xp (d : Dev nD) : Dev nD := devAt (1 - xOf d) (gOf d)
/-- The device `k` places on in the same plane. -/
def nxt (k : Fin 16) (d : Dev nD) : Dev nD := devAt (xOf d) (gOf d + k)

theorem xOf_xp (d : Dev nD) : xOf (xp d) = 1 - xOf d := xOf_devAt _ _
theorem gOf_xp (d : Dev nD) : gOf (xp d) = gOf d := gOf_devAt _ _
theorem xOf_nxt (k : Fin 16) (d : Dev nD) : xOf (nxt k d) = xOf d := xOf_devAt _ _
theorem gOf_nxt (k : Fin 16) (d : Dev nD) : gOf (nxt k d) = gOf d + k := gOf_devAt _ _
theorem xp_xp (d : Dev nD) : xp (xp d) = d := by revert d; decide +kernel
theorem nxt_nxt (k l : Fin 16) (d : Dev nD) : nxt k (nxt l d) = nxt (l + k) d := by
  unfold nxt; rw [xOf_devAt, gOf_devAt, fin16_assoc]
theorem nxt_zero (d : Dev nD) : nxt 0 d = d := by unfold nxt; rw [fin16_zero, devAt_of]
theorem nxt_neg (k : Fin 16) (d : Dev nD) : nxt k (nxt (-k) d) = d := by rw [nxt_nxt, fin16_neg_add, nxt_zero]
theorem neg_nxt (k : Fin 16) (d : Dev nD) : nxt (-k) (nxt k d) = d := by rw [nxt_nxt, fin16_add_neg, nxt_zero]

/-- The first row of the half this device keeps. -/
def my (d : Dev nD) : ℕ := 512 * (xOf d).val
/-- The first row of the other half. -/
def oth (d : Dev nD) : ℕ := 512 * (1 - xOf d : Fin 2).val
theorem my_xp (d : Dev nD) : my (xp d) = oth d := by unfold my oth; rw [xOf_xp]
theorem oth_xp (d : Dev nD) : oth (xp d) = my d := by unfold my oth; rw [xOf_xp, fin2_sub_sub]

/-- The step `o` of an exchange addresses the device `stp o` places on. -/
def stp (o : Fin 15) : Fin 16 := o.succ
/-- The first row of place `g`'s block. -/
def row (g : Fin 16) : ℕ := 32 * g.val

/-- What device `d`'s entry signal `i` addresses: the partner across first, then the partners of the plane. -/
def peerB (i : Fin 16) (d : Dev nD) : Dev nD := if i = 0 then xp d else nxt i d

/-- A strip's addresses and devices are what the text says they are. -/
structure Strip.Ok (S : Strip) : Prop where
  offO : ∀ d, S.offO d = ![oth d, 256 * S.s.val]
  offM : ∀ d, S.offM d = ![my d, 256 * S.s.val]
  offR : ∀ d, S.offR d = ![my d, 256 * S.s.val]
  offB : ∀ d o, S.offB d o = ![row (gOf d + stp o), 256 * S.s.val]
  offG : ∀ d, S.offG d = ![row (gOf d), 256 * S.s.val]
  offL : ∀ d, S.offL d = ![row (gOf d), 256 * S.s.val]
  offT : ∀ d o, S.offT d o = ![row (gOf d + stp o), 256 * S.s.val]
  dev1 : ∀ o d, S.dev1 o d = nxt (stp o) d
  dev2 : ∀ o d, S.dev2 o d = nxt (stp o) d
  devX : ∀ d, S.devX d = xp d
  devA : ∀ d, S.devA d = xp d

end Cert.KernelIdeal.AllReduce

end
-- ==== Proof.KernelIdeal.Base.lean ====
/-
  Pieces of buffers. A piece is a rectangle of a buffer held at contents given by row and column; the rules for reading,
  overwriting, dividing and joining pieces.
-/
module

public import proofs.«01_k».proof.Proof.KernelIdeal.Topo
public import Idealize.ShloMosaic.Lib.Pipeline.Launch
public import Idealize.ShloMosaic.Lib.Pipeline.SiteBlocks
public import Idealize.ShloMosaic.Lib.Pipeline.TalkSites
public import Idealize.ShloMosaic.Lib.Pipeline.Kit
public import Idealize.ShloMosaic.Lib.Ring
public import Idealize.ShloMosaic.Lib.Writes
public import Idealize.ShloMosaic.Lib.Transfers
public import Idealize.ShloMosaic.Lib.Tactic

@[expose] public section

set_option maxRecDepth 16384

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the staging protocol's and the exchange's. The exchange has up to sixteen payments to a semaphore. -/
abbrev UU : Type := UR sig nD τ × URounds (GSem nD τ sig) (Fin 16)

local notation "𝕄" => MT nD τ sig ℕ (Elt F) ℕ UU ℕ

abbrev EP : Emb (UR sig nD τ) (MT nD τ sig ℕ (Elt F) ℕ UU ℕ) := embL
abbrev ER : Emb (URounds (GSem nD τ sig) (Fin 16)) (MT nD τ sig ℕ (Elt F) ℕ UU ℕ) := embR

abbrev 𝒱₀ : Variants := Variants.none

/-- What device `c`'s program `K` does when it runs to `Q`. -/
abbrev WP (c : Dev nD) (K : Pg F) (Q : PUnit → sProp 𝕄) : sProp 𝕄 :=
  wp frame (wpE (defs₀ (F := F)) 𝒱₀ (c : Thread nD τ) none) Set.univ K Q

/-! ## Contents by row and column -/

/-- Contents of a two-axis buffer, given by row and column. -/
def to2 {n k : ℕ} {X : Type} (f : ℕ → ℕ → X) : (⟨2, ![n, k]⟩ : Shape).Idx → X := fun p => f (p 0).val (p 1).val

/-- The index of row `i`, column `j` (each taken modulo the extent). -/
def ix2 {n k : ℕ} (hn : 0 < n) (hk : 0 < k) (i j : ℕ) : (⟨2, ![n, k]⟩ : Shape).Idx :=
  fun x => ⟨(![i, j] : Fin 2 → ℕ) x % (![n, k] : Fin 2 → ℕ) x, Nat.mod_lt _ (by revert x; exact Fin.forall_fin_two.mpr ⟨hn, hk⟩)⟩

/-- Row `i`, column `j` of a two-axis buffer. -/
def at2 {n k : ℕ} {X : Type} (hn : 0 < n) (hk : 0 < k) (v : (⟨2, ![n, k]⟩ : Shape).Idx → X) (i j : ℕ) : X := v (ix2 hn hk i j)

theorem ix2_self {n k : ℕ} (hn : 0 < n) (hk : 0 < k) (p : (⟨2, ![n, k]⟩ : Shape).Idx) : ix2 hn hk (p 0).val (p 1).val = p := by
  funext x
  refine Fin.ext ?_
  revert x
  refine Fin.forall_fin_two.mpr ⟨?_, ?_⟩
  · exact Nat.mod_eq_of_lt (p 0).isLt
  · exact Nat.mod_eq_of_lt (p 1).isLt

theorem at2_self {n k : ℕ} {X : Type} (hn : 0 < n) (hk : 0 < k) (v : (⟨2, ![n, k]⟩ : Shape).Idx → X) (p : (⟨2, ![n, k]⟩ : Shape).Idx) :
    at2 hn hk v (p 0).val (p 1).val = v p := congrArg v (ix2_self hn hk p)

theorem to2_at2 {n k : ℕ} {X : Type} (hn : 0 < n) (hk : 0 < k) (v : (⟨2, ![n, k]⟩ : Shape).Idx → X) : to2 (at2 hn hk v) = v :=
  funext fun p => at2_self hn hk v p

theorem at2_to2 {n k : ℕ} {X : Type} (hn : 0 < n) (hk : 0 < k) (f : ℕ → ℕ → X) {i j : ℕ} (hi : i < n) (hj : j < k) :
    at2 hn hk (to2 f) i j = f i j := by
  show f (i % n) (j % k) = f i j
  rw [Nat.mod_eq_of_lt hi, Nat.mod_eq_of_lt hj]

/-! ## Rectangles -/

/-- The elements of a rectangle of a two-axis buffer: rows `r … r + n - 1`, columns `k … k + l - 1`. -/
def rct {s : Shape} (off size : Fin s.rank → ℕ) : Finset s.Idx :=
  Finset.univ.filter fun i => ∀ a, off a ≤ (i a).val ∧ (i a).val < off a + size a

theorem mem_rct {s : Shape} {off size : Fin s.rank → ℕ} {i : s.Idx} : i ∈ rct off size ↔ ∀ a, off a ≤ (i a).val ∧ (i a).val < off a + size a := by
  unfold rct; rw [Finset.mem_filter]; exact ⟨fun h => h.2, fun h => ⟨Finset.mem_univ _, h⟩⟩

/-- Where the entry `x` of a rectangle lies in the buffer. -/
theorem emb_unit (b : Ref sig .tc) (off size : Fin b.ty.shape.rank → ℕ) (h : ∀ a, off a + size a ≤ b.ty.shape.size a)
    (x : (Rect.unit off size h).shape.Idx) (a : Fin b.ty.shape.rank) :
    ((((View.whole b).slice (Rect.unit off size h)).emb x a : Fin _) : ℕ) = off a + x a := by
  rw [View.emb_slice, Function.Embedding.trans_apply, View.emb_whole, Function.Embedding.refl_apply, Rect.emb_apply]
  show off a + 1 * (x a : ℕ) = _; omega

theorem set_unit (b : Ref sig .tc) (off size : Fin b.ty.shape.rank → ℕ) (h : ∀ a, off a + size a ≤ b.ty.shape.size a) :
    ((View.whole b).slice (Rect.unit off size h)).set = rct off size := by
  ext i
  rw [mem_rct, View.set, Finset.mem_map]
  constructor
  · rintro ⟨x, -, rfl⟩ a
    rw [emb_unit b off size h x a]
    exact ⟨Nat.le_add_right _ _, Nat.add_lt_add_left (x a).isLt _⟩
  · intro hi
    refine ⟨fun a => ⟨(i a).val - off a, by have := hi a; show _ < size a; omega⟩, Finset.mem_univ _, ?_⟩
    funext a
    refine Fin.ext ?_
    rw [emb_unit b off size h _ a]
    have := hi a
    show off a + ((i a).val - off a) = _
    omega

/-- Device `c`'s piece of buffer `b` at `off` of sizes `size`, held at share `q` and contents `f`. -/
def reg (b : Ref sig .tc) (c : Dev nD) (q : PosShare TreeShare) (off size : Fin b.ty.shape.rank → ℕ) (f : b.ty.Contents (Elt F)) : sProp 𝕄 :=
  (c : Thread nD τ).loc b ↦[rct (s := b.ty.shape) off size]{q} (show Buf (Elt F) ((c : Thread nD τ).loc b) from f)

omit [FloatOps F] in
instance reg_storable (b : Ref sig .tc) (c : Dev nD) (q : PosShare TreeShare) (off size : Fin b.ty.shape.rank → ℕ) (f : b.ty.Contents (Elt F)) :
    BI.Storable (upEmb : UEmb _ 𝕄) (reg b c q off size f) := by unfold reg; infer_instance

/-- What a load of the piece reads. -/
abbrev rd (b : Ref sig .tc) (off size : Fin b.ty.shape.rank → ℕ) (h : ∀ a, off a + size a ≤ b.ty.shape.size a) (f : b.ty.Contents (Elt F)) :
    (Rect.unit off size h).shape.Idx → Elt F b.ty.elt :=
  ((View.whole b).slice (Rect.unit off size h)).read (Elt F) f

/-- A buffer of the core's vector memory. -/
abbrev vb (i : Fin (sig.nNear .tc .vmem)) (hi : sig.names .tc .vmem i = true) : Ref sig .tc := ⟨.vmem, i, hi⟩

section Ops
variable (c : Dev nD) (i : Fin (sig.nNear .tc .vmem)) (hi : sig.names .tc .vmem i = true)

/-- Load a piece of which a larger piece is held. -/
theorem wp_ld' {off size off' size' : Fin (vb i hi).ty.shape.rank → ℕ} {h : ∀ a, off a + size a ≤ (vb i hi).ty.shape.size a} {q : PosShare TreeShare} {f : (vb i hi).ty.Contents (Elt F)}
    (hS : rct (s := (vb i hi).ty.shape) off size ⊆ rct off' size')
    {hl : (Memref.whole (vb i hi) : Memref sig .tc .vmem _ _).view.LoadsAt (Rect.unit off size h).toLoadRect} {k : ((Rect.unit off size h).shape.Idx → Elt F (vb i hi).ty.elt) → Pg F} {Q : PUnit → sProp 𝕄} :
    reg (vb i hi) c q off' size' f ⊢ iprop((reg (vb i hi) c q off' size' f -∗ WP c (k (rd (vb i hi) off size h f)) Q)
      -∗ WP c (.op (.load (Memref.whole (vb i hi) : Memref sig .tc .vmem _ _) (Rect.unit off size h).toLoadRect hl) k) Q) :=
  wp_load_rect 𝒱₀ (c : Thread nD τ) none Set.univ (m := (Memref.whole (vb i hi) : Memref sig .tc .vmem _ _)) (r := Rect.unit off size h)
    (S := rct (s := (vb i hi).ty.shape) off' size') (f := f) (by rw [show ((Memref.whole (vb i hi) : Memref sig .tc .vmem _ _).access (Rect.unit off size h)).set = _ from set_unit (vb i hi) off size h]; exact hS)

theorem wp_ld {off size : Fin (vb i hi).ty.shape.rank → ℕ} {h : ∀ a, off a + size a ≤ (vb i hi).ty.shape.size a} {q : PosShare TreeShare} {f : (vb i hi).ty.Contents (Elt F)}
    {hl : (Memref.whole (vb i hi) : Memref sig .tc .vmem _ _).view.LoadsAt (Rect.unit off size h).toLoadRect} {k : ((Rect.unit off size h).shape.Idx → Elt F (vb i hi).ty.elt) → Pg F} {Q : PUnit → sProp 𝕄} :
    reg (vb i hi) c q off size f ⊢ iprop((reg (vb i hi) c q off size f -∗ WP c (k (rd (vb i hi) off size h f)) Q)
      -∗ WP c (.op (.load (Memref.whole (vb i hi) : Memref sig .tc .vmem _ _) (Rect.unit off size h).toLoadRect hl) k) Q) :=
  wp_ld' c i hi (Finset.Subset.refl _)

/-- Overwriting a piece with what `g` has there leaves the piece at `g`. -/
theorem reg_write {off size : Fin (vb i hi).ty.shape.rank → ℕ} (h : ∀ a, off a + size a ≤ (vb i hi).ty.shape.size a) (q : PosShare TreeShare) (f g : (vb i hi).ty.Contents (Elt F))
    (w : (Rect.unit off size h).shape.Idx → Elt F (vb i hi).ty.elt) (hw : rd (vb i hi) off size h g = w) :
    reg (vb i hi) c q off size (((View.whole (vb i hi)).slice (Rect.unit off size h)).write (Elt F) f w Finset.univ) = (reg (vb i hi) c q off size g : sProp 𝕄) := by
  subst hw
  refine pointsTo_congr fun x hx => ?_
  show ((View.whole (vb i hi)).slice (Rect.unit off size h)).write (Elt F) f _ Finset.univ x = g x
  rw [View.write_read_eq_piecewise]
  refine Finset.piecewise_eq_of_mem _ _ _ ?_
  show x ∈ ((View.whole (vb i hi)).slice (Rect.unit off size h)).set
  rw [set_unit]; exact hx

/-- Store a piece: it ends at any contents that have what is stored there. -/
theorem wp_st {off size : Fin (vb i hi).ty.shape.rank → ℕ} {h : ∀ a, off a + size a ≤ (vb i hi).ty.shape.size a} {f : (vb i hi).ty.Contents (Elt F)}
    {w : (Rect.unit off size h).shape.Idx → Elt F (vb i hi).ty.elt} (g : (vb i hi).ty.Contents (Elt F)) (hw : rd (vb i hi) off size h g = w)
    {hx : ((Memref.whole (vb i hi) : Memref sig .tc .vmem _ _).access (Rect.unit off size h)).Stores Finset.univ} {hm : (Finset.univ : Finset (Rect.unit off size h).shape.Idx) = Finset.univ ∨ ∀ a, (Rect.unit off size h).stride a = 1}
    {k : PUnit → Pg F} {Q : PUnit → sProp 𝕄} :
    reg (vb i hi) c fullShare off size f ⊢ iprop((reg (vb i hi) c fullShare off size g -∗ WP c (k ⟨⟩) Q)
      -∗ WP c (.op (.store (Memref.whole (vb i hi) : Memref sig .tc .vmem _ _) (Rect.unit off size h) w Finset.univ hx hm) k) Q) := by
  rw [← reg_write c i hi h fullShare f g w hw]
  exact wp_store 𝒱₀ (c : Thread nD τ) none Set.univ (m := (Memref.whole (vb i hi) : Memref sig .tc .vmem _ _)) (r := Rect.unit off size h) (Mk := Finset.univ)
    (S := rct (s := (vb i hi).ty.shape) off size) (f := f) (by
      rw [← set_unit (vb i hi) off size h]; exact Finset.Subset.refl _)

/-- Pieces at contents that agree on them are the same. -/
theorem reg_congr {off size : Fin (vb i hi).ty.shape.rank → ℕ} {q : PosShare TreeShare} {f g : (vb i hi).ty.Contents (Elt F)}
    (h : ∀ x ∈ rct (s := (vb i hi).ty.shape) off size, f x = g x) : (reg (vb i hi) c q off size f : sProp 𝕄) = reg (vb i hi) c q off size g :=
  pointsTo_congr h

end Ops

end Cert.KernelIdeal.AllReduce

end
-- ==== Proof.KernelIdeal.Values.lean ====
/-
  What every buffer holds. From the devices' own blocks `a` and `b`: the partial product of each device, what the partner
  across sends, the sums of the two, what the partners in the plane send, the running sum, its rounding, the collected half
  and the result. Each store and each copy is one equation between these.
-/
module

public import proofs.«01_k».proof.Proof.KernelIdeal.Base
public import Idealize.ShloMosaic.Lib.Pipeline.Value

@[expose] public section

set_option maxRecDepth 16384

noncomputable section

namespace Cert.KernelIdeal.AllReduce

open Cert.KernelIdeal Cert.KernelIdeal.Gen
open Idealize.ShloMosaic
open Idealize.ShloMosaic.TcCoe

variable {F : FTy → Type} [FloatOps F]
variable (a : Dev nD → Vec F S1024x512 .bf16) (b : Dev nD → Vec F S512x1024 .bf16)

/-- A number of the short format as one of the long format. -/
abbrev ext (x : F .bf16) : F .f32 := FloatOps.extf .f32 bitsLt_bf16_f32 x
/-- A number of the long format rounded to the short format. -/
abbrev rnd (x : F .f32) : F .bf16 := FloatOps.truncf .bf16 bitsLt_bf16_f32 x
/-- Addition in the long format. -/
abbrev plus (x y : F .f32) : F .f32 := FloatOps.addf x y

/-- Half `h` of device `c`'s rows. -/
def aRows (c : Dev nD) (h : ℕ) : Vec F S512x512 .bf16 :=
  fun p => at2 (n := 1024) (k := 512) (by decide) (by decide) (a c) (512 * h + (p 0).val) (p 1).val
/-- Half `h` of device `c`'s partial product. -/
def prodV (c : Dev nD) (h : ℕ) : FVec F S512x1024 .bf16 := k0_pay2 (b c) (aRows a c h)
/-- Device `c`'s partial product. -/
def partF (c : Dev nD) (i j : ℕ) : F .bf16 := at2 (n := 512) (k := 1024) (by decide) (by decide) (prodV a b c (i / 512)) (i % 512) j
/-- What the partner across sends device `c`: the half `c` keeps of the partner's partial product. -/
def xrF (c : Dev nD) (i j : ℕ) : F .bf16 := partF a b (xp c) (my c + i) j
/-- The half device `c` keeps, of its own and its partner's partial products together. -/
def hbF (c : Dev nD) (i j : ℕ) : F .bf16 := rnd (plus (ext (partF a b c (my c + i) j)) (ext (xrF a b c i j)))
/-- Place number `n` of a plane. -/
def plc (n : ℕ) : Fin 16 := ⟨n % 16, Nat.mod_lt _ (by decide)⟩
/-- What the partners of the plane send device `c`: the block of each place is `c`'s rows of that place's sum. -/
def yzF (c : Dev nD) (i j : ℕ) : F .bf16 := hbF a b (devAt (xOf c) (plc (i / 32))) (row (gOf c) + i % 32) j
/-- The running sum of device `c`'s rows after `n` partners. -/
def accF (c : Dev nD) : ℕ → ℕ → ℕ → F .f32
  | 0, i, j => ext (hbF a b c (row (gOf c) + i) j)
  | n + 1, i, j => plus (accF c n i j) (ext (yzF a b c (row (gOf c + plc (n + 1)) + i) j))
/-- Device `c`'s finished rows. -/
def redF (c : Dev nD) (i j : ℕ) : F .bf16 := rnd (accF a b c 15 i j)
/-- The finished half of device `c`'s plane. -/
def halfF (c : Dev nD) (i j : ℕ) : F .bf16 := redF a b (devAt (xOf c) (plc (i / 32))) (i % 32) j
/-- Plane number `n`. -/
def pln (n : ℕ) : Fin 2 := ⟨n % 2, Nat.mod_lt _ (by decide)⟩
/-- The result, as device `c` has it. -/
def outF (c : Dev nD) (i j : ℕ) : F .bf16 := halfF a b (devAt (pln (i / 512)) (gOf c)) (i % 512) j

/-! ## Places and rows -/

theorem plc_val (g : Fin 16) : plc g.val = g := Fin.ext (Nat.mod_eq_of_lt g.isLt)
theorem plc_stp (o : Fin 15) : plc (o.val + 1) = stp o := by revert o; decide
theorem row_div (g : Fin 16) {i : ℕ} (h : i < 32) : (row g + i) / 32 = g.val := by unfold row; omega
theorem row_mod (g : Fin 16) {i : ℕ} (h : i < 32) : (row g + i) % 32 = i := by unfold row; omega
theorem plc_row (g : Fin 16) {i : ℕ} (h : i < 32) : plc ((row g + i) / 32) = g := by rw [row_div g h, plc_val]
theorem my_div (c : Dev nD) {i : ℕ} (h : i < 512) : (my c + i) / 512 = (xOf c).val := by unfold my; omega
theorem my_mod (c : Dev nD) {i : ℕ} (h : i < 512) : (my c + i) % 512 = i := by unfold my; omega
theorem pln_my (c : Dev nD) {i : ℕ} (h : i < 512) : pln ((my c + i) / 512) = xOf c := by
  rw [my_div c h]; exact Fin.ext (Nat.mod_eq_of_lt (xOf c).isLt)
theorem devAt_xp (c : Dev nD) : devAt (xOf c) (gOf (xp c)) = c := by rw [gOf_xp, devAt_of]

/-- The block of the place `k` places back is what that place's device sends. -/
theorem yz_row (c : Dev nD) (k : Fin 16) {i : ℕ} (h : i < 32) (j : ℕ) :
    yzF a b (nxt k c) (row (gOf c) + i) j = hbF a b c (row (gOf c + k) + i) j := by
  unfold yzF
  rw [plc_row _ h, row_mod _ h, xOf_nxt, gOf_nxt, devAt_of]

theorem half_row (c : Dev nD) (k : Fin 16) {i : ℕ} (h : i < 32) (j : ℕ) :
    halfF a b (nxt k c) (row (gOf c) + i) j = redF a b c i j := by
  unfold halfF
  rw [plc_row _ h, row_mod _ h, xOf_nxt, devAt_of]

theorem half_own (c : Dev nD) {i : ℕ} (h : i < 32) (j : ℕ) : halfF a b c (row (gOf c) + i) j = redF a b c i j := by
  have := half_row a b c 0 h j; rwa [nxt_zero] at this

theorem out_own (c : Dev nD) {i : ℕ} (h : i < 512) (j : ℕ) : outF a b c (my c + i) j = halfF a b c i j := by
  unfold outF; rw [pln_my c h, my_mod c h, devAt_of]

theorem out_xp (c : Dev nD) {i : ℕ} (h : i < 512) (j : ℕ) : outF a b (xp c) (my c + i) j = halfF a b c i j := by
  unfold outF; rw [pln_my c h, my_mod c h, devAt_xp]

theorem xr_xp (c : Dev nD) (i j : ℕ) : xrF a b (xp c) i j = partF a b c (oth c + i) j := by
  unfold xrF; rw [xp_xp, my_xp]

/-! ## The equations of the stores and copies -/

theorem rd_at (r : Ref sig .tc) {off size : Fin r.ty.shape.rank → ℕ} {h : ∀ a, off a + size a ≤ r.ty.shape.size a} (f : r.ty.Contents (Elt F))
    (x : (Rect.unit off size h).shape.Idx) : rd r off size h f x = f (((View.whole r).slice (Rect.unit off size h)).emb x) := rfl

section Eqs
variable (c : Dev nD) (r k n l : ℕ)

theorem rd_part (h : ∀ a, (![r, k] : Fin 2 → ℕ) a + (![n, l] : Fin 2 → ℕ) a ≤ S1024x1024.size a) (f : ℕ → ℕ → F .bf16) (x : (⟨2, ![n, l]⟩ : Shape).Idx) :
    rd (F := F) cc0_scratch0 ![r, k] ![n, l] h (to2 (n := 1024) (k := 1024) f) x = f (r + (x 0).val) (k + (x 1).val) :=
  congrArg₂ f (emb_unit cc0_scratch0 ![r, k] ![n, l] h x 0) (emb_unit cc0_scratch0 ![r, k] ![n, l] h x 1)
theorem rd_out (h : ∀ a, (![r, k] : Fin 2 → ℕ) a + (![n, l] : Fin 2 → ℕ) a ≤ S1024x1024.size a) (f : ℕ → ℕ → F .bf16) (x : (⟨2, ![n, l]⟩ : Shape).Idx) :
    rd (F := F) cc0_stg2_0 ![r, k] ![n, l] h (to2 (n := 1024) (k := 1024) f) x = f (r + (x 0).val) (k + (x 1).val) :=
  congrArg₂ f (emb_unit cc0_stg2_0 ![r, k] ![n, l] h x 0) (emb_unit cc0_stg2_0 ![r, k] ![n, l] h x 1)
theorem rd_xr (h : ∀ a, (![r, k] : Fin 2 → ℕ) a + (![n, l] : Fin 2 → ℕ) a ≤ S512x1024.size a) (f : ℕ → ℕ → F .bf16) (x : (⟨2, ![n, l]⟩ : Shape).Idx) :
    rd (F := F) cc0_scratch1 ![r, k] ![n, l] h (to2 (n := 512) (k := 1024) f) x = f (r + (x 0).val) (k + (x 1).val) :=
  congrArg₂ f (emb_unit cc0_scratch1 ![r, k] ![n, l] h x 0) (emb_unit cc0_scratch1 ![r, k] ![n, l] h x 1)
theorem rd_hb (h : ∀ a, (![r, k] : Fin 2 → ℕ) a + (![n, l] : Fin 2 → ℕ) a ≤ S512x1024.size a) (f : ℕ → ℕ → F .bf16) (x : (⟨2, ![n, l]⟩ : Shape).Idx) :
    rd (F := F) cc0_scratch2 ![r, k] ![n, l] h (to2 (n := 512) (k := 1024) f) x = f (r + (x 0).val) (k + (x 1).val) :=
  congrArg₂ f (emb_unit cc0_scratch2 ![r, k] ![n, l] h x 0) (emb_unit cc0_scratch2 ![r, k] ![n, l] h x 1)
theorem rd_yz (h : ∀ a, (![r, k] : Fin 2 → ℕ) a + (![n, l] : Fin 2 → ℕ) a ≤ S512x1024.size a) (f : ℕ → ℕ → F .bf16) (x : (⟨2, ![n, l]⟩ : Shape).Idx) :
    rd (F := F) cc0_scratch3 ![r, k] ![n, l] h (to2 (n := 512) (k := 1024) f) x = f (r + (x 0).val) (k + (x 1).val) :=
  congrArg₂ f (emb_unit cc0_scratch3 ![r, k] ![n, l] h x 0) (emb_unit cc0_scratch3 ![r, k] ![n, l] h x 1)
theorem rd_acc (h : ∀ a, (![r, k] : Fin 2 → ℕ) a + (![n, l] : Fin 2 → ℕ) a ≤ S32x1024.size a) (f : ℕ → ℕ → F .f32) (x : (⟨2, ![n, l]⟩ : Shape).Idx) :
    rd (F := F) cc0_scratch4 ![r, k] ![n, l] h (to2 (n := 32) (k := 1024) f) x = f (r + (x 0).val) (k + (x 1).val) :=
  congrArg₂ f (emb_unit cc0_scratch4 ![r, k] ![n, l] h x 0) (emb_unit cc0_scratch4 ![r, k] ![n, l] h x 1)
theorem rd_red (h : ∀ a, (![r, k] : Fin 2 → ℕ) a + (![n, l] : Fin 2 → ℕ) a ≤ S32x1024.size a) (f : ℕ → ℕ → F .bf16) (x : (⟨2, ![n, l]⟩ : Shape).Idx) :
    rd (F := F) cc0_scratch5 ![r, k] ![n, l] h (to2 (n := 32) (k := 1024) f) x = f (r + (x 0).val) (k + (x 1).val) :=
  congrArg₂ f (emb_unit cc0_scratch5 ![r, k] ![n, l] h x 0) (emb_unit cc0_scratch5 ![r, k] ![n, l] h x 1)
theorem rd_half (h : ∀ a, (![r, k] : Fin 2 → ℕ) a + (![n, l] : Fin 2 → ℕ) a ≤ S512x1024.size a) (f : ℕ → ℕ → F .bf16) (x : (⟨2, ![n, l]⟩ : Shape).Idx) :
    rd (F := F) cc0_scratch6 ![r, k] ![n, l] h (to2 (n := 512) (k := 1024) f) x = f (r + (x 0).val) (k + (x 1).val) :=
  congrArg₂ f (emb_unit cc0_scratch6 ![r, k] ![n, l] h x 0) (emb_unit cc0_scratch6 ![r, k] ![n, l] h x 1)

end Eqs

section Steps
variable (c : Dev nD) (k l : ℕ)

/-- A half of the partial product is stored. -/
theorem eq_prod (h : Fin 2) (h₁ : ∀ a, (![512 * h.val, 0] : Fin 2 → ℕ) a + S512x1024.size a ≤ S1024x1024.size a)
    (h₂ : ∀ a, (![512 * h.val, 0] : Fin 2 → ℕ) a + S512x512.size a ≤ S1024x512.size a)
    (h₃ : ∀ a, (![0, 0] : Fin 2 → ℕ) a + S512x1024.size a ≤ S512x1024.size a) :
    rd (F := F) cc0_scratch0 ![512 * h.val, 0] S512x1024.size h₁ (to2 (n := 1024) (k := 1024) (partF a b c))
      = k0_pay2 (rd (F := F) cc0_stg1_0 ![0, 0] S512x1024.size h₃ (b c)) (rd (F := F) cc0_stg0_0 ![512 * h.val, 0] S512x512.size h₂ (a c)) := by
  have e₁ : rd (F := F) cc0_stg1_0 ![0, 0] S512x1024.size h₃ (b c) = b c := by
    funext x
    refine congrArg (b c) (funext fun i => Fin.ext ?_)
    refine (emb_unit cc0_stg1_0 ![0, 0] S512x1024.size h₃ x i).trans ?_
    revert i; exact Fin.forall_fin_two.mpr ⟨Nat.zero_add _, Nat.zero_add _⟩
  have e₂ : rd (F := F) cc0_stg0_0 ![512 * h.val, 0] S512x512.size h₂ (a c) = aRows a c h.val := by
    funext x
    refine congrArg (a c) (funext fun i => Fin.ext ?_)
    refine (emb_unit cc0_stg0_0 ![512 * h.val, 0] S512x512.size h₂ x i).trans ?_
    have hx0 : (x 0).val < 512 := (x 0).isLt
    have hx1 : (x 1).val < 512 := (x 1).isLt
    have hh := h.isLt
    revert i; refine Fin.forall_fin_two.mpr ⟨?_, ?_⟩
    · show 512 * h.val + (x 0).val = (512 * h.val + (x 0).val) % 1024
      omega
    · show 0 + (x 1).val = (x 1).val % 512
      omega
  rw [e₁, e₂]
  funext x
  refine (rd_part _ _ _ _ h₁ _ x).trans ?_
  have hx0 : (x 0).val < 512 := (x 0).isLt
  unfold partF
  rw [show (512 * h.val + (x 0).val) / 512 = h.val by omega, show (512 * h.val + (x 0).val) % 512 = (x 0).val by omega, Nat.zero_add, at2_self]
  rfl

theorem pay3_eq (v : Vec F S512x1024 .bf16) (w : Vec F S512x512 .bf16) : k0_pay3 (k0_pay1 v) w = k0_pay2 v w := rfl

/-- A strip of the partial product is sent across. -/
theorem eq_sendX (h₁ : ∀ a, (![0, k] : Fin 2 → ℕ) a + S512x256.size a ≤ S512x1024.size a)
    (h₂ : ∀ a, (![oth c, k] : Fin 2 → ℕ) a + S512x256.size a ≤ S1024x1024.size a) :
    rd (F := F) cc0_scratch1 ![0, k] S512x256.size h₁ (to2 (n := 512) (k := 1024) (xrF a b (xp c)))
      = rd (F := F) cc0_scratch0 ![oth c, k] S512x256.size h₂ (to2 (n := 1024) (k := 1024) (partF a b c)) := by
  funext x
  refine (rd_xr _ _ _ _ h₁ _ x).trans (Eq.trans ?_ (rd_part _ _ _ _ h₂ _ x).symm)
  rw [xr_xp, Nat.zero_add]

/-- The two halves are added. -/
theorem eq_hb (h₁ : ∀ a, (![0, k] : Fin 2 → ℕ) a + S512x256.size a ≤ S512x1024.size a)
    (h₂ : ∀ a, (![my c, k] : Fin 2 → ℕ) a + S512x256.size a ≤ S1024x1024.size a) :
    rd (F := F) cc0_scratch2 ![0, k] S512x256.size h₁ (to2 (n := 512) (k := 1024) (hbF a b c))
      = k0_pay6 (rd (F := F) cc0_scratch0 ![my c, k] S512x256.size h₂ (to2 (n := 1024) (k := 1024) (partF a b c)))
          (rd (F := F) cc0_scratch1 ![0, k] S512x256.size h₁ (to2 (n := 512) (k := 1024) (xrF a b c))) := by
  unfold k0_pay6
  refine Eq.trans ?_ (shapeCast_self _ _).symm
  funext x
  refine (rd_hb _ _ _ _ h₁ _ x).trans ?_
  refine Eq.trans ?_ (congrArg₂ (fun u v => rnd (plus (ext u) (ext v))) (rd_part _ _ _ _ h₂ (partF a b c) x) (rd_xr _ _ _ _ h₁ (xrF a b c) x)).symm
  unfold hbF
  rw [Nat.zero_add]

/-- Rows of the sums are sent round the plane. -/
theorem eq_send1 (p : Fin 16) (h₁ : ∀ a, (![row (gOf c), k] : Fin 2 → ℕ) a + S32x256.size a ≤ S512x1024.size a)
    (h₂ : ∀ a, (![row (gOf c + p), k] : Fin 2 → ℕ) a + S32x256.size a ≤ S512x1024.size a) :
    rd (F := F) cc0_scratch3 ![row (gOf c), k] S32x256.size h₁ (to2 (n := 512) (k := 1024) (yzF a b (nxt p c)))
      = rd (F := F) cc0_scratch2 ![row (gOf c + p), k] S32x256.size h₂ (to2 (n := 512) (k := 1024) (hbF a b c)) := by
  funext x
  refine (rd_yz _ _ _ _ h₁ _ x).trans (Eq.trans ?_ (rd_hb _ _ _ _ h₂ _ x).symm)
  exact yz_row a b c p (x 0).isLt _

/-- The running sum starts at this device's own rows. -/
theorem eq_acc0 (h₁ : ∀ a, (![0, k] : Fin 2 → ℕ) a + S32x256.size a ≤ S32x1024.size a)
    (h₂ : ∀ a, (![row (gOf c), k] : Fin 2 → ℕ) a + S32x256.size a ≤ S512x1024.size a) :
    rd (F := F) cc0_scratch4 ![0, k] S32x256.size h₁ (to2 (n := 32) (k := 1024) (accF a b c 0))
      = k0_pay9 (rd (F := F) cc0_scratch2 ![row (gOf c), k] S32x256.size h₂ (to2 (n := 512) (k := 1024) (hbF a b c))) := by
  unfold k0_pay9
  refine Eq.trans ?_ (shapeCast_self _ _).symm
  funext x
  refine (rd_acc _ _ _ _ h₁ _ x).trans (Eq.trans ?_ (congrArg (fun u => ext u) (rd_hb _ _ _ _ h₂ (hbF a b c) x)).symm)
  show ext (hbF a b c (row (gOf c) + (0 + (x 0).val)) _) = _
  rw [Nat.zero_add]

/-- A partner's rows are added. -/
theorem eq_acc (o : Fin 15) (h₁ : ∀ a, (![0, k] : Fin 2 → ℕ) a + S32x256.size a ≤ S32x1024.size a)
    (h₂ : ∀ a, (![row (gOf c + stp o), k] : Fin 2 → ℕ) a + S32x256.size a ≤ S512x1024.size a) :
    rd (F := F) cc0_scratch4 ![0, k] S32x256.size h₁ (to2 (n := 32) (k := 1024) (accF a b c (o.val + 1)))
      = k0_pay10 (rd (F := F) cc0_scratch4 ![0, k] S32x256.size h₁ (to2 (n := 32) (k := 1024) (accF a b c o.val)))
          (rd (F := F) cc0_scratch3 ![row (gOf c + stp o), k] S32x256.size h₂ (to2 (n := 512) (k := 1024) (yzF a b c))) := by
  unfold k0_pay10
  refine Eq.trans ?_ (shapeCast_self _ _).symm
  funext x
  refine (rd_acc _ _ _ _ h₁ _ x).trans ?_
  refine Eq.trans ?_ (congrArg₂ (fun u v => plus u (ext v)) (rd_acc _ _ _ _ h₁ (accF a b c o.val) x) (rd_yz _ _ _ _ h₂ (yzF a b c) x)).symm
  show plus _ (ext (yzF a b c (row (gOf c + plc (o.val + 1)) + (0 + (x 0).val)) _)) = _
  rw [Nat.zero_add, plc_stp]

/-- The finished rows are rounded. -/
theorem eq_red (h₁ : ∀ a, (![0, k] : Fin 2 → ℕ) a + S32x256.size a ≤ S32x1024.size a) :
    rd (F := F) cc0_scratch5 ![0, k] S32x256.size h₁ (to2 (n := 32) (k := 1024) (redF a b c))
      = k0_pay26 (k0_pay25 (rd (F := F) cc0_scratch4 ![0, k] S32x256.size h₁ (to2 (n := 32) (k := 1024) (accF a b c 15)))) := by
  unfold k0_pay26
  refine Eq.trans ?_ (shapeCast_self _ _).symm
  funext x
  exact (rd_red _ _ _ _ h₁ _ x).trans (congrArg (fun u => rnd u) (rd_acc _ _ _ _ h₁ (accF a b c 15) x)).symm

/-- The finished rows are sent round the plane. -/
theorem eq_send2 (p : Fin 16) (h₁ : ∀ a, (![row (gOf c), k] : Fin 2 → ℕ) a + S32x256.size a ≤ S512x1024.size a)
    (h₂ : ∀ a, (![0, k] : Fin 2 → ℕ) a + S32x256.size a ≤ S32x1024.size a) :
    rd (F := F) cc0_scratch6 ![row (gOf c), k] S32x256.size h₁ (to2 (n := 512) (k := 1024) (halfF a b (nxt p c)))
      = rd (F := F) cc0_scratch5 ![0, k] S32x256.size h₂ (to2 (n := 32) (k := 1024) (redF a b c)) := by
  funext x
  refine (rd_half _ _ _ _ h₁ _ x).trans (Eq.trans ?_ (rd_red _ _ _ _ h₂ _ x).symm)
  rw [half_row a b c p (x 0).isLt, Nat.zero_add]

/-- This device's finished rows are put in their place. -/
theorem eq_keep2 (h₁ : ∀ a, (![row (gOf c), k] : Fin 2 → ℕ) a + S32x256.size a ≤ S512x1024.size a)
    (h₂ : ∀ a, (![0, k] : Fin 2 → ℕ) a + S32x256.size a ≤ S32x1024.size a) :
    rd (F := F) cc0_scratch6 ![row (gOf c), k] S32x256.size h₁ (to2 (n := 512) (k := 1024) (halfF a b c))
      = k0_pay27 (rd (F := F) cc0_scratch5 ![0, k] S32x256.size h₂ (to2 (n := 32) (k := 1024) (redF a b c))) := by
  unfold k0_pay27
  refine Eq.trans ?_ (shapeCast_self _ _).symm
  have := eq_send2 a b c k 0 h₁ h₂
  rwa [nxt_zero] at this

/-- The finished half is kept. -/
theorem eq_keepA (h₁ : ∀ a, (![my c, k] : Fin 2 → ℕ) a + S512x256.size a ≤ S1024x1024.size a)
    (h₂ : ∀ a, (![0, k] : Fin 2 → ℕ) a + S512x256.size a ≤ S512x1024.size a) :
    rd (F := F) cc0_stg2_0 ![my c, k] S512x256.size h₁ (to2 (n := 1024) (k := 1024) (outF a b c))
      = rd (F := F) cc0_scratch6 ![0, k] S512x256.size h₂ (to2 (n := 512) (k := 1024) (halfF a b c)) := by
  funext x
  refine (rd_out _ _ _ _ h₁ _ x).trans (Eq.trans ?_ (rd_half _ _ _ _ h₂ _ x).symm)
  rw [out_own a b c (x 0).isLt, Nat.zero_add]

/-- The finished half is sent across. -/
theorem eq_sendA (h₁ : ∀ a, (![my c, k] : Fin 2 → ℕ) a + S512x256.size a ≤ S1024x1024.size a)
    (h₂ : ∀ a, (![0, k] : Fin 2 → ℕ) a + S512x256.size a ≤ S512x1024.size a) :
    rd (F := F) cc0_stg2_0 ![my c, k] S512x256.size h₁ (to2 (n := 1024) (k := 1024) (outF a b (xp c)))
      = rd (F := F) cc0_scratch6 ![0, k] S512x256.size h₂ (to2 (n := 512) (k := 1024) (halfF a b c)) := by
  funext x
  refine (rd_out _ _ _ _ h₁ _ x).trans (Eq.trans ?_ (rd_half _ _ _ _ h₂ _ x).symm)
  rw [out_xp a b c (x 0).isLt, Nat.zero_add]

end Steps

end Cert.KernelIdeal.AllReduce

end
-- ==== Proof.KernelIdeal.Pieces.lean ====
/-
  Dividing a buffer into pieces and joining them again: column strips, blocks of rows, halves, shares.
-/
module

public import proofs.«01_k».proof.Proof.KernelIdeal.Values
public import Idealize.ShloMosaic.Lib.Pipeline.BigSepL

@[expose] public section

set_option maxRecDepth 16384

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

/-- The four strips' numbers. -/
def sl : List (Fin 4) := [0, 1, 2, 3]
/-- The places of a plane by distance: none, then the fifteen partners'. -/
def ks : List (Fin 16) := 0 :: js.map stp

theorem sl_univ : (Finset.univ : Finset (Fin 4)) = sl.toFinset := by decide
theorem sl_nodup : sl.Nodup := by decide
theorem js_univ : (Finset.univ : Finset (Fin 15)) = js.toFinset := by decide
theorem js_nodup : js.Nodup := by decide
theorem ks_univ : (Finset.univ : Finset (Fin 16)) = ks.toFinset := by decide
theorem ks_nodup : ks.Nodup := by decide

/-- A piece at some contents. -/
def regE (r : Ref sig .tc) (c : Dev nD) (off size : Fin r.ty.shape.rank → ℕ) : sProp 𝕄 := iprop(∃ f, reg r c fullShare off size f)

omit [FloatOps F] in
instance regE_storable (r : Ref sig .tc) (c : Dev nD) (off size : Fin r.ty.shape.rank → ℕ) :
    BI.Storable (upEmb : UEmb _ 𝕄) (regE r c off size : sProp 𝕄) := by unfold regE; infer_instance

omit [FloatOps F] in
theorem regE_intro (r : Ref sig .tc) (c : Dev nD) (off size : Fin r.ty.shape.rank → ℕ) (f : r.ty.Contents (Elt F)) :
    (reg r c fullShare off size f : sProp 𝕄) ⊢ regE r c off size := by
  unfold regE; iintro H; iexists f; iexact H

/-! ## Covers -/

theorem cols_cover (N r n : ℕ) : (Finset.univ : Finset (Fin 4)).biUnion (fun s => rct (s := ⟨2, ![N, 1024]⟩) ![r, 256 * s.val] ![n, 256]) = rct ![r, 0] ![n, 1024] := by
  ext i
  simp only [Finset.mem_biUnion, Finset.mem_univ, true_and, mem_rct, Fin.forall_fin_two]
  have h1 : (i 1).val < 1024 := (i 1).isLt
  show (∃ s : Fin 4, (r ≤ (i 0).val ∧ (i 0).val < r + n) ∧ (256 * s.val ≤ (i 1).val ∧ (i 1).val < 256 * s.val + 256)) ↔ (r ≤ (i 0).val ∧ (i 0).val < r + n) ∧ (0 ≤ (i 1).val ∧ (i 1).val < 0 + 1024)
  constructor
  · rintro ⟨s, h, _, _⟩; exact ⟨h, by omega, by omega⟩
  · rintro ⟨h, _, _⟩; exact ⟨⟨(i 1).val / 256, by omega⟩, h, by dsimp only; omega, by dsimp only; omega⟩

theorem cols_disj (N r n : ℕ) (s s' : Fin 4) (h : s ≠ s') :
    Disjoint (rct (s := ⟨2, ![N, 1024]⟩) ![r, 256 * s.val] ![n, 256]) (rct ![r, 256 * s'.val] ![n, 256]) := by
  refine Finset.disjoint_left.mpr fun i hi hi' => h (Fin.ext ?_)
  have h1 : 256 * s.val ≤ (i 1).val ∧ (i 1).val < 256 * s.val + 256 := mem_rct.mp hi 1
  have h2 : 256 * s'.val ≤ (i 1).val ∧ (i 1).val < 256 * s'.val + 256 := mem_rct.mp hi' 1
  omega

theorem rows_cover (g : Fin 16) (k l : ℕ) :
    (Finset.univ : Finset (Fin 16)).biUnion (fun p => rct (s := ⟨2, ![512, 1024]⟩) ![row (g + p), k] ![32, l]) = rct ![0, k] ![512, l] := by
  ext i
  simp only [Finset.mem_biUnion, Finset.mem_univ, true_and, mem_rct, Fin.forall_fin_two]
  have h0 : (i 0).val < 512 := (i 0).isLt
  show (∃ p : Fin 16, (row (g + p) ≤ (i 0).val ∧ (i 0).val < row (g + p) + 32) ∧ (k ≤ (i 1).val ∧ (i 1).val < k + l)) ↔ (0 ≤ (i 0).val ∧ (i 0).val < 0 + 512) ∧ (k ≤ (i 1).val ∧ (i 1).val < k + l)
  unfold row
  constructor
  · rintro ⟨p, _, h⟩; exact ⟨by omega, h⟩
  · rintro ⟨_, h⟩
    refine ⟨⟨((i 0).val / 32 + 16 - g.val) % 16, Nat.mod_lt _ (by decide)⟩, ?_, h⟩
    simp only [Fin.val_add]
    omega

theorem rows_disj (g : Fin 16) (k l : ℕ) (p p' : Fin 16) (h : p ≠ p') :
    Disjoint (rct (s := ⟨2, ![512, 1024]⟩) ![row (g + p), k] ![32, l]) (rct ![row (g + p'), k] ![32, l]) := by
  refine Finset.disjoint_left.mpr fun i hi hi' => h (Fin.ext ?_)
  have h1 : row (g + p) ≤ (i 0).val ∧ (i 0).val < row (g + p) + 32 := mem_rct.mp hi 0
  have h2 : row (g + p') ≤ (i 0).val ∧ (i 0).val < row (g + p') + 32 := mem_rct.mp hi' 0
  unfold row at h1 h2
  simp only [Fin.val_add] at h1 h2
  omega

theorem halves_cover : (Finset.univ : Finset (Fin 2)).biUnion (fun h => rct (s := ⟨2, ![1024, 1024]⟩) ![512 * h.val, 0] ![512, 1024]) = rct ![0, 0] ![1024, 1024] := by
  ext i
  simp only [Finset.mem_biUnion, Finset.mem_univ, true_and, mem_rct, Fin.forall_fin_two]
  have h0 : (i 0).val < 1024 := (i 0).isLt
  have h1 : (i 1).val < 1024 := (i 1).isLt
  show (∃ h : Fin 2, (512 * h.val ≤ (i 0).val ∧ (i 0).val < 512 * h.val + 512) ∧ (0 ≤ (i 1).val ∧ (i 1).val < 0 + 1024)) ↔ (0 ≤ (i 0).val ∧ (i 0).val < 0 + 1024) ∧ (0 ≤ (i 1).val ∧ (i 1).val < 0 + 1024)
  constructor
  · rintro ⟨h, _, h'⟩; exact ⟨by omega, h'⟩
  · rintro ⟨_, h'⟩; exact ⟨⟨(i 0).val / 512, by omega⟩, by dsimp only; omega, h'⟩

theorem halves_disj (h h' : Fin 2) (hne : h ≠ h') :
    Disjoint (rct (s := ⟨2, ![1024, 1024]⟩) ![512 * h.val, 0] ![512, 1024]) (rct ![512 * h'.val, 0] ![512, 1024]) := by
  refine Finset.disjoint_left.mpr fun i hi hi' => hne (Fin.ext ?_)
  have h1 : 512 * h.val ≤ (i 0).val ∧ (i 0).val < 512 * h.val + 512 := mem_rct.mp hi 0
  have h2 : 512 * h'.val ≤ (i 0).val ∧ (i 0).val < 512 * h'.val + 512 := mem_rct.mp hi' 0
  omega

theorem rct_whole (N M : ℕ) : rct (s := ⟨2, ![N, M]⟩) ![0, 0] ![N, M] = Finset.univ := by
  refine Finset.eq_univ_of_forall fun i => mem_rct.mpr (Fin.forall_fin_two.mpr ⟨?_, ?_⟩)
  · exact ⟨Nat.zero_le _, by have : (i 0).val < N := (i 0).isLt; show (i 0).val < 0 + N; omega⟩
  · exact ⟨Nat.zero_le _, by have : (i 1).val < M := (i 1).isLt; show (i 1).val < 0 + M; omega⟩

/-! ## Dividing and joining -/

section Parts
variable {T : Type} [Fintype T] [DecidableEq T] (l : List T) (hl : (Finset.univ : Finset T) = l.toFinset) (hn : l.Nodup)
  (r : Ref sig .tc) (c : Dev nD) {off size size' : Fin r.ty.shape.rank → ℕ} {off' : T → Fin r.ty.shape.rank → ℕ}
  (hU : (Finset.univ : Finset T).biUnion (fun t => rct (s := r.ty.shape) (off' t) size') = rct off size)
  (hd : ∀ t t', t ≠ t' → Disjoint (rct (s := r.ty.shape) (off' t) size') (rct (off' t') size'))

omit [FloatOps F] in
include hl hn hU hd in
/-- A piece is the pieces it is divided into. -/
theorem reg_parts (q : PosShare TreeShare) (f : r.ty.Contents (Elt F)) :
    (reg r c q off size f : sProp 𝕄) = bigSepL l fun t => reg r c q (off' t) size' f := by
  rw [← bigSep_univ_eq_bigSepL l hl hn]
  exact Ring.pointsTo_sub_blocks (fun t => rct (s := r.ty.shape) (off' t) size') hd (rct (s := r.ty.shape) off size) hU (ℓ := (c : Thread nD τ).loc r) f

include hl hn hU hd in
/-- Pieces at some contents join. -/
theorem regE_join (f₀ : r.ty.Contents (Elt F)) : bigSepL l (fun t => regE r c (off' t) size') ⊢ (regE r c off size : sProp 𝕄) := by
  rw [← bigSep_univ_eq_bigSepL l hl hn]
  exact Ring.pointsTo_sub_blocks_join_exists (fun t => rct (s := r.ty.shape) (off' t) size') hd (rct (s := r.ty.shape) off size) hU (ℓ := (c : Thread nD τ).loc r)
    f₀

include hl hn hU hd in
/-- A piece at some contents divides. -/
theorem regE_split : (regE r c off size : sProp 𝕄) ⊢ bigSepL l (fun t => regE r c (off' t) size') := by
  refine (show (regE r c off size : sProp 𝕄) ⊢ iprop(∃ f, bigSepL l fun t => reg r c fullShare (off' t) size' f) from ?_).trans ?_
  · unfold regE; iintro ⟨%f, H⟩; iexists f; rw [← reg_parts l hl hn r c hU hd]; iexact H
  · iintro ⟨%f, H⟩; iapply (bigSepL_mono (fun t _ => regE_intro r c (off' t) size' f)); iexact H

end Parts

end Cert.KernelIdeal.AllReduce

end
-- ==== Proof.KernelIdeal.Sched.lean ====
/-
  The protocol. Every device has a barrier cell and 256 cells of copies: for each strip the first copy across, the fifteen
  copies of each of the two exchanges in the plane and the last copy across, each with a sending and a receiving end.

    * Entry: device `c` raises the barrier of the partner across and of the fifteen partners of its plane by one each, and
      waits for sixteen. A raise hands over the buffers of the device that makes it into which the other will copy.
    * First exchange: the strip of the partial product the partner across keeps goes to that partner.
    * In the plane: the rows of each partner go to that partner, which adds them up in order; the rounded rows then go back to
      all.
    * Last exchange: the finished half goes to the partner across.

  A receiving end hands over the landed buffer with its contents; a sending end hands back the source.
-/
module

public import proofs.«01_k».proof.Proof.KernelIdeal.Pieces

@[expose] public section

set_option maxRecDepth 16384

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

/-! ## The cells -/

/-- The copies' cells. Left: across, by strip (0 and 1: the two ends of the first copy; 2 and 3: of the last). Right: in the
    plane, by step and strip (0 and 1: the first exchange; 2 and 3: the second). -/
abbrev K : Type := Fin 4 × Fin 4 ⊕ Fin 4 × (Fin 15 × Fin 4)

/-- A cell's semaphore. -/
def semK : K → DmaSem sig
  | .inl (k, s) => ⟨(if k.val < 2 then 3 + 4 * k.val else 243 + 4 * k.val) + s.val, by
      show _ < 259
      have := k.isLt; have := s.isLt; split <;> omega⟩
  | .inr (k, o, s) => ⟨11 + 60 * k.val + 4 * o.val + s.val, by
      show _ < 259
      have := k.isLt; have := o.isLt; have := s.isLt; omega⟩

/-- The cell of a semaphore number. -/
def kindOf (q : ℕ) : Option K :=
  if q < 3 then none
  else if q < 11 then some (.inl (⟨(q - 3) / 4 % 4, Nat.mod_lt _ (by decide)⟩, ⟨(q - 3) % 4, Nat.mod_lt _ (by decide)⟩))
  else if q < 251 then some (.inr (⟨(q - 11) / 60 % 4, Nat.mod_lt _ (by decide)⟩, ⟨(q - 11) % 60 / 4 % 15, Nat.mod_lt _ (by decide)⟩, ⟨(q - 11) % 4, Nat.mod_lt _ (by decide)⟩))
  else some (.inl (⟨(q - 243) / 4 % 4, Nat.mod_lt _ (by decide)⟩, ⟨(q - 243) % 4, Nat.mod_lt _ (by decide)⟩))

theorem kindOf_semK (k : K) : kindOf (semK k).val = some k := by revert k; decide +kernel
theorem semK_inj : Function.Injective semK := fun k k' h => by
  have := kindOf_semK k; rw [h, kindOf_semK] at this; exact (Option.some.inj this).symm

theorem sem7_eq (s : Fin 4) : sem4 cc0_scratch7 s = semK (.inl (0, s)) := by revert s; decide +kernel
theorem sem8_eq (s : Fin 4) : sem4 cc0_scratch8 s = semK (.inl (1, s)) := by revert s; decide +kernel
theorem sem13_eq (s : Fin 4) : sem4 cc0_scratch13 s = semK (.inl (2, s)) := by revert s; decide +kernel
theorem sem14_eq (s : Fin 4) : sem4 cc0_scratch14 s = semK (.inl (3, s)) := by revert s; decide +kernel
theorem sem9_eq (o : Fin 15) (s : Fin 4) : sem15 cc0_scratch9 o s = semK (.inr (0, o, s)) := by revert o s; decide +kernel
theorem sem10_eq (o : Fin 15) (s : Fin 4) : sem15 cc0_scratch10 o s = semK (.inr (1, o, s)) := by revert o s; decide +kernel
theorem sem11_eq (o : Fin 15) (s : Fin 4) : sem15 cc0_scratch11 o s = semK (.inr (2, o, s)) := by revert o s; decide +kernel
theorem sem12_eq (o : Fin 15) (s : Fin 4) : sem15 cc0_scratch12 o s = semK (.inr (3, o, s)) := by revert o s; decide +kernel

/-- Device `c`'s barrier cell. -/
abbrev barC (c : Dev nD) : GSem nD τ sig := ((c : Thread nD τ), .reg barSem)
/-- Device `c`'s cell `k`. -/
abbrev kC (c : Dev nD) (k : K) : GSem nD τ sig := ((c : Thread nD τ), .dma (semK k))

/-- The units of a copy of 512 rows by 256 columns. -/
def NH : ℕ := (cc0_scratch1 : Ref sig .tc).dmaCredit S512x256 .bf16
/-- The units of a copy of 32 rows by 256 columns. -/
def NB : ℕ := (cc0_scratch3 : Ref sig .tc).dmaCredit S32x256 .bf16
theorem NH_pos : 0 < NH := sig.dmaCredit_pos _ _ _ _ _ (by decide)
theorem NB_pos : 0 < NB := sig.dmaCredit_pos _ _ _ _ _ (by decide)

/-- The units a cell takes. -/
def amtK : K → ℕ
  | .inl _ => NH
  | .inr _ => NB
theorem amtK_pos (k : K) : 0 < amtK k := by cases k; exacts [NH_pos, NB_pos]

/-! ## The payloads -/

section Payloads
variable (a : Dev nD → Vec F S1024x512 .bf16) (b : Dev nD → Vec F S512x1024 .bf16) (c : Dev nD)

abbrev pX (s : Fin 4) : sProp 𝕄 := reg cc0_scratch0 c fullShare ![oth c, 256 * s.val] S512x256.size (to2 (n := 1024) (k := 1024) (partF a b c))
abbrev pM (s : Fin 4) : sProp 𝕄 := reg cc0_scratch0 c fullShare ![my c, 256 * s.val] S512x256.size (to2 (n := 1024) (k := 1024) (partF a b c))
abbrev xrP (s : Fin 4) : sProp 𝕄 := reg cc0_scratch1 c fullShare ![0, 256 * s.val] S512x256.size (to2 (n := 512) (k := 1024) (xrF a b c))
abbrev hbP (p : Fin 16) (s : Fin 4) : sProp 𝕄 := reg cc0_scratch2 c fullShare ![row (gOf c + p), 256 * s.val] S32x256.size (to2 (n := 512) (k := 1024) (hbF a b c))
abbrev yzP (p : Fin 16) (s : Fin 4) : sProp 𝕄 := reg cc0_scratch3 c fullShare ![row (gOf c + p), 256 * s.val] S32x256.size (to2 (n := 512) (k := 1024) (yzF a b c))
abbrev accP (n : ℕ) (s : Fin 4) : sProp 𝕄 := reg cc0_scratch4 c fullShare ![0, 256 * s.val] S32x256.size (to2 (n := 32) (k := 1024) (accF a b c n))
abbrev redP (q : PosShare TreeShare) (s : Fin 4) : sProp 𝕄 := reg cc0_scratch5 c q ![0, 256 * s.val] S32x256.size (to2 (n := 32) (k := 1024) (redF a b c))
abbrev halfP (p : Fin 16) (s : Fin 4) : sProp 𝕄 := reg cc0_scratch6 c fullShare ![row (gOf c + p), 256 * s.val] S32x256.size (to2 (n := 512) (k := 1024) (halfF a b c))
abbrev halfQ (q : PosShare TreeShare) (s : Fin 4) : sProp 𝕄 := reg cc0_scratch6 c q ![0, 256 * s.val] S512x256.size (to2 (n := 512) (k := 1024) (halfF a b c))
abbrev outP (r : ℕ) (s : Fin 4) : sProp 𝕄 := reg cc0_stg2_0 c fullShare ![r, 256 * s.val] S512x256.size (to2 (n := 1024) (k := 1024) (outF a b c))

/-- What the raise of device `c`'s barrier numbered `j` hands over: the partner across, its landing strip and the rows of its
    result that `c` fills; a partner of the plane, its landing rows for `c`. -/
def barPay (j : Fin 16) : sProp 𝕄 :=
  if j = 0 then
    iprop(bigSepL sl (fun s => regE cc0_scratch1 (xp c) ![0, 256 * s.val] S512x256.size)
      ∗ bigSepL sl (fun s => regE cc0_stg2_0 (xp c) ![my c, 256 * s.val] S512x256.size))
  else
    iprop(bigSepL sl (fun s => regE cc0_scratch3 (nxt j c) ![row (gOf c), 256 * s.val] S32x256.size)
      ∗ bigSepL sl (fun s => regE cc0_scratch6 (nxt j c) ![row (gOf c), 256 * s.val] S32x256.size))

/-- What a copy's cell hands over. -/
def payK : K → sProp 𝕄
  | .inl (⟨0, _⟩, s) => pX a b c s
  | .inl (⟨1, _⟩, s) => xrP a b c s
  | .inl (⟨2, _⟩, s) => halfQ a b c fullShare.left s
  | .inl (⟨_ + 3, _⟩, s) => outP a b c (oth c) s
  | .inr (⟨0, _⟩, o, s) => hbP a b c (stp o) s
  | .inr (⟨1, _⟩, o, s) => yzP a b c (stp (mir o)) s
  | .inr (⟨2, _⟩, o, s) => redP a b c (shareTok fullShare 15 o) s
  | .inr (⟨_ + 3, _⟩, o, s) => halfP a b c (stp (mir o)) s

omit [FloatOps F] in
theorem storable_bigSepL {I : Type} (l : List I) (Φ : I → sProp 𝕄) [h : ∀ i, BI.Storable (upEmb : UEmb _ 𝕄) (Φ i)] :
    BI.Storable (upEmb : UEmb _ 𝕄) (bigSepL l Φ) := by
  induction l with
  | nil => exact (inferInstance : BI.Storable (upEmb : UEmb _ 𝕄) (iprop(emp) : sProp 𝕄))
  | cons i l ih => rw [bigSepL_cons']; infer_instance

omit [FloatOps F] in
instance barPay_storable (j : Fin 16) : BI.Storable (upEmb : UEmb _ 𝕄) (barPay (F := F) c j) := by
  unfold barPay
  have h1 := storable_bigSepL (F := F) sl (fun s => regE cc0_scratch1 (xp c) ![0, 256 * s.val] S512x256.size)
  have h2 := storable_bigSepL (F := F) sl (fun s => regE cc0_stg2_0 (xp c) ![my c, 256 * s.val] S512x256.size)
  have h3 := storable_bigSepL (F := F) sl (fun s => regE cc0_scratch3 (nxt j c) ![row (gOf c), 256 * s.val] S32x256.size)
  have h4 := storable_bigSepL (F := F) sl (fun s => regE cc0_scratch6 (nxt j c) ![row (gOf c), 256 * s.val] S32x256.size)
  split <;> infer_instance

instance payK_storable (k : K) : BI.Storable (upEmb : UEmb _ 𝕄) (payK a b c k) := by
  rcases k with ⟨⟨_ | _ | _ | _, hk⟩, s⟩ | ⟨⟨_ | _ | _ | _, hk⟩, o, s⟩ <;> exact reg_storable _ _ _ _ _ _

end Payloads

/-! ## The schedule -/

variable (a : Dev nD → Vec F S1024x512 .bf16) (b : Dev nD → Vec F S512x1024 .bf16)

/-- One round: a copy's cell is paid once, a barrier sixteen times. -/
def Rd : Rounds.Schedule (GSem nD τ sig) (Fin 16) 𝕄 where
  duties g r := if r = 0 then (match g.2 with | .reg _ => Finset.univ | .dma _ => {0}) else ∅
  unitless _ := False
  amount g _ _ := match g.2 with
    | .reg _ => 1
    | .dma q => match kindOf q.val with
      | some k => amtK k
      | none => 1
  payload g _ d := match g.2 with
    | .reg _ => barPay g.1.1 d
    | .dma q => match kindOf q.val with
      | some k => payK a b g.1.1 k
      | none => iprop(emp)
  amount_pos g _ _ _ := by
    dsimp only
    split
    · exact Nat.one_pos
    · split
      · exact amtK_pos _
      · exact Nat.one_pos

instance Rd_storable (g : GSem nD τ sig) (r : ℕ) (d : Fin 16) : BI.Storable (upEmb : UEmb _ 𝕄) ((Rd a b).payload g r d) := by
  rcases g with ⟨t, _ | q⟩
  · exact barPay_storable t.1 d
  · show BI.Storable (upEmb : UEmb _ 𝕄) (match kindOf q.val with
      | some k => payK a b t.1 k
      | none => iprop(emp))
    split <;> infer_instance

section Facts
variable (c : Dev nD) (k : K) (d : Fin 16)

theorem duties_bar : (Rd a b).duties (barC c) 0 = Finset.univ := by dsimp only [Rd]; exact if_pos rfl
theorem duties_k : (Rd a b).duties (kC c k) 0 = {0} := by dsimp only [Rd]; exact if_pos rfl
theorem duties_later (g : GSem nD τ sig) (r : ℕ) (h : 1 ≤ r) : (Rd a b).duties g r = ∅ := by dsimp only [Rd]; exact if_neg (by omega)
theorem amount_bar : (Rd a b).amount (barC c) 0 d = 1 := rfl
theorem amount_k : (Rd a b).amount (kC c k) 0 d = amtK k := by
  show (match kindOf (semK k).val with | some k => amtK k | none => 1) = _
  rw [kindOf_semK]
theorem payload_bar : (Rd a b).payload (barC c) 0 d = barPay c d := rfl
theorem payload_k : (Rd a b).payload (kC c k) 0 d = payK a b c k := by
  show (match kindOf (semK k).val with | some k => payK a b c k | none => iprop(emp)) = _
  rw [kindOf_semK]
theorem expect_bar : (Rd a b).expect (barC c) 0 = 16 := by
  unfold Schedule.expect Schedule.amountOf
  rw [duties_bar, Finset.sum_congr rfl fun d _ => amount_bar a b c d]; rfl
theorem expect_k : (Rd a b).expect (kC c k) 0 = amtK k := by
  unfold Schedule.expect Schedule.amountOf
  rw [duties_k, Finset.sum_singleton, amount_k]
theorem rest_bar : bigSep ((Rd a b).duties (barC c) 0 \ ∅) (fun d => (Rd a b).payload (barC c) 0 d) = bigSepL ks (barPay (F := F) c) := by
  rw [Finset.sdiff_empty, duties_bar, bigSep_univ_eq_bigSepL ks ks_univ ks_nodup]; rfl
theorem rest_k : bigSep ((Rd a b).duties (kC c k) 0 \ ∅) (fun d => (Rd a b).payload (kC c k) 0 d) = payK a b c k := by
  rw [Finset.sdiff_empty, duties_k, bigSep_singleton, payload_k]

end Facts

end Cert.KernelIdeal.AllReduce

end
-- ==== Proof.KernelIdeal.Rules.lean ====
/-
  What a device keeps while it runs, and the rule of each kind of step: a raise of a barrier, the barrier's wait, a copy's
  wait, a remote copy, a load and a store. A device owes a list of payments, in the order in which it makes them.
-/
module

public import proofs.«01_k».proof.Proof.KernelIdeal.Sched

@[expose] public section

set_option maxRecDepth 16384

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.TalkSites (Pay tallyL tallyL_pos)
open Idealize.ShloMosaic.SiteBlocks (L lv mem_L' mayWait_of)

variable {F : FTy → Type} [FloatOps F]

local notation "𝕄" => MT nD τ sig ℕ (Elt F) ℕ UU ℕ

/-- A payment. -/
abbrev Py : Type := Pay nD τ sig

/-- A device's cells: its barrier and its copies'. -/
def cellAt (p : Dev nD × Option K) : GSem nD τ sig :=
  match p.2 with
  | none => barC p.1
  | some k => kC p.1 k

/-- Every payment of a list is to a core's cell, at an index above `i`. -/
def Up (i : ℕ) (l : List Py) : Prop := ∀ x ∈ l, x.1.1.2 = .tc ∧ i < x.2.1 ∧ x.2.1 < 9

theorem up_nil (i : ℕ) : Up i [] := fun _ h => absurd h List.not_mem_nil

omit [FloatOps F] in
theorem mayWait {i : ℕ} (hi : i < 9) {l : List Py} (h : Up i l) (c : Dev nD) (sm : SemLoc sig) :
    (levAts (L 9) lv : sProp 𝕄) ⊢ MayWait (c : Thread nD τ) sm i (tallyL l) :=
  mayWait_of hi c sm _ fun g k hk => by
    obtain ⟨x, hx, rfl, rfl⟩ := tallyL_pos hk
    obtain ⟨h1, h2, h3⟩ := h x hx
    exact ⟨mem_L' h1 h3, h2⟩

variable (a : Dev nD → Vec F S1024x512 .bf16) (b : Dev nD → Vec F S512x1024 .bf16) (κ : Dev nD × Option K → ℕ)

/-- The cells' invariants, and that every cell's round has begun. -/
def recs : sProp 𝕄 :=
  bigSep Finset.univ fun p : Dev nD × Option K => iprop(cellInv ER (Rd a b) (κ p) (cellAt p) ∗ reached ER (cellAt p) 0)

instance recs_persistent : Persistent (recs a b κ) := by unfold recs; infer_instance

theorem recs_at (p : Dev nD × Option K) : recs a b κ ⊢ iprop(cellInv ER (Rd a b) (κ p) (cellAt p) ∗ reached ER (cellAt p) 0) :=
  bigSep_elim (Finset.mem_univ p)
theorem recs_bar (c : Dev nD) : recs a b κ ⊢ iprop(cellInv ER (Rd a b) (κ (c, none)) (barC c) ∗ reached ER (barC c) 0) := recs_at a b κ (c, none)
theorem recs_k (c : Dev nD) (k : K) : recs a b κ ⊢ iprop(cellInv ER (Rd a b) (κ (c, some k)) (kC c k) ∗ reached ER (kC c k) 0) := recs_at a b κ (c, some k)

/-- Device `c` owing the payments `l`. -/
def St (c : Dev nD) (l : List Py) : sProp 𝕄 :=
  iprop(recs a b κ ∗ levAts (L 9) lv ∗ ∃ W, owes (c : Thread nD τ) (tallyL l) W)

/-- Cell `k` of device `c` is before its round; after it; the payment of its duty is owed; its units may be taken. -/
abbrev Pos (c : Dev nD) (k : K) : sProp 𝕄 := atPos ER (kC c k) 0 ∅ 0
abbrev Done (c : Dev nD) (k : K) : sProp 𝕄 := atPos ER (kC c k) 1 ∅ 0
abbrev Tok (c : Dev nD) (k : K) : sProp 𝕄 := dutyTok ER (kC c k) 0 0
abbrev Cr (c : Dev nD) (k : K) (i : ℕ) : sProp 𝕄 := cred (tallyAt (kC c k) i (amtK k))

/-- Raise a partner's barrier. -/
theorem wp_signalTo (c d : Dev nD) (f : Dev nD → Dev nD) (hf : f c = d) (j : Fin 16) (l : List Py) {P : Pg F} {Q : PUnit → sProp 𝕄} :
    iprop(dutyTok ER (barC d) 0 j ∗ barPay d j ∗ St a b κ c ((barC d, 1, 1) :: l))
      ⊢ iprop((St a b κ c l -∗ WP c P Q) -∗ WP c (signal c f P) Q) := by
  subst hf
  unfold St signal
  iintro ⟨Ht, Hp, #Hr, #HL, ⟨%W, Ho⟩⟩ Hk
  ihave #Hb := (recs_bar a b κ (f c)) $$ Hr
  icases Hb with ⟨#HI, #Hre⟩
  iapply (Rounds.wp_signal 𝒱₀ ER (Rd a b) (c : Thread nD τ) none (dst := (f c : Thread nD τ)) (κ := κ (f c, none)) (r := 0) (d := j)
      (by rw [duties_bar]; exact Finset.mem_univ _) (amount_bar a b (f c) j) 1 (tallyL l) (add_comm _ _)) $$ [Ho Ht Hp]
  · isplitr; · iexact HI
    isplitl [Ho]; · iexact Ho
    isplitl [Ht]; · iexact Ht
    isplitl [Hp]; · rw [payload_bar]; iexact Hp
    iexact Hre
  iintro Ho
  iapply Hk
  isplitr; · iexact Hr
  isplitr; · iexact HL
  iexists W; iexact Ho

/-- Wait until all partners have raised the barrier. -/
theorem wp_barrier (c : Dev nD) (l : List Py) (hl : Up 1 l) {P : Pg F} {Q : PUnit → sProp 𝕄} :
    iprop(atPos ER (barC c) 0 ∅ 0 ∗ cred (tallyAt (barC c) 1 16) ∗ St a b κ c l)
      ⊢ iprop((iprop(atPos ER (barC c) 1 ∅ 0 ∗ bigSepL ks (barPay c) ∗ St a b κ c l) -∗ WP c P Q)
          -∗ WP c (.op (.semWait barSem (16#32 : BitVec 32).toInt) fun _ => P) Q) := by
  unfold St
  iintro ⟨Hat, Hc, #Hr, #HL, ⟨%W, Ho⟩⟩ Hk
  ihave #Hb := (recs_bar a b κ c) $$ Hr
  icases Hb with ⟨#HI, #Hre⟩
  iapply (Rounds.wp_wait_rest_token 𝒱₀ ER (Rd a b) (c : Thread nD τ) none (κ := κ (c, none))
      (wpE_semWait_eq 𝒱₀ (c : Thread nD τ) none Set.univ) (Set.mem_univ _) 1 (O := tallyL l) (W := W) (R := 0) (m := 0) (T := ∅)
      (by rw [expect_bar]; decide)) $$ [Hat Hc Ho]
  · isplitr; · iexact HI
    isplitl [Hc]; · iexact Hc
    isplitl [Ho]; · iexact Ho
    isplitr; · iapply (mayWait (by decide) hl c); iexact HL
    iexact Hat
  iintro ⟨Ho, Hat, -, Hpay⟩
  ihave Hp := (Entails.of_eq (rest_bar a b c)) $$ Hpay
  iapply Hk
  isplitl [Hat]; · iexact Hat
  isplitl [Hp]; · iexact Hp
  isplitr; · iexact Hr
  isplitr; · iexact HL
  iexists _; iexact Ho

/-- Wait for a copy. -/
theorem wp_waitK (c : Dev nD) (k : K) (i : ℕ) (hi : i < 9) (l : List Py) (hl : Up i l) {s : Shape} {q : DmaSem sig} {src dst : Memref sig .tc .vmem s .bf16}
    (hq : q = semK k) (hN : dst.view.dmaCredit = amtK k) {h₁ : src.view.WordExact} {h₂ : dst.view.WordExact} {P : Pg F} {Q : PUnit → sProp 𝕄} :
    iprop(Pos c k ∗ Cr c k i ∗ St a b κ c l)
      ⊢ iprop((iprop(Done c k ∗ payK a b c k ∗ St a b κ c l) -∗ WP c P Q) -∗ WP c (waitOn q src dst h₁ h₂ P) Q) := by
  subst hq
  unfold St
  iintro ⟨Hat, Hc, #Hr, #HL, ⟨%W, Ho⟩⟩ Hk
  ihave #Hb := (recs_k a b κ c k) $$ Hr
  icases Hb with ⟨#HI, #Hre⟩
  iapply (Rounds.wp_wait_rest_token 𝒱₀ ER (Rd a b) (c : Thread nD τ) none (κ := κ (c, some k))
      (wpE_waitDma2_eq 𝒱₀ (c : Thread nD τ) none Set.univ) (Set.mem_univ _) i (O := tallyL l) (W := W) (R := 0) (m := 0) (T := ∅)
      (by rw [Nat.zero_add, expect_k]; exact hN)) $$ [Hat Hc Ho]
  · isplitr; · iexact HI
    isplitl [Hc]; · rw [hN]; iexact Hc
    isplitl [Ho]; · iexact Ho
    isplitr; · iapply (mayWait hi hl c); iexact HL
    iexact Hat
  iintro ⟨Ho, Hat, -, Hpay⟩
  ihave Hp := (Entails.of_eq (rest_k a b c k)) $$ Hpay
  iapply Hk
  isplitl [Hat]; · iexact Hat
  isplitl [Hp]; · iexact Hp
  isplitr; · iexact Hr
  isplitr; · iexact HL
  iexists _; iexact Ho

/-- A remote copy, whose two ends are cells `k` here and `k'` there. -/
theorem wp_sendK (c d : Dev nD) (k k' : K) (i : ℕ) (l : List Py) {s : Shape} {sS sR : DmaSem sig} {src dst : Memref sig .tc .vmem s .bf16}
    (hS : sS = semK k) (hR : sR = semK k') (hN : dst.view.dmaCredit = amtK k') (hk : amtK k = amtK k')
    {h₁ : src.view.WordExact} {h₂ : dst.view.WordExact} {q : PosShare TreeShare} {fs : Buf (Elt F) (src.view.loc (c : Thread nD τ))} {fd : Buf (Elt F) (dst.view.loc (d : Thread nD τ))}
    (hp₁ : (src.view.loc (c : Thread nD τ) ↦[src.view.set]{q} fs) ⊢ payK a b c k)
    (hp₂ : (dst.view.loc (d : Thread nD τ) ↦[dst.view.set]{fullShare} (dst.view.write (Elt F) fd (src.view.read (Elt F) fs) Finset.univ)) ⊢ payK a b d k')
    {P : Pg F} {Q : PUnit → sProp 𝕄} :
    iprop((src.view.loc (c : Thread nD τ) ↦[src.view.set]{q} fs) ∗ (dst.view.loc (d : Thread nD τ) ↦[dst.view.set]{fullShare} fd)
        ∗ Tok c k ∗ Tok d k' ∗ St a b κ c ((kC d k', i, amtK k') :: l))
      ⊢ iprop((iprop(Cr c k 0 ∗ St a b κ c l) -∗ WP c P Q) -∗ WP c (sendTo src dst d sS sR h₁ h₂ P) Q) := by
  subst hS hR
  unfold St
  iintro ⟨Hs, Hd, Ht, Ht', #Hr, #HL, ⟨%W, Ho⟩⟩ Hk
  ihave #Hb := (recs_k a b κ c k) $$ Hr
  icases Hb with ⟨#HI, #Hre⟩
  ihave #Hb' := (recs_k a b κ d k') $$ Hr
  icases Hb' with ⟨#HI', #Hre'⟩
  iapply (Rounds.wp_send_pointsTo 𝒱₀ ER (Rd a b) (c : Thread nD τ) none (κ₁ := κ (c, some k)) (κ₂ := κ (d, some k'))
      (sS := .dma (semK k)) (sem := .dma (semK k')) (r₁ := 0) (r₂ := 0) (d₁ := 0) (d₂ := 0) (fd := fd) (q := q) (fs := fs)
      (by rw [duties_k]; exact Finset.mem_singleton_self _) (by rw [duties_k]; exact Finset.mem_singleton_self _)
      i 0 (amtK k') hN ((amount_k a b c k 0).trans hk) (amount_k a b d k' 0) (tallyL l) (add_comm _ _) (W := W)
      (by rw [payload_k]; exact hp₁) (by rw [payload_k]; exact hp₂)) $$ [Hs Hd Ht Ht' Ho]
  · isplitr; · iexact HI
    isplitr; · iexact HI'
    isplitl [Hs]; · iexact Hs
    isplitl [Hd]; · iexact Hd
    isplitl [Ho]; · iexact Ho
    isplitl [Ht]; · iexact Ht
    isplitr; · iexact Hre
    isplitl [Ht']; · iexact Ht'
    iexact Hre'
  iintro ⟨Hc, Ho⟩
  iapply Hk
  isplitl [Hc]; · unfold Cr; rw [hk]; iexact Hc
  isplitr; · iexact Hr
  isplitr; · iexact HL
  iexists _; iexact Ho

section Ops
variable (c : Dev nD) (i : Fin (sig.nNear .tc .vmem)) (hi : sig.names .tc .vmem i = true)

/-- Load a piece whose address and contents are known. -/
theorem wp_ldV {off off₀ size : Fin (vb i hi).ty.shape.rank → ℕ} {h : ∀ a, off a + size a ≤ (vb i hi).ty.shape.size a} {q : PosShare TreeShare} {f : (vb i hi).ty.Contents (Elt F)}
    (ho : off = off₀)
    {hl : (Memref.whole (vb i hi) : Memref sig .tc .vmem _ _).view.LoadsAt (Rect.unit off size h).toLoadRect} {k : ((Rect.unit off size h).shape.Idx → Elt F (vb i hi).ty.elt) → Pg F} {Q : PUnit → sProp 𝕄} :
    reg (vb i hi) c q off₀ size f ⊢ iprop((reg (vb i hi) c q off₀ size f -∗ WP c (k (rd (vb i hi) off₀ size (ho ▸ h) f)) Q)
      -∗ WP c (.op (.load (Memref.whole (vb i hi) : Memref sig .tc .vmem _ _) (Rect.unit off size h).toLoadRect hl) k) Q) := by
  subst ho
  exact wp_ld c i hi

/-- Store a piece whose address is known. -/
theorem wp_stV {off off₀ size : Fin (vb i hi).ty.shape.rank → ℕ} {h : ∀ a, off a + size a ≤ (vb i hi).ty.shape.size a}
    (ho : off = off₀)
    {w : (Rect.unit off size h).shape.Idx → Elt F (vb i hi).ty.elt} (g : (vb i hi).ty.Contents (Elt F)) (hw : rd (vb i hi) off₀ size (ho ▸ h) g = w)
    {hx : ((Memref.whole (vb i hi) : Memref sig .tc .vmem _ _).access (Rect.unit off size h)).Stores Finset.univ} {hm : (Finset.univ : Finset (Rect.unit off size h).shape.Idx) = Finset.univ ∨ ∀ a, (Rect.unit off size h).stride a = 1}
    {k : PUnit → Pg F} {Q : PUnit → sProp 𝕄} :
    regE (vb i hi) c off₀ size ⊢ iprop((reg (vb i hi) c fullShare off₀ size g -∗ WP c (k ⟨⟩) Q)
      -∗ WP c (.op (.store (Memref.whole (vb i hi) : Memref sig .tc .vmem _ _) (Rect.unit off size h) w Finset.univ hx hm) k) Q) := by
  subst ho
  unfold regE
  iintro ⟨%f, H⟩
  iapply (wp_st c i hi g hw) $$ H

/-- Load a piece of unknown contents. -/
theorem wp_ldE {off off₀ size : Fin (vb i hi).ty.shape.rank → ℕ} {h : ∀ a, off a + size a ≤ (vb i hi).ty.shape.size a}
    (ho : off = off₀)
    {hl : (Memref.whole (vb i hi) : Memref sig .tc .vmem _ _).view.LoadsAt (Rect.unit off size h).toLoadRect} {P : Pg F} {Q : PUnit → sProp 𝕄} :
    regE (vb i hi) c off₀ size ⊢ iprop((regE (vb i hi) c off₀ size -∗ WP c P Q)
      -∗ WP c (.op (.load (Memref.whole (vb i hi) : Memref sig .tc .vmem _ _) (Rect.unit off size h).toLoadRect hl) fun _ => P) Q) := by
  unfold regE
  iintro ⟨%f, H⟩ Hk
  iapply (wp_ldV c i hi ho (q := fullShare) (f := f)) $$ H
  iintro H
  iapply Hk
  iexists f; iexact H

end Ops

end Cert.KernelIdeal.AllReduce

end
-- ==== Proof.KernelIdeal.Sends.lean ====
/-
  The four kinds of remote copy, and the waits.
-/
module

public import proofs.«01_k».proof.Proof.KernelIdeal.Rules

@[expose] public section

set_option maxRecDepth 16384

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

/-! ## Places seen from the receiver -/

theorem stp_mir (g : Fin 16) (o : Fin 15) : g + stp o + stp (mir o) = g := by
  refine Fin.ext ?_
  simp only [Fin.val_add, stp, mir, Fin.val_succ]
  have := g.isLt; have := o.isLt; omega
theorem mir_mir (o : Fin 15) : mir (mir o) = o := by refine Fin.ext ?_; show 14 - (14 - o.val) = _; have := o.isLt; omega

omit [FloatOps F] in
/-- Overwriting a piece with what `g` has there leaves the piece at `g`. -/
theorem reg_land (r : Ref sig .tc) (c : Dev nD) {off size : Fin r.ty.shape.rank → ℕ} (h : ∀ a, off a + size a ≤ r.ty.shape.size a) (f g : r.ty.Contents (Elt F))
    (w : (Rect.unit off size h).shape.Idx → Elt F r.ty.elt) (hw : rd r off size h g = w) :
    ((c : Thread nD τ).loc r ↦[((View.whole r).slice (Rect.unit off size h)).set]{fullShare}
        (show Buf (Elt F) ((c : Thread nD τ).loc r) from ((View.whole r).slice (Rect.unit off size h)).write (Elt F) f w Finset.univ) : sProp 𝕄)
      = reg r c fullShare off size g := by
  subst hw
  unfold reg
  rw [set_unit]
  refine pointsTo_congr fun x hx => ?_
  show ((View.whole r).slice (Rect.unit off size h)).write (Elt F) f _ Finset.univ x = g x
  rw [View.write_read_eq_piecewise]
  refine Finset.piecewise_eq_of_mem _ _ _ ?_
  show x ∈ ((View.whole r).slice (Rect.unit off size h)).set
  rw [set_unit]; exact hx

omit [FloatOps F] in
/-- A piece as a copy names it. -/
theorem reg_view (r : Ref sig .tc) (c : Dev nD) (q : PosShare TreeShare) {off size : Fin r.ty.shape.rank → ℕ} (h : ∀ a, off a + size a ≤ r.ty.shape.size a) (f : r.ty.Contents (Elt F)) :
    ((c : Thread nD τ).loc r ↦[((View.whole r).slice (Rect.unit off size h)).set]{q} (show Buf (Elt F) ((c : Thread nD τ).loc r) from f) : sProp 𝕄)
      = reg r c q off size f := by unfold reg; rw [set_unit]

variable (a : Dev nD → Vec F S1024x512 .bf16) (b : Dev nD → Vec F S512x1024 .bf16) (κ : Dev nD × Option K → ℕ)

theorem payK_ar (c : Dev nD) (s : Fin 4) : payK a b (xp c) (.inl (3, s)) = outP a b (xp c) (my c) s := by
  show outP a b (xp c) (oth (xp c)) s = _; rw [oth_xp]
theorem payK_y1r (c : Dev nD) (o : Fin 15) (s : Fin 4) :
    payK a b (nxt (stp o) c) (.inr (1, o, s)) = reg cc0_scratch3 (nxt (stp o) c) fullShare ![row (gOf c), 256 * s.val] S32x256.size (to2 (n := 512) (k := 1024) (yzF a b (nxt (stp o) c))) := by
  show reg cc0_scratch3 (nxt (stp o) c) fullShare ![row (gOf (nxt (stp o) c) + stp (mir o)), 256 * s.val] S32x256.size _ = _
  rw [gOf_nxt, stp_mir]
theorem payK_y2r (c : Dev nD) (o : Fin 15) (s : Fin 4) :
    payK a b (nxt (stp o) c) (.inr (3, o, s)) = reg cc0_scratch6 (nxt (stp o) c) fullShare ![row (gOf c), 256 * s.val] S32x256.size (to2 (n := 512) (k := 1024) (halfF a b (nxt (stp o) c))) := by
  show reg cc0_scratch6 (nxt (stp o) c) fullShare ![row (gOf (nxt (stp o) c) + stp (mir o)), 256 * s.val] S32x256.size _ = _
  rw [gOf_nxt, stp_mir]

/-! ## The payments -/

/-- The payments of a copy's arrival: the first across, in the plane, in the plane back, the last across. -/
abbrev payX (c : Dev nD) (s : Fin 4) : Py := (kC (xp c) (.inl (1, s)), 2, NH)
abbrev pay1 (c : Dev nD) (s : Fin 4) (o : Fin 15) : Py := (kC (nxt (stp o) c) (.inr (1, o, s)), 3, NB)
abbrev pay2 (c : Dev nD) (s : Fin 4) (o : Fin 15) : Py := (kC (nxt (stp o) c) (.inr (3, o, s)), 4 + s.val, NB)
abbrev payA (c : Dev nD) (s : Fin 4) : Py := (kC (xp c) (.inl (3, s)), 8, NH)

/-! ## The copies -/

/-- Send the finished half across. -/
abbrev sendA (c : Dev nD) (S : Strip) (P : Pg F) : Pg F :=
  sendTo (slH mHalf ![0, 256 * S.s.val] S.colH_inb) (slF mOut (S.offR c) (S.offR_inb c)) (S.devA c) (sem4 cc0_scratch13 S.s) (sem4 cc0_scratch14 S.s)
    ((Memref.isWhole_whole _).wordExact_slice rfl _ S.colH_words) ((Memref.isWhole_whole _).wordExact_slice rfl _ (S.offR_words c)) P

/-! ## The copies -/

section Sends
variable (c : Dev nD) (S : Strip) (l : List Py)

/-- The first copy across. -/
theorem wp_sendX_at {d : Dev nD} (hd : d = xp c) {off : Fin 2 → ℕ} (hoff : off = ![oth c, 256 * S.s.val]) {h : ∀ a, off a + S512x256.size a ≤ S1024x1024.size a} {h₁ : (slF mPart off h).view.WordExact} {h₂ : (slH mXr ![0, 256 * S.s.val] S.colH_inb).view.WordExact} {P : Pg F} {Q : PUnit → sProp 𝕄} :
    iprop(pX a b c S.s ∗ regE cc0_scratch1 (xp c) ![0, 256 * S.s.val] S512x256.size ∗ Tok c (.inl (0, S.s)) ∗ Tok (xp c) (.inl (1, S.s))
        ∗ St a b κ c (payX c S.s :: l))
      ⊢ iprop((iprop(Cr c (.inl (0, S.s)) 0 ∗ St a b κ c l) -∗ WP c P Q) -∗ WP c (sendTo (slF mPart off h) (slH mXr ![0, 256 * S.s.val] S.colH_inb) d (sem4 cc0_scratch7 S.s) (sem4 cc0_scratch8 S.s) h₁ h₂ P) Q) := by
  subst hd hoff
  unfold regE
  iintro ⟨Hs, ⟨%f, Hd⟩, Ht, Ht', Hst⟩ Hk
  ihave Hs' := (Entails.of_eq (reg_view cc0_scratch0 c fullShare h _).symm) $$ Hs
  ihave Hd' := (Entails.of_eq (reg_view cc0_scratch1 (xp c) fullShare S.colH_inb f).symm) $$ Hd
  have key := wp_sendK a b κ c (xp c) (.inl (0, S.s)) (.inl (1, S.s)) 2 l (sem7_eq S.s) (sem8_eq S.s) rfl rfl
    (src := slF mPart ![oth c, 256 * S.s.val] h) (dst := slH mXr ![0, 256 * S.s.val] S.colH_inb) (q := fullShare)
    (fs := to2 (n := 1024) (k := 1024) (partF a b c)) (fd := f) (h₁ := h₁) (h₂ := h₂) (P := P) (Q := Q)
    (Entails.of_eq (reg_view cc0_scratch0 c fullShare h _))
    (Entails.of_eq ((reg_land cc0_scratch1 (xp c) S.colH_inb f _ _ (eq_sendX a b c (256 * S.s.val) S.colH_inb h)).trans rfl))
  iapply key $$ [Hs' Hd' Ht Ht' Hst]
  · isplitl [Hs']; · iexact Hs'
    isplitl [Hd']; · iexact Hd'
    isplitl [Ht]; · iexact Ht
    isplitl [Ht']; · iexact Ht'
    iexact Hst
  iexact Hk

/-- The same, of a strip. -/
theorem wp_sendX (ok : S.Ok) {P : Pg F} {Q : PUnit → sProp 𝕄} :
    iprop(pX a b c S.s ∗ regE cc0_scratch1 (xp c) ![0, 256 * S.s.val] S512x256.size ∗ Tok c (.inl (0, S.s)) ∗ Tok (xp c) (.inl (1, S.s))
        ∗ St a b κ c (payX c S.s :: l))
      ⊢ iprop((iprop(Cr c (.inl (0, S.s)) 0 ∗ St a b κ c l) -∗ WP c P Q) -∗ WP c (sendX c S P) Q) :=
  wp_sendX_at a b κ c S l (ok.devX c) (ok.offO c)

/-- A copy of the first exchange in the plane. -/
theorem wp_send1_at (o : Fin 15) {d : Dev nD} (hd : d = nxt (stp o) c) {off : Fin 2 → ℕ} (hoff : off = ![row (gOf c + stp o), 256 * S.s.val]) {h : ∀ a, off a + S32x256.size a ≤ S512x1024.size a} {off' : Fin 2 → ℕ} (hoff' : off' = ![row (gOf c), 256 * S.s.val]) {h' : ∀ a, off' a + S32x256.size a ≤ S512x1024.size a} {h₁ : (slB mHb off h).view.WordExact} {h₂ : (slB mYz off' h').view.WordExact} {P : Pg F} {Q : PUnit → sProp 𝕄} :
    iprop(hbP a b c (stp o) S.s ∗ regE cc0_scratch3 (nxt (stp o) c) ![row (gOf c), 256 * S.s.val] S32x256.size ∗ Tok c (.inr (0, o, S.s)) ∗ Tok (nxt (stp o) c) (.inr (1, o, S.s))
        ∗ St a b κ c (pay1 c S.s o :: l))
      ⊢ iprop((iprop(Cr c (.inr (0, o, S.s)) 0 ∗ St a b κ c l) -∗ WP c P Q) -∗ WP c (sendTo (slB mHb off h) (slB mYz off' h') d (sem15 cc0_scratch9 o S.s) (sem15 cc0_scratch10 o S.s) h₁ h₂ P) Q) := by
  subst hd hoff hoff'
  unfold regE
  iintro ⟨Hs, ⟨%f, Hd⟩, Ht, Ht', Hst⟩ Hk
  ihave Hs' := (Entails.of_eq (reg_view cc0_scratch2 c fullShare h _).symm) $$ Hs
  ihave Hd' := (Entails.of_eq (reg_view cc0_scratch3 (nxt (stp o) c) fullShare h' f).symm) $$ Hd
  have key := wp_sendK a b κ c (nxt (stp o) c) (.inr (0, o, S.s)) (.inr (1, o, S.s)) 3 l (sem9_eq o S.s) (sem10_eq o S.s) rfl rfl
    (src := slB mHb ![row (gOf c + stp o), 256 * S.s.val] h) (dst := slB mYz ![row (gOf c), 256 * S.s.val] h') (q := fullShare)
    (fs := to2 (n := 512) (k := 1024) (hbF a b c)) (fd := f) (h₁ := h₁) (h₂ := h₂) (P := P) (Q := Q)
    (Entails.of_eq (reg_view cc0_scratch2 c fullShare h _))
    (Entails.of_eq ((reg_land cc0_scratch3 (nxt (stp o) c) h' f _ _ (eq_send1 a b c (256 * S.s.val) (stp o) h' h)).trans (payK_y1r a b c o S.s).symm))
  iapply key $$ [Hs' Hd' Ht Ht' Hst]
  · isplitl [Hs']; · iexact Hs'
    isplitl [Hd']; · iexact Hd'
    isplitl [Ht]; · iexact Ht
    isplitl [Ht']; · iexact Ht'
    iexact Hst
  iexact Hk

/-- The same, of a strip. -/
theorem wp_send1 (ok : S.Ok) (o : Fin 15) {P : Pg F} {Q : PUnit → sProp 𝕄} :
    iprop(hbP a b c (stp o) S.s ∗ regE cc0_scratch3 (nxt (stp o) c) ![row (gOf c), 256 * S.s.val] S32x256.size ∗ Tok c (.inr (0, o, S.s)) ∗ Tok (nxt (stp o) c) (.inr (1, o, S.s))
        ∗ St a b κ c (pay1 c S.s o :: l))
      ⊢ iprop((iprop(Cr c (.inr (0, o, S.s)) 0 ∗ St a b κ c l) -∗ WP c P Q) -∗ WP c (send1 c S o P) Q) :=
  wp_send1_at a b κ c S l o (ok.dev1 o c) (ok.offB c o) (ok.offG c)

/-- A copy of the second exchange in the plane. -/
theorem wp_send2_at (o : Fin 15) {d : Dev nD} (hd : d = nxt (stp o) c) {off' : Fin 2 → ℕ} (hoff' : off' = ![row (gOf c), 256 * S.s.val]) {h' : ∀ a, off' a + S32x256.size a ≤ S512x1024.size a} {h₁ : (slR mRed ![0, 256 * S.s.val] S.colR_inb).view.WordExact} {h₂ : (slB mHalf off' h').view.WordExact} {P : Pg F} {Q : PUnit → sProp 𝕄} :
    iprop(redP a b c (shareTok fullShare 15 o) S.s ∗ regE cc0_scratch6 (nxt (stp o) c) ![row (gOf c), 256 * S.s.val] S32x256.size ∗ Tok c (.inr (2, o, S.s)) ∗ Tok (nxt (stp o) c) (.inr (3, o, S.s))
        ∗ St a b κ c (pay2 c S.s o :: l))
      ⊢ iprop((iprop(Cr c (.inr (2, o, S.s)) 0 ∗ St a b κ c l) -∗ WP c P Q) -∗ WP c (sendTo (slR mRed ![0, 256 * S.s.val] S.colR_inb) (slB mHalf off' h') d (sem15 cc0_scratch11 o S.s) (sem15 cc0_scratch12 o S.s) h₁ h₂ P) Q) := by
  subst hd hoff'
  unfold regE
  iintro ⟨Hs, ⟨%f, Hd⟩, Ht, Ht', Hst⟩ Hk
  ihave Hs' := (Entails.of_eq (reg_view cc0_scratch5 c (shareTok fullShare 15 o) S.colR_inb _).symm) $$ Hs
  ihave Hd' := (Entails.of_eq (reg_view cc0_scratch6 (nxt (stp o) c) fullShare h' f).symm) $$ Hd
  have key := wp_sendK a b κ c (nxt (stp o) c) (.inr (2, o, S.s)) (.inr (3, o, S.s)) (4 + S.s.val) l (sem11_eq o S.s) (sem12_eq o S.s) rfl rfl
    (src := slR mRed ![0, 256 * S.s.val] S.colR_inb) (dst := slB mHalf ![row (gOf c), 256 * S.s.val] h') (q := (shareTok fullShare 15 o))
    (fs := to2 (n := 32) (k := 1024) (redF a b c)) (fd := f) (h₁ := h₁) (h₂ := h₂) (P := P) (Q := Q)
    (Entails.of_eq (reg_view cc0_scratch5 c (shareTok fullShare 15 o) S.colR_inb _))
    (Entails.of_eq ((reg_land cc0_scratch6 (nxt (stp o) c) h' f _ _ (eq_send2 a b c (256 * S.s.val) (stp o) h' S.colR_inb)).trans (payK_y2r a b c o S.s).symm))
  iapply key $$ [Hs' Hd' Ht Ht' Hst]
  · isplitl [Hs']; · iexact Hs'
    isplitl [Hd']; · iexact Hd'
    isplitl [Ht]; · iexact Ht
    isplitl [Ht']; · iexact Ht'
    iexact Hst
  iexact Hk

/-- The same, of a strip. -/
theorem wp_send2 (ok : S.Ok) (o : Fin 15) {P : Pg F} {Q : PUnit → sProp 𝕄} :
    iprop(redP a b c (shareTok fullShare 15 o) S.s ∗ regE cc0_scratch6 (nxt (stp o) c) ![row (gOf c), 256 * S.s.val] S32x256.size ∗ Tok c (.inr (2, o, S.s)) ∗ Tok (nxt (stp o) c) (.inr (3, o, S.s))
        ∗ St a b κ c (pay2 c S.s o :: l))
      ⊢ iprop((iprop(Cr c (.inr (2, o, S.s)) 0 ∗ St a b κ c l) -∗ WP c P Q) -∗ WP c (send2 c S o P) Q) :=
  wp_send2_at a b κ c S l o (ok.dev2 o c) (ok.offG c)

/-- The last copy across. -/
theorem wp_sendA_at {d : Dev nD} (hd : d = xp c) {off : Fin 2 → ℕ} (hoff : off = ![my c, 256 * S.s.val]) {h : ∀ a, off a + S512x256.size a ≤ S1024x1024.size a} {h₁ : (slH mHalf ![0, 256 * S.s.val] S.colH_inb).view.WordExact} {h₂ : (slF mOut off h).view.WordExact} {P : Pg F} {Q : PUnit → sProp 𝕄} :
    iprop(halfQ a b c fullShare.left S.s ∗ regE cc0_stg2_0 (xp c) ![my c, 256 * S.s.val] S512x256.size ∗ Tok c (.inl (2, S.s)) ∗ Tok (xp c) (.inl (3, S.s))
        ∗ St a b κ c (payA c S.s :: l))
      ⊢ iprop((iprop(Cr c (.inl (2, S.s)) 0 ∗ St a b κ c l) -∗ WP c P Q) -∗ WP c (sendTo (slH mHalf ![0, 256 * S.s.val] S.colH_inb) (slF mOut off h) d (sem4 cc0_scratch13 S.s) (sem4 cc0_scratch14 S.s) h₁ h₂ P) Q) := by
  subst hd hoff
  unfold regE
  iintro ⟨Hs, ⟨%f, Hd⟩, Ht, Ht', Hst⟩ Hk
  ihave Hs' := (Entails.of_eq (reg_view cc0_scratch6 c fullShare.left S.colH_inb _).symm) $$ Hs
  ihave Hd' := (Entails.of_eq (reg_view cc0_stg2_0 (xp c) fullShare h f).symm) $$ Hd
  have key := wp_sendK a b κ c (xp c) (.inl (2, S.s)) (.inl (3, S.s)) 8 l (sem13_eq S.s) (sem14_eq S.s) rfl rfl
    (src := slH mHalf ![0, 256 * S.s.val] S.colH_inb) (dst := slF mOut ![my c, 256 * S.s.val] h) (q := fullShare.left)
    (fs := to2 (n := 512) (k := 1024) (halfF a b c)) (fd := f) (h₁ := h₁) (h₂ := h₂) (P := P) (Q := Q)
    (Entails.of_eq (reg_view cc0_scratch6 c fullShare.left S.colH_inb _))
    (Entails.of_eq ((reg_land cc0_stg2_0 (xp c) h f _ _ (eq_sendA a b c (256 * S.s.val) h S.colH_inb)).trans (payK_ar a b c S.s).symm))
  iapply key $$ [Hs' Hd' Ht Ht' Hst]
  · isplitl [Hs']; · iexact Hs'
    isplitl [Hd']; · iexact Hd'
    isplitl [Ht]; · iexact Ht
    isplitl [Ht']; · iexact Ht'
    iexact Hst
  iexact Hk

/-- The same, of a strip. -/
theorem wp_sendA (ok : S.Ok) {P : Pg F} {Q : PUnit → sProp 𝕄} :
    iprop(halfQ a b c fullShare.left S.s ∗ regE cc0_stg2_0 (xp c) ![my c, 256 * S.s.val] S512x256.size ∗ Tok c (.inl (2, S.s)) ∗ Tok (xp c) (.inl (3, S.s))
        ∗ St a b κ c (payA c S.s :: l))
      ⊢ iprop((iprop(Cr c (.inl (2, S.s)) 0 ∗ St a b κ c l) -∗ WP c P Q) -∗ WP c (sendA c S P) Q) :=
  wp_sendA_at a b κ c S l (ok.devA c) (ok.offR c)

end Sends

/-! ## The waits -/

section Waits
variable (c : Dev nD) (S : Strip)

/-- The last copy across has come. -/
theorem wp_recvA (l : List Py) (hl : Up 8 l) {P : Pg F} {Q : PUnit → sProp 𝕄} :
    iprop(Pos c (.inl (3, S.s)) ∗ Cr c (.inl (3, S.s)) 8 ∗ St a b κ c l)
      ⊢ iprop((iprop(Done c (.inl (3, S.s)) ∗ payK a b c (.inl (3, S.s)) ∗ St a b κ c l) -∗ WP c P Q) -∗ WP c (recvA c S P) Q) :=
  wp_waitK a b κ c (.inl (3, S.s)) 8 (by decide) l hl (sem14_eq S.s) rfl

/-- The first copy across has left. -/
theorem wp_drainX (l : List Py) (hl : Up 0 l) {P : Pg F} {Q : PUnit → sProp 𝕄} :
    iprop(Pos c (.inl (0, S.s)) ∗ Cr c (.inl (0, S.s)) 0 ∗ St a b κ c l)
      ⊢ iprop((iprop(Done c (.inl (0, S.s)) ∗ payK a b c (.inl (0, S.s)) ∗ St a b κ c l) -∗ WP c P Q) -∗ WP c (drainX c S P) Q) :=
  wp_waitK a b κ c (.inl (0, S.s)) 0 (by decide) l hl (sem7_eq S.s) rfl

/-- A copy of the first exchange in the plane has left. -/
theorem wp_drain1 (o : Fin 15) (l : List Py) (hl : Up 0 l) {P : Pg F} {Q : PUnit → sProp 𝕄} :
    iprop(Pos c (.inr (0, o, S.s)) ∗ Cr c (.inr (0, o, S.s)) 0 ∗ St a b κ c l)
      ⊢ iprop((iprop(Done c (.inr (0, o, S.s)) ∗ payK a b c (.inr (0, o, S.s)) ∗ St a b κ c l) -∗ WP c P Q) -∗ WP c (drain1 c S o P) Q) :=
  wp_waitK a b κ c (.inr (0, o, S.s)) 0 (by decide) l hl (sem9_eq o S.s) rfl

/-- A copy of the second exchange in the plane has left. -/
theorem wp_drain2 (o : Fin 15) (l : List Py) (hl : Up 0 l) {P : Pg F} {Q : PUnit → sProp 𝕄} :
    iprop(Pos c (.inr (2, o, S.s)) ∗ Cr c (.inr (2, o, S.s)) 0 ∗ St a b κ c l)
      ⊢ iprop((iprop(Done c (.inr (2, o, S.s)) ∗ payK a b c (.inr (2, o, S.s)) ∗ St a b κ c l) -∗ WP c P Q) -∗ WP c (drain2 c S o P) Q) :=
  wp_waitK a b κ c (.inr (2, o, S.s)) 0 (by decide) l hl (sem11_eq o S.s) rfl

/-- The last copy across has left. -/
theorem wp_drainA (l : List Py) (hl : Up 0 l) {P : Pg F} {Q : PUnit → sProp 𝕄} :
    iprop(Pos c (.inl (2, S.s)) ∗ Cr c (.inl (2, S.s)) 0 ∗ St a b κ c l)
      ⊢ iprop((iprop(Done c (.inl (2, S.s)) ∗ payK a b c (.inl (2, S.s)) ∗ St a b κ c l) -∗ WP c P Q) -∗ WP c (drainA c S P) Q) :=
  wp_waitK a b κ c (.inl (2, S.s)) 0 (by decide) l hl (sem13_eq S.s) rfl

/-- A copy of the second exchange in the plane has come. -/
theorem wp_recv2 (o : Fin 15) (l : List Py) (hl : Up (4 + S.s.val) l) {P : Pg F} {Q : PUnit → sProp 𝕄} :
    iprop(Pos c (.inr (3, mir o, S.s)) ∗ Cr c (.inr (3, mir o, S.s)) (4 + S.s.val) ∗ St a b κ c l)
      ⊢ iprop((iprop(Done c (.inr (3, mir o, S.s)) ∗ halfP a b c (stp o) S.s ∗ St a b κ c l) -∗ WP c P Q) -∗ WP c (recv2 c S o P) Q) := by
  have e : payK a b c (.inr (3, mir o, S.s)) = halfP a b c (stp o) S.s := by
    show halfP a b c (stp (mir (mir o))) S.s = _; rw [mir_mir]
  rw [← e]
  exact wp_waitK a b κ c (.inr (3, mir o, S.s)) (4 + S.s.val) (by have := S.s.isLt; omega) l hl (sem12_eq (mir o) S.s) rfl

end Waits

end Cert.KernelIdeal.AllReduce

end
-- ==== Proof.KernelIdeal.Stages.lean ====
/-
  The stages of the exchange, one strip at a time: what a device holds before a stage, what it holds after it, and the
  payments it makes in between.
-/
module

public import proofs.«01_k».proof.Proof.KernelIdeal.Sends

@[expose] public section

set_option maxRecDepth 16384

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

/-! ## Chains -/

omit [FloatOps F] in
theorem bigSepL_zip {I : Type} (l : List I) (Φ Ψ : I → sProp 𝕄) :
    iprop(bigSepL l Φ ∗ bigSepL l Ψ) ⊢ bigSepL l fun i => iprop(Φ i ∗ Ψ i) := by
  induction l with
  | nil => rw [bigSepL_nil, bigSepL_nil, bigSepL_nil]; iintro ⟨H, -⟩; iexact H
  | cons i l ih =>
    rw [bigSepL_cons', bigSepL_cons', bigSepL_cons']
    iintro ⟨⟨H1, H2⟩, H3, H4⟩
    isplitl [H1 H3]
    · isplitl [H1]; · iexact H1
      iexact H3
    iapply ih
    isplitl [H2]; · iexact H2
    iexact H4

omit [FloatOps F] in
theorem bigSepL_unzip {I : Type} (l : List I) (Φ Ψ : I → sProp 𝕄) :
    (bigSepL l fun i => iprop(Φ i ∗ Ψ i)) ⊢ iprop(bigSepL l Φ ∗ bigSepL l Ψ) := by
  induction l with
  | nil => rw [bigSepL_nil, bigSepL_nil, bigSepL_nil]; iintro H; isplitl [H]; · iexact H
           iempintro
  | cons i l ih =>
    rw [bigSepL_cons', bigSepL_cons', bigSepL_cons']
    iintro ⟨⟨H1, H3⟩, H⟩
    ihave H' := ih $$ H
    icases H' with ⟨H2, H4⟩
    isplitl [H1 H2]
    · isplitl [H1]; · iexact H1
      iexact H2
    isplitl [H3]; · iexact H3
    iexact H4

variable (a : Dev nD → Vec F S1024x512 .bf16) (b : Dev nD → Vec F S512x1024 .bf16) (κ : Dev nD × Option K → ℕ)

/-- From `A`, owing `l`, the step `P` leads to `B`, owing `l'`. -/
def Leads (c : Dev nD) (l l' : List Py) (A B : sProp 𝕄) (P : Pg F → Pg F) : Prop :=
  ∀ (R : Pg F) (Q : PUnit → sProp 𝕄), iprop(A ∗ St a b κ c l) ⊢ iprop((iprop(B ∗ St a b κ c l') -∗ WP c R Q) -∗ WP c (P R) Q)

variable (c : Dev nD)

/-- Steps that each pay. -/
theorem leads_pay {I : Type} (step : I → Pg F → Pg F) (A B : I → sProp 𝕄) (pay : I → Py)
    (L : List I) (h : ∀ i ∈ L, ∀ l, Leads a b κ c (pay i :: l) l (A i) (B i) (step i)) (l : List Py) :
    Leads a b κ c (L.map pay ++ l) l (bigSepL L A) (bigSepL L B) (each step L) := by
  induction L with
  | nil =>
    intro R Q
    rw [bigSepL_nil, bigSepL_nil]
    iintro H Hk
    iapply Hk; iexact H
  | cons i L ih =>
    intro R Q
    rw [bigSepL_cons', bigSepL_cons']
    iintro ⟨⟨Hi, HL⟩, Hst⟩ Hk
    iapply (h i List.mem_cons_self (L.map pay ++ l) (each step L R) Q) $$ [Hi Hst]
    · isplitl [Hi]; · iexact Hi
      iexact Hst
    iintro ⟨Hi, Hst⟩
    iapply (ih (fun j hj => h j (List.mem_cons_of_mem _ hj)) R Q) $$ [HL Hst]
    · isplitl [HL]; · iexact HL
      iexact Hst
    iintro ⟨HL, Hst⟩
    iapply Hk
    isplitl [Hi HL]
    · isplitl [Hi]; · iexact Hi
      iexact HL
    iexact Hst

/-- Steps that pay nothing. -/
theorem leads_stay {I : Type} (step : I → Pg F → Pg F) (A B : I → sProp 𝕄) (l : List Py) (L : List I) (h : ∀ i ∈ L, Leads a b κ c l l (A i) (B i) (step i)) :
    Leads a b κ c l l (bigSepL L A) (bigSepL L B) (each step L) := by
  induction L with
  | nil =>
    intro R Q
    rw [bigSepL_nil, bigSepL_nil]
    iintro H Hk
    iapply Hk; iexact H
  | cons i L ih =>
    intro R Q
    rw [bigSepL_cons', bigSepL_cons']
    iintro ⟨⟨Hi, HL⟩, Hst⟩ Hk
    iapply (h i List.mem_cons_self (each step L R) Q) $$ [Hi Hst]
    · isplitl [Hi]; · iexact Hi
      iexact Hst
    iintro ⟨Hi, Hst⟩
    iapply (ih (fun j hj => h j (List.mem_cons_of_mem _ hj)) R Q) $$ [HL Hst]
    · isplitl [HL]; · iexact HL
      iexact Hst
    iintro ⟨HL, Hst⟩
    iapply Hk
    isplitl [Hi HL]
    · isplitl [Hi]; · iexact Hi
      iexact HL
    iexact Hst

/-- In a tail of the fifteen partners, the first is known by the tail's length. -/
theorem js_tail {o : Fin 15} {L : List (Fin 15)} (h : o :: L <:+ js) : 15 - (o :: L).length = o.val ∧ 15 - L.length = o.val + 1 := by
  obtain ⟨t, ht⟩ := h
  have hj : js = List.finRange 15 := by decide
  have hlen : t.length + (L.length + 1) = 15 := by
    have := congrArg List.length ht
    rw [List.length_append, List.length_cons, hj, List.length_finRange] at this
    exact this
  have hg : (List.finRange 15)[t.length]? = some o := by
    rw [← hj, ← ht, List.getElem?_append_right (Nat.le_refl _), Nat.sub_self]; rfl
  have hlt : t.length < (List.finRange 15).length := by rw [List.length_finRange]; omega
  rw [List.getElem?_eq_getElem hlt, List.getElem_finRange] at hg
  have hv : t.length = o.val := congrArg Fin.val (Option.some.inj hg)
  rw [List.length_cons]
  omega

section Strip
variable (S : Strip) (ok : S.Ok)

/-- What the wait for a copy of the first exchange takes and gives. -/
abbrev In1 (o : Fin 15) : sProp 𝕄 := iprop(Pos c (.inr (1, mir o, S.s)) ∗ Cr c (.inr (1, mir o, S.s)) 3)
abbrev Got1 (o : Fin 15) : sProp 𝕄 := iprop(Done c (.inr (1, mir o, S.s)) ∗ yzP a b c (stp o) S.s)

include ok in
/-- A partner's rows come in and are added. -/
theorem recv1_leads (l : List Py) (hl : Up 3 l) (o : Fin 15) :
    Leads a b κ c l l iprop(accP a b c o.val S.s ∗ In1 c S o) iprop(accP a b c (o.val + 1) S.s ∗ Got1 a b c S o) (recv1 c S o) := by
  intro R Q
  unfold recv1
  have e : payK a b c (.inr (1, mir o, S.s)) = yzP a b c (stp o) S.s := by
    show yzP a b c (stp (mir (mir o))) S.s = _; rw [mir_mir]
  iintro ⟨⟨Hacc, Hat, Hc⟩, Hst⟩ Hk
  iapply (wp_waitK a b κ c (.inr (1, mir o, S.s)) 3 (by decide) l hl (sem10_eq (mir o) S.s) rfl) $$ [Hat Hc Hst]
  · isplitl [Hat]; · iexact Hat
    isplitl [Hc]; · iexact Hc
    iexact Hst
  rw [e]
  iintro ⟨Hat, Hy, Hst⟩
  iapply (wp_ldV c 7 rfl rfl) $$ Hacc
  iintro Hacc
  iapply (wp_ldV c 6 rfl (ok.offT c o)) $$ Hy
  iintro Hy
  iapply (wp_ldV c 7 rfl rfl) $$ Hacc
  iintro Hacc
  ihave Hacc := (regE_intro _ _ _ _ _) $$ Hacc
  iapply (wp_stV c 7 rfl rfl (to2 (n := 32) (k := 1024) (accF a b c (o.val + 1))) (eq_acc a b c (256 * S.s.val) o S.colR_inb _)) $$ Hacc
  iintro Hacc
  iapply Hk
  isplitl [Hacc Hat Hy]
  · isplitl [Hacc]; · iexact Hacc
    isplitl [Hat]; · iexact Hat
    iexact Hy
  iexact Hst

include ok in
/-- All partners' rows come in and are added, in order. -/
theorem recv1s_leads (l : List Py) (hl : Up 3 l) (L : List (Fin 15)) (hL : L <:+ js) :
    Leads a b κ c l l iprop(accP a b c (15 - L.length) S.s ∗ bigSepL L (In1 c S)) iprop(accP a b c 15 S.s ∗ bigSepL L (Got1 a b c S)) (each (recv1 c S) L) := by
  induction L with
  | nil =>
    intro R Q
    rw [bigSepL_nil, bigSepL_nil]
    iintro H Hk
    iapply Hk; iexact H
  | cons o L ih =>
    intro R Q
    obtain ⟨e₁, e₂⟩ := js_tail hL
    have ih := ih ((List.suffix_cons o L).trans hL)
    rw [e₂] at ih
    rw [bigSepL_cons', bigSepL_cons', e₁]
    iintro ⟨⟨Hacc, Hi, HL⟩, Hst⟩ Hk
    iapply (recv1_leads a b κ c S ok l hl o (each (recv1 c S) L R) Q) $$ [Hi Hacc Hst]
    · isplitl [Hi Hacc]
      · isplitl [Hacc]; · iexact Hacc
        iexact Hi
      iexact Hst
    iintro ⟨⟨Hacc, Hi⟩, Hst⟩
    iapply (ih R Q) $$ [HL Hacc Hst]
    · isplitl [HL Hacc]
      · isplitl [Hacc]; · iexact Hacc
        iexact HL
      iexact Hst
    iintro ⟨⟨Hacc, HL⟩, Hst⟩
    iapply Hk
    isplitl [Hacc Hi HL]
    · isplitl [Hacc]; · iexact Hacc
      isplitl [Hi]; · iexact Hi
      iexact HL
    iexact Hst

theorem add_zero16 (g : Fin 16) : g + 0 = g := by revert g; decide

/-- What a copy to a partner takes besides its source. -/
abbrev To1 (o : Fin 15) : sProp 𝕄 :=
  iprop(regE cc0_scratch3 (nxt (stp o) c) ![row (gOf c), 256 * S.s.val] S32x256.size ∗ Tok c (.inr (0, o, S.s)) ∗ Tok (nxt (stp o) c) (.inr (1, o, S.s)))
abbrev To2 (o : Fin 15) : sProp 𝕄 :=
  iprop(regE cc0_scratch6 (nxt (stp o) c) ![row (gOf c), 256 * S.s.val] S32x256.size ∗ Tok c (.inr (2, o, S.s)) ∗ Tok (nxt (stp o) c) (.inr (3, o, S.s)))

include ok in
theorem send1_leads (o : Fin 15) (l : List Py) :
    Leads a b κ c (pay1 c S.s o :: l) l iprop(hbP a b c (stp o) S.s ∗ To1 c S o) (Cr c (.inr (0, o, S.s)) 0) (send1 c S o) := by
  intro R Q
  iintro ⟨⟨Hs, Hd, Ht, Ht'⟩, Hst⟩ Hk
  iapply (wp_send1 a b κ c S l ok o) $$ [Hs Hd Ht Ht' Hst]
  · isplitl [Hs]; · iexact Hs
    isplitl [Hd]; · iexact Hd
    isplitl [Ht]; · iexact Ht
    isplitl [Ht']; · iexact Ht'
    iexact Hst
  iexact Hk

include ok in
theorem send2_leads (o : Fin 15) (l : List Py) :
    Leads a b κ c (pay2 c S.s o :: l) l iprop(redP a b c (shareTok fullShare 15 o) S.s ∗ To2 c S o) (Cr c (.inr (2, o, S.s)) 0) (send2 c S o) := by
  intro R Q
  iintro ⟨⟨Hs, Hd, Ht, Ht'⟩, Hst⟩ Hk
  iapply (wp_send2 a b κ c S l ok o) $$ [Hs Hd Ht Ht' Hst]
  · isplitl [Hs]; · iexact Hs
    isplitl [Hd]; · iexact Hd
    isplitl [Ht]; · iexact Ht
    isplitl [Ht']; · iexact Ht'
    iexact Hst
  iexact Hk

/-- A strip of the plane's sum by blocks of rows: this device's own and the partners'. -/
theorem hb_rows : (reg cc0_scratch2 c fullShare ![0, 256 * S.s.val] S512x256.size (to2 (n := 512) (k := 1024) (hbF a b c)) : sProp 𝕄)
    = iprop(hbP a b c 0 S.s ∗ bigSepL js fun o => hbP a b c (stp o) S.s) := by
  rw [reg_parts ks ks_univ ks_nodup cc0_scratch2 c (off' := fun p => ![row (gOf c + p), 256 * S.s.val]) (size' := S32x256.size)
    (rows_cover (gOf c) (256 * S.s.val) 256) (rows_disj (gOf c) (256 * S.s.val) 256)]
  unfold ks
  rw [bigSepL_cons', bigSepL_map]

/-- The same of the finished half. -/
theorem half_rows : (reg cc0_scratch6 c fullShare ![0, 256 * S.s.val] S512x256.size (to2 (n := 512) (k := 1024) (halfF a b c)) : sProp 𝕄)
    = iprop(halfP a b c 0 S.s ∗ bigSepL js fun o => halfP a b c (stp o) S.s) := by
  rw [reg_parts ks ks_univ ks_nodup cc0_scratch6 c (off' := fun p => ![row (gOf c + p), 256 * S.s.val]) (size' := S32x256.size)
    (rows_cover (gOf c) (256 * S.s.val) 256) (rows_disj (gOf c) (256 * S.s.val) 256)]
  unfold ks
  rw [bigSepL_cons', bigSepL_map]

/-- The finished rows in fifteen shares and the rest. -/
theorem red_shares : (redP a b c fullShare S.s : sProp 𝕄)
    ⊣⊢ iprop(redP a b c (shareDrop fullShare 15) S.s ∗ bigSepL js fun o => redP a b c (shareTok fullShare 15 o) S.s) := by
  rw [← bigSep_univ_eq_bigSepL js js_univ js_nodup]
  exact pointsTo_toks fullShare 15

/-! ## The first stage in the plane -/

abbrev Pre1 : sProp 𝕄 :=
  iprop(Pos c (.inl (1, S.s)) ∗ Cr c (.inl (1, S.s)) 2 ∗ pM a b c S.s ∗ regE cc0_scratch2 c ![0, 256 * S.s.val] S512x256.size ∗ bigSepL js (To1 c S))
abbrev Post1 : sProp 𝕄 :=
  iprop(Done c (.inl (1, S.s)) ∗ pM a b c S.s ∗ xrP a b c S.s ∗ hbP a b c 0 S.s ∗ bigSepL js fun o => Cr c (.inr (0, o, S.s)) 0)

include ok in
theorem stage1_leads (l : List Py) (hl : Up 2 (js.map (pay1 c S.s) ++ l)) :
    Leads a b κ c (js.map (pay1 c S.s) ++ l) l (Pre1 a b c S) (Post1 a b c S) (stage1 c S) := by
  intro R Q
  unfold stage1
  iintro ⟨⟨Hat, Hc, Hm, Hh, HT⟩, Hst⟩ Hk
  iapply (wp_waitK a b κ c (.inl (1, S.s)) 2 (by decide) _ hl (sem8_eq S.s) rfl) $$ [Hat Hc Hst]
  · isplitl [Hat]; · iexact Hat
    isplitl [Hc]; · iexact Hc
    iexact Hst
  iintro ⟨Hat, Hx, Hst⟩
  ihave Hx := (show payK a b c (.inl (1, S.s)) ⊢ xrP a b c S.s from Entails.refl _) $$ Hx
  iapply (wp_ldV c 3 rfl (ok.offM c)) $$ Hm
  iintro Hm
  iapply (wp_ldV c 4 rfl rfl) $$ Hx
  iintro Hx
  iapply (wp_ldE c 5 rfl rfl) $$ Hh
  iintro Hh
  iapply (wp_stV c 5 rfl rfl (to2 (n := 512) (k := 1024) (hbF a b c)) (eq_hb a b c (256 * S.s.val) S.colH_inb _)) $$ Hh
  iintro Hh
  ihave Hh := (Entails.of_eq (hb_rows a b c S)) $$ Hh
  icases Hh with ⟨Hh, Hr⟩
  iapply (leads_pay a b κ c (send1 c S) _ _ (pay1 c S.s) js (fun o _ => send1_leads a b κ c S ok o) l R Q) $$ [Hr HT Hst]
  · isplitl [Hr HT]
    · iapply (bigSepL_zip js (fun o => hbP a b c (stp o) S.s) (To1 c S))
      isplitl [Hr]; · iexact Hr
      iexact HT
    iexact Hst
  iintro ⟨Hcr, Hst⟩
  iapply Hk
  isplitr [Hst]
  · isplitl [Hat]; · iexact Hat
    isplitl [Hm]; · iexact Hm
    isplitl [Hx]; · iexact Hx
    isplitl [Hh]; · iexact Hh
    iexact Hcr
  iexact Hst

/-! ## The second stage in the plane -/

/-- What the stage takes besides this device's own rows of the plane's sum. -/
abbrev Pre2 : sProp 𝕄 :=
  iprop(regE cc0_scratch4 c ![0, 256 * S.s.val] S32x256.size ∗ bigSepL js (In1 c S) ∗ regE cc0_scratch5 c ![0, 256 * S.s.val] S32x256.size
    ∗ bigSepL js (To2 c S) ∗ regE cc0_scratch6 c ![row (gOf c), 256 * S.s.val] S32x256.size)
abbrev Post2 : sProp 𝕄 :=
  iprop(hbP a b c 0 S.s ∗ accP a b c 15 S.s ∗ bigSepL js (Got1 a b c S) ∗ redP a b c (shareDrop fullShare 15) S.s
    ∗ bigSepL js fun o => Cr c (.inr (2, o, S.s)) 0)

include ok in
theorem stage2_leads (l : List Py) (hl : Up 3 (js.map (pay2 c S.s) ++ l)) :
    Leads a b κ c (js.map (pay2 c S.s) ++ l) l iprop(hbP a b c 0 S.s ∗ Pre2 c S) iprop(halfP a b c 0 S.s ∗ Post2 a b c S) (stage2 c S) := by
  intro R Q
  unfold stage2 spread2 keep2
  iintro ⟨⟨Hh, Ha, HI, Hr, HT, Hf⟩, Hst⟩ Hk
  iapply (wp_ldV c 5 rfl ((ok.offL c).trans (by rw [add_zero16]))) $$ Hh
  iintro Hh
  iapply (wp_ldE c 7 rfl rfl) $$ Ha
  iintro Ha
  iapply (wp_stV c 7 rfl rfl (to2 (n := 32) (k := 1024) (accF a b c 0)) (by
      have e : ∀ (g : Fin 16) (hg : g = gOf c) (h₂ : ∀ x, (![row g, 256 * S.s.val] : Fin 2 → ℕ) x + S32x256.size x ≤ S512x1024.size x),
          rd (F := F) cc0_scratch4 ![0, 256 * S.s.val] S32x256.size S.colR_inb (to2 (n := 32) (k := 1024) (accF a b c 0))
            = k0_pay9 (rd (F := F) cc0_scratch2 ![row g, 256 * S.s.val] S32x256.size h₂ (to2 (n := 512) (k := 1024) (hbF a b c))) := by
        intro g hg h₂; subst hg; exact eq_acc0 a b c (256 * S.s.val) S.colR_inb h₂
      exact e _ (add_zero16 _) _)) $$ Ha
  iintro Ha
  iapply (recv1s_leads a b κ c S ok _ hl js (List.suffix_refl _) _ Q) $$ [Ha HI Hst]
  · isplitl [Ha HI]
    · isplitl [Ha]; · iexact Ha
      iexact HI
    iexact Hst
  iintro ⟨⟨Ha, HG⟩, Hst⟩
  iapply (wp_ldV c 7 rfl rfl) $$ Ha
  iintro Ha
  iapply (wp_ldE c 8 rfl rfl) $$ Hr
  iintro Hr
  iapply (wp_stV c 8 rfl rfl (to2 (n := 32) (k := 1024) (redF a b c)) (eq_red a b c (256 * S.s.val) S.colR_inb)) $$ Hr
  iintro Hr
  ihave Hr := (red_shares a b c S).1 $$ Hr
  icases Hr with ⟨Hr, Hs⟩
  iapply (leads_pay a b κ c (send2 c S) _ _ (pay2 c S.s) js (fun o _ => send2_leads a b κ c S ok o) l _ Q) $$ [Hs HT Hst]
  · isplitl [Hs HT]
    · iapply (bigSepL_zip js (fun o => redP a b c (shareTok fullShare 15 o) S.s) (To2 c S))
      isplitl [Hs]; · iexact Hs
      iexact HT
    iexact Hst
  iintro ⟨Hcr, Hst⟩
  iapply (wp_ldV c 8 rfl rfl) $$ Hr
  iintro Hr
  iapply (wp_ldE c 9 rfl (ok.offL c)) $$ Hf
  iintro Hf
  iapply (wp_stV c 9 rfl (ok.offL c) (to2 (n := 512) (k := 1024) (halfF a b c)) (eq_keep2 a b c (256 * S.s.val) _ S.colR_inb)) $$ Hf
  iintro Hf
  iapply Hk
  isplitr [Hst]
  · isplitl [Hf]; · unfold halfP; rw [add_zero16]; iexact Hf
    isplitl [Hh]; · iexact Hh
    isplitl [Ha]; · iexact Ha
    isplitl [HG]; · iexact HG
    isplitl [Hr]; · iexact Hr
    iexact Hcr
  iexact Hst

/-! ## The third stage -/

/-- What the wait for a copy of the second exchange takes. -/
abbrev In2 (o : Fin 15) : sProp 𝕄 := iprop(Pos c (.inr (3, mir o, S.s)) ∗ Cr c (.inr (3, mir o, S.s)) (4 + S.s.val))

theorem recv2_leads (l : List Py) (hl : Up (4 + S.s.val) l) (o : Fin 15) :
    Leads a b κ c l l (In2 c S o) iprop(Done c (.inr (3, mir o, S.s)) ∗ halfP a b c (stp o) S.s) (recv2 c S o) := by
  intro R Q
  iintro ⟨⟨Hat, Hc⟩, Hst⟩ Hk
  iapply (wp_recv2 a b κ c S o l hl) $$ [Hat Hc Hst]
  · isplitl [Hat]; · iexact Hat
    isplitl [Hc]; · iexact Hc
    iexact Hst
  iintro ⟨Hat, Hp, Hst⟩
  iapply Hk
  isplitr [Hst]
  · isplitl [Hat]; · iexact Hat
    iexact Hp
  iexact Hst

/-- What the stage takes besides this device's own rows of the finished half. -/
abbrev Pre3 : sProp 𝕄 :=
  iprop(bigSepL js (In2 c S) ∗ regE cc0_stg2_0 (xp c) ![my c, 256 * S.s.val] S512x256.size ∗ Tok c (.inl (2, S.s)) ∗ Tok (xp c) (.inl (3, S.s))
    ∗ regE cc0_stg2_0 c ![my c, 256 * S.s.val] S512x256.size)
abbrev Post3 : sProp 𝕄 :=
  iprop((bigSepL js fun o => Done c (.inr (3, mir o, S.s))) ∗ Cr c (.inl (2, S.s)) 0 ∗ halfQ a b c fullShare.right S.s ∗ outP a b c (my c) S.s)

include ok in
theorem stage3_leads (l : List Py) (hl : Up (4 + S.s.val) (payA c S.s :: l)) :
    Leads a b κ c (payA c S.s :: l) l iprop(halfP a b c 0 S.s ∗ Pre3 c S) (Post3 a b c S) (stage3 c S) := by
  intro R Q
  unfold stage3
  iintro ⟨⟨Hh, HI, Hd, Ht, Ht', Ho⟩, Hst⟩ Hk
  iapply (leads_stay a b κ c (recv2 c S) _ _ _ js (fun o _ => recv2_leads a b κ c S _ hl o) _ Q) $$ [HI Hst]
  · isplitl [HI]; · iexact HI
    iexact Hst
  iintro ⟨HG, Hst⟩
  ihave HG := (bigSepL_unzip js _ _) $$ HG
  icases HG with ⟨HD, Hr⟩
  ihave Hf := (Entails.of_eq (half_rows a b c S).symm) $$ [Hh Hr]
  · isplitl [Hh]; · iexact Hh
    iexact Hr
  ihave Hf := (show (reg cc0_scratch6 c fullShare ![0, 256 * S.s.val] S512x256.size (to2 (n := 512) (k := 1024) (halfF a b c)) : sProp 𝕄)
    ⊢ iprop(halfQ a b c fullShare.left S.s ∗ halfQ a b c fullShare.right S.s) from (pointsTo_share (PosShare.mem_left_op_right _)).1) $$ Hf
  icases Hf with ⟨Hl, Hf⟩
  unfold finish3
  iapply (wp_sendA a b κ c S l ok) $$ [Hl Hd Ht Ht' Hst]
  · isplitl [Hl]; · iexact Hl
    isplitl [Hd]; · iexact Hd
    isplitl [Ht]; · iexact Ht
    isplitl [Ht']; · iexact Ht'
    iexact Hst
  iintro ⟨Hcr, Hst⟩
  iapply (wp_ldV c 9 rfl rfl) $$ Hf
  iintro Hf
  iapply (wp_ldE c 2 rfl (ok.offM c)) $$ Ho
  iintro Ho
  iapply (wp_stV c 2 rfl (ok.offM c) (to2 (n := 1024) (k := 1024) (outF a b c)) (eq_keepA a b c (256 * S.s.val) _ S.colH_inb)) $$ Ho
  iintro Ho
  iapply Hk
  isplitr [Hst]
  · isplitl [HD]; · iexact HD
    isplitl [Hcr]; · iexact Hcr
    isplitl [Hf]; · iexact Hf
    iexact Ho
  iexact Hst

end Strip

end Cert.KernelIdeal.AllReduce

end
-- ==== Proof.KernelIdeal.Closed.lean ====
/-
  The addresses and devices of the printed body, computed for every device.
-/
module

public import proofs.«01_k».proof.Proof.KernelIdeal.Topo

@[expose] public section

set_option maxRecDepth 65536

noncomputable section

namespace Cert.KernelIdeal.AllReduce

open Idealize.ShloMosaic Idealize.SL.Sem Cert.KernelIdeal Cert.KernelIdeal.Gen

theorem barDevs_eq : barDevs = (List.finRange 16).map peerB := by
  unfold barDevs
  rw [show List.finRange 16 = [0,1,2,3,4,5,6,7,8,9,10,11,12,13,14,15] from by decide]
  simp only [List.map_cons, List.map_nil, List.cons.injEq, and_true]
  refine ⟨?_, ?_, ?_, ?_, ?_, ?_, ?_, ?_, ?_, ?_, ?_, ?_, ?_, ?_, ?_, ?_⟩ <;> (funext d; revert d; decide +kernel)

theorem off1_eq (d : Dev nD) : k0_off1 d = ![oth d, 0] := by revert d; decide +kernel
theorem off2_eq (d : Dev nD) : k0_off2 d = ![oth d, 0] := by revert d; decide +kernel
theorem off7_eq (d : Dev nD) : k0_off7 d = ![my d, 0] := by revert d; decide +kernel
theorem off8_eq (d : Dev nD) : k0_off8 d = ![my d, 0] := by revert d; decide +kernel

theorem strip0_ok : strip0.Ok := by constructor <;> decide +kernel
theorem strip1_ok : strip1.Ok := by constructor <;> decide +kernel
theorem strip2_ok : strip2.Ok := by constructor <;> decide +kernel
theorem strip3_ok : strip3.Ok := by constructor <;> decide +kernel

end Cert.KernelIdeal.AllReduce

end
-- ==== Proof.KernelIdeal.Exchange.lean ====
/-
  The exchange: the stages of the four strips as the kernel interleaves them, then the waits at the end.
-/
module

public import proofs.«01_k».proof.Proof.KernelIdeal.Stages
public import proofs.«01_k».proof.Proof.KernelIdeal.Closed

@[expose] public section

set_option maxRecDepth 16384

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

/-! ## The payments in order -/

/-- The payments of the last exchange across of strip 3. -/
def e11 (c : Dev nD) : List Py := [payA c 3]
/-- The payments from each later stage on. -/
def e10 (c : Dev nD) : List Py := payA c 2 :: e11 c
def e9 (c : Dev nD) : List Py := js.map (pay2 c 3) ++ e10 c
def e8 (c : Dev nD) : List Py := payA c 1 :: e9 c
def e7 (c : Dev nD) : List Py := js.map (pay2 c 2) ++ e8 c
def e6 (c : Dev nD) : List Py := payA c 0 :: e7 c
def e5 (c : Dev nD) : List Py := js.map (pay2 c 1) ++ e6 c
def e4 (c : Dev nD) : List Py := js.map (pay2 c 0) ++ e5 c
def e3 (c : Dev nD) : List Py := js.map (pay1 c 3) ++ e4 c
def e2 (c : Dev nD) : List Py := js.map (pay1 c 2) ++ e3 c
def e1 (c : Dev nD) : List Py := js.map (pay1 c 1) ++ e2 c
/-- The payments of the two exchanges in the plane and of the last one across. -/
def duesE (c : Dev nD) : List Py := js.map (pay1 c 0) ++ e1 c

theorem up1 {i : ℕ} {c : Dev nD} {s : Fin 4} {l : List Py} (h : i < 3) (hl : Up i l) : Up i (js.map (pay1 c s) ++ l) := by
  intro x hx
  rcases List.mem_append.mp hx with hx | hx
  · obtain ⟨o, -, rfl⟩ := List.mem_map.mp hx
    exact ⟨rfl, h, show (_ : ℕ) < 9 from Nat.lt_of_sub_pos (by first | exact (by decide : 0 < 9 - 3) | exact (by decide : 0 < 9 - 8))⟩
  · exact hl x hx
theorem up2 {i : ℕ} {c : Dev nD} {s : Fin 4} {l : List Py} (h : i < 4 + s.val) (hl : Up i l) : Up i (js.map (pay2 c s) ++ l) := by
  intro x hx
  rcases List.mem_append.mp hx with hx | hx
  · obtain ⟨o, -, rfl⟩ := List.mem_map.mp hx
    exact ⟨rfl, h, by have := s.isLt; show 4 + s.val < 9; omega⟩
  · exact hl x hx
theorem upA {i : ℕ} {c : Dev nD} {s : Fin 4} {l : List Py} (h : i < 8) (hl : Up i l) : Up i (payA c s :: l) := by
  intro x hx
  rcases List.mem_cons.mp hx with rfl | hx
  · exact ⟨rfl, h, show (_ : ℕ) < 9 from Nat.lt_of_sub_pos (by first | exact (by decide : 0 < 9 - 3) | exact (by decide : 0 < 9 - 8))⟩
  · exact hl x hx

theorem u11 (c : Dev nD) {i : ℕ} (h : i < 8) : Up i (e11 c) := upA h (up_nil i)
theorem u10 (c : Dev nD) {i : ℕ} (h : i < 8) : Up i (e10 c) := upA h (u11 c h)
theorem u9 (c : Dev nD) {i : ℕ} (h : i < 7) : Up i (e9 c) := up2 h (u10 c (by omega))
theorem u8 (c : Dev nD) {i : ℕ} (h : i < 7) : Up i (e8 c) := upA (by omega) (u9 c h)
theorem u7 (c : Dev nD) {i : ℕ} (h : i < 6) : Up i (e7 c) := up2 h (u8 c (by omega))
theorem u6 (c : Dev nD) {i : ℕ} (h : i < 6) : Up i (e6 c) := upA (by omega) (u7 c h)
theorem u5 (c : Dev nD) {i : ℕ} (h : i < 5) : Up i (e5 c) := up2 h (u6 c (by omega))
theorem u4 (c : Dev nD) {i : ℕ} (h : i < 4) : Up i (e4 c) := up2 h (u5 c (by omega))
theorem u3 (c : Dev nD) {i : ℕ} (h : i < 3) : Up i (e3 c) := up1 h (u4 c (by omega))
theorem u2 (c : Dev nD) {i : ℕ} (h : i < 3) : Up i (e2 c) := up1 h (u3 c h)
theorem u1 (c : Dev nD) {i : ℕ} (h : i < 3) : Up i (e1 c) := up1 h (u2 c h)
theorem uE (c : Dev nD) {i : ℕ} (h : i < 3) : Up i (duesE c) := up1 h (u1 c h)

theorem strip_ok : ∀ S ∈ strips, S.Ok := by
  intro S hS
  simp only [strips, List.mem_cons, List.not_mem_nil, or_false] at hS
  rcases hS with rfl | rfl | rfl | rfl
  exacts [strip0_ok, strip1_ok, strip2_ok, strip3_ok]

variable (a : Dev nD → Vec F S1024x512 .bf16) (b : Dev nD → Vec F S512x1024 .bf16) (κ : Dev nD × Option K → ℕ) (c : Dev nD)

/-! ## The waits at the end -/

abbrev RA (S : Strip) : sProp 𝕄 := iprop(Pos c (.inl (3, S.s)) ∗ Cr c (.inl (3, S.s)) 8)
abbrev DX (S : Strip) : sProp 𝕄 := iprop(Pos c (.inl (0, S.s)) ∗ Cr c (.inl (0, S.s)) 0)
abbrev D1 (S : Strip) : sProp 𝕄 := bigSepL js fun o => iprop(Pos c (.inr (0, o, S.s)) ∗ Cr c (.inr (0, o, S.s)) 0)
abbrev D2 (S : Strip) : sProp 𝕄 := bigSepL js fun o => iprop(Pos c (.inr (2, o, S.s)) ∗ Cr c (.inr (2, o, S.s)) 0)
abbrev DA (S : Strip) : sProp 𝕄 := iprop(Pos c (.inl (2, S.s)) ∗ Cr c (.inl (2, S.s)) 0)
abbrev RA' (S : Strip) : sProp 𝕄 := iprop(Done c (.inl (3, S.s)) ∗ outP a b c (oth c) S.s)
abbrev DX' (S : Strip) : sProp 𝕄 := iprop(Done c (.inl (0, S.s)) ∗ pX a b c S.s)
abbrev D1' (S : Strip) : sProp 𝕄 := bigSepL js fun o => iprop(Done c (.inr (0, o, S.s)) ∗ hbP a b c (stp o) S.s)
abbrev D2' (S : Strip) : sProp 𝕄 := bigSepL js fun o => iprop(Done c (.inr (2, o, S.s)) ∗ redP a b c (shareTok fullShare 15 o) S.s)
abbrev DA' (S : Strip) : sProp 𝕄 := iprop(Done c (.inl (2, S.s)) ∗ halfQ a b c fullShare.left S.s)

theorem recvA_leads (S : Strip) : Leads a b κ c [] [] (RA c S) (RA' a b c S) (recvA c S) := by
  intro R Q
  iintro ⟨⟨Hat, Hc⟩, Hst⟩ Hk
  iapply (wp_recvA a b κ c S [] (up_nil 8)) $$ [Hat Hc Hst]
  · isplitl [Hat]; · iexact Hat
    isplitl [Hc]; · iexact Hc
    iexact Hst
  iintro ⟨Hat, Hp, Hst⟩
  ihave Hp := (show payK a b c (.inl (3, S.s)) ⊢ outP a b c (oth c) S.s from Entails.refl _) $$ Hp
  iapply Hk
  isplitr [Hst]
  · isplitl [Hat]; · iexact Hat
    iexact Hp
  iexact Hst
theorem drainX_leads (S : Strip) : Leads a b κ c [] [] (DX c S) (DX' a b c S) (drainX c S) := by
  intro R Q
  iintro ⟨⟨Hat, Hc⟩, Hst⟩ Hk
  iapply (wp_drainX a b κ c S [] (up_nil 0)) $$ [Hat Hc Hst]
  · isplitl [Hat]; · iexact Hat
    isplitl [Hc]; · iexact Hc
    iexact Hst
  iintro ⟨Hat, Hp, Hst⟩
  ihave Hp := (show payK a b c (.inl (0, S.s)) ⊢ pX a b c S.s from Entails.refl _) $$ Hp
  iapply Hk
  isplitr [Hst]
  · isplitl [Hat]; · iexact Hat
    iexact Hp
  iexact Hst
theorem drainA_leads (S : Strip) : Leads a b κ c [] [] (DA c S) (DA' a b c S) (drainA c S) := by
  intro R Q
  iintro ⟨⟨Hat, Hc⟩, Hst⟩ Hk
  iapply (wp_drainA a b κ c S [] (up_nil 0)) $$ [Hat Hc Hst]
  · isplitl [Hat]; · iexact Hat
    isplitl [Hc]; · iexact Hc
    iexact Hst
  iintro ⟨Hat, Hp, Hst⟩
  ihave Hp := (show payK a b c (.inl (2, S.s)) ⊢ halfQ a b c fullShare.left S.s from Entails.refl _) $$ Hp
  iapply Hk
  isplitr [Hst]
  · isplitl [Hat]; · iexact Hat
    iexact Hp
  iexact Hst
theorem drain1_leads (S : Strip) : Leads a b κ c [] [] (D1 c S) (D1' a b c S) (each (drain1 c S) js) := by
  refine leads_stay a b κ c (drain1 c S) _ _ [] js fun o _ R Q => ?_
  iintro ⟨⟨Hat, Hc⟩, Hst⟩ Hk
  iapply (wp_drain1 a b κ c S o [] (up_nil 0)) $$ [Hat Hc Hst]
  · isplitl [Hat]; · iexact Hat
    isplitl [Hc]; · iexact Hc
    iexact Hst
  iintro ⟨Hat, Hp, Hst⟩
  ihave Hp := (show payK a b c (.inr (0, o, S.s)) ⊢ hbP a b c (stp o) S.s from Entails.refl _) $$ Hp
  iapply Hk
  isplitr [Hst]
  · isplitl [Hat]; · iexact Hat
    iexact Hp
  iexact Hst
theorem drain2_leads (S : Strip) : Leads a b κ c [] [] (D2 c S) (D2' a b c S) (each (drain2 c S) js) := by
  refine leads_stay a b κ c (drain2 c S) _ _ [] js fun o _ R Q => ?_
  iintro ⟨⟨Hat, Hc⟩, Hst⟩ Hk
  iapply (wp_drain2 a b κ c S o [] (up_nil 0)) $$ [Hat Hc Hst]
  · isplitl [Hat]; · iexact Hat
    isplitl [Hc]; · iexact Hc
    iexact Hst
  iintro ⟨Hat, Hp, Hst⟩
  ihave Hp := (show payK a b c (.inr (2, o, S.s)) ⊢ redP a b c (shareTok fullShare 15 o) S.s from Entails.refl _) $$ Hp
  iapply Hk
  isplitr [Hst]
  · isplitl [Hat]; · iexact Hat
    iexact Hp
  iexact Hst

omit [FloatOps F] in
/-- A chain over the four strips. -/
theorem four (Φ : Strip → sProp 𝕄) : bigSepL strips Φ = iprop(Φ strip0 ∗ Φ strip1 ∗ Φ strip2 ∗ Φ strip3) := rfl

/-- The last receive and the waits for the sends. -/
theorem tail_leads (Q : PUnit → sProp 𝕄) :
    iprop((bigSepL strips (RA c) ∗ bigSepL strips (DX c) ∗ bigSepL strips (D1 c) ∗ bigSepL strips (D2 c) ∗ bigSepL strips (DA c)) ∗ St a b κ c [])
      ⊢ iprop((iprop((bigSepL strips (RA' a b c) ∗ bigSepL strips (DX' a b c) ∗ bigSepL strips (D1' a b c) ∗ bigSepL strips (D2' a b c) ∗ bigSepL strips (DA' a b c)) ∗ St a b κ c [])
          -∗ Q ⟨⟩) -∗ WP c (each (recvA c) strips <| drains c) Q) := by
  unfold drains
  rw [four (D2 c), four (DA c), four (D2' a b c), four (DA' a b c)]
  iintro ⟨⟨HR, HX, H1, ⟨H20, H21, H22, H23⟩, ⟨HA0, HA1, HA2, HA3⟩⟩, Hst⟩ Hk
  iapply (leads_stay a b κ c (recvA c) _ _ [] strips (fun S _ => recvA_leads a b κ c S) _ Q) $$ [HR Hst]
  · isplitl [HR]; · iexact HR
    iexact Hst
  iintro ⟨HR, Hst⟩
  iapply (leads_stay a b κ c (drainX c) _ _ [] strips (fun S _ => drainX_leads a b κ c S) _ Q) $$ [HX Hst]
  · isplitl [HX]; · iexact HX
    iexact Hst
  iintro ⟨HX, Hst⟩
  iapply (leads_stay a b κ c (fun S => each (drain1 c S) js) _ _ [] strips (fun S _ => drain1_leads a b κ c S) _ Q) $$ [H1 Hst]
  · isplitl [H1]; · iexact H1
    iexact Hst
  iintro ⟨H1, Hst⟩
  iapply (drain2_leads a b κ c strip0 _ Q) $$ [H20 Hst]
  · isplitl [H20]; · iexact H20
    iexact Hst
  iintro ⟨H20, Hst⟩
  iapply (drain2_leads a b κ c strip1 _ Q) $$ [H21 Hst]
  · isplitl [H21]; · iexact H21
    iexact Hst
  iintro ⟨H21, Hst⟩
  iapply (drainA_leads a b κ c strip0 _ Q) $$ [HA0 Hst]
  · isplitl [HA0]; · iexact HA0
    iexact Hst
  iintro ⟨HA0, Hst⟩
  iapply (drain2_leads a b κ c strip2 _ Q) $$ [H22 Hst]
  · isplitl [H22]; · iexact H22
    iexact Hst
  iintro ⟨H22, Hst⟩
  iapply (drainA_leads a b κ c strip1 _ Q) $$ [HA1 Hst]
  · isplitl [HA1]; · iexact HA1
    iexact Hst
  iintro ⟨HA1, Hst⟩
  iapply (drain2_leads a b κ c strip3 _ Q) $$ [H23 Hst]
  · isplitl [H23]; · iexact H23
    iexact Hst
  iintro ⟨H23, Hst⟩
  iapply (drainA_leads a b κ c strip2 _ Q) $$ [HA2 Hst]
  · isplitl [HA2]; · iexact HA2
    iexact Hst
  iintro ⟨HA2, Hst⟩
  iapply (drainA_leads a b κ c strip3 _ Q) $$ [HA3 Hst]
  · isplitl [HA3]; · iexact HA3
    iexact Hst
  iintro ⟨HA3, Hst⟩
  unfold WP; rw [wp_ret]; imodintro
  iapply Hk
  isplitr [Hst]
  · isplitl [HR]; · iexact HR
    isplitl [HX]; · iexact HX
    isplitl [H1]; · iexact H1
    isplitl [H20 H21 H22 H23]
    · isplitl [H20]; · iexact H20
      isplitl [H21]; · iexact H21
      isplitl [H22]; · iexact H22
      iexact H23
    isplitl [HA0]; · iexact HA0
    isplitl [HA1]; · iexact HA1
    isplitl [HA2]; · iexact HA2
    iexact HA3
  iexact Hst

/-! ## The stages -/

/-- The stages of the exchange. -/
def stages (d : Dev nD) (R : Pg F) : Pg F :=
  stage1 d strip0 <| stage1 d strip1 <| stage1 d strip2 <| stage1 d strip3 <|
  stage2 d strip0 <| stage2 d strip1 <| stage3 d strip0 <| stage2 d strip2 <| stage3 d strip1 <| stage2 d strip3 <| stage3 d strip2 <| stage3 d strip3 <| R

omit a b κ in
theorem exchange_eq : exchange (F := F) c = stages c (each (recvA c) strips <| drains c) := rfl

/-- What the stages leave of the first stage besides the rows handed on. -/
abbrev Left1 (S : Strip) : sProp 𝕄 :=
  iprop(Done c (.inl (1, S.s)) ∗ pM a b c S.s ∗ xrP a b c S.s ∗ bigSepL js fun o => Cr c (.inr (0, o, S.s)) 0)

/-- One stage of one strip with its payments left. -/
theorem stages_leads :
    Leads a b κ c (duesE c) [] iprop(bigSepL strips (Pre1 a b c) ∗ bigSepL strips (Pre2 c) ∗ bigSepL strips (Pre3 c))
      iprop(bigSepL strips (Left1 a b c) ∗ bigSepL strips (Post2 a b c) ∗ bigSepL strips (Post3 a b c)) (stages c) := by
  intro R Q
  unfold stages
  simp only [four]
  iintro ⟨⟨⟨P0, P1, P2, P3⟩, ⟨Q0, Q1, Q2, Q3⟩, R0, R1, R2, R3⟩, Hst⟩ Hk
  iapply (stage1_leads a b κ c strip0 strip0_ok (e1 c) (uE c (by decide)) _ Q) $$ [P0 Hst]
  · isplitl [P0]; · iexact P0
    iexact Hst
  iintro ⟨⟨D0, M0, X0, H0, C0⟩, Hst⟩
  iapply (stage1_leads a b κ c strip1 strip1_ok (e2 c) (u1 c (by decide)) _ Q) $$ [P1 Hst]
  · isplitl [P1]; · iexact P1
    iexact Hst
  iintro ⟨⟨D1, M1, X1, H1, C1⟩, Hst⟩
  iapply (stage1_leads a b κ c strip2 strip2_ok (e3 c) (u2 c (by decide)) _ Q) $$ [P2 Hst]
  · isplitl [P2]; · iexact P2
    iexact Hst
  iintro ⟨⟨D2, M2, X2, H2, C2⟩, Hst⟩
  iapply (stage1_leads a b κ c strip3 strip3_ok (e4 c) (u3 c (by decide)) _ Q) $$ [P3 Hst]
  · isplitl [P3]; · iexact P3
    iexact Hst
  iintro ⟨⟨D3, M3, X3, H3, C3⟩, Hst⟩
  iapply (stage2_leads a b κ c strip0 strip0_ok (e5 c) (u4 c (by decide)) _ Q) $$ [H0 Q0 Hst]
  · isplitl [H0 Q0]
    · isplitl [H0]; · iexact H0
      iexact Q0
    iexact Hst
  iintro ⟨⟨H0, Q0⟩, Hst⟩
  iapply (stage2_leads a b κ c strip1 strip1_ok (e6 c) (u5 c (by decide)) _ Q) $$ [H1 Q1 Hst]
  · isplitl [H1 Q1]
    · isplitl [H1]; · iexact H1
      iexact Q1
    iexact Hst
  iintro ⟨⟨H1, Q1⟩, Hst⟩
  iapply (stage3_leads a b κ c strip0 strip0_ok (e7 c) (u6 c (by decide)) _ Q) $$ [H0 R0 Hst]
  · isplitl [H0 R0]
    · isplitl [H0]; · iexact H0
      iexact R0
    iexact Hst
  iintro ⟨R0, Hst⟩
  iapply (stage2_leads a b κ c strip2 strip2_ok (e8 c) (u7 c (by decide)) _ Q) $$ [H2 Q2 Hst]
  · isplitl [H2 Q2]
    · isplitl [H2]; · iexact H2
      iexact Q2
    iexact Hst
  iintro ⟨⟨H2, Q2⟩, Hst⟩
  iapply (stage3_leads a b κ c strip1 strip1_ok (e9 c) (u8 c (by decide)) _ Q) $$ [H1 R1 Hst]
  · isplitl [H1 R1]
    · isplitl [H1]; · iexact H1
      iexact R1
    iexact Hst
  iintro ⟨R1, Hst⟩
  iapply (stage2_leads a b κ c strip3 strip3_ok (e10 c) (u9 c (by decide)) _ Q) $$ [H3 Q3 Hst]
  · isplitl [H3 Q3]
    · isplitl [H3]; · iexact H3
      iexact Q3
    iexact Hst
  iintro ⟨⟨H3, Q3⟩, Hst⟩
  iapply (stage3_leads a b κ c strip2 strip2_ok (e11 c) (u10 c (by decide)) _ Q) $$ [H2 R2 Hst]
  · isplitl [H2 R2]
    · isplitl [H2]; · iexact H2
      iexact R2
    iexact Hst
  iintro ⟨R2, Hst⟩
  iapply (stage3_leads a b κ c strip3 strip3_ok [] (u11 c (by decide)) _ Q) $$ [H3 R3 Hst]
  · isplitl [H3 R3]
    · isplitl [H3]; · iexact H3
      iexact R3
    iexact Hst
  iintro ⟨R3, Hst⟩
  iapply Hk
  isplitr [Hst]
  · isplitl [D0 M0 X0 C0 D1 M1 X1 C1 D2 M2 X2 C2 D3 M3 X3 C3]
    · isplitl [D0 M0 X0 C0]
      · isplitl [D0]; · iexact D0
        isplitl [M0]; · iexact M0
        isplitl [X0]; · iexact X0
        iexact C0
      isplitl [D1 M1 X1 C1]
      · isplitl [D1]; · iexact D1
        isplitl [M1]; · iexact M1
        isplitl [X1]; · iexact X1
        iexact C1
      isplitl [D2 M2 X2 C2]
      · isplitl [D2]; · iexact D2
        isplitl [M2]; · iexact M2
        isplitl [X2]; · iexact X2
        iexact C2
      isplitl [D3]; · iexact D3
      isplitl [M3]; · iexact M3
      isplitl [X3]; · iexact X3
      iexact C3
    isplitl [Q0 Q1 Q2 Q3]
    · isplitl [Q0]; · iexact Q0
      isplitl [Q1]; · iexact Q1
      isplitl [Q2]; · iexact Q2
      iexact Q3
    isplitl [R0]; · iexact R0
    isplitl [R1]; · iexact R1
    isplitl [R2]; · iexact R2
    iexact R3
  iexact Hst

end Cert.KernelIdeal.AllReduce

end
-- ==== Proof.KernelIdeal.Parts.lean ====
/-
  The buffers of one device, divided as the protocol hands them round, and put together again.
-/
module

public import proofs.«01_k».proof.Proof.KernelIdeal.Exchange

@[expose] public section

set_option maxRecDepth 16384

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

/-! ## Chains -/

section Chains
variable {I J : Type}

omit [FloatOps F] in
/-- An empty chain. -/
theorem bigSepL_emp (M : List J) : (iprop(emp) : sProp 𝕄) ⊢ bigSepL M fun _ => iprop(emp) := by
  induction M with
  | nil => rw [bigSepL_nil]; iintro -; iempintro
  | cons j M ih => rw [bigSepL_cons']; iintro H; isplitr; · iempintro
                   iapply ih; iexact H

omit [FloatOps F] in
/-- Two chains, one in the other, change places. -/
theorem bigSepL_swap (L : List I) (M : List J) (Φ : I → J → sProp 𝕄) :
    (bigSepL L fun i => bigSepL M (Φ i)) ⊢ bigSepL M fun j => bigSepL L fun i => Φ i j := by
  induction L with
  | nil => exact bigSepL_emp M
  | cons i L ih =>
    rw [bigSepL_cons', show (fun j => bigSepL (i :: L) fun i => Φ i j) = fun j => iprop(Φ i j ∗ bigSepL L fun i => Φ i j) from funext fun j => bigSepL_cons' _ _ _]
    iintro ⟨H1, H2⟩
    ihave H2 := ih $$ H2
    iapply (bigSepL_zip M (Φ i) fun j => bigSepL L fun i => Φ i j)
    isplitl [H1]; · iexact H1
    iexact H2

omit [FloatOps F] in
theorem bigSepL_two (i j : I) (Φ : I → sProp 𝕄) : bigSepL [i, j] Φ = iprop(Φ i ∗ Φ j) := rfl

end Chains

omit [FloatOps F] in
/-- A chain over the strip numbers is one over the strips. -/
theorem to_strips (Φ : Fin 4 → sProp 𝕄) : bigSepL sl Φ = bigSepL strips fun S => Φ S.s := rfl

variable (c : Dev nD)

/-! ## Halves and strips -/

theorem halves_univ : (Finset.univ : Finset (Fin 2)) = [1 - xOf c, xOf c].toFinset := by
  generalize xOf c = x; revert x; decide
theorem halves_nodup : [1 - xOf c, xOf c].Nodup := by
  generalize xOf c = x; revert x; decide

/-- The partial product's buffer in the partner's half and this device's half. -/
theorem part_halves : (regE cc0_scratch0 c ![0, 0] S1024x1024.size : sProp 𝕄)
    ⊢ iprop(regE cc0_scratch0 c ![oth c, 0] S512x1024.size ∗ regE cc0_scratch0 c ![my c, 0] S512x1024.size) := by
  refine (regE_split [1 - xOf c, xOf c] (halves_univ c) (halves_nodup c) cc0_scratch0 c (off' := fun h => ![512 * h.val, 0]) (size' := S512x1024.size)
    halves_cover halves_disj).trans ?_
  exact Entails.of_eq (bigSepL_two (1 - xOf c) (xOf c) fun h => regE cc0_scratch0 c ![512 * h.val, 0] S512x1024.size)

theorem part_join : iprop(regE cc0_scratch0 c ![oth c, 0] S512x1024.size ∗ regE cc0_scratch0 c ![my c, 0] S512x1024.size)
    ⊢ (regE cc0_scratch0 c ![0, 0] S1024x1024.size : sProp 𝕄) :=
  (Entails.of_eq (bigSepL_two (1 - xOf c) (xOf c) fun h => regE cc0_scratch0 c ![512 * h.val, 0] S512x1024.size).symm).trans <| regE_join [1 - xOf c, xOf c] (halves_univ c) (halves_nodup c) cc0_scratch0 c (off' := fun h => ![512 * h.val, 0]) (size' := S512x1024.size)
    halves_cover halves_disj (fun _ => FloatOps.ofBits _ 0)

/-- The result's buffer in halves. -/
theorem out_halves : (regE cc0_stg2_0 c ![0, 0] S1024x1024.size : sProp 𝕄)
    ⊢ iprop(regE cc0_stg2_0 c ![oth c, 0] S512x1024.size ∗ regE cc0_stg2_0 c ![my c, 0] S512x1024.size) := by
  refine (regE_split [1 - xOf c, xOf c] (halves_univ c) (halves_nodup c) cc0_stg2_0 c (off' := fun h => ![512 * h.val, 0]) (size' := S512x1024.size)
    halves_cover halves_disj).trans ?_
  exact Entails.of_eq (bigSepL_two (1 - xOf c) (xOf c) fun h => regE cc0_stg2_0 c ![512 * h.val, 0] S512x1024.size)

theorem out_join (f : (cc0_stg2_0 : Ref sig .tc).ty.Contents (Elt F)) : iprop(reg cc0_stg2_0 c fullShare ![oth c, 0] S512x1024.size f ∗ reg cc0_stg2_0 c fullShare ![my c, 0] S512x1024.size f)
    ⊢ (reg cc0_stg2_0 c fullShare ![0, 0] S1024x1024.size f : sProp 𝕄) := by
  rw [reg_parts [1 - xOf c, xOf c] (halves_univ c) (halves_nodup c) cc0_stg2_0 c (off' := fun h => ![512 * h.val, 0]) (size' := S512x1024.size)
    halves_cover halves_disj]
  exact Entails.of_eq (bigSepL_two (1 - xOf c) (xOf c) fun h => reg cc0_stg2_0 c fullShare ![512 * h.val, 0] S512x1024.size f).symm

/-- Strips of rows of a buffer of `N` rows. -/
theorem out_strips (r : ℕ) : (regE cc0_stg2_0 c ![r, 0] S512x1024.size : sProp 𝕄) ⊢ bigSepL sl fun s => regE cc0_stg2_0 c ![r, 256 * s.val] S512x256.size :=
  regE_split sl sl_univ sl_nodup cc0_stg2_0 c (off' := fun s => ![r, 256 * s.val]) (size' := S512x256.size) (cols_cover 1024 r 512) (cols_disj 1024 r 512)
theorem outv_strips (r : ℕ) (f : (cc0_stg2_0 : Ref sig .tc).ty.Contents (Elt F)) :
    (reg cc0_stg2_0 c fullShare ![r, 0] S512x1024.size f : sProp 𝕄) = bigSepL sl fun s => reg cc0_stg2_0 c fullShare ![r, 256 * s.val] S512x256.size f :=
  reg_parts sl sl_univ sl_nodup cc0_stg2_0 c (off' := fun s => ![r, 256 * s.val]) (size' := S512x256.size) (cols_cover 1024 r 512) (cols_disj 1024 r 512) fullShare f
theorem partv_strips (r : ℕ) (f : (cc0_scratch0 : Ref sig .tc).ty.Contents (Elt F)) :
    (reg cc0_scratch0 c fullShare ![r, 0] S512x1024.size f : sProp 𝕄) = bigSepL sl fun s => reg cc0_scratch0 c fullShare ![r, 256 * s.val] S512x256.size f :=
  reg_parts sl sl_univ sl_nodup cc0_scratch0 c (off' := fun s => ![r, 256 * s.val]) (size' := S512x256.size) (cols_cover 1024 r 512) (cols_disj 1024 r 512) fullShare f
theorem xr_strips : (regE cc0_scratch1 c ![0, 0] S512x1024.size : sProp 𝕄) ⊢ bigSepL sl fun s => regE cc0_scratch1 c ![0, 256 * s.val] S512x256.size :=
  regE_split sl sl_univ sl_nodup cc0_scratch1 c (off' := fun s => ![0, 256 * s.val]) (size' := S512x256.size) (cols_cover 512 0 512) (cols_disj 512 0 512)
theorem hb_strips : (regE cc0_scratch2 c ![0, 0] S512x1024.size : sProp 𝕄) ⊢ bigSepL sl fun s => regE cc0_scratch2 c ![0, 256 * s.val] S512x256.size :=
  regE_split sl sl_univ sl_nodup cc0_scratch2 c (off' := fun s => ![0, 256 * s.val]) (size' := S512x256.size) (cols_cover 512 0 512) (cols_disj 512 0 512)
theorem yz_strips : (regE cc0_scratch3 c ![0, 0] S512x1024.size : sProp 𝕄) ⊢ bigSepL sl fun s => regE cc0_scratch3 c ![0, 256 * s.val] S512x256.size :=
  regE_split sl sl_univ sl_nodup cc0_scratch3 c (off' := fun s => ![0, 256 * s.val]) (size' := S512x256.size) (cols_cover 512 0 512) (cols_disj 512 0 512)
theorem acc_strips : (regE cc0_scratch4 c ![0, 0] S32x1024.size : sProp 𝕄) ⊢ bigSepL sl fun s => regE cc0_scratch4 c ![0, 256 * s.val] S32x256.size :=
  regE_split sl sl_univ sl_nodup cc0_scratch4 c (off' := fun s => ![0, 256 * s.val]) (size' := S32x256.size) (cols_cover 32 0 32) (cols_disj 32 0 32)
theorem red_strips : (regE cc0_scratch5 c ![0, 0] S32x1024.size : sProp 𝕄) ⊢ bigSepL sl fun s => regE cc0_scratch5 c ![0, 256 * s.val] S32x256.size :=
  regE_split sl sl_univ sl_nodup cc0_scratch5 c (off' := fun s => ![0, 256 * s.val]) (size' := S32x256.size) (cols_cover 32 0 32) (cols_disj 32 0 32)
theorem half_strips : (regE cc0_scratch6 c ![0, 0] S512x1024.size : sProp 𝕄) ⊢ bigSepL sl fun s => regE cc0_scratch6 c ![0, 256 * s.val] S512x256.size :=
  regE_split sl sl_univ sl_nodup cc0_scratch6 c (off' := fun s => ![0, 256 * s.val]) (size' := S512x256.size) (cols_cover 512 0 512) (cols_disj 512 0 512)

theorem part_sjoin (r : ℕ) : (bigSepL sl fun s => regE cc0_scratch0 c ![r, 256 * s.val] S512x256.size) ⊢ (regE cc0_scratch0 c ![r, 0] S512x1024.size : sProp 𝕄) :=
  regE_join sl sl_univ sl_nodup cc0_scratch0 c (off' := fun s => ![r, 256 * s.val]) (size' := S512x256.size) (cols_cover 1024 r 512) (cols_disj 1024 r 512) (fun _ => FloatOps.ofBits _ 0)
theorem xr_sjoin : (bigSepL sl fun s => regE cc0_scratch1 c ![0, 256 * s.val] S512x256.size) ⊢ (regE cc0_scratch1 c ![0, 0] S512x1024.size : sProp 𝕄) :=
  regE_join sl sl_univ sl_nodup cc0_scratch1 c (off' := fun s => ![0, 256 * s.val]) (size' := S512x256.size) (cols_cover 512 0 512) (cols_disj 512 0 512) (fun _ => FloatOps.ofBits _ 0)
theorem hb_sjoin : (bigSepL sl fun s => regE cc0_scratch2 c ![0, 256 * s.val] S512x256.size) ⊢ (regE cc0_scratch2 c ![0, 0] S512x1024.size : sProp 𝕄) :=
  regE_join sl sl_univ sl_nodup cc0_scratch2 c (off' := fun s => ![0, 256 * s.val]) (size' := S512x256.size) (cols_cover 512 0 512) (cols_disj 512 0 512) (fun _ => FloatOps.ofBits _ 0)
theorem yz_sjoin : (bigSepL sl fun s => regE cc0_scratch3 c ![0, 256 * s.val] S512x256.size) ⊢ (regE cc0_scratch3 c ![0, 0] S512x1024.size : sProp 𝕄) :=
  regE_join sl sl_univ sl_nodup cc0_scratch3 c (off' := fun s => ![0, 256 * s.val]) (size' := S512x256.size) (cols_cover 512 0 512) (cols_disj 512 0 512) (fun _ => FloatOps.ofBits _ 0)
theorem acc_sjoin : (bigSepL sl fun s => regE cc0_scratch4 c ![0, 256 * s.val] S32x256.size) ⊢ (regE cc0_scratch4 c ![0, 0] S32x1024.size : sProp 𝕄) :=
  regE_join sl sl_univ sl_nodup cc0_scratch4 c (off' := fun s => ![0, 256 * s.val]) (size' := S32x256.size) (cols_cover 32 0 32) (cols_disj 32 0 32) (fun _ => FloatOps.ofBits _ 0)
theorem red_sjoin : (bigSepL sl fun s => regE cc0_scratch5 c ![0, 256 * s.val] S32x256.size) ⊢ (regE cc0_scratch5 c ![0, 0] S32x1024.size : sProp 𝕄) :=
  regE_join sl sl_univ sl_nodup cc0_scratch5 c (off' := fun s => ![0, 256 * s.val]) (size' := S32x256.size) (cols_cover 32 0 32) (cols_disj 32 0 32) (fun _ => FloatOps.ofBits _ 0)
theorem half_sjoin : (bigSepL sl fun s => regE cc0_scratch6 c ![0, 256 * s.val] S512x256.size) ⊢ (regE cc0_scratch6 c ![0, 0] S512x1024.size : sProp 𝕄) :=
  regE_join sl sl_univ sl_nodup cc0_scratch6 c (off' := fun s => ![0, 256 * s.val]) (size' := S512x256.size) (cols_cover 512 0 512) (cols_disj 512 0 512) (fun _ => FloatOps.ofBits _ 0)

/-! ## Row blocks -/

/-- A strip of a landing buffer in row blocks, this device's own first. -/
theorem yz_rows (s : Fin 4) : (regE cc0_scratch3 c ![0, 256 * s.val] S512x256.size : sProp 𝕄)
    ⊢ iprop(regE cc0_scratch3 c ![row (gOf c), 256 * s.val] S32x256.size
      ∗ bigSepL js fun o => regE cc0_scratch3 c ![row (gOf c + stp o), 256 * s.val] S32x256.size) := by
  refine (regE_split ks ks_univ ks_nodup cc0_scratch3 c (off' := fun p => ![row (gOf c + p), 256 * s.val]) (size' := S32x256.size)
    (rows_cover (gOf c) (256 * s.val) 256) (rows_disj (gOf c) (256 * s.val) 256)).trans ?_
  unfold ks
  rw [bigSepL_cons', bigSepL_map, add_zero16]
theorem half_rowsE (s : Fin 4) : (regE cc0_scratch6 c ![0, 256 * s.val] S512x256.size : sProp 𝕄)
    ⊢ iprop(regE cc0_scratch6 c ![row (gOf c), 256 * s.val] S32x256.size
      ∗ bigSepL js fun o => regE cc0_scratch6 c ![row (gOf c + stp o), 256 * s.val] S32x256.size) := by
  refine (regE_split ks ks_univ ks_nodup cc0_scratch6 c (off' := fun p => ![row (gOf c + p), 256 * s.val]) (size' := S32x256.size)
    (rows_cover (gOf c) (256 * s.val) 256) (rows_disj (gOf c) (256 * s.val) 256)).trans ?_
  unfold ks
  rw [bigSepL_cons', bigSepL_map, add_zero16]
theorem yz_rjoin (s : Fin 4) : iprop(regE cc0_scratch3 c ![row (gOf c), 256 * s.val] S32x256.size
      ∗ bigSepL js fun o => regE cc0_scratch3 c ![row (gOf c + stp o), 256 * s.val] S32x256.size)
    ⊢ (regE cc0_scratch3 c ![0, 256 * s.val] S512x256.size : sProp 𝕄) := by
  refine BIBase.Entails.trans ?_ (regE_join ks ks_univ ks_nodup cc0_scratch3 c (off' := fun p => ![row (gOf c + p), 256 * s.val]) (size' := S32x256.size)
    (rows_cover (gOf c) (256 * s.val) 256) (rows_disj (gOf c) (256 * s.val) 256) (fun _ => FloatOps.ofBits _ 0))
  unfold ks
  rw [bigSepL_cons', bigSepL_map, add_zero16]

/-! ## What the raises hand over -/

omit c in
theorem neg_stp (o : Fin 15) : -(stp o) ≠ 0 := by revert o; decide

/-- What the raise of the barrier of partner number `i` hands over is about this device's own buffers. -/
theorem barPay_zero : (barPay (peerB 0 c) (-0) : sProp 𝕄)
    = iprop(bigSepL sl (fun s => regE cc0_scratch1 c ![0, 256 * s.val] S512x256.size) ∗ bigSepL sl (fun s => regE cc0_stg2_0 c ![oth c, 256 * s.val] S512x256.size)) := by
  show (barPay (xp c) 0 : sProp 𝕄) = _
  unfold barPay
  rw [if_pos rfl, xp_xp, my_xp]
theorem barPay_stp (o : Fin 15) : (barPay (peerB (stp o) c) (-(stp o)) : sProp 𝕄)
    = iprop(bigSepL sl (fun s => regE cc0_scratch3 c ![row (gOf c + stp o), 256 * s.val] S32x256.size)
      ∗ bigSepL sl (fun s => regE cc0_scratch6 c ![row (gOf c + stp o), 256 * s.val] S32x256.size)) := by
  unfold barPay
  rw [if_neg (neg_stp o), show peerB (stp o) c = nxt (stp o) c from if_neg (by revert o; decide), neg_nxt, gOf_nxt]

/-- This device's landing buffers and result as its raises hand them over, and the rows it keeps. -/
theorem own_split :
    iprop(regE cc0_scratch1 c ![0, 0] S512x1024.size ∗ regE cc0_scratch3 c ![0, 0] S512x1024.size ∗ regE cc0_scratch6 c ![0, 0] S512x1024.size
        ∗ regE cc0_stg2_0 c ![0, 0] S1024x1024.size)
      ⊢ (iprop((bigSepL ks fun i => barPay (peerB i c) (-i))
        ∗ (bigSepL strips fun S => regE cc0_scratch3 c ![row (gOf c), 256 * S.s.val] S32x256.size)
        ∗ (bigSepL strips fun S => regE cc0_scratch6 c ![row (gOf c), 256 * S.s.val] S32x256.size)
        ∗ bigSepL strips fun S => regE cc0_stg2_0 c ![my c, 256 * S.s.val] S512x256.size) : sProp 𝕄) := by
  unfold ks
  rw [bigSepL_cons', bigSepL_map, barPay_zero, show (fun o => (barPay (peerB (stp o) c) (-(stp o)) : sProp 𝕄)) = _ from funext (barPay_stp c)]
  iintro ⟨Hx, Hy, Hh, Ho⟩
  ihave Hx := (xr_strips c) $$ Hx
  ihave Ho := (out_halves c) $$ Ho
  icases Ho with ⟨Ho, Hm⟩
  ihave Ho := (out_strips c (oth c)) $$ Ho
  ihave Hm := (out_strips c (my c)) $$ Hm
  ihave Hy := (yz_strips c) $$ Hy
  ihave Hy := (bigSepL_mono fun s _ => yz_rows c s) $$ Hy
  ihave Hy := (bigSepL_unzip sl _ _) $$ Hy
  icases Hy with ⟨Hy0, Hy⟩
  ihave Hy := (bigSepL_swap sl js fun s o => regE cc0_scratch3 c ![row (gOf c + stp o), 256 * s.val] S32x256.size) $$ Hy
  ihave Hh := (half_strips c) $$ Hh
  ihave Hh := (bigSepL_mono fun s _ => half_rowsE c s) $$ Hh
  ihave Hh := (bigSepL_unzip sl _ _) $$ Hh
  icases Hh with ⟨Hh0, Hh⟩
  ihave Hh := (bigSepL_swap sl js fun s o => regE cc0_scratch6 c ![row (gOf c + stp o), 256 * s.val] S32x256.size) $$ Hh
  isplitl [Hx Ho Hy Hh]
  · isplitl [Hx Ho]
    · isplitl [Hx]; · iexact Hx
      iexact Ho
    iapply (bigSepL_zip js (fun o => bigSepL sl fun s => regE cc0_scratch3 c ![row (gOf c + stp o), 256 * s.val] S32x256.size)
      (fun o => bigSepL sl fun s => regE cc0_scratch6 c ![row (gOf c + stp o), 256 * s.val] S32x256.size))
    isplitl [Hy]; · iexact Hy
    iexact Hh
  isplitl [Hy0]; · iexact Hy0
  isplitl [Hh0]; · iexact Hh0
  iexact Hm

/-- What the raises of this device's barrier have handed over. -/
theorem got_split :
    (bigSepL ks (barPay c) : sProp 𝕄)
      ⊢ iprop((bigSepL strips fun S => regE cc0_scratch1 (xp c) ![0, 256 * S.s.val] S512x256.size)
        ∗ (bigSepL strips fun S => regE cc0_stg2_0 (xp c) ![my c, 256 * S.s.val] S512x256.size)
        ∗ (bigSepL strips fun S => bigSepL js fun o => regE cc0_scratch3 (nxt (stp o) c) ![row (gOf c), 256 * S.s.val] S32x256.size)
        ∗ bigSepL strips fun S => bigSepL js fun o => regE cc0_scratch6 (nxt (stp o) c) ![row (gOf c), 256 * S.s.val] S32x256.size) := by
  unfold ks
  rw [bigSepL_cons', bigSepL_map, show (fun o => (barPay c (stp o) : sProp 𝕄)) = _ from funext fun o => if_neg (by revert o; decide),
    show (barPay c 0 : sProp 𝕄) = _ from if_pos rfl]
  iintro ⟨⟨Hx, Ho⟩, H⟩
  ihave H := (bigSepL_unzip js _ _) $$ H
  icases H with ⟨Hy, Hh⟩
  ihave Hy := (bigSepL_swap js sl fun o s => regE cc0_scratch3 (nxt (stp o) c) ![row (gOf c), 256 * s.val] S32x256.size) $$ Hy
  ihave Hh := (bigSepL_swap js sl fun o s => regE cc0_scratch6 (nxt (stp o) c) ![row (gOf c), 256 * s.val] S32x256.size) $$ Hh
  isplitl [Hx]; · iexact Hx
  isplitl [Ho]; · iexact Ho
  isplitl [Hy]; · iexact Hy
  iexact Hh

end Cert.KernelIdeal.AllReduce

end
-- ==== Proof.KernelIdeal.Body.lean ====
/-
  The whole body on one device: the raises, the products with the barrier and the copies across between them, the exchange.
-/
module

public import proofs.«01_k».proof.Proof.KernelIdeal.Parts

@[expose] public section

set_option maxRecDepth 16384

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

/-! ## All the payments of one device -/

/-- The payment of the raise of partner number `i`'s barrier. -/
def payB (c : Dev nD) (i : Fin 16) : Py := (barC (peerB i c), 1, 1)

/-- The payments in the order the body makes them. -/
def dues (c : Dev nD) : List Py := ks.map (payB c) ++ (sl.map (payX c) ++ duesE c)

theorem uX (c : Dev nD) : Up 1 (sl.map (payX c) ++ duesE c) := by
  intro x hx
  rcases List.mem_append.mp hx with hx | hx
  · obtain ⟨s, -, rfl⟩ := List.mem_map.mp hx
    exact ⟨rfl, show (1 : ℕ) < 2 by decide, show (2 : ℕ) < 9 by decide⟩
  · exact uE c (by decide) x hx

variable (a : Dev nD → Vec F S1024x512 .bf16) (b : Dev nD → Vec F S512x1024 .bf16) (κ : Dev nD × Option K → ℕ) (c : Dev nD)

/-! ## What a strip has of the protocol -/

/-- All but the copy across. -/
abbrev Rest (S : Strip) : sProp 𝕄 :=
  iprop((Tok c (.inl (2, S.s)) ∗ Tok (xp c) (.inl (3, S.s)))
    ∗ (bigSepL js fun o => iprop(Tok c (.inr (0, o, S.s)) ∗ Tok (nxt (stp o) c) (.inr (1, o, S.s))))
    ∗ (bigSepL js fun o => iprop(Tok c (.inr (2, o, S.s)) ∗ Tok (nxt (stp o) c) (.inr (3, o, S.s))))
    ∗ Pos c (.inl (0, S.s)) ∗ (Pos c (.inl (1, S.s)) ∗ Cr c (.inl (1, S.s)) 2) ∗ Pos c (.inl (2, S.s)) ∗ (Pos c (.inl (3, S.s)) ∗ Cr c (.inl (3, S.s)) 8)
    ∗ (bigSepL js fun o => Pos c (.inr (0, o, S.s))) ∗ bigSepL js (In1 c S) ∗ (bigSepL js fun o => Pos c (.inr (2, o, S.s))) ∗ bigSepL js (In2 c S))
/-- All of it. -/
abbrev Cells (S : Strip) : sProp 𝕄 := iprop((Tok c (.inl (0, S.s)) ∗ Tok (xp c) (.inl (1, S.s))) ∗ Rest c S)
/-- What is left at the end. -/
abbrev Ends (S : Strip) : sProp 𝕄 :=
  iprop(Done c (.inl (0, S.s)) ∗ Done c (.inl (1, S.s)) ∗ Done c (.inl (2, S.s)) ∗ Done c (.inl (3, S.s))
    ∗ (bigSepL js fun o => Done c (.inr (0, o, S.s))) ∗ (bigSepL js fun o => Done c (.inr (1, mir o, S.s)))
    ∗ (bigSepL js fun o => Done c (.inr (2, o, S.s))) ∗ bigSepL js fun o => Done c (.inr (3, mir o, S.s)))

/-! ## The raises and the copies across -/

theorem raise_leads (i : Fin 16) (l : List Py) :
    Leads a b κ c (payB c i :: l) l iprop(dutyTok ER (barC (peerB i c)) 0 (-i) ∗ barPay (peerB i c) (-i)) iprop(emp) (signal c (peerB i)) := by
  intro R Q
  iintro ⟨⟨Ht, Hp⟩, Hst⟩ Hk
  iapply (wp_signalTo a b κ c (peerB i c) (peerB i) rfl (-i) l) $$ [Ht Hp Hst]
  · isplitl [Ht]; · iexact Ht
    isplitl [Hp]; · iexact Hp
    iexact Hst
  iintro Hst
  iapply Hk
  isplitr; · iempintro
  iexact Hst

omit [FloatOps F] c in
theorem raises_eq (d : Dev nD) (R : Pg F) : each (signal d) barDevs R = each (fun i => signal d (peerB i)) ks R := by
  rw [barDevs_eq, show (List.finRange 16) = ks by decide]
  unfold each
  rw [List.foldr_map]

theorem sendX_leads (S : Strip) (ok : S.Ok) (l : List Py) :
    Leads a b κ c (payX c S.s :: l) l iprop((pX a b c S.s ∗ regE cc0_scratch1 (xp c) ![0, 256 * S.s.val] S512x256.size) ∗ Cells c S)
      iprop(Cr c (.inl (0, S.s)) 0 ∗ Rest c S) (sendX c S) := by
  intro R Q
  iintro ⟨⟨⟨Hp, Hd⟩, ⟨⟨Ht, Ht'⟩, HR⟩⟩, Hst⟩ Hk
  iapply (wp_sendX a b κ c S l ok) $$ [Hp Hd Ht Ht' Hst]
  · isplitl [Hp]; · iexact Hp
    isplitl [Hd]; · iexact Hd
    isplitl [Ht]; · iexact Ht
    isplitl [Ht']; · iexact Ht'
    iexact Hst
  iintro ⟨Hc, Hst⟩
  iapply Hk
  isplitr [Hst]
  · isplitl [Hc]; · iexact Hc
    iexact HR
  iexact Hst

/-! ## Before and after the exchange, strip by strip -/

/-- What a strip brings to the exchange. -/
abbrev Bring (S : Strip) : sProp 𝕄 :=
  iprop((((((((((Cr c (.inl (0, S.s)) 0 ∗ Rest c S) ∗ pM a b c S.s) ∗ regE cc0_scratch2 c ![0, 256 * S.s.val] S512x256.size)
    ∗ (bigSepL js fun o => regE cc0_scratch3 (nxt (stp o) c) ![row (gOf c), 256 * S.s.val] S32x256.size))
    ∗ regE cc0_scratch4 c ![0, 256 * S.s.val] S32x256.size) ∗ regE cc0_scratch5 c ![0, 256 * S.s.val] S32x256.size)
    ∗ (bigSepL js fun o => regE cc0_scratch6 (nxt (stp o) c) ![row (gOf c), 256 * S.s.val] S32x256.size))
    ∗ regE cc0_scratch6 c ![row (gOf c), 256 * S.s.val] S32x256.size) ∗ regE cc0_stg2_0 (xp c) ![my c, 256 * S.s.val] S512x256.size)
    ∗ regE cc0_stg2_0 c ![my c, 256 * S.s.val] S512x256.size)
/-- What a strip keeps during the exchange. -/
abbrev Keep (S : Strip) : sProp 𝕄 :=
  iprop(DX c S ∗ Pos c (.inl (2, S.s)) ∗ RA c S ∗ (bigSepL js fun o => Pos c (.inr (0, o, S.s))) ∗ bigSepL js fun o => Pos c (.inr (2, o, S.s)))

theorem bring_pre (S : Strip) : Bring a b c S ⊢ iprop(Pre1 a b c S ∗ Pre2 c S ∗ Pre3 c S ∗ Keep c S) := by
  iintro ⟨⟨⟨⟨⟨⟨⟨⟨⟨⟨Hcx, ⟨Hta, Hta'⟩, Ht1, Ht2, Hpx, ⟨Hpr, Hcr⟩, Hpa, Hra, Hp1, Hi1, Hp2, Hi2⟩, HM⟩, Hhb⟩, Hyz⟩, Hacc⟩, Hred⟩, Hhf⟩, Hho⟩, Hox⟩, Hom⟩
  isplitl [Hpr Hcr HM Hhb Hyz Ht1]
  · isplitl [Hpr]; · iexact Hpr
    isplitl [Hcr]; · iexact Hcr
    isplitl [HM]; · iexact HM
    isplitl [Hhb]; · iexact Hhb
    iapply (bigSepL_zip js (fun o => regE cc0_scratch3 (nxt (stp o) c) ![row (gOf c), 256 * S.s.val] S32x256.size)
      (fun o => iprop(Tok c (.inr (0, o, S.s)) ∗ Tok (nxt (stp o) c) (.inr (1, o, S.s)))))
    isplitl [Hyz]; · iexact Hyz
    iexact Ht1
  isplitl [Hacc Hi1 Hred Hhf Ht2 Hho]
  · isplitl [Hacc]; · iexact Hacc
    isplitl [Hi1]; · iexact Hi1
    isplitl [Hred]; · iexact Hred
    isplitl [Hhf Ht2]
    · iapply (bigSepL_zip js (fun o => regE cc0_scratch6 (nxt (stp o) c) ![row (gOf c), 256 * S.s.val] S32x256.size)
        (fun o => iprop(Tok c (.inr (2, o, S.s)) ∗ Tok (nxt (stp o) c) (.inr (3, o, S.s)))))
      isplitl [Hhf]; · iexact Hhf
      iexact Ht2
    iexact Hho
  isplitl [Hi2 Hox Hta Hta' Hom]
  · isplitl [Hi2]; · iexact Hi2
    isplitl [Hox]; · iexact Hox
    isplitl [Hta]; · iexact Hta
    isplitl [Hta']; · iexact Hta'
    iexact Hom
  isplitl [Hpx Hcx]
  · isplitl [Hpx]; · iexact Hpx
    iexact Hcx
  isplitl [Hpa]; · iexact Hpa
  isplitl [Hra]; · iexact Hra
  isplitl [Hp1]; · iexact Hp1
  iexact Hp2

/-- What a strip keeps during the waits at the end. -/
abbrev Kept (S : Strip) : sProp 𝕄 :=
  iprop(Done c (.inl (1, S.s)) ∗ pM a b c S.s ∗ xrP a b c S.s ∗ hbP a b c 0 S.s ∗ accP a b c 15 S.s ∗ bigSepL js (Got1 a b c S)
    ∗ redP a b c (shareDrop fullShare 15) S.s ∗ (bigSepL js fun o => Done c (.inr (3, mir o, S.s))) ∗ halfQ a b c fullShare.right S.s ∗ outP a b c (my c) S.s)

theorem post_tail (S : Strip) : iprop(((Left1 a b c S ∗ Post2 a b c S) ∗ Post3 a b c S) ∗ Keep c S)
    ⊢ iprop(RA c S ∗ DX c S ∗ D1 c S ∗ D2 c S ∗ DA c S ∗ Kept a b c S) := by
  iintro ⟨⟨⟨⟨Hdx, HM, Hxr, Hc1⟩, ⟨Hhb, Hacc, HG, Hred, Hc2⟩⟩, ⟨Hd2, Hca, Hhf, Hout⟩⟩, ⟨HDX, Hpa, HRA, Hp1, Hp2⟩⟩
  isplitl [HRA]; · iexact HRA
  isplitl [HDX]; · iexact HDX
  isplitl [Hp1 Hc1]
  · iapply (bigSepL_zip js (fun o => Pos c (.inr (0, o, S.s))) (fun o => Cr c (.inr (0, o, S.s)) 0))
    isplitl [Hp1]; · iexact Hp1
    iexact Hc1
  isplitl [Hp2 Hc2]
  · iapply (bigSepL_zip js (fun o => Pos c (.inr (2, o, S.s))) (fun o => Cr c (.inr (2, o, S.s)) 0))
    isplitl [Hp2]; · iexact Hp2
    iexact Hc2
  isplitl [Hpa Hca]
  · isplitl [Hpa]; · iexact Hpa
    iexact Hca
  isplitl [Hdx]; · iexact Hdx
  isplitl [HM]; · iexact HM
  isplitl [Hxr]; · iexact Hxr
  isplitl [Hhb]; · iexact Hhb
  isplitl [Hacc]; · iexact Hacc
  isplitl [HG]; · iexact HG
  isplitl [Hred]; · iexact Hred
  isplitl [Hd2]; · iexact Hd2
  isplitl [Hhf]; · iexact Hhf
  iexact Hout

/-- The buffers of a strip at the end. -/
abbrev Bufs (S : Strip) : sProp 𝕄 :=
  iprop(regE cc0_scratch0 c ![oth c, 256 * S.s.val] S512x256.size ∗ regE cc0_scratch0 c ![my c, 256 * S.s.val] S512x256.size
    ∗ regE cc0_scratch1 c ![0, 256 * S.s.val] S512x256.size ∗ regE cc0_scratch2 c ![0, 256 * S.s.val] S512x256.size
    ∗ (bigSepL js fun o => regE cc0_scratch3 c ![row (gOf c + stp o), 256 * S.s.val] S32x256.size)
    ∗ regE cc0_scratch4 c ![0, 256 * S.s.val] S32x256.size ∗ regE cc0_scratch5 c ![0, 256 * S.s.val] S32x256.size
    ∗ regE cc0_scratch6 c ![0, 256 * S.s.val] S512x256.size ∗ outP a b c (oth c) S.s ∗ outP a b c (my c) S.s)

theorem tail_ends (S : Strip) : iprop(((((RA' a b c S ∗ DX' a b c S) ∗ D1' a b c S) ∗ D2' a b c S) ∗ DA' a b c S) ∗ Kept a b c S)
    ⊢ iprop(Ends c S ∗ Bufs a b c S) := by
  iintro ⟨⟨⟨⟨⟨⟨HdA, HoA⟩, ⟨HdX, HX⟩⟩, H1⟩, H2⟩, ⟨HdS, HhS⟩⟩, ⟨Hdx, HM, Hxr, Hhb, Hacc, HG, Hred, Hd2, Hhf, Hout⟩⟩
  ihave H1 := (bigSepL_unzip js _ _) $$ H1
  icases H1 with ⟨H1, Hhb'⟩
  ihave H2 := (bigSepL_unzip js _ _) $$ H2
  icases H2 with ⟨H2, Hred'⟩
  ihave HG := (bigSepL_unzip js _ _) $$ HG
  icases HG with ⟨HG, Hyz⟩
  isplitl [HdX Hdx HdS HdA H1 HG H2 Hd2]
  · isplitl [HdX]; · iexact HdX
    isplitl [Hdx]; · iexact Hdx
    isplitl [HdS]; · iexact HdS
    isplitl [HdA]; · iexact HdA
    isplitl [H1]; · iexact H1
    isplitl [HG]; · iexact HG
    isplitl [H2]; · iexact H2
    iexact Hd2
  isplitl [HX]; · iapply (regE_intro cc0_scratch0 c _ _ _); iexact HX
  isplitl [HM]; · iapply (regE_intro cc0_scratch0 c _ _ _); iexact HM
  isplitl [Hxr]; · iapply (regE_intro cc0_scratch1 c _ _ _); iexact Hxr
  isplitl [Hhb Hhb']
  · iapply (regE_intro cc0_scratch2 c _ _ (to2 (n := 512) (k := 1024) (hbF a b c)))
    rw [hb_rows]
    isplitl [Hhb]; · iexact Hhb
    iexact Hhb'
  isplitl [Hyz]; · iapply (bigSepL_mono fun o _ => regE_intro cc0_scratch3 c ![row (gOf c + stp o), 256 * S.s.val] S32x256.size (to2 (n := 512) (k := 1024) (yzF a b c))); iexact Hyz
  isplitl [Hacc]; · iapply (regE_intro cc0_scratch4 c _ _ _); iexact Hacc
  isplitl [Hred Hred']
  · iapply (regE_intro cc0_scratch5 c _ _ (to2 (n := 32) (k := 1024) (redF a b c)))
    iapply (red_shares a b c S).2
    isplitl [Hred]; · iexact Hred
    iexact Hred'
  isplitl [HhS Hhf]
  · iapply (regE_intro cc0_scratch6 c _ _ (to2 (n := 512) (k := 1024) (halfF a b c)))
    iapply (show iprop(halfQ a b c fullShare.left S.s ∗ halfQ a b c fullShare.right S.s) ⊢ halfQ a b c fullShare S.s from (pointsTo_share (PosShare.mem_left_op_right fullShare)).2)
    isplitl [HhS]; · iexact HhS
    iexact Hhf
  isplitl [HoA]; · iexact HoA
  iexact Hout

/-! ## Before and after the body -/

/-- What the body of device `c` starts from. -/
def Start : sProp 𝕄 :=
  iprop((bigSepL ks fun i => dutyTok ER (barC (peerB i c)) 0 (-i)) ∗ atPos ER (barC c) 0 ∅ 0 ∗ cred (tallyAt (barC c) 1 16)
    ∗ bigSepL strips (Cells c)
    ∗ regE cc0_scratch0 c ![0, 0] S1024x1024.size ∗ regE cc0_scratch1 c ![0, 0] S512x1024.size ∗ regE cc0_scratch2 c ![0, 0] S512x1024.size
    ∗ regE cc0_scratch3 c ![0, 0] S512x1024.size ∗ regE cc0_scratch4 c ![0, 0] S32x1024.size ∗ regE cc0_scratch5 c ![0, 0] S32x1024.size
    ∗ regE cc0_scratch6 c ![0, 0] S512x1024.size ∗ regE cc0_stg2_0 c ![0, 0] S1024x1024.size
    ∗ reg cc0_stg0_0 c fullShare ![0, 0] S1024x512.size (a c) ∗ reg cc0_stg1_0 c fullShare ![0, 0] S512x1024.size (b c))

/-- What it ends with. -/
def Finish : sProp 𝕄 :=
  iprop(atPos ER (barC c) 1 ∅ 0 ∗ bigSepL strips (Ends c)
    ∗ regE cc0_scratch0 c ![0, 0] S1024x1024.size ∗ regE cc0_scratch1 c ![0, 0] S512x1024.size ∗ regE cc0_scratch2 c ![0, 0] S512x1024.size
    ∗ regE cc0_scratch3 c ![0, 0] S512x1024.size ∗ regE cc0_scratch4 c ![0, 0] S32x1024.size ∗ regE cc0_scratch5 c ![0, 0] S32x1024.size
    ∗ regE cc0_scratch6 c ![0, 0] S512x1024.size ∗ reg cc0_stg2_0 c fullShare ![0, 0] S1024x1024.size (to2 (n := 1024) (k := 1024) (outF a b c))
    ∗ reg cc0_stg0_0 c fullShare ![0, 0] S1024x512.size (a c) ∗ reg cc0_stg1_0 c fullShare ![0, 0] S512x1024.size (b c))

/-- The buffers whole again. -/
theorem bufs_join :
    iprop(bigSepL strips (Bufs a b c) ∗ bigSepL strips fun S => regE cc0_scratch3 c ![row (gOf c), 256 * S.s.val] S32x256.size)
      ⊢ iprop(regE cc0_scratch0 c ![0, 0] S1024x1024.size ∗ regE cc0_scratch1 c ![0, 0] S512x1024.size ∗ regE cc0_scratch2 c ![0, 0] S512x1024.size
        ∗ regE cc0_scratch3 c ![0, 0] S512x1024.size ∗ regE cc0_scratch4 c ![0, 0] S32x1024.size ∗ regE cc0_scratch5 c ![0, 0] S32x1024.size
        ∗ regE cc0_scratch6 c ![0, 0] S512x1024.size
        ∗ reg cc0_stg2_0 c fullShare ![0, 0] S1024x1024.size (to2 (n := 1024) (k := 1024) (outF a b c))) := by
  iintro ⟨H, Hy0⟩
  ihave H := (bigSepL_unzip strips _ _) $$ H
  icases H with ⟨H0o, H⟩
  ihave H := (bigSepL_unzip strips _ _) $$ H
  icases H with ⟨H0m, H⟩
  ihave H := (bigSepL_unzip strips _ _) $$ H
  icases H with ⟨H1, H⟩
  ihave H := (bigSepL_unzip strips _ _) $$ H
  icases H with ⟨H2, H⟩
  ihave H := (bigSepL_unzip strips _ _) $$ H
  icases H with ⟨H3, H⟩
  ihave H := (bigSepL_unzip strips _ _) $$ H
  icases H with ⟨H4, H⟩
  ihave H := (bigSepL_unzip strips _ _) $$ H
  icases H with ⟨H5, H⟩
  ihave H := (bigSepL_unzip strips _ _) $$ H
  icases H with ⟨H6, H⟩
  ihave H := (bigSepL_unzip strips _ _) $$ H
  icases H with ⟨Hoo, Hom⟩
  isplitl [H0o H0m]
  · iapply (part_join c)
    isplitl [H0o]; · iapply (part_sjoin c (oth c)); iexact H0o
    iapply (part_sjoin c (my c)); iexact H0m
  isplitl [H1]; · iapply (xr_sjoin c); iexact H1
  isplitl [H2]; · iapply (hb_sjoin c); iexact H2
  isplitl [H3 Hy0]
  · ihave H := (bigSepL_zip strips _ _) $$ [Hy0 H3]
    · isplitl [Hy0]; · iexact Hy0
      iexact H3
    ihave H := (bigSepL_mono (fun S _ => yz_rjoin c S.s)) $$ H
    iapply (yz_sjoin c); iexact H
  isplitl [H4]; · iapply (acc_sjoin c); iexact H4
  isplitl [H5]; · iapply (red_sjoin c); iexact H5
  isplitl [H6]; · iapply (half_sjoin c); iexact H6
  iapply (out_join c _)
  rw [outv_strips c (oth c), outv_strips c (my c)]
  isplitl [Hoo]; · iexact Hoo
  iexact Hom

/-! ## The body -/

/-- Rows of the first factor are among its rows. -/
theorem sub_whole (N M : ℕ) {off size : Fin 2 → ℕ} : rct (s := ⟨2, ![N, M]⟩) off size ⊆ rct ![0, 0] ![N, M] := by
  rw [rct_whole]; exact Finset.subset_univ _

/-- The product of one half, stored: the program is named by its parts so that either half can be put in. -/
theorem product_at (h : Fin 2) {offA : Fin 2 → ℕ} (hA : offA = ![512 * h.val, 0]) {offP : Fin 2 → ℕ} (hP : offP = ![512 * h.val, 0])
    {iA : ∀ i, offA i + S512x512.size i ≤ S1024x512.size i} {iP : ∀ i, offP i + S512x1024.size i ≤ S1024x1024.size i}
    {lA : (mA : Memref sig .tc .vmem _ _).view.LoadsAt (Rect.unit (s := S1024x512) offA S512x512.size iA).toLoadRect}
    {lP : (mPart : Memref sig .tc .vmem _ _).view.LoadsAt (Rect.unit (s := S1024x1024) offP S512x1024.size iP).toLoadRect}
    {sP : (mPart.access (Rect.unit (s := S1024x1024) offP S512x1024.size iP)).Stores Finset.univ}
    {mP : (Finset.univ : Finset (Rect.unit (s := S1024x1024) offP S512x1024.size iP).shape.Idx) = Finset.univ ∨ ∀ i, (Rect.unit (s := S1024x1024) offP S512x1024.size iP).stride i = 1}
    (h₃ : ∀ i, (![0, 0] : Fin 2 → ℕ) i + S512x1024.size i ≤ S512x1024.size i) {P : Pg F} {Q : PUnit → sProp 𝕄} :
    iprop(reg cc0_stg0_0 c fullShare ![0, 0] S1024x512.size (a c) ∗ regE cc0_scratch0 c ![512 * h.val, 0] S512x1024.size)
      ⊢ iprop((iprop(reg cc0_stg0_0 c fullShare ![0, 0] S1024x512.size (a c)
            ∗ reg cc0_scratch0 c fullShare ![512 * h.val, 0] S512x1024.size (to2 (n := 1024) (k := 1024) (partF a b c))) -∗ WP c P Q)
          -∗ WP c (.op (.load mA (Rect.unit (s := S1024x512) offA S512x512.size iA).toLoadRect lA) fun x =>
            .op (.load mPart (Rect.unit (s := S1024x1024) offP S512x1024.size iP).toLoadRect lP) fun _ =>
            .op (.store mPart (Rect.unit (s := S1024x1024) offP S512x1024.size iP) (k0_pay2 (rd (F := F) cc0_stg1_0 ![0, 0] S512x1024.size h₃ (b c)) x)
              Finset.univ sP mP) fun _ => P) Q) := by
  subst hA hP
  iintro ⟨HA, HP⟩ Hk
  iapply (wp_ld' c 0 rfl (off' := ![0, 0]) (size' := S1024x512.size) (sub_whole 1024 512)) $$ HA
  iintro HA
  iapply (wp_ldE c 3 rfl rfl) $$ HP
  iintro HP
  iapply (wp_stV c 3 rfl rfl (to2 (n := 1024) (k := 1024) (partF a b c)) (eq_prod a b c h iP iA h₃)) $$ HP
  iintro HP
  iapply Hk
  isplitl [HA]; · iexact HA
  iexact HP

/-- The body, from what it starts with to what it ends with. -/
theorem body_wp (Q : PUnit → sProp 𝕄) :
    iprop(Start a b c ∗ St a b κ c (dues c)) ⊢ iprop((iprop(Finish a b c ∗ St a b κ c []) -∗ Q ⟨⟩) -∗ WP c (bodyOn c) Q) := by
  unfold Start bodyOn dues
  rw [raises_eq]
  iintro ⟨⟨Htb, Hatb, Hcb, Hcells, H0, H1, H2, H3, H4, H5, H6, Hout, HA, HB⟩, Hst⟩ Hk
  ihave Hown := (own_split c) $$ [H1 H3 H6 Hout]
  · isplitl [H1]; · iexact H1
    isplitl [H3]; · iexact H3
    isplitl [H6]; · iexact H6
    iexact Hout
  icases Hown with ⟨Hbar, Hy0, Hh0, Hom⟩
  -- the raises
  iapply (leads_pay a b κ c (fun i => signal c (peerB i)) (fun i => iprop(dutyTok ER (barC (peerB i c)) 0 (-i) ∗ barPay (peerB i c) (-i)))
    (fun _ => iprop(emp)) (payB c) ks (fun i _ => raise_leads a b κ c i) (sl.map (payX c) ++ duesE c) _ Q) $$ [Htb Hbar Hst]
  · isplitl [Htb Hbar]
    · iapply (bigSepL_zip ks (fun i => dutyTok ER (barC (peerB i c)) 0 (-i)) (fun i => barPay (peerB i c) (-i)))
      isplitl [Htb]; · iexact Htb
      iexact Hbar
    iexact Hst
  iintro ⟨-, Hst⟩
  -- the partner's half of the product
  unfold products
  ihave H0 := (part_halves c) $$ H0
  icases H0 with ⟨H0o, H0m⟩
  iapply (wp_ld c 1 rfl) $$ HB
  iintro HB
  iapply (product_at a b c (1 - xOf c) (off1_eq c) (off2_eq c) inb_S512x1024_S512x1024_0_0) $$ [HA H0o]
  · isplitl [HA]; · iexact HA
    iexact H0o
  iintro ⟨HA, H0o⟩
  iapply (wp_barrier a b κ c _ (uX c)) $$ [Hatb Hcb Hst]
  · isplitl [Hatb]; · iexact Hatb
    isplitl [Hcb]; · iexact Hcb
    iexact Hst
  iintro ⟨Hatb, Hgot, Hst⟩
  ihave Hgot := (got_split c) $$ Hgot
  icases Hgot with ⟨Hgx, Hgo, Hgy, Hgh⟩
  -- the copies across
  ihave H0o := (Entails.of_eq (partv_strips c (512 * (1 - xOf c : Fin 2).val) (to2 (n := 1024) (k := 1024) (partF a b c)))) $$ H0o
  ihave H := (bigSepL_zip strips (fun S => pX a b c S.s) (fun S => regE cc0_scratch1 (xp c) ![0, 256 * S.s.val] S512x256.size)) $$ [H0o Hgx]
  · isplitl [H0o]; · iexact H0o
    iexact Hgx
  ihave H := (bigSepL_zip strips (fun S => iprop(pX a b c S.s ∗ regE cc0_scratch1 (xp c) ![0, 256 * S.s.val] S512x256.size)) (Cells c)) $$ [H Hcells]
  · isplitl [H]; · iexact H
    iexact Hcells
  iapply (leads_pay a b κ c (sendX c) (fun S => iprop((pX a b c S.s ∗ regE cc0_scratch1 (xp c) ![0, 256 * S.s.val] S512x256.size) ∗ Cells c S))
    (fun S => iprop(Cr c (.inl (0, S.s)) 0 ∗ Rest c S)) (fun S => payX c S.s) strips (fun S hS l => sendX_leads a b κ c S (strip_ok S hS) l) (duesE c) _ Q) $$ [H Hst]
  · isplitl [H]; · iexact H
    iexact Hst
  iintro ⟨H, Hst⟩
  -- this device's half of the product
  iapply (product_at a b c (xOf c) (off7_eq c) (off8_eq c) inb_S512x1024_S512x1024_0_0) $$ [HA H0m]
  · isplitl [HA]; · iexact HA
    iexact H0m
  iintro ⟨HA, H0m⟩
  -- the exchange
  ihave H0m := (Entails.of_eq (partv_strips c (512 * (xOf c : Fin 2).val) (to2 (n := 1024) (k := 1024) (partF a b c)))) $$ H0m
  ihave H2 := (hb_strips c) $$ H2
  ihave H4 := (acc_strips c) $$ H4
  ihave H5 := (red_strips c) $$ H5
  ihave H := (bigSepL_zip strips _ (fun S => pM a b c S.s)) $$ [H H0m]
  · isplitl [H]; · iexact H
    iexact H0m
  ihave H := (bigSepL_zip strips _ (fun S => regE cc0_scratch2 c ![0, 256 * S.s.val] S512x256.size)) $$ [H H2]
  · isplitl [H]; · iexact H
    iexact H2
  ihave H := (bigSepL_zip strips _ (fun S => bigSepL js fun o => regE cc0_scratch3 (nxt (stp o) c) ![row (gOf c), 256 * S.s.val] S32x256.size)) $$ [H Hgy]
  · isplitl [H]; · iexact H
    iexact Hgy
  ihave H := (bigSepL_zip strips _ (fun S => regE cc0_scratch4 c ![0, 256 * S.s.val] S32x256.size)) $$ [H H4]
  · isplitl [H]; · iexact H
    iexact H4
  ihave H := (bigSepL_zip strips _ (fun S => regE cc0_scratch5 c ![0, 256 * S.s.val] S32x256.size)) $$ [H H5]
  · isplitl [H]; · iexact H
    iexact H5
  ihave H := (bigSepL_zip strips _ (fun S => bigSepL js fun o => regE cc0_scratch6 (nxt (stp o) c) ![row (gOf c), 256 * S.s.val] S32x256.size)) $$ [H Hgh]
  · isplitl [H]; · iexact H
    iexact Hgh
  ihave H := (bigSepL_zip strips _ (fun S => regE cc0_scratch6 c ![row (gOf c), 256 * S.s.val] S32x256.size)) $$ [H Hh0]
  · isplitl [H]; · iexact H
    iexact Hh0
  ihave H := (bigSepL_zip strips _ (fun S => regE cc0_stg2_0 (xp c) ![my c, 256 * S.s.val] S512x256.size)) $$ [H Hgo]
  · isplitl [H]; · iexact H
    iexact Hgo
  ihave H := (bigSepL_zip strips _ (fun S => regE cc0_stg2_0 c ![my c, 256 * S.s.val] S512x256.size)) $$ [H Hom]
  · isplitl [H]; · iexact H
    iexact Hom
  ihave H := (bigSepL_mono (fun S _ => bring_pre a b c S)) $$ H
  ihave H := (bigSepL_unzip strips _ _) $$ H
  icases H with ⟨HP1, H⟩
  ihave H := (bigSepL_unzip strips _ _) $$ H
  icases H with ⟨HP2, H⟩
  ihave H := (bigSepL_unzip strips _ _) $$ H
  icases H with ⟨HP3, HK⟩
  rw [exchange_eq]
  iapply (stages_leads a b κ c _ Q) $$ [HP1 HP2 HP3 Hst]
  · isplitr [Hst]
    · isplitl [HP1]; · iexact HP1
      isplitl [HP2]; · iexact HP2
      iexact HP3
    iexact Hst
  iintro ⟨⟨HP1, HP2, HP3⟩, Hst⟩
  -- the waits at the end
  ihave H := (bigSepL_zip strips (Left1 a b c) (Post2 a b c)) $$ [HP1 HP2]
  · isplitl [HP1]; · iexact HP1
    iexact HP2
  ihave H := (bigSepL_zip strips _ (Post3 a b c)) $$ [H HP3]
  · isplitl [H]; · iexact H
    iexact HP3
  ihave H := (bigSepL_zip strips _ (Keep c)) $$ [H HK]
  · isplitl [H]; · iexact H
    iexact HK
  ihave H := (bigSepL_mono (fun S _ => post_tail a b c S)) $$ H
  ihave H := (bigSepL_unzip strips _ _) $$ H
  icases H with ⟨HRA, H⟩
  ihave H := (bigSepL_unzip strips _ _) $$ H
  icases H with ⟨HDX, H⟩
  ihave H := (bigSepL_unzip strips _ _) $$ H
  icases H with ⟨HD1, H⟩
  ihave H := (bigSepL_unzip strips _ _) $$ H
  icases H with ⟨HD2, H⟩
  ihave H := (bigSepL_unzip strips _ _) $$ H
  icases H with ⟨HDA, HKt⟩
  iapply (tail_leads a b κ c Q) $$ [HRA HDX HD1 HD2 HDA Hst]
  · isplitr [Hst]
    · isplitl [HRA]; · iexact HRA
      isplitl [HDX]; · iexact HDX
      isplitl [HD1]; · iexact HD1
      isplitl [HD2]; · iexact HD2
      iexact HDA
    iexact Hst
  iintro ⟨⟨HRA, HDX, HD1, HD2, HDA⟩, Hst⟩
  -- the buffers whole again
  ihave H := (bigSepL_zip strips (RA' a b c) (DX' a b c)) $$ [HRA HDX]
  · isplitl [HRA]; · iexact HRA
    iexact HDX
  ihave H := (bigSepL_zip strips _ (D1' a b c)) $$ [H HD1]
  · isplitl [H]; · iexact H
    iexact HD1
  ihave H := (bigSepL_zip strips _ (D2' a b c)) $$ [H HD2]
  · isplitl [H]; · iexact H
    iexact HD2
  ihave H := (bigSepL_zip strips _ (DA' a b c)) $$ [H HDA]
  · isplitl [H]; · iexact H
    iexact HDA
  ihave H := (bigSepL_zip strips _ (Kept a b c)) $$ [H HKt]
  · isplitl [H]; · iexact H
    iexact HKt
  ihave H := (bigSepL_mono (fun S _ => tail_ends a b c S)) $$ H
  ihave H := (bigSepL_unzip strips _ _) $$ H
  icases H with ⟨HE, HBf⟩
  ihave HBf := (bufs_join a b c) $$ [HBf Hy0]
  · isplitl [HBf]; · iexact HBf
    iexact Hy0
  icases HBf with ⟨H0, H1, H2, H3, H4, H5, H6, Hout⟩
  iapply Hk
  isplitr [Hst]
  · unfold Finish
    isplitl [Hatb]; · iexact Hatb
    isplitl [HE]; · iexact HE
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Hout]; · iexact Hout
    isplitl [HA]; · iexact HA
    iexact HB
  iexact Hst

end Cert.KernelIdeal.AllReduce

end
-- ==== Proof.KernelIdeal.Ghost.lean ====
/-
  The exchange's ghost state as the launch deals it.

  Each device has one barrier semaphore and two hundred and fifty-six copy semaphores. The launch makes a rounds cell of each,
  and a token for every payment that will be made to it. A token starts with the device that owns the cell; it is then passed
  to the device that will make the payment. Both are sums over all devices, so passing is re-indexing: a sum over devices is
  the same sum taken through a permutation of the devices.
-/
module

public import proofs.«01_k».proof.Proof.KernelIdeal.Body

@[expose] public section

set_option maxRecDepth 16384

noncomputable section

namespace Cert.KernelIdeal.AllReduce

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

/-! ## The permutations of the devices -/

/-- Across. -/
def xpE : Dev nD ≃ Dev nD := ⟨xp, xp, xp_xp, xp_xp⟩
/-- Along the plane by `k`. -/
def nxtE (k : Fin 16) : Dev nD ≃ Dev nD := ⟨nxt k, nxt (-k), neg_nxt k, nxt_neg k⟩
/-- To the partner at distance `i`. -/
def peerE (i : Fin 16) : Dev nD ≃ Dev nD := if i = 0 then xpE else nxtE i
theorem peerE_apply (i : Fin 16) (d : Dev nD) : peerE i d = peerB i d := by
  unfold peerE peerB; split <;> rfl

/-- To the device that pays cell `k`. -/
def payer : K → Dev nD ≃ Dev nD
  | .inl (k, _) => if k = 1 ∨ k = 3 then xpE else Equiv.refl _
  | .inr (k, o, _) => if k = 1 ∨ k = 3 then nxtE (stp o) else Equiv.refl _

/-- Backwards instead of forwards. -/
def negE : Fin 16 ≃ Fin 16 := ⟨fun i => -i, fun i => -i, by decide, by decide⟩
def mirE : Fin 15 ≃ Fin 15 := ⟨mir, mir, mir_mir, mir_mir⟩

/-! ## The copy cells, strip by strip -/

/-- Strip `s`'s cells; what is received in the plane is listed in the order `f`. -/
def blk (f : Fin 15 → Fin 15) (s : Fin 4) : List K :=
  .inl (0, s) :: .inl (1, s) :: .inl (2, s) :: .inl (3, s) :: (js.map (fun o => (.inr (0, o, s) : K)) ++ (js.map (fun o => (.inr (1, f o, s) : K))
    ++ (js.map (fun o => (.inr (2, o, s) : K)) ++ js.map (fun o => (.inr (3, f o, s) : K)))))
def blks (f : Fin 15 → Fin 15) : List K := blk f 0 ++ (blk f 1 ++ (blk f 2 ++ blk f 3))

theorem mem_blks {f : Fin 15 → Fin 15} (hf : Function.Surjective f) (k : K) : k ∈ blks f := by
  have hj (o : Fin 15) : o ∈ js := List.mem_toFinset.mp (js_univ ▸ Finset.mem_univ o)
  have hb (s : Fin 4) (h : k ∈ blk f s) : k ∈ blks f := by
    fin_cases s <;> simp only [blks, List.mem_append] <;> tauto
  rcases k with ⟨k, s⟩ | ⟨k, o, s⟩
  · refine hb s ?_
    fin_cases k <;> simp [blk]
  · refine hb s ?_
    obtain ⟨o', ho⟩ := hf o
    fin_cases k <;> simp only [blk, List.mem_cons, List.mem_append, List.mem_map]
    · exact Or.inr (Or.inr (Or.inr (Or.inr (Or.inl ⟨o, hj o, rfl⟩))))
    · exact Or.inr (Or.inr (Or.inr (Or.inr (Or.inr (Or.inl ⟨o', hj o', by rw [ho]; rfl⟩)))))
    · exact Or.inr (Or.inr (Or.inr (Or.inr (Or.inr (Or.inr (Or.inl ⟨o, hj o, rfl⟩))))))
    · exact Or.inr (Or.inr (Or.inr (Or.inr (Or.inr (Or.inr (Or.inr ⟨o', hj o', by rw [ho]; rfl⟩))))))

theorem blks_univ {f : Fin 15 → Fin 15} (hf : Function.Surjective f) : (Finset.univ : Finset K) = (blks f).toFinset :=
  (Finset.eq_univ_iff_forall.mpr fun k => List.mem_toFinset.mpr (mem_blks hf k)).symm

theorem blks_nodup {f : Fin 15 → Fin 15} (hf : Function.Surjective f) : (blks f).Nodup := by
  refine Multiset.coe_nodup.mp (Multiset.toFinset_card_eq_card_iff_nodup.mp ?_)
  show (blks f).toFinset.card = (blks f).length
  rw [← blks_univ hf]
  rfl

/-- One strip's part of a sum over the copy cells. -/
def Blk (f : Fin 15 → Fin 15) (Φ : K → sProp 𝕄) (s : Fin 4) : sProp 𝕄 :=
  iprop(Φ (.inl (0, s)) ∗ Φ (.inl (1, s)) ∗ Φ (.inl (2, s)) ∗ Φ (.inl (3, s)) ∗ (bigSepL js fun o => Φ (.inr (0, o, s)))
    ∗ (bigSepL js fun o => Φ (.inr (1, f o, s))) ∗ (bigSepL js fun o => Φ (.inr (2, o, s))) ∗ bigSepL js fun o => Φ (.inr (3, f o, s)))

omit [FloatOps F] in
theorem bigSepL_blk (f : Fin 15 → Fin 15) (Φ : K → sProp 𝕄) (s : Fin 4) : bigSepL (blk f s) Φ = Blk f Φ s := by
  unfold blk Blk
  simp only [bigSepL_cons', bigSepL_append, bigSepL_map]

omit [FloatOps F] in
theorem bigSepL_blks (f : Fin 15 → Fin 15) (Φ : K → sProp 𝕄) : bigSepL (blks f) Φ = bigSepL sl (Blk f Φ) := by
  unfold blks
  simp only [bigSepL_append, bigSepL_blk]
  rfl

omit [FloatOps F] in
theorem cells_id (Φ : K → sProp 𝕄) : bigSep Finset.univ Φ = bigSepL sl (Blk id Φ) :=
  (bigSep_univ_eq_bigSepL (blks id) (blks_univ Function.surjective_id) (blks_nodup Function.surjective_id) Φ).trans (bigSepL_blks id Φ)
omit [FloatOps F] in
theorem cells_mir (Φ : K → sProp 𝕄) : bigSep Finset.univ Φ = bigSepL sl (Blk mir Φ) :=
  (bigSep_univ_eq_bigSepL (blks mir) (blks_univ mirE.surjective) (blks_nodup mirE.surjective) Φ).trans (bigSepL_blks mir Φ)

/-! ## The semaphores -/

/-- A copy cell's semaphore. -/
abbrev osem (k : K) : SemLoc sig := .dma (semK k)

theorem semK_ge (k : K) : 3 ≤ (semK k).val := by
  rcases k with ⟨k, s⟩ | ⟨k, o, s⟩
  · show 3 ≤ (if k.val < 2 then 3 + 4 * k.val else 243 + 4 * k.val) + s.val
    split <;> omega
  · show 3 ≤ 11 + 60 * k.val + 4 * o.val + s.val
    omega

theorem dma_scoped : ∀ s : DmaSem sig, sig.isScopedDmaSem .tc s = true := by decide +kernel

theorem win_lt (w : Fin cfg0.W) (s : Fin (cfg0.spec w).nbuf) : (((cfg0.spec w).sem s : DmaSem sig)).val < 3 := by revert w s; decide +kernel

theorem ownSemFacts : Pipeline.OwnSemFacts cfg0.spec osem where
  isScoped := fun k => dma_scoped (semK k)
  inj := fun _ _ h => semK_inj (SemLoc.dma.inj h)
  disj := fun k w s h => by
    have h1 := semK_ge k
    have h2 := win_lt w s
    rw [← SemLoc.dma.inj h] at h2
    omega

omit [FloatOps F] in
theorem unscopedSems0_eq (c : Dev nD) : (unscopedSems0 c : sProp 𝕄) = semVal (barC c) 0 := by
  unfold unscopedSems0
  rw [bigSep_eq_bigSepL_of_eq [SemLoc.reg barSem] (by decide +kernel) (by decide)]; rfl

theorem cellAt_inj : Function.Injective cellAt := by
  rintro ⟨c, k⟩ ⟨c', k'⟩ h
  cases k with
  | none => cases k' with
    | none => exact congrArg (fun g : GSem nD τ sig => (g.1.1, none)) h
    | some k' => exact absurd (congrArg Prod.snd h) (fun h' => by cases h')
  | some k => cases k' with
    | none => exact absurd (congrArg Prod.snd h) (fun h' => by cases h')
    | some k' =>
      have h1 : c = c' := congrArg (fun g : GSem nD τ sig => g.1.1) h
      have h2 : k = k' := semK_inj (SemLoc.dma.inj (congrArg Prod.snd h))
      rw [h1, h2]

omit [FloatOps F] in
/-- A sum over a device's cells. -/
theorem bigSep_option (Φ : Option K → sProp 𝕄) : bigSep Finset.univ Φ = iprop(Φ none ∗ bigSep Finset.univ fun k => Φ (some k)) := by
  rw [bigSep_univ_equiv (Equiv.optionEquivSumPUnit K).symm Φ, bigSep_univ_sum, show (Finset.univ : Finset PUnit) = {()} from rfl, bigSep_singleton]
  exact BI.equiv_iff.mp ⟨BI.sep_comm, BI.sep_comm⟩

end Cert.KernelIdeal.AllReduce
-- ==== Proof.KernelIdeal.Deal.lean ====
/-
  The exchange's ghost state, dealt.

  From the launch element come the cells' round states, the owners' positions and the tokens; the semaphores at zero become the
  cells' invariants, which every device then knows; each token passes to the device that pays it.
-/
module

public import proofs.«01_k».proof.Proof.KernelIdeal.Ghost

@[expose] public section

set_option maxRecDepth 16384

noncomputable section

namespace Cert.KernelIdeal.AllReduce

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

/-! ## The launch element -/

def ringCells : Finset (GSem nD τ sig) := Finset.univ.map ⟨cellAt, cellAt_inj⟩

/-- The tokens: sixteen of a barrier, one of a copy's cell. -/
def tokOf (p : Dev nD × (Fin 16 ⊕ K)) : GSem nD τ sig × ℕ × Fin 16 :=
  match p.2 with
  | .inl j => (barC p.1, 0, j)
  | .inr k => (kC p.1 k, 0, 0)

theorem tokOf_inj : Function.Injective tokOf := by
  rintro ⟨c, k⟩ ⟨c', k'⟩ h
  cases k with
  | inl j => cases k' with
    | inl j' =>
      have h1 : c = c' := congrArg (fun g : GSem nD τ sig × ℕ × Fin 16 => g.1.1.1) h
      have h2 : j = j' := congrArg (fun g : GSem nD τ sig × ℕ × Fin 16 => g.2.2) h
      rw [h1, h2]
    | inr k' => exact absurd (congrArg (fun g : GSem nD τ sig × ℕ × Fin 16 => g.1.2) h) (fun h' => by cases h')
  | inr k => cases k' with
    | inl j' => exact absurd (congrArg (fun g : GSem nD τ sig × ℕ × Fin 16 => g.1.2) h) (fun h' => by cases h')
    | inr k' =>
      have h1 : c = c' := congrArg (fun g : GSem nD τ sig × ℕ × Fin 16 => g.1.1.1) h
      have h2 : k = k' := semK_inj (SemLoc.dma.inj (congrArg (fun g : GSem nD τ sig × ℕ × Fin 16 => g.1.2) h))
      rw [h1, h2]

def ringToks : Finset (GSem nD τ sig × ℕ × Fin 16) := Finset.univ.map ⟨tokOf, tokOf_inj⟩

def u₀ : UU := (initOf (Pipeline.cells cfgs cellOf_inj) (Pipeline.launchToks cfgs cellOf_inj), initOf ringCells ringToks)

/-- The tokens of device `c`'s own cells. -/
def toks (c : Dev nD) : sProp 𝕄 :=
  iprop((bigSep Finset.univ fun j : Fin 16 => dutyTok ER (barC c) 0 j) ∗ bigSep Finset.univ fun k : K => Tok c k)

variable (a : Dev nD → Vec F S1024x512 .bf16) (b : Dev nD → Vec F S512x1024 .bf16)

/-- What the launch element deals device `c`. -/
def G (c : Dev nD) : sProp 𝕄 :=
  iprop((bigSep Finset.univ fun k : Option K => roundState ER (Rd a b) (cellAt (c, k)) 0)
    ∗ (bigSep Finset.univ fun k : Option K => iprop(atPos ER (cellAt (c, k)) 0 ∅ 0 ∗ reached ER (cellAt (c, k)) 0)) ∗ toks c)

theorem fund_ring : BI.own (ER (initOf ringCells ringToks)) ⊢ (|==> bigSep Finset.univ (G a b) : sProp 𝕄) := by
  have hX (Φ : GSem nD τ sig → sProp 𝕄) : bigSep ringCells Φ = bigSep Finset.univ fun c : Dev nD => bigSep Finset.univ fun k : Option K => Φ (cellAt (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum]; rfl
  iintro HX
  imod (Rounds.fund ER (Rd a b) ringCells ringToks) $$ HX with ⟨Hst, Hr, Hat, Htok⟩
  imodintro
  ihave Hst' := (Entails.of_eq (hX fun g => roundState ER (Rd a b) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The tokens pass to those who pay -/

/-- The tokens of the payments device `c` makes. -/
def pays (c : Dev nD) : sProp 𝕄 :=
  iprop((bigSep Finset.univ fun i : Fin 16 => dutyTok ER (barC (peerB i c)) 0 (-i)) ∗ bigSep Finset.univ fun k : K => Tok (payer k c) k)

omit [FloatOps F] in
/-- A family of sums over the devices, each through its own permutation. -/
theorem bigSep_through {I : Type} [Fintype I] (e : I → Dev nD ≃ Dev nD) (Φ : Dev nD → I → sProp 𝕄) :
    (bigSep Finset.univ fun d => bigSep Finset.univ fun i => Φ d i) = bigSep Finset.univ fun d => bigSep Finset.univ fun i => Φ (e i d) i := by
  rw [Pipeline.bigSep_univ_comm, Pipeline.bigSep_univ_comm (fun d i => Φ (e i d) i)]
  exact bigSep_congr fun i _ => bigSep_univ_equiv (e i) fun d => Φ d i

omit [FloatOps F] in
theorem toks_around : (bigSep Finset.univ fun c : Dev nD => (toks c : sProp 𝕄)) = bigSep Finset.univ fun c : Dev nD => pays c := by
  unfold toks pays
  rw [bigSep_sep', bigSep_sep', bigSep_through payer fun c k => Tok c k]
  have h : (bigSep Finset.univ fun c : Dev nD => bigSep Finset.univ fun j : Fin 16 => (dutyTok ER (barC c) 0 j : sProp 𝕄))
      = bigSep Finset.univ fun c : Dev nD => bigSep Finset.univ fun i : Fin 16 => dutyTok ER (barC (peerB i c)) 0 (-i) := by
    rw [bigSep_congr fun (c : Dev nD) _ => bigSep_univ_equiv negE fun j : Fin 16 => (dutyTok ER (barC c) 0 j : sProp 𝕄)]
    rw [bigSep_through peerE fun c i => (dutyTok ER (barC c) 0 (negE i) : sProp 𝕄)]
    exact bigSep_congr fun c _ => bigSep_congr fun i _ => by rw [peerE_apply]; rfl
  rw [h]

/-! ## The invariants -/

theorem sems0 (c : Dev nD) :
    iprop(Pipeline.ownSems0 (Ix := ℕ) (Name := ℕ) (U := UU) (Lvl := ℕ) (Val := Elt F) (τ := τ) osem c ∗ unscopedSems0 c)
      ⊢ (bigSep Finset.univ fun k : Option K => semVal (cellAt (c, k)) 0 : sProp 𝕄) := by
  rw [unscopedSems0_eq, bigSep_option]
  show iprop((bigSep Finset.univ fun k : K => semVal (kC c k) 0) ∗ semVal (barC c) 0) ⊢ (iprop(semVal (barC c) 0 ∗ bigSep Finset.univ fun k : K => semVal (kC c k) 0) : sProp 𝕄)
  exact BI.sep_comm

theorem core_alloc (c : Dev nD) :
    iprop(Pipeline.ownSems0 (Ix := ℕ) (Name := ℕ) (U := UU) (Lvl := ℕ) (Val := Elt F) (τ := τ) osem c ∗ unscopedSems0 c ∗ G a b c)
      ⊢ |={Set.univ}=> iprop((bigSep Finset.univ fun k => iprop(∃ κ : ℕ, cellInv ER (Rd a b) κ (cellAt (c, k))))
          ∗ (bigSep Finset.univ fun k => iprop(atPos ER (cellAt (c, k)) 0 ∅ 0 ∗ reached ER (cellAt (c, k)) 0)) ∗ toks c) := by
  unfold G
  iintro ⟨Hos, Hus, Hst, Hat, Htok⟩
  ihave Hv := (sems0 (F := F) c) $$ [Hos Hus]
  · isplitl [Hos] <;> iassumption
  imod (show iprop((bigSep Finset.univ fun k : Option K => semVal (cellAt (c, k)) 0) ∗ bigSep Finset.univ fun k : Option K => roundState ER (Rd a b) (cellAt (c, k)) 0)
      ⊢ (|={Set.univ}=> bigSep Finset.univ fun k => iprop(∃ κ : ℕ, cellInv ER (Rd a b) κ (cellAt (c, k))) : sProp 𝕄) from by
        rw [← bigSep_sep']
        exact (bigSep_mono fun k _ => (Rounds.body_intro ER (Rd a b) (cellAt (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What stays with device `c`: its positions, and the tokens of its payments. -/
def linear (c : Dev nD) : sProp 𝕄 := iprop((bigSep Finset.univ fun k : Option K => atPos ER (cellAt (c, k)) 0 ∅ 0) ∗ pays c)

/-- What the launch makes of a device's share. -/
def G' (c : Dev nD) : sProp 𝕄 := iprop(∃ κ, recs a b κ ∗ linear c)

omit [FloatOps F] in
theorem bigSep_with_persistent {I : Type} [DecidableEq I] (S : Finset I) (R : sProp 𝕄) [BI.Persistent R] (Φ Ψ : I → sProp 𝕄)
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd a b) κ (cellAt (c, k))))
          ∗ (bigSep Finset.univ fun k => iprop(atPos ER (cellAt (c, k)) 0 ∅ 0 ∗ reached ER (cellAt (c, k)) 0)) ∗ toks c))
      ⊢ (bigSep Finset.univ (G' a b) : sProp 𝕄) := by
  rw [bigSep_sep', bigSep_sep', toks_around]
  iintro ⟨Hinv, Hat, Htok⟩
  ihave Hinv := (show (bigSep Finset.univ fun c : Dev nD => bigSep Finset.univ fun k => iprop(∃ κ : ℕ, cellInv ER (Rd a b) κ (cellAt (c, k))))
      ⊢ iprop(∃ κ : Dev nD × Option K → ℕ, bigSep Finset.univ fun p => cellInv ER (Rd a b) (κ p) (cellAt p)) from by
        rw [← bigSep_univ_prod fun p : Dev nD × Option K => iprop(∃ κ : ℕ, cellInv ER (Rd a b) κ (cellAt p))]
        exact BI.bigSep_exists_pi Finset.univ fun (p : Dev nD × Option K) κ => cellInv ER (Rd a b) κ (cellAt p)) $$ Hinv
  icases Hinv with ⟨%κ, Hinv⟩
  ihave Hat := (show (bigSep Finset.univ fun c : Dev nD => bigSep Finset.univ fun k => iprop(atPos ER (cellAt (c, k)) 0 ∅ 0 ∗ reached ER (cellAt (c, k)) 0))
      ⊢ (iprop((bigSep Finset.univ fun c : Dev nD => bigSep Finset.univ fun k : Option K => atPos ER (cellAt (c, k)) 0 ∅ 0)
        ∗ bigSep Finset.univ fun p : Dev nD × Option K => reached ER (cellAt p) 0) : sProp 𝕄) from by
        rw [bigSep_univ_prod fun p : Dev nD × Option K => (reached ER (cellAt p) 0 : sProp 𝕄), ← bigSep_sep']
        exact bigSep_mono fun c _ => by rw [bigSep_sep']; exact Entails.refl _) $$ Hat
  icases Hat with ⟨Hat, Hr⟩
  ihave #HR := (show iprop((bigSep Finset.univ fun p : Dev nD × Option K => cellInv ER (Rd a b) (κ p) (cellAt p)) ∗ bigSep Finset.univ fun p => reached ER (cellAt p) 0)
      ⊢ recs a b κ from by unfold recs; rw [bigSep_sep']) $$ [Hinv Hr]
  · isplitl [Hinv] <;> iassumption
  iapply (bigSep_with_persistent Finset.univ (recs a b κ) (fun c => linear c) (G' a b) fun c _ => by
    unfold G'
    iintro ⟨H, H'⟩
    iexists κ
    isplitl [H] <;> iassumption)
  isplitr; · iexact HR
  unfold linear
  rw [bigSep_sep']
  isplitl [Hat] <;> iassumption

theorem glob : (bigSep Finset.univ fun c : Dev nD =>
      iprop(Pipeline.ownSems0 (Ix := ℕ) (Name := ℕ) (U := UU) (Lvl := ℕ) (Val := Elt F) (τ := τ) osem c ∗ unscopedSems0 c ∗ G a b c))
    ⊢ (|={Set.univ}=> bigSep Finset.univ (G' a b) : sProp 𝕄) :=
  ((bigSep_mono fun c _ => core_alloc a b c).trans (bigSep_fupd _ _)).trans (BI.fupd_mono (regroup a b))

end Cert.KernelIdeal.AllReduce
-- ==== Proof.KernelIdeal.Credit.lean ====
/-
  What the devices owe one another at the launch, counted by who is owed.

  Every payment goes through a permutation of the devices, so what all devices owe is, device by device, what each one's own
  cells are to receive: sixteen raises of its barrier, and one payment to each of its receive semaphores.
-/
module

public import proofs.«01_k».proof.Proof.KernelIdeal.Ghost

@[expose] public section

set_option maxRecDepth 16384

noncomputable section

namespace Cert.KernelIdeal.AllReduce

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.TalkSites

variable {F : FTy → Type} [FloatOps F]

local notation "𝕄" => MT nD τ sig ℕ (Elt F) ℕ UU ℕ

/-- What strip `s`'s receive cells of device `c` are to receive. -/
def getS (c : Dev nD) (s : Fin 4) : List Py :=
  (kC c (.inl (1, s)), 2, NH) :: (kC c (.inl (3, s)), 8, NH) :: (js.map (fun o => ((kC c (.inr (1, mir o, s)), 3, NB) : Py))
    ++ js.map (fun o => ((kC c (.inr (3, mir o, s)), 4 + s.val, NB) : Py)))
/-- What all of device `c`'s cells are to receive. -/
def gets (c : Dev nD) : List Py := (barC c, 1, 16) :: (getS c 0 ++ (getS c 1 ++ (getS c 2 ++ getS c 3)))

theorem tallyL_cons (x : Py) (l : List Py) : tallyL (x :: l) = x.tally + tallyL l := rfl
theorem tallyL_nil' : tallyL ([] : List Py) = 0 := rfl

/-- A list of payments, one for each of a list without repetition that holds everything, as a sum. -/
theorem tallyL_map {I : Type} [Fintype I] [DecidableEq I] (l : List I) (h : (Finset.univ : Finset I) = l.toFinset) (hn : l.Nodup) (f : I → Py) :
    tallyL (l.map f) = ∑ i, (f i).tally := by
  rw [h, List.sum_toFinset _ hn]
  clear h hn
  induction l with
  | nil => rfl
  | cons i l ih => rw [List.map_cons, tallyL_cons, ih, List.map_cons, List.sum_cons]

/-- Sums over the devices of a family of payments, each through its own permutation. -/
theorem sum_through {I : Type} [Fintype I] (e : I → Dev nD ≃ Dev nD) (T : Dev nD → I → CellTallies nD τ sig ℕ) :
    ∑ d, ∑ i, T (e i d) i = ∑ d, ∑ i, T d i := by
  rw [Finset.sum_comm, Finset.sum_comm (f := fun d i => T d i)]
  exact Finset.sum_congr rfl fun i _ => Equiv.sum_comp (e i) fun d => T d i

theorem tallyAt_nsmul (g : GSem nD τ sig) (i n : ℕ) : n • tallyAt g i 1 = tallyAt g i n := by
  induction n with
  | zero => rw [zero_smul]; exact (tallyAt_zero g i).symm
  | succ n ih => rw [succ_nsmul, ih, tallyAt_add]

theorem sum_bar : ∑ d : Dev nD, tallyL (ks.map (payB d)) = ∑ d : Dev nD, tallyAt (barC d) 1 16 := by
  have h (d : Dev nD) : tallyL (ks.map (payB d)) = ∑ i : Fin 16, tallyAt (barC (peerE i d)) 1 1 := by
    rw [tallyL_map ks ks_univ ks_nodup]
    exact Finset.sum_congr rfl fun i _ => by rw [peerE_apply]; rfl
  rw [Finset.sum_congr rfl fun d _ => h d, sum_through peerE fun d _ => tallyAt (barC d) 1 1]
  refine Finset.sum_congr rfl fun d _ => ?_
  rw [Finset.sum_const, Finset.card_univ, Fintype.card_fin, tallyAt_nsmul]

theorem sum_mir (T : Fin 15 → CellTallies nD τ sig ℕ) : ∑ o, T (mir o) = ∑ o, T o := Equiv.sum_comp mirE T

theorem sum_1 (s : Fin 4) : ∑ d : Dev nD, tallyL (js.map (pay1 d s)) = ∑ d : Dev nD, tallyL (js.map fun o => ((kC d (.inr (1, mir o, s)), 3, NB) : Py)) := by
  simp only [tallyL_map js js_univ js_nodup]
  exact (sum_through (fun o => nxtE (stp o)) fun d o => tallyAt (kC d (.inr (1, o, s))) 3 NB).trans
    (Finset.sum_congr rfl fun d _ => (sum_mir fun o => tallyAt (kC d (.inr (1, o, s))) 3 NB).symm)
theorem sum_2 (s : Fin 4) : ∑ d : Dev nD, tallyL (js.map (pay2 d s)) = ∑ d : Dev nD, tallyL (js.map fun o => ((kC d (.inr (3, mir o, s)), 4 + s.val, NB) : Py)) := by
  simp only [tallyL_map js js_univ js_nodup]
  exact (sum_through (fun o => nxtE (stp o)) fun d o => tallyAt (kC d (.inr (3, o, s))) (4 + s.val) NB).trans
    (Finset.sum_congr rfl fun d _ => (sum_mir fun o => tallyAt (kC d (.inr (3, o, s))) (4 + s.val) NB).symm)
theorem sum_X (s : Fin 4) : ∑ d : Dev nD, (payX d s).tally = ∑ d : Dev nD, Pay.tally ((kC d (.inl (1, s)), 2, NH) : Py) :=
  Equiv.sum_comp xpE fun d => tallyAt (kC d (.inl (1, s))) 2 NH
theorem sum_A (s : Fin 4) : ∑ d : Dev nD, (payA d s).tally = ∑ d : Dev nD, Pay.tally ((kC d (.inl (3, s)), 8, NH) : Py) :=
  Equiv.sum_comp xpE fun d => tallyAt (kC d (.inl (3, s))) 8 NH

/-- All that is owed is all that is to be received. -/
theorem sum_dues : ∑ d : Dev nD, tallyL (dues d) = ∑ d : Dev nD, tallyL (gets d) := by
  have hs (d : Dev nD) : sl.map (payX d) = [payX d 0, payX d 1, payX d 2, payX d 3] := rfl
  simp only [dues, duesE, e1, e2, e3, e4, e5, e6, e7, e8, e9, e10, e11, gets, getS, hs, tallyL_append, tallyL_cons, tallyL_nil',
    Finset.sum_add_distrib, sum_bar, sum_1, sum_2, sum_X, sum_A, add_zero, Finset.sum_const_zero]
  have hb : ∑ d : Dev nD, Pay.tally ((barC d, 1, 16) : Py) = ∑ d : Dev nD, tallyAt (barC d) 1 16 := rfl
  rw [hb]
  abel

/-- The credit strip `s`'s receive cells are dealt. -/
def Crs (c : Dev nD) (s : Fin 4) : sProp 𝕄 :=
  iprop(Cr c (.inl (1, s)) 2 ∗ Cr c (.inl (3, s)) 8 ∗ (bigSepL js fun o => Cr c (.inr (1, mir o, s)) 3) ∗ bigSepL js fun o => Cr c (.inr (3, mir o, s)) (4 + s.val))

omit [FloatOps F] in
theorem cred_getS (c : Dev nD) (s : Fin 4) : (bigSepL (getS c s) fun x => cred x.tally : sProp 𝕄) = Crs c s := by
  unfold getS Crs
  simp only [bigSepL_cons', bigSepL_append, bigSepL_map]
  rfl

/-- What the launch credits device `c` with. -/
theorem launch_credit (c : Dev nD) :
    (Pipeline.launchCred (fun d => tallyL (dues d)) c : sProp 𝕄) = iprop(cred (tallyAt (barC c) 1 16) ∗ bigSepL sl (Crs c)) := by
  rw [Pipeline.launchCred_of_sum (fun d => tallyL (dues d)) (fun d => tallyL (gets d)) sum_dues (fun d g h => ?_) c, cred_tallyL]
  · unfold gets
    simp only [bigSepL_cons', bigSepL_append, cred_getS]
    rfl
  · obtain ⟨k, hk⟩ := DFunLike.ne_iff.mp h
    obtain ⟨x, hx, rfl, -⟩ := tallyL_pos (Nat.pos_of_ne_zero hk)
    have hS (s : Fin 4) (h : x ∈ getS d s) : x.1.1 = (d.tc : Thread nD τ) := by
      rcases List.mem_cons.mp h with rfl | h
      · rfl
      rcases List.mem_cons.mp h with rfl | h
      · rfl
      rcases List.mem_append.mp h with h | h <;> (obtain ⟨o, -, rfl⟩ := List.mem_map.mp h; rfl)
    rcases List.mem_cons.mp hx with rfl | hx
    · rfl
    rcases List.mem_append.mp hx with hx | hx
    · exact hS _ hx
    rcases List.mem_append.mp hx with hx | hx
    · exact hS _ hx
    rcases List.mem_append.mp hx with hx | hx <;> exact hS _ hx

end Cert.KernelIdeal.AllReduce
-- ==== Proof.KernelIdeal.Launch.lean ====
/-
  The kernel's run.

  The launch gives each device what `body_wp` starts from; what `body_wp` ends with closes the device's semaphores at zero. So
  every run of the program ends, with each device's result the exchange's value of what the devices hold, the arguments as
  they were and all semaphores at zero.
-/
module

public import proofs.«01_k».proof.Proof.KernelIdeal.Deal
public import proofs.«01_k».proof.Proof.KernelIdeal.Credit
public import proofs.«01_k».proof.Proof.Gen.KernelIdeal.Frame
public import Idealize.ShloMosaic.Lib.Pipeline.CollectiveSegs

@[expose] public section

set_option maxRecDepth 16384

noncomputable section

namespace Cert.KernelIdeal.AllReduce

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.TalkSites (Pay tallyL tallyL_pos)
open Idealize.ShloMosaic.SiteBlocks (L lv mem_L' mayWait_of)
open Idealize.ShloMosaic.Pipeline (Dat Cfg Window BodyObligation cellOf)

variable {F : FTy → Type} [FloatOps F]

local notation "𝕄" => MT nD τ sig ℕ (Elt F) ℕ UU ℕ

/-! ## Closing the cells -/

section Close
variable (a : Dev nD → Vec F S1024x512 .bf16) (b : Dev nD → Vec F S512x1024 .bf16) (κ : Dev nD × Option K → ℕ) (c : Dev nD)

/-- All of a device's cells past their round close at zero. -/
theorem close_cells :
    iprop(recs a b κ ∗ atPos ER (barC c) 1 ∅ 0 ∗ bigSepL strips (Ends c))
      ⊢ |={Set.univ}=> iprop(unscopedSems0 c ∗ Pipeline.ownSems0 (Ix := ℕ) (Name := ℕ) (U := UU) (Lvl := ℕ) (Val := Elt F) (τ := τ) osem c) := by
  have hE : (bigSepL strips (Ends c) : sProp 𝕄) = bigSep Finset.univ fun k : K => Done c k := (cells_mir fun k => Done c k).symm
  have hP : (iprop(atPos ER (barC c) 1 ∅ 0 ∗ bigSep Finset.univ fun k : K => Done c k) : sProp 𝕄)
      = bigSep Finset.univ fun k : Option K => atPos ER (cellAt (c, k)) 1 ∅ 0 := (bigSep_option fun k => atPos ER (cellAt (c, k)) 1 ∅ 0).symm
  rw [hE, hP]
  have hI : iprop(recs a b κ ∗ bigSep Finset.univ fun k : Option K => atPos ER (cellAt (c, k)) 1 ∅ 0)
      ⊢ (bigSep Finset.univ fun k : Option K => iprop(cellInv ER (Rd a b) (κ (c, k)) (cellAt (c, k)) ∗ atPos ER (cellAt (c, k)) 1 ∅ 0) : sProp 𝕄) :=
    bigSep_with_persistent Finset.univ (recs a b κ) (fun k : Option K => atPos ER (cellAt (c, k)) 1 ∅ 0) _ fun k _ => by
      iintro ⟨Hr, Hp⟩
      ihave H := (recs_at a b κ (c, k)) $$ Hr
      icases H with ⟨Hi, -⟩
      isplitl [Hi]; · iexact Hi
      iexact Hp
  refine (hI.trans (Rounds.cells_close ER (Rd a b) Finset.univ (fun k : Option K => cellAt (c, k)) (fun k => κ (c, k)) (fun _ _ => Set.mem_univ _)
    (fun _ _ h => h) (fun _ => 1) (fun k _ r h => duties_later a b _ r h))).trans (BI.fupd_mono ?_)
  rw [bigSep_option, unscopedSems0_eq]
  exact Entails.refl _

end Close

/-! ## The protocol a device starts with -/

section Begin
variable (c : Dev nD)

theorem strip_cells (S : Strip) :
    iprop(Blk id (fun k => Tok (payer k c) k) S.s ∗ Blk mir (fun k => Pos c k) S.s ∗ Crs c S.s) ⊢ (Cells c S : sProp 𝕄) := by
  unfold Blk Crs
  iintro ⟨⟨Ht0, Ht1, Ht2, Ht3, Hu0, Hu1, Hu2, Hu3⟩, ⟨Hp0, Hp1, Hp2, Hp3, Hq0, Hq1, Hq2, Hq3⟩, Hc1, Hc3, Hd1, Hd3⟩
  isplitl [Ht0 Ht1]
  · isplitl [Ht0]; · iexact Ht0
    iexact Ht1
  isplitl [Ht2 Ht3]
  · isplitl [Ht2]; · iexact Ht2
    iexact Ht3
  isplitl [Hu0 Hu1]
  · iapply (bigSepL_zip js (fun o => Tok c (.inr (0, o, S.s))) (fun o => Tok (nxt (stp o) c) (.inr (1, o, S.s))))
    isplitl [Hu0]; · iexact Hu0
    iexact Hu1
  isplitl [Hu2 Hu3]
  · iapply (bigSepL_zip js (fun o => Tok c (.inr (2, o, S.s))) (fun o => Tok (nxt (stp o) c) (.inr (3, o, S.s))))
    isplitl [Hu2]; · iexact Hu2
    iexact Hu3
  isplitl [Hp0]; · iexact Hp0
  isplitl [Hp1 Hc1]
  · isplitl [Hp1]; · iexact Hp1
    iexact Hc1
  isplitl [Hp2]; · iexact Hp2
  isplitl [Hp3 Hc3]
  · isplitl [Hp3]; · iexact Hp3
    iexact Hc3
  isplitl [Hq0]; · iexact Hq0
  isplitl [Hq1 Hd1]
  · iapply (bigSepL_zip js (fun o => Pos c (.inr (1, mir o, S.s))) (fun o => Cr c (.inr (1, mir o, S.s)) 3))
    isplitl [Hq1]; · iexact Hq1
    iexact Hd1
  isplitl [Hq2]; · iexact Hq2
  iapply (bigSepL_zip js (fun o => Pos c (.inr (3, mir o, S.s))) (fun o => Cr c (.inr (3, mir o, S.s)) (4 + S.s.val)))
  isplitl [Hq3]; · iexact Hq3
  iexact Hd3

/-- The protocol's part of what the body starts with. -/
abbrev Proto : sProp 𝕄 :=
  iprop((bigSepL ks fun i => dutyTok ER (barC (peerB i c)) 0 (-i)) ∗ atPos ER (barC c) 0 ∅ 0 ∗ cred (tallyAt (barC c) 1 16) ∗ bigSepL strips (Cells c))

theorem proto_intro : iprop(linear c ∗ Pipeline.launchCred (fun d => tallyL (dues d)) c) ⊢ (Proto c : sProp 𝕄) := by
  rw [launch_credit]
  unfold linear pays
  rw [bigSep_option, bigSep_univ_eq_bigSepL ks ks_univ ks_nodup, cells_id fun k => Tok (payer k c) k,
    show (bigSep Finset.univ fun k : K => atPos ER (cellAt (c, some k)) 0 ∅ 0 : sProp 𝕄) = bigSepL sl (Blk mir fun k => Pos c k) from cells_mir fun k => Pos c k]
  iintro ⟨⟨⟨Hb, Hp⟩, Ht, Hu⟩, Hc, Hd⟩
  isplitl [Ht]; · iexact Ht
  isplitl [Hb]; · iexact Hb
  isplitl [Hc]; · iexact Hc
  ihave H := (bigSepL_zip sl (Blk mir fun k => Pos c k) (Crs c)) $$ [Hp Hd]
  · isplitl [Hp]; · iexact Hp
    iexact Hd
  ihave H := (bigSepL_zip sl (Blk id fun k => Tok (payer k c) k) (fun s => iprop(Blk mir (fun k => Pos c k) s ∗ Crs c s))) $$ [Hu H]
  · isplitl [Hu]; · iexact Hu
    iexact H
  ihave H := (show (bigSepL sl fun s => iprop(Blk id (fun k => Tok (payer k c) k) s ∗ Blk mir (fun k => Pos c k) s ∗ Crs c s))
    ⊢ (bigSepL strips fun S => iprop(Blk id (fun k => Tok (payer k c) k) S.s ∗ Blk mir (fun k => Pos c k) S.s ∗ Crs c S.s) : sProp 𝕄) from Entails.refl _) $$ H
  iapply (bigSepL_mono fun S _ => strip_cells c S)
  iexact H

end Begin

/-! ## The proof data -/

section Run
variable (m : (ℓ : Loc nD τ sig) → Buf (Elt F) ℓ) (ρ : Dev nD → PrngReg)

/-- The state at the launch. -/
def s₀ : MemSt nD τ sig (Elt F) := ⟨m, fun _ => 0, ρ⟩
/-- What device `d` holds of the left operand: a block of its columns; -/
def aOf (d : Dev nD) : Vec F S1024x512 .bf16 := iblk m d 0 t0_0
/-- and of the right one: a block of its rows. -/
def bOf (d : Dev nD) : Vec F S512x1024 .bf16 := iblk m d 1 t0_0
/-- The value device `c` ends with. -/
def outOf (c : Dev nD) : Vec F S1024x1024 .bf16 := to2 (n := 1024) (k := 1024) (outF (aOf m) (bOf m) c)

/-- The scratch buffers, whole. -/
def Scr (c : Dev nD) : sProp 𝕄 :=
  iprop(regE cc0_scratch0 c ![0, 0] S1024x1024.size ∗ regE cc0_scratch1 c ![0, 0] S512x1024.size ∗ regE cc0_scratch2 c ![0, 0] S512x1024.size
    ∗ regE cc0_scratch3 c ![0, 0] S512x1024.size ∗ regE cc0_scratch4 c ![0, 0] S32x1024.size ∗ regE cc0_scratch5 c ![0, 0] S32x1024.size
    ∗ regE cc0_scratch6 c ![0, 0] S512x1024.size)

omit [FloatOps F] in
theorem scopedRest_Scr (c : Dev nD) :
    (Pipeline.scopedRest (Ix := ℕ) (Name := ℕ) (U := UU) (Lvl := ℕ) (Val := Elt F) spec0 c : sProp 𝕄) = Scr c := by
  rw [scopedRest0_eq]
  unfold Scr regE reg
  rw [show rct (s := cc0_scratch0.ty.shape) ![0, 0] S1024x1024.size = Finset.univ from rct_whole 1024 1024,
    show rct (s := cc0_scratch1.ty.shape) ![0, 0] S512x1024.size = Finset.univ from rct_whole 512 1024,
    show rct (s := cc0_scratch4.ty.shape) ![0, 0] S32x1024.size = Finset.univ from rct_whole 32 1024]

/-- What the launch routes to device `c`. -/
def start (c : Dev nD) : sProp 𝕄 := iprop(∃ κ, recs (aOf m) (bOf m) κ ∗ levAts (L 9) lv ∗ Proto c)
/-- Before the body, and after it. -/
def Φ₀ (c : Dev nD) : sProp 𝕄 := iprop(start m c ∗ Scr c)
def Φ₁ (c : Dev nD) : sProp 𝕄 :=
  iprop((unscopedSems0 c ∗ Pipeline.ownSems0 (Ix := ℕ) (Name := ℕ) (U := UU) (Lvl := ℕ) (Val := Elt F) (τ := τ) osem c) ∗ Scr c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => aOf m c
    | ⟨1, _⟩ => bOf m c
    | ⟨2, _⟩ => outOf m c
  Φ t := match t with
    | ⟨0, _⟩ => Φ₀ m c
    | ⟨_ + 1, _⟩ => Φ₁ c
  q _ := fullShare
  owed t := match t with
    | ⟨0, _⟩ => tallyL (dues c)
    | ⟨_ + 1, _⟩ => 0

theorem before_0 (c : Dev nD) (d) : (dats m ρ 0 c).before (0 : Fin 3) t0_0 d = aOf m c := by
  unfold Dat.before; rw [if_pos (fetch0_0 t0_0)]; rfl
theorem before_1 (c : Dev nD) (d) : (dats m ρ 0 c).before (1 : Fin 3) t0_0 d = bOf m c := by
  unfold Dat.before; rw [if_pos (fetch0_1 t0_0)]; rfl

/-! ## The body's obligation -/

/-- A staging buffer, whole at `X`. -/
abbrev stg (c : Dev nD) (b : Ref sig .tc) (X : Buf (Elt F) ((c : Thread nD τ).loc b)) : sProp 𝕄 :=
  iprop(∃ f : Buf (Elt F) ((c : Thread nD τ).loc b), ⌜f = X⌝ ∗ ((c : Thread nD τ).loc b ↦{fullShare} f))

omit [FloatOps F] in
theorem owns_whole_eq (c : Dev nD) (b : Ref sig .tc) (X : b.ty.shape.Idx → Elt F b.ty.elt) :
    (owns (c : Thread nD τ) (Memref.whole b) fullShare X : sProp 𝕄) = stg c b X := by
  unfold owns; simp only [Memref.view_whole, View.read_whole, View.set_whole]

omit [FloatOps F] in
theorem stg_0 (c : Dev nD) (X : Vec F S1024x512 .bf16) : (stg c cc0_stg0_0 X : sProp 𝕄) ⊢ reg cc0_stg0_0 c fullShare ![0, 0] S1024x512.size X := by
  unfold reg
  rw [show rct (s := cc0_stg0_0.ty.shape) ![0, 0] S1024x512.size = Finset.univ from rct_whole 1024 512]
  iintro ⟨%f, %h, H⟩
  subst h
  iexact H
omit [FloatOps F] in
theorem stg_1 (c : Dev nD) (X : Vec F S512x1024 .bf16) : (stg c cc0_stg1_0 X : sProp 𝕄) ⊢ reg cc0_stg1_0 c fullShare ![0, 0] S512x1024.size X := by
  unfold reg
  rw [show rct (s := cc0_stg1_0.ty.shape) ![0, 0] S512x1024.size = Finset.univ from rct_whole 512 1024]
  iintro ⟨%f, %h, H⟩
  subst h
  iexact H
omit [FloatOps F] in
theorem stg_2 (c : Dev nD) (X : Vec F S1024x1024 .bf16) : (stg c cc0_stg2_0 X : sProp 𝕄) ⊢ regE cc0_stg2_0 c ![0, 0] S1024x1024.size := by
  unfold regE reg
  rw [show rct (s := cc0_stg2_0.ty.shape) ![0, 0] S1024x1024.size = Finset.univ from rct_whole 1024 1024]
  iintro ⟨%f, -, H⟩
  iexists f
  iexact H
omit [FloatOps F] in
theorem stg_0' (c : Dev nD) (X : Vec F S1024x512 .bf16) : (reg cc0_stg0_0 c fullShare ![0, 0] S1024x512.size X : sProp 𝕄) ⊢ stg c cc0_stg0_0 X := by
  unfold reg
  rw [show rct (s := cc0_stg0_0.ty.shape) ![0, 0] S1024x512.size = Finset.univ from rct_whole 1024 512]
  iintro H
  iexists X; isplitr; · (ipureintro; rfl)
  iexact H
omit [FloatOps F] in
theorem stg_1' (c : Dev nD) (X : Vec F S512x1024 .bf16) : (reg cc0_stg1_0 c fullShare ![0, 0] S512x1024.size X : sProp 𝕄) ⊢ stg c cc0_stg1_0 X := by
  unfold reg
  rw [show rct (s := cc0_stg1_0.ty.shape) ![0, 0] S512x1024.size = Finset.univ from rct_whole 512 1024]
  iintro H
  iexists X; isplitr; · (ipureintro; rfl)
  iexact H
omit [FloatOps F] in
theorem stg_2' (c : Dev nD) (X : Vec F S1024x1024 .bf16) : (reg cc0_stg2_0 c fullShare ![0, 0] S1024x1024.size X : sProp 𝕄) ⊢ stg c cc0_stg2_0 X := by
  unfold reg
  rw [show rct (s := cc0_stg2_0.ty.shape) ![0, 0] S1024x1024.size = Finset.univ from rct_whole 1024 1024]
  iintro H
  iexists X; isplitr; · (ipureintro; rfl)
  iexact H

def bodyPre (c : Dev nD) : sProp 𝕄 :=
  iprop(Φ₀ m c ∗ (dats m ρ 0 c).owesAt 0 t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ c ∗ (dats m ρ 0 c).owesAt 0 t0_0.succ ∗ stg c cc0_stg0_0 (aOf m c) ∗ stg c cc0_stg1_0 (bOf m c) ∗ stg c cc0_stg2_0 (outOf m c))

theorem sound_body (c : Dev nD) : bodyPre m ρ c ⊢ WP c body fun _ => bodyPost m ρ c := by
  unfold bodyPre Φ₀ start Scr body
  iintro ⟨⟨⟨%κ, #Hr, #Hlev, Htb, Hatb, Hcb, Hcells⟩, H0, H1, H2, H3, H4, H5, H6⟩, Ho, ⟨%d0, HA⟩, ⟨%d1, HB⟩, ⟨%d2, HC⟩⟩
  rw [before_0, before_1]
  ihave HA := (stg_0 c (aOf m c)) $$ HA
  ihave HB := (stg_1 c (bOf m c)) $$ HB
  ihave HC := (stg_2 c _) $$ HC
  unfold Dat.owesAt Pipeline.owesWithin
  icases Ho with ⟨%W, %hW, HO⟩
  rw [show (dats m ρ 0 c).owed t0_0.castSucc = tallyL (dues c) from rfl]
  unfold WP
  rw [wp_deviceId]
  iapply (wp_fupd frame (wpE (defs₀ (F := F)) 𝒱₀ (c : Thread nD τ) none) Set.univ (bodyOn c) fun _ => bodyPost m ρ c)
  iapply (body_wp (aOf m) (bOf m) κ c fun _ => iprop(|={Set.univ}=> bodyPost m ρ c)) $$ [Htb Hatb Hcb Hcells H0 H1 H2 H3 H4 H5 H6 HA HB HC HO]
  · isplitl [Htb Hatb Hcb Hcells H0 H1 H2 H3 H4 H5 H6 HA HB HC]
    · unfold Start
      isplitl [Htb]; · iexact Htb
      isplitl [Hatb]; · iexact Hatb
      isplitl [Hcb]; · iexact Hcb
      isplitl [Hcells]; · iexact Hcells
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HC]; · iexact HC
      isplitl [HA]; · iexact HA
      iexact HB
    · unfold St
      isplitr; · iexact Hr
      isplitr; · iexact Hlev
      iexists W; iexact HO
  unfold Finish St
  iintro ⟨⟨Hatb, Hends, H0, H1, H2, H3, H4, H5, H6, HC, HA, HB⟩, -, -, ⟨%W', HO⟩⟩
  imod (close_cells (aOf m) (bOf m) κ c) $$ [Hatb Hends] with Hz
  · isplitr; · iexact Hr
    isplitl [Hatb]; · iexact Hatb
    iexact Hends
  imodintro
  unfold bodyPost Φ₁ Scr Dat.owesAt Pipeline.owesWithin
  rw [show (dats m ρ 0 c).owed t0_0.succ = 0 from rfl]
  isplitl [Hz H0 H1 H2 H3 H4 H5 H6]
  · isplitl [Hz]; · iexact Hz
    isplitl [H0]; · iexact H0
    isplitl [H1]; · iexact H1
    isplitl [H2]; · iexact H2
    isplitl [H3]; · iexact H3
    isplitl [H4]; · iexact H4
    isplitl [H5]; · iexact H5
    iexact H6
  isplitl [HO]
  · iexists W'
    isplitr; · ipureintro; exact fun _ _ => Or.inl trivial
    iexact HO
  isplitl [HA]; · (iapply (stg_0' c (aOf m c)); iexact HA)
  isplitl [HB]; · (iapply (stg_1' c (bOf m c)); iexact HB)
  iapply (stg_2' c (outOf m c)); iexact HC

set_option maxRecDepth 65536 in
theorem body_obligation (c : Dev nD) : BodyObligation (dats (F := F) m ρ 0 c) (defs₀ (F := F)) 𝒱₀ 0 Set.univ := fun t => by
  rw [fin_N0 t]
  rw [bigSep_W0, bigSep_W0]
  simp only [owns_whole_eq]
  show bodyPre m ρ c ⊢ WP c (bodyAt0 t0_0) (fun _ => bodyPost m ρ c)
  rw [body_eq]
  exact sound_body m ρ c

/-! ## The launch's side conditions -/

theorem share_eq (c : Dev nD) (w : Fin cfg0.W) : (dats m ρ 0 c).share w = fullShare := by unfold Dat.share; split <;> rfl

theorem dues_up (c : Dev nD) : Up 0 (dues c) := by
  intro x hx
  rcases List.mem_append.mp hx with hx | hx
  · obtain ⟨i, -, rfl⟩ := List.mem_map.mp hx
    exact ⟨rfl, show (0 : ℕ) < 1 by decide, show (1 : ℕ) < 9 by decide⟩
  · obtain ⟨h1, h2, h3⟩ := uX c x hx
    exact ⟨h1, lt_trans Nat.zero_lt_one h2, h3⟩

theorem mayWait_staging (c : Dev nD) (s : SemLoc sig) (D : CellTallies nD τ sig ℕ) (hD : D = tallyL (dues c) ∨ D = 0) :
    (levAts (L 9) lv : sProp 𝕄) ⊢ MayWait (c : Thread nD τ) s 0 D := by
  rcases hD with rfl | rfl
  · refine mayWait_of (by decide) c s _ fun g k hk => ?_
    obtain ⟨x, hx, rfl, rfl⟩ := tallyL_pos hk
    obtain ⟨h1, h2, h3⟩ := dues_up c x hx
    exact ⟨mem_L' h1 h3, h2⟩
  · rw [MayWait_zero]; iintro -; iempintro

theorem waits (c : Dev nD) : (levAts (L 9) lv : sProp 𝕄) ⊢ Pipeline.cellsWaits cfgs (dats m ρ) 0 0 c :=
  Pipeline.cellsWaits_intro cfgs (dats m ρ) 0 0 c fun w s t => mayWait_staging c _ _ (by
    rcases t with ⟨_ | _, ht⟩
    · exact Or.inl rfl
    · exact Or.inr rfl)

theorem start_intro (c : Dev nD) :
    iprop(Pipeline.unscopedRestP Pipeline.Prefetch.none cfg0.spec c (fun b => m ((c : Thread nD τ).loc b)) ∗ levAts (L 9) lv
        ∗ Pipeline.launchCred (fun d => tallyL (dues d)) c ∗ prngReg c (ρ c) ∗ G' (aOf m) (bOf m) c)
      ⊢ |={Set.univ}=> iprop(start m c ∗ emp) := by
  unfold G' start
  iintro ⟨-, Hlev, Hcr, -, ⟨%κ, Hr, Hl⟩⟩
  ihave Hp := (proto_intro c) $$ [Hl Hcr]
  · isplitl [Hl] <;> iassumption
  imodintro
  isplitl
  · iexists κ
    isplitl [Hr]; · iexact Hr
    isplitl [Hlev]; · iexact Hlev
    iexact Hp
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest_Scr]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest_Scr]
  unfold Φ₁
  iintro ⟨⟨Hu, Ho⟩, Hr⟩
  isplitl [Hu]; · iexact Hu
  isplitl [Ho] <;> iassumption

/-! ## The run -/

set_option maxRecDepth 65536 in
/-- Every run from `m` with the semaphores at zero ends, each device's windows' arrays at the proof data's contents and every
    semaphore at zero. -/
theorem run_main : θ_run defs (onTc (τ := τ) (main (F := F))) (s₀ m ρ) (fun r =>
    (∀ c : Dev nD, ∀ w : Fin cfg0.W, r.2.mem ((cfg0.win w).arr.view.loc (c : Thread nD τ)) = (dats m ρ 0 c).arrAt w cfg0.N) ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun c => (main_chain c).trans rfl)
    (hbody := body_obligation m ρ) (hne := block_pos0) (harr := arr_whole0) (hstage := stage_whole0) (hshare := share_eq m ρ)
    (hdistinct := winFacts0.arr_inj)
    (O₀ := fun d => tallyL (dues d)) (howed₀ := fun _ => rfl) (howedN := fun _ => rfl)
    (L := L 9) (lv := lv) (hL := SiteBlocks.hL 9) (hwaits := waits m ρ)
    (G := G (aOf m) (bOf m)) (G' := G' (aOf m) (bOf m)) (u₀ := u₀)
    (hu₀ := by
      unfold u₀
      iintro Hu
      ihave H := (ownU_pair _ _) $$ Hu
      icases H with ⟨HP, HX⟩
      imod (fund_ring (aOf m) (bOf m)) $$ HX with HG
      imodintro
      isplitl [HP] <;> iassumption)
    (hglob := glob (aOf m) (bOf m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Run

end Cert.KernelIdeal.AllReduce
-- ==== Proof.KernelIdeal.Result.lean ====
/-
  What the run leaves in the arrays: the arguments as they were, and in the result the value every device ends with. The
  blocks staged are the whole arrays.
-/
module

public import proofs.«01_k».proof.Proof.KernelIdeal.Launch

@[expose] public section

set_option maxRecDepth 16384

noncomputable section

namespace Cert.KernelIdeal.AllReduce

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ) (ρ : Dev nD → PrngReg)

omit [FloatOps F] in
theorem emb_blk0 (x : S1024x512.Idx) : ((cfg0.win 0).blk t0_0).view.emb x = x := by
  funext a
  refine Fin.ext ?_
  show 0 * S1024x512.size a + 1 * (x a).val = (x a).val
  omega
omit [FloatOps F] in
theorem emb_blk1 (x : S512x1024.Idx) : ((cfg0.win 1).blk t0_0).view.emb x = x := by
  funext a
  refine Fin.ext ?_
  show 0 * S512x1024.size a + 1 * (x a).val = (x a).val
  omega
omit [FloatOps F] in
theorem emb_blk2 (x : S1024x1024.Idx) : ((cfg0.win 2).blk t0_0).view.emb x = x := by
  funext a
  refine Fin.ext ?_
  show 0 * S1024x1024.size a + 1 * (x a).val = (x a).val
  omega

/-- The left block staged is the device's first argument; -/
theorem aOf_eq (d : Dev nD) : aOf m d = m ((d : Thread nD τ).loc main_arg0) :=
  funext fun x => congrArg (m ((d : Thread nD τ).loc main_arg0)) (emb_blk0 x)
/-- the right one its second. -/
theorem bOf_eq (d : Dev nD) : bOf m d = m ((d : Thread nD τ).loc main_arg1) :=
  funext fun x => congrArg (m ((d : Thread nD τ).loc main_arg1)) (emb_blk1 x)

theorem point_eq (t : Fin cfg0.N) : t = t0_0 := by revert t; decide

/-- The result array ends at the device's value. -/
theorem result_eq (c : Dev nD) : (dats m ρ 0 c).arrAt 2 cfg0.N = outOf m c := by
  refine (dats m ρ 0 c).arrAt_eq_of_cover 2 (outOf m c) (fun t _ => ?_) fun i => ⟨t0_0, flush0_2 _, ?_⟩
  · obtain rfl := point_eq t
    exact funext fun x => (congrArg (outOf m c) (emb_blk2 x)).symm
  · have h := ((cfg0.win 2).blk t0_0).view.emb_mem_set i
    rwa [show ((cfg0.win 2).blk t0_0).view.emb i = i from emb_blk2 i] at h

/-- Every run ends with each device's result at its value, the arguments as they were and every counter at zero. -/
theorem run_value : θ_run defs (onTc (τ := τ) (main (F := F))) ⟨m, fun _ => 0, ρ⟩ (fun r =>
    (∀ c : Dev nD, r.2.mem ((c : Thread nD τ).loc main_v1) = outOf m c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  (θ_run defs _ _).mono (fun _ h => ⟨fun c =>
      ⟨(h.1 c 2).trans (result_eq m ρ c), (h.1 c 0).trans ((dats m ρ 0 c).arrAt_in (0 : Fin 3) rfl _),
        (h.1 c 1).trans ((dats m ρ 0 c).arrAt_in (1 : Fin 3) rfl _)⟩, h.2⟩)
    (run_main m ρ)

end Cert.KernelIdeal.AllReduce

end
-- ==== Proof.KernelIdeal.Total.lean ====
/-
  What the exchange computes in exact arithmetic: row by row, the sum over the 32 devices of their partial products; with
  the operands the blocks of two whole matrices, the product of the matrices.
-/
module

public import proofs.«01_k».proof.Proof.KernelIdeal.Result
public import Idealize.ShloMosaic.Lib.MatmulPlain
public import Idealize.ShloMosaic.Lib.StackMember
public import Idealize.ShloMosaic.Lib.Layout

@[expose] public section

set_option maxRecDepth 16384

noncomputable section

namespace Cert.KernelIdeal.AllReduce

open Cert.KernelIdeal Cert.KernelIdeal.Gen
open Idealize.ShloMosaic
open Idealize.ShloMosaic.TcCoe
open scoped BigOperators

variable (a : Dev nD → Vec Ideal S1024x512 .bf16) (b : Dev nD → Vec Ideal S512x1024 .bf16)

/-- Row `i`, column `j` of device `c`'s partial product: a sum over its 512 positions. -/
def dotP (c : Dev nD) (i j : ℕ) : EReal :=
  ∑ k : Fin 512, at2 (n := 1024) (k := 512) (by decide) (by decide) (a c) i k.val * at2 (n := 512) (k := 1024) (by decide) (by decide) (b c) k.val j

theorem constant_zero (x : S512x1024.Idx) : (constant (F := Ideal) S512x1024 .f32 0x00000000#32 : FVec Ideal S512x1024 .f32) x = (0 : EReal) := by
  show Ideal.ofBits .f32 0x00000000#32 = 0
  simp

/-- The product of two blocks, at a row and a column. -/
theorem pay2_apply (v : Vec Ideal S512x1024 .bf16) (w : Vec Ideal S512x512 .bf16) (r : Fin 512) (j : Fin 1024) :
    k0_pay2 v w (ValueIdx.ix2 r j) = ∑ k : Fin 512, (w (ValueIdx.ix2 r k) * v (ValueIdx.ix2 k j) : EReal) := by
  have e : k0_pay2 v w (ValueIdx.ix2 r j)
      = FloatOps.matmul (φ₁ := .bf16) (φ₂ := .bf16) (DotDims.plain 512 512 1024) none w v (constant (F := Ideal) S512x1024 .f32 0x00000000#32) (ValueIdx.ix2 r j) := by
    unfold k0_pay2 k0_pay1
    simp only [shapeCast_self]
    rfl
  rw [e, Ideal.matmul_plain_apply, constant_zero, zero_add]

theorem part_eq (c : Dev nD) {i j : ℕ} (hi : i < 1024) (hj : j < 1024) : partF (F := Ideal) a b c i j = dotP a b c i j := by
  have hr : i % 512 < 512 := Nat.mod_lt _ (by decide)
  have e : (ix2 (n := 512) (k := 1024) (by decide) (by decide) (i % 512) j : S512x1024.Idx) = ValueIdx.ix2 ⟨i % 512, hr⟩ ⟨j, hj⟩ := by
    have := ix2_self (n := 512) (k := 1024) (by decide) (by decide) (ValueIdx.ix2 ⟨i % 512, hr⟩ ⟨j, hj⟩)
    exact this
  unfold partF at2 prodV
  rw [e, pay2_apply]
  unfold dotP
  refine Finset.sum_congr rfl fun k _ => ?_
  congr 1
  · show at2 (n := 1024) (k := 512) (by decide) (by decide) (a c) (512 * (i / 512) + i % 512) k.val = _
    rw [Nat.div_add_mod]
  · refine congrArg (b c) ?_
    have := ix2_self (n := 512) (k := 1024) (by decide) (by decide) (ValueIdx.ix2 k ⟨j, hj⟩)
    exact this.symm

theorem row_lt (g : Fin 16) {i : ℕ} (hi : i < 32) : row g + i < 512 := by unfold row; omega
theorem my_lt (c : Dev nD) {i : ℕ} (hi : i < 512) : my c + i < 1024 := by unfold my; omega

/-- A device and its partner across are the two devices of its place. -/
theorem sum_across (f : Dev nD → EReal) (c : Dev nD) : f c + f (xp c) = ∑ x : Fin 2, f (devAt x (gOf c)) := by
  rw [Fin.sum_univ_two]
  unfold xp
  have h : xOf c = 0 ∨ xOf c = 1 := by generalize xOf c = x; revert x; decide
  conv_lhs => rw [← devAt_of c]
  simp only [xOf_devAt, gOf_devAt]
  rcases h with h | h <;> rw [h]
  · rfl
  · exact add_comm _ _

/-- The half a device keeps, summed over the two planes. -/
theorem hb_eq (c : Dev nD) {i j : ℕ} (hi : i < 512) (hj : j < 1024) :
    hbF (F := Ideal) a b c i j = ∑ x : Fin 2, dotP a b (devAt x (gOf c)) (my c + i) j := by
  have h1 := my_lt c hi
  have e : hbF (F := Ideal) a b c i j = (partF (F := Ideal) a b c (my c + i) j + partF (F := Ideal) a b (xp c) (my c + i) j : EReal) := rfl
  rw [e, part_eq a b c h1 hj, part_eq a b (xp c) h1 hj]
  exact sum_across (fun d => dotP a b d (my c + i) j) c

/-- The running sum after `n` partners of the plane. -/
theorem acc_eq (c : Dev nD) (n : ℕ) {i j : ℕ} (hi : i < 32) :
    accF (F := Ideal) a b c n i j = ∑ o ∈ Finset.range (n + 1), (hbF (F := Ideal) a b (devAt (xOf c) (gOf c + plc o)) (row (gOf c) + i) j : EReal) := by
  induction n with
  | zero =>
    rw [Finset.sum_range_one, show plc 0 = 0 from rfl, fin16_zero, devAt_of]
    rfl
  | succ n ih =>
    rw [Finset.sum_range_succ, ← ih]
    have e : accF (F := Ideal) a b c (n + 1) i j
        = (accF (F := Ideal) a b c n i j + yzF (F := Ideal) a b c (row (gOf c + plc (n + 1)) + i) j : EReal) := rfl
    rw [e]
    unfold yzF
    rw [plc_row _ hi, row_mod _ hi]

/-- Finished rows: the sum over every device. -/
theorem red_eq (c : Dev nD) {i j : ℕ} (hi : i < 32) (hj : j < 1024) :
    redF (F := Ideal) a b c i j = ∑ g : Fin 16, ∑ x : Fin 2, dotP a b (devAt x g) (my c + (row (gOf c) + i)) j := by
  have e : redF (F := Ideal) a b c i j = accF (F := Ideal) a b c 15 i j := rfl
  rw [e, acc_eq a b c 15 hi, Finset.sum_range]
  have step : ∀ g : Fin 16, (hbF (F := Ideal) a b (devAt (xOf c) (gOf c + plc g.val)) (row (gOf c) + i) j : EReal)
      = (fun g' => ∑ x : Fin 2, dotP a b (devAt x g') (my c + (row (gOf c) + i)) j) (gOf c + g) := fun g => by
    rw [plc_val, hb_eq a b _ (row_lt _ hi) hj, gOf_devAt]
    unfold my
    rw [xOf_devAt]
  rw [Finset.sum_congr rfl fun g _ => step g]
  exact Equiv.sum_comp (Equiv.addLeft (gOf c)) (fun g' => ∑ x : Fin 2, dotP a b (devAt x g') (my c + (row (gOf c) + i)) j)

/-- A device is a plane and a place. -/
def devEquiv : Fin 16 × Fin 2 ≃ Dev nD where
  toFun p := devAt p.2 p.1
  invFun d := (gOf d, xOf d)
  left_inv p := Prod.ext (gOf_devAt _ _) (xOf_devAt _ _)
  right_inv d := devAt_of d

/-- The result on every device: the sum of all 32 partial products. -/
theorem out_eq (c : Dev nD) {i j : ℕ} (hi : i < 1024) (hj : j < 1024) :
    outF (F := Ideal) a b c i j = ∑ d : Dev nD, dotP a b d i j := by
  unfold outF halfF
  rw [red_eq a b _ (Nat.mod_lt _ (by decide)) hj, xOf_devAt]
  have er : my (devAt (pln (i / 512)) (plc (i % 512 / 32)))
      + (row (gOf (devAt (pln (i / 512)) (plc (i % 512 / 32)))) + i % 512 % 32) = i := by
    unfold my row
    rw [xOf_devAt, gOf_devAt]
    show 512 * (i / 512 % 2) + (32 * (i % 512 / 32 % 16) + i % 512 % 32) = i
    omega
  rw [er, ← Equiv.sum_comp devEquiv (fun d => dotP a b d i j), Fintype.sum_prod_type]
  rfl

/-- With the operands the blocks of two matrices, the sum of the partial products is the product of the matrices. -/
theorem total_eq (A : (⟨2, ![1024, 16384]⟩ : Shape).Idx → EReal) (B : (⟨2, ![16384, 1024]⟩ : Shape).Idx → EReal)
    (ha : ∀ c : Dev nD, a c = Layout.block ⟨2, ![1024, 512]⟩ ⟨2, ![1024, 16384]⟩ 1 32 c A)
    (hb : ∀ c : Dev nD, b c = Layout.block ⟨2, ![512, 1024]⟩ ⟨2, ![16384, 1024]⟩ 0 32 c B)
    (c : Dev nD) (i j : Fin 1024) :
    outF (F := Ideal) a b c i.val j.val = ∑ k : Fin 16384, A (ValueIdx.ix2 i k) * B (ValueIdx.ix2 k j) := by
  rw [out_eq a b c i.isLt j.isLt, ← Equiv.sum_comp (finProdFinEquiv (m := 32) (n := 512)), Fintype.sum_prod_type]
  refine Finset.sum_congr rfl fun d _ => ?_
  unfold dotP
  refine Finset.sum_congr rfl fun k _ => ?_
  rw [ha d, hb d]
  congr 1
  · refine congrArg A (funext fun x => Fin.ext ?_)
    match x with
    | ⟨0, _⟩ => exact Nat.mod_eq_of_lt i.isLt
    | ⟨1, _⟩ =>
      show d.val * 512 + k.val % 512 = k.val + 512 * d.val
      have := k.isLt; omega
  · refine congrArg B (funext fun x => Fin.ext ?_)
    match x with
    | ⟨0, _⟩ =>
      show d.val * 512 + k.val % 512 = k.val + 512 * d.val
      have := k.isLt; omega
    | ⟨1, _⟩ => exact Nat.mod_eq_of_lt j.isLt

/-- Hence every device's result array. -/
theorem outOf_eq (m : (ℓ : Loc nD τ sig) → Buf (Elt Ideal) ℓ)
    (A : (⟨2, ![1024, 16384]⟩ : Shape).Idx → EReal) (B : (⟨2, ![16384, 1024]⟩ : Shape).Idx → EReal)
    (ha : ∀ c : Dev nD, m ((c : Thread nD τ).loc main_arg0) = Layout.block ⟨2, ![1024, 512]⟩ ⟨2, ![1024, 16384]⟩ 1 32 c A)
    (hb : ∀ c : Dev nD, m ((c : Thread nD τ).loc main_arg1) = Layout.block ⟨2, ![512, 1024]⟩ ⟨2, ![16384, 1024]⟩ 0 32 c B)
    (c : Dev nD) (p : S1024x1024.Idx) :
    outOf (F := Ideal) m c p = ∑ k : Fin 16384, A (ValueIdx.ix2 (p 0) k) * B (ValueIdx.ix2 k (p 1)) :=
  total_eq (aOf m) (bOf m) A B (fun d => (aOf_eq m d).trans (ha d)) (fun d => (bOf_eq m d).trans (hb d)) c (p 0) (p 1)

end Cert.KernelIdeal.AllReduce

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Result
public import proofs.«01_k».proof.Proof.KernelIdeal.Total
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel over bit patterns runs, leaves its arguments and ends with every counter at zero. -/
theorem frame_kernel : Cert.quiescent_Kernel := fun m g _ =>
  (θ_run _ _ _).mono (fun _ h => ⟨fun c => (h.1 c).2, h.2⟩) (Cert.Kernel.AllReduce.run_value m g)

/-- So does the kernel over exact values. -/
theorem frame_kernel_ideal : Cert.quiescent_KernelIdeal := fun m g _ =>
  (θ_run _ _ _).mono (fun _ h => ⟨fun c => (h.1 c).2, h.2⟩) (Cert.KernelIdeal.AllReduce.run_value m g)

/-- So does the reference over exact values: it has no counters. -/
theorem frame_reference_ideal : Cert.quiescent_ReferenceIdeal := fun m g _ =>
  (θ_run _ _ _).mono (fun _ h => ⟨fun c => (h c).2, sem_eq_zero_of_no_sems (by decide) _⟩) (Cert.ReferenceIdeal.Value.run m g)

/-- The product of the whole matrices. -/
def product (A : (⟨2, ![1024, 16384]⟩ : Shape).Idx → EReal) (B : (⟨2, ![16384, 1024]⟩ : Shape).Idx → EReal) :
    (⟨2, ![1024, 1024]⟩ : Shape).Idx → EReal :=
  fun p => ∑ k : Fin 16384, A (ValueIdx.ix2 (p 0) k) * B (ValueIdx.ix2 k (p 1))

/-- The reference's result is that product. -/
theorem reference_eq (A : FVec Ideal Cert.ReferenceIdeal.S1024x16384 .bf16) (B : FVec Ideal Cert.ReferenceIdeal.S16384x1024 .bf16) :
    truncf (F := Ideal) .bf16 (Host.dotGeneral Cert.ReferenceIdeal.dot_S1024x16384_S16384x1024_S1024x1024_1_0_0_1_n_n none
      (extf .f32 A (by decide)) (extf .f32 B (by decide))) (by decide)
      = product A B := by
  funext p
  rw [ValueIdx.eq_ix2 p]
  exact StackMember.dotGeneral_plain_apply (m := 1024) (n := 1024) (k := 16384) (φ₁ := .f32) (φ₂ := .f32) none A B (p 0) (p 1)

/-- Both runs end at the same product. -/
theorem values_agree : Cert.algebraic_KernelIdeal_ReferenceIdeal := fun m g m' g' _ hm =>
  ⟨product _ _,
    (θ_run _ _ _).mono (fun _ h c => ⟨(h.1 c).1.trans (funext fun p =>
        Cert.KernelIdeal.AllReduce.outOf_eq m _ _ (fun d => (hm d).1) (fun d => (hm d).2) c p), (h.1 c).2⟩)
      (Cert.KernelIdeal.AllReduce.run_value m g),
    (θ_run _ _ _).mono (fun _ h => ⟨(h 0).1.trans (reference_eq _ _), (h 0).2⟩) (Cert.ReferenceIdeal.Value.run m' g')⟩

theorem claim : Cert.Claim := ⟨Cert.Kernel.Gen.facts, Cert.KernelIdeal.Gen.facts, Cert.ReferenceIdeal.Gen.facts,
  frame_kernel, frame_kernel_ideal, frame_reference_ideal, trivial, values_agree⟩

end Cert.Proof

end
